-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInIdeal_norm_in_finite [hPre_norm_in_finite : Cert.Pre_norm_in_finite.Facts] (m : (ℓ : Loc Cert.NormInIdeal.nD Cert.NormInIdeal.τ Cert.NormInIdeal.sig) → Buf (Elt Ideal) ℓ) : Prop :=
  ∀ c : Dev Cert.NormInIdeal.nD,
    (Cert.Pre_norm_in_finite.fn (F := Ideal) (m ((c.tc : Thread Cert.NormInIdeal.nD Cert.NormInIdeal.τ).loc Cert.NormInIdeal.main_arg0)) (m ((c.tc : Thread Cert.NormInIdeal.nD Cert.NormInIdeal.τ).loc Cert.NormInIdeal.main_arg1)) (m ((c.tc : Thread Cert.NormInIdeal.nD Cert.NormInIdeal.τ).loc Cert.NormInIdeal.main_arg2)) (m ((c.tc : Thread Cert.NormInIdeal.nD Cert.NormInIdeal.τ).loc Cert.NormInIdeal.main_arg3)) (m ((c.tc : Thread Cert.NormInIdeal.nD Cert.NormInIdeal.τ).loc Cert.NormInIdeal.main_arg4))) = (fun _ => 1#1)

def Pre_NormInReferenceIdeal (m : (ℓ : Loc Cert.NormInReferenceIdeal.nD Cert.NormInReferenceIdeal.τ Cert.NormInReferenceIdeal.sig) → Buf (Elt Ideal) ℓ) : Prop :=
  True

def Pre_NormInReferenceIdeal_norm_in_finite [hPre_norm_in_finite : Cert.Pre_norm_in_finite.Facts] (m : (ℓ : Loc Cert.NormInReferenceIdeal.nD Cert.NormInReferenceIdeal.τ Cert.NormInReferenceIdeal.sig) → Buf (Elt Ideal) ℓ) : Prop :=
  ∀ c : Dev Cert.NormInReferenceIdeal.nD,
    (Cert.Pre_norm_in_finite.fn (F := Ideal) (m ((c.tc : Thread Cert.NormInReferenceIdeal.nD Cert.NormInReferenceIdeal.τ).loc Cert.NormInReferenceIdeal.main_arg0)) (m ((c.tc : Thread Cert.NormInReferenceIdeal.nD Cert.NormInReferenceIdeal.τ).loc Cert.NormInReferenceIdeal.main_arg1)) (m ((c.tc : Thread Cert.NormInReferenceIdeal.nD Cert.NormInReferenceIdeal.τ).loc Cert.NormInReferenceIdeal.main_arg2)) (m ((c.tc : Thread Cert.NormInReferenceIdeal.nD Cert.NormInReferenceIdeal.τ).loc Cert.NormInReferenceIdeal.main_arg3)) (m ((c.tc : Thread Cert.NormInReferenceIdeal.nD Cert.NormInReferenceIdeal.τ).loc Cert.NormInReferenceIdeal.main_arg4))) = (fun _ => 1#1)

def Pre_NormGu (m : (ℓ : Loc Cert.NormGu.nD Cert.NormGu.τ Cert.NormGu.sig) → Buf (Elt Bits) ℓ) : Prop :=
  True

def Pre_NormGuIdeal (m : (ℓ : Loc Cert.NormGuIdeal.nD Cert.NormGuIdeal.τ Cert.NormGuIdeal.sig) → Buf (Elt Ideal) ℓ) : Prop :=
  True

def Pre_NormGuIdeal_norm_gu_finite [hPre_norm_gu_finite : Cert.Pre_norm_gu_finite.Facts] (m : (ℓ : Loc Cert.NormGuIdeal.nD Cert.NormGuIdeal.τ Cert.NormGuIdeal.sig) → Buf (Elt Ideal) ℓ) : Prop :=
  ∀ c : Dev Cert.NormGuIdeal.nD,
    (Cert.Pre_norm_gu_finite.fn (F := Ideal) (m ((c.tc : Thread Cert.NormGuIdeal.nD Cert.NormGuIdeal.τ).loc Cert.NormGuIdeal.main_arg0)) (m ((c.tc : Thread Cert.NormGuIdeal.nD Cert.NormGuIdeal.τ).loc Cert.NormGuIdeal.main_arg1)) (m ((c.tc : Thread Cert.NormGuIdeal.nD Cert.NormGuIdeal.τ).loc Cert.NormGuIdeal.main_arg2)) (m ((c.tc : Thread Cert.NormGuIdeal.nD Cert.NormGuIdeal.τ).loc Cert.NormGuIdeal.main_arg3)) (m ((c.tc : Thread Cert.NormGuIdeal.nD Cert.NormGuIdeal.τ).loc Cert.NormGuIdeal.main_arg4))) = (fun _ => 1#1)

def Pre_NormGuReferenceIdeal (m : (ℓ : Loc Cert.NormGuReferenceIdeal.nD Cert.NormGuReferenceIdeal.τ Cert.NormGuReferenceIdeal.sig) → Buf (Elt Ideal) ℓ) : Prop :=
  True

def Pre_NormGuReferenceIdeal_norm_gu_finite [hPre_norm_gu_finite : Cert.Pre_norm_gu_finite.Facts] (m : (ℓ : Loc Cert.NormGuReferenceIdeal.nD Cert.NormGuReferenceIdeal.τ Cert.NormGuReferenceIdeal.sig) → Buf (Elt Ideal) ℓ) : Prop :=
  ∀ c : Dev Cert.NormGuReferenceIdeal.nD,
    (Cert.Pre_norm_gu_finite.fn (F := Ideal) (m ((c.tc : Thread Cert.NormGuReferenceIdeal.nD Cert.NormGuReferenceIdeal.τ).loc Cert.NormGuReferenceIdeal.main_arg0)) (m ((c.tc : Thread Cert.NormGuReferenceIdeal.nD Cert.NormGuReferenceIdeal.τ).loc Cert.NormGuReferenceIdeal.main_arg1)) (m ((c.tc : Thread Cert.NormGuReferenceIdeal.nD Cert.NormGuReferenceIdeal.τ).loc Cert.NormGuReferenceIdeal.main_arg2)) (m ((c.tc : Thread Cert.NormGuReferenceIdeal.nD Cert.NormGuReferenceIdeal.τ).loc Cert.NormGuReferenceIdeal.main_arg3)) (m ((c.tc : Thread Cert.NormGuReferenceIdeal.nD Cert.NormGuReferenceIdeal.τ).loc Cert.NormGuReferenceIdeal.main_arg4))) = (fun _ => 1#1)

def Pre_WIn (m : (ℓ : Loc Cert.WIn.nD Cert.WIn.τ Cert.WIn.sig) → Buf (Elt Bits) ℓ) : Prop :=
  True

def Pre_WInIdeal (m : (ℓ : Loc Cert.WInIdeal.nD Cert.WInIdeal.τ Cert.WInIdeal.sig) → Buf (Elt Ideal) ℓ) : Prop :=
  True

def Pre_WInReferenceIdeal (m : (ℓ : Loc Cert.WInReferenceIdeal.nD Cert.WInReferenceIdeal.τ Cert.WInReferenceIdeal.sig) → Buf (Elt Ideal) ℓ) : Prop :=
  True

def Pre_WGu (m : (ℓ : Loc Cert.WGu.nD Cert.WGu.τ Cert.WGu.sig) → Buf (Elt Bits) ℓ) : Prop :=
  True

def Pre_WGuIdeal (m : (ℓ : Loc Cert.WGuIdeal.nD Cert.WGuIdeal.τ Cert.WGuIdeal.sig) → Buf (Elt Ideal) ℓ) : Prop :=
  True

def Pre_WGuReferenceIdeal (m : (ℓ : Loc Cert.WGuReferenceIdeal.nD Cert.WGuReferenceIdeal.τ Cert.WGuReferenceIdeal.sig) → Buf (Elt Ideal) ℓ) : Prop :=
  True

def Pre_WDown (m : (ℓ : Loc Cert.WDown.nD Cert.WDown.τ Cert.WDown.sig) → Buf (Elt Bits) ℓ) : Prop :=
  True

def Pre_WDownIdeal (m : (ℓ : Loc Cert.WDownIdeal.nD Cert.WDownIdeal.τ Cert.WDownIdeal.sig) → Buf (Elt Ideal) ℓ) : Prop :=
  True

def Pre_WDownReferenceIdeal (m : (ℓ : Loc Cert.WDownReferenceIdeal.nD Cert.WDownReferenceIdeal.τ Cert.WDownReferenceIdeal.sig) → Buf (Elt Ideal) ℓ) : Prop :=
  True

def Pre_Hid (m : (ℓ : Loc Cert.Hid.nD Cert.Hid.τ Cert.Hid.sig) → Buf (Elt Bits) ℓ) : Prop :=
  True

def Pre_HidIdeal (m : (ℓ : Loc Cert.HidIdeal.nD Cert.HidIdeal.τ Cert.HidIdeal.sig) → Buf (Elt Ideal) ℓ) : Prop :=
  True

def Pre_HidReferenceIdeal (m : (ℓ : Loc Cert.HidReferenceIdeal.nD Cert.HidReferenceIdeal.τ Cert.HidReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Gu (m : (ℓ : Loc Cert.Gu.nD Cert.Gu.τ Cert.Gu.sig) → Buf (Elt Bits) ℓ) : Prop :=
  True

def Pre_GuIdeal (m : (ℓ : Loc Cert.GuIdeal.nD Cert.GuIdeal.τ Cert.GuIdeal.sig) → Buf (Elt Ideal) ℓ) : Prop :=
  True

def Pre_GuReferenceIdeal (m : (ℓ : Loc Cert.GuReferenceIdeal.nD Cert.GuReferenceIdeal.τ Cert.GuReferenceIdeal.sig) → Buf (Elt Ideal) ℓ) : Prop :=
  True

def Pre_Ya (m : (ℓ : Loc Cert.Ya.nD Cert.Ya.τ Cert.Ya.sig) → Buf (Elt Bits) ℓ) : Prop :=
  True

def Pre_YaIdeal (m : (ℓ : Loc Cert.YaIdeal.nD Cert.YaIdeal.τ Cert.YaIdeal.sig) → Buf (Elt Ideal) ℓ) : Prop :=
  True

def Pre_YaReferenceIdeal (m : (ℓ : Loc Cert.YaReferenceIdeal.nD Cert.YaReferenceIdeal.τ Cert.YaReferenceIdeal.sig) → Buf (Elt Ideal) ℓ) : Prop :=
  True

def Pre_Dmix (m : (ℓ : Loc Cert.Dmix.nD Cert.Dmix.τ Cert.Dmix.sig) → Buf (Elt Bits) ℓ) : Prop :=
  True

def Pre_DmixIdeal (m : (ℓ : Loc Cert.DmixIdeal.nD Cert.DmixIdeal.τ Cert.DmixIdeal.sig) → Buf (Elt Ideal) ℓ) : Prop :=
  True

def Pre_DmixReferenceIdeal (m : (ℓ : Loc Cert.DmixReferenceIdeal.nD Cert.DmixReferenceIdeal.τ Cert.DmixReferenceIdeal.sig) → Buf (Elt Ideal) ℓ) : Prop :=
  True

def Pre_Wo (m : (ℓ : Loc Cert.Wo.nD Cert.Wo.τ Cert.Wo.sig) → Buf (Elt Bits) ℓ) : Prop :=
  True

def Pre_WoIdeal (m : (ℓ : Loc Cert.WoIdeal.nD Cert.WoIdeal.τ Cert.WoIdeal.sig) → Buf (Elt Ideal) ℓ) : Prop :=
  True

def Pre_WoReferenceIdeal (m : (ℓ : Loc Cert.WoReferenceIdeal.nD Cert.WoReferenceIdeal.τ Cert.WoReferenceIdeal.sig) → Buf (Elt Ideal) ℓ) : Prop :=
  True

def Pre_SumDev (m : (ℓ : Loc Cert.SumDev.nD Cert.SumDev.τ Cert.SumDev.sig) → Buf (Elt Bits) ℓ) : Prop :=
  True

def Pre_SumDevIdeal (m : (ℓ : Loc Cert.SumDevIdeal.nD Cert.SumDevIdeal.τ Cert.SumDevIdeal.sig) → Buf (Elt Ideal) ℓ) : Prop :=
  True

def Pre_SumDevReferenceIdeal (m : (ℓ : Loc Cert.SumDevReferenceIdeal.nD Cert.SumDevReferenceIdeal.τ Cert.SumDevReferenceIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormReferenceIdeal (m : (ℓ : Loc Cert.AdamNormReferenceIdeal.nD Cert.AdamNormReferenceIdeal.τ Cert.AdamNormReferenceIdeal.sig) → Buf (Elt Ideal) ℓ) : Prop :=
  True

def Pre_AdamFgB (m : (ℓ : Loc Cert.AdamFgB.nD Cert.AdamFgB.τ Cert.AdamFgB.sig) → Buf (Elt Bits) ℓ) : Prop :=
  True

def Pre_AdamFgBIdeal (m : (ℓ : Loc Cert.AdamFgBIdeal.nD Cert.AdamFgBIdeal.τ Cert.AdamFgBIdeal.sig) → Buf (Elt Ideal) ℓ) : Prop :=
  True

def Pre_AdamFgBReferenceIdeal (m : (ℓ : Loc Cert.AdamFgBReferenceIdeal.nD Cert.AdamFgBReferenceIdeal.τ Cert.AdamFgBReferenceIdeal.sig) → Buf (Elt Ideal) ℓ) : Prop :=
  True

def Pre_AdamGla (m : (ℓ : Loc Cert.AdamGla.nD Cert.AdamGla.τ Cert.AdamGla.sig) → Buf (Elt Bits) ℓ) : Prop :=
  True

def Pre_AdamGlaIdeal (m : (ℓ : Loc Cert.AdamGlaIdeal.nD Cert.AdamGlaIdeal.τ Cert.AdamGlaIdeal.sig) → Buf (Elt Ideal) ℓ) : Prop :=
  True

def Pre_AdamGlaReferenceIdeal (m : (ℓ : Loc Cert.AdamGlaReferenceIdeal.nD Cert.AdamGlaReferenceIdeal.τ Cert.AdamGlaReferenceIdeal.sig) → Buf (Elt Ideal) ℓ) : Prop :=
  True

def Pre_AdamFinal (m : (ℓ : Loc Cert.AdamFinal.nD Cert.AdamFinal.τ Cert.AdamFinal.sig) → Buf (Elt Bits) ℓ) : Prop :=
  True

def Pre_AdamFinalIdeal (m : (ℓ : Loc Cert.AdamFinalIdeal.nD Cert.AdamFinalIdeal.τ Cert.AdamFinalIdeal.sig) → Buf (Elt Ideal) ℓ) : Prop :=
  True

def Pre_AdamFinalReferenceIdeal (m : (ℓ : Loc Cert.AdamFinalReferenceIdeal.nD Cert.AdamFinalReferenceIdeal.τ Cert.AdamFinalReferenceIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareReferenceIdeal (m : (ℓ : Loc Cert.AdamSquareReferenceIdeal.nD Cert.AdamSquareReferenceIdeal.τ Cert.AdamSquareReferenceIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_AdamFg (m : (ℓ : Loc Cert.AdamFg.nD Cert.AdamFg.τ Cert.AdamFg.sig) → Buf (Elt Bits) ℓ) : Prop :=
  True

def Pre_AdamFgIdeal (m : (ℓ : Loc Cert.AdamFgIdeal.nD Cert.AdamFgIdeal.τ Cert.AdamFgIdeal.sig) → Buf (Elt Ideal) ℓ) : Prop :=
  True

def Pre_AdamFgReferenceIdeal (m : (ℓ : Loc Cert.AdamFgReferenceIdeal.nD Cert.AdamFgReferenceIdeal.τ Cert.AdamFgReferenceIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvReferenceIdeal (m : (ℓ : Loc Cert.AdamConvReferenceIdeal.nD Cert.AdamConvReferenceIdeal.τ Cert.AdamConvReferenceIdeal.sig) → Buf (Elt Ideal) ℓ) : Prop :=
  True

def Pre_ChipSum [hPre_chip_in_range : Cert.Pre_chip_in_range.Facts] (m : (ℓ : Loc Cert.ChipSum.nD Cert.ChipSum.τ Cert.ChipSum.sig) → Buf (Elt Bits) ℓ) : Prop :=
  ∀ c : Dev Cert.ChipSum.nD,
    (Cert.Pre_chip_in_range.fn (F := Bits) (m ((c.tc : Thread Cert.ChipSum.nD Cert.ChipSum.τ).loc Cert.ChipSum.main_arg0)) (m ((c.tc : Thread Cert.ChipSum.nD Cert.ChipSum.τ).loc Cert.ChipSum.main_arg1)) (m ((c.tc : Thread Cert.ChipSum.nD Cert.ChipSum.τ).loc Cert.ChipSum.main_arg2))) = (fun _ => 1#1)

def Pre_ChipSumIdeal [hPre_chip_in_range : Cert.Pre_chip_in_range.Facts] (m : (ℓ : Loc Cert.ChipSumIdeal.nD Cert.ChipSumIdeal.τ Cert.ChipSumIdeal.sig) → Buf (Elt Ideal) ℓ) : Prop :=
  ∀ c : Dev Cert.ChipSumIdeal.nD,
    (Cert.Pre_chip_in_range.fn (F := Ideal) (m ((c.tc : Thread Cert.ChipSumIdeal.nD Cert.ChipSumIdeal.τ).loc Cert.ChipSumIdeal.main_arg0)) (m ((c.tc : Thread Cert.ChipSumIdeal.nD Cert.ChipSumIdeal.τ).loc Cert.ChipSumIdeal.main_arg1)) (m ((c.tc : Thread Cert.ChipSumIdeal.nD Cert.ChipSumIdeal.τ).loc Cert.ChipSumIdeal.main_arg2))) = (fun _ => 1#1)

def Pre_ChipSumReferenceIdeal (m : (ℓ : Loc Cert.ChipSumReferenceIdeal.nD Cert.ChipSumReferenceIdeal.τ Cert.ChipSumReferenceIdeal.sig) → Buf (Elt Ideal) ℓ) : Prop :=
  True

def Pre_ChipSumReferenceIdeal_chip_in_range [hPre_chip_in_range : Cert.Pre_chip_in_range.Facts] (m : (ℓ : Loc Cert.ChipSumReferenceIdeal.nD Cert.ChipSumReferenceIdeal.τ Cert.ChipSumReferenceIdeal.sig) → Buf (Elt Ideal) ℓ) : Prop :=
  ∀ c : Dev Cert.ChipSumReferenceIdeal.nD,
    (Cert.Pre_chip_in_range.fn (F := Ideal) (m ((c.tc : Thread Cert.ChipSumReferenceIdeal.nD Cert.ChipSumReferenceIdeal.τ).loc Cert.ChipSumReferenceIdeal.main_arg0)) (m ((c.tc : Thread Cert.ChipSumReferenceIdeal.nD Cert.ChipSumReferenceIdeal.τ).loc Cert.ChipSumReferenceIdeal.main_arg1)) (m ((c.tc : Thread Cert.ChipSumReferenceIdeal.nD Cert.ChipSumReferenceIdeal.τ).loc Cert.ChipSumReferenceIdeal.main_arg2))) = (fun _ => 1#1)

def Pre_FinalGu [hPre_final_gu_in_range : Cert.Pre_final_gu_in_range.Facts] (m : (ℓ : Loc Cert.FinalGu.nD Cert.FinalGu.τ Cert.FinalGu.sig) → Buf (Elt Bits) ℓ) : Prop :=
  ∀ c : Dev Cert.FinalGu.nD,
    (Cert.Pre_final_gu_in_range.fn (F := Bits) (m ((c.tc : Thread Cert.FinalGu.nD Cert.FinalGu.τ).loc Cert.FinalGu.main_arg0)) (m ((c.tc : Thread Cert.FinalGu.nD Cert.FinalGu.τ).loc Cert.FinalGu.main_arg1)) (m ((c.tc : Thread Cert.FinalGu.nD Cert.FinalGu.τ).loc Cert.FinalGu.main_arg2)) (m ((c.tc : Thread Cert.FinalGu.nD Cert.FinalGu.τ).loc Cert.FinalGu.main_arg3)) (m ((c.tc : Thread Cert.FinalGu.nD Cert.FinalGu.τ).loc Cert.FinalGu.main_arg4)) (m ((c.tc : Thread Cert.FinalGu.nD Cert.FinalGu.τ).loc Cert.FinalGu.main_arg5)) (m ((c.tc : Thread Cert.FinalGu.nD Cert.FinalGu.τ).loc Cert.FinalGu.main_arg6)) (m ((c.tc : Thread Cert.FinalGu.nD Cert.FinalGu.τ).loc Cert.FinalGu.main_arg7)) (m ((c.tc : Thread Cert.FinalGu.nD Cert.FinalGu.τ).loc Cert.FinalGu.main_arg8)) (m ((c.tc : Thread Cert.FinalGu.nD Cert.FinalGu.τ).loc Cert.FinalGu.main_arg9)) (m ((c.tc : Thread Cert.FinalGu.nD Cert.FinalGu.τ).loc Cert.FinalGu.main_arg10)) (m ((c.tc : Thread Cert.FinalGu.nD Cert.FinalGu.τ).loc Cert.FinalGu.main_arg11)) (m ((c.tc : Thread Cert.FinalGu.nD Cert.FinalGu.τ).loc Cert.FinalGu.main_arg12)) (m ((c.tc : Thread Cert.FinalGu.nD Cert.FinalGu.τ).loc Cert.FinalGu.main_arg13)) (m ((c.tc : Thread Cert.FinalGu.nD Cert.FinalGu.τ).loc Cert.FinalGu.main_arg14)) (m ((c.tc : Thread Cert.FinalGu.nD Cert.FinalGu.τ).loc Cert.FinalGu.main_arg15)) (m ((c.tc : Thread Cert.FinalGu.nD Cert.FinalGu.τ).loc Cert.FinalGu.main_arg16)) (m ((c.tc : Thread Cert.FinalGu.nD Cert.FinalGu.τ).loc Cert.FinalGu.main_arg17))) = (fun _ => 1#1)

def Pre_FinalGuIdeal [hPre_final_gu_in_range : Cert.Pre_final_gu_in_range.Facts] (m : (ℓ : Loc Cert.FinalGuIdeal.nD Cert.FinalGuIdeal.τ Cert.FinalGuIdeal.sig) → Buf (Elt Ideal) ℓ) : Prop :=
  ∀ c : Dev Cert.FinalGuIdeal.nD,
    (Cert.Pre_final_gu_in_range.fn (F := Ideal) (m ((c.tc : Thread Cert.FinalGuIdeal.nD Cert.FinalGuIdeal.τ).loc Cert.FinalGuIdeal.main_arg0)) (m ((c.tc : Thread Cert.FinalGuIdeal.nD Cert.FinalGuIdeal.τ).loc Cert.FinalGuIdeal.main_arg1)) (m ((c.tc : Thread Cert.FinalGuIdeal.nD Cert.FinalGuIdeal.τ).loc Cert.FinalGuIdeal.main_arg2)) (m ((c.tc : Thread Cert.FinalGuIdeal.nD Cert.FinalGuIdeal.τ).loc Cert.FinalGuIdeal.main_arg3)) (m ((c.tc : Thread Cert.FinalGuIdeal.nD Cert.FinalGuIdeal.τ).loc Cert.FinalGuIdeal.main_arg4)) (m ((c.tc : Thread Cert.FinalGuIdeal.nD Cert.FinalGuIdeal.τ).loc Cert.FinalGuIdeal.main_arg5)) (m ((c.tc : Thread Cert.FinalGuIdeal.nD Cert.FinalGuIdeal.τ).loc Cert.FinalGuIdeal.main_arg6)) (m ((c.tc : Thread Cert.FinalGuIdeal.nD Cert.FinalGuIdeal.τ).loc Cert.FinalGuIdeal.main_arg7)) (m ((c.tc : Thread Cert.FinalGuIdeal.nD Cert.FinalGuIdeal.τ).loc Cert.FinalGuIdeal.main_arg8)) (m ((c.tc : Thread Cert.FinalGuIdeal.nD Cert.FinalGuIdeal.τ).loc Cert.FinalGuIdeal.main_arg9)) (m ((c.tc : Thread Cert.FinalGuIdeal.nD Cert.FinalGuIdeal.τ).loc Cert.FinalGuIdeal.main_arg10)) (m ((c.tc : Thread Cert.FinalGuIdeal.nD Cert.FinalGuIdeal.τ).loc Cert.FinalGuIdeal.main_arg11)) (m ((c.tc : Thread Cert.FinalGuIdeal.nD Cert.FinalGuIdeal.τ).loc Cert.FinalGuIdeal.main_arg12)) (m ((c.tc : Thread Cert.FinalGuIdeal.nD Cert.FinalGuIdeal.τ).loc Cert.FinalGuIdeal.main_arg13)) (m ((c.tc : Thread Cert.FinalGuIdeal.nD Cert.FinalGuIdeal.τ).loc Cert.FinalGuIdeal.main_arg14)) (m ((c.tc : Thread Cert.FinalGuIdeal.nD Cert.FinalGuIdeal.τ).loc Cert.FinalGuIdeal.main_arg15)) (m ((c.tc : Thread Cert.FinalGuIdeal.nD Cert.FinalGuIdeal.τ).loc Cert.FinalGuIdeal.main_arg16)) (m ((c.tc : Thread Cert.FinalGuIdeal.nD Cert.FinalGuIdeal.τ).loc Cert.FinalGuIdeal.main_arg17))) = (fun _ => 1#1)

def Pre_FinalGuReferenceIdeal (m : (ℓ : Loc Cert.FinalGuReferenceIdeal.nD Cert.FinalGuReferenceIdeal.τ Cert.FinalGuReferenceIdeal.sig) → Buf (Elt Ideal) ℓ) : Prop :=
  True

def Pre_FinalGuReferenceIdeal_final_gu_in_range [hPre_final_gu_in_range : Cert.Pre_final_gu_in_range.Facts] (m : (ℓ : Loc Cert.FinalGuReferenceIdeal.nD Cert.FinalGuReferenceIdeal.τ Cert.FinalGuReferenceIdeal.sig) → Buf (Elt Ideal) ℓ) : Prop :=
  ∀ c : Dev Cert.FinalGuReferenceIdeal.nD,
    (Cert.Pre_final_gu_in_range.fn (F := Ideal) (m ((c.tc : Thread Cert.FinalGuReferenceIdeal.nD Cert.FinalGuReferenceIdeal.τ).loc Cert.FinalGuReferenceIdeal.main_arg0)) (m ((c.tc : Thread Cert.FinalGuReferenceIdeal.nD Cert.FinalGuReferenceIdeal.τ).loc Cert.FinalGuReferenceIdeal.main_arg1)) (m ((c.tc : Thread Cert.FinalGuReferenceIdeal.nD Cert.FinalGuReferenceIdeal.τ).loc Cert.FinalGuReferenceIdeal.main_arg2)) (m ((c.tc : Thread Cert.FinalGuReferenceIdeal.nD Cert.FinalGuReferenceIdeal.τ).loc Cert.FinalGuReferenceIdeal.main_arg3)) (m ((c.tc : Thread Cert.FinalGuReferenceIdeal.nD Cert.FinalGuReferenceIdeal.τ).loc Cert.FinalGuReferenceIdeal.main_arg4)) (m ((c.tc : Thread Cert.FinalGuReferenceIdeal.nD Cert.FinalGuReferenceIdeal.τ).loc Cert.FinalGuReferenceIdeal.main_arg5)) (m ((c.tc : Thread Cert.FinalGuReferenceIdeal.nD Cert.FinalGuReferenceIdeal.τ).loc Cert.FinalGuReferenceIdeal.main_arg6)) (m ((c.tc : Thread Cert.FinalGuReferenceIdeal.nD Cert.FinalGuReferenceIdeal.τ).loc Cert.FinalGuReferenceIdeal.main_arg7)) (m ((c.tc : Thread Cert.FinalGuReferenceIdeal.nD Cert.FinalGuReferenceIdeal.τ).loc Cert.FinalGuReferenceIdeal.main_arg8)) (m ((c.tc : Thread Cert.FinalGuReferenceIdeal.nD Cert.FinalGuReferenceIdeal.τ).loc Cert.FinalGuReferenceIdeal.main_arg9)) (m ((c.tc : Thread Cert.FinalGuReferenceIdeal.nD Cert.FinalGuReferenceIdeal.τ).loc Cert.FinalGuReferenceIdeal.main_arg10)) (m ((c.tc : Thread Cert.FinalGuReferenceIdeal.nD Cert.FinalGuReferenceIdeal.τ).loc Cert.FinalGuReferenceIdeal.main_arg11)) (m ((c.tc : Thread Cert.FinalGuReferenceIdeal.nD Cert.FinalGuReferenceIdeal.τ).loc Cert.FinalGuReferenceIdeal.main_arg12)) (m ((c.tc : Thread Cert.FinalGuReferenceIdeal.nD Cert.FinalGuReferenceIdeal.τ).loc Cert.FinalGuReferenceIdeal.main_arg13)) (m ((c.tc : Thread Cert.FinalGuReferenceIdeal.nD Cert.FinalGuReferenceIdeal.τ).loc Cert.FinalGuReferenceIdeal.main_arg14)) (m ((c.tc : Thread Cert.FinalGuReferenceIdeal.nD Cert.FinalGuReferenceIdeal.τ).loc Cert.FinalGuReferenceIdeal.main_arg15)) (m ((c.tc : Thread Cert.FinalGuReferenceIdeal.nD Cert.FinalGuReferenceIdeal.τ).loc Cert.FinalGuReferenceIdeal.main_arg16)) (m ((c.tc : Thread Cert.FinalGuReferenceIdeal.nD Cert.FinalGuReferenceIdeal.τ).loc Cert.FinalGuReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2)
      ∧ r.2.mem ((c.tc : Thread Cert.NormIn.nD Cert.NormIn.τ).loc Cert.NormIn.main_arg3) = m ((c.tc : Thread Cert.NormIn.nD Cert.NormIn.τ).loc Cert.NormIn.main_arg3)
      ∧ r.2.mem ((c.tc : Thread Cert.NormIn.nD Cert.NormIn.τ).loc Cert.NormIn.main_arg4) = m ((c.tc : Thread Cert.NormIn.nD Cert.NormIn.τ).loc Cert.NormIn.main_arg4))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
      ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4))
      ∧ r.2.sem = fun _ => 0)

def quiescent_NormInIdeal_pre_norm_in_finite [hNormInIdeal : Cert.NormInIdeal.Facts] [hPre_norm_in_finite : Cert.Pre_norm_in_finite.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal_norm_in_finite m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
      ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4))
      ∧ r.2.sem = fun _ => 0)

def quiescent_NormInReferenceIdeal [hNormInReferenceIdeal : Cert.NormInReferenceIdeal.Facts] : Prop :=
  ∀ (m : (ℓ : Loc Cert.NormInReferenceIdeal.nD Cert.NormInReferenceIdeal.τ Cert.NormInReferenceIdeal.sig) → Buf (Elt Ideal) ℓ) (g : Dev Cert.NormInReferenceIdeal.nD → PrngReg), Pre_NormInReferenceIdeal m →
    θ_run (Cert.NormInReferenceIdeal.defs (F := Ideal)) (onTc (τ := Cert.NormInReferenceIdeal.τ) (Cert.NormInReferenceIdeal.main (F := Ideal))) ⟨m, fun _ => 0, g⟩ (fun r => (∀ c : Dev Cert.NormInReferenceIdeal.nD,
      r.2.mem ((c.tc : Thread Cert.NormInReferenceIdeal.nD Cert.NormInReferenceIdeal.τ).loc Cert.NormInReferenceIdeal.main_arg0) = m ((c.tc : Thread Cert.NormInReferenceIdeal.nD Cert.NormInReferenceIdeal.τ).loc Cert.NormInReferenceIdeal.main_arg0)
      ∧ r.2.mem ((c.tc : Thread Cert.NormInReferenceIdeal.nD Cert.NormInReferenceIdeal.τ).loc Cert.NormInReferenceIdeal.main_arg1) = m ((c.tc : Thread Cert.NormInReferenceIdeal.nD Cert.NormInReferenceIdeal.τ).loc Cert.NormInReferenceIdeal.main_arg1)
      ∧ r.2.mem ((c.tc : Thread Cert.NormInReferenceIdeal.nD Cert.NormInReferenceIdeal.τ).loc Cert.NormInReferenceIdeal.main_arg2) = m ((c.tc : Thread Cert.NormInReferenceIdeal.nD Cert.NormInReferenceIdeal.τ).loc Cert.NormInReferenceIdeal.main_arg2)
      ∧ r.2.mem ((c.tc : Thread Cert.NormInReferenceIdeal.nD Cert.NormInReferenceIdeal.τ).loc Cert.NormInReferenceIdeal.main_arg3) = m ((c.tc : Thread Cert.NormInReferenceIdeal.nD Cert.NormInReferenceIdeal.τ).loc Cert.NormInReferenceIdeal.main_arg3)
      ∧ r.2.mem ((c.tc : Thread Cert.NormInReferenceIdeal.nD Cert.NormInReferenceIdeal.τ).loc Cert.NormInReferenceIdeal.main_arg4) = m ((c.tc : Thread Cert.NormInReferenceIdeal.nD Cert.NormInReferenceIdeal.τ).loc Cert.NormInReferenceIdeal.main_arg4))
      ∧ r.2.sem = fun _ => 0)

def quiescent_NormInReferenceIdeal_pre_norm_in_finite [hNormInReferenceIdeal : Cert.NormInReferenceIdeal.Facts] [hPre_norm_in_finite : Cert.Pre_norm_in_finite.Facts] : Prop :=
  ∀ (m : (ℓ : Loc Cert.NormInReferenceIdeal.nD Cert.NormInReferenceIdeal.τ Cert.NormInReferenceIdeal.sig) → Buf (Elt Ideal) ℓ) (g : Dev Cert.NormInReferenceIdeal.nD → PrngReg), Pre_NormInReferenceIdeal_norm_in_finite m →
    θ_run (Cert.NormInReferenceIdeal.defs (F := Ideal)) (onTc (τ := Cert.NormInReferenceIdeal.τ) (Cert.NormInReferenceIdeal.main (F := Ideal))) ⟨m, fun _ => 0, g⟩ (fun r => (∀ c : Dev Cert.NormInReferenceIdeal.nD,
      r.2.mem ((c.tc : Thread Cert.NormInReferenceIdeal.nD Cert.NormInReferenceIdeal.τ).loc Cert.NormInReferenceIdeal.main_arg0) = m ((c.tc : Thread Cert.NormInReferenceIdeal.nD Cert.NormInReferenceIdeal.τ).loc Cert.NormInReferenceIdeal.main_arg0)
      ∧ r.2.mem ((c.tc : Thread Cert.NormInReferenceIdeal.nD Cert.NormInReferenceIdeal.τ).loc Cert.NormInReferenceIdeal.main_arg1) = m ((c.tc : Thread Cert.NormInReferenceIdeal.nD Cert.NormInReferenceIdeal.τ).loc Cert.NormInReferenceIdeal.main_arg1)
      ∧ r.2.mem ((c.tc : Thread Cert.NormInReferenceIdeal.nD Cert.NormInReferenceIdeal.τ).loc Cert.NormInReferenceIdeal.main_arg2) = m ((c.tc : Thread Cert.NormInReferenceIdeal.nD Cert.NormInReferenceIdeal.τ).loc Cert.NormInReferenceIdeal.main_arg2)
      ∧ r.2.mem ((c.tc : Thread Cert.NormInReferenceIdeal.nD Cert.NormInReferenceIdeal.τ).loc Cert.NormInReferenceIdeal.main_arg3) = m ((c.tc : Thread Cert.NormInReferenceIdeal.nD Cert.NormInReferenceIdeal.τ).loc Cert.NormInReferenceIdeal.main_arg3)
      ∧ r.2.mem ((c.tc : Thread Cert.NormInReferenceIdeal.nD Cert.NormInReferenceIdeal.τ).loc Cert.NormInReferenceIdeal.main_arg4) = m ((c.tc : Thread Cert.NormInReferenceIdeal.nD Cert.NormInReferenceIdeal.τ).loc Cert.NormInReferenceIdeal.main_arg4))
      ∧ r.2.sem = fun _ => 0)

def quiescent_NormGu [hNormGu : Cert.NormGu.Facts] : Prop :=
  ∀ (m : (ℓ : Loc Cert.NormGu.nD Cert.NormGu.τ Cert.NormGu.sig) → Buf (Elt Bits) ℓ) (g : Dev Cert.NormGu.nD → PrngReg), Pre_NormGu m →
    θ_run (Cert.NormGu.defs (F := Bits)) (onTc (τ := Cert.NormGu.τ) (Cert.NormGu.main (F := Bits))) ⟨m, fun _ => 0, g⟩ (fun r => (∀ c : Dev Cert.NormGu.nD,
      r.2.mem ((c.tc : Thread Cert.NormGu.nD Cert.NormGu.τ).loc Cert.NormGu.main_arg0) = m ((c.tc : Thread Cert.NormGu.nD Cert.NormGu.τ).loc Cert.NormGu.main_arg0)
      ∧ r.2.mem ((c.tc : Thread Cert.NormGu.nD Cert.NormGu.τ).loc Cert.NormGu.main_arg1) = m ((c.tc : Thread Cert.NormGu.nD Cert.NormGu.τ).loc Cert.NormGu.main_arg1)
      ∧ r.2.mem ((c.tc : Thread Cert.NormGu.nD Cert.NormGu.τ).loc Cert.NormGu.main_arg2) = m ((c.tc : Thread Cert.NormGu.nD Cert.NormGu.τ).loc Cert.NormGu.main_arg2)
      ∧ r.2.mem ((c.tc : Thread Cert.NormGu.nD Cert.NormGu.τ).loc Cert.NormGu.main_arg3) = m ((c.tc : Thread Cert.NormGu.nD Cert.NormGu.τ).loc Cert.NormGu.main_arg3)
      ∧ r.2.mem ((c.tc : Thread Cert.NormGu.nD Cert.NormGu.τ).loc Cert.NormGu.main_arg4) = m ((c.tc : Thread Cert.NormGu.nD Cert.NormGu.τ).loc Cert.NormGu.main_arg4))
      ∧ r.2.sem = fun _ => 0)

def quiescent_NormGuIdeal [hNormGuIdeal : Cert.NormGuIdeal.Facts] : Prop :=
  ∀ (m : (ℓ : Loc Cert.NormGuIdeal.nD Cert.NormGuIdeal.τ Cert.NormGuIdeal.sig) → Buf (Elt Ideal) ℓ) (g : Dev Cert.NormGuIdeal.nD → PrngReg), Pre_NormGuIdeal m →
    θ_run (Cert.NormGuIdeal.defs (F := Ideal)) (onTc (τ := Cert.NormGuIdeal.τ) (Cert.NormGuIdeal.main (F := Ideal))) ⟨m, fun _ => 0, g⟩ (fun r => (∀ c : Dev Cert.NormGuIdeal.nD,
      r.2.mem ((c.tc : Thread Cert.NormGuIdeal.nD Cert.NormGuIdeal.τ).loc Cert.NormGuIdeal.main_arg0) = m ((c.tc : Thread Cert.NormGuIdeal.nD Cert.NormGuIdeal.τ).loc Cert.NormGuIdeal.main_arg0)
      ∧ r.2.mem ((c.tc : Thread Cert.NormGuIdeal.nD Cert.NormGuIdeal.τ).loc Cert.NormGuIdeal.main_arg1) = m ((c.tc : Thread Cert.NormGuIdeal.nD Cert.NormGuIdeal.τ).loc Cert.NormGuIdeal.main_arg1)
      ∧ r.2.mem ((c.tc : Thread Cert.NormGuIdeal.nD Cert.NormGuIdeal.τ).loc Cert.NormGuIdeal.main_arg2) = m ((c.tc : Thread Cert.NormGuIdeal.nD Cert.NormGuIdeal.τ).loc Cert.NormGuIdeal.main_arg2)
      ∧ r.2.mem ((c.tc : Thread Cert.NormGuIdeal.nD Cert.NormGuIdeal.τ).loc Cert.NormGuIdeal.main_arg3) = m ((c.tc : Thread Cert.NormGuIdeal.nD Cert.NormGuIdeal.τ).loc Cert.NormGuIdeal.main_arg3)
      ∧ r.2.mem ((c.tc : Thread Cert.NormGuIdeal.nD Cert.NormGuIdeal.τ).loc Cert.NormGuIdeal.main_arg4) = m ((c.tc : Thread Cert.NormGuIdeal.nD Cert.NormGuIdeal.τ).loc Cert.NormGuIdeal.main_arg4))
      ∧ r.2.sem = fun _ => 0)

def quiescent_NormGuIdeal_pre_norm_gu_finite [hNormGuIdeal : Cert.NormGuIdeal.Facts] [hPre_norm_gu_finite : Cert.Pre_norm_gu_finite.Facts] : Prop :=
  ∀ (m : (ℓ : Loc Cert.NormGuIdeal.nD Cert.NormGuIdeal.τ Cert.NormGuIdeal.sig) → Buf (Elt Ideal) ℓ) (g : Dev Cert.NormGuIdeal.nD → PrngReg), Pre_NormGuIdeal_norm_gu_finite m →
    θ_run (Cert.NormGuIdeal.defs (F := Ideal)) (onTc (τ := Cert.NormGuIdeal.τ) (Cert.NormGuIdeal.main (F := Ideal))) ⟨m, fun _ => 0, g⟩ (fun r => (∀ c : Dev Cert.NormGuIdeal.nD,
      r.2.mem ((c.tc : Thread Cert.NormGuIdeal.nD Cert.NormGuIdeal.τ).loc Cert.NormGuIdeal.main_arg0) = m ((c.tc : Thread Cert.NormGuIdeal.nD Cert.NormGuIdeal.τ).loc Cert.NormGuIdeal.main_arg0)
      ∧ r.2.mem ((c.tc : Thread Cert.NormGuIdeal.nD Cert.NormGuIdeal.τ).loc Cert.NormGuIdeal.main_arg1) = m ((c.tc : Thread Cert.NormGuIdeal.nD Cert.NormGuIdeal.τ).loc Cert.NormGuIdeal.main_arg1)
      ∧ r.2.mem ((c.tc : Thread Cert.NormGuIdeal.nD Cert.NormGuIdeal.τ).loc Cert.NormGuIdeal.main_arg2) = m ((c.tc : Thread Cert.NormGuIdeal.nD Cert.NormGuIdeal.τ).loc Cert.NormGuIdeal.main_arg2)
      ∧ r.2.mem ((c.tc : Thread Cert.NormGuIdeal.nD Cert.NormGuIdeal.τ).loc Cert.NormGuIdeal.main_arg3) = m ((c.tc : Thread Cert.NormGuIdeal.nD Cert.NormGuIdeal.τ).loc Cert.NormGuIdeal.main_arg3)
      ∧ r.2.mem ((c.tc : Thread Cert.NormGuIdeal.nD Cert.NormGuIdeal.τ).loc Cert.NormGuIdeal.main_arg4) = m ((c.tc : Thread Cert.NormGuIdeal.nD Cert.NormGuIdeal.τ).loc Cert.NormGuIdeal.main_arg4))
      ∧ r.2.sem = fun _ => 0)

def quiescent_NormGuReferenceIdeal [hNormGuReferenceIdeal : Cert.NormGuReferenceIdeal.Facts] : Prop :=
  ∀ (m : (ℓ : Loc Cert.NormGuReferenceIdeal.nD Cert.NormGuReferenceIdeal.τ Cert.NormGuReferenceIdeal.sig) → Buf (Elt Ideal) ℓ) (g : Dev Cert.NormGuReferenceIdeal.nD → PrngReg), Pre_NormGuReferenceIdeal m →
    θ_run (Cert.NormGuReferenceIdeal.defs (F := Ideal)) (onTc (τ := Cert.NormGuReferenceIdeal.τ) (Cert.NormGuReferenceIdeal.main (F := Ideal))) ⟨m, fun _ => 0, g⟩ (fun r => (∀ c : Dev Cert.NormGuReferenceIdeal.nD,
      r.2.mem ((c.tc : Thread Cert.NormGuReferenceIdeal.nD Cert.NormGuReferenceIdeal.τ).loc Cert.NormGuReferenceIdeal.main_arg0) = m ((c.tc : Thread Cert.NormGuReferenceIdeal.nD Cert.NormGuReferenceIdeal.τ).loc Cert.NormGuReferenceIdeal.main_arg0)
      ∧ r.2.mem ((c.tc : Thread Cert.NormGuReferenceIdeal.nD Cert.NormGuReferenceIdeal.τ).loc Cert.NormGuReferenceIdeal.main_arg1) = m ((c.tc : Thread Cert.NormGuReferenceIdeal.nD Cert.NormGuReferenceIdeal.τ).loc Cert.NormGuReferenceIdeal.main_arg1)
      ∧ r.2.mem ((c.tc : Thread Cert.NormGuReferenceIdeal.nD Cert.NormGuReferenceIdeal.τ).loc Cert.NormGuReferenceIdeal.main_arg2) = m ((c.tc : Thread Cert.NormGuReferenceIdeal.nD Cert.NormGuReferenceIdeal.τ).loc Cert.NormGuReferenceIdeal.main_arg2)
      ∧ r.2.mem ((c.tc : Thread Cert.NormGuReferenceIdeal.nD Cert.NormGuReferenceIdeal.τ).loc Cert.NormGuReferenceIdeal.main_arg3) = m ((c.tc : Thread Cert.NormGuReferenceIdeal.nD Cert.NormGuReferenceIdeal.τ).loc Cert.NormGuReferenceIdeal.main_arg3)
      ∧ r.2.mem ((c.tc : Thread Cert.NormGuReferenceIdeal.nD Cert.NormGuReferenceIdeal.τ).loc Cert.NormGuReferenceIdeal.main_arg4) = m ((c.tc : Thread Cert.NormGuReferenceIdeal.nD Cert.NormGuReferenceIdeal.τ).loc Cert.NormGuReferenceIdeal.main_arg4))
      ∧ r.2.sem = fun _ => 0)

def quiescent_NormGuReferenceIdeal_pre_norm_gu_finite [hNormGuReferenceIdeal : Cert.NormGuReferenceIdeal.Facts] [hPre_norm_gu_finite : Cert.Pre_norm_gu_finite.Facts] : Prop :=
  ∀ (m : (ℓ : Loc Cert.NormGuReferenceIdeal.nD Cert.NormGuReferenceIdeal.τ Cert.NormGuReferenceIdeal.sig) → Buf (Elt Ideal) ℓ) (g : Dev Cert.NormGuReferenceIdeal.nD → PrngReg), Pre_NormGuReferenceIdeal_norm_gu_finite m →
    θ_run (Cert.NormGuReferenceIdeal.defs (F := Ideal)) (onTc (τ := Cert.NormGuReferenceIdeal.τ) (Cert.NormGuReferenceIdeal.main (F := Ideal))) ⟨m, fun _ => 0, g⟩ (fun r => (∀ c : Dev Cert.NormGuReferenceIdeal.nD,
      r.2.mem ((c.tc : Thread Cert.NormGuReferenceIdeal.nD Cert.NormGuReferenceIdeal.τ).loc Cert.NormGuReferenceIdeal.main_arg0) = m ((c.tc : Thread Cert.NormGuReferenceIdeal.nD Cert.NormGuReferenceIdeal.τ).loc Cert.NormGuReferenceIdeal.main_arg0)
      ∧ r.2.mem ((c.tc : Thread Cert.NormGuReferenceIdeal.nD Cert.NormGuReferenceIdeal.τ).loc Cert.NormGuReferenceIdeal.main_arg1) = m ((c.tc : Thread Cert.NormGuReferenceIdeal.nD Cert.NormGuReferenceIdeal.τ).loc Cert.NormGuReferenceIdeal.main_arg1)
      ∧ r.2.mem ((c.tc : Thread Cert.NormGuReferenceIdeal.nD Cert.NormGuReferenceIdeal.τ).loc Cert.NormGuReferenceIdeal.main_arg2) = m ((c.tc : Thread Cert.NormGuReferenceIdeal.nD Cert.NormGuReferenceIdeal.τ).loc Cert.NormGuReferenceIdeal.main_arg2)
      ∧ r.2.mem ((c.tc : Thread Cert.NormGuReferenceIdeal.nD Cert.NormGuReferenceIdeal.τ).loc Cert.NormGuReferenceIdeal.main_arg3) = m ((c.tc : Thread Cert.NormGuReferenceIdeal.nD Cert.NormGuReferenceIdeal.τ).loc Cert.NormGuReferenceIdeal.main_arg3)
      ∧ r.2.mem ((c.tc : Thread Cert.NormGuReferenceIdeal.nD Cert.NormGuReferenceIdeal.τ).loc Cert.NormGuReferenceIdeal.main_arg4) = m ((c.tc : Thread Cert.NormGuReferenceIdeal.nD Cert.NormGuReferenceIdeal.τ).loc Cert.NormGuReferenceIdeal.main_arg4))
      ∧ r.2.sem = fun _ => 0)

def quiescent_WIn [hWIn : Cert.WIn.Facts] : Prop :=
  ∀ (m : (ℓ : Loc Cert.WIn.nD Cert.WIn.τ Cert.WIn.sig) → Buf (Elt Bits) ℓ) (g : Dev Cert.WIn.nD → PrngReg), Pre_WIn m →
    θ_run (Cert.WIn.defs (F := Bits)) (onTc (τ := Cert.WIn.τ) (Cert.WIn.main (F := Bits))) ⟨m, fun _ => 0, g⟩ (fun r => (∀ c : Dev Cert.WIn.nD,
      r.2.mem ((c.tc : Thread Cert.WIn.nD Cert.WIn.τ).loc Cert.WIn.main_arg0) = m ((c.tc : Thread Cert.WIn.nD Cert.WIn.τ).loc Cert.WIn.main_arg0)
      ∧ r.2.mem ((c.tc : Thread Cert.WIn.nD Cert.WIn.τ).loc Cert.WIn.main_arg1) = m ((c.tc : Thread Cert.WIn.nD Cert.WIn.τ).loc Cert.WIn.main_arg1))
      ∧ r.2.sem = fun _ => 0)

def quiescent_WInIdeal [hWInIdeal : Cert.WInIdeal.Facts] : Prop :=
  ∀ (m : (ℓ : Loc Cert.WInIdeal.nD Cert.WInIdeal.τ Cert.WInIdeal.sig) → Buf (Elt Ideal) ℓ) (g : Dev Cert.WInIdeal.nD → PrngReg), Pre_WInIdeal m →
    θ_run (Cert.WInIdeal.defs (F := Ideal)) (onTc (τ := Cert.WInIdeal.τ) (Cert.WInIdeal.main (F := Ideal))) ⟨m, fun _ => 0, g⟩ (fun r => (∀ c : Dev Cert.WInIdeal.nD,
      r.2.mem ((c.tc : Thread Cert.WInIdeal.nD Cert.WInIdeal.τ).loc Cert.WInIdeal.main_arg0) = m ((c.tc : Thread Cert.WInIdeal.nD Cert.WInIdeal.τ).loc Cert.WInIdeal.main_arg0)
      ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ r.2.sem = fun _ => 0)

def quiescent_WInReferenceIdeal [hWInReferenceIdeal : Cert.WInReferenceIdeal.Facts] : Prop :=
  ∀ (m : (ℓ : Loc Cert.WInReferenceIdeal.nD Cert.WInReferenceIdeal.τ Cert.WInReferenceIdeal.sig) → Buf (Elt Ideal) ℓ) (g : Dev Cert.WInReferenceIdeal.nD → PrngReg), Pre_WInReferenceIdeal m →
    θ_run (Cert.WInReferenceIdeal.defs (F := Ideal)) (onTc (τ := Cert.WInReferenceIdeal.τ) (Cert.WInReferenceIdeal.main (F := Ideal))) ⟨m, fun _ => 0, g⟩ (fun r => (∀ c : Dev Cert.WInReferenceIdeal.nD,
      r.2.mem ((c.tc : Thread Cert.WInReferenceIdeal.nD Cert.WInReferenceIdeal.τ).loc Cert.WInReferenceIdeal.main_arg0) = m ((c.tc : Thread Cert.WInReferenceIdeal.nD Cert.WInReferenceIdeal.τ).loc Cert.WInReferenceIdeal.main_arg0)
      ∧ r.2.mem ((c.tc : Thread Cert.WInReferenceIdeal.nD Cert.WInReferenceIdeal.τ).loc Cert.WInReferenceIdeal.main_arg1) = m ((c.tc : Thread Cert.WInReferenceIdeal.nD Cert.WInReferenceIdeal.τ).loc Cert.WInReferenceIdeal.main_arg1))
      ∧ r.2.sem = fun _ => 0)

def quiescent_WGu [hWGu : Cert.WGu.Facts] : Prop :=
  ∀ (m : (ℓ : Loc Cert.WGu.nD Cert.WGu.τ Cert.WGu.sig) → Buf (Elt Bits) ℓ) (g : Dev Cert.WGu.nD → PrngReg), Pre_WGu m →
    θ_run (Cert.WGu.defs (F := Bits)) (onTc (τ := Cert.WGu.τ) (Cert.WGu.main (F := Bits))) ⟨m, fun _ => 0, g⟩ (fun r => (∀ c : Dev Cert.WGu.nD,
      r.2.mem ((c.tc : Thread Cert.WGu.nD Cert.WGu.τ).loc Cert.WGu.main_arg0) = m ((c.tc : Thread Cert.WGu.nD Cert.WGu.τ).loc Cert.WGu.main_arg0)
      ∧ r.2.mem ((c.tc : Thread Cert.WGu.nD Cert.WGu.τ).loc Cert.WGu.main_arg1) = m ((c.tc : Thread Cert.WGu.nD Cert.WGu.τ).loc Cert.WGu.main_arg1))
      ∧ r.2.sem = fun _ => 0)

def quiescent_WGuIdeal [hWGuIdeal : Cert.WGuIdeal.Facts] : Prop :=
  ∀ (m : (ℓ : Loc Cert.WGuIdeal.nD Cert.WGuIdeal.τ Cert.WGuIdeal.sig) → Buf (Elt Ideal) ℓ) (g : Dev Cert.WGuIdeal.nD → PrngReg), Pre_WGuIdeal m →
    θ_run (Cert.WGuIdeal.defs (F := Ideal)) (onTc (τ := Cert.WGuIdeal.τ) (Cert.WGuIdeal.main (F := Ideal))) ⟨m, fun _ => 0, g⟩ (fun r => (∀ c : Dev Cert.WGuIdeal.nD,
      r.2.mem ((c.tc : Thread Cert.WGuIdeal.nD Cert.WGuIdeal.τ).loc Cert.WGuIdeal.main_arg0) = m ((c.tc : Thread Cert.WGuIdeal.nD Cert.WGuIdeal.τ).loc Cert.WGuIdeal.main_arg0)
      ∧ r.2.mem ((c.tc : Thread Cert.WGuIdeal.nD Cert.WGuIdeal.τ).loc Cert.WGuIdeal.main_arg1) = m ((c.tc : Thread Cert.WGuIdeal.nD Cert.WGuIdeal.τ).loc Cert.WGuIdeal.main_arg1))
      ∧ r.2.sem = fun _ => 0)

def quiescent_WGuReferenceIdeal [hWGuReferenceIdeal : Cert.WGuReferenceIdeal.Facts] : Prop :=
  ∀ (m : (ℓ : Loc Cert.WGuReferenceIdeal.nD Cert.WGuReferenceIdeal.τ Cert.WGuReferenceIdeal.sig) → Buf (Elt Ideal) ℓ) (g : Dev Cert.WGuReferenceIdeal.nD → PrngReg), Pre_WGuReferenceIdeal m →
    θ_run (Cert.WGuReferenceIdeal.defs (F := Ideal)) (onTc (τ := Cert.WGuReferenceIdeal.τ) (Cert.WGuReferenceIdeal.main (F := Ideal))) ⟨m, fun _ => 0, g⟩ (fun r => (∀ c : Dev Cert.WGuReferenceIdeal.nD,
      r.2.mem ((c.tc : Thread Cert.WGuReferenceIdeal.nD Cert.WGuReferenceIdeal.τ).loc Cert.WGuReferenceIdeal.main_arg0) = m ((c.tc : Thread Cert.WGuReferenceIdeal.nD Cert.WGuReferenceIdeal.τ).loc Cert.WGuReferenceIdeal.main_arg0)
      ∧ r.2.mem ((c.tc : Thread Cert.WGuReferenceIdeal.nD Cert.WGuReferenceIdeal.τ).loc Cert.WGuReferenceIdeal.main_arg1) = m ((c.tc : Thread Cert.WGuReferenceIdeal.nD Cert.WGuReferenceIdeal.τ).loc Cert.WGuReferenceIdeal.main_arg1))
      ∧ r.2.sem = fun _ => 0)

def quiescent_WDown [hWDown : Cert.WDown.Facts] : Prop :=
  ∀ (m : (ℓ : Loc Cert.WDown.nD Cert.WDown.τ Cert.WDown.sig) → Buf (Elt Bits) ℓ) (g : Dev Cert.WDown.nD → PrngReg), Pre_WDown m →
    θ_run (Cert.WDown.defs (F := Bits)) (onTc (τ := Cert.WDown.τ) (Cert.WDown.main (F := Bits))) ⟨m, fun _ => 0, g⟩ (fun r => (∀ c : Dev Cert.WDown.nD,
      r.2.mem ((c.tc : Thread Cert.WDown.nD Cert.WDown.τ).loc Cert.WDown.main_arg0) = m ((c.tc : Thread Cert.WDown.nD Cert.WDown.τ).loc Cert.WDown.main_arg0)
      ∧ r.2.mem ((c.tc : Thread Cert.WDown.nD Cert.WDown.τ).loc Cert.WDown.main_arg1) = m ((c.tc : Thread Cert.WDown.nD Cert.WDown.τ).loc Cert.WDown.main_arg1))
      ∧ r.2.sem = fun _ => 0)

def quiescent_WDownIdeal [hWDownIdeal : Cert.WDownIdeal.Facts] : Prop :=
  ∀ (m : (ℓ : Loc Cert.WDownIdeal.nD Cert.WDownIdeal.τ Cert.WDownIdeal.sig) → Buf (Elt Ideal) ℓ) (g : Dev Cert.WDownIdeal.nD → PrngReg), Pre_WDownIdeal m →
    θ_run (Cert.WDownIdeal.defs (F := Ideal)) (onTc (τ := Cert.WDownIdeal.τ) (Cert.WDownIdeal.main (F := Ideal))) ⟨m, fun _ => 0, g⟩ (fun r => (∀ c : Dev Cert.WDownIdeal.nD,
      r.2.mem ((c.tc : Thread Cert.WDownIdeal.nD Cert.WDownIdeal.τ).loc Cert.WDownIdeal.main_arg0) = m ((c.tc : Thread Cert.WDownIdeal.nD Cert.WDownIdeal.τ).loc Cert.WDownIdeal.main_arg0)
      ∧ r.2.mem ((c.tc : Thread Cert.WDownIdeal.nD Cert.WDownIdeal.τ).loc Cert.WDownIdeal.main_arg1) = m ((c.tc : Thread Cert.WDownIdeal.nD Cert.WDownIdeal.τ).loc Cert.WDownIdeal.main_arg1))
      ∧ r.2.sem = fun _ => 0)

def quiescent_WDownReferenceIdeal [hWDownReferenceIdeal : Cert.WDownReferenceIdeal.Facts] : Prop :=
  ∀ (m : (ℓ : Loc Cert.WDownReferenceIdeal.nD Cert.WDownReferenceIdeal.τ Cert.WDownReferenceIdeal.sig) → Buf (Elt Ideal) ℓ) (g : Dev Cert.WDownReferenceIdeal.nD → PrngReg), Pre_WDownReferenceIdeal m →
    θ_run (Cert.WDownReferenceIdeal.defs (F := Ideal)) (onTc (τ := Cert.WDownReferenceIdeal.τ) (Cert.WDownReferenceIdeal.main (F := Ideal))) ⟨m, fun _ => 0, g⟩ (fun r => (∀ c : Dev Cert.WDownReferenceIdeal.nD,
      r.2.mem ((c.tc : Thread Cert.WDownReferenceIdeal.nD Cert.WDownReferenceIdeal.τ).loc Cert.WDownReferenceIdeal.main_arg0) = m ((c.tc : Thread Cert.WDownReferenceIdeal.nD Cert.WDownReferenceIdeal.τ).loc Cert.WDownReferenceIdeal.main_arg0)
      ∧ r.2.mem ((c.tc : Thread Cert.WDownReferenceIdeal.nD Cert.WDownReferenceIdeal.τ).loc Cert.WDownReferenceIdeal.main_arg1) = m ((c.tc : Thread Cert.WDownReferenceIdeal.nD Cert.WDownReferenceIdeal.τ).loc Cert.WDownReferenceIdeal.main_arg1))
      ∧ r.2.sem = fun _ => 0)

def quiescent_Hid [hHid : Cert.Hid.Facts] : Prop :=
  ∀ (m : (ℓ : Loc Cert.Hid.nD Cert.Hid.τ Cert.Hid.sig) → Buf (Elt Bits) ℓ) (g : Dev Cert.Hid.nD → PrngReg), Pre_Hid m →
    θ_run (Cert.Hid.defs (F := Bits)) (onTc (τ := Cert.Hid.τ) (Cert.Hid.main (F := Bits))) ⟨m, fun _ => 0, g⟩ (fun r => (∀ c : Dev Cert.Hid.nD,
      r.2.mem ((c.tc : Thread Cert.Hid.nD Cert.Hid.τ).loc Cert.Hid.main_arg0) = m ((c.tc : Thread Cert.Hid.nD Cert.Hid.τ).loc Cert.Hid.main_arg0)
      ∧ r.2.mem ((c.tc : Thread Cert.Hid.nD Cert.Hid.τ).loc Cert.Hid.main_arg1) = m ((c.tc : Thread Cert.Hid.nD Cert.Hid.τ).loc Cert.Hid.main_arg1))
      ∧ r.2.sem = fun _ => 0)

def quiescent_HidIdeal [hHidIdeal : Cert.HidIdeal.Facts] : Prop :=
  ∀ (m : (ℓ : Loc Cert.HidIdeal.nD Cert.HidIdeal.τ Cert.HidIdeal.sig) → Buf (Elt Ideal) ℓ) (g : Dev Cert.HidIdeal.nD → PrngReg), Pre_HidIdeal m →
    θ_run (Cert.HidIdeal.defs (F := Ideal)) (onTc (τ := Cert.HidIdeal.τ) (Cert.HidIdeal.main (F := Ideal))) ⟨m, fun _ => 0, g⟩ (fun r => (∀ c : Dev Cert.HidIdeal.nD,
      r.2.mem ((c.tc : Thread Cert.HidIdeal.nD Cert.HidIdeal.τ).loc Cert.HidIdeal.main_arg0) = m ((c.tc : Thread Cert.HidIdeal.nD Cert.HidIdeal.τ).loc Cert.HidIdeal.main_arg0)
      ∧ r.2.mem ((c.tc : Thread Cert.HidIdeal.nD Cert.HidIdeal.τ).loc Cert.HidIdeal.main_arg1) = m ((c.tc : Thread Cert.HidIdeal.nD Cert.HidIdeal.τ).loc Cert.HidIdeal.main_arg1))
      ∧ r.2.sem = fun _ => 0)

def quiescent_HidReferenceIdeal [hHidReferenceIdeal : Cert.HidReferenceIdeal.Facts] : Prop :=
  ∀ (m : (ℓ : Loc Cert.HidReferenceIdeal.nD Cert.HidReferenceIdeal.τ Cert.HidReferenceIdeal.sig) → Buf (Elt Ideal) ℓ) (g : Dev Cert.HidReferenceIdeal.nD → PrngReg), Pre_HidReferenceIdeal m →
    θ_run (Cert.HidReferenceIdeal.defs (F := Ideal)) (onTc (τ := Cert.HidReferenceIdeal.τ) (Cert.HidReferenceIdeal.main (F := Ideal))) ⟨m, fun _ => 0, g⟩ (fun r => (∀ c : Dev Cert.HidReferenceIdeal.nD,
      r.2.mem ((c.tc : Thread Cert.HidReferenceIdeal.nD Cert.HidReferenceIdeal.τ).loc Cert.HidReferenceIdeal.main_arg0) = m ((c.tc : Thread Cert.HidReferenceIdeal.nD Cert.HidReferenceIdeal.τ).loc Cert.HidReferenceIdeal.main_arg0)
      ∧ r.2.mem ((c.tc : Thread Cert.HidReferenceIdeal.nD Cert.HidReferenceIdeal.τ).loc Cert.HidReferenceIdeal.main_arg1) = m ((c.tc : Thread Cert.HidReferenceIdeal.nD Cert.HidReferenceIdeal.τ).loc Cert.HidReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_Gu [hGu : Cert.Gu.Facts] : Prop :=
  ∀ (m : (ℓ : Loc Cert.Gu.nD Cert.Gu.τ Cert.Gu.sig) → Buf (Elt Bits) ℓ) (g : Dev Cert.Gu.nD → PrngReg), Pre_Gu m →
    θ_run (Cert.Gu.defs (F := Bits)) (onTc (τ := Cert.Gu.τ) (Cert.Gu.main (F := Bits))) ⟨m, fun _ => 0, g⟩ (fun r => (∀ c : Dev Cert.Gu.nD,
      r.2.mem ((c.tc : Thread Cert.Gu.nD Cert.Gu.τ).loc Cert.Gu.main_arg0) = m ((c.tc : Thread Cert.Gu.nD Cert.Gu.τ).loc Cert.Gu.main_arg0)
      ∧ r.2.mem ((c.tc : Thread Cert.Gu.nD Cert.Gu.τ).loc Cert.Gu.main_arg1) = m ((c.tc : Thread Cert.Gu.nD Cert.Gu.τ).loc Cert.Gu.main_arg1))
      ∧ r.2.sem = fun _ => 0)

def quiescent_GuIdeal [hGuIdeal : Cert.GuIdeal.Facts] : Prop :=
  ∀ (m : (ℓ : Loc Cert.GuIdeal.nD Cert.GuIdeal.τ Cert.GuIdeal.sig) → Buf (Elt Ideal) ℓ) (g : Dev Cert.GuIdeal.nD → PrngReg), Pre_GuIdeal m →
    θ_run (Cert.GuIdeal.defs (F := Ideal)) (onTc (τ := Cert.GuIdeal.τ) (Cert.GuIdeal.main (F := Ideal))) ⟨m, fun _ => 0, g⟩ (fun r => (∀ c : Dev Cert.GuIdeal.nD,
      r.2.mem ((c.tc : Thread Cert.GuIdeal.nD Cert.GuIdeal.τ).loc Cert.GuIdeal.main_arg0) = m ((c.tc : Thread Cert.GuIdeal.nD Cert.GuIdeal.τ).loc Cert.GuIdeal.main_arg0)
      ∧ r.2.mem ((c.tc : Thread Cert.GuIdeal.nD Cert.GuIdeal.τ).loc Cert.GuIdeal.main_arg1) = m ((c.tc : Thread Cert.GuIdeal.nD Cert.GuIdeal.τ).loc Cert.GuIdeal.main_arg1))
      ∧ r.2.sem = fun _ => 0)

def quiescent_GuReferenceIdeal [hGuReferenceIdeal : Cert.GuReferenceIdeal.Facts] : Prop :=
  ∀ (m : (ℓ : Loc Cert.GuReferenceIdeal.nD Cert.GuReferenceIdeal.τ Cert.GuReferenceIdeal.sig) → Buf (Elt Ideal) ℓ) (g : Dev Cert.GuReferenceIdeal.nD → PrngReg), Pre_GuReferenceIdeal m →
    θ_run (Cert.GuReferenceIdeal.defs (F := Ideal)) (onTc (τ := Cert.GuReferenceIdeal.τ) (Cert.GuReferenceIdeal.main (F := Ideal))) ⟨m, fun _ => 0, g⟩ (fun r => (∀ c : Dev Cert.GuReferenceIdeal.nD,
      r.2.mem ((c.tc : Thread Cert.GuReferenceIdeal.nD Cert.GuReferenceIdeal.τ).loc Cert.GuReferenceIdeal.main_arg0) = m ((c.tc : Thread Cert.GuReferenceIdeal.nD Cert.GuReferenceIdeal.τ).loc Cert.GuReferenceIdeal.main_arg0)
      ∧ r.2.mem ((c.tc : Thread Cert.GuReferenceIdeal.nD Cert.GuReferenceIdeal.τ).loc Cert.GuReferenceIdeal.main_arg1) = m ((c.tc : Thread Cert.GuReferenceIdeal.nD Cert.GuReferenceIdeal.τ).loc Cert.GuReferenceIdeal.main_arg1))
      ∧ r.2.sem = fun _ => 0)

def quiescent_Ya [hYa : Cert.Ya.Facts] : Prop :=
  ∀ (m : (ℓ : Loc Cert.Ya.nD Cert.Ya.τ Cert.Ya.sig) → Buf (Elt Bits) ℓ) (g : Dev Cert.Ya.nD → PrngReg), Pre_Ya m →
    θ_run (Cert.Ya.defs (F := Bits)) (onTc (τ := Cert.Ya.τ) (Cert.Ya.main (F := Bits))) ⟨m, fun _ => 0, g⟩ (fun r => (∀ c : Dev Cert.Ya.nD,
      r.2.mem ((c.tc : Thread Cert.Ya.nD Cert.Ya.τ).loc Cert.Ya.main_arg0) = m ((c.tc : Thread Cert.Ya.nD Cert.Ya.τ).loc Cert.Ya.main_arg0)
      ∧ r.2.mem ((c.tc : Thread Cert.Ya.nD Cert.Ya.τ).loc Cert.Ya.main_arg1) = m ((c.tc : Thread Cert.Ya.nD Cert.Ya.τ).loc Cert.Ya.main_arg1))
      ∧ r.2.sem = fun _ => 0)

def quiescent_YaIdeal [hYaIdeal : Cert.YaIdeal.Facts] : Prop :=
  ∀ (m : (ℓ : Loc Cert.YaIdeal.nD Cert.YaIdeal.τ Cert.YaIdeal.sig) → Buf (Elt Ideal) ℓ) (g : Dev Cert.YaIdeal.nD → PrngReg), Pre_YaIdeal m →
    θ_run (Cert.YaIdeal.defs (F := Ideal)) (onTc (τ := Cert.YaIdeal.τ) (Cert.YaIdeal.main (F := Ideal))) ⟨m, fun _ => 0, g⟩ (fun r => (∀ c : Dev Cert.YaIdeal.nD,
      r.2.mem ((c.tc : Thread Cert.YaIdeal.nD Cert.YaIdeal.τ).loc Cert.YaIdeal.main_arg0) = m ((c.tc : Thread Cert.YaIdeal.nD Cert.YaIdeal.τ).loc Cert.YaIdeal.main_arg0)
      ∧ r.2.mem ((c.tc : Thread Cert.YaIdeal.nD Cert.YaIdeal.τ).loc Cert.YaIdeal.main_arg1) = m ((c.tc : Thread Cert.YaIdeal.nD Cert.YaIdeal.τ).loc Cert.YaIdeal.main_arg1))
      ∧ r.2.sem = fun _ => 0)

def quiescent_YaReferenceIdeal [hYaReferenceIdeal : Cert.YaReferenceIdeal.Facts] : Prop :=
  ∀ (m : (ℓ : Loc Cert.YaReferenceIdeal.nD Cert.YaReferenceIdeal.τ Cert.YaReferenceIdeal.sig) → Buf (Elt Ideal) ℓ) (g : Dev Cert.YaReferenceIdeal.nD → PrngReg), Pre_YaReferenceIdeal m →
    θ_run (Cert.YaReferenceIdeal.defs (F := Ideal)) (onTc (τ := Cert.YaReferenceIdeal.τ) (Cert.YaReferenceIdeal.main (F := Ideal))) ⟨m, fun _ => 0, g⟩ (fun r => (∀ c : Dev Cert.YaReferenceIdeal.nD,
      r.2.mem ((c.tc : Thread Cert.YaReferenceIdeal.nD Cert.YaReferenceIdeal.τ).loc Cert.YaReferenceIdeal.main_arg0) = m ((c.tc : Thread Cert.YaReferenceIdeal.nD Cert.YaReferenceIdeal.τ).loc Cert.YaReferenceIdeal.main_arg0)
      ∧ r.2.mem ((c.tc : Thread Cert.YaReferenceIdeal.nD Cert.YaReferenceIdeal.τ).loc Cert.YaReferenceIdeal.main_arg1) = m ((c.tc : Thread Cert.YaReferenceIdeal.nD Cert.YaReferenceIdeal.τ).loc Cert.YaReferenceIdeal.main_arg1))
      ∧ r.2.sem = fun _ => 0)

def quiescent_Dmix [hDmix : Cert.Dmix.Facts] : Prop :=
  ∀ (m : (ℓ : Loc Cert.Dmix.nD Cert.Dmix.τ Cert.Dmix.sig) → Buf (Elt Bits) ℓ) (g : Dev Cert.Dmix.nD → PrngReg), Pre_Dmix m →
    θ_run (Cert.Dmix.defs (F := Bits)) (onTc (τ := Cert.Dmix.τ) (Cert.Dmix.main (F := Bits))) ⟨m, fun _ => 0, g⟩ (fun r => (∀ c : Dev Cert.Dmix.nD,
      r.2.mem ((c.tc : Thread Cert.Dmix.nD Cert.Dmix.τ).loc Cert.Dmix.main_arg0) = m ((c.tc : Thread Cert.Dmix.nD Cert.Dmix.τ).loc Cert.Dmix.main_arg0)
      ∧ r.2.mem ((c.tc : Thread Cert.Dmix.nD Cert.Dmix.τ).loc Cert.Dmix.main_arg1) = m ((c.tc : Thread Cert.Dmix.nD Cert.Dmix.τ).loc Cert.Dmix.main_arg1))
      ∧ r.2.sem = fun _ => 0)

def quiescent_DmixIdeal [hDmixIdeal : Cert.DmixIdeal.Facts] : Prop :=
  ∀ (m : (ℓ : Loc Cert.DmixIdeal.nD Cert.DmixIdeal.τ Cert.DmixIdeal.sig) → Buf (Elt Ideal) ℓ) (g : Dev Cert.DmixIdeal.nD → PrngReg), Pre_DmixIdeal m →
    θ_run (Cert.DmixIdeal.defs (F := Ideal)) (onTc (τ := Cert.DmixIdeal.τ) (Cert.DmixIdeal.main (F := Ideal))) ⟨m, fun _ => 0, g⟩ (fun r => (∀ c : Dev Cert.DmixIdeal.nD,
      r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
      ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1))
      ∧ r.2.sem = fun _ => 0)

def quiescent_DmixReferenceIdeal [hDmixReferenceIdeal : Cert.DmixReferenceIdeal.Facts] : Prop :=
  ∀ (m : (ℓ : Loc Cert.DmixReferenceIdeal.nD Cert.DmixReferenceIdeal.τ Cert.DmixReferenceIdeal.sig) → Buf (Elt Ideal) ℓ) (g : Dev Cert.DmixReferenceIdeal.nD → PrngReg), Pre_DmixReferenceIdeal m →
    θ_run (Cert.DmixReferenceIdeal.defs (F := Ideal)) (onTc (τ := Cert.DmixReferenceIdeal.τ) (Cert.DmixReferenceIdeal.main (F := Ideal))) ⟨m, fun _ => 0, g⟩ (fun r => (∀ c : Dev Cert.DmixReferenceIdeal.nD,
      r.2.mem ((c.tc : Thread Cert.DmixReferenceIdeal.nD Cert.DmixReferenceIdeal.τ).loc Cert.DmixReferenceIdeal.main_arg0) = m ((c.tc : Thread Cert.DmixReferenceIdeal.nD Cert.DmixReferenceIdeal.τ).loc Cert.DmixReferenceIdeal.main_arg0)
      ∧ r.2.mem ((c.tc : Thread Cert.DmixReferenceIdeal.nD Cert.DmixReferenceIdeal.τ).loc Cert.DmixReferenceIdeal.main_arg1) = m ((c.tc : Thread Cert.DmixReferenceIdeal.nD Cert.DmixReferenceIdeal.τ).loc Cert.DmixReferenceIdeal.main_arg1))
      ∧ r.2.sem = fun _ => 0)

def quiescent_Wo [hWo : Cert.Wo.Facts] : Prop :=
  ∀ (m : (ℓ : Loc Cert.Wo.nD Cert.Wo.τ Cert.Wo.sig) → Buf (Elt Bits) ℓ) (g : Dev Cert.Wo.nD → PrngReg), Pre_Wo m →
    θ_run (Cert.Wo.defs (F := Bits)) (onTc (τ := Cert.Wo.τ) (Cert.Wo.main (F := Bits))) ⟨m, fun _ => 0, g⟩ (fun r => (∀ c : Dev Cert.Wo.nD,
      r.2.mem ((c.tc : Thread Cert.Wo.nD Cert.Wo.τ).loc Cert.Wo.main_arg0) = m ((c.tc : Thread Cert.Wo.nD Cert.Wo.τ).loc Cert.Wo.main_arg0)
      ∧ r.2.mem ((c.tc : Thread Cert.Wo.nD Cert.Wo.τ).loc Cert.Wo.main_arg1) = m ((c.tc : Thread Cert.Wo.nD Cert.Wo.τ).loc Cert.Wo.main_arg1))
      ∧ r.2.sem = fun _ => 0)

def quiescent_WoIdeal [hWoIdeal : Cert.WoIdeal.Facts] : Prop :=
  ∀ (m : (ℓ : Loc Cert.WoIdeal.nD Cert.WoIdeal.τ Cert.WoIdeal.sig) → Buf (Elt Ideal) ℓ) (g : Dev Cert.WoIdeal.nD → PrngReg), Pre_WoIdeal m →
    θ_run (Cert.WoIdeal.defs (F := Ideal)) (onTc (τ := Cert.WoIdeal.τ) (Cert.WoIdeal.main (F := Ideal))) ⟨m, fun _ => 0, g⟩ (fun r => (∀ c : Dev Cert.WoIdeal.nD,
      r.2.mem ((c.tc : Thread Cert.WoIdeal.nD Cert.WoIdeal.τ).loc Cert.WoIdeal.main_arg0) = m ((c.tc : Thread Cert.WoIdeal.nD Cert.WoIdeal.τ).loc Cert.WoIdeal.main_arg0)
      ∧ r.2.mem ((c.tc : Thread Cert.WoIdeal.nD Cert.WoIdeal.τ).loc Cert.WoIdeal.main_arg1) = m ((c.tc : Thread Cert.WoIdeal.nD Cert.WoIdeal.τ).loc Cert.WoIdeal.main_arg1))
      ∧ r.2.sem = fun _ => 0)

def quiescent_WoReferenceIdeal [hWoReferenceIdeal : Cert.WoReferenceIdeal.Facts] : Prop :=
  ∀ (m : (ℓ : Loc Cert.WoReferenceIdeal.nD Cert.WoReferenceIdeal.τ Cert.WoReferenceIdeal.sig) → Buf (Elt Ideal) ℓ) (g : Dev Cert.WoReferenceIdeal.nD → PrngReg), Pre_WoReferenceIdeal m →
    θ_run (Cert.WoReferenceIdeal.defs (F := Ideal)) (onTc (τ := Cert.WoReferenceIdeal.τ) (Cert.WoReferenceIdeal.main (F := Ideal))) ⟨m, fun _ => 0, g⟩ (fun r => (∀ c : Dev Cert.WoReferenceIdeal.nD,
      r.2.mem ((c.tc : Thread Cert.WoReferenceIdeal.nD Cert.WoReferenceIdeal.τ).loc Cert.WoReferenceIdeal.main_arg0) = m ((c.tc : Thread Cert.WoReferenceIdeal.nD Cert.WoReferenceIdeal.τ).loc Cert.WoReferenceIdeal.main_arg0)
      ∧ r.2.mem ((c.tc : Thread Cert.WoReferenceIdeal.nD Cert.WoReferenceIdeal.τ).loc Cert.WoReferenceIdeal.main_arg1) = m ((c.tc : Thread Cert.WoReferenceIdeal.nD Cert.WoReferenceIdeal.τ).loc Cert.WoReferenceIdeal.main_arg1))
      ∧ r.2.sem = fun _ => 0)

def quiescent_SumDev [hSumDev : Cert.SumDev.Facts] : Prop :=
  ∀ (m : (ℓ : Loc Cert.SumDev.nD Cert.SumDev.τ Cert.SumDev.sig) → Buf (Elt Bits) ℓ) (g : Dev Cert.SumDev.nD → PrngReg), Pre_SumDev m →
    θ_run (Cert.SumDev.defs (F := Bits)) (onTc (τ := Cert.SumDev.τ) (Cert.SumDev.main (F := Bits))) ⟨m, fun _ => 0, g⟩ (fun r => (∀ c : Dev Cert.SumDev.nD,
      r.2.mem ((c.tc : Thread Cert.SumDev.nD Cert.SumDev.τ).loc Cert.SumDev.main_arg0) = m ((c.tc : Thread Cert.SumDev.nD Cert.SumDev.τ).loc Cert.SumDev.main_arg0))
      ∧ r.2.sem = fun _ => 0)

def quiescent_SumDevIdeal [hSumDevIdeal : Cert.SumDevIdeal.Facts] : Prop :=
  ∀ (m : (ℓ : Loc Cert.SumDevIdeal.nD Cert.SumDevIdeal.τ Cert.SumDevIdeal.sig) → Buf (Elt Ideal) ℓ) (g : Dev Cert.SumDevIdeal.nD → PrngReg), Pre_SumDevIdeal m →
    θ_run (Cert.SumDevIdeal.defs (F := Ideal)) (onTc (τ := Cert.SumDevIdeal.τ) (Cert.SumDevIdeal.main (F := Ideal))) ⟨m, fun _ => 0, g⟩ (fun r => (∀ c : Dev Cert.SumDevIdeal.nD,
      r.2.mem ((c.tc : Thread Cert.SumDevIdeal.nD Cert.SumDevIdeal.τ).loc Cert.SumDevIdeal.main_arg0) = m ((c.tc : Thread Cert.SumDevIdeal.nD Cert.SumDevIdeal.τ).loc Cert.SumDevIdeal.main_arg0))
      ∧ r.2.sem = fun _ => 0)

def quiescent_SumDevReferenceIdeal [hSumDevReferenceIdeal : Cert.SumDevReferenceIdeal.Facts] : Prop :=
  ∀ (m : (ℓ : Loc Cert.SumDevReferenceIdeal.nD Cert.SumDevReferenceIdeal.τ Cert.SumDevReferenceIdeal.sig) → Buf (Elt Ideal) ℓ) (g : Dev Cert.SumDevReferenceIdeal.nD → PrngReg), Pre_SumDevReferenceIdeal m →
    θ_run (Cert.SumDevReferenceIdeal.defs (F := Ideal)) (onTc (τ := Cert.SumDevReferenceIdeal.τ) (Cert.SumDevReferenceIdeal.main (F := Ideal))) ⟨m, fun _ => 0, g⟩ (fun r => (∀ c : Dev Cert.SumDevReferenceIdeal.nD,
      r.2.mem ((c.tc : Thread Cert.SumDevReferenceIdeal.nD Cert.SumDevReferenceIdeal.τ).loc Cert.SumDevReferenceIdeal.main_arg0) = m ((c.tc : Thread Cert.SumDevReferenceIdeal.nD Cert.SumDevReferenceIdeal.τ).loc Cert.SumDevReferenceIdeal.main_arg0))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormReferenceIdeal [hAdamNormReferenceIdeal : Cert.AdamNormReferenceIdeal.Facts] : Prop :=
  ∀ (m : (ℓ : Loc Cert.AdamNormReferenceIdeal.nD Cert.AdamNormReferenceIdeal.τ Cert.AdamNormReferenceIdeal.sig) → Buf (Elt Ideal) ℓ) (g : Dev Cert.AdamNormReferenceIdeal.nD → PrngReg), Pre_AdamNormReferenceIdeal m →
    θ_run (Cert.AdamNormReferenceIdeal.defs (F := Ideal)) (onTc (τ := Cert.AdamNormReferenceIdeal.τ) (Cert.AdamNormReferenceIdeal.main (F := Ideal))) ⟨m, fun _ => 0, g⟩ (fun r => (∀ c : Dev Cert.AdamNormReferenceIdeal.nD,
      r.2.mem ((c.tc : Thread Cert.AdamNormReferenceIdeal.nD Cert.AdamNormReferenceIdeal.τ).loc Cert.AdamNormReferenceIdeal.main_arg0) = m ((c.tc : Thread Cert.AdamNormReferenceIdeal.nD Cert.AdamNormReferenceIdeal.τ).loc Cert.AdamNormReferenceIdeal.main_arg0)
      ∧ r.2.mem ((c.tc : Thread Cert.AdamNormReferenceIdeal.nD Cert.AdamNormReferenceIdeal.τ).loc Cert.AdamNormReferenceIdeal.main_arg1) = m ((c.tc : Thread Cert.AdamNormReferenceIdeal.nD Cert.AdamNormReferenceIdeal.τ).loc Cert.AdamNormReferenceIdeal.main_arg1)
      ∧ r.2.mem ((c.tc : Thread Cert.AdamNormReferenceIdeal.nD Cert.AdamNormReferenceIdeal.τ).loc Cert.AdamNormReferenceIdeal.main_arg2) = m ((c.tc : Thread Cert.AdamNormReferenceIdeal.nD Cert.AdamNormReferenceIdeal.τ).loc Cert.AdamNormReferenceIdeal.main_arg2)
      ∧ r.2.mem ((c.tc : Thread Cert.AdamNormReferenceIdeal.nD Cert.AdamNormReferenceIdeal.τ).loc Cert.AdamNormReferenceIdeal.main_arg3) = m ((c.tc : Thread Cert.AdamNormReferenceIdeal.nD Cert.AdamNormReferenceIdeal.τ).loc Cert.AdamNormReferenceIdeal.main_arg3))
      ∧ r.2.sem = fun _ => 0)

def quiescent_AdamFgB [hAdamFgB : Cert.AdamFgB.Facts] : Prop :=
  ∀ (m : (ℓ : Loc Cert.AdamFgB.nD Cert.AdamFgB.τ Cert.AdamFgB.sig) → Buf (Elt Bits) ℓ) (g : Dev Cert.AdamFgB.nD → PrngReg), Pre_AdamFgB m →
    θ_run (Cert.AdamFgB.defs (F := Bits)) (onTc (τ := Cert.AdamFgB.τ) (Cert.AdamFgB.main (F := Bits))) ⟨m, fun _ => 0, g⟩ (fun r => (∀ c : Dev Cert.AdamFgB.nD,
      r.2.mem ((c.tc : Thread Cert.AdamFgB.nD Cert.AdamFgB.τ).loc Cert.AdamFgB.main_arg0) = m ((c.tc : Thread Cert.AdamFgB.nD Cert.AdamFgB.τ).loc Cert.AdamFgB.main_arg0)
      ∧ r.2.mem ((c.tc : Thread Cert.AdamFgB.nD Cert.AdamFgB.τ).loc Cert.AdamFgB.main_arg1) = m ((c.tc : Thread Cert.AdamFgB.nD Cert.AdamFgB.τ).loc Cert.AdamFgB.main_arg1)
      ∧ r.2.mem ((c.tc : Thread Cert.AdamFgB.nD Cert.AdamFgB.τ).loc Cert.AdamFgB.main_arg2) = m ((c.tc : Thread Cert.AdamFgB.nD Cert.AdamFgB.τ).loc Cert.AdamFgB.main_arg2)
      ∧ r.2.mem ((c.tc : Thread Cert.AdamFgB.nD Cert.AdamFgB.τ).loc Cert.AdamFgB.main_arg3) = m ((c.tc : Thread Cert.AdamFgB.nD Cert.AdamFgB.τ).loc Cert.AdamFgB.main_arg3))
      ∧ r.2.sem = fun _ => 0)

def quiescent_AdamFgBIdeal [hAdamFgBIdeal : Cert.AdamFgBIdeal.Facts] : Prop :=
  ∀ (m : (ℓ : Loc Cert.AdamFgBIdeal.nD Cert.AdamFgBIdeal.τ Cert.AdamFgBIdeal.sig) → Buf (Elt Ideal) ℓ) (g : Dev Cert.AdamFgBIdeal.nD → PrngReg), Pre_AdamFgBIdeal m →
    θ_run (Cert.AdamFgBIdeal.defs (F := Ideal)) (onTc (τ := Cert.AdamFgBIdeal.τ) (Cert.AdamFgBIdeal.main (F := Ideal))) ⟨m, fun _ => 0, g⟩ (fun r => (∀ c : Dev Cert.AdamFgBIdeal.nD,
      r.2.mem ((c.tc : Thread Cert.AdamFgBIdeal.nD Cert.AdamFgBIdeal.τ).loc Cert.AdamFgBIdeal.main_arg0) = m ((c.tc : Thread Cert.AdamFgBIdeal.nD Cert.AdamFgBIdeal.τ).loc Cert.AdamFgBIdeal.main_arg0)
      ∧ r.2.mem ((c.tc : Thread Cert.AdamFgBIdeal.nD Cert.AdamFgBIdeal.τ).loc Cert.AdamFgBIdeal.main_arg1) = m ((c.tc : Thread Cert.AdamFgBIdeal.nD Cert.AdamFgBIdeal.τ).loc Cert.AdamFgBIdeal.main_arg1)
      ∧ r.2.mem ((c.tc : Thread Cert.AdamFgBIdeal.nD Cert.AdamFgBIdeal.τ).loc Cert.AdamFgBIdeal.main_arg2) = m ((c.tc : Thread Cert.AdamFgBIdeal.nD Cert.AdamFgBIdeal.τ).loc Cert.AdamFgBIdeal.main_arg2)
      ∧ r.2.mem ((c.tc : Thread Cert.AdamFgBIdeal.nD Cert.AdamFgBIdeal.τ).loc Cert.AdamFgBIdeal.main_arg3) = m ((c.tc : Thread Cert.AdamFgBIdeal.nD Cert.AdamFgBIdeal.τ).loc Cert.AdamFgBIdeal.main_arg3))
      ∧ r.2.sem = fun _ => 0)

def quiescent_AdamFgBReferenceIdeal [hAdamFgBReferenceIdeal : Cert.AdamFgBReferenceIdeal.Facts] : Prop :=
  ∀ (m : (ℓ : Loc Cert.AdamFgBReferenceIdeal.nD Cert.AdamFgBReferenceIdeal.τ Cert.AdamFgBReferenceIdeal.sig) → Buf (Elt Ideal) ℓ) (g : Dev Cert.AdamFgBReferenceIdeal.nD → PrngReg), Pre_AdamFgBReferenceIdeal m →
    θ_run (Cert.AdamFgBReferenceIdeal.defs (F := Ideal)) (onTc (τ := Cert.AdamFgBReferenceIdeal.τ) (Cert.AdamFgBReferenceIdeal.main (F := Ideal))) ⟨m, fun _ => 0, g⟩ (fun r => (∀ c : Dev Cert.AdamFgBReferenceIdeal.nD,
      r.2.mem ((c.tc : Thread Cert.AdamFgBReferenceIdeal.nD Cert.AdamFgBReferenceIdeal.τ).loc Cert.AdamFgBReferenceIdeal.main_arg0) = m ((c.tc : Thread Cert.AdamFgBReferenceIdeal.nD Cert.AdamFgBReferenceIdeal.τ).loc Cert.AdamFgBReferenceIdeal.main_arg0)
      ∧ r.2.mem ((c.tc : Thread Cert.AdamFgBReferenceIdeal.nD Cert.AdamFgBReferenceIdeal.τ).loc Cert.AdamFgBReferenceIdeal.main_arg1) = m ((c.tc : Thread Cert.AdamFgBReferenceIdeal.nD Cert.AdamFgBReferenceIdeal.τ).loc Cert.AdamFgBReferenceIdeal.main_arg1)
      ∧ r.2.mem ((c.tc : Thread Cert.AdamFgBReferenceIdeal.nD Cert.AdamFgBReferenceIdeal.τ).loc Cert.AdamFgBReferenceIdeal.main_arg2) = m ((c.tc : Thread Cert.AdamFgBReferenceIdeal.nD Cert.AdamFgBReferenceIdeal.τ).loc Cert.AdamFgBReferenceIdeal.main_arg2)
      ∧ r.2.mem ((c.tc : Thread Cert.AdamFgBReferenceIdeal.nD Cert.AdamFgBReferenceIdeal.τ).loc Cert.AdamFgBReferenceIdeal.main_arg3) = m ((c.tc : Thread Cert.AdamFgBReferenceIdeal.nD Cert.AdamFgBReferenceIdeal.τ).loc Cert.AdamFgBReferenceIdeal.main_arg3))
      ∧ r.2.sem = fun _ => 0)

def quiescent_AdamGla [hAdamGla : Cert.AdamGla.Facts] : Prop :=
  ∀ (m : (ℓ : Loc Cert.AdamGla.nD Cert.AdamGla.τ Cert.AdamGla.sig) → Buf (Elt Bits) ℓ) (g : Dev Cert.AdamGla.nD → PrngReg), Pre_AdamGla m →
    θ_run (Cert.AdamGla.defs (F := Bits)) (onTc (τ := Cert.AdamGla.τ) (Cert.AdamGla.main (F := Bits))) ⟨m, fun _ => 0, g⟩ (fun r => (∀ c : Dev Cert.AdamGla.nD,
      r.2.mem ((c.tc : Thread Cert.AdamGla.nD Cert.AdamGla.τ).loc Cert.AdamGla.main_arg0) = m ((c.tc : Thread Cert.AdamGla.nD Cert.AdamGla.τ).loc Cert.AdamGla.main_arg0)
      ∧ r.2.mem ((c.tc : Thread Cert.AdamGla.nD Cert.AdamGla.τ).loc Cert.AdamGla.main_arg1) = m ((c.tc : Thread Cert.AdamGla.nD Cert.AdamGla.τ).loc Cert.AdamGla.main_arg1)
      ∧ r.2.mem ((c.tc : Thread Cert.AdamGla.nD Cert.AdamGla.τ).loc Cert.AdamGla.main_arg2) = m ((c.tc : Thread Cert.AdamGla.nD Cert.AdamGla.τ).loc Cert.AdamGla.main_arg2)
      ∧ r.2.mem ((c.tc : Thread Cert.AdamGla.nD Cert.AdamGla.τ).loc Cert.AdamGla.main_arg3) = m ((c.tc : Thread Cert.AdamGla.nD Cert.AdamGla.τ).loc Cert.AdamGla.main_arg3))
      ∧ r.2.sem = fun _ => 0)

def quiescent_AdamGlaIdeal [hAdamGlaIdeal : Cert.AdamGlaIdeal.Facts] : Prop :=
  ∀ (m : (ℓ : Loc Cert.AdamGlaIdeal.nD Cert.AdamGlaIdeal.τ Cert.AdamGlaIdeal.sig) → Buf (Elt Ideal) ℓ) (g : Dev Cert.AdamGlaIdeal.nD → PrngReg), Pre_AdamGlaIdeal m →
    θ_run (Cert.AdamGlaIdeal.defs (F := Ideal)) (onTc (τ := Cert.AdamGlaIdeal.τ) (Cert.AdamGlaIdeal.main (F := Ideal))) ⟨m, fun _ => 0, g⟩ (fun r => (∀ c : Dev Cert.AdamGlaIdeal.nD,
      r.2.mem ((c.tc : Thread Cert.AdamGlaIdeal.nD Cert.AdamGlaIdeal.τ).loc Cert.AdamGlaIdeal.main_arg0) = m ((c.tc : Thread Cert.AdamGlaIdeal.nD Cert.AdamGlaIdeal.τ).loc Cert.AdamGlaIdeal.main_arg0)
      ∧ r.2.mem ((c.tc : Thread Cert.AdamGlaIdeal.nD Cert.AdamGlaIdeal.τ).loc Cert.AdamGlaIdeal.main_arg1) = m ((c.tc : Thread Cert.AdamGlaIdeal.nD Cert.AdamGlaIdeal.τ).loc Cert.AdamGlaIdeal.main_arg1)
      ∧ r.2.mem ((c.tc : Thread Cert.AdamGlaIdeal.nD Cert.AdamGlaIdeal.τ).loc Cert.AdamGlaIdeal.main_arg2) = m ((c.tc : Thread Cert.AdamGlaIdeal.nD Cert.AdamGlaIdeal.τ).loc Cert.AdamGlaIdeal.main_arg2)
      ∧ r.2.mem ((c.tc : Thread Cert.AdamGlaIdeal.nD Cert.AdamGlaIdeal.τ).loc Cert.AdamGlaIdeal.main_arg3) = m ((c.tc : Thread Cert.AdamGlaIdeal.nD Cert.AdamGlaIdeal.τ).loc Cert.AdamGlaIdeal.main_arg3))
      ∧ r.2.sem = fun _ => 0)

def quiescent_AdamGlaReferenceIdeal [hAdamGlaReferenceIdeal : Cert.AdamGlaReferenceIdeal.Facts] : Prop :=
  ∀ (m : (ℓ : Loc Cert.AdamGlaReferenceIdeal.nD Cert.AdamGlaReferenceIdeal.τ Cert.AdamGlaReferenceIdeal.sig) → Buf (Elt Ideal) ℓ) (g : Dev Cert.AdamGlaReferenceIdeal.nD → PrngReg), Pre_AdamGlaReferenceIdeal m →
    θ_run (Cert.AdamGlaReferenceIdeal.defs (F := Ideal)) (onTc (τ := Cert.AdamGlaReferenceIdeal.τ) (Cert.AdamGlaReferenceIdeal.main (F := Ideal))) ⟨m, fun _ => 0, g⟩ (fun r => (∀ c : Dev Cert.AdamGlaReferenceIdeal.nD,
      r.2.mem ((c.tc : Thread Cert.AdamGlaReferenceIdeal.nD Cert.AdamGlaReferenceIdeal.τ).loc Cert.AdamGlaReferenceIdeal.main_arg0) = m ((c.tc : Thread Cert.AdamGlaReferenceIdeal.nD Cert.AdamGlaReferenceIdeal.τ).loc Cert.AdamGlaReferenceIdeal.main_arg0)
      ∧ r.2.mem ((c.tc : Thread Cert.AdamGlaReferenceIdeal.nD Cert.AdamGlaReferenceIdeal.τ).loc Cert.AdamGlaReferenceIdeal.main_arg1) = m ((c.tc : Thread Cert.AdamGlaReferenceIdeal.nD Cert.AdamGlaReferenceIdeal.τ).loc Cert.AdamGlaReferenceIdeal.main_arg1)
      ∧ r.2.mem ((c.tc : Thread Cert.AdamGlaReferenceIdeal.nD Cert.AdamGlaReferenceIdeal.τ).loc Cert.AdamGlaReferenceIdeal.main_arg2) = m ((c.tc : Thread Cert.AdamGlaReferenceIdeal.nD Cert.AdamGlaReferenceIdeal.τ).loc Cert.AdamGlaReferenceIdeal.main_arg2)
      ∧ r.2.mem ((c.tc : Thread Cert.AdamGlaReferenceIdeal.nD Cert.AdamGlaReferenceIdeal.τ).loc Cert.AdamGlaReferenceIdeal.main_arg3) = m ((c.tc : Thread Cert.AdamGlaReferenceIdeal.nD Cert.AdamGlaReferenceIdeal.τ).loc Cert.AdamGlaReferenceIdeal.main_arg3))
      ∧ r.2.sem = fun _ => 0)

def quiescent_AdamFinal [hAdamFinal : Cert.AdamFinal.Facts] : Prop :=
  ∀ (m : (ℓ : Loc Cert.AdamFinal.nD Cert.AdamFinal.τ Cert.AdamFinal.sig) → Buf (Elt Bits) ℓ) (g : Dev Cert.AdamFinal.nD → PrngReg), Pre_AdamFinal m →
    θ_run (Cert.AdamFinal.defs (F := Bits)) (onTc (τ := Cert.AdamFinal.τ) (Cert.AdamFinal.main (F := Bits))) ⟨m, fun _ => 0, g⟩ (fun r => (∀ c : Dev Cert.AdamFinal.nD,
      r.2.mem ((c.tc : Thread Cert.AdamFinal.nD Cert.AdamFinal.τ).loc Cert.AdamFinal.main_arg0) = m ((c.tc : Thread Cert.AdamFinal.nD Cert.AdamFinal.τ).loc Cert.AdamFinal.main_arg0)
      ∧ r.2.mem ((c.tc : Thread Cert.AdamFinal.nD Cert.AdamFinal.τ).loc Cert.AdamFinal.main_arg1) = m ((c.tc : Thread Cert.AdamFinal.nD Cert.AdamFinal.τ).loc Cert.AdamFinal.main_arg1)
      ∧ r.2.mem ((c.tc : Thread Cert.AdamFinal.nD Cert.AdamFinal.τ).loc Cert.AdamFinal.main_arg2) = m ((c.tc : Thread Cert.AdamFinal.nD Cert.AdamFinal.τ).loc Cert.AdamFinal.main_arg2)
      ∧ r.2.mem ((c.tc : Thread Cert.AdamFinal.nD Cert.AdamFinal.τ).loc Cert.AdamFinal.main_arg3) = m ((c.tc : Thread Cert.AdamFinal.nD Cert.AdamFinal.τ).loc Cert.AdamFinal.main_arg3))
      ∧ r.2.sem = fun _ => 0)

def quiescent_AdamFinalIdeal [hAdamFinalIdeal : Cert.AdamFinalIdeal.Facts] : Prop :=
  ∀ (m : (ℓ : Loc Cert.AdamFinalIdeal.nD Cert.AdamFinalIdeal.τ Cert.AdamFinalIdeal.sig) → Buf (Elt Ideal) ℓ) (g : Dev Cert.AdamFinalIdeal.nD → PrngReg), Pre_AdamFinalIdeal m →
    θ_run (Cert.AdamFinalIdeal.defs (F := Ideal)) (onTc (τ := Cert.AdamFinalIdeal.τ) (Cert.AdamFinalIdeal.main (F := Ideal))) ⟨m, fun _ => 0, g⟩ (fun r => (∀ c : Dev Cert.AdamFinalIdeal.nD,
      r.2.mem ((c.tc : Thread Cert.AdamFinalIdeal.nD Cert.AdamFinalIdeal.τ).loc Cert.AdamFinalIdeal.main_arg0) = m ((c.tc : Thread Cert.AdamFinalIdeal.nD Cert.AdamFinalIdeal.τ).loc Cert.AdamFinalIdeal.main_arg0)
      ∧ r.2.mem ((c.tc : Thread Cert.AdamFinalIdeal.nD Cert.AdamFinalIdeal.τ).loc Cert.AdamFinalIdeal.main_arg1) = m ((c.tc : Thread Cert.AdamFinalIdeal.nD Cert.AdamFinalIdeal.τ).loc Cert.AdamFinalIdeal.main_arg1)
      ∧ r.2.mem ((c.tc : Thread Cert.AdamFinalIdeal.nD Cert.AdamFinalIdeal.τ).loc Cert.AdamFinalIdeal.main_arg2) = m ((c.tc : Thread Cert.AdamFinalIdeal.nD Cert.AdamFinalIdeal.τ).loc Cert.AdamFinalIdeal.main_arg2)
      ∧ r.2.mem ((c.tc : Thread Cert.AdamFinalIdeal.nD Cert.AdamFinalIdeal.τ).loc Cert.AdamFinalIdeal.main_arg3) = m ((c.tc : Thread Cert.AdamFinalIdeal.nD Cert.AdamFinalIdeal.τ).loc Cert.AdamFinalIdeal.main_arg3))
      ∧ r.2.sem = fun _ => 0)

def quiescent_AdamFinalReferenceIdeal [hAdamFinalReferenceIdeal : Cert.AdamFinalReferenceIdeal.Facts] : Prop :=
  ∀ (m : (ℓ : Loc Cert.AdamFinalReferenceIdeal.nD Cert.AdamFinalReferenceIdeal.τ Cert.AdamFinalReferenceIdeal.sig) → Buf (Elt Ideal) ℓ) (g : Dev Cert.AdamFinalReferenceIdeal.nD → PrngReg), Pre_AdamFinalReferenceIdeal m →
    θ_run (Cert.AdamFinalReferenceIdeal.defs (F := Ideal)) (onTc (τ := Cert.AdamFinalReferenceIdeal.τ) (Cert.AdamFinalReferenceIdeal.main (F := Ideal))) ⟨m, fun _ => 0, g⟩ (fun r => (∀ c : Dev Cert.AdamFinalReferenceIdeal.nD,
      r.2.mem ((c.tc : Thread Cert.AdamFinalReferenceIdeal.nD Cert.AdamFinalReferenceIdeal.τ).loc Cert.AdamFinalReferenceIdeal.main_arg0) = m ((c.tc : Thread Cert.AdamFinalReferenceIdeal.nD Cert.AdamFinalReferenceIdeal.τ).loc Cert.AdamFinalReferenceIdeal.main_arg0)
      ∧ r.2.mem ((c.tc : Thread Cert.AdamFinalReferenceIdeal.nD Cert.AdamFinalReferenceIdeal.τ).loc Cert.AdamFinalReferenceIdeal.main_arg1) = m ((c.tc : Thread Cert.AdamFinalReferenceIdeal.nD Cert.AdamFinalReferenceIdeal.τ).loc Cert.AdamFinalReferenceIdeal.main_arg1)
      ∧ r.2.mem ((c.tc : Thread Cert.AdamFinalReferenceIdeal.nD Cert.AdamFinalReferenceIdeal.τ).loc Cert.AdamFinalReferenceIdeal.main_arg2) = m ((c.tc : Thread Cert.AdamFinalReferenceIdeal.nD Cert.AdamFinalReferenceIdeal.τ).loc Cert.AdamFinalReferenceIdeal.main_arg2)
      ∧ r.2.mem ((c.tc : Thread Cert.AdamFinalReferenceIdeal.nD Cert.AdamFinalReferenceIdeal.τ).loc Cert.AdamFinalReferenceIdeal.main_arg3) = m ((c.tc : Thread Cert.AdamFinalReferenceIdeal.nD Cert.AdamFinalReferenceIdeal.τ).loc Cert.AdamFinalReferenceIdeal.main_arg3))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ r.2.sem = fun _ => 0)

def quiescent_AdamSquareReferenceIdeal [hAdamSquareReferenceIdeal : Cert.AdamSquareReferenceIdeal.Facts] : Prop :=
  ∀ (m : (ℓ : Loc Cert.AdamSquareReferenceIdeal.nD Cert.AdamSquareReferenceIdeal.τ Cert.AdamSquareReferenceIdeal.sig) → Buf (Elt Ideal) ℓ) (g : Dev Cert.AdamSquareReferenceIdeal.nD → PrngReg), Pre_AdamSquareReferenceIdeal m →
    θ_run (Cert.AdamSquareReferenceIdeal.defs (F := Ideal)) (onTc (τ := Cert.AdamSquareReferenceIdeal.τ) (Cert.AdamSquareReferenceIdeal.main (F := Ideal))) ⟨m, fun _ => 0, g⟩ (fun r => (∀ c : Dev Cert.AdamSquareReferenceIdeal.nD,
      r.2.mem ((c.tc : Thread Cert.AdamSquareReferenceIdeal.nD Cert.AdamSquareReferenceIdeal.τ).loc Cert.AdamSquareReferenceIdeal.main_arg0) = m ((c.tc : Thread Cert.AdamSquareReferenceIdeal.nD Cert.AdamSquareReferenceIdeal.τ).loc Cert.AdamSquareReferenceIdeal.main_arg0)
      ∧ r.2.mem ((c.tc : Thread Cert.AdamSquareReferenceIdeal.nD Cert.AdamSquareReferenceIdeal.τ).loc Cert.AdamSquareReferenceIdeal.main_arg1) = m ((c.tc : Thread Cert.AdamSquareReferenceIdeal.nD Cert.AdamSquareReferenceIdeal.τ).loc Cert.AdamSquareReferenceIdeal.main_arg1)
      ∧ r.2.mem ((c.tc : Thread Cert.AdamSquareReferenceIdeal.nD Cert.AdamSquareReferenceIdeal.τ).loc Cert.AdamSquareReferenceIdeal.main_arg2) = m ((c.tc : Thread Cert.AdamSquareReferenceIdeal.nD Cert.AdamSquareReferenceIdeal.τ).loc Cert.AdamSquareReferenceIdeal.main_arg2)
      ∧ r.2.mem ((c.tc : Thread Cert.AdamSquareReferenceIdeal.nD Cert.AdamSquareReferenceIdeal.τ).loc Cert.AdamSquareReferenceIdeal.main_arg3) = m ((c.tc : Thread Cert.AdamSquareReferenceIdeal.nD Cert.AdamSquareReferenceIdeal.τ).loc Cert.AdamSquareReferenceIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3))
      ∧ r.2.sem = fun _ => 0)

def quiescent_AdamFg [hAdamFg : Cert.AdamFg.Facts] : Prop :=
  ∀ (m : (ℓ : Loc Cert.AdamFg.nD Cert.AdamFg.τ Cert.AdamFg.sig) → Buf (Elt Bits) ℓ) (g : Dev Cert.AdamFg.nD → PrngReg), Pre_AdamFg m →
    θ_run (Cert.AdamFg.defs (F := Bits)) (onTc (τ := Cert.AdamFg.τ) (Cert.AdamFg.main (F := Bits))) ⟨m, fun _ => 0, g⟩ (fun r => (∀ c : Dev Cert.AdamFg.nD,
      r.2.mem ((c.tc : Thread Cert.AdamFg.nD Cert.AdamFg.τ).loc Cert.AdamFg.main_arg0) = m ((c.tc : Thread Cert.AdamFg.nD Cert.AdamFg.τ).loc Cert.AdamFg.main_arg0)
      ∧ r.2.mem ((c.tc : Thread Cert.AdamFg.nD Cert.AdamFg.τ).loc Cert.AdamFg.main_arg1) = m ((c.tc : Thread Cert.AdamFg.nD Cert.AdamFg.τ).loc Cert.AdamFg.main_arg1)
      ∧ r.2.mem ((c.tc : Thread Cert.AdamFg.nD Cert.AdamFg.τ).loc Cert.AdamFg.main_arg2) = m ((c.tc : Thread Cert.AdamFg.nD Cert.AdamFg.τ).loc Cert.AdamFg.main_arg2)
      ∧ r.2.mem ((c.tc : Thread Cert.AdamFg.nD Cert.AdamFg.τ).loc Cert.AdamFg.main_arg3) = m ((c.tc : Thread Cert.AdamFg.nD Cert.AdamFg.τ).loc Cert.AdamFg.main_arg3))
      ∧ r.2.sem = fun _ => 0)

def quiescent_AdamFgIdeal [hAdamFgIdeal : Cert.AdamFgIdeal.Facts] : Prop :=
  ∀ (m : (ℓ : Loc Cert.AdamFgIdeal.nD Cert.AdamFgIdeal.τ Cert.AdamFgIdeal.sig) → Buf (Elt Ideal) ℓ) (g : Dev Cert.AdamFgIdeal.nD → PrngReg), Pre_AdamFgIdeal m →
    θ_run (Cert.AdamFgIdeal.defs (F := Ideal)) (onTc (τ := Cert.AdamFgIdeal.τ) (Cert.AdamFgIdeal.main (F := Ideal))) ⟨m, fun _ => 0, g⟩ (fun r => (∀ c : Dev Cert.AdamFgIdeal.nD,
      r.2.mem ((c.tc : Thread Cert.AdamFgIdeal.nD Cert.AdamFgIdeal.τ).loc Cert.AdamFgIdeal.main_arg0) = m ((c.tc : Thread Cert.AdamFgIdeal.nD Cert.AdamFgIdeal.τ).loc Cert.AdamFgIdeal.main_arg0)
      ∧ r.2.mem ((c.tc : Thread Cert.AdamFgIdeal.nD Cert.AdamFgIdeal.τ).loc Cert.AdamFgIdeal.main_arg1) = m ((c.tc : Thread Cert.AdamFgIdeal.nD Cert.AdamFgIdeal.τ).loc Cert.AdamFgIdeal.main_arg1)
      ∧ r.2.mem ((c.tc : Thread Cert.AdamFgIdeal.nD Cert.AdamFgIdeal.τ).loc Cert.AdamFgIdeal.main_arg2) = m ((c.tc : Thread Cert.AdamFgIdeal.nD Cert.AdamFgIdeal.τ).loc Cert.AdamFgIdeal.main_arg2)
      ∧ r.2.mem ((c.tc : Thread Cert.AdamFgIdeal.nD Cert.AdamFgIdeal.τ).loc Cert.AdamFgIdeal.main_arg3) = m ((c.tc : Thread Cert.AdamFgIdeal.nD Cert.AdamFgIdeal.τ).loc Cert.AdamFgIdeal.main_arg3))
      ∧ r.2.sem = fun _ => 0)

def quiescent_AdamFgReferenceIdeal [hAdamFgReferenceIdeal : Cert.AdamFgReferenceIdeal.Facts] : Prop :=
  ∀ (m : (ℓ : Loc Cert.AdamFgReferenceIdeal.nD Cert.AdamFgReferenceIdeal.τ Cert.AdamFgReferenceIdeal.sig) → Buf (Elt Ideal) ℓ) (g : Dev Cert.AdamFgReferenceIdeal.nD → PrngReg), Pre_AdamFgReferenceIdeal m →
    θ_run (Cert.AdamFgReferenceIdeal.defs (F := Ideal)) (onTc (τ := Cert.AdamFgReferenceIdeal.τ) (Cert.AdamFgReferenceIdeal.main (F := Ideal))) ⟨m, fun _ => 0, g⟩ (fun r => (∀ c : Dev Cert.AdamFgReferenceIdeal.nD,
      r.2.mem ((c.tc : Thread Cert.AdamFgReferenceIdeal.nD Cert.AdamFgReferenceIdeal.τ).loc Cert.AdamFgReferenceIdeal.main_arg0) = m ((c.tc : Thread Cert.AdamFgReferenceIdeal.nD Cert.AdamFgReferenceIdeal.τ).loc Cert.AdamFgReferenceIdeal.main_arg0)
      ∧ r.2.mem ((c.tc : Thread Cert.AdamFgReferenceIdeal.nD Cert.AdamFgReferenceIdeal.τ).loc Cert.AdamFgReferenceIdeal.main_arg1) = m ((c.tc : Thread Cert.AdamFgReferenceIdeal.nD Cert.AdamFgReferenceIdeal.τ).loc Cert.AdamFgReferenceIdeal.main_arg1)
      ∧ r.2.mem ((c.tc : Thread Cert.AdamFgReferenceIdeal.nD Cert.AdamFgReferenceIdeal.τ).loc Cert.AdamFgReferenceIdeal.main_arg2) = m ((c.tc : Thread Cert.AdamFgReferenceIdeal.nD Cert.AdamFgReferenceIdeal.τ).loc Cert.AdamFgReferenceIdeal.main_arg2)
      ∧ r.2.mem ((c.tc : Thread Cert.AdamFgReferenceIdeal.nD Cert.AdamFgReferenceIdeal.τ).loc Cert.AdamFgReferenceIdeal.main_arg3) = m ((c.tc : Thread Cert.AdamFgReferenceIdeal.nD Cert.AdamFgReferenceIdeal.τ).loc Cert.AdamFgReferenceIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvReferenceIdeal [hAdamConvReferenceIdeal : Cert.AdamConvReferenceIdeal.Facts] : Prop :=
  ∀ (m : (ℓ : Loc Cert.AdamConvReferenceIdeal.nD Cert.AdamConvReferenceIdeal.τ Cert.AdamConvReferenceIdeal.sig) → Buf (Elt Ideal) ℓ) (g : Dev Cert.AdamConvReferenceIdeal.nD → PrngReg), Pre_AdamConvReferenceIdeal m →
    θ_run (Cert.AdamConvReferenceIdeal.defs (F := Ideal)) (onTc (τ := Cert.AdamConvReferenceIdeal.τ) (Cert.AdamConvReferenceIdeal.main (F := Ideal))) ⟨m, fun _ => 0, g⟩ (fun r => (∀ c : Dev Cert.AdamConvReferenceIdeal.nD,
      r.2.mem ((c.tc : Thread Cert.AdamConvReferenceIdeal.nD Cert.AdamConvReferenceIdeal.τ).loc Cert.AdamConvReferenceIdeal.main_arg0) = m ((c.tc : Thread Cert.AdamConvReferenceIdeal.nD Cert.AdamConvReferenceIdeal.τ).loc Cert.AdamConvReferenceIdeal.main_arg0)
      ∧ r.2.mem ((c.tc : Thread Cert.AdamConvReferenceIdeal.nD Cert.AdamConvReferenceIdeal.τ).loc Cert.AdamConvReferenceIdeal.main_arg1) = m ((c.tc : Thread Cert.AdamConvReferenceIdeal.nD Cert.AdamConvReferenceIdeal.τ).loc Cert.AdamConvReferenceIdeal.main_arg1)
      ∧ r.2.mem ((c.tc : Thread Cert.AdamConvReferenceIdeal.nD Cert.AdamConvReferenceIdeal.τ).loc Cert.AdamConvReferenceIdeal.main_arg2) = m ((c.tc : Thread Cert.AdamConvReferenceIdeal.nD Cert.AdamConvReferenceIdeal.τ).loc Cert.AdamConvReferenceIdeal.main_arg2)
      ∧ r.2.mem ((c.tc : Thread Cert.AdamConvReferenceIdeal.nD Cert.AdamConvReferenceIdeal.τ).loc Cert.AdamConvReferenceIdeal.main_arg3) = m ((c.tc : Thread Cert.AdamConvReferenceIdeal.nD Cert.AdamConvReferenceIdeal.τ).loc Cert.AdamConvReferenceIdeal.main_arg3))
      ∧ r.2.sem = fun _ => 0)

def quiescent_ChipSum [hChipSum : Cert.ChipSum.Facts] [hPre_chip_in_range : Cert.Pre_chip_in_range.Facts] : Prop :=
  ∀ (m : (ℓ : Loc Cert.ChipSum.nD Cert.ChipSum.τ Cert.ChipSum.sig) → Buf (Elt Bits) ℓ) (g : Dev Cert.ChipSum.nD → PrngReg), Pre_ChipSum m →
    θ_run (Cert.ChipSum.defs (F := Bits)) (onTc (τ := Cert.ChipSum.τ) (Cert.ChipSum.main (F := Bits))) ⟨m, fun _ => 0, g⟩ (fun r => (∀ c : Dev Cert.ChipSum.nD,
      r.2.mem ((c.tc : Thread Cert.ChipSum.nD Cert.ChipSum.τ).loc Cert.ChipSum.main_arg0) = m ((c.tc : Thread Cert.ChipSum.nD Cert.ChipSum.τ).loc Cert.ChipSum.main_arg0)
      ∧ r.2.mem ((c.tc : Thread Cert.ChipSum.nD Cert.ChipSum.τ).loc Cert.ChipSum.main_arg1) = m ((c.tc : Thread Cert.ChipSum.nD Cert.ChipSum.τ).loc Cert.ChipSum.main_arg1)
      ∧ r.2.mem ((c.tc : Thread Cert.ChipSum.nD Cert.ChipSum.τ).loc Cert.ChipSum.main_arg2) = m ((c.tc : Thread Cert.ChipSum.nD Cert.ChipSum.τ).loc Cert.ChipSum.main_arg2))
      ∧ r.2.sem = fun _ => 0)

def quiescent_ChipSumIdeal [hChipSumIdeal : Cert.ChipSumIdeal.Facts] [hPre_chip_in_range : Cert.Pre_chip_in_range.Facts] : Prop :=
  ∀ (m : (ℓ : Loc Cert.ChipSumIdeal.nD Cert.ChipSumIdeal.τ Cert.ChipSumIdeal.sig) → Buf (Elt Ideal) ℓ) (g : Dev Cert.ChipSumIdeal.nD → PrngReg), Pre_ChipSumIdeal m →
    θ_run (Cert.ChipSumIdeal.defs (F := Ideal)) (onTc (τ := Cert.ChipSumIdeal.τ) (Cert.ChipSumIdeal.main (F := Ideal))) ⟨m, fun _ => 0, g⟩ (fun r => (∀ c : Dev Cert.ChipSumIdeal.nD,
      r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0)
      ∧ r.2.mem ((c.tc : Thread Cert.ChipSumIdeal.nD Cert.ChipSumIdeal.τ).loc Cert.ChipSumIdeal.main_arg1) = m ((c.tc : Thread Cert.ChipSumIdeal.nD Cert.ChipSumIdeal.τ).loc Cert.ChipSumIdeal.main_arg1)
      ∧ r.2.mem ((c.tc : Thread Cert.ChipSumIdeal.nD Cert.ChipSumIdeal.τ).loc Cert.ChipSumIdeal.main_arg2) = m ((c.tc : Thread Cert.ChipSumIdeal.nD Cert.ChipSumIdeal.τ).loc Cert.ChipSumIdeal.main_arg2))
      ∧ r.2.sem = fun _ => 0)

def quiescent_ChipSumReferenceIdeal [hChipSumReferenceIdeal : Cert.ChipSumReferenceIdeal.Facts] : Prop :=
  ∀ (m : (ℓ : Loc Cert.ChipSumReferenceIdeal.nD Cert.ChipSumReferenceIdeal.τ Cert.ChipSumReferenceIdeal.sig) → Buf (Elt Ideal) ℓ) (g : Dev Cert.ChipSumReferenceIdeal.nD → PrngReg), Pre_ChipSumReferenceIdeal m →
    θ_run (Cert.ChipSumReferenceIdeal.defs (F := Ideal)) (onTc (τ := Cert.ChipSumReferenceIdeal.τ) (Cert.ChipSumReferenceIdeal.main (F := Ideal))) ⟨m, fun _ => 0, g⟩ (fun r => (∀ c : Dev Cert.ChipSumReferenceIdeal.nD,
      r.2.mem ((c.tc : Thread Cert.ChipSumReferenceIdeal.nD Cert.ChipSumReferenceIdeal.τ).loc Cert.ChipSumReferenceIdeal.main_arg0) = m ((c.tc : Thread Cert.ChipSumReferenceIdeal.nD Cert.ChipSumReferenceIdeal.τ).loc Cert.ChipSumReferenceIdeal.main_arg0)
      ∧ r.2.mem ((c.tc : Thread Cert.ChipSumReferenceIdeal.nD Cert.ChipSumReferenceIdeal.τ).loc Cert.ChipSumReferenceIdeal.main_arg1) = m ((c.tc : Thread Cert.ChipSumReferenceIdeal.nD Cert.ChipSumReferenceIdeal.τ).loc Cert.ChipSumReferenceIdeal.main_arg1)
      ∧ r.2.mem ((c.tc : Thread Cert.ChipSumReferenceIdeal.nD Cert.ChipSumReferenceIdeal.τ).loc Cert.ChipSumReferenceIdeal.main_arg2) = m ((c.tc : Thread Cert.ChipSumReferenceIdeal.nD Cert.ChipSumReferenceIdeal.τ).loc Cert.ChipSumReferenceIdeal.main_arg2))
      ∧ r.2.sem = fun _ => 0)

def quiescent_ChipSumReferenceIdeal_pre_chip_in_range [hChipSumReferenceIdeal : Cert.ChipSumReferenceIdeal.Facts] [hPre_chip_in_range : Cert.Pre_chip_in_range.Facts] : Prop :=
  ∀ (m : (ℓ : Loc Cert.ChipSumReferenceIdeal.nD Cert.ChipSumReferenceIdeal.τ Cert.ChipSumReferenceIdeal.sig) → Buf (Elt Ideal) ℓ) (g : Dev Cert.ChipSumReferenceIdeal.nD → PrngReg), Pre_ChipSumReferenceIdeal_chip_in_range m →
    θ_run (Cert.ChipSumReferenceIdeal.defs (F := Ideal)) (onTc (τ := Cert.ChipSumReferenceIdeal.τ) (Cert.ChipSumReferenceIdeal.main (F := Ideal))) ⟨m, fun _ => 0, g⟩ (fun r => (∀ c : Dev Cert.ChipSumReferenceIdeal.nD,
      r.2.mem ((c.tc : Thread Cert.ChipSumReferenceIdeal.nD Cert.ChipSumReferenceIdeal.τ).loc Cert.ChipSumReferenceIdeal.main_arg0) = m ((c.tc : Thread Cert.ChipSumReferenceIdeal.nD Cert.ChipSumReferenceIdeal.τ).loc Cert.ChipSumReferenceIdeal.main_arg0)
      ∧ r.2.mem ((c.tc : Thread Cert.ChipSumReferenceIdeal.nD Cert.ChipSumReferenceIdeal.τ).loc Cert.ChipSumReferenceIdeal.main_arg1) = m ((c.tc : Thread Cert.ChipSumReferenceIdeal.nD Cert.ChipSumReferenceIdeal.τ).loc Cert.ChipSumReferenceIdeal.main_arg1)
      ∧ r.2.mem ((c.tc : Thread Cert.ChipSumReferenceIdeal.nD Cert.ChipSumReferenceIdeal.τ).loc Cert.ChipSumReferenceIdeal.main_arg2) = m ((c.tc : Thread Cert.ChipSumReferenceIdeal.nD Cert.ChipSumReferenceIdeal.τ).loc Cert.ChipSumReferenceIdeal.main_arg2))
      ∧ r.2.sem = fun _ => 0)

def quiescent_FinalGu [hFinalGu : Cert.FinalGu.Facts] [hPre_final_gu_in_range : Cert.Pre_final_gu_in_range.Facts] : Prop :=
  ∀ (m : (ℓ : Loc Cert.FinalGu.nD Cert.FinalGu.τ Cert.FinalGu.sig) → Buf (Elt Bits) ℓ) (g : Dev Cert.FinalGu.nD → PrngReg), Pre_FinalGu m →
    θ_run (Cert.FinalGu.defs (F := Bits)) (onTc (τ := Cert.FinalGu.τ) (Cert.FinalGu.main (F := Bits))) ⟨m, fun _ => 0, g⟩ (fun r => (∀ c : Dev Cert.FinalGu.nD,
      r.2.mem ((c.tc : Thread Cert.FinalGu.nD Cert.FinalGu.τ).loc Cert.FinalGu.main_arg0) = m ((c.tc : Thread Cert.FinalGu.nD Cert.FinalGu.τ).loc Cert.FinalGu.main_arg0)
      ∧ r.2.mem ((c.tc : Thread Cert.FinalGu.nD Cert.FinalGu.τ).loc Cert.FinalGu.main_arg1) = m ((c.tc : Thread Cert.FinalGu.nD Cert.FinalGu.τ).loc Cert.FinalGu.main_arg1)
      ∧ r.2.mem ((c.tc : Thread Cert.FinalGu.nD Cert.FinalGu.τ).loc Cert.FinalGu.main_arg2) = m ((c.tc : Thread Cert.FinalGu.nD Cert.FinalGu.τ).loc Cert.FinalGu.main_arg2)
      ∧ r.2.mem ((c.tc : Thread Cert.FinalGu.nD Cert.FinalGu.τ).loc Cert.FinalGu.main_arg3) = m ((c.tc : Thread Cert.FinalGu.nD Cert.FinalGu.τ).loc Cert.FinalGu.main_arg3)
      ∧ r.2.mem ((c.tc : Thread Cert.FinalGu.nD Cert.FinalGu.τ).loc Cert.FinalGu.main_arg4) = m ((c.tc : Thread Cert.FinalGu.nD Cert.FinalGu.τ).loc Cert.FinalGu.main_arg4)
      ∧ r.2.mem ((c.tc : Thread Cert.FinalGu.nD Cert.FinalGu.τ).loc Cert.FinalGu.main_arg5) = m ((c.tc : Thread Cert.FinalGu.nD Cert.FinalGu.τ).loc Cert.FinalGu.main_arg5)
      ∧ r.2.mem ((c.tc : Thread Cert.FinalGu.nD Cert.FinalGu.τ).loc Cert.FinalGu.main_arg6) = m ((c.tc : Thread Cert.FinalGu.nD Cert.FinalGu.τ).loc Cert.FinalGu.main_arg6)
      ∧ r.2.mem ((c.tc : Thread Cert.FinalGu.nD Cert.FinalGu.τ).loc Cert.FinalGu.main_arg7) = m ((c.tc : Thread Cert.FinalGu.nD Cert.FinalGu.τ).loc Cert.FinalGu.main_arg7)
      ∧ r.2.mem ((c.tc : Thread Cert.FinalGu.nD Cert.FinalGu.τ).loc Cert.FinalGu.main_arg8) = m ((c.tc : Thread Cert.FinalGu.nD Cert.FinalGu.τ).loc Cert.FinalGu.main_arg8)
      ∧ r.2.mem ((c.tc : Thread Cert.FinalGu.nD Cert.FinalGu.τ).loc Cert.FinalGu.main_arg9) = m ((c.tc : Thread Cert.FinalGu.nD Cert.FinalGu.τ).loc Cert.FinalGu.main_arg9)
      ∧ r.2.mem ((c.tc : Thread Cert.FinalGu.nD Cert.FinalGu.τ).loc Cert.FinalGu.main_arg10) = m ((c.tc : Thread Cert.FinalGu.nD Cert.FinalGu.τ).loc Cert.FinalGu.main_arg10)
      ∧ r.2.mem ((c.tc : Thread Cert.FinalGu.nD Cert.FinalGu.τ).loc Cert.FinalGu.main_arg11) = m ((c.tc : Thread Cert.FinalGu.nD Cert.FinalGu.τ).loc Cert.FinalGu.main_arg11)
      ∧ r.2.mem ((c.tc : Thread Cert.FinalGu.nD Cert.FinalGu.τ).loc Cert.FinalGu.main_arg12) = m ((c.tc : Thread Cert.FinalGu.nD Cert.FinalGu.τ).loc Cert.FinalGu.main_arg12)
      ∧ r.2.mem ((c.tc : Thread Cert.FinalGu.nD Cert.FinalGu.τ).loc Cert.FinalGu.main_arg13) = m ((c.tc : Thread Cert.FinalGu.nD Cert.FinalGu.τ).loc Cert.FinalGu.main_arg13)
      ∧ r.2.mem ((c.tc : Thread Cert.FinalGu.nD Cert.FinalGu.τ).loc Cert.FinalGu.main_arg14) = m ((c.tc : Thread Cert.FinalGu.nD Cert.FinalGu.τ).loc Cert.FinalGu.main_arg14)
      ∧ r.2.mem ((c.tc : Thread Cert.FinalGu.nD Cert.FinalGu.τ).loc Cert.FinalGu.main_arg15) = m ((c.tc : Thread Cert.FinalGu.nD Cert.FinalGu.τ).loc Cert.FinalGu.main_arg15)
      ∧ r.2.mem ((c.tc : Thread Cert.FinalGu.nD Cert.FinalGu.τ).loc Cert.FinalGu.main_arg16) = m ((c.tc : Thread Cert.FinalGu.nD Cert.FinalGu.τ).loc Cert.FinalGu.main_arg16)
      ∧ r.2.mem ((c.tc : Thread Cert.FinalGu.nD Cert.FinalGu.τ).loc Cert.FinalGu.main_arg17) = m ((c.tc : Thread Cert.FinalGu.nD Cert.FinalGu.τ).loc Cert.FinalGu.main_arg17))
      ∧ r.2.sem = fun _ => 0)

def quiescent_FinalGuIdeal [hFinalGuIdeal : Cert.FinalGuIdeal.Facts] [hPre_final_gu_in_range : Cert.Pre_final_gu_in_range.Facts] : Prop :=
  ∀ (m : (ℓ : Loc Cert.FinalGuIdeal.nD Cert.FinalGuIdeal.τ Cert.FinalGuIdeal.sig) → Buf (Elt Ideal) ℓ) (g : Dev Cert.FinalGuIdeal.nD → PrngReg), Pre_FinalGuIdeal m →
    θ_run (Cert.FinalGuIdeal.defs (F := Ideal)) (onTc (τ := Cert.FinalGuIdeal.τ) (Cert.FinalGuIdeal.main (F := Ideal))) ⟨m, fun _ => 0, g⟩ (fun r => (∀ c : Dev Cert.FinalGuIdeal.nD,
      r.2.mem ((c.tc : Thread Cert.FinalGuIdeal.nD Cert.FinalGuIdeal.τ).loc Cert.FinalGuIdeal.main_arg0) = m ((c.tc : Thread Cert.FinalGuIdeal.nD Cert.FinalGuIdeal.τ).loc Cert.FinalGuIdeal.main_arg0)
      ∧ r.2.mem ((c.tc : Thread Cert.FinalGuIdeal.nD Cert.FinalGuIdeal.τ).loc Cert.FinalGuIdeal.main_arg1) = m ((c.tc : Thread Cert.FinalGuIdeal.nD Cert.FinalGuIdeal.τ).loc Cert.FinalGuIdeal.main_arg1)
      ∧ r.2.mem ((c.tc : Thread Cert.FinalGuIdeal.nD Cert.FinalGuIdeal.τ).loc Cert.FinalGuIdeal.main_arg2) = m ((c.tc : Thread Cert.FinalGuIdeal.nD Cert.FinalGuIdeal.τ).loc Cert.FinalGuIdeal.main_arg2)
      ∧ r.2.mem ((c.tc : Thread Cert.FinalGuIdeal.nD Cert.FinalGuIdeal.τ).loc Cert.FinalGuIdeal.main_arg3) = m ((c.tc : Thread Cert.FinalGuIdeal.nD Cert.FinalGuIdeal.τ).loc Cert.FinalGuIdeal.main_arg3)
      ∧ r.2.mem ((c.tc : Thread Cert.FinalGuIdeal.nD Cert.FinalGuIdeal.τ).loc Cert.FinalGuIdeal.main_arg4) = m ((c.tc : Thread Cert.FinalGuIdeal.nD Cert.FinalGuIdeal.τ).loc Cert.FinalGuIdeal.main_arg4)
      ∧ r.2.mem ((c.tc : Thread Cert.FinalGuIdeal.nD Cert.FinalGuIdeal.τ).loc Cert.FinalGuIdeal.main_arg5) = m ((c.tc : Thread Cert.FinalGuIdeal.nD Cert.FinalGuIdeal.τ).loc Cert.FinalGuIdeal.main_arg5)
      ∧ r.2.mem ((c.tc : Thread Cert.FinalGuIdeal.nD Cert.FinalGuIdeal.τ).loc Cert.FinalGuIdeal.main_arg6) = m ((c.tc : Thread Cert.FinalGuIdeal.nD Cert.FinalGuIdeal.τ).loc Cert.FinalGuIdeal.main_arg6)
      ∧ r.2.mem ((c.tc : Thread Cert.FinalGuIdeal.nD Cert.FinalGuIdeal.τ).loc Cert.FinalGuIdeal.main_arg7) = m ((c.tc : Thread Cert.FinalGuIdeal.nD Cert.FinalGuIdeal.τ).loc Cert.FinalGuIdeal.main_arg7)
      ∧ r.2.mem ((c.tc : Thread Cert.FinalGuIdeal.nD Cert.FinalGuIdeal.τ).loc Cert.FinalGuIdeal.main_arg8) = m ((c.tc : Thread Cert.FinalGuIdeal.nD Cert.FinalGuIdeal.τ).loc Cert.FinalGuIdeal.main_arg8)
      ∧ r.2.mem ((c.tc : Thread Cert.FinalGuIdeal.nD Cert.FinalGuIdeal.τ).loc Cert.FinalGuIdeal.main_arg9) = m ((c.tc : Thread Cert.FinalGuIdeal.nD Cert.FinalGuIdeal.τ).loc Cert.FinalGuIdeal.main_arg9)
      ∧ r.2.mem ((c.tc : Thread Cert.FinalGuIdeal.nD Cert.FinalGuIdeal.τ).loc Cert.FinalGuIdeal.main_arg10) = m ((c.tc : Thread Cert.FinalGuIdeal.nD Cert.FinalGuIdeal.τ).loc Cert.FinalGuIdeal.main_arg10)
      ∧ r.2.mem ((c.tc : Thread Cert.FinalGuIdeal.nD Cert.FinalGuIdeal.τ).loc Cert.FinalGuIdeal.main_arg11) = m ((c.tc : Thread Cert.FinalGuIdeal.nD Cert.FinalGuIdeal.τ).loc Cert.FinalGuIdeal.main_arg11)
      ∧ r.2.mem ((c.tc : Thread Cert.FinalGuIdeal.nD Cert.FinalGuIdeal.τ).loc Cert.FinalGuIdeal.main_arg12) = m ((c.tc : Thread Cert.FinalGuIdeal.nD Cert.FinalGuIdeal.τ).loc Cert.FinalGuIdeal.main_arg12)
      ∧ r.2.mem ((c.tc : Thread Cert.FinalGuIdeal.nD Cert.FinalGuIdeal.τ).loc Cert.FinalGuIdeal.main_arg13) = m ((c.tc : Thread Cert.FinalGuIdeal.nD Cert.FinalGuIdeal.τ).loc Cert.FinalGuIdeal.main_arg13)
      ∧ r.2.mem ((c.tc : Thread Cert.FinalGuIdeal.nD Cert.FinalGuIdeal.τ).loc Cert.FinalGuIdeal.main_arg14) = m ((c.tc : Thread Cert.FinalGuIdeal.nD Cert.FinalGuIdeal.τ).loc Cert.FinalGuIdeal.main_arg14)
      ∧ r.2.mem ((c.tc : Thread Cert.FinalGuIdeal.nD Cert.FinalGuIdeal.τ).loc Cert.FinalGuIdeal.main_arg15) = m ((c.tc : Thread Cert.FinalGuIdeal.nD Cert.FinalGuIdeal.τ).loc Cert.FinalGuIdeal.main_arg15)
      ∧ r.2.mem ((c.tc : Thread Cert.FinalGuIdeal.nD Cert.FinalGuIdeal.τ).loc Cert.FinalGuIdeal.main_arg16) = m ((c.tc : Thread Cert.FinalGuIdeal.nD Cert.FinalGuIdeal.τ).loc Cert.FinalGuIdeal.main_arg16)
      ∧ r.2.mem ((c.tc : Thread Cert.FinalGuIdeal.nD Cert.FinalGuIdeal.τ).loc Cert.FinalGuIdeal.main_arg17) = m ((c.tc : Thread Cert.FinalGuIdeal.nD Cert.FinalGuIdeal.τ).loc Cert.FinalGuIdeal.main_arg17))
      ∧ r.2.sem = fun _ => 0)

def quiescent_FinalGuReferenceIdeal [hFinalGuReferenceIdeal : Cert.FinalGuReferenceIdeal.Facts] : Prop :=
  ∀ (m : (ℓ : Loc Cert.FinalGuReferenceIdeal.nD Cert.FinalGuReferenceIdeal.τ Cert.FinalGuReferenceIdeal.sig) → Buf (Elt Ideal) ℓ) (g : Dev Cert.FinalGuReferenceIdeal.nD → PrngReg), Pre_FinalGuReferenceIdeal m →
    θ_run (Cert.FinalGuReferenceIdeal.defs (F := Ideal)) (onTc (τ := Cert.FinalGuReferenceIdeal.τ) (Cert.FinalGuReferenceIdeal.main (F := Ideal))) ⟨m, fun _ => 0, g⟩ (fun r => (∀ c : Dev Cert.FinalGuReferenceIdeal.nD,
      r.2.mem ((c.tc : Thread Cert.FinalGuReferenceIdeal.nD Cert.FinalGuReferenceIdeal.τ).loc Cert.FinalGuReferenceIdeal.main_arg0) = m ((c.tc : Thread Cert.FinalGuReferenceIdeal.nD Cert.FinalGuReferenceIdeal.τ).loc Cert.FinalGuReferenceIdeal.main_arg0)
      ∧ r.2.mem ((c.tc : Thread Cert.FinalGuReferenceIdeal.nD Cert.FinalGuReferenceIdeal.τ).loc Cert.FinalGuReferenceIdeal.main_arg1) = m ((c.tc : Thread Cert.FinalGuReferenceIdeal.nD Cert.FinalGuReferenceIdeal.τ).loc Cert.FinalGuReferenceIdeal.main_arg1)
      ∧ r.2.mem ((c.tc : Thread Cert.FinalGuReferenceIdeal.nD Cert.FinalGuReferenceIdeal.τ).loc Cert.FinalGuReferenceIdeal.main_arg2) = m ((c.tc : Thread Cert.FinalGuReferenceIdeal.nD Cert.FinalGuReferenceIdeal.τ).loc Cert.FinalGuReferenceIdeal.main_arg2)
      ∧ r.2.mem ((c.tc : Thread Cert.FinalGuReferenceIdeal.nD Cert.FinalGuReferenceIdeal.τ).loc Cert.FinalGuReferenceIdeal.main_arg3) = m ((c.tc : Thread Cert.FinalGuReferenceIdeal.nD Cert.FinalGuReferenceIdeal.τ).loc Cert.FinalGuReferenceIdeal.main_arg3)
      ∧ r.2.mem ((c.tc : Thread Cert.FinalGuReferenceIdeal.nD Cert.FinalGuReferenceIdeal.τ).loc Cert.FinalGuReferenceIdeal.main_arg4) = m ((c.tc : Thread Cert.FinalGuReferenceIdeal.nD Cert.FinalGuReferenceIdeal.τ).loc Cert.FinalGuReferenceIdeal.main_arg4)
      ∧ r.2.mem ((c.tc : Thread Cert.FinalGuReferenceIdeal.nD Cert.FinalGuReferenceIdeal.τ).loc Cert.FinalGuReferenceIdeal.main_arg5) = m ((c.tc : Thread Cert.FinalGuReferenceIdeal.nD Cert.FinalGuReferenceIdeal.τ).loc Cert.FinalGuReferenceIdeal.main_arg5)
      ∧ r.2.mem ((c.tc : Thread Cert.FinalGuReferenceIdeal.nD Cert.FinalGuReferenceIdeal.τ).loc Cert.FinalGuReferenceIdeal.main_arg6) = m ((c.tc : Thread Cert.FinalGuReferenceIdeal.nD Cert.FinalGuReferenceIdeal.τ).loc Cert.FinalGuReferenceIdeal.main_arg6)
      ∧ r.2.mem ((c.tc : Thread Cert.FinalGuReferenceIdeal.nD Cert.FinalGuReferenceIdeal.τ).loc Cert.FinalGuReferenceIdeal.main_arg7) = m ((c.tc : Thread Cert.FinalGuReferenceIdeal.nD Cert.FinalGuReferenceIdeal.τ).loc Cert.FinalGuReferenceIdeal.main_arg7)
      ∧ r.2.mem ((c.tc : Thread Cert.FinalGuReferenceIdeal.nD Cert.FinalGuReferenceIdeal.τ).loc Cert.FinalGuReferenceIdeal.main_arg8) = m ((c.tc : Thread Cert.FinalGuReferenceIdeal.nD Cert.FinalGuReferenceIdeal.τ).loc Cert.FinalGuReferenceIdeal.main_arg8)
      ∧ r.2.mem ((c.tc : Thread Cert.FinalGuReferenceIdeal.nD Cert.FinalGuReferenceIdeal.τ).loc Cert.FinalGuReferenceIdeal.main_arg9) = m ((c.tc : Thread Cert.FinalGuReferenceIdeal.nD Cert.FinalGuReferenceIdeal.τ).loc Cert.FinalGuReferenceIdeal.main_arg9)
      ∧ r.2.mem ((c.tc : Thread Cert.FinalGuReferenceIdeal.nD Cert.FinalGuReferenceIdeal.τ).loc Cert.FinalGuReferenceIdeal.main_arg10) = m ((c.tc : Thread Cert.FinalGuReferenceIdeal.nD Cert.FinalGuReferenceIdeal.τ).loc Cert.FinalGuReferenceIdeal.main_arg10)
      ∧ r.2.mem ((c.tc : Thread Cert.FinalGuReferenceIdeal.nD Cert.FinalGuReferenceIdeal.τ).loc Cert.FinalGuReferenceIdeal.main_arg11) = m ((c.tc : Thread Cert.FinalGuReferenceIdeal.nD Cert.FinalGuReferenceIdeal.τ).loc Cert.FinalGuReferenceIdeal.main_arg11)
      ∧ r.2.mem ((c.tc : Thread Cert.FinalGuReferenceIdeal.nD Cert.FinalGuReferenceIdeal.τ).loc Cert.FinalGuReferenceIdeal.main_arg12) = m ((c.tc : Thread Cert.FinalGuReferenceIdeal.nD Cert.FinalGuReferenceIdeal.τ).loc Cert.FinalGuReferenceIdeal.main_arg12)
      ∧ r.2.mem ((c.tc : Thread Cert.FinalGuReferenceIdeal.nD Cert.FinalGuReferenceIdeal.τ).loc Cert.FinalGuReferenceIdeal.main_arg13) = m ((c.tc : Thread Cert.FinalGuReferenceIdeal.nD Cert.FinalGuReferenceIdeal.τ).loc Cert.FinalGuReferenceIdeal.main_arg13)
      ∧ r.2.mem ((c.tc : Thread Cert.FinalGuReferenceIdeal.nD Cert.FinalGuReferenceIdeal.τ).loc Cert.FinalGuReferenceIdeal.main_arg14) = m ((c.tc : Thread Cert.FinalGuReferenceIdeal.nD Cert.FinalGuReferenceIdeal.τ).loc Cert.FinalGuReferenceIdeal.main_arg14)
      ∧ r.2.mem ((c.tc : Thread Cert.FinalGuReferenceIdeal.nD Cert.FinalGuReferenceIdeal.τ).loc Cert.FinalGuReferenceIdeal.main_arg15) = m ((c.tc : Thread Cert.FinalGuReferenceIdeal.nD Cert.FinalGuReferenceIdeal.τ).loc Cert.FinalGuReferenceIdeal.main_arg15)
      ∧ r.2.mem ((c.tc : Thread Cert.FinalGuReferenceIdeal.nD Cert.FinalGuReferenceIdeal.τ).loc Cert.FinalGuReferenceIdeal.main_arg16) = m ((c.tc : Thread Cert.FinalGuReferenceIdeal.nD Cert.FinalGuReferenceIdeal.τ).loc Cert.FinalGuReferenceIdeal.main_arg16)
      ∧ r.2.mem ((c.tc : Thread Cert.FinalGuReferenceIdeal.nD Cert.FinalGuReferenceIdeal.τ).loc Cert.FinalGuReferenceIdeal.main_arg17) = m ((c.tc : Thread Cert.FinalGuReferenceIdeal.nD Cert.FinalGuReferenceIdeal.τ).loc Cert.FinalGuReferenceIdeal.main_arg17))
      ∧ r.2.sem = fun _ => 0)

def quiescent_FinalGuReferenceIdeal_pre_final_gu_in_range [hFinalGuReferenceIdeal : Cert.FinalGuReferenceIdeal.Facts] [hPre_final_gu_in_range : Cert.Pre_final_gu_in_range.Facts] : Prop :=
  ∀ (m : (ℓ : Loc Cert.FinalGuReferenceIdeal.nD Cert.FinalGuReferenceIdeal.τ Cert.FinalGuReferenceIdeal.sig) → Buf (Elt Ideal) ℓ) (g : Dev Cert.FinalGuReferenceIdeal.nD → PrngReg), Pre_FinalGuReferenceIdeal_final_gu_in_range m →
    θ_run (Cert.FinalGuReferenceIdeal.defs (F := Ideal)) (onTc (τ := Cert.FinalGuReferenceIdeal.τ) (Cert.FinalGuReferenceIdeal.main (F := Ideal))) ⟨m, fun _ => 0, g⟩ (fun r => (∀ c : Dev Cert.FinalGuReferenceIdeal.nD,
      r.2.mem ((c.tc : Thread Cert.FinalGuReferenceIdeal.nD Cert.FinalGuReferenceIdeal.τ).loc Cert.FinalGuReferenceIdeal.main_arg0) = m ((c.tc : Thread Cert.FinalGuReferenceIdeal.nD Cert.FinalGuReferenceIdeal.τ).loc Cert.FinalGuReferenceIdeal.main_arg0)
      ∧ r.2.mem ((c.tc : Thread Cert.FinalGuReferenceIdeal.nD Cert.FinalGuReferenceIdeal.τ).loc Cert.FinalGuReferenceIdeal.main_arg1) = m ((c.tc : Thread Cert.FinalGuReferenceIdeal.nD Cert.FinalGuReferenceIdeal.τ).loc Cert.FinalGuReferenceIdeal.main_arg1)
      ∧ r.2.mem ((c.tc : Thread Cert.FinalGuReferenceIdeal.nD Cert.FinalGuReferenceIdeal.τ).loc Cert.FinalGuReferenceIdeal.main_arg2) = m ((c.tc : Thread Cert.FinalGuReferenceIdeal.nD Cert.FinalGuReferenceIdeal.τ).loc Cert.FinalGuReferenceIdeal.main_arg2)
      ∧ r.2.mem ((c.tc : Thread Cert.FinalGuReferenceIdeal.nD Cert.FinalGuReferenceIdeal.τ).loc Cert.FinalGuReferenceIdeal.main_arg3) = m ((c.tc : Thread Cert.FinalGuReferenceIdeal.nD Cert.FinalGuReferenceIdeal.τ).loc Cert.FinalGuReferenceIdeal.main_arg3)
      ∧ r.2.mem ((c.tc : Thread Cert.FinalGuReferenceIdeal.nD Cert.FinalGuReferenceIdeal.τ).loc Cert.FinalGuReferenceIdeal.main_arg4) = m ((c.tc : Thread Cert.FinalGuReferenceIdeal.nD Cert.FinalGuReferenceIdeal.τ).loc Cert.FinalGuReferenceIdeal.main_arg4)
      ∧ r.2.mem ((c.tc : Thread Cert.FinalGuReferenceIdeal.nD Cert.FinalGuReferenceIdeal.τ).loc Cert.FinalGuReferenceIdeal.main_arg5) = m ((c.tc : Thread Cert.FinalGuReferenceIdeal.nD Cert.FinalGuReferenceIdeal.τ).loc Cert.FinalGuReferenceIdeal.main_arg5)
      ∧ r.2.mem ((c.tc : Thread Cert.FinalGuReferenceIdeal.nD Cert.FinalGuReferenceIdeal.τ).loc Cert.FinalGuReferenceIdeal.main_arg6) = m ((c.tc : Thread Cert.FinalGuReferenceIdeal.nD Cert.FinalGuReferenceIdeal.τ).loc Cert.FinalGuReferenceIdeal.main_arg6)
      ∧ r.2.mem ((c.tc : Thread Cert.FinalGuReferenceIdeal.nD Cert.FinalGuReferenceIdeal.τ).loc Cert.FinalGuReferenceIdeal.main_arg7) = m ((c.tc : Thread Cert.FinalGuReferenceIdeal.nD Cert.FinalGuReferenceIdeal.τ).loc Cert.FinalGuReferenceIdeal.main_arg7)
      ∧ r.2.mem ((c.tc : Thread Cert.FinalGuReferenceIdeal.nD Cert.FinalGuReferenceIdeal.τ).loc Cert.FinalGuReferenceIdeal.main_arg8) = m ((c.tc : Thread Cert.FinalGuReferenceIdeal.nD Cert.FinalGuReferenceIdeal.τ).loc Cert.FinalGuReferenceIdeal.main_arg8)
      ∧ r.2.mem ((c.tc : Thread Cert.FinalGuReferenceIdeal.nD Cert.FinalGuReferenceIdeal.τ).loc Cert.FinalGuReferenceIdeal.main_arg9) = m ((c.tc : Thread Cert.FinalGuReferenceIdeal.nD Cert.FinalGuReferenceIdeal.τ).loc Cert.FinalGuReferenceIdeal.main_arg9)
      ∧ r.2.mem ((c.tc : Thread Cert.FinalGuReferenceIdeal.nD Cert.FinalGuReferenceIdeal.τ).loc Cert.FinalGuReferenceIdeal.main_arg10) = m ((c.tc : Thread Cert.FinalGuReferenceIdeal.nD Cert.FinalGuReferenceIdeal.τ).loc Cert.FinalGuReferenceIdeal.main_arg10)
      ∧ r.2.mem ((c.tc : Thread Cert.FinalGuReferenceIdeal.nD Cert.FinalGuReferenceIdeal.τ).loc Cert.FinalGuReferenceIdeal.main_arg11) = m ((c.tc : Thread Cert.FinalGuReferenceIdeal.nD Cert.FinalGuReferenceIdeal.τ).loc Cert.FinalGuReferenceIdeal.main_arg11)
      ∧ r.2.mem ((c.tc : Thread Cert.FinalGuReferenceIdeal.nD Cert.FinalGuReferenceIdeal.τ).loc Cert.FinalGuReferenceIdeal.main_arg12) = m ((c.tc : Thread Cert.FinalGuReferenceIdeal.nD Cert.FinalGuReferenceIdeal.τ).loc Cert.FinalGuReferenceIdeal.main_arg12)
      ∧ r.2.mem ((c.tc : Thread Cert.FinalGuReferenceIdeal.nD Cert.FinalGuReferenceIdeal.τ).loc Cert.FinalGuReferenceIdeal.main_arg13) = m ((c.tc : Thread Cert.FinalGuReferenceIdeal.nD Cert.FinalGuReferenceIdeal.τ).loc Cert.FinalGuReferenceIdeal.main_arg13)
      ∧ r.2.mem ((c.tc : Thread Cert.FinalGuReferenceIdeal.nD Cert.FinalGuReferenceIdeal.τ).loc Cert.FinalGuReferenceIdeal.main_arg14) = m ((c.tc : Thread Cert.FinalGuReferenceIdeal.nD Cert.FinalGuReferenceIdeal.τ).loc Cert.FinalGuReferenceIdeal.main_arg14)
      ∧ r.2.mem ((c.tc : Thread Cert.FinalGuReferenceIdeal.nD Cert.FinalGuReferenceIdeal.τ).loc Cert.FinalGuReferenceIdeal.main_arg15) = m ((c.tc : Thread Cert.FinalGuReferenceIdeal.nD Cert.FinalGuReferenceIdeal.τ).loc Cert.FinalGuReferenceIdeal.main_arg15)
      ∧ r.2.mem ((c.tc : Thread Cert.FinalGuReferenceIdeal.nD Cert.FinalGuReferenceIdeal.τ).loc Cert.FinalGuReferenceIdeal.main_arg16) = m ((c.tc : Thread Cert.FinalGuReferenceIdeal.nD Cert.FinalGuReferenceIdeal.τ).loc Cert.FinalGuReferenceIdeal.main_arg16)
      ∧ r.2.mem ((c.tc : Thread Cert.FinalGuReferenceIdeal.nD Cert.FinalGuReferenceIdeal.τ).loc Cert.FinalGuReferenceIdeal.main_arg17) = m ((c.tc : Thread Cert.FinalGuReferenceIdeal.nD Cert.FinalGuReferenceIdeal.τ).loc Cert.FinalGuReferenceIdeal.main_arg17))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_v51) = v4 c
          ∧ r.2.mem ((c.tc : Thread Cert.ReferenceIdeal.nD Cert.ReferenceIdeal.τ).loc Cert.ReferenceIdeal.main_v57) = v5 c
          ∧ r.2.mem ((c.tc : Thread Cert.ReferenceIdeal.nD Cert.ReferenceIdeal.τ).loc Cert.ReferenceIdeal.main_v53) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_NormIn_NormInIdeal : Prop :=
  True

def algebraic_NormInIdeal_NormInReferenceIdeal_pre_norm_in_finite [hNormInIdeal : Cert.NormInIdeal.Facts] [hNormInReferenceIdeal : Cert.NormInReferenceIdeal.Facts] [hPre_norm_in_finite : Cert.Pre_norm_in_finite.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInReferenceIdeal.nD Cert.NormInReferenceIdeal.τ Cert.NormInReferenceIdeal.sig) → Buf (Elt Ideal) ℓ) (g' : Dev Cert.NormInReferenceIdeal.nD → PrngReg), Pre_NormInIdeal_norm_in_finite m →
    (∀ c : Dev Cert.NormInIdeal.nD,
      m' ((c.tc : Thread Cert.NormInReferenceIdeal.nD Cert.NormInReferenceIdeal.τ).loc Cert.NormInReferenceIdeal.main_arg0) = m ((c.tc : Thread Cert.NormInIdeal.nD Cert.NormInIdeal.τ).loc Cert.NormInIdeal.main_arg0)
      ∧ m' ((c.tc : Thread Cert.NormInReferenceIdeal.nD Cert.NormInReferenceIdeal.τ).loc Cert.NormInReferenceIdeal.main_arg1) = m ((c.tc : Thread Cert.NormInIdeal.nD Cert.NormInIdeal.τ).loc Cert.NormInIdeal.main_arg1)
      ∧ m' ((c.tc : Thread Cert.NormInReferenceIdeal.nD Cert.NormInReferenceIdeal.τ).loc Cert.NormInReferenceIdeal.main_arg2) = m ((c.tc : Thread Cert.NormInIdeal.nD Cert.NormInIdeal.τ).loc Cert.NormInIdeal.main_arg2)
      ∧ m' ((c.tc : Thread Cert.NormInReferenceIdeal.nD Cert.NormInReferenceIdeal.τ).loc Cert.NormInReferenceIdeal.main_arg3) = m ((c.tc : Thread Cert.NormInIdeal.nD Cert.NormInIdeal.τ).loc Cert.NormInIdeal.main_arg3)
      ∧ m' ((c.tc : Thread Cert.NormInReferenceIdeal.nD Cert.NormInReferenceIdeal.τ).loc Cert.NormInReferenceIdeal.main_arg4) = m ((c.tc : Thread Cert.NormInIdeal.nD Cert.NormInIdeal.τ).loc Cert.NormInIdeal.main_arg4)) →
    ∃ (v0 : (c : Dev Cert.NormInIdeal.nD) → Buf (Elt Ideal) ((c.tc : Thread Cert.NormInIdeal.nD Cert.NormInIdeal.τ).loc Cert.NormInIdeal.main_v0_0)) (v1 : (c : Dev Cert.NormInIdeal.nD) → Buf (Elt Ideal) ((c.tc : Thread Cert.NormInIdeal.nD Cert.NormInIdeal.τ).loc Cert.NormInIdeal.main_v0_1)) (v2 : (c : Dev Cert.NormInIdeal.nD) → Buf (Elt Ideal) ((c.tc : Thread Cert.NormInIdeal.nD Cert.NormInIdeal.τ).loc Cert.NormInIdeal.main_v0_2)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v0_0) = v0 c
          ∧ r.2.mem ((c.tc : Thread Cert.NormInIdeal.nD Cert.NormInIdeal.τ).loc Cert.NormInIdeal.main_v0_1) = v1 c
          ∧ r.2.mem ((c.tc : Thread Cert.NormInIdeal.nD Cert.NormInIdeal.τ).loc Cert.NormInIdeal.main_v0_2) = v2 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
          ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
          ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4))
      ∧ θ_run (Cert.NormInReferenceIdeal.defs (F := Ideal)) (onTc (τ := Cert.NormInReferenceIdeal.τ) (Cert.NormInReferenceIdeal.main (F := Ideal))) ⟨m', fun _ => 0, g'⟩ (fun r => ∀ c : Dev Cert.NormInReferenceIdeal.nD,
          r.2.mem ((c.tc : Thread Cert.NormInReferenceIdeal.nD Cert.NormInReferenceIdeal.τ).loc Cert.NormInReferenceIdeal.main_v38) = v0 c
          ∧ r.2.mem ((c.tc : Thread Cert.NormInReferenceIdeal.nD Cert.NormInReferenceIdeal.τ).loc Cert.NormInReferenceIdeal.main_v39) = v1 c
          ∧ r.2.mem ((c.tc : Thread Cert.NormInReferenceIdeal.nD Cert.NormInReferenceIdeal.τ).loc Cert.NormInReferenceIdeal.main_v40) = v2 c
          ∧ r.2.mem ((c.tc : Thread Cert.NormInReferenceIdeal.nD Cert.NormInReferenceIdeal.τ).loc Cert.NormInReferenceIdeal.main_arg0) = m' ((c.tc : Thread Cert.NormInReferenceIdeal.nD Cert.NormInReferenceIdeal.τ).loc Cert.NormInReferenceIdeal.main_arg0)
          ∧ r.2.mem ((c.tc : Thread Cert.NormInReferenceIdeal.nD Cert.NormInReferenceIdeal.τ).loc Cert.NormInReferenceIdeal.main_arg1) = m' ((c.tc : Thread Cert.NormInReferenceIdeal.nD Cert.NormInReferenceIdeal.τ).loc Cert.NormInReferenceIdeal.main_arg1)
          ∧ r.2.mem ((c.tc : Thread Cert.NormInReferenceIdeal.nD Cert.NormInReferenceIdeal.τ).loc Cert.NormInReferenceIdeal.main_arg2) = m' ((c.tc : Thread Cert.NormInReferenceIdeal.nD Cert.NormInReferenceIdeal.τ).loc Cert.NormInReferenceIdeal.main_arg2)
          ∧ r.2.mem ((c.tc : Thread Cert.NormInReferenceIdeal.nD Cert.NormInReferenceIdeal.τ).loc Cert.NormInReferenceIdeal.main_arg3) = m' ((c.tc : Thread Cert.NormInReferenceIdeal.nD Cert.NormInReferenceIdeal.τ).loc Cert.NormInReferenceIdeal.main_arg3)
          ∧ r.2.mem ((c.tc : Thread Cert.NormInReferenceIdeal.nD Cert.NormInReferenceIdeal.τ).loc Cert.NormInReferenceIdeal.main_arg4) = m' ((c.tc : Thread Cert.NormInReferenceIdeal.nD Cert.NormInReferenceIdeal.τ).loc Cert.NormInReferenceIdeal.main_arg4))

def preserves_NormGu_NormGuIdeal : Prop :=
  True

def algebraic_NormGuIdeal_NormGuReferenceIdeal_pre_norm_gu_finite [hNormGuIdeal : Cert.NormGuIdeal.Facts] [hNormGuReferenceIdeal : Cert.NormGuReferenceIdeal.Facts] [hPre_norm_gu_finite : Cert.Pre_norm_gu_finite.Facts] : Prop :=
  ∀ (m : (ℓ : Loc Cert.NormGuIdeal.nD Cert.NormGuIdeal.τ Cert.NormGuIdeal.sig) → Buf (Elt Ideal) ℓ) (g : Dev Cert.NormGuIdeal.nD → PrngReg)
    (m' : (ℓ : Loc Cert.NormGuReferenceIdeal.nD Cert.NormGuReferenceIdeal.τ Cert.NormGuReferenceIdeal.sig) → Buf (Elt Ideal) ℓ) (g' : Dev Cert.NormGuReferenceIdeal.nD → PrngReg), Pre_NormGuIdeal_norm_gu_finite m →
    (∀ c : Dev Cert.NormGuIdeal.nD,
      m' ((c.tc : Thread Cert.NormGuReferenceIdeal.nD Cert.NormGuReferenceIdeal.τ).loc Cert.NormGuReferenceIdeal.main_arg0) = m ((c.tc : Thread Cert.NormGuIdeal.nD Cert.NormGuIdeal.τ).loc Cert.NormGuIdeal.main_arg0)
      ∧ m' ((c.tc : Thread Cert.NormGuReferenceIdeal.nD Cert.NormGuReferenceIdeal.τ).loc Cert.NormGuReferenceIdeal.main_arg1) = m ((c.tc : Thread Cert.NormGuIdeal.nD Cert.NormGuIdeal.τ).loc Cert.NormGuIdeal.main_arg1)
      ∧ m' ((c.tc : Thread Cert.NormGuReferenceIdeal.nD Cert.NormGuReferenceIdeal.τ).loc Cert.NormGuReferenceIdeal.main_arg2) = m ((c.tc : Thread Cert.NormGuIdeal.nD Cert.NormGuIdeal.τ).loc Cert.NormGuIdeal.main_arg2)
      ∧ m' ((c.tc : Thread Cert.NormGuReferenceIdeal.nD Cert.NormGuReferenceIdeal.τ).loc Cert.NormGuReferenceIdeal.main_arg3) = m ((c.tc : Thread Cert.NormGuIdeal.nD Cert.NormGuIdeal.τ).loc Cert.NormGuIdeal.main_arg3)
      ∧ m' ((c.tc : Thread Cert.NormGuReferenceIdeal.nD Cert.NormGuReferenceIdeal.τ).loc Cert.NormGuReferenceIdeal.main_arg4) = m ((c.tc : Thread Cert.NormGuIdeal.nD Cert.NormGuIdeal.τ).loc Cert.NormGuIdeal.main_arg4)) →
    ∃ (v0 : (c : Dev Cert.NormGuIdeal.nD) → Buf (Elt Ideal) ((c.tc : Thread Cert.NormGuIdeal.nD Cert.NormGuIdeal.τ).loc Cert.NormGuIdeal.main_v0_0)) (v1 : (c : Dev Cert.NormGuIdeal.nD) → Buf (Elt Ideal) ((c.tc : Thread Cert.NormGuIdeal.nD Cert.NormGuIdeal.τ).loc Cert.NormGuIdeal.main_v0_1)) (v2 : (c : Dev Cert.NormGuIdeal.nD) → Buf (Elt Ideal) ((c.tc : Thread Cert.NormGuIdeal.nD Cert.NormGuIdeal.τ).loc Cert.NormGuIdeal.main_v0_2)),
      θ_run (Cert.NormGuIdeal.defs (F := Ideal)) (onTc (τ := Cert.NormGuIdeal.τ) (Cert.NormGuIdeal.main (F := Ideal))) ⟨m, fun _ => 0, g⟩ (fun r => ∀ c : Dev Cert.NormGuIdeal.nD,
          r.2.mem ((c.tc : Thread Cert.NormGuIdeal.nD Cert.NormGuIdeal.τ).loc Cert.NormGuIdeal.main_v0_0) = v0 c
          ∧ r.2.mem ((c.tc : Thread Cert.NormGuIdeal.nD Cert.NormGuIdeal.τ).loc Cert.NormGuIdeal.main_v0_1) = v1 c
          ∧ r.2.mem ((c.tc : Thread Cert.NormGuIdeal.nD Cert.NormGuIdeal.τ).loc Cert.NormGuIdeal.main_v0_2) = v2 c
          ∧ r.2.mem ((c.tc : Thread Cert.NormGuIdeal.nD Cert.NormGuIdeal.τ).loc Cert.NormGuIdeal.main_arg0) = m ((c.tc : Thread Cert.NormGuIdeal.nD Cert.NormGuIdeal.τ).loc Cert.NormGuIdeal.main_arg0)
          ∧ r.2.mem ((c.tc : Thread Cert.NormGuIdeal.nD Cert.NormGuIdeal.τ).loc Cert.NormGuIdeal.main_arg1) = m ((c.tc : Thread Cert.NormGuIdeal.nD Cert.NormGuIdeal.τ).loc Cert.NormGuIdeal.main_arg1)
          ∧ r.2.mem ((c.tc : Thread Cert.NormGuIdeal.nD Cert.NormGuIdeal.τ).loc Cert.NormGuIdeal.main_arg2) = m ((c.tc : Thread Cert.NormGuIdeal.nD Cert.NormGuIdeal.τ).loc Cert.NormGuIdeal.main_arg2)
          ∧ r.2.mem ((c.tc : Thread Cert.NormGuIdeal.nD Cert.NormGuIdeal.τ).loc Cert.NormGuIdeal.main_arg3) = m ((c.tc : Thread Cert.NormGuIdeal.nD Cert.NormGuIdeal.τ).loc Cert.NormGuIdeal.main_arg3)
          ∧ r.2.mem ((c.tc : Thread Cert.NormGuIdeal.nD Cert.NormGuIdeal.τ).loc Cert.NormGuIdeal.main_arg4) = m ((c.tc : Thread Cert.NormGuIdeal.nD Cert.NormGuIdeal.τ).loc Cert.NormGuIdeal.main_arg4))
      ∧ θ_run (Cert.NormGuReferenceIdeal.defs (F := Ideal)) (onTc (τ := Cert.NormGuReferenceIdeal.τ) (Cert.NormGuReferenceIdeal.main (F := Ideal))) ⟨m', fun _ => 0, g'⟩ (fun r => ∀ c : Dev Cert.NormGuReferenceIdeal.nD,
          r.2.mem ((c.tc : Thread Cert.NormGuReferenceIdeal.nD Cert.NormGuReferenceIdeal.τ).loc Cert.NormGuReferenceIdeal.main_v38) = v0 c
          ∧ r.2.mem ((c.tc : Thread Cert.NormGuReferenceIdeal.nD Cert.NormGuReferenceIdeal.τ).loc Cert.NormGuReferenceIdeal.main_v39) = v1 c
          ∧ r.2.mem ((c.tc : Thread Cert.NormGuReferenceIdeal.nD Cert.NormGuReferenceIdeal.τ).loc Cert.NormGuReferenceIdeal.main_v40) = v2 c
          ∧ r.2.mem ((c.tc : Thread Cert.NormGuReferenceIdeal.nD Cert.NormGuReferenceIdeal.τ).loc Cert.NormGuReferenceIdeal.main_arg0) = m' ((c.tc : Thread Cert.NormGuReferenceIdeal.nD Cert.NormGuReferenceIdeal.τ).loc Cert.NormGuReferenceIdeal.main_arg0)
          ∧ r.2.mem ((c.tc : Thread Cert.NormGuReferenceIdeal.nD Cert.NormGuReferenceIdeal.τ).loc Cert.NormGuReferenceIdeal.main_arg1) = m' ((c.tc : Thread Cert.NormGuReferenceIdeal.nD Cert.NormGuReferenceIdeal.τ).loc Cert.NormGuReferenceIdeal.main_arg1)
          ∧ r.2.mem ((c.tc : Thread Cert.NormGuReferenceIdeal.nD Cert.NormGuReferenceIdeal.τ).loc Cert.NormGuReferenceIdeal.main_arg2) = m' ((c.tc : Thread Cert.NormGuReferenceIdeal.nD Cert.NormGuReferenceIdeal.τ).loc Cert.NormGuReferenceIdeal.main_arg2)
          ∧ r.2.mem ((c.tc : Thread Cert.NormGuReferenceIdeal.nD Cert.NormGuReferenceIdeal.τ).loc Cert.NormGuReferenceIdeal.main_arg3) = m' ((c.tc : Thread Cert.NormGuReferenceIdeal.nD Cert.NormGuReferenceIdeal.τ).loc Cert.NormGuReferenceIdeal.main_arg3)
          ∧ r.2.mem ((c.tc : Thread Cert.NormGuReferenceIdeal.nD Cert.NormGuReferenceIdeal.τ).loc Cert.NormGuReferenceIdeal.main_arg4) = m' ((c.tc : Thread Cert.NormGuReferenceIdeal.nD Cert.NormGuReferenceIdeal.τ).loc Cert.NormGuReferenceIdeal.main_arg4))

def preserves_WIn_WInIdeal : Prop :=
  True

def algebraic_WInIdeal_WInReferenceIdeal [hWInIdeal : Cert.WInIdeal.Facts] [hWInReferenceIdeal : Cert.WInReferenceIdeal.Facts] : Prop :=
  ∀ (m : (ℓ : Loc Cert.WInIdeal.nD Cert.WInIdeal.τ Cert.WInIdeal.sig) → Buf (Elt Ideal) ℓ) (g : Dev Cert.WInIdeal.nD → PrngReg)
    (m' : (ℓ : Loc Cert.WInReferenceIdeal.nD Cert.WInReferenceIdeal.τ Cert.WInReferenceIdeal.sig) → Buf (Elt Ideal) ℓ) (g' : Dev Cert.WInReferenceIdeal.nD → PrngReg), Pre_WInIdeal m →
    (∀ c : Dev Cert.WInIdeal.nD,
      m' ((c.tc : Thread Cert.WInReferenceIdeal.nD Cert.WInReferenceIdeal.τ).loc Cert.WInReferenceIdeal.main_arg0) = m ((c.tc : Thread Cert.WInIdeal.nD Cert.WInIdeal.τ).loc Cert.WInIdeal.main_arg0)
      ∧ m' ((c.tc : Thread Cert.WInReferenceIdeal.nD Cert.WInReferenceIdeal.τ).loc Cert.WInReferenceIdeal.main_arg1) = m ((c.tc : Thread Cert.WInIdeal.nD Cert.WInIdeal.τ).loc Cert.WInIdeal.main_arg1)) →
    ∃ (v0 : (c : Dev Cert.WInIdeal.nD) → Buf (Elt Ideal) ((c.tc : Thread Cert.WInIdeal.nD Cert.WInIdeal.τ).loc Cert.WInIdeal.main_v0)),
      θ_run (Cert.WInIdeal.defs (F := Ideal)) (onTc (τ := Cert.WInIdeal.τ) (Cert.WInIdeal.main (F := Ideal))) ⟨m, fun _ => 0, g⟩ (fun r => ∀ c : Dev Cert.WInIdeal.nD,
          r.2.mem ((c.tc : Thread Cert.WInIdeal.nD Cert.WInIdeal.τ).loc Cert.WInIdeal.main_v0) = v0 c
          ∧ r.2.mem ((c.tc : Thread Cert.WInIdeal.nD Cert.WInIdeal.τ).loc Cert.WInIdeal.main_arg0) = m ((c.tc : Thread Cert.WInIdeal.nD Cert.WInIdeal.τ).loc Cert.WInIdeal.main_arg0)
          ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ θ_run (Cert.WInReferenceIdeal.defs (F := Ideal)) (onTc (τ := Cert.WInReferenceIdeal.τ) (Cert.WInReferenceIdeal.main (F := Ideal))) ⟨m', fun _ => 0, g'⟩ (fun r => ∀ c : Dev Cert.WInReferenceIdeal.nD,
          r.2.mem ((c.tc : Thread Cert.WInReferenceIdeal.nD Cert.WInReferenceIdeal.τ).loc Cert.WInReferenceIdeal.main_v6) = v0 c
          ∧ r.2.mem ((c.tc : Thread Cert.WInReferenceIdeal.nD Cert.WInReferenceIdeal.τ).loc Cert.WInReferenceIdeal.main_arg0) = m' ((c.tc : Thread Cert.WInReferenceIdeal.nD Cert.WInReferenceIdeal.τ).loc Cert.WInReferenceIdeal.main_arg0)
          ∧ r.2.mem ((c.tc : Thread Cert.WInReferenceIdeal.nD Cert.WInReferenceIdeal.τ).loc Cert.WInReferenceIdeal.main_arg1) = m' ((c.tc : Thread Cert.WInReferenceIdeal.nD Cert.WInReferenceIdeal.τ).loc Cert.WInReferenceIdeal.main_arg1))

def preserves_WGu_WGuIdeal : Prop :=
  True

def algebraic_WGuIdeal_WGuReferenceIdeal [hWGuIdeal : Cert.WGuIdeal.Facts] [hWGuReferenceIdeal : Cert.WGuReferenceIdeal.Facts] : Prop :=
  ∀ (m : (ℓ : Loc Cert.WGuIdeal.nD Cert.WGuIdeal.τ Cert.WGuIdeal.sig) → Buf (Elt Ideal) ℓ) (g : Dev Cert.WGuIdeal.nD → PrngReg)
    (m' : (ℓ : Loc Cert.WGuReferenceIdeal.nD Cert.WGuReferenceIdeal.τ Cert.WGuReferenceIdeal.sig) → Buf (Elt Ideal) ℓ) (g' : Dev Cert.WGuReferenceIdeal.nD → PrngReg), Pre_WGuIdeal m →
    (∀ c : Dev Cert.WGuIdeal.nD,
      m' ((c.tc : Thread Cert.WGuReferenceIdeal.nD Cert.WGuReferenceIdeal.τ).loc Cert.WGuReferenceIdeal.main_arg0) = m ((c.tc : Thread Cert.WGuIdeal.nD Cert.WGuIdeal.τ).loc Cert.WGuIdeal.main_arg0)
      ∧ m' ((c.tc : Thread Cert.WGuReferenceIdeal.nD Cert.WGuReferenceIdeal.τ).loc Cert.WGuReferenceIdeal.main_arg1) = m ((c.tc : Thread Cert.WGuIdeal.nD Cert.WGuIdeal.τ).loc Cert.WGuIdeal.main_arg1)) →
    ∃ (v0 : (c : Dev Cert.WGuIdeal.nD) → Buf (Elt Ideal) ((c.tc : Thread Cert.WGuIdeal.nD Cert.WGuIdeal.τ).loc Cert.WGuIdeal.main_v0)),
      θ_run (Cert.WGuIdeal.defs (F := Ideal)) (onTc (τ := Cert.WGuIdeal.τ) (Cert.WGuIdeal.main (F := Ideal))) ⟨m, fun _ => 0, g⟩ (fun r => ∀ c : Dev Cert.WGuIdeal.nD,
          r.2.mem ((c.tc : Thread Cert.WGuIdeal.nD Cert.WGuIdeal.τ).loc Cert.WGuIdeal.main_v0) = v0 c
          ∧ r.2.mem ((c.tc : Thread Cert.WGuIdeal.nD Cert.WGuIdeal.τ).loc Cert.WGuIdeal.main_arg0) = m ((c.tc : Thread Cert.WGuIdeal.nD Cert.WGuIdeal.τ).loc Cert.WGuIdeal.main_arg0)
          ∧ r.2.mem ((c.tc : Thread Cert.WGuIdeal.nD Cert.WGuIdeal.τ).loc Cert.WGuIdeal.main_arg1) = m ((c.tc : Thread Cert.WGuIdeal.nD Cert.WGuIdeal.τ).loc Cert.WGuIdeal.main_arg1))
      ∧ θ_run (Cert.WGuReferenceIdeal.defs (F := Ideal)) (onTc (τ := Cert.WGuReferenceIdeal.τ) (Cert.WGuReferenceIdeal.main (F := Ideal))) ⟨m', fun _ => 0, g'⟩ (fun r => ∀ c : Dev Cert.WGuReferenceIdeal.nD,
          r.2.mem ((c.tc : Thread Cert.WGuReferenceIdeal.nD Cert.WGuReferenceIdeal.τ).loc Cert.WGuReferenceIdeal.main_v6) = v0 c
          ∧ r.2.mem ((c.tc : Thread Cert.WGuReferenceIdeal.nD Cert.WGuReferenceIdeal.τ).loc Cert.WGuReferenceIdeal.main_arg0) = m' ((c.tc : Thread Cert.WGuReferenceIdeal.nD Cert.WGuReferenceIdeal.τ).loc Cert.WGuReferenceIdeal.main_arg0)
          ∧ r.2.mem ((c.tc : Thread Cert.WGuReferenceIdeal.nD Cert.WGuReferenceIdeal.τ).loc Cert.WGuReferenceIdeal.main_arg1) = m' ((c.tc : Thread Cert.WGuReferenceIdeal.nD Cert.WGuReferenceIdeal.τ).loc Cert.WGuReferenceIdeal.main_arg1))

def preserves_WDown_WDownIdeal : Prop :=
  True

def algebraic_WDownIdeal_WDownReferenceIdeal [hWDownIdeal : Cert.WDownIdeal.Facts] [hWDownReferenceIdeal : Cert.WDownReferenceIdeal.Facts] : Prop :=
  ∀ (m : (ℓ : Loc Cert.WDownIdeal.nD Cert.WDownIdeal.τ Cert.WDownIdeal.sig) → Buf (Elt Ideal) ℓ) (g : Dev Cert.WDownIdeal.nD → PrngReg)
    (m' : (ℓ : Loc Cert.WDownReferenceIdeal.nD Cert.WDownReferenceIdeal.τ Cert.WDownReferenceIdeal.sig) → Buf (Elt Ideal) ℓ) (g' : Dev Cert.WDownReferenceIdeal.nD → PrngReg), Pre_WDownIdeal m →
    (∀ c : Dev Cert.WDownIdeal.nD,
      m' ((c.tc : Thread Cert.WDownReferenceIdeal.nD Cert.WDownReferenceIdeal.τ).loc Cert.WDownReferenceIdeal.main_arg0) = m ((c.tc : Thread Cert.WDownIdeal.nD Cert.WDownIdeal.τ).loc Cert.WDownIdeal.main_arg0)
      ∧ m' ((c.tc : Thread Cert.WDownReferenceIdeal.nD Cert.WDownReferenceIdeal.τ).loc Cert.WDownReferenceIdeal.main_arg1) = m ((c.tc : Thread Cert.WDownIdeal.nD Cert.WDownIdeal.τ).loc Cert.WDownIdeal.main_arg1)) →
    ∃ (v0 : (c : Dev Cert.WDownIdeal.nD) → Buf (Elt Ideal) ((c.tc : Thread Cert.WDownIdeal.nD Cert.WDownIdeal.τ).loc Cert.WDownIdeal.main_v0)),
      θ_run (Cert.WDownIdeal.defs (F := Ideal)) (onTc (τ := Cert.WDownIdeal.τ) (Cert.WDownIdeal.main (F := Ideal))) ⟨m, fun _ => 0, g⟩ (fun r => ∀ c : Dev Cert.WDownIdeal.nD,
          r.2.mem ((c.tc : Thread Cert.WDownIdeal.nD Cert.WDownIdeal.τ).loc Cert.WDownIdeal.main_v0) = v0 c
          ∧ r.2.mem ((c.tc : Thread Cert.WDownIdeal.nD Cert.WDownIdeal.τ).loc Cert.WDownIdeal.main_arg0) = m ((c.tc : Thread Cert.WDownIdeal.nD Cert.WDownIdeal.τ).loc Cert.WDownIdeal.main_arg0)
          ∧ r.2.mem ((c.tc : Thread Cert.WDownIdeal.nD Cert.WDownIdeal.τ).loc Cert.WDownIdeal.main_arg1) = m ((c.tc : Thread Cert.WDownIdeal.nD Cert.WDownIdeal.τ).loc Cert.WDownIdeal.main_arg1))
      ∧ θ_run (Cert.WDownReferenceIdeal.defs (F := Ideal)) (onTc (τ := Cert.WDownReferenceIdeal.τ) (Cert.WDownReferenceIdeal.main (F := Ideal))) ⟨m', fun _ => 0, g'⟩ (fun r => ∀ c : Dev Cert.WDownReferenceIdeal.nD,
          r.2.mem ((c.tc : Thread Cert.WDownReferenceIdeal.nD Cert.WDownReferenceIdeal.τ).loc Cert.WDownReferenceIdeal.main_v6) = v0 c
          ∧ r.2.mem ((c.tc : Thread Cert.WDownReferenceIdeal.nD Cert.WDownReferenceIdeal.τ).loc Cert.WDownReferenceIdeal.main_arg0) = m' ((c.tc : Thread Cert.WDownReferenceIdeal.nD Cert.WDownReferenceIdeal.τ).loc Cert.WDownReferenceIdeal.main_arg0)
          ∧ r.2.mem ((c.tc : Thread Cert.WDownReferenceIdeal.nD Cert.WDownReferenceIdeal.τ).loc Cert.WDownReferenceIdeal.main_arg1) = m' ((c.tc : Thread Cert.WDownReferenceIdeal.nD Cert.WDownReferenceIdeal.τ).loc Cert.WDownReferenceIdeal.main_arg1))

def preserves_Hid_HidIdeal : Prop :=
  True

def algebraic_HidIdeal_HidReferenceIdeal [hHidIdeal : Cert.HidIdeal.Facts] [hHidReferenceIdeal : Cert.HidReferenceIdeal.Facts] : Prop :=
  ∀ (m : (ℓ : Loc Cert.HidIdeal.nD Cert.HidIdeal.τ Cert.HidIdeal.sig) → Buf (Elt Ideal) ℓ) (g : Dev Cert.HidIdeal.nD → PrngReg)
    (m' : (ℓ : Loc Cert.HidReferenceIdeal.nD Cert.HidReferenceIdeal.τ Cert.HidReferenceIdeal.sig) → Buf (Elt Ideal) ℓ) (g' : Dev Cert.HidReferenceIdeal.nD → PrngReg), Pre_HidIdeal m →
    (∀ c : Dev Cert.HidIdeal.nD,
      m' ((c.tc : Thread Cert.HidReferenceIdeal.nD Cert.HidReferenceIdeal.τ).loc Cert.HidReferenceIdeal.main_arg0) = m ((c.tc : Thread Cert.HidIdeal.nD Cert.HidIdeal.τ).loc Cert.HidIdeal.main_arg0)
      ∧ m' ((c.tc : Thread Cert.HidReferenceIdeal.nD Cert.HidReferenceIdeal.τ).loc Cert.HidReferenceIdeal.main_arg1) = m ((c.tc : Thread Cert.HidIdeal.nD Cert.HidIdeal.τ).loc Cert.HidIdeal.main_arg1)) →
    ∃ (v0 : (c : Dev Cert.HidIdeal.nD) → Buf (Elt Ideal) ((c.tc : Thread Cert.HidIdeal.nD Cert.HidIdeal.τ).loc Cert.HidIdeal.main_v0)),
      θ_run (Cert.HidIdeal.defs (F := Ideal)) (onTc (τ := Cert.HidIdeal.τ) (Cert.HidIdeal.main (F := Ideal))) ⟨m, fun _ => 0, g⟩ (fun r => ∀ c : Dev Cert.HidIdeal.nD,
          r.2.mem ((c.tc : Thread Cert.HidIdeal.nD Cert.HidIdeal.τ).loc Cert.HidIdeal.main_v0) = v0 c
          ∧ r.2.mem ((c.tc : Thread Cert.HidIdeal.nD Cert.HidIdeal.τ).loc Cert.HidIdeal.main_arg0) = m ((c.tc : Thread Cert.HidIdeal.nD Cert.HidIdeal.τ).loc Cert.HidIdeal.main_arg0)
          ∧ r.2.mem ((c.tc : Thread Cert.HidIdeal.nD Cert.HidIdeal.τ).loc Cert.HidIdeal.main_arg1) = m ((c.tc : Thread Cert.HidIdeal.nD Cert.HidIdeal.τ).loc Cert.HidIdeal.main_arg1))
      ∧ θ_run (Cert.HidReferenceIdeal.defs (F := Ideal)) (onTc (τ := Cert.HidReferenceIdeal.τ) (Cert.HidReferenceIdeal.main (F := Ideal))) ⟨m', fun _ => 0, g'⟩ (fun r => ∀ c : Dev Cert.HidReferenceIdeal.nD,
          r.2.mem ((c.tc : Thread Cert.HidReferenceIdeal.nD Cert.HidReferenceIdeal.τ).loc Cert.HidReferenceIdeal.main_v5) = v0 c
          ∧ r.2.mem ((c.tc : Thread Cert.HidReferenceIdeal.nD Cert.HidReferenceIdeal.τ).loc Cert.HidReferenceIdeal.main_arg0) = m' ((c.tc : Thread Cert.HidReferenceIdeal.nD Cert.HidReferenceIdeal.τ).loc Cert.HidReferenceIdeal.main_arg0)
          ∧ r.2.mem ((c.tc : Thread Cert.HidReferenceIdeal.nD Cert.HidReferenceIdeal.τ).loc Cert.HidReferenceIdeal.main_arg1) = m' ((c.tc : Thread Cert.HidReferenceIdeal.nD Cert.HidReferenceIdeal.τ).loc Cert.HidReferenceIdeal.main_arg1))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v3) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_Gu_GuIdeal : Prop :=
  True

def algebraic_GuIdeal_GuReferenceIdeal [hGuIdeal : Cert.GuIdeal.Facts] [hGuReferenceIdeal : Cert.GuReferenceIdeal.Facts] : Prop :=
  ∀ (m : (ℓ : Loc Cert.GuIdeal.nD Cert.GuIdeal.τ Cert.GuIdeal.sig) → Buf (Elt Ideal) ℓ) (g : Dev Cert.GuIdeal.nD → PrngReg)
    (m' : (ℓ : Loc Cert.GuReferenceIdeal.nD Cert.GuReferenceIdeal.τ Cert.GuReferenceIdeal.sig) → Buf (Elt Ideal) ℓ) (g' : Dev Cert.GuReferenceIdeal.nD → PrngReg), Pre_GuIdeal m →
    (∀ c : Dev Cert.GuIdeal.nD,
      m' ((c.tc : Thread Cert.GuReferenceIdeal.nD Cert.GuReferenceIdeal.τ).loc Cert.GuReferenceIdeal.main_arg0) = m ((c.tc : Thread Cert.GuIdeal.nD Cert.GuIdeal.τ).loc Cert.GuIdeal.main_arg0)
      ∧ m' ((c.tc : Thread Cert.GuReferenceIdeal.nD Cert.GuReferenceIdeal.τ).loc Cert.GuReferenceIdeal.main_arg1) = m ((c.tc : Thread Cert.GuIdeal.nD Cert.GuIdeal.τ).loc Cert.GuIdeal.main_arg1)) →
    ∃ (v0 : (c : Dev Cert.GuIdeal.nD) → Buf (Elt Ideal) ((c.tc : Thread Cert.GuIdeal.nD Cert.GuIdeal.τ).loc Cert.GuIdeal.main_v0)),
      θ_run (Cert.GuIdeal.defs (F := Ideal)) (onTc (τ := Cert.GuIdeal.τ) (Cert.GuIdeal.main (F := Ideal))) ⟨m, fun _ => 0, g⟩ (fun r => ∀ c : Dev Cert.GuIdeal.nD,
          r.2.mem ((c.tc : Thread Cert.GuIdeal.nD Cert.GuIdeal.τ).loc Cert.GuIdeal.main_v0) = v0 c
          ∧ r.2.mem ((c.tc : Thread Cert.GuIdeal.nD Cert.GuIdeal.τ).loc Cert.GuIdeal.main_arg0) = m ((c.tc : Thread Cert.GuIdeal.nD Cert.GuIdeal.τ).loc Cert.GuIdeal.main_arg0)
          ∧ r.2.mem ((c.tc : Thread Cert.GuIdeal.nD Cert.GuIdeal.τ).loc Cert.GuIdeal.main_arg1) = m ((c.tc : Thread Cert.GuIdeal.nD Cert.GuIdeal.τ).loc Cert.GuIdeal.main_arg1))
      ∧ θ_run (Cert.GuReferenceIdeal.defs (F := Ideal)) (onTc (τ := Cert.GuReferenceIdeal.τ) (Cert.GuReferenceIdeal.main (F := Ideal))) ⟨m', fun _ => 0, g'⟩ (fun r => ∀ c : Dev Cert.GuReferenceIdeal.nD,
          r.2.mem ((c.tc : Thread Cert.GuReferenceIdeal.nD Cert.GuReferenceIdeal.τ).loc Cert.GuReferenceIdeal.main_v3) = v0 c
          ∧ r.2.mem ((c.tc : Thread Cert.GuReferenceIdeal.nD Cert.GuReferenceIdeal.τ).loc Cert.GuReferenceIdeal.main_arg0) = m' ((c.tc : Thread Cert.GuReferenceIdeal.nD Cert.GuReferenceIdeal.τ).loc Cert.GuReferenceIdeal.main_arg0)
          ∧ r.2.mem ((c.tc : Thread Cert.GuReferenceIdeal.nD Cert.GuReferenceIdeal.τ).loc Cert.GuReferenceIdeal.main_arg1) = m' ((c.tc : Thread Cert.GuReferenceIdeal.nD Cert.GuReferenceIdeal.τ).loc Cert.GuReferenceIdeal.main_arg1))

def preserves_Ya_YaIdeal : Prop :=
  True

def algebraic_YaIdeal_YaReferenceIdeal [hYaIdeal : Cert.YaIdeal.Facts] [hYaReferenceIdeal : Cert.YaReferenceIdeal.Facts] : Prop :=
  ∀ (m : (ℓ : Loc Cert.YaIdeal.nD Cert.YaIdeal.τ Cert.YaIdeal.sig) → Buf (Elt Ideal) ℓ) (g : Dev Cert.YaIdeal.nD → PrngReg)
    (m' : (ℓ : Loc Cert.YaReferenceIdeal.nD Cert.YaReferenceIdeal.τ Cert.YaReferenceIdeal.sig) → Buf (Elt Ideal) ℓ) (g' : Dev Cert.YaReferenceIdeal.nD → PrngReg), Pre_YaIdeal m →
    (∀ c : Dev Cert.YaIdeal.nD,
      m' ((c.tc : Thread Cert.YaReferenceIdeal.nD Cert.YaReferenceIdeal.τ).loc Cert.YaReferenceIdeal.main_arg0) = m ((c.tc : Thread Cert.YaIdeal.nD Cert.YaIdeal.τ).loc Cert.YaIdeal.main_arg0)
      ∧ m' ((c.tc : Thread Cert.YaReferenceIdeal.nD Cert.YaReferenceIdeal.τ).loc Cert.YaReferenceIdeal.main_arg1) = m ((c.tc : Thread Cert.YaIdeal.nD Cert.YaIdeal.τ).loc Cert.YaIdeal.main_arg1)) →
    ∃ (v0 : (c : Dev Cert.YaIdeal.nD) → Buf (Elt Ideal) ((c.tc : Thread Cert.YaIdeal.nD Cert.YaIdeal.τ).loc Cert.YaIdeal.main_v0)),
      θ_run (Cert.YaIdeal.defs (F := Ideal)) (onTc (τ := Cert.YaIdeal.τ) (Cert.YaIdeal.main (F := Ideal))) ⟨m, fun _ => 0, g⟩ (fun r => ∀ c : Dev Cert.YaIdeal.nD,
          r.2.mem ((c.tc : Thread Cert.YaIdeal.nD Cert.YaIdeal.τ).loc Cert.YaIdeal.main_v0) = v0 c
          ∧ r.2.mem ((c.tc : Thread Cert.YaIdeal.nD Cert.YaIdeal.τ).loc Cert.YaIdeal.main_arg0) = m ((c.tc : Thread Cert.YaIdeal.nD Cert.YaIdeal.τ).loc Cert.YaIdeal.main_arg0)
          ∧ r.2.mem ((c.tc : Thread Cert.YaIdeal.nD Cert.YaIdeal.τ).loc Cert.YaIdeal.main_arg1) = m ((c.tc : Thread Cert.YaIdeal.nD Cert.YaIdeal.τ).loc Cert.YaIdeal.main_arg1))
      ∧ θ_run (Cert.YaReferenceIdeal.defs (F := Ideal)) (onTc (τ := Cert.YaReferenceIdeal.τ) (Cert.YaReferenceIdeal.main (F := Ideal))) ⟨m', fun _ => 0, g'⟩ (fun r => ∀ c : Dev Cert.YaReferenceIdeal.nD,
          r.2.mem ((c.tc : Thread Cert.YaReferenceIdeal.nD Cert.YaReferenceIdeal.τ).loc Cert.YaReferenceIdeal.main_v3) = v0 c
          ∧ r.2.mem ((c.tc : Thread Cert.YaReferenceIdeal.nD Cert.YaReferenceIdeal.τ).loc Cert.YaReferenceIdeal.main_arg0) = m' ((c.tc : Thread Cert.YaReferenceIdeal.nD Cert.YaReferenceIdeal.τ).loc Cert.YaReferenceIdeal.main_arg0)
          ∧ r.2.mem ((c.tc : Thread Cert.YaReferenceIdeal.nD Cert.YaReferenceIdeal.τ).loc Cert.YaReferenceIdeal.main_arg1) = m' ((c.tc : Thread Cert.YaReferenceIdeal.nD Cert.YaReferenceIdeal.τ).loc Cert.YaReferenceIdeal.main_arg1))

def preserves_Dmix_DmixIdeal : Prop :=
  True

def algebraic_DmixIdeal_DmixReferenceIdeal [hDmixIdeal : Cert.DmixIdeal.Facts] [hDmixReferenceIdeal : Cert.DmixReferenceIdeal.Facts] : Prop :=
  ∀ (m : (ℓ : Loc Cert.DmixIdeal.nD Cert.DmixIdeal.τ Cert.DmixIdeal.sig) → Buf (Elt Ideal) ℓ) (g : Dev Cert.DmixIdeal.nD → PrngReg)
    (m' : (ℓ : Loc Cert.DmixReferenceIdeal.nD Cert.DmixReferenceIdeal.τ Cert.DmixReferenceIdeal.sig) → Buf (Elt Ideal) ℓ) (g' : Dev Cert.DmixReferenceIdeal.nD → PrngReg), Pre_DmixIdeal m →
    (∀ c : Dev Cert.DmixIdeal.nD,
      m' ((c.tc : Thread Cert.DmixReferenceIdeal.nD Cert.DmixReferenceIdeal.τ).loc Cert.DmixReferenceIdeal.main_arg0) = m ((c.tc : Thread Cert.DmixIdeal.nD Cert.DmixIdeal.τ).loc Cert.DmixIdeal.main_arg0)
      ∧ m' ((c.tc : Thread Cert.DmixReferenceIdeal.nD Cert.DmixReferenceIdeal.τ).loc Cert.DmixReferenceIdeal.main_arg1) = m ((c.tc : Thread Cert.DmixIdeal.nD Cert.DmixIdeal.τ).loc Cert.DmixIdeal.main_arg1)) →
    ∃ (v0 : (c : Dev Cert.DmixIdeal.nD) → Buf (Elt Ideal) ((c.tc : Thread Cert.DmixIdeal.nD Cert.DmixIdeal.τ).loc Cert.DmixIdeal.main_v0)),
      θ_run (Cert.DmixIdeal.defs (F := Ideal)) (onTc (τ := Cert.DmixIdeal.τ) (Cert.DmixIdeal.main (F := Ideal))) ⟨m, fun _ => 0, g⟩ (fun r => ∀ c : Dev Cert.DmixIdeal.nD,
          r.2.mem ((c.tc : Thread Cert.DmixIdeal.nD Cert.DmixIdeal.τ).loc Cert.DmixIdeal.main_v0) = v0 c
          ∧ r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
          ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1))
      ∧ θ_run (Cert.DmixReferenceIdeal.defs (F := Ideal)) (onTc (τ := Cert.DmixReferenceIdeal.τ) (Cert.DmixReferenceIdeal.main (F := Ideal))) ⟨m', fun _ => 0, g'⟩ (fun r => ∀ c : Dev Cert.DmixReferenceIdeal.nD,
          r.2.mem ((c.tc : Thread Cert.DmixReferenceIdeal.nD Cert.DmixReferenceIdeal.τ).loc Cert.DmixReferenceIdeal.main_v5) = v0 c
          ∧ r.2.mem ((c.tc : Thread Cert.DmixReferenceIdeal.nD Cert.DmixReferenceIdeal.τ).loc Cert.DmixReferenceIdeal.main_arg0) = m' ((c.tc : Thread Cert.DmixReferenceIdeal.nD Cert.DmixReferenceIdeal.τ).loc Cert.DmixReferenceIdeal.main_arg0)
          ∧ r.2.mem ((c.tc : Thread Cert.DmixReferenceIdeal.nD Cert.DmixReferenceIdeal.τ).loc Cert.DmixReferenceIdeal.main_arg1) = m' ((c.tc : Thread Cert.DmixReferenceIdeal.nD Cert.DmixReferenceIdeal.τ).loc Cert.DmixReferenceIdeal.main_arg1))

def preserves_Wo_WoIdeal : Prop :=
  True

def algebraic_WoIdeal_WoReferenceIdeal [hWoIdeal : Cert.WoIdeal.Facts] [hWoReferenceIdeal : Cert.WoReferenceIdeal.Facts] : Prop :=
  ∀ (m : (ℓ : Loc Cert.WoIdeal.nD Cert.WoIdeal.τ Cert.WoIdeal.sig) → Buf (Elt Ideal) ℓ) (g : Dev Cert.WoIdeal.nD → PrngReg)
    (m' : (ℓ : Loc Cert.WoReferenceIdeal.nD Cert.WoReferenceIdeal.τ Cert.WoReferenceIdeal.sig) → Buf (Elt Ideal) ℓ) (g' : Dev Cert.WoReferenceIdeal.nD → PrngReg), Pre_WoIdeal m →
    (∀ c : Dev Cert.WoIdeal.nD,
      m' ((c.tc : Thread Cert.WoReferenceIdeal.nD Cert.WoReferenceIdeal.τ).loc Cert.WoReferenceIdeal.main_arg0) = m ((c.tc : Thread Cert.WoIdeal.nD Cert.WoIdeal.τ).loc Cert.WoIdeal.main_arg0)
      ∧ m' ((c.tc : Thread Cert.WoReferenceIdeal.nD Cert.WoReferenceIdeal.τ).loc Cert.WoReferenceIdeal.main_arg1) = m ((c.tc : Thread Cert.WoIdeal.nD Cert.WoIdeal.τ).loc Cert.WoIdeal.main_arg1)) →
    ∃ (v0 : (c : Dev Cert.WoIdeal.nD) → Buf (Elt Ideal) ((c.tc : Thread Cert.WoIdeal.nD Cert.WoIdeal.τ).loc Cert.WoIdeal.main_v0)),
      θ_run (Cert.WoIdeal.defs (F := Ideal)) (onTc (τ := Cert.WoIdeal.τ) (Cert.WoIdeal.main (F := Ideal))) ⟨m, fun _ => 0, g⟩ (fun r => ∀ c : Dev Cert.WoIdeal.nD,
          r.2.mem ((c.tc : Thread Cert.WoIdeal.nD Cert.WoIdeal.τ).loc Cert.WoIdeal.main_v0) = v0 c
          ∧ r.2.mem ((c.tc : Thread Cert.WoIdeal.nD Cert.WoIdeal.τ).loc Cert.WoIdeal.main_arg0) = m ((c.tc : Thread Cert.WoIdeal.nD Cert.WoIdeal.τ).loc Cert.WoIdeal.main_arg0)
          ∧ r.2.mem ((c.tc : Thread Cert.WoIdeal.nD Cert.WoIdeal.τ).loc Cert.WoIdeal.main_arg1) = m ((c.tc : Thread Cert.WoIdeal.nD Cert.WoIdeal.τ).loc Cert.WoIdeal.main_arg1))
      ∧ θ_run (Cert.WoReferenceIdeal.defs (F := Ideal)) (onTc (τ := Cert.WoReferenceIdeal.τ) (Cert.WoReferenceIdeal.main (F := Ideal))) ⟨m', fun _ => 0, g'⟩ (fun r => ∀ c : Dev Cert.WoReferenceIdeal.nD,
          r.2.mem ((c.tc : Thread Cert.WoReferenceIdeal.nD Cert.WoReferenceIdeal.τ).loc Cert.WoReferenceIdeal.main_v6) = v0 c
          ∧ r.2.mem ((c.tc : Thread Cert.WoReferenceIdeal.nD Cert.WoReferenceIdeal.τ).loc Cert.WoReferenceIdeal.main_arg0) = m' ((c.tc : Thread Cert.WoReferenceIdeal.nD Cert.WoReferenceIdeal.τ).loc Cert.WoReferenceIdeal.main_arg0)
          ∧ r.2.mem ((c.tc : Thread Cert.WoReferenceIdeal.nD Cert.WoReferenceIdeal.τ).loc Cert.WoReferenceIdeal.main_arg1) = m' ((c.tc : Thread Cert.WoReferenceIdeal.nD Cert.WoReferenceIdeal.τ).loc Cert.WoReferenceIdeal.main_arg1))

def preserves_SumDev_SumDevIdeal : Prop :=
  True

def algebraic_SumDevIdeal_SumDevReferenceIdeal [hSumDevIdeal : Cert.SumDevIdeal.Facts] [hSumDevReferenceIdeal : Cert.SumDevReferenceIdeal.Facts] : Prop :=
  ∀ (m : (ℓ : Loc Cert.SumDevIdeal.nD Cert.SumDevIdeal.τ Cert.SumDevIdeal.sig) → Buf (Elt Ideal) ℓ) (g : Dev Cert.SumDevIdeal.nD → PrngReg)
    (m' : (ℓ : Loc Cert.SumDevReferenceIdeal.nD Cert.SumDevReferenceIdeal.τ Cert.SumDevReferenceIdeal.sig) → Buf (Elt Ideal) ℓ) (g' : Dev Cert.SumDevReferenceIdeal.nD → PrngReg), Pre_SumDevIdeal m →
    (∀ c : Dev Cert.SumDevIdeal.nD,
      m' ((c.tc : Thread Cert.SumDevReferenceIdeal.nD Cert.SumDevReferenceIdeal.τ).loc Cert.SumDevReferenceIdeal.main_arg0) = m ((c.tc : Thread Cert.SumDevIdeal.nD Cert.SumDevIdeal.τ).loc Cert.SumDevIdeal.main_arg0)) →
    ∃ (v0 : (c : Dev Cert.SumDevIdeal.nD) → Buf (Elt Ideal) ((c.tc : Thread Cert.SumDevIdeal.nD Cert.SumDevIdeal.τ).loc Cert.SumDevIdeal.main_v0)),
      θ_run (Cert.SumDevIdeal.defs (F := Ideal)) (onTc (τ := Cert.SumDevIdeal.τ) (Cert.SumDevIdeal.main (F := Ideal))) ⟨m, fun _ => 0, g⟩ (fun r => ∀ c : Dev Cert.SumDevIdeal.nD,
          r.2.mem ((c.tc : Thread Cert.SumDevIdeal.nD Cert.SumDevIdeal.τ).loc Cert.SumDevIdeal.main_v0) = v0 c
          ∧ r.2.mem ((c.tc : Thread Cert.SumDevIdeal.nD Cert.SumDevIdeal.τ).loc Cert.SumDevIdeal.main_arg0) = m ((c.tc : Thread Cert.SumDevIdeal.nD Cert.SumDevIdeal.τ).loc Cert.SumDevIdeal.main_arg0))
      ∧ θ_run (Cert.SumDevReferenceIdeal.defs (F := Ideal)) (onTc (τ := Cert.SumDevReferenceIdeal.τ) (Cert.SumDevReferenceIdeal.main (F := Ideal))) ⟨m', fun _ => 0, g'⟩ (fun r => ∀ c : Dev Cert.SumDevReferenceIdeal.nD,
          r.2.mem ((c.tc : Thread Cert.SumDevReferenceIdeal.nD Cert.SumDevReferenceIdeal.τ).loc Cert.SumDevReferenceIdeal.main_v0) = v0 c
          ∧ r.2.mem ((c.tc : Thread Cert.SumDevReferenceIdeal.nD Cert.SumDevReferenceIdeal.τ).loc Cert.SumDevReferenceIdeal.main_arg0) = m' ((c.tc : Thread Cert.SumDevReferenceIdeal.nD Cert.SumDevReferenceIdeal.τ).loc Cert.SumDevReferenceIdeal.main_arg0))

def preserves_AdamNorm_AdamNormIdeal : Prop :=
  True

def algebraic_AdamNormIdeal_AdamNormReferenceIdeal [hAdamNormIdeal : Cert.AdamNormIdeal.Facts] [hAdamNormReferenceIdeal : Cert.AdamNormReferenceIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormReferenceIdeal.nD Cert.AdamNormReferenceIdeal.τ Cert.AdamNormReferenceIdeal.sig) → Buf (Elt Ideal) ℓ) (g' : Dev Cert.AdamNormReferenceIdeal.nD → PrngReg), Pre_AdamNormIdeal m →
    (∀ c : Dev Cert.AdamNormIdeal.nD,
      m' ((c.tc : Thread Cert.AdamNormReferenceIdeal.nD Cert.AdamNormReferenceIdeal.τ).loc Cert.AdamNormReferenceIdeal.main_arg0) = m ((c.tc : Thread Cert.AdamNormIdeal.nD Cert.AdamNormIdeal.τ).loc Cert.AdamNormIdeal.main_arg0)
      ∧ m' ((c.tc : Thread Cert.AdamNormReferenceIdeal.nD Cert.AdamNormReferenceIdeal.τ).loc Cert.AdamNormReferenceIdeal.main_arg1) = m ((c.tc : Thread Cert.AdamNormIdeal.nD Cert.AdamNormIdeal.τ).loc Cert.AdamNormIdeal.main_arg1)
      ∧ m' ((c.tc : Thread Cert.AdamNormReferenceIdeal.nD Cert.AdamNormReferenceIdeal.τ).loc Cert.AdamNormReferenceIdeal.main_arg2) = m ((c.tc : Thread Cert.AdamNormIdeal.nD Cert.AdamNormIdeal.τ).loc Cert.AdamNormIdeal.main_arg2)
      ∧ m' ((c.tc : Thread Cert.AdamNormReferenceIdeal.nD Cert.AdamNormReferenceIdeal.τ).loc Cert.AdamNormReferenceIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormReferenceIdeal.defs (F := Ideal)) (onTc (τ := Cert.AdamNormReferenceIdeal.τ) (Cert.AdamNormReferenceIdeal.main (F := Ideal))) ⟨m', fun _ => 0, g'⟩ (fun r => ∀ c : Dev Cert.AdamNormReferenceIdeal.nD,
          r.2.mem ((c.tc : Thread Cert.AdamNormReferenceIdeal.nD Cert.AdamNormReferenceIdeal.τ).loc Cert.AdamNormReferenceIdeal.main_v23) = v0 c
          ∧ r.2.mem ((c.tc : Thread Cert.AdamNormReferenceIdeal.nD Cert.AdamNormReferenceIdeal.τ).loc Cert.AdamNormReferenceIdeal.main_v4) = v1 c
          ∧ r.2.mem ((c.tc : Thread Cert.AdamNormReferenceIdeal.nD Cert.AdamNormReferenceIdeal.τ).loc Cert.AdamNormReferenceIdeal.main_v10) = v2 c
          ∧ r.2.mem ((c.tc : Thread Cert.AdamNormReferenceIdeal.nD Cert.AdamNormReferenceIdeal.τ).loc Cert.AdamNormReferenceIdeal.main_arg0) = m' ((c.tc : Thread Cert.AdamNormReferenceIdeal.nD Cert.AdamNormReferenceIdeal.τ).loc Cert.AdamNormReferenceIdeal.main_arg0)
          ∧ r.2.mem ((c.tc : Thread Cert.AdamNormReferenceIdeal.nD Cert.AdamNormReferenceIdeal.τ).loc Cert.AdamNormReferenceIdeal.main_arg1) = m' ((c.tc : Thread Cert.AdamNormReferenceIdeal.nD Cert.AdamNormReferenceIdeal.τ).loc Cert.AdamNormReferenceIdeal.main_arg1)
          ∧ r.2.mem ((c.tc : Thread Cert.AdamNormReferenceIdeal.nD Cert.AdamNormReferenceIdeal.τ).loc Cert.AdamNormReferenceIdeal.main_arg2) = m' ((c.tc : Thread Cert.AdamNormReferenceIdeal.nD Cert.AdamNormReferenceIdeal.τ).loc Cert.AdamNormReferenceIdeal.main_arg2)
          ∧ r.2.mem ((c.tc : Thread Cert.AdamNormReferenceIdeal.nD Cert.AdamNormReferenceIdeal.τ).loc Cert.AdamNormReferenceIdeal.main_arg3) = m' ((c.tc : Thread Cert.AdamNormReferenceIdeal.nD Cert.AdamNormReferenceIdeal.τ).loc Cert.AdamNormReferenceIdeal.main_arg3))

def preserves_AdamFgB_AdamFgBIdeal : Prop :=
  True

def algebraic_AdamFgBIdeal_AdamFgBReferenceIdeal [hAdamFgBIdeal : Cert.AdamFgBIdeal.Facts] [hAdamFgBReferenceIdeal : Cert.AdamFgBReferenceIdeal.Facts] : Prop :=
  ∀ (m : (ℓ : Loc Cert.AdamFgBIdeal.nD Cert.AdamFgBIdeal.τ Cert.AdamFgBIdeal.sig) → Buf (Elt Ideal) ℓ) (g : Dev Cert.AdamFgBIdeal.nD → PrngReg)
    (m' : (ℓ : Loc Cert.AdamFgBReferenceIdeal.nD Cert.AdamFgBReferenceIdeal.τ Cert.AdamFgBReferenceIdeal.sig) → Buf (Elt Ideal) ℓ) (g' : Dev Cert.AdamFgBReferenceIdeal.nD → PrngReg), Pre_AdamFgBIdeal m →
    (∀ c : Dev Cert.AdamFgBIdeal.nD,
      m' ((c.tc : Thread Cert.AdamFgBReferenceIdeal.nD Cert.AdamFgBReferenceIdeal.τ).loc Cert.AdamFgBReferenceIdeal.main_arg0) = m ((c.tc : Thread Cert.AdamFgBIdeal.nD Cert.AdamFgBIdeal.τ).loc Cert.AdamFgBIdeal.main_arg0)
      ∧ m' ((c.tc : Thread Cert.AdamFgBReferenceIdeal.nD Cert.AdamFgBReferenceIdeal.τ).loc Cert.AdamFgBReferenceIdeal.main_arg1) = m ((c.tc : Thread Cert.AdamFgBIdeal.nD Cert.AdamFgBIdeal.τ).loc Cert.AdamFgBIdeal.main_arg1)
      ∧ m' ((c.tc : Thread Cert.AdamFgBReferenceIdeal.nD Cert.AdamFgBReferenceIdeal.τ).loc Cert.AdamFgBReferenceIdeal.main_arg2) = m ((c.tc : Thread Cert.AdamFgBIdeal.nD Cert.AdamFgBIdeal.τ).loc Cert.AdamFgBIdeal.main_arg2)
      ∧ m' ((c.tc : Thread Cert.AdamFgBReferenceIdeal.nD Cert.AdamFgBReferenceIdeal.τ).loc Cert.AdamFgBReferenceIdeal.main_arg3) = m ((c.tc : Thread Cert.AdamFgBIdeal.nD Cert.AdamFgBIdeal.τ).loc Cert.AdamFgBIdeal.main_arg3)) →
    ∃ (v0 : (c : Dev Cert.AdamFgBIdeal.nD) → Buf (Elt Ideal) ((c.tc : Thread Cert.AdamFgBIdeal.nD Cert.AdamFgBIdeal.τ).loc Cert.AdamFgBIdeal.main_v0_0)) (v1 : (c : Dev Cert.AdamFgBIdeal.nD) → Buf (Elt Ideal) ((c.tc : Thread Cert.AdamFgBIdeal.nD Cert.AdamFgBIdeal.τ).loc Cert.AdamFgBIdeal.main_v0_1)) (v2 : (c : Dev Cert.AdamFgBIdeal.nD) → Buf (Elt Ideal) ((c.tc : Thread Cert.AdamFgBIdeal.nD Cert.AdamFgBIdeal.τ).loc Cert.AdamFgBIdeal.main_v0_2)),
      θ_run (Cert.AdamFgBIdeal.defs (F := Ideal)) (onTc (τ := Cert.AdamFgBIdeal.τ) (Cert.AdamFgBIdeal.main (F := Ideal))) ⟨m, fun _ => 0, g⟩ (fun r => ∀ c : Dev Cert.AdamFgBIdeal.nD,
          r.2.mem ((c.tc : Thread Cert.AdamFgBIdeal.nD Cert.AdamFgBIdeal.τ).loc Cert.AdamFgBIdeal.main_v0_0) = v0 c
          ∧ r.2.mem ((c.tc : Thread Cert.AdamFgBIdeal.nD Cert.AdamFgBIdeal.τ).loc Cert.AdamFgBIdeal.main_v0_1) = v1 c
          ∧ r.2.mem ((c.tc : Thread Cert.AdamFgBIdeal.nD Cert.AdamFgBIdeal.τ).loc Cert.AdamFgBIdeal.main_v0_2) = v2 c
          ∧ r.2.mem ((c.tc : Thread Cert.AdamFgBIdeal.nD Cert.AdamFgBIdeal.τ).loc Cert.AdamFgBIdeal.main_arg0) = m ((c.tc : Thread Cert.AdamFgBIdeal.nD Cert.AdamFgBIdeal.τ).loc Cert.AdamFgBIdeal.main_arg0)
          ∧ r.2.mem ((c.tc : Thread Cert.AdamFgBIdeal.nD Cert.AdamFgBIdeal.τ).loc Cert.AdamFgBIdeal.main_arg1) = m ((c.tc : Thread Cert.AdamFgBIdeal.nD Cert.AdamFgBIdeal.τ).loc Cert.AdamFgBIdeal.main_arg1)
          ∧ r.2.mem ((c.tc : Thread Cert.AdamFgBIdeal.nD Cert.AdamFgBIdeal.τ).loc Cert.AdamFgBIdeal.main_arg2) = m ((c.tc : Thread Cert.AdamFgBIdeal.nD Cert.AdamFgBIdeal.τ).loc Cert.AdamFgBIdeal.main_arg2)
          ∧ r.2.mem ((c.tc : Thread Cert.AdamFgBIdeal.nD Cert.AdamFgBIdeal.τ).loc Cert.AdamFgBIdeal.main_arg3) = m ((c.tc : Thread Cert.AdamFgBIdeal.nD Cert.AdamFgBIdeal.τ).loc Cert.AdamFgBIdeal.main_arg3))
      ∧ θ_run (Cert.AdamFgBReferenceIdeal.defs (F := Ideal)) (onTc (τ := Cert.AdamFgBReferenceIdeal.τ) (Cert.AdamFgBReferenceIdeal.main (F := Ideal))) ⟨m', fun _ => 0, g'⟩ (fun r => ∀ c : Dev Cert.AdamFgBReferenceIdeal.nD,
          r.2.mem ((c.tc : Thread Cert.AdamFgBReferenceIdeal.nD Cert.AdamFgBReferenceIdeal.τ).loc Cert.AdamFgBReferenceIdeal.main_v23) = v0 c
          ∧ r.2.mem ((c.tc : Thread Cert.AdamFgBReferenceIdeal.nD Cert.AdamFgBReferenceIdeal.τ).loc Cert.AdamFgBReferenceIdeal.main_v4) = v1 c
          ∧ r.2.mem ((c.tc : Thread Cert.AdamFgBReferenceIdeal.nD Cert.AdamFgBReferenceIdeal.τ).loc Cert.AdamFgBReferenceIdeal.main_v10) = v2 c
          ∧ r.2.mem ((c.tc : Thread Cert.AdamFgBReferenceIdeal.nD Cert.AdamFgBReferenceIdeal.τ).loc Cert.AdamFgBReferenceIdeal.main_arg0) = m' ((c.tc : Thread Cert.AdamFgBReferenceIdeal.nD Cert.AdamFgBReferenceIdeal.τ).loc Cert.AdamFgBReferenceIdeal.main_arg0)
          ∧ r.2.mem ((c.tc : Thread Cert.AdamFgBReferenceIdeal.nD Cert.AdamFgBReferenceIdeal.τ).loc Cert.AdamFgBReferenceIdeal.main_arg1) = m' ((c.tc : Thread Cert.AdamFgBReferenceIdeal.nD Cert.AdamFgBReferenceIdeal.τ).loc Cert.AdamFgBReferenceIdeal.main_arg1)
          ∧ r.2.mem ((c.tc : Thread Cert.AdamFgBReferenceIdeal.nD Cert.AdamFgBReferenceIdeal.τ).loc Cert.AdamFgBReferenceIdeal.main_arg2) = m' ((c.tc : Thread Cert.AdamFgBReferenceIdeal.nD Cert.AdamFgBReferenceIdeal.τ).loc Cert.AdamFgBReferenceIdeal.main_arg2)
          ∧ r.2.mem ((c.tc : Thread Cert.AdamFgBReferenceIdeal.nD Cert.AdamFgBReferenceIdeal.τ).loc Cert.AdamFgBReferenceIdeal.main_arg3) = m' ((c.tc : Thread Cert.AdamFgBReferenceIdeal.nD Cert.AdamFgBReferenceIdeal.τ).loc Cert.AdamFgBReferenceIdeal.main_arg3))

def preserves_AdamGla_AdamGlaIdeal : Prop :=
  True

def algebraic_AdamGlaIdeal_AdamGlaReferenceIdeal [hAdamGlaIdeal : Cert.AdamGlaIdeal.Facts] [hAdamGlaReferenceIdeal : Cert.AdamGlaReferenceIdeal.Facts] : Prop :=
  ∀ (m : (ℓ : Loc Cert.AdamGlaIdeal.nD Cert.AdamGlaIdeal.τ Cert.AdamGlaIdeal.sig) → Buf (Elt Ideal) ℓ) (g : Dev Cert.AdamGlaIdeal.nD → PrngReg)
    (m' : (ℓ : Loc Cert.AdamGlaReferenceIdeal.nD Cert.AdamGlaReferenceIdeal.τ Cert.AdamGlaReferenceIdeal.sig) → Buf (Elt Ideal) ℓ) (g' : Dev Cert.AdamGlaReferenceIdeal.nD → PrngReg), Pre_AdamGlaIdeal m →
    (∀ c : Dev Cert.AdamGlaIdeal.nD,
      m' ((c.tc : Thread Cert.AdamGlaReferenceIdeal.nD Cert.AdamGlaReferenceIdeal.τ).loc Cert.AdamGlaReferenceIdeal.main_arg0) = m ((c.tc : Thread Cert.AdamGlaIdeal.nD Cert.AdamGlaIdeal.τ).loc Cert.AdamGlaIdeal.main_arg0)
      ∧ m' ((c.tc : Thread Cert.AdamGlaReferenceIdeal.nD Cert.AdamGlaReferenceIdeal.τ).loc Cert.AdamGlaReferenceIdeal.main_arg1) = m ((c.tc : Thread Cert.AdamGlaIdeal.nD Cert.AdamGlaIdeal.τ).loc Cert.AdamGlaIdeal.main_arg1)
      ∧ m' ((c.tc : Thread Cert.AdamGlaReferenceIdeal.nD Cert.AdamGlaReferenceIdeal.τ).loc Cert.AdamGlaReferenceIdeal.main_arg2) = m ((c.tc : Thread Cert.AdamGlaIdeal.nD Cert.AdamGlaIdeal.τ).loc Cert.AdamGlaIdeal.main_arg2)
      ∧ m' ((c.tc : Thread Cert.AdamGlaReferenceIdeal.nD Cert.AdamGlaReferenceIdeal.τ).loc Cert.AdamGlaReferenceIdeal.main_arg3) = m ((c.tc : Thread Cert.AdamGlaIdeal.nD Cert.AdamGlaIdeal.τ).loc Cert.AdamGlaIdeal.main_arg3)) →
    ∃ (v0 : (c : Dev Cert.AdamGlaIdeal.nD) → Buf (Elt Ideal) ((c.tc : Thread Cert.AdamGlaIdeal.nD Cert.AdamGlaIdeal.τ).loc Cert.AdamGlaIdeal.main_v0_0)) (v1 : (c : Dev Cert.AdamGlaIdeal.nD) → Buf (Elt Ideal) ((c.tc : Thread Cert.AdamGlaIdeal.nD Cert.AdamGlaIdeal.τ).loc Cert.AdamGlaIdeal.main_v0_1)) (v2 : (c : Dev Cert.AdamGlaIdeal.nD) → Buf (Elt Ideal) ((c.tc : Thread Cert.AdamGlaIdeal.nD Cert.AdamGlaIdeal.τ).loc Cert.AdamGlaIdeal.main_v0_2)),
      θ_run (Cert.AdamGlaIdeal.defs (F := Ideal)) (onTc (τ := Cert.AdamGlaIdeal.τ) (Cert.AdamGlaIdeal.main (F := Ideal))) ⟨m, fun _ => 0, g⟩ (fun r => ∀ c : Dev Cert.AdamGlaIdeal.nD,
          r.2.mem ((c.tc : Thread Cert.AdamGlaIdeal.nD Cert.AdamGlaIdeal.τ).loc Cert.AdamGlaIdeal.main_v0_0) = v0 c
          ∧ r.2.mem ((c.tc : Thread Cert.AdamGlaIdeal.nD Cert.AdamGlaIdeal.τ).loc Cert.AdamGlaIdeal.main_v0_1) = v1 c
          ∧ r.2.mem ((c.tc : Thread Cert.AdamGlaIdeal.nD Cert.AdamGlaIdeal.τ).loc Cert.AdamGlaIdeal.main_v0_2) = v2 c
          ∧ r.2.mem ((c.tc : Thread Cert.AdamGlaIdeal.nD Cert.AdamGlaIdeal.τ).loc Cert.AdamGlaIdeal.main_arg0) = m ((c.tc : Thread Cert.AdamGlaIdeal.nD Cert.AdamGlaIdeal.τ).loc Cert.AdamGlaIdeal.main_arg0)
          ∧ r.2.mem ((c.tc : Thread Cert.AdamGlaIdeal.nD Cert.AdamGlaIdeal.τ).loc Cert.AdamGlaIdeal.main_arg1) = m ((c.tc : Thread Cert.AdamGlaIdeal.nD Cert.AdamGlaIdeal.τ).loc Cert.AdamGlaIdeal.main_arg1)
          ∧ r.2.mem ((c.tc : Thread Cert.AdamGlaIdeal.nD Cert.AdamGlaIdeal.τ).loc Cert.AdamGlaIdeal.main_arg2) = m ((c.tc : Thread Cert.AdamGlaIdeal.nD Cert.AdamGlaIdeal.τ).loc Cert.AdamGlaIdeal.main_arg2)
          ∧ r.2.mem ((c.tc : Thread Cert.AdamGlaIdeal.nD Cert.AdamGlaIdeal.τ).loc Cert.AdamGlaIdeal.main_arg3) = m ((c.tc : Thread Cert.AdamGlaIdeal.nD Cert.AdamGlaIdeal.τ).loc Cert.AdamGlaIdeal.main_arg3))
      ∧ θ_run (Cert.AdamGlaReferenceIdeal.defs (F := Ideal)) (onTc (τ := Cert.AdamGlaReferenceIdeal.τ) (Cert.AdamGlaReferenceIdeal.main (F := Ideal))) ⟨m', fun _ => 0, g'⟩ (fun r => ∀ c : Dev Cert.AdamGlaReferenceIdeal.nD,
          r.2.mem ((c.tc : Thread Cert.AdamGlaReferenceIdeal.nD Cert.AdamGlaReferenceIdeal.τ).loc Cert.AdamGlaReferenceIdeal.main_v23) = v0 c
          ∧ r.2.mem ((c.tc : Thread Cert.AdamGlaReferenceIdeal.nD Cert.AdamGlaReferenceIdeal.τ).loc Cert.AdamGlaReferenceIdeal.main_v4) = v1 c
          ∧ r.2.mem ((c.tc : Thread Cert.AdamGlaReferenceIdeal.nD Cert.AdamGlaReferenceIdeal.τ).loc Cert.AdamGlaReferenceIdeal.main_v10) = v2 c
          ∧ r.2.mem ((c.tc : Thread Cert.AdamGlaReferenceIdeal.nD Cert.AdamGlaReferenceIdeal.τ).loc Cert.AdamGlaReferenceIdeal.main_arg0) = m' ((c.tc : Thread Cert.AdamGlaReferenceIdeal.nD Cert.AdamGlaReferenceIdeal.τ).loc Cert.AdamGlaReferenceIdeal.main_arg0)
          ∧ r.2.mem ((c.tc : Thread Cert.AdamGlaReferenceIdeal.nD Cert.AdamGlaReferenceIdeal.τ).loc Cert.AdamGlaReferenceIdeal.main_arg1) = m' ((c.tc : Thread Cert.AdamGlaReferenceIdeal.nD Cert.AdamGlaReferenceIdeal.τ).loc Cert.AdamGlaReferenceIdeal.main_arg1)
          ∧ r.2.mem ((c.tc : Thread Cert.AdamGlaReferenceIdeal.nD Cert.AdamGlaReferenceIdeal.τ).loc Cert.AdamGlaReferenceIdeal.main_arg2) = m' ((c.tc : Thread Cert.AdamGlaReferenceIdeal.nD Cert.AdamGlaReferenceIdeal.τ).loc Cert.AdamGlaReferenceIdeal.main_arg2)
          ∧ r.2.mem ((c.tc : Thread Cert.AdamGlaReferenceIdeal.nD Cert.AdamGlaReferenceIdeal.τ).loc Cert.AdamGlaReferenceIdeal.main_arg3) = m' ((c.tc : Thread Cert.AdamGlaReferenceIdeal.nD Cert.AdamGlaReferenceIdeal.τ).loc Cert.AdamGlaReferenceIdeal.main_arg3))

def preserves_AdamFinal_AdamFinalIdeal : Prop :=
  True

def algebraic_AdamFinalIdeal_AdamFinalReferenceIdeal [hAdamFinalIdeal : Cert.AdamFinalIdeal.Facts] [hAdamFinalReferenceIdeal : Cert.AdamFinalReferenceIdeal.Facts] : Prop :=
  ∀ (m : (ℓ : Loc Cert.AdamFinalIdeal.nD Cert.AdamFinalIdeal.τ Cert.AdamFinalIdeal.sig) → Buf (Elt Ideal) ℓ) (g : Dev Cert.AdamFinalIdeal.nD → PrngReg)
    (m' : (ℓ : Loc Cert.AdamFinalReferenceIdeal.nD Cert.AdamFinalReferenceIdeal.τ Cert.AdamFinalReferenceIdeal.sig) → Buf (Elt Ideal) ℓ) (g' : Dev Cert.AdamFinalReferenceIdeal.nD → PrngReg), Pre_AdamFinalIdeal m →
    (∀ c : Dev Cert.AdamFinalIdeal.nD,
      m' ((c.tc : Thread Cert.AdamFinalReferenceIdeal.nD Cert.AdamFinalReferenceIdeal.τ).loc Cert.AdamFinalReferenceIdeal.main_arg0) = m ((c.tc : Thread Cert.AdamFinalIdeal.nD Cert.AdamFinalIdeal.τ).loc Cert.AdamFinalIdeal.main_arg0)
      ∧ m' ((c.tc : Thread Cert.AdamFinalReferenceIdeal.nD Cert.AdamFinalReferenceIdeal.τ).loc Cert.AdamFinalReferenceIdeal.main_arg1) = m ((c.tc : Thread Cert.AdamFinalIdeal.nD Cert.AdamFinalIdeal.τ).loc Cert.AdamFinalIdeal.main_arg1)
      ∧ m' ((c.tc : Thread Cert.AdamFinalReferenceIdeal.nD Cert.AdamFinalReferenceIdeal.τ).loc Cert.AdamFinalReferenceIdeal.main_arg2) = m ((c.tc : Thread Cert.AdamFinalIdeal.nD Cert.AdamFinalIdeal.τ).loc Cert.AdamFinalIdeal.main_arg2)
      ∧ m' ((c.tc : Thread Cert.AdamFinalReferenceIdeal.nD Cert.AdamFinalReferenceIdeal.τ).loc Cert.AdamFinalReferenceIdeal.main_arg3) = m ((c.tc : Thread Cert.AdamFinalIdeal.nD Cert.AdamFinalIdeal.τ).loc Cert.AdamFinalIdeal.main_arg3)) →
    ∃ (v0 : (c : Dev Cert.AdamFinalIdeal.nD) → Buf (Elt Ideal) ((c.tc : Thread Cert.AdamFinalIdeal.nD Cert.AdamFinalIdeal.τ).loc Cert.AdamFinalIdeal.main_v0_0)) (v1 : (c : Dev Cert.AdamFinalIdeal.nD) → Buf (Elt Ideal) ((c.tc : Thread Cert.AdamFinalIdeal.nD Cert.AdamFinalIdeal.τ).loc Cert.AdamFinalIdeal.main_v0_1)) (v2 : (c : Dev Cert.AdamFinalIdeal.nD) → Buf (Elt Ideal) ((c.tc : Thread Cert.AdamFinalIdeal.nD Cert.AdamFinalIdeal.τ).loc Cert.AdamFinalIdeal.main_v0_2)),
      θ_run (Cert.AdamFinalIdeal.defs (F := Ideal)) (onTc (τ := Cert.AdamFinalIdeal.τ) (Cert.AdamFinalIdeal.main (F := Ideal))) ⟨m, fun _ => 0, g⟩ (fun r => ∀ c : Dev Cert.AdamFinalIdeal.nD,
          r.2.mem ((c.tc : Thread Cert.AdamFinalIdeal.nD Cert.AdamFinalIdeal.τ).loc Cert.AdamFinalIdeal.main_v0_0) = v0 c
          ∧ r.2.mem ((c.tc : Thread Cert.AdamFinalIdeal.nD Cert.AdamFinalIdeal.τ).loc Cert.AdamFinalIdeal.main_v0_1) = v1 c
          ∧ r.2.mem ((c.tc : Thread Cert.AdamFinalIdeal.nD Cert.AdamFinalIdeal.τ).loc Cert.AdamFinalIdeal.main_v0_2) = v2 c
          ∧ r.2.mem ((c.tc : Thread Cert.AdamFinalIdeal.nD Cert.AdamFinalIdeal.τ).loc Cert.AdamFinalIdeal.main_arg0) = m ((c.tc : Thread Cert.AdamFinalIdeal.nD Cert.AdamFinalIdeal.τ).loc Cert.AdamFinalIdeal.main_arg0)
          ∧ r.2.mem ((c.tc : Thread Cert.AdamFinalIdeal.nD Cert.AdamFinalIdeal.τ).loc Cert.AdamFinalIdeal.main_arg1) = m ((c.tc : Thread Cert.AdamFinalIdeal.nD Cert.AdamFinalIdeal.τ).loc Cert.AdamFinalIdeal.main_arg1)
          ∧ r.2.mem ((c.tc : Thread Cert.AdamFinalIdeal.nD Cert.AdamFinalIdeal.τ).loc Cert.AdamFinalIdeal.main_arg2) = m ((c.tc : Thread Cert.AdamFinalIdeal.nD Cert.AdamFinalIdeal.τ).loc Cert.AdamFinalIdeal.main_arg2)
          ∧ r.2.mem ((c.tc : Thread Cert.AdamFinalIdeal.nD Cert.AdamFinalIdeal.τ).loc Cert.AdamFinalIdeal.main_arg3) = m ((c.tc : Thread Cert.AdamFinalIdeal.nD Cert.AdamFinalIdeal.τ).loc Cert.AdamFinalIdeal.main_arg3))
      ∧ θ_run (Cert.AdamFinalReferenceIdeal.defs (F := Ideal)) (onTc (τ := Cert.AdamFinalReferenceIdeal.τ) (Cert.AdamFinalReferenceIdeal.main (F := Ideal))) ⟨m', fun _ => 0, g'⟩ (fun r => ∀ c : Dev Cert.AdamFinalReferenceIdeal.nD,
          r.2.mem ((c.tc : Thread Cert.AdamFinalReferenceIdeal.nD Cert.AdamFinalReferenceIdeal.τ).loc Cert.AdamFinalReferenceIdeal.main_v23) = v0 c
          ∧ r.2.mem ((c.tc : Thread Cert.AdamFinalReferenceIdeal.nD Cert.AdamFinalReferenceIdeal.τ).loc Cert.AdamFinalReferenceIdeal.main_v4) = v1 c
          ∧ r.2.mem ((c.tc : Thread Cert.AdamFinalReferenceIdeal.nD Cert.AdamFinalReferenceIdeal.τ).loc Cert.AdamFinalReferenceIdeal.main_v10) = v2 c
          ∧ r.2.mem ((c.tc : Thread Cert.AdamFinalReferenceIdeal.nD Cert.AdamFinalReferenceIdeal.τ).loc Cert.AdamFinalReferenceIdeal.main_arg0) = m' ((c.tc : Thread Cert.AdamFinalReferenceIdeal.nD Cert.AdamFinalReferenceIdeal.τ).loc Cert.AdamFinalReferenceIdeal.main_arg0)
          ∧ r.2.mem ((c.tc : Thread Cert.AdamFinalReferenceIdeal.nD Cert.AdamFinalReferenceIdeal.τ).loc Cert.AdamFinalReferenceIdeal.main_arg1) = m' ((c.tc : Thread Cert.AdamFinalReferenceIdeal.nD Cert.AdamFinalReferenceIdeal.τ).loc Cert.AdamFinalReferenceIdeal.main_arg1)
          ∧ r.2.mem ((c.tc : Thread Cert.AdamFinalReferenceIdeal.nD Cert.AdamFinalReferenceIdeal.τ).loc Cert.AdamFinalReferenceIdeal.main_arg2) = m' ((c.tc : Thread Cert.AdamFinalReferenceIdeal.nD Cert.AdamFinalReferenceIdeal.τ).loc Cert.AdamFinalReferenceIdeal.main_arg2)
          ∧ r.2.mem ((c.tc : Thread Cert.AdamFinalReferenceIdeal.nD Cert.AdamFinalReferenceIdeal.τ).loc Cert.AdamFinalReferenceIdeal.main_arg3) = m' ((c.tc : Thread Cert.AdamFinalReferenceIdeal.nD Cert.AdamFinalReferenceIdeal.τ).loc Cert.AdamFinalReferenceIdeal.main_arg3))

def preserves_AdamSquare_AdamSquareIdeal : Prop :=
  True

def algebraic_AdamSquareIdeal_AdamSquareReferenceIdeal [hAdamSquareIdeal : Cert.AdamSquareIdeal.Facts] [hAdamSquareReferenceIdeal : Cert.AdamSquareReferenceIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareReferenceIdeal.nD Cert.AdamSquareReferenceIdeal.τ Cert.AdamSquareReferenceIdeal.sig) → Buf (Elt Ideal) ℓ) (g' : Dev Cert.AdamSquareReferenceIdeal.nD → PrngReg), Pre_AdamSquareIdeal m →
    (∀ c : Dev Cert.AdamSquareIdeal.nD,
      m' ((c.tc : Thread Cert.AdamSquareReferenceIdeal.nD Cert.AdamSquareReferenceIdeal.τ).loc Cert.AdamSquareReferenceIdeal.main_arg0) = m ((c.tc : Thread Cert.AdamSquareIdeal.nD Cert.AdamSquareIdeal.τ).loc Cert.AdamSquareIdeal.main_arg0)
      ∧ m' ((c.tc : Thread Cert.AdamSquareReferenceIdeal.nD Cert.AdamSquareReferenceIdeal.τ).loc Cert.AdamSquareReferenceIdeal.main_arg1) = m ((c.tc : Thread Cert.AdamSquareIdeal.nD Cert.AdamSquareIdeal.τ).loc Cert.AdamSquareIdeal.main_arg1)
      ∧ m' ((c.tc : Thread Cert.AdamSquareReferenceIdeal.nD Cert.AdamSquareReferenceIdeal.τ).loc Cert.AdamSquareReferenceIdeal.main_arg2) = m ((c.tc : Thread Cert.AdamSquareIdeal.nD Cert.AdamSquareIdeal.τ).loc Cert.AdamSquareIdeal.main_arg2)
      ∧ m' ((c.tc : Thread Cert.AdamSquareReferenceIdeal.nD Cert.AdamSquareReferenceIdeal.τ).loc Cert.AdamSquareReferenceIdeal.main_arg3) = m ((c.tc : Thread Cert.AdamSquareIdeal.nD Cert.AdamSquareIdeal.τ).loc Cert.AdamSquareIdeal.main_arg3)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_1)) (v2 : (c : Dev Cert.AdamSquareIdeal.nD) → Buf (Elt Ideal) ((c.tc : Thread Cert.AdamSquareIdeal.nD Cert.AdamSquareIdeal.τ).loc Cert.AdamSquareIdeal.main_v0_2)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_1) = v1 c
          ∧ r.2.mem ((c.tc : Thread Cert.AdamSquareIdeal.nD Cert.AdamSquareIdeal.τ).loc Cert.AdamSquareIdeal.main_v0_2) = v2 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ θ_run (Cert.AdamSquareReferenceIdeal.defs (F := Ideal)) (onTc (τ := Cert.AdamSquareReferenceIdeal.τ) (Cert.AdamSquareReferenceIdeal.main (F := Ideal))) ⟨m', fun _ => 0, g'⟩ (fun r => ∀ c : Dev Cert.AdamSquareReferenceIdeal.nD,
          r.2.mem ((c.tc : Thread Cert.AdamSquareReferenceIdeal.nD Cert.AdamSquareReferenceIdeal.τ).loc Cert.AdamSquareReferenceIdeal.main_v23) = v0 c
          ∧ r.2.mem ((c.tc : Thread Cert.AdamSquareReferenceIdeal.nD Cert.AdamSquareReferenceIdeal.τ).loc Cert.AdamSquareReferenceIdeal.main_v4) = v1 c
          ∧ r.2.mem ((c.tc : Thread Cert.AdamSquareReferenceIdeal.nD Cert.AdamSquareReferenceIdeal.τ).loc Cert.AdamSquareReferenceIdeal.main_v10) = v2 c
          ∧ r.2.mem ((c.tc : Thread Cert.AdamSquareReferenceIdeal.nD Cert.AdamSquareReferenceIdeal.τ).loc Cert.AdamSquareReferenceIdeal.main_arg0) = m' ((c.tc : Thread Cert.AdamSquareReferenceIdeal.nD Cert.AdamSquareReferenceIdeal.τ).loc Cert.AdamSquareReferenceIdeal.main_arg0)
          ∧ r.2.mem ((c.tc : Thread Cert.AdamSquareReferenceIdeal.nD Cert.AdamSquareReferenceIdeal.τ).loc Cert.AdamSquareReferenceIdeal.main_arg1) = m' ((c.tc : Thread Cert.AdamSquareReferenceIdeal.nD Cert.AdamSquareReferenceIdeal.τ).loc Cert.AdamSquareReferenceIdeal.main_arg1)
          ∧ r.2.mem ((c.tc : Thread Cert.AdamSquareReferenceIdeal.nD Cert.AdamSquareReferenceIdeal.τ).loc Cert.AdamSquareReferenceIdeal.main_arg2) = m' ((c.tc : Thread Cert.AdamSquareReferenceIdeal.nD Cert.AdamSquareReferenceIdeal.τ).loc Cert.AdamSquareReferenceIdeal.main_arg2)
          ∧ r.2.mem ((c.tc : Thread Cert.AdamSquareReferenceIdeal.nD Cert.AdamSquareReferenceIdeal.τ).loc Cert.AdamSquareReferenceIdeal.main_arg3) = m' ((c.tc : Thread Cert.AdamSquareReferenceIdeal.nD Cert.AdamSquareReferenceIdeal.τ).loc Cert.AdamSquareReferenceIdeal.main_arg3))

def preserves_AdamDown_AdamDownIdeal : Prop :=
  True

def algebraic_AdamDownIdeal_AdamDownReferenceIdeal [hAdamDownIdeal : Cert.AdamDownIdeal.Facts] [hAdamDownReferenceIdeal : Cert.AdamDownReferenceIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownIdeal m →
    (∀ c : Dev Cert.AdamDownIdeal.nD,
      m' ((c.tc : Thread Cert.AdamDownReferenceIdeal.nD Cert.AdamDownReferenceIdeal.τ).loc Cert.AdamDownReferenceIdeal.main_arg0) = m ((c.tc : Thread Cert.AdamDownIdeal.nD Cert.AdamDownIdeal.τ).loc Cert.AdamDownIdeal.main_arg0)
      ∧ m' ((c.tc : Thread Cert.AdamDownReferenceIdeal.nD Cert.AdamDownReferenceIdeal.τ).loc Cert.AdamDownReferenceIdeal.main_arg1) = m ((c.tc : Thread Cert.AdamDownIdeal.nD Cert.AdamDownIdeal.τ).loc Cert.AdamDownIdeal.main_arg1)
      ∧ m' ((c.tc : Thread Cert.AdamDownReferenceIdeal.nD Cert.AdamDownReferenceIdeal.τ).loc Cert.AdamDownReferenceIdeal.main_arg2) = m ((c.tc : Thread Cert.AdamDownIdeal.nD Cert.AdamDownIdeal.τ).loc Cert.AdamDownIdeal.main_arg2)
      ∧ m' ((c.tc : Thread Cert.AdamDownReferenceIdeal.nD Cert.AdamDownReferenceIdeal.τ).loc Cert.AdamDownReferenceIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v23) = v0 c
          ∧ r.2.mem ((c.tc : Thread Cert.AdamDownReferenceIdeal.nD Cert.AdamDownReferenceIdeal.τ).loc Cert.AdamDownReferenceIdeal.main_v4) = v1 c
          ∧ r.2.mem ((c.tc : Thread Cert.AdamDownReferenceIdeal.nD Cert.AdamDownReferenceIdeal.τ).loc Cert.AdamDownReferenceIdeal.main_v10) = v2 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3))

def preserves_AdamFg_AdamFgIdeal : Prop :=
  True

def algebraic_AdamFgIdeal_AdamFgReferenceIdeal [hAdamFgIdeal : Cert.AdamFgIdeal.Facts] [hAdamFgReferenceIdeal : Cert.AdamFgReferenceIdeal.Facts] : Prop :=
  ∀ (m : (ℓ : Loc Cert.AdamFgIdeal.nD Cert.AdamFgIdeal.τ Cert.AdamFgIdeal.sig) → Buf (Elt Ideal) ℓ) (g : Dev Cert.AdamFgIdeal.nD → PrngReg)
    (m' : (ℓ : Loc Cert.AdamFgReferenceIdeal.nD Cert.AdamFgReferenceIdeal.τ Cert.AdamFgReferenceIdeal.sig) → Buf (Elt Ideal) ℓ) (g' : Dev Cert.AdamFgReferenceIdeal.nD → PrngReg), Pre_AdamFgIdeal m →
    (∀ c : Dev Cert.AdamFgIdeal.nD,
      m' ((c.tc : Thread Cert.AdamFgReferenceIdeal.nD Cert.AdamFgReferenceIdeal.τ).loc Cert.AdamFgReferenceIdeal.main_arg0) = m ((c.tc : Thread Cert.AdamFgIdeal.nD Cert.AdamFgIdeal.τ).loc Cert.AdamFgIdeal.main_arg0)
      ∧ m' ((c.tc : Thread Cert.AdamFgReferenceIdeal.nD Cert.AdamFgReferenceIdeal.τ).loc Cert.AdamFgReferenceIdeal.main_arg1) = m ((c.tc : Thread Cert.AdamFgIdeal.nD Cert.AdamFgIdeal.τ).loc Cert.AdamFgIdeal.main_arg1)
      ∧ m' ((c.tc : Thread Cert.AdamFgReferenceIdeal.nD Cert.AdamFgReferenceIdeal.τ).loc Cert.AdamFgReferenceIdeal.main_arg2) = m ((c.tc : Thread Cert.AdamFgIdeal.nD Cert.AdamFgIdeal.τ).loc Cert.AdamFgIdeal.main_arg2)
      ∧ m' ((c.tc : Thread Cert.AdamFgReferenceIdeal.nD Cert.AdamFgReferenceIdeal.τ).loc Cert.AdamFgReferenceIdeal.main_arg3) = m ((c.tc : Thread Cert.AdamFgIdeal.nD Cert.AdamFgIdeal.τ).loc Cert.AdamFgIdeal.main_arg3)) →
    ∃ (v0 : (c : Dev Cert.AdamFgIdeal.nD) → Buf (Elt Ideal) ((c.tc : Thread Cert.AdamFgIdeal.nD Cert.AdamFgIdeal.τ).loc Cert.AdamFgIdeal.main_v0_0)) (v1 : (c : Dev Cert.AdamFgIdeal.nD) → Buf (Elt Ideal) ((c.tc : Thread Cert.AdamFgIdeal.nD Cert.AdamFgIdeal.τ).loc Cert.AdamFgIdeal.main_v0_1)) (v2 : (c : Dev Cert.AdamFgIdeal.nD) → Buf (Elt Ideal) ((c.tc : Thread Cert.AdamFgIdeal.nD Cert.AdamFgIdeal.τ).loc Cert.AdamFgIdeal.main_v0_2)),
      θ_run (Cert.AdamFgIdeal.defs (F := Ideal)) (onTc (τ := Cert.AdamFgIdeal.τ) (Cert.AdamFgIdeal.main (F := Ideal))) ⟨m, fun _ => 0, g⟩ (fun r => ∀ c : Dev Cert.AdamFgIdeal.nD,
          r.2.mem ((c.tc : Thread Cert.AdamFgIdeal.nD Cert.AdamFgIdeal.τ).loc Cert.AdamFgIdeal.main_v0_0) = v0 c
          ∧ r.2.mem ((c.tc : Thread Cert.AdamFgIdeal.nD Cert.AdamFgIdeal.τ).loc Cert.AdamFgIdeal.main_v0_1) = v1 c
          ∧ r.2.mem ((c.tc : Thread Cert.AdamFgIdeal.nD Cert.AdamFgIdeal.τ).loc Cert.AdamFgIdeal.main_v0_2) = v2 c
          ∧ r.2.mem ((c.tc : Thread Cert.AdamFgIdeal.nD Cert.AdamFgIdeal.τ).loc Cert.AdamFgIdeal.main_arg0) = m ((c.tc : Thread Cert.AdamFgIdeal.nD Cert.AdamFgIdeal.τ).loc Cert.AdamFgIdeal.main_arg0)
          ∧ r.2.mem ((c.tc : Thread Cert.AdamFgIdeal.nD Cert.AdamFgIdeal.τ).loc Cert.AdamFgIdeal.main_arg1) = m ((c.tc : Thread Cert.AdamFgIdeal.nD Cert.AdamFgIdeal.τ).loc Cert.AdamFgIdeal.main_arg1)
          ∧ r.2.mem ((c.tc : Thread Cert.AdamFgIdeal.nD Cert.AdamFgIdeal.τ).loc Cert.AdamFgIdeal.main_arg2) = m ((c.tc : Thread Cert.AdamFgIdeal.nD Cert.AdamFgIdeal.τ).loc Cert.AdamFgIdeal.main_arg2)
          ∧ r.2.mem ((c.tc : Thread Cert.AdamFgIdeal.nD Cert.AdamFgIdeal.τ).loc Cert.AdamFgIdeal.main_arg3) = m ((c.tc : Thread Cert.AdamFgIdeal.nD Cert.AdamFgIdeal.τ).loc Cert.AdamFgIdeal.main_arg3))
      ∧ θ_run (Cert.AdamFgReferenceIdeal.defs (F := Ideal)) (onTc (τ := Cert.AdamFgReferenceIdeal.τ) (Cert.AdamFgReferenceIdeal.main (F := Ideal))) ⟨m', fun _ => 0, g'⟩ (fun r => ∀ c : Dev Cert.AdamFgReferenceIdeal.nD,
          r.2.mem ((c.tc : Thread Cert.AdamFgReferenceIdeal.nD Cert.AdamFgReferenceIdeal.τ).loc Cert.AdamFgReferenceIdeal.main_v23) = v0 c
          ∧ r.2.mem ((c.tc : Thread Cert.AdamFgReferenceIdeal.nD Cert.AdamFgReferenceIdeal.τ).loc Cert.AdamFgReferenceIdeal.main_v4) = v1 c
          ∧ r.2.mem ((c.tc : Thread Cert.AdamFgReferenceIdeal.nD Cert.AdamFgReferenceIdeal.τ).loc Cert.AdamFgReferenceIdeal.main_v10) = v2 c
          ∧ r.2.mem ((c.tc : Thread Cert.AdamFgReferenceIdeal.nD Cert.AdamFgReferenceIdeal.τ).loc Cert.AdamFgReferenceIdeal.main_arg0) = m' ((c.tc : Thread Cert.AdamFgReferenceIdeal.nD Cert.AdamFgReferenceIdeal.τ).loc Cert.AdamFgReferenceIdeal.main_arg0)
          ∧ r.2.mem ((c.tc : Thread Cert.AdamFgReferenceIdeal.nD Cert.AdamFgReferenceIdeal.τ).loc Cert.AdamFgReferenceIdeal.main_arg1) = m' ((c.tc : Thread Cert.AdamFgReferenceIdeal.nD Cert.AdamFgReferenceIdeal.τ).loc Cert.AdamFgReferenceIdeal.main_arg1)
          ∧ r.2.mem ((c.tc : Thread Cert.AdamFgReferenceIdeal.nD Cert.AdamFgReferenceIdeal.τ).loc Cert.AdamFgReferenceIdeal.main_arg2) = m' ((c.tc : Thread Cert.AdamFgReferenceIdeal.nD Cert.AdamFgReferenceIdeal.τ).loc Cert.AdamFgReferenceIdeal.main_arg2)
          ∧ r.2.mem ((c.tc : Thread Cert.AdamFgReferenceIdeal.nD Cert.AdamFgReferenceIdeal.τ).loc Cert.AdamFgReferenceIdeal.main_arg3) = m' ((c.tc : Thread Cert.AdamFgReferenceIdeal.nD Cert.AdamFgReferenceIdeal.τ).loc Cert.AdamFgReferenceIdeal.main_arg3))

def preserves_AdamConv_AdamConvIdeal : Prop :=
  True

def algebraic_AdamConvIdeal_AdamConvReferenceIdeal [hAdamConvIdeal : Cert.AdamConvIdeal.Facts] [hAdamConvReferenceIdeal : Cert.AdamConvReferenceIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvReferenceIdeal.nD Cert.AdamConvReferenceIdeal.τ Cert.AdamConvReferenceIdeal.sig) → Buf (Elt Ideal) ℓ) (g' : Dev Cert.AdamConvReferenceIdeal.nD → PrngReg), Pre_AdamConvIdeal m →
    (∀ c : Dev Cert.AdamConvIdeal.nD,
      m' ((c.tc : Thread Cert.AdamConvReferenceIdeal.nD Cert.AdamConvReferenceIdeal.τ).loc Cert.AdamConvReferenceIdeal.main_arg0) = m ((c.tc : Thread Cert.AdamConvIdeal.nD Cert.AdamConvIdeal.τ).loc Cert.AdamConvIdeal.main_arg0)
      ∧ m' ((c.tc : Thread Cert.AdamConvReferenceIdeal.nD Cert.AdamConvReferenceIdeal.τ).loc Cert.AdamConvReferenceIdeal.main_arg1) = m ((c.tc : Thread Cert.AdamConvIdeal.nD Cert.AdamConvIdeal.τ).loc Cert.AdamConvIdeal.main_arg1)
      ∧ m' ((c.tc : Thread Cert.AdamConvReferenceIdeal.nD Cert.AdamConvReferenceIdeal.τ).loc Cert.AdamConvReferenceIdeal.main_arg2) = m ((c.tc : Thread Cert.AdamConvIdeal.nD Cert.AdamConvIdeal.τ).loc Cert.AdamConvIdeal.main_arg2)
      ∧ m' ((c.tc : Thread Cert.AdamConvReferenceIdeal.nD Cert.AdamConvReferenceIdeal.τ).loc Cert.AdamConvReferenceIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvReferenceIdeal.defs (F := Ideal)) (onTc (τ := Cert.AdamConvReferenceIdeal.τ) (Cert.AdamConvReferenceIdeal.main (F := Ideal))) ⟨m', fun _ => 0, g'⟩ (fun r => ∀ c : Dev Cert.AdamConvReferenceIdeal.nD,
          r.2.mem ((c.tc : Thread Cert.AdamConvReferenceIdeal.nD Cert.AdamConvReferenceIdeal.τ).loc Cert.AdamConvReferenceIdeal.main_v23) = v0 c
          ∧ r.2.mem ((c.tc : Thread Cert.AdamConvReferenceIdeal.nD Cert.AdamConvReferenceIdeal.τ).loc Cert.AdamConvReferenceIdeal.main_v4) = v1 c
          ∧ r.2.mem ((c.tc : Thread Cert.AdamConvReferenceIdeal.nD Cert.AdamConvReferenceIdeal.τ).loc Cert.AdamConvReferenceIdeal.main_v10) = v2 c
          ∧ r.2.mem ((c.tc : Thread Cert.AdamConvReferenceIdeal.nD Cert.AdamConvReferenceIdeal.τ).loc Cert.AdamConvReferenceIdeal.main_arg0) = m' ((c.tc : Thread Cert.AdamConvReferenceIdeal.nD Cert.AdamConvReferenceIdeal.τ).loc Cert.AdamConvReferenceIdeal.main_arg0)
          ∧ r.2.mem ((c.tc : Thread Cert.AdamConvReferenceIdeal.nD Cert.AdamConvReferenceIdeal.τ).loc Cert.AdamConvReferenceIdeal.main_arg1) = m' ((c.tc : Thread Cert.AdamConvReferenceIdeal.nD Cert.AdamConvReferenceIdeal.τ).loc Cert.AdamConvReferenceIdeal.main_arg1)
          ∧ r.2.mem ((c.tc : Thread Cert.AdamConvReferenceIdeal.nD Cert.AdamConvReferenceIdeal.τ).loc Cert.AdamConvReferenceIdeal.main_arg2) = m' ((c.tc : Thread Cert.AdamConvReferenceIdeal.nD Cert.AdamConvReferenceIdeal.τ).loc Cert.AdamConvReferenceIdeal.main_arg2)
          ∧ r.2.mem ((c.tc : Thread Cert.AdamConvReferenceIdeal.nD Cert.AdamConvReferenceIdeal.τ).loc Cert.AdamConvReferenceIdeal.main_arg3) = m' ((c.tc : Thread Cert.AdamConvReferenceIdeal.nD Cert.AdamConvReferenceIdeal.τ).loc Cert.AdamConvReferenceIdeal.main_arg3))

def preserves_ChipSum_ChipSumIdeal : Prop :=
  True

def algebraic_ChipSumIdeal_ChipSumReferenceIdeal [hChipSumIdeal : Cert.ChipSumIdeal.Facts] [hChipSumReferenceIdeal : Cert.ChipSumReferenceIdeal.Facts] [hPre_chip_in_range : Cert.Pre_chip_in_range.Facts] : Prop :=
  ∀ (m : (ℓ : Loc Cert.ChipSumIdeal.nD Cert.ChipSumIdeal.τ Cert.ChipSumIdeal.sig) → Buf (Elt Ideal) ℓ) (g : Dev Cert.ChipSumIdeal.nD → PrngReg)
    (m' : (ℓ : Loc Cert.ChipSumReferenceIdeal.nD Cert.ChipSumReferenceIdeal.τ Cert.ChipSumReferenceIdeal.sig) → Buf (Elt Ideal) ℓ) (g' : Dev Cert.ChipSumReferenceIdeal.nD → PrngReg), Pre_ChipSumIdeal m →
    (∀ c : Dev Cert.ChipSumIdeal.nD,
      m' ((c.tc : Thread Cert.ChipSumReferenceIdeal.nD Cert.ChipSumReferenceIdeal.τ).loc Cert.ChipSumReferenceIdeal.main_arg0) = m ((c.tc : Thread Cert.ChipSumIdeal.nD Cert.ChipSumIdeal.τ).loc Cert.ChipSumIdeal.main_arg0)
      ∧ m' ((c.tc : Thread Cert.ChipSumReferenceIdeal.nD Cert.ChipSumReferenceIdeal.τ).loc Cert.ChipSumReferenceIdeal.main_arg1) = m ((c.tc : Thread Cert.ChipSumIdeal.nD Cert.ChipSumIdeal.τ).loc Cert.ChipSumIdeal.main_arg1)
      ∧ m' ((c.tc : Thread Cert.ChipSumReferenceIdeal.nD Cert.ChipSumReferenceIdeal.τ).loc Cert.ChipSumReferenceIdeal.main_arg2) = m ((c.tc : Thread Cert.ChipSumIdeal.nD Cert.ChipSumIdeal.τ).loc Cert.ChipSumIdeal.main_arg2)) →
    ∃ (v0 : (c : Dev Cert.ChipSumIdeal.nD) → Buf (Elt Ideal) ((c.tc : Thread Cert.ChipSumIdeal.nD Cert.ChipSumIdeal.τ).loc Cert.ChipSumIdeal.main_v0)),
      θ_run (Cert.ChipSumIdeal.defs (F := Ideal)) (onTc (τ := Cert.ChipSumIdeal.τ) (Cert.ChipSumIdeal.main (F := Ideal))) ⟨m, fun _ => 0, g⟩ (fun r => ∀ c : Dev Cert.ChipSumIdeal.nD,
          r.2.mem ((c.tc : Thread Cert.ChipSumIdeal.nD Cert.ChipSumIdeal.τ).loc Cert.ChipSumIdeal.main_v0) = v0 c
          ∧ r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0)
          ∧ r.2.mem ((c.tc : Thread Cert.ChipSumIdeal.nD Cert.ChipSumIdeal.τ).loc Cert.ChipSumIdeal.main_arg1) = m ((c.tc : Thread Cert.ChipSumIdeal.nD Cert.ChipSumIdeal.τ).loc Cert.ChipSumIdeal.main_arg1)
          ∧ r.2.mem ((c.tc : Thread Cert.ChipSumIdeal.nD Cert.ChipSumIdeal.τ).loc Cert.ChipSumIdeal.main_arg2) = m ((c.tc : Thread Cert.ChipSumIdeal.nD Cert.ChipSumIdeal.τ).loc Cert.ChipSumIdeal.main_arg2))
      ∧ θ_run (Cert.ChipSumReferenceIdeal.defs (F := Ideal)) (onTc (τ := Cert.ChipSumReferenceIdeal.τ) (Cert.ChipSumReferenceIdeal.main (F := Ideal))) ⟨m', fun _ => 0, g'⟩ (fun r => ∀ c : Dev Cert.ChipSumReferenceIdeal.nD,
          r.2.mem ((c.tc : Thread Cert.ChipSumReferenceIdeal.nD Cert.ChipSumReferenceIdeal.τ).loc Cert.ChipSumReferenceIdeal.main_v10) = v0 c
          ∧ r.2.mem ((c.tc : Thread Cert.ChipSumReferenceIdeal.nD Cert.ChipSumReferenceIdeal.τ).loc Cert.ChipSumReferenceIdeal.main_arg0) = m' ((c.tc : Thread Cert.ChipSumReferenceIdeal.nD Cert.ChipSumReferenceIdeal.τ).loc Cert.ChipSumReferenceIdeal.main_arg0)
          ∧ r.2.mem ((c.tc : Thread Cert.ChipSumReferenceIdeal.nD Cert.ChipSumReferenceIdeal.τ).loc Cert.ChipSumReferenceIdeal.main_arg1) = m' ((c.tc : Thread Cert.ChipSumReferenceIdeal.nD Cert.ChipSumReferenceIdeal.τ).loc Cert.ChipSumReferenceIdeal.main_arg1)
          ∧ r.2.mem ((c.tc : Thread Cert.ChipSumReferenceIdeal.nD Cert.ChipSumReferenceIdeal.τ).loc Cert.ChipSumReferenceIdeal.main_arg2) = m' ((c.tc : Thread Cert.ChipSumReferenceIdeal.nD Cert.ChipSumReferenceIdeal.τ).loc Cert.ChipSumReferenceIdeal.main_arg2))

def preserves_FinalGu_FinalGuIdeal : Prop :=
  True

def algebraic_FinalGuIdeal_FinalGuReferenceIdeal [hFinalGuIdeal : Cert.FinalGuIdeal.Facts] [hFinalGuReferenceIdeal : Cert.FinalGuReferenceIdeal.Facts] [hPre_final_gu_in_range : Cert.Pre_final_gu_in_range.Facts] : Prop :=
  ∀ (m : (ℓ : Loc Cert.FinalGuIdeal.nD Cert.FinalGuIdeal.τ Cert.FinalGuIdeal.sig) → Buf (Elt Ideal) ℓ) (g : Dev Cert.FinalGuIdeal.nD → PrngReg)
    (m' : (ℓ : Loc Cert.FinalGuReferenceIdeal.nD Cert.FinalGuReferenceIdeal.τ Cert.FinalGuReferenceIdeal.sig) → Buf (Elt Ideal) ℓ) (g' : Dev Cert.FinalGuReferenceIdeal.nD → PrngReg), Pre_FinalGuIdeal m →
    (∀ c : Dev Cert.FinalGuIdeal.nD,
      m' ((c.tc : Thread Cert.FinalGuReferenceIdeal.nD Cert.FinalGuReferenceIdeal.τ).loc Cert.FinalGuReferenceIdeal.main_arg0) = m ((c.tc : Thread Cert.FinalGuIdeal.nD Cert.FinalGuIdeal.τ).loc Cert.FinalGuIdeal.main_arg0)
      ∧ m' ((c.tc : Thread Cert.FinalGuReferenceIdeal.nD Cert.FinalGuReferenceIdeal.τ).loc Cert.FinalGuReferenceIdeal.main_arg1) = m ((c.tc : Thread Cert.FinalGuIdeal.nD Cert.FinalGuIdeal.τ).loc Cert.FinalGuIdeal.main_arg1)
      ∧ m' ((c.tc : Thread Cert.FinalGuReferenceIdeal.nD Cert.FinalGuReferenceIdeal.τ).loc Cert.FinalGuReferenceIdeal.main_arg2) = m ((c.tc : Thread Cert.FinalGuIdeal.nD Cert.FinalGuIdeal.τ).loc Cert.FinalGuIdeal.main_arg2)
      ∧ m' ((c.tc : Thread Cert.FinalGuReferenceIdeal.nD Cert.FinalGuReferenceIdeal.τ).loc Cert.FinalGuReferenceIdeal.main_arg3) = m ((c.tc : Thread Cert.FinalGuIdeal.nD Cert.FinalGuIdeal.τ).loc Cert.FinalGuIdeal.main_arg3)
      ∧ m' ((c.tc : Thread Cert.FinalGuReferenceIdeal.nD Cert.FinalGuReferenceIdeal.τ).loc Cert.FinalGuReferenceIdeal.main_arg4) = m ((c.tc : Thread Cert.FinalGuIdeal.nD Cert.FinalGuIdeal.τ).loc Cert.FinalGuIdeal.main_arg4)
      ∧ m' ((c.tc : Thread Cert.FinalGuReferenceIdeal.nD Cert.FinalGuReferenceIdeal.τ).loc Cert.FinalGuReferenceIdeal.main_arg5) = m ((c.tc : Thread Cert.FinalGuIdeal.nD Cert.FinalGuIdeal.τ).loc Cert.FinalGuIdeal.main_arg5)
      ∧ m' ((c.tc : Thread Cert.FinalGuReferenceIdeal.nD Cert.FinalGuReferenceIdeal.τ).loc Cert.FinalGuReferenceIdeal.main_arg6) = m ((c.tc : Thread Cert.FinalGuIdeal.nD Cert.FinalGuIdeal.τ).loc Cert.FinalGuIdeal.main_arg6)
      ∧ m' ((c.tc : Thread Cert.FinalGuReferenceIdeal.nD Cert.FinalGuReferenceIdeal.τ).loc Cert.FinalGuReferenceIdeal.main_arg7) = m ((c.tc : Thread Cert.FinalGuIdeal.nD Cert.FinalGuIdeal.τ).loc Cert.FinalGuIdeal.main_arg7)
      ∧ m' ((c.tc : Thread Cert.FinalGuReferenceIdeal.nD Cert.FinalGuReferenceIdeal.τ).loc Cert.FinalGuReferenceIdeal.main_arg8) = m ((c.tc : Thread Cert.FinalGuIdeal.nD Cert.FinalGuIdeal.τ).loc Cert.FinalGuIdeal.main_arg8)
      ∧ m' ((c.tc : Thread Cert.FinalGuReferenceIdeal.nD Cert.FinalGuReferenceIdeal.τ).loc Cert.FinalGuReferenceIdeal.main_arg9) = m ((c.tc : Thread Cert.FinalGuIdeal.nD Cert.FinalGuIdeal.τ).loc Cert.FinalGuIdeal.main_arg9)
      ∧ m' ((c.tc : Thread Cert.FinalGuReferenceIdeal.nD Cert.FinalGuReferenceIdeal.τ).loc Cert.FinalGuReferenceIdeal.main_arg10) = m ((c.tc : Thread Cert.FinalGuIdeal.nD Cert.FinalGuIdeal.τ).loc Cert.FinalGuIdeal.main_arg10)
      ∧ m' ((c.tc : Thread Cert.FinalGuReferenceIdeal.nD Cert.FinalGuReferenceIdeal.τ).loc Cert.FinalGuReferenceIdeal.main_arg11) = m ((c.tc : Thread Cert.FinalGuIdeal.nD Cert.FinalGuIdeal.τ).loc Cert.FinalGuIdeal.main_arg11)
      ∧ m' ((c.tc : Thread Cert.FinalGuReferenceIdeal.nD Cert.FinalGuReferenceIdeal.τ).loc Cert.FinalGuReferenceIdeal.main_arg12) = m ((c.tc : Thread Cert.FinalGuIdeal.nD Cert.FinalGuIdeal.τ).loc Cert.FinalGuIdeal.main_arg12)
      ∧ m' ((c.tc : Thread Cert.FinalGuReferenceIdeal.nD Cert.FinalGuReferenceIdeal.τ).loc Cert.FinalGuReferenceIdeal.main_arg13) = m ((c.tc : Thread Cert.FinalGuIdeal.nD Cert.FinalGuIdeal.τ).loc Cert.FinalGuIdeal.main_arg13)
      ∧ m' ((c.tc : Thread Cert.FinalGuReferenceIdeal.nD Cert.FinalGuReferenceIdeal.τ).loc Cert.FinalGuReferenceIdeal.main_arg14) = m ((c.tc : Thread Cert.FinalGuIdeal.nD Cert.FinalGuIdeal.τ).loc Cert.FinalGuIdeal.main_arg14)
      ∧ m' ((c.tc : Thread Cert.FinalGuReferenceIdeal.nD Cert.FinalGuReferenceIdeal.τ).loc Cert.FinalGuReferenceIdeal.main_arg15) = m ((c.tc : Thread Cert.FinalGuIdeal.nD Cert.FinalGuIdeal.τ).loc Cert.FinalGuIdeal.main_arg15)
      ∧ m' ((c.tc : Thread Cert.FinalGuReferenceIdeal.nD Cert.FinalGuReferenceIdeal.τ).loc Cert.FinalGuReferenceIdeal.main_arg16) = m ((c.tc : Thread Cert.FinalGuIdeal.nD Cert.FinalGuIdeal.τ).loc Cert.FinalGuIdeal.main_arg16)
      ∧ m' ((c.tc : Thread Cert.FinalGuReferenceIdeal.nD Cert.FinalGuReferenceIdeal.τ).loc Cert.FinalGuReferenceIdeal.main_arg17) = m ((c.tc : Thread Cert.FinalGuIdeal.nD Cert.FinalGuIdeal.τ).loc Cert.FinalGuIdeal.main_arg17)) →
    ∃ (v0 : (c : Dev Cert.FinalGuIdeal.nD) → Buf (Elt Ideal) ((c.tc : Thread Cert.FinalGuIdeal.nD Cert.FinalGuIdeal.τ).loc Cert.FinalGuIdeal.main_v0_0)) (v1 : (c : Dev Cert.FinalGuIdeal.nD) → Buf (Elt Ideal) ((c.tc : Thread Cert.FinalGuIdeal.nD Cert.FinalGuIdeal.τ).loc Cert.FinalGuIdeal.main_v0_1)) (v2 : (c : Dev Cert.FinalGuIdeal.nD) → Buf (Elt Ideal) ((c.tc : Thread Cert.FinalGuIdeal.nD Cert.FinalGuIdeal.τ).loc Cert.FinalGuIdeal.main_v0_2)) (v3 : (c : Dev Cert.FinalGuIdeal.nD) → Buf (Elt Ideal) ((c.tc : Thread Cert.FinalGuIdeal.nD Cert.FinalGuIdeal.τ).loc Cert.FinalGuIdeal.main_v0_3)) (v4 : (c : Dev Cert.FinalGuIdeal.nD) → Buf (Elt Ideal) ((c.tc : Thread Cert.FinalGuIdeal.nD Cert.FinalGuIdeal.τ).loc Cert.FinalGuIdeal.main_v0_4)) (v5 : (c : Dev Cert.FinalGuIdeal.nD) → Buf (Elt Ideal) ((c.tc : Thread Cert.FinalGuIdeal.nD Cert.FinalGuIdeal.τ).loc Cert.FinalGuIdeal.main_v0_5)) (v6 : (c : Dev Cert.FinalGuIdeal.nD) → Buf (Elt Ideal) ((c.tc : Thread Cert.FinalGuIdeal.nD Cert.FinalGuIdeal.τ).loc Cert.FinalGuIdeal.main_v0_6)) (v7 : (c : Dev Cert.FinalGuIdeal.nD) → Buf (Elt Ideal) ((c.tc : Thread Cert.FinalGuIdeal.nD Cert.FinalGuIdeal.τ).loc Cert.FinalGuIdeal.main_v0_7)),
      θ_run (Cert.FinalGuIdeal.defs (F := Ideal)) (onTc (τ := Cert.FinalGuIdeal.τ) (Cert.FinalGuIdeal.main (F := Ideal))) ⟨m, fun _ => 0, g⟩ (fun r => ∀ c : Dev Cert.FinalGuIdeal.nD,
          r.2.mem ((c.tc : Thread Cert.FinalGuIdeal.nD Cert.FinalGuIdeal.τ).loc Cert.FinalGuIdeal.main_v0_0) = v0 c
          ∧ r.2.mem ((c.tc : Thread Cert.FinalGuIdeal.nD Cert.FinalGuIdeal.τ).loc Cert.FinalGuIdeal.main_v0_1) = v1 c
          ∧ r.2.mem ((c.tc : Thread Cert.FinalGuIdeal.nD Cert.FinalGuIdeal.τ).loc Cert.FinalGuIdeal.main_v0_2) = v2 c
          ∧ r.2.mem ((c.tc : Thread Cert.FinalGuIdeal.nD Cert.FinalGuIdeal.τ).loc Cert.FinalGuIdeal.main_v0_3) = v3 c
          ∧ r.2.mem ((c.tc : Thread Cert.FinalGuIdeal.nD Cert.FinalGuIdeal.τ).loc Cert.FinalGuIdeal.main_v0_4) = v4 c
          ∧ r.2.mem ((c.tc : Thread Cert.FinalGuIdeal.nD Cert.FinalGuIdeal.τ).loc Cert.FinalGuIdeal.main_v0_5) = v5 c
          ∧ r.2.mem ((c.tc : Thread Cert.FinalGuIdeal.nD Cert.FinalGuIdeal.τ).loc Cert.FinalGuIdeal.main_v0_6) = v6 c
          ∧ r.2.mem ((c.tc : Thread Cert.FinalGuIdeal.nD Cert.FinalGuIdeal.τ).loc Cert.FinalGuIdeal.main_v0_7) = v7 c
          ∧ r.2.mem ((c.tc : Thread Cert.FinalGuIdeal.nD Cert.FinalGuIdeal.τ).loc Cert.FinalGuIdeal.main_arg0) = m ((c.tc : Thread Cert.FinalGuIdeal.nD Cert.FinalGuIdeal.τ).loc Cert.FinalGuIdeal.main_arg0)
          ∧ r.2.mem ((c.tc : Thread Cert.FinalGuIdeal.nD Cert.FinalGuIdeal.τ).loc Cert.FinalGuIdeal.main_arg1) = m ((c.tc : Thread Cert.FinalGuIdeal.nD Cert.FinalGuIdeal.τ).loc Cert.FinalGuIdeal.main_arg1)
          ∧ r.2.mem ((c.tc : Thread Cert.FinalGuIdeal.nD Cert.FinalGuIdeal.τ).loc Cert.FinalGuIdeal.main_arg2) = m ((c.tc : Thread Cert.FinalGuIdeal.nD Cert.FinalGuIdeal.τ).loc Cert.FinalGuIdeal.main_arg2)
          ∧ r.2.mem ((c.tc : Thread Cert.FinalGuIdeal.nD Cert.FinalGuIdeal.τ).loc Cert.FinalGuIdeal.main_arg3) = m ((c.tc : Thread Cert.FinalGuIdeal.nD Cert.FinalGuIdeal.τ).loc Cert.FinalGuIdeal.main_arg3)
          ∧ r.2.mem ((c.tc : Thread Cert.FinalGuIdeal.nD Cert.FinalGuIdeal.τ).loc Cert.FinalGuIdeal.main_arg4) = m ((c.tc : Thread Cert.FinalGuIdeal.nD Cert.FinalGuIdeal.τ).loc Cert.FinalGuIdeal.main_arg4)
          ∧ r.2.mem ((c.tc : Thread Cert.FinalGuIdeal.nD Cert.FinalGuIdeal.τ).loc Cert.FinalGuIdeal.main_arg5) = m ((c.tc : Thread Cert.FinalGuIdeal.nD Cert.FinalGuIdeal.τ).loc Cert.FinalGuIdeal.main_arg5)
          ∧ r.2.mem ((c.tc : Thread Cert.FinalGuIdeal.nD Cert.FinalGuIdeal.τ).loc Cert.FinalGuIdeal.main_arg6) = m ((c.tc : Thread Cert.FinalGuIdeal.nD Cert.FinalGuIdeal.τ).loc Cert.FinalGuIdeal.main_arg6)
          ∧ r.2.mem ((c.tc : Thread Cert.FinalGuIdeal.nD Cert.FinalGuIdeal.τ).loc Cert.FinalGuIdeal.main_arg7) = m ((c.tc : Thread Cert.FinalGuIdeal.nD Cert.FinalGuIdeal.τ).loc Cert.FinalGuIdeal.main_arg7)
          ∧ r.2.mem ((c.tc : Thread Cert.FinalGuIdeal.nD Cert.FinalGuIdeal.τ).loc Cert.FinalGuIdeal.main_arg8) = m ((c.tc : Thread Cert.FinalGuIdeal.nD Cert.FinalGuIdeal.τ).loc Cert.FinalGuIdeal.main_arg8)
          ∧ r.2.mem ((c.tc : Thread Cert.FinalGuIdeal.nD Cert.FinalGuIdeal.τ).loc Cert.FinalGuIdeal.main_arg9) = m ((c.tc : Thread Cert.FinalGuIdeal.nD Cert.FinalGuIdeal.τ).loc Cert.FinalGuIdeal.main_arg9)
          ∧ r.2.mem ((c.tc : Thread Cert.FinalGuIdeal.nD Cert.FinalGuIdeal.τ).loc Cert.FinalGuIdeal.main_arg10) = m ((c.tc : Thread Cert.FinalGuIdeal.nD Cert.FinalGuIdeal.τ).loc Cert.FinalGuIdeal.main_arg10)
          ∧ r.2.mem ((c.tc : Thread Cert.FinalGuIdeal.nD Cert.FinalGuIdeal.τ).loc Cert.FinalGuIdeal.main_arg11) = m ((c.tc : Thread Cert.FinalGuIdeal.nD Cert.FinalGuIdeal.τ).loc Cert.FinalGuIdeal.main_arg11)
          ∧ r.2.mem ((c.tc : Thread Cert.FinalGuIdeal.nD Cert.FinalGuIdeal.τ).loc Cert.FinalGuIdeal.main_arg12) = m ((c.tc : Thread Cert.FinalGuIdeal.nD Cert.FinalGuIdeal.τ).loc Cert.FinalGuIdeal.main_arg12)
          ∧ r.2.mem ((c.tc : Thread Cert.FinalGuIdeal.nD Cert.FinalGuIdeal.τ).loc Cert.FinalGuIdeal.main_arg13) = m ((c.tc : Thread Cert.FinalGuIdeal.nD Cert.FinalGuIdeal.τ).loc Cert.FinalGuIdeal.main_arg13)
          ∧ r.2.mem ((c.tc : Thread Cert.FinalGuIdeal.nD Cert.FinalGuIdeal.τ).loc Cert.FinalGuIdeal.main_arg14) = m ((c.tc : Thread Cert.FinalGuIdeal.nD Cert.FinalGuIdeal.τ).loc Cert.FinalGuIdeal.main_arg14)
          ∧ r.2.mem ((c.tc : Thread Cert.FinalGuIdeal.nD Cert.FinalGuIdeal.τ).loc Cert.FinalGuIdeal.main_arg15) = m ((c.tc : Thread Cert.FinalGuIdeal.nD Cert.FinalGuIdeal.τ).loc Cert.FinalGuIdeal.main_arg15)
          ∧ r.2.mem ((c.tc : Thread Cert.FinalGuIdeal.nD Cert.FinalGuIdeal.τ).loc Cert.FinalGuIdeal.main_arg16) = m ((c.tc : Thread Cert.FinalGuIdeal.nD Cert.FinalGuIdeal.τ).loc Cert.FinalGuIdeal.main_arg16)
          ∧ r.2.mem ((c.tc : Thread Cert.FinalGuIdeal.nD Cert.FinalGuIdeal.τ).loc Cert.FinalGuIdeal.main_arg17) = m ((c.tc : Thread Cert.FinalGuIdeal.nD Cert.FinalGuIdeal.τ).loc Cert.FinalGuIdeal.main_arg17))
      ∧ θ_run (Cert.FinalGuReferenceIdeal.defs (F := Ideal)) (onTc (τ := Cert.FinalGuReferenceIdeal.τ) (Cert.FinalGuReferenceIdeal.main (F := Ideal))) ⟨m', fun _ => 0, g'⟩ (fun r => ∀ c : Dev Cert.FinalGuReferenceIdeal.nD,
          r.2.mem ((c.tc : Thread Cert.FinalGuReferenceIdeal.nD Cert.FinalGuReferenceIdeal.τ).loc Cert.FinalGuReferenceIdeal.main_v61) = v0 c
          ∧ r.2.mem ((c.tc : Thread Cert.FinalGuReferenceIdeal.nD Cert.FinalGuReferenceIdeal.τ).loc Cert.FinalGuReferenceIdeal.main_v66) = v1 c
          ∧ r.2.mem ((c.tc : Thread Cert.FinalGuReferenceIdeal.nD Cert.FinalGuReferenceIdeal.τ).loc Cert.FinalGuReferenceIdeal.main_v71) = v2 c
          ∧ r.2.mem ((c.tc : Thread Cert.FinalGuReferenceIdeal.nD Cert.FinalGuReferenceIdeal.τ).loc Cert.FinalGuReferenceIdeal.main_v76) = v3 c
          ∧ r.2.mem ((c.tc : Thread Cert.FinalGuReferenceIdeal.nD Cert.FinalGuReferenceIdeal.τ).loc Cert.FinalGuReferenceIdeal.main_v127) = v4 c
          ∧ r.2.mem ((c.tc : Thread Cert.FinalGuReferenceIdeal.nD Cert.FinalGuReferenceIdeal.τ).loc Cert.FinalGuReferenceIdeal.main_v132) = v5 c
          ∧ r.2.mem ((c.tc : Thread Cert.FinalGuReferenceIdeal.nD Cert.FinalGuReferenceIdeal.τ).loc Cert.FinalGuReferenceIdeal.main_v137) = v6 c
          ∧ r.2.mem ((c.tc : Thread Cert.FinalGuReferenceIdeal.nD Cert.FinalGuReferenceIdeal.τ).loc Cert.FinalGuReferenceIdeal.main_v142) = v7 c
          ∧ r.2.mem ((c.tc : Thread Cert.FinalGuReferenceIdeal.nD Cert.FinalGuReferenceIdeal.τ).loc Cert.FinalGuReferenceIdeal.main_arg0) = m' ((c.tc : Thread Cert.FinalGuReferenceIdeal.nD Cert.FinalGuReferenceIdeal.τ).loc Cert.FinalGuReferenceIdeal.main_arg0)
          ∧ r.2.mem ((c.tc : Thread Cert.FinalGuReferenceIdeal.nD Cert.FinalGuReferenceIdeal.τ).loc Cert.FinalGuReferenceIdeal.main_arg1) = m' ((c.tc : Thread Cert.FinalGuReferenceIdeal.nD Cert.FinalGuReferenceIdeal.τ).loc Cert.FinalGuReferenceIdeal.main_arg1)
          ∧ r.2.mem ((c.tc : Thread Cert.FinalGuReferenceIdeal.nD Cert.FinalGuReferenceIdeal.τ).loc Cert.FinalGuReferenceIdeal.main_arg2) = m' ((c.tc : Thread Cert.FinalGuReferenceIdeal.nD Cert.FinalGuReferenceIdeal.τ).loc Cert.FinalGuReferenceIdeal.main_arg2)
          ∧ r.2.mem ((c.tc : Thread Cert.FinalGuReferenceIdeal.nD Cert.FinalGuReferenceIdeal.τ).loc Cert.FinalGuReferenceIdeal.main_arg3) = m' ((c.tc : Thread Cert.FinalGuReferenceIdeal.nD Cert.FinalGuReferenceIdeal.τ).loc Cert.FinalGuReferenceIdeal.main_arg3)
          ∧ r.2.mem ((c.tc : Thread Cert.FinalGuReferenceIdeal.nD Cert.FinalGuReferenceIdeal.τ).loc Cert.FinalGuReferenceIdeal.main_arg4) = m' ((c.tc : Thread Cert.FinalGuReferenceIdeal.nD Cert.FinalGuReferenceIdeal.τ).loc Cert.FinalGuReferenceIdeal.main_arg4)
          ∧ r.2.mem ((c.tc : Thread Cert.FinalGuReferenceIdeal.nD Cert.FinalGuReferenceIdeal.τ).loc Cert.FinalGuReferenceIdeal.main_arg5) = m' ((c.tc : Thread Cert.FinalGuReferenceIdeal.nD Cert.FinalGuReferenceIdeal.τ).loc Cert.FinalGuReferenceIdeal.main_arg5)
          ∧ r.2.mem ((c.tc : Thread Cert.FinalGuReferenceIdeal.nD Cert.FinalGuReferenceIdeal.τ).loc Cert.FinalGuReferenceIdeal.main_arg6) = m' ((c.tc : Thread Cert.FinalGuReferenceIdeal.nD Cert.FinalGuReferenceIdeal.τ).loc Cert.FinalGuReferenceIdeal.main_arg6)
          ∧ r.2.mem ((c.tc : Thread Cert.FinalGuReferenceIdeal.nD Cert.FinalGuReferenceIdeal.τ).loc Cert.FinalGuReferenceIdeal.main_arg7) = m' ((c.tc : Thread Cert.FinalGuReferenceIdeal.nD Cert.FinalGuReferenceIdeal.τ).loc Cert.FinalGuReferenceIdeal.main_arg7)
          ∧ r.2.mem ((c.tc : Thread Cert.FinalGuReferenceIdeal.nD Cert.FinalGuReferenceIdeal.τ).loc Cert.FinalGuReferenceIdeal.main_arg8) = m' ((c.tc : Thread Cert.FinalGuReferenceIdeal.nD Cert.FinalGuReferenceIdeal.τ).loc Cert.FinalGuReferenceIdeal.main_arg8)
          ∧ r.2.mem ((c.tc : Thread Cert.FinalGuReferenceIdeal.nD Cert.FinalGuReferenceIdeal.τ).loc Cert.FinalGuReferenceIdeal.main_arg9) = m' ((c.tc : Thread Cert.FinalGuReferenceIdeal.nD Cert.FinalGuReferenceIdeal.τ).loc Cert.FinalGuReferenceIdeal.main_arg9)
          ∧ r.2.mem ((c.tc : Thread Cert.FinalGuReferenceIdeal.nD Cert.FinalGuReferenceIdeal.τ).loc Cert.FinalGuReferenceIdeal.main_arg10) = m' ((c.tc : Thread Cert.FinalGuReferenceIdeal.nD Cert.FinalGuReferenceIdeal.τ).loc Cert.FinalGuReferenceIdeal.main_arg10)
          ∧ r.2.mem ((c.tc : Thread Cert.FinalGuReferenceIdeal.nD Cert.FinalGuReferenceIdeal.τ).loc Cert.FinalGuReferenceIdeal.main_arg11) = m' ((c.tc : Thread Cert.FinalGuReferenceIdeal.nD Cert.FinalGuReferenceIdeal.τ).loc Cert.FinalGuReferenceIdeal.main_arg11)
          ∧ r.2.mem ((c.tc : Thread Cert.FinalGuReferenceIdeal.nD Cert.FinalGuReferenceIdeal.τ).loc Cert.FinalGuReferenceIdeal.main_arg12) = m' ((c.tc : Thread Cert.FinalGuReferenceIdeal.nD Cert.FinalGuReferenceIdeal.τ).loc Cert.FinalGuReferenceIdeal.main_arg12)
          ∧ r.2.mem ((c.tc : Thread Cert.FinalGuReferenceIdeal.nD Cert.FinalGuReferenceIdeal.τ).loc Cert.FinalGuReferenceIdeal.main_arg13) = m' ((c.tc : Thread Cert.FinalGuReferenceIdeal.nD Cert.FinalGuReferenceIdeal.τ).loc Cert.FinalGuReferenceIdeal.main_arg13)
          ∧ r.2.mem ((c.tc : Thread Cert.FinalGuReferenceIdeal.nD Cert.FinalGuReferenceIdeal.τ).loc Cert.FinalGuReferenceIdeal.main_arg14) = m' ((c.tc : Thread Cert.FinalGuReferenceIdeal.nD Cert.FinalGuReferenceIdeal.τ).loc Cert.FinalGuReferenceIdeal.main_arg14)
          ∧ r.2.mem ((c.tc : Thread Cert.FinalGuReferenceIdeal.nD Cert.FinalGuReferenceIdeal.τ).loc Cert.FinalGuReferenceIdeal.main_arg15) = m' ((c.tc : Thread Cert.FinalGuReferenceIdeal.nD Cert.FinalGuReferenceIdeal.τ).loc Cert.FinalGuReferenceIdeal.main_arg15)
          ∧ r.2.mem ((c.tc : Thread Cert.FinalGuReferenceIdeal.nD Cert.FinalGuReferenceIdeal.τ).loc Cert.FinalGuReferenceIdeal.main_arg16) = m' ((c.tc : Thread Cert.FinalGuReferenceIdeal.nD Cert.FinalGuReferenceIdeal.τ).loc Cert.FinalGuReferenceIdeal.main_arg16)
          ∧ r.2.mem ((c.tc : Thread Cert.FinalGuReferenceIdeal.nD Cert.FinalGuReferenceIdeal.τ).loc Cert.FinalGuReferenceIdeal.main_arg17) = m' ((c.tc : Thread Cert.FinalGuReferenceIdeal.nD Cert.FinalGuReferenceIdeal.τ).loc Cert.FinalGuReferenceIdeal.main_arg17))

def Claim : Prop :=
  ∃ (hKernel : Cert.Kernel.Facts) (hKernelIdeal : Cert.KernelIdeal.Facts) (hReferenceIdeal : Cert.ReferenceIdeal.Facts) (hNormIn : Cert.NormIn.Facts) (hNormInIdeal : Cert.NormInIdeal.Facts) (hNormInReferenceIdeal : Cert.NormInReferenceIdeal.Facts) (hNormGu : Cert.NormGu.Facts) (hNormGuIdeal : Cert.NormGuIdeal.Facts) (hNormGuReferenceIdeal : Cert.NormGuReferenceIdeal.Facts) (hWIn : Cert.WIn.Facts) (hWInIdeal : Cert.WInIdeal.Facts) (hWInReferenceIdeal : Cert.WInReferenceIdeal.Facts) (hWGu : Cert.WGu.Facts) (hWGuIdeal : Cert.WGuIdeal.Facts) (hWGuReferenceIdeal : Cert.WGuReferenceIdeal.Facts) (hWDown : Cert.WDown.Facts) (hWDownIdeal : Cert.WDownIdeal.Facts) (hWDownReferenceIdeal : Cert.WDownReferenceIdeal.Facts) (hHid : Cert.Hid.Facts) (hHidIdeal : Cert.HidIdeal.Facts) (hHidReferenceIdeal : Cert.HidReferenceIdeal.Facts) (hProj : Cert.Proj.Facts) (hProjIdeal : Cert.ProjIdeal.Facts) (hProjReferenceIdeal : Cert.ProjReferenceIdeal.Facts) (hGu : Cert.Gu.Facts) (hGuIdeal : Cert.GuIdeal.Facts) (hGuReferenceIdeal : Cert.GuReferenceIdeal.Facts) (hYa : Cert.Ya.Facts) (hYaIdeal : Cert.YaIdeal.Facts) (hYaReferenceIdeal : Cert.YaReferenceIdeal.Facts) (hDmix : Cert.Dmix.Facts) (hDmixIdeal : Cert.DmixIdeal.Facts) (hDmixReferenceIdeal : Cert.DmixReferenceIdeal.Facts) (hWo : Cert.Wo.Facts) (hWoIdeal : Cert.WoIdeal.Facts) (hWoReferenceIdeal : Cert.WoReferenceIdeal.Facts) (hSumDev : Cert.SumDev.Facts) (hSumDevIdeal : Cert.SumDevIdeal.Facts) (hSumDevReferenceIdeal : Cert.SumDevReferenceIdeal.Facts) (hAdamNorm : Cert.AdamNorm.Facts) (hAdamNormIdeal : Cert.AdamNormIdeal.Facts) (hAdamNormReferenceIdeal : Cert.AdamNormReferenceIdeal.Facts) (hAdamFgB : Cert.AdamFgB.Facts) (hAdamFgBIdeal : Cert.AdamFgBIdeal.Facts) (hAdamFgBReferenceIdeal : Cert.AdamFgBReferenceIdeal.Facts) (hAdamGla : Cert.AdamGla.Facts) (hAdamGlaIdeal : Cert.AdamGlaIdeal.Facts) (hAdamGlaReferenceIdeal : Cert.AdamGlaReferenceIdeal.Facts) (hAdamFinal : Cert.AdamFinal.Facts) (hAdamFinalIdeal : Cert.AdamFinalIdeal.Facts) (hAdamFinalReferenceIdeal : Cert.AdamFinalReferenceIdeal.Facts) (hAdamSquare : Cert.AdamSquare.Facts) (hAdamSquareIdeal : Cert.AdamSquareIdeal.Facts) (hAdamSquareReferenceIdeal : Cert.AdamSquareReferenceIdeal.Facts) (hAdamDown : Cert.AdamDown.Facts) (hAdamDownIdeal : Cert.AdamDownIdeal.Facts) (hAdamDownReferenceIdeal : Cert.AdamDownReferenceIdeal.Facts) (hAdamFg : Cert.AdamFg.Facts) (hAdamFgIdeal : Cert.AdamFgIdeal.Facts) (hAdamFgReferenceIdeal : Cert.AdamFgReferenceIdeal.Facts) (hAdamConv : Cert.AdamConv.Facts) (hAdamConvIdeal : Cert.AdamConvIdeal.Facts) (hAdamConvReferenceIdeal : Cert.AdamConvReferenceIdeal.Facts) (hChipSum : Cert.ChipSum.Facts) (hChipSumIdeal : Cert.ChipSumIdeal.Facts) (hChipSumReferenceIdeal : Cert.ChipSumReferenceIdeal.Facts) (hFinalGu : Cert.FinalGu.Facts) (hFinalGuIdeal : Cert.FinalGuIdeal.Facts) (hFinalGuReferenceIdeal : Cert.FinalGuReferenceIdeal.Facts) (hPre_finite : Cert.Pre_finite.Facts) (hPre_norm_in_finite : Cert.Pre_norm_in_finite.Facts) (hPre_norm_gu_finite : Cert.Pre_norm_gu_finite.Facts) (hPre_chip_in_range : Cert.Pre_chip_in_range.Facts) (hPre_final_gu_in_range : Cert.Pre_final_gu_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_NormIn (hNormIn := hNormIn)
    ∧ quiescent_NormInIdeal (hNormInIdeal := hNormInIdeal)
    ∧ quiescent_NormInIdeal_pre_norm_in_finite (hNormInIdeal := hNormInIdeal) (hPre_norm_in_finite := hPre_norm_in_finite)
    ∧ quiescent_NormInReferenceIdeal (hNormInReferenceIdeal := hNormInReferenceIdeal)
    ∧ quiescent_NormInReferenceIdeal_pre_norm_in_finite (hNormInReferenceIdeal := hNormInReferenceIdeal) (hPre_norm_in_finite := hPre_norm_in_finite)
    ∧ quiescent_NormGu (hNormGu := hNormGu)
    ∧ quiescent_NormGuIdeal (hNormGuIdeal := hNormGuIdeal)
    ∧ quiescent_NormGuIdeal_pre_norm_gu_finite (hNormGuIdeal := hNormGuIdeal) (hPre_norm_gu_finite := hPre_norm_gu_finite)
    ∧ quiescent_NormGuReferenceIdeal (hNormGuReferenceIdeal := hNormGuReferenceIdeal)
    ∧ quiescent_NormGuReferenceIdeal_pre_norm_gu_finite (hNormGuReferenceIdeal := hNormGuReferenceIdeal) (hPre_norm_gu_finite := hPre_norm_gu_finite)
    ∧ quiescent_WIn (hWIn := hWIn)
    ∧ quiescent_WInIdeal (hWInIdeal := hWInIdeal)
    ∧ quiescent_WInReferenceIdeal (hWInReferenceIdeal := hWInReferenceIdeal)
    ∧ quiescent_WGu (hWGu := hWGu)
    ∧ quiescent_WGuIdeal (hWGuIdeal := hWGuIdeal)
    ∧ quiescent_WGuReferenceIdeal (hWGuReferenceIdeal := hWGuReferenceIdeal)
    ∧ quiescent_WDown (hWDown := hWDown)
    ∧ quiescent_WDownIdeal (hWDownIdeal := hWDownIdeal)
    ∧ quiescent_WDownReferenceIdeal (hWDownReferenceIdeal := hWDownReferenceIdeal)
    ∧ quiescent_Hid (hHid := hHid)
    ∧ quiescent_HidIdeal (hHidIdeal := hHidIdeal)
    ∧ quiescent_HidReferenceIdeal (hHidReferenceIdeal := hHidReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Gu (hGu := hGu)
    ∧ quiescent_GuIdeal (hGuIdeal := hGuIdeal)
    ∧ quiescent_GuReferenceIdeal (hGuReferenceIdeal := hGuReferenceIdeal)
    ∧ quiescent_Ya (hYa := hYa)
    ∧ quiescent_YaIdeal (hYaIdeal := hYaIdeal)
    ∧ quiescent_YaReferenceIdeal (hYaReferenceIdeal := hYaReferenceIdeal)
    ∧ quiescent_Dmix (hDmix := hDmix)
    ∧ quiescent_DmixIdeal (hDmixIdeal := hDmixIdeal)
    ∧ quiescent_DmixReferenceIdeal (hDmixReferenceIdeal := hDmixReferenceIdeal)
    ∧ quiescent_Wo (hWo := hWo)
    ∧ quiescent_WoIdeal (hWoIdeal := hWoIdeal)
    ∧ quiescent_WoReferenceIdeal (hWoReferenceIdeal := hWoReferenceIdeal)
    ∧ quiescent_SumDev (hSumDev := hSumDev)
    ∧ quiescent_SumDevIdeal (hSumDevIdeal := hSumDevIdeal)
    ∧ quiescent_SumDevReferenceIdeal (hSumDevReferenceIdeal := hSumDevReferenceIdeal)
    ∧ quiescent_AdamNorm (hAdamNorm := hAdamNorm)
    ∧ quiescent_AdamNormIdeal (hAdamNormIdeal := hAdamNormIdeal)
    ∧ quiescent_AdamNormReferenceIdeal (hAdamNormReferenceIdeal := hAdamNormReferenceIdeal)
    ∧ quiescent_AdamFgB (hAdamFgB := hAdamFgB)
    ∧ quiescent_AdamFgBIdeal (hAdamFgBIdeal := hAdamFgBIdeal)
    ∧ quiescent_AdamFgBReferenceIdeal (hAdamFgBReferenceIdeal := hAdamFgBReferenceIdeal)
    ∧ quiescent_AdamGla (hAdamGla := hAdamGla)
    ∧ quiescent_AdamGlaIdeal (hAdamGlaIdeal := hAdamGlaIdeal)
    ∧ quiescent_AdamGlaReferenceIdeal (hAdamGlaReferenceIdeal := hAdamGlaReferenceIdeal)
    ∧ quiescent_AdamFinal (hAdamFinal := hAdamFinal)
    ∧ quiescent_AdamFinalIdeal (hAdamFinalIdeal := hAdamFinalIdeal)
    ∧ quiescent_AdamFinalReferenceIdeal (hAdamFinalReferenceIdeal := hAdamFinalReferenceIdeal)
    ∧ quiescent_AdamSquare (hAdamSquare := hAdamSquare)
    ∧ quiescent_AdamSquareIdeal (hAdamSquareIdeal := hAdamSquareIdeal)
    ∧ quiescent_AdamSquareReferenceIdeal (hAdamSquareReferenceIdeal := hAdamSquareReferenceIdeal)
    ∧ quiescent_AdamDown (hAdamDown := hAdamDown)
    ∧ quiescent_AdamDownIdeal (hAdamDownIdeal := hAdamDownIdeal)
    ∧ quiescent_AdamDownReferenceIdeal (hAdamDownReferenceIdeal := hAdamDownReferenceIdeal)
    ∧ quiescent_AdamFg (hAdamFg := hAdamFg)
    ∧ quiescent_AdamFgIdeal (hAdamFgIdeal := hAdamFgIdeal)
    ∧ quiescent_AdamFgReferenceIdeal (hAdamFgReferenceIdeal := hAdamFgReferenceIdeal)
    ∧ quiescent_AdamConv (hAdamConv := hAdamConv)
    ∧ quiescent_AdamConvIdeal (hAdamConvIdeal := hAdamConvIdeal)
    ∧ quiescent_AdamConvReferenceIdeal (hAdamConvReferenceIdeal := hAdamConvReferenceIdeal)
    ∧ quiescent_ChipSum (hChipSum := hChipSum) (hPre_chip_in_range := hPre_chip_in_range)
    ∧ quiescent_ChipSumIdeal (hChipSumIdeal := hChipSumIdeal) (hPre_chip_in_range := hPre_chip_in_range)
    ∧ quiescent_ChipSumReferenceIdeal (hChipSumReferenceIdeal := hChipSumReferenceIdeal)
    ∧ quiescent_ChipSumReferenceIdeal_pre_chip_in_range (hChipSumReferenceIdeal := hChipSumReferenceIdeal) (hPre_chip_in_range := hPre_chip_in_range)
    ∧ quiescent_FinalGu (hFinalGu := hFinalGu) (hPre_final_gu_in_range := hPre_final_gu_in_range)
    ∧ quiescent_FinalGuIdeal (hFinalGuIdeal := hFinalGuIdeal) (hPre_final_gu_in_range := hPre_final_gu_in_range)
    ∧ quiescent_FinalGuReferenceIdeal (hFinalGuReferenceIdeal := hFinalGuReferenceIdeal)
    ∧ quiescent_FinalGuReferenceIdeal_pre_final_gu_in_range (hFinalGuReferenceIdeal := hFinalGuReferenceIdeal) (hPre_final_gu_in_range := hPre_final_gu_in_range)
    ∧ preserves_Kernel_KernelIdeal
    ∧ algebraic_KernelIdeal_ReferenceIdeal_pre_finite (hKernelIdeal := hKernelIdeal) (hReferenceIdeal := hReferenceIdeal) (hPre_finite := hPre_finite)
    ∧ preserves_NormIn_NormInIdeal
    ∧ algebraic_NormInIdeal_NormInReferenceIdeal_pre_norm_in_finite (hNormInIdeal := hNormInIdeal) (hNormInReferenceIdeal := hNormInReferenceIdeal) (hPre_norm_in_finite := hPre_norm_in_finite)
    ∧ preserves_NormGu_NormGuIdeal
    ∧ algebraic_NormGuIdeal_NormGuReferenceIdeal_pre_norm_gu_finite (hNormGuIdeal := hNormGuIdeal) (hNormGuReferenceIdeal := hNormGuReferenceIdeal) (hPre_norm_gu_finite := hPre_norm_gu_finite)
    ∧ preserves_WIn_WInIdeal
    ∧ algebraic_WInIdeal_WInReferenceIdeal (hWInIdeal := hWInIdeal) (hWInReferenceIdeal := hWInReferenceIdeal)
    ∧ preserves_WGu_WGuIdeal
    ∧ algebraic_WGuIdeal_WGuReferenceIdeal (hWGuIdeal := hWGuIdeal) (hWGuReferenceIdeal := hWGuReferenceIdeal)
    ∧ preserves_WDown_WDownIdeal
    ∧ algebraic_WDownIdeal_WDownReferenceIdeal (hWDownIdeal := hWDownIdeal) (hWDownReferenceIdeal := hWDownReferenceIdeal)
    ∧ preserves_Hid_HidIdeal
    ∧ algebraic_HidIdeal_HidReferenceIdeal (hHidIdeal := hHidIdeal) (hHidReferenceIdeal := hHidReferenceIdeal)
    ∧ preserves_Proj_ProjIdeal
    ∧ algebraic_ProjIdeal_ProjReferenceIdeal (hProjIdeal := hProjIdeal) (hProjReferenceIdeal := hProjReferenceIdeal)
    ∧ preserves_Gu_GuIdeal
    ∧ algebraic_GuIdeal_GuReferenceIdeal (hGuIdeal := hGuIdeal) (hGuReferenceIdeal := hGuReferenceIdeal)
    ∧ preserves_Ya_YaIdeal
    ∧ algebraic_YaIdeal_YaReferenceIdeal (hYaIdeal := hYaIdeal) (hYaReferenceIdeal := hYaReferenceIdeal)
    ∧ preserves_Dmix_DmixIdeal
    ∧ algebraic_DmixIdeal_DmixReferenceIdeal (hDmixIdeal := hDmixIdeal) (hDmixReferenceIdeal := hDmixReferenceIdeal)
    ∧ preserves_Wo_WoIdeal
    ∧ algebraic_WoIdeal_WoReferenceIdeal (hWoIdeal := hWoIdeal) (hWoReferenceIdeal := hWoReferenceIdeal)
    ∧ preserves_SumDev_SumDevIdeal
    ∧ algebraic_SumDevIdeal_SumDevReferenceIdeal (hSumDevIdeal := hSumDevIdeal) (hSumDevReferenceIdeal := hSumDevReferenceIdeal)
    ∧ preserves_AdamNorm_AdamNormIdeal
    ∧ algebraic_AdamNormIdeal_AdamNormReferenceIdeal (hAdamNormIdeal := hAdamNormIdeal) (hAdamNormReferenceIdeal := hAdamNormReferenceIdeal)
    ∧ preserves_AdamFgB_AdamFgBIdeal
    ∧ algebraic_AdamFgBIdeal_AdamFgBReferenceIdeal (hAdamFgBIdeal := hAdamFgBIdeal) (hAdamFgBReferenceIdeal := hAdamFgBReferenceIdeal)
    ∧ preserves_AdamGla_AdamGlaIdeal
    ∧ algebraic_AdamGlaIdeal_AdamGlaReferenceIdeal (hAdamGlaIdeal := hAdamGlaIdeal) (hAdamGlaReferenceIdeal := hAdamGlaReferenceIdeal)
    ∧ preserves_AdamFinal_AdamFinalIdeal
    ∧ algebraic_AdamFinalIdeal_AdamFinalReferenceIdeal (hAdamFinalIdeal := hAdamFinalIdeal) (hAdamFinalReferenceIdeal := hAdamFinalReferenceIdeal)
    ∧ preserves_AdamSquare_AdamSquareIdeal
    ∧ algebraic_AdamSquareIdeal_AdamSquareReferenceIdeal (hAdamSquareIdeal := hAdamSquareIdeal) (hAdamSquareReferenceIdeal := hAdamSquareReferenceIdeal)
    ∧ preserves_AdamDown_AdamDownIdeal
    ∧ algebraic_AdamDownIdeal_AdamDownReferenceIdeal (hAdamDownIdeal := hAdamDownIdeal) (hAdamDownReferenceIdeal := hAdamDownReferenceIdeal)
    ∧ preserves_AdamFg_AdamFgIdeal
    ∧ algebraic_AdamFgIdeal_AdamFgReferenceIdeal (hAdamFgIdeal := hAdamFgIdeal) (hAdamFgReferenceIdeal := hAdamFgReferenceIdeal)
    ∧ preserves_AdamConv_AdamConvIdeal
    ∧ algebraic_AdamConvIdeal_AdamConvReferenceIdeal (hAdamConvIdeal := hAdamConvIdeal) (hAdamConvReferenceIdeal := hAdamConvReferenceIdeal)
    ∧ preserves_ChipSum_ChipSumIdeal
    ∧ algebraic_ChipSumIdeal_ChipSumReferenceIdeal (hChipSumIdeal := hChipSumIdeal) (hChipSumReferenceIdeal := hChipSumReferenceIdeal) (hPre_chip_in_range := hPre_chip_in_range)
    ∧ preserves_FinalGu_FinalGuIdeal
    ∧ algebraic_FinalGuIdeal_FinalGuReferenceIdeal (hFinalGuIdeal := hFinalGuIdeal) (hFinalGuReferenceIdeal := hFinalGuReferenceIdeal) (hPre_final_gu_in_range := hPre_final_gu_in_range)
-- ==== Pre_chip_in_range.lean ====
abbrev S1 : Shape := ⟨1, ![1]⟩
abbrev S4x752x1024 : Shape := ⟨3, ![4, 752, 1024]⟩
abbrev S3x752x1024 : Shape := ⟨3, ![3, 752, 1024]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S4x752x1024 .bf16) (main_arg2 : FVec F S3x752x1024 .bf16) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 4#32
  let main_v3 : IVec S_ 1 := cmpi .slt main_v2 main_c_0
  let main_v4 : IVec S_ 1 := andi main_v1 main_v3
  main_v4
-- ==== Pre_final_gu_in_range.lean ====
abbrev S8 : Shape := ⟨1, ![8]⟩
abbrev S1 : Shape := ⟨1, ![1]⟩
abbrev S4x1024x1024 : Shape := ⟨3, ![4, 1024, 1024]⟩
abbrev S3x1024x1024 : Shape := ⟨3, ![3, 1024, 1024]⟩
abbrev S2x1024x352 : Shape := ⟨3, ![2, 1024, 352]⟩
abbrev S_ : Shape := ⟨0, ![]⟩

class Facts : Prop where
  shapeCasts_S1_S_ : S1.ShapeCasts S_
  slices_S8_S1_7 : S8.Slices ![7] S1

variable [Facts]

def fn {F : FTy → Type} [FloatOps F] (main_arg0 : IVec S8 32) (main_arg1 : IVec S1 32) (main_arg2 : FVec F S4x1024x1024 .bf16) (main_arg3 : FVec F S3x1024x1024 .bf16) (main_arg4 : FVec F S2x1024x352 .f32) (main_arg5 : FVec F S2x1024x352 .f32) (main_arg6 : FVec F S2x1024x352 .f32) (main_arg7 : FVec F S2x1024x352 .f32) (main_arg8 : FVec F S2x1024x352 .f32) (main_arg9 : FVec F S2x1024x352 .f32) (main_arg10 : FVec F S2x1024x352 .f32) (main_arg11 : FVec F S2x1024x352 .f32) (main_arg12 : FVec F S2x1024x352 .f32) (main_arg13 : FVec F S2x1024x352 .f32) (main_arg14 : FVec F S2x1024x352 .f32) (main_arg15 : FVec F S2x1024x352 .f32) (main_arg16 : FVec F S2x1024x352 .f32) (main_arg17 : FVec F S2x1024x352 .f32) : IVec S_ 1 :=
  let main_v0 : IVec S_ 32 := shapeCast S_ main_arg1 shapeCasts_S1_S_
  let main_c : IVec S_ 32 := constantI S_ 32 0#32
  let main_v1 : IVec S_ 1 := cmpi .sge main_v0 main_c
  let main_v2 : IVec S_ 32 := shapeCast S_ main_arg1 shapeCasts_S1_S_
  let main_c_0 : IVec S_ 32 := constantI S_ 32 4#32
  let main_v3 : IVec S_ 1 := cmpi .slt main_v2 main_c_0
  let main_v4 : IVec S_ 1 := andi main_v1 main_v3
  let main_v5 : IVec S1 32 := (extractStridedSlice S1 ![7] · slices_S8_S1_7) main_arg0
  let main_v6 : IVec S_ 32 := shapeCast S_ main_v5 shapeCasts_S1_S_
  let main_c_1 : IVec S_ 32 := constantI S_ 32 0#32
  let main_v7 : IVec S_ 1 := cmpi .sge main_v6 main_c_1
  let main_v8 : IVec S_ 1 := andi main_v4 main_v7
  let main_v9 : IVec S1 32 := (extractStridedSlice S1 ![7] · slices_S8_S1_7) main_arg0
  let main_v10 : IVec S_ 32 := shapeCast S_ main_v9 shapeCasts_S1_S_
  let main_c_2 : IVec S_ 32 := constantI S_ 32 128#32
  let main_v11 : IVec S_ 1 := cmpi .slt main_v10 main_c_2
  let main_v12 : IVec S_ 1 := andi main_v8 main_v11
  main_v12
-- ==== Pre_finite.lean ====
abbrev S4096x8320 : Shape := ⟨2, ![4096, 8320]⟩
abbrev S128x512 : Shape := ⟨2, ![128, 512]⟩
abbrev S1x512 : Shape := ⟨2, ![1, 512]⟩
abbrev S4x64x256x128 : Shape := ⟨4, ![4, 64, 256, 128]⟩
abbrev S4096x1024 : Shape := ⟨2, ![4096, 1024]⟩
abbrev S1x256 : Shape := ⟨2, ![1, 256]⟩
abbrev S_ : Shape := ⟨0, ![]⟩

class Facts : Prop where
  bcast_S_S4096x8320 : S_.BroadcastsInDim S4096x8320 (![] : Fin 0 → Fin S4096x8320.rank)
  reducesTo_S4096x8320_S_d0_1 : S4096x8320.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S1x512 : S_.BroadcastsInDim S1x512 (![] : Fin 0 → Fin S1x512.rank)
  reducesTo_S1x512_S_d0_1 : S1x512.ReducesTo [0, 1] S_
  bcast_S_S4x64x256x128 : S_.BroadcastsInDim S4x64x256x128 (![] : Fin 0 → Fin S4x64x256x128.rank)
  reducesTo_S4x64x256x128_S_d0_1_2_3 : S4x64x256x128.ReducesTo [0, 1, 2, 3] S_
  bcast_S_S4096x1024 : S_.BroadcastsInDim S4096x1024 (![] : Fin 0 → Fin S4096x1024.rank)
  reducesTo_S4096x1024_S_d0_1 : S4096x1024.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg4 : FVec F S4096x1024 .bf16) (main_arg5 : FVec F S4096x1024 .bf16) (main_arg6 : FVec F S1x256 .f32) (main_v13 : IVec S_ 1) (main_v16 : IVec S4x64x256x128 1) : IVec S_ 1 :=
  let main_c_5 : IVec S_ 1 := constantI S_ 1 1#1
  let main_v17 : IVec S_ 1 := (fun x v => Host.reduce IntOp.andi x v reducesTo_S4x64x256x128_S_d0_1_2_3 h_S_) main_v16 main_c_5
  let main_v18 : IVec S_ 1 := andi main_v13 main_v17
  let main_v19 : FVec F S4096x1024 .bf16 := Host.absf main_arg4
  let main_cst_6 : FVec F S_ .bf16 := constant S_ .bf16 0x7F80#16
  let main_v20 : FVec F S4096x1024 .bf16 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096x1024 .bf16 := Host.absf main_arg5
  let main_cst_8 : FVec F S_ .bf16 := constant S_ .bf16 0x7F80#16
  let main_v25 : FVec F S4096x1024 .bf16 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S1x256 .f32 := Host.absf main_arg6
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  main_v33

def fn {F : FTy → Type} [FloatOps F] (main_arg0 : FVec F S4096x8320 .bf16) (main_arg1 : FVec F S128x512 .bf16) (main_arg2 : FVec F S1x512 .f32) (main_arg3 : FVec F S4x64x256x128 .bf16) (main_arg4 : FVec F S4096x1024 .bf16) (main_arg5 : FVec F S4096x1024 .bf16) (main_arg6 : FVec F S1x256 .f32) (main_arg7 : FVec F S4096x8320 .bf16) : IVec S_ 1 :=
  let main_v0 : FVec F S4096x8320 .bf16 := Host.absf main_arg0
  let main_cst : FVec F S_ .bf16 := constant S_ .bf16 0x7F80#16
  let main_v1 : FVec F S4096x8320 .bf16 := broadcastInDim S4096x8320 ![] bcast_S_S4096x8320 main_cst
  let main_v2 : IVec S4096x8320 1 := cmpf .olt main_v0 main_v1
  let main_c : IVec S_ 1 := constantI S_ 1 1#1
  let main_v3 : IVec S_ 1 := (fun x v => Host.reduce IntOp.andi x v reducesTo_S4096x8320_S_d0_1 h_S_) main_v2 main_c
  let main_v4 : FVec F S128x512 .bf16 := Host.absf main_arg1
  let main_cst_0 : FVec F S_ .bf16 := constant S_ .bf16 0x7F80#16
  let main_v5 : FVec F S128x512 .bf16 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S4x64x256x128 .bf16 := Host.absf main_arg3
  let main_cst_4 : FVec F S_ .bf16 := constant S_ .bf16 0x7F80#16
  let main_v15 : FVec F S4x64x256x128 .bf16 := broadcastInDim S4x64x256x128 ![] bcast_S_S4x64x256x128 main_cst_4
  let main_v16 : IVec S4x64x256x128 1 := cmpf .olt main_v14 main_v15
  fn_part1 (F := F) main_arg4 main_arg5 main_arg6 main_v13 main_v16
-- ==== Pre_norm_gu_finite.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩

class Facts : Prop where
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S4096x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x5632 .bf16) (main_arg1 : FVec F S1024x5632 .bf16) (main_arg2 : FVec F S4096x1024 .f32) (main_arg3 : FVec F S1x1024 .f32) (main_arg4 : FVec F S4096x1024 .f32) : IVec S_ 1 :=
  let main_v0 : FVec F S4096x5632 .bf16 := Host.absf main_arg0
  let main_cst : FVec F S_ .bf16 := constant S_ .bf16 0x7F80#16
  let main_v1 : FVec F S4096x5632 .bf16 := broadcastInDim S4096x5632 ![] bcast_S_S4096x5632 main_cst
  let main_v2 : IVec S4096x5632 1 := cmpf .olt main_v0 main_v1
  let main_c : IVec S_ 1 := constantI S_ 1 1#1
  let main_v3 : IVec S_ 1 := (fun x v => Host.reduce IntOp.andi x v reducesTo_S4096x5632_S_d0_1 h_S_) main_v2 main_c
  let main_v4 : FVec F S1024x5632 .bf16 := Host.absf main_arg1
  let main_cst_0 : FVec F S_ .bf16 := constant S_ .bf16 0x7F80#16
  let main_v5 : FVec F S1024x5632 .bf16 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_v13 main_v16
-- ==== Pre_norm_in_finite.lean ====
abbrev S4096x8320 : Shape := ⟨2, ![4096, 8320]⟩
abbrev S1024x8320 : Shape := ⟨2, ![1024, 8320]⟩
abbrev S4096x1024 : Shape := ⟨2, ![4096, 1024]⟩
abbrev S1x1024 : Shape := ⟨2, ![1, 1024]⟩
abbrev S_ : Shape := ⟨0, ![]⟩

class Facts : Prop where
  bcast_S_S4096x8320 : S_.BroadcastsInDim S4096x8320 (![] : Fin 0 → Fin S4096x8320.rank)
  reducesTo_S4096x8320_S_d0_1 : S4096x8320.ReducesTo [0, 1] S_
  h_S_ : 0 < S_.numel
  bcast_S_S1024x8320 : S_.BroadcastsInDim S1024x8320 (![] : Fin 0 → Fin S1024x8320.rank)
  reducesTo_S1024x8320_S_d0_1 : S1024x8320.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S4096x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x8320 .bf16) (main_arg1 : FVec F S1024x8320 .bf16) (main_arg2 : FVec F S4096x1024 .f32) (main_arg3 : FVec F S1x1024 .f32) (main_arg4 : FVec F S4096x1024 .f32) : IVec S_ 1 :=
  let main_v0 : FVec F S4096x8320 .bf16 := Host.absf main_arg0
  let main_cst : FVec F S_ .bf16 := constant S_ .bf16 0x7F80#16
  let main_v1 : FVec F S4096x8320 .bf16 := broadcastInDim S4096x8320 ![] bcast_S_S4096x8320 main_cst
  let main_v2 : IVec S4096x8320 1 := cmpf .olt main_v0 main_v1
  let main_c : IVec S_ 1 := constantI S_ 1 1#1
  let main_v3 : IVec S_ 1 := (fun x v => Host.reduce IntOp.andi x v reducesTo_S4096x8320_S_d0_1 h_S_) main_v2 main_c
  let main_v4 : FVec F S1024x8320 .bf16 := Host.absf main_arg1
  let main_cst_0 : FVec F S_ .bf16 := constant S_ .bf16 0x7F80#16
  let main_v5 : FVec F S1024x8320 .bf16 := broadcastInDim S1024x8320 ![] bcast_S_S1024x8320 main_cst_0
  let main_v6 : IVec S1024x8320 1 := cmpf .olt main_v4 main_v5
  let main_c_1 : IVec S_ 1 := constantI S_ 1 1#1
  let main_v7 : IVec S_ 1 := (fun x v => Host.reduce IntOp.andi x v reducesTo_S1024x8320_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_v13 main_v16
-- ==== Kernel.lean ====
abbrev S4096x8320 : Shape := ⟨2, ![4096, 8320]⟩
abbrev S128x512 : Shape := ⟨2, ![128, 512]⟩
abbrev S1x512 : Shape := ⟨2, ![1, 512]⟩
abbrev S4x64x256x128 : Shape := ⟨4, ![4, 64, 256, 128]⟩
abbrev S4096x1024 : Shape := ⟨2, ![4096, 1024]⟩
abbrev S1x256 : Shape := ⟨2, ![1, 256]⟩
abbrev S4096x512 : Shape := ⟨2, ![4096, 512]⟩
abbrev S8x512 : Shape := ⟨2, ![8, 512]⟩
abbrev S8x256 : Shape := ⟨2, ![8, 256]⟩
abbrev S512x128 : Shape := ⟨2, ![512, 128]⟩
abbrev S512x256 : Shape := ⟨2, ![512, 256]⟩
abbrev S128x128 : Shape := ⟨2, ![128, 128]⟩
abbrev S1x128 : Shape := ⟨2, ![1, 128]⟩
abbrev S1x8x256x128 : Shape := ⟨4, ![1, 8, 256, 128]⟩
abbrev S1x1x256x128 : Shape := ⟨4, ![1, 1, 256, 128]⟩
abbrev S8x128 : Shape := ⟨2, ![8, 128]⟩
abbrev S256x128 : Shape := ⟨2, ![256, 128]⟩
abbrev S8x256x128 : Shape := ⟨3, ![8, 256, 128]⟩
abbrev S512 : Shape := ⟨1, ![512]⟩
abbrev S512x1 : Shape := ⟨2, ![512, 1]⟩
abbrev S256 : Shape := ⟨1, ![256]⟩
abbrev S64x128 : Shape := ⟨2, ![64, 128]⟩
abbrev S64x256 : Shape := ⟨2, ![64, 256]⟩
abbrev S1x256x128 : Shape := ⟨3, ![1, 256, 128]⟩
abbrev S128 : Shape := ⟨1, ![128]⟩

abbrev nBuf : Space → Nat
  | .hbm => 15
  | .vmem => 40
  | .smem => 0
  | _ => 0

abbrev bufTy : (tb : Table) → Fin (tcTables nBuf tb) → BufTy
  | .hbm, ⟨0, _⟩ => ⟨S4096x8320, .bf16⟩
  | .hbm, ⟨1, _⟩ => ⟨S128x512, .bf16⟩
  | .hbm, ⟨2, _⟩ => ⟨S1x512, .f32⟩
  | .hbm, ⟨3, _⟩ => ⟨S4x64x256x128, .bf16⟩
  | .hbm, ⟨4, _⟩ => ⟨S4096x1024, .bf16⟩
  | .hbm, ⟨5, _⟩ => ⟨S4096x1024, .bf16⟩
  | .hbm, ⟨6, _⟩ => ⟨S1x256, .f32⟩
  | .hbm, ⟨7, _⟩ => ⟨S4096x8320, .bf16⟩
  | .hbm, ⟨8, _⟩ => ⟨S4096x512, .bf16⟩
  | .hbm, ⟨9, _⟩ => ⟨S4096x512, .bf16⟩
  | .hbm, ⟨10, _⟩ => ⟨S4096x1024, .bf16⟩
  | .hbm, ⟨11, _⟩ => ⟨S4096x512, .bf16⟩
  | .hbm, ⟨12, _⟩ => ⟨S8x512, .f32⟩
  | .hbm, ⟨13, _⟩ => ⟨S4096x8320, .bf16⟩
  | .hbm, ⟨14, _⟩ => ⟨S8x256, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x256, .bf16⟩
  | .local _ .vmem, ⟨5, _⟩ => ⟨S512x256, .bf16⟩
  | .local _ .vmem, ⟨6, _⟩ => ⟨S512x128, .bf16⟩
  | .local _ .vmem, ⟨7, _⟩ => ⟨S512x128, .bf16⟩
  | .local _ .vmem, ⟨8, _⟩ => ⟨S128x128, .bf16⟩
  | .local _ .vmem, ⟨9, _⟩ => ⟨S128x128, .bf16⟩
  | .local _ .vmem, ⟨10, _⟩ => ⟨S1x128, .f32⟩
  | .local _ .vmem, ⟨11, _⟩ => ⟨S1x128, .f32⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S1x256, .f32⟩
  | .local _ .vmem, ⟨19, _⟩ => ⟨S1x8x256x128, .bf16⟩
  | .local _ .vmem, ⟨20, _⟩ => ⟨S1x8x256x128, .bf16⟩
  | .local _ .vmem, ⟨21, _⟩ => ⟨S1x1x256x128, .bf16⟩
  | .local _ .vmem, ⟨22, _⟩ => ⟨S1x1x256x128, .bf16⟩
  | .local _ .vmem, ⟨23, _⟩ => ⟨S512x128, .bf16⟩
  | .local _ .vmem, ⟨24, _⟩ => ⟨S512x128, .bf16⟩
  | .local _ .vmem, ⟨25, _⟩ => ⟨S512x128, .bf16⟩
  | .local _ .vmem, ⟨26, _⟩ => ⟨S512x128, .bf16⟩
  | .local _ .vmem, ⟨27, _⟩ => ⟨S512x256, .bf16⟩
  | .local _ .vmem, ⟨28, _⟩ => ⟨S512x256, .bf16⟩
  | .local _ .vmem, ⟨29, _⟩ => ⟨S512x128, .bf16⟩
  | .local _ .vmem, ⟨30, _⟩ => ⟨S512x128, .bf16⟩
  | .local _ .vmem, ⟨31, _⟩ => ⟨S8x128, .f32⟩
  | .local _ .vmem, ⟨32, _⟩ => ⟨S8x128, .f32⟩
  | .local _ .vmem, ⟨33, _⟩ => ⟨S512x256, .bf16⟩
  | .local _ .vmem, ⟨34, _⟩ => ⟨S512x256, .bf16⟩
  | .local _ .vmem, ⟨35, _⟩ => ⟨S8x256, .f32⟩
  | .local _ .vmem, ⟨36, _⟩ => ⟨S256x128, .f32⟩
  | .local _ .vmem, ⟨37, _⟩ => ⟨S8x256x128, .f32⟩
  | .local _ .vmem, ⟨38, _⟩ => ⟨S512x128, .f32⟩
  | .local _ .vmem, ⟨39, _⟩ => ⟨S512x128, .f32⟩
  | _, _ => ⟨S4096x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c4_i32 : BitVec 32 := 4#32
  let v1 : BitVec 32 := Scalar.addi c4_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c4_i32 : BitVec 32 := 4#32
  let v1 : BitVec 32 := Scalar.addi c4_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c64_i32 : BitVec 32 := 64#32
  let c0_i32 : BitVec 32 := 0#32
  ![v0.toNat, c64_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c8_i32 : BitVec 32 := 8#32
  let v1 : BitVec 32 := Scalar.addi c8_i32 arg0
  let c0_i32 : BitVec 32 := 0#32
  ![v0.toNat, v1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![arg0.toNat, v3.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_14 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_15 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_16 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c8_i32 : BitVec 32 := 8#32
  let v1 : BitVec 32 := Scalar.addi c8_i32 arg0
  let c0_i32 : BitVec 32 := 0#32
  ![v0.toNat, v1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x8x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 1 → Memref sig .tc .vmem S8x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== ReferenceIdeal.lean ====
abbrev S4096x8320 : Shape := ⟨2, ![4096, 8320]⟩
abbrev S128x512 : Shape := ⟨2, ![128, 512]⟩
abbrev S1x512 : Shape := ⟨2, ![1, 512]⟩
abbrev S4x64x256x128 : Shape := ⟨4, ![4, 64, 256, 128]⟩
abbrev S4096x1024 : Shape := ⟨2, ![4096, 1024]⟩
abbrev S1x256 : Shape := ⟨2, ![1, 256]⟩
abbrev S4096x512 : Shape := ⟨2, ![4096, 512]⟩
abbrev S4096x128 : Shape := ⟨2, ![4096, 128]⟩
abbrev S64x4x128x256 : Shape := ⟨4, ![64, 4, 128, 256]⟩
abbrev S_ : Shape := ⟨0, ![]⟩
abbrev S1x4x128x256 : Shape := ⟨4, ![1, 4, 128, 256]⟩
abbrev S63x4x128x256 : Shape := ⟨4, ![63, 4, 128, 256]⟩
abbrev S64x64x4x128 : Shape := ⟨4, ![64, 64, 4, 128]⟩
abbrev S64x4x64x128 : Shape := ⟨4, ![64, 4, 64, 128]⟩
abbrev S64x64x4x256 : Shape := ⟨4, ![64, 64, 4, 256]⟩
abbrev S64x4x64x256 : Shape := ⟨4, ![64, 4, 64, 256]⟩
abbrev S4x128x256 : Shape := ⟨3, ![4, 128, 256]⟩
abbrev S64x1x256 : Shape := ⟨3, ![64, 1, 256]⟩
abbrev S1x4x64x128 : Shape := ⟨4, ![1, 4, 64, 128]⟩
abbrev S4x64x128 : Shape := ⟨3, ![4, 64, 128]⟩
abbrev S1x4x64x256 : Shape := ⟨4, ![1, 4, 64, 256]⟩
abbrev S4x64x256 : Shape := ⟨3, ![4, 64, 256]⟩
abbrev S4x64 : Shape := ⟨2, ![4, 64]⟩
abbrev S4x64x1 : Shape := ⟨3, ![4, 64, 1]⟩
abbrev S1x1x256 : Shape := ⟨3, ![1, 1, 256]⟩
abbrev S256 : Shape := ⟨1, ![256]⟩
abbrev S4x1x128 : Shape := ⟨3, ![4, 1, 128]⟩
abbrev S4x128 : Shape := ⟨2, ![4, 128]⟩
abbrev S4x256x128 : Shape := ⟨3, ![4, 256, 128]⟩
abbrev S4x128x1 : Shape := ⟨3, ![4, 128, 1]⟩
abbrev S4x256x64 : Shape := ⟨3, ![4, 256, 64]⟩
abbrev S4x128x64 : Shape := ⟨3, ![4, 128, 64]⟩
abbrev S512 : Shape := ⟨1, ![512]⟩
abbrev S8x512 : Shape := ⟨2, ![8, 512]⟩
abbrev S8x256 : Shape := ⟨2, ![8, 256]⟩
abbrev S4096x2048 : Shape := ⟨2, ![4096, 2048]⟩
abbrev S4096x5248 : Shape := ⟨2, ![4096, 5248]⟩

abbrev nBuf : Space → Nat
  | .hbm => 357
  | .vmem => 0
  | .smem => 0
  | _ => 0

abbrev hbmTy0_0 (i : Nat) : BufTy := match i % 128 with
  | 0 => ⟨S4096x8320, .bf16⟩
  | 1 => ⟨S128x512, .bf16⟩
  | 2 => ⟨S1x512, .f32⟩
  | 3 => ⟨S4x64x256x128, .bf16⟩
  | 4 => ⟨S4096x1024, .bf16⟩
  | 5 => ⟨S4096x1024, .bf16⟩
  | 6 => ⟨S1x256, .f32⟩
  | 7 => ⟨S4096x8320, .bf16⟩
  | 8 => ⟨S4096x8320, .f32⟩
  | 9 => ⟨S4096x512, .f32⟩
  | 10 => ⟨S4096x512, .f32⟩
  | 11 => ⟨S4096x1024, .f32⟩
  | 12 => ⟨S4096x1024, .f32⟩
  | 13 => ⟨S4096x128, .f32⟩
  | 14 => ⟨S128x512, .f32⟩
  | 15 => ⟨S4096x512, .f32⟩
  | 16 => ⟨S4096x512, .f32⟩
  | 17 => ⟨S4096x512, .f32⟩
  | 18 => ⟨S4x64x256x128, .f32⟩
  | 19 => ⟨S64x4x128x256, .f32⟩
  | 20 => ⟨S_, .f32⟩
  | 21 => ⟨S1x4x128x256, .f32⟩
  | 22 => ⟨S63x4x128x256, .f32⟩
  | 23 => ⟨S64x4x128x256, .f32⟩
  | 24 => ⟨S4096x1024, .f32⟩
  | 25 => ⟨S4096x1024, .f32⟩
  | 26 => ⟨S64x64x4x128, .f32⟩
  | 27 => ⟨S64x4x64x128, .f32⟩
  | 28 => ⟨S64x64x4x128, .f32⟩
  | 29 => ⟨S64x4x64x128, .f32⟩
  | 30 => ⟨S64x64x4x256, .f32⟩
  | 31 => ⟨S64x4x64x256, .f32⟩
  | 32 => ⟨S64x64x4x256, .f32⟩
  | 33 => ⟨S64x4x64x256, .f32⟩
  | 34 => ⟨S64x64x4x128, .f32⟩
  | 35 => ⟨S64x4x64x128, .f32⟩
  | 36 => ⟨S64x64x4x256, .f32⟩
  | 37 => ⟨S64x4x64x256, .f32⟩
  | 38 => ⟨S64x64x4x256, .f32⟩
  | 39 => ⟨S64x4x64x256, .f32⟩
  | 40 => ⟨S_, .f32⟩
  | 41 => ⟨S4x128x256, .f32⟩
  | 42 => ⟨S_, .f32⟩
  | 43 => ⟨S64x4x64x128, .f32⟩
  | 44 => ⟨S_, .f32⟩
  | 45 => ⟨S64x4x64x128, .f32⟩
  | 46 => ⟨S_, .f32⟩
  | 47 => ⟨S64x4x64x256, .f32⟩
  | 48 => ⟨S_, .f32⟩
  | 49 => ⟨S64x4x64x256, .f32⟩
  | 50 => ⟨S_, .f32⟩
  | 51 => ⟨S64x4x64x128, .f32⟩
  | 52 => ⟨S_, .f32⟩
  | 53 => ⟨S64x1x256, .f32⟩
  | 54 => ⟨S_, .i32⟩
  | 55 => ⟨S64x4x64x128, .f32⟩
  | 56 => ⟨S64x4x64x128, .f32⟩
  | 57 => ⟨S64x4x64x256, .f32⟩
  | 58 => ⟨S64x4x64x256, .f32⟩
  | 59 => ⟨S64x4x64x128, .f32⟩
  | 60 => ⟨S64x4x64x256, .f32⟩
  | 61 => ⟨S64x4x64x256, .f32⟩
  | 62 => ⟨S64x4x128x256, .f32⟩
  | 63 => ⟨S64x4x128x256, .f32⟩
  | 64 => ⟨S1x256, .f32⟩
  | 65 => ⟨S_, .i32⟩
  | 66 => ⟨S4x128x256, .f32⟩
  | 67 => ⟨S64x4x64x128, .f32⟩
  | 68 => ⟨S64x4x64x128, .f32⟩
  | 69 => ⟨S64x4x64x256, .f32⟩
  | 70 => ⟨S64x4x64x256, .f32⟩
  | 71 => ⟨S64x4x64x128, .f32⟩
  | 72 => ⟨S64x1x256, .f32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S1x4x64x128, .f32⟩
  | 83 => ⟨S4x64x128, .f32⟩
  | 84 => ⟨S_, .i32⟩
  | 85 => ⟨S_, .i32⟩
  | 86 => ⟨S_, .i32⟩
  | 87 => ⟨S1x4x64x128, .f32⟩
  | 88 => ⟨S4x64x128, .f32⟩
  | 89 => ⟨S_, .i32⟩
  | 90 => ⟨S_, .i32⟩
  | 91 => ⟨S_, .i32⟩
  | 92 => ⟨S1x4x64x256, .f32⟩
  | 93 => ⟨S4x64x256, .f32⟩
  | 94 => ⟨S_, .i32⟩
  | 95 => ⟨S_, .i32⟩
  | 96 => ⟨S_, .i32⟩
  | 97 => ⟨S1x4x64x256, .f32⟩
  | 98 => ⟨S4x64x256, .f32⟩
  | 99 => ⟨S_, .i32⟩
  | 100 => ⟨S_, .i32⟩
  | 101 => ⟨S_, .i32⟩
  | 102 => ⟨S1x4x64x128, .f32⟩
  | 103 => ⟨S4x64x128, .f32⟩
  | 104 => ⟨S_, .i32⟩
  | 105 => ⟨S_, .i32⟩
  | 106 => ⟨S_, .i32⟩
  | 107 => ⟨S1x4x64x256, .f32⟩
  | 108 => ⟨S4x64x256, .f32⟩
  | 109 => ⟨S_, .i32⟩
  | 110 => ⟨S_, .i32⟩
  | 111 => ⟨S_, .i32⟩
  | 112 => ⟨S1x4x64x256, .f32⟩
  | 113 => ⟨S4x64x256, .f32⟩
  | 114 => ⟨S_, .i32⟩
  | 115 => ⟨S_, .i32⟩
  | 116 => ⟨S_, .i32⟩
  | 117 => ⟨S1x4x128x256, .f32⟩
  | 118 => ⟨S4x128x256, .f32⟩
  | 119 => ⟨S_, .i32⟩
  | 120 => ⟨S_, .i32⟩
  | 121 => ⟨S_, .i32⟩
  | 122 => ⟨S1x4x128x256, .f32⟩
  | 123 => ⟨S4x128x256, .f32⟩
  | 124 => ⟨S4x64x256, .f32⟩
  | 125 => ⟨S_, .f32⟩
  | 126 => ⟨S4x64, .f32⟩
  | 127 => ⟨S4x64x1, .f32⟩
  | _ => ⟨S4096x8320, .bf16⟩

abbrev hbmTy0_1 (i : Nat) : BufTy := match i % 128 with
  | 0 => ⟨S_, .f32⟩
  | 1 => ⟨S4x64x1, .f32⟩
  | 2 => ⟨S4x64x1, .f32⟩
  | 3 => ⟨S_, .f32⟩
  | 4 => ⟨S4x64x1, .f32⟩
  | 5 => ⟨S4x64x1, .f32⟩
  | 6 => ⟨S4x64x1, .f32⟩
  | 7 => ⟨S4x64x1, .f32⟩
  | 8 => ⟨S_, .f32⟩
  | 9 => ⟨S4x64x1, .f32⟩
  | 10 => ⟨S4x64x1, .f32⟩
  | 11 => ⟨S4x64x256, .f32⟩
  | 12 => ⟨S4x64x256, .f32⟩
  | 13 => ⟨S1x1x256, .f32⟩
  | 14 => ⟨S4x64x256, .f32⟩
  | 15 => ⟨S4x64x256, .f32⟩
  | 16 => ⟨S4x64x256, .f32⟩
  | 17 => ⟨S4x64x256, .f32⟩
  | 18 => ⟨S_, .f32⟩
  | 19 => ⟨S4x64x256, .f32⟩
  | 20 => ⟨S4x64x256, .f32⟩
  | 21 => ⟨S_, .f32⟩
  | 22 => ⟨S4x64x256, .f32⟩
  | 23 => ⟨S4x64x256, .f32⟩
  | 24 => ⟨S_, .f32⟩
  | 25 => ⟨S4x64x256, .f32⟩
  | 26 => ⟨S4x64x256, .f32⟩
  | 27 => ⟨S4x64x256, .f32⟩
  | 28 => ⟨S4x64x256, .f32⟩
  | 29 => ⟨S4x64x256, .f32⟩
  | 30 => ⟨S4x64x256, .f32⟩
  | 31 => ⟨S4x64x256, .f32⟩
  | 32 => ⟨S4x64x256, .f32⟩
  | 33 => ⟨S4x64x256, .f32⟩
  | 34 => ⟨S4x64x256, .f32⟩
  | 35 => ⟨S4x64x256, .f32⟩
  | 36 => ⟨S4x64x256, .f32⟩
  | 37 => ⟨S_, .f32⟩
  | 38 => ⟨S256, .f32⟩
  | 39 => ⟨S1x1x256, .f32⟩
  | 40 => ⟨S4x64x256, .f32⟩
  | 41 => ⟨S4x64x256, .f32⟩
  | 42 => ⟨S_, .f32⟩
  | 43 => ⟨S256, .f32⟩
  | 44 => ⟨S1x256, .f32⟩
  | 45 => ⟨S4x64x256, .f32⟩
  | 46 => ⟨S_, .f32⟩
  | 47 => ⟨S4x64, .f32⟩
  | 48 => ⟨S4x64x1, .f32⟩
  | 49 => ⟨S4x64x256, .f32⟩
  | 50 => ⟨S4x64x256, .f32⟩
  | 51 => ⟨S4x64x1, .f32⟩
  | 52 => ⟨S_, .f32⟩
  | 53 => ⟨S4x64x1, .f32⟩
  | 54 => ⟨S4x64x1, .f32⟩
  | 55 => ⟨S_, .f32⟩
  | 56 => ⟨S4x64, .f32⟩
  | 57 => ⟨S4x64x256, .f32⟩
  | 58 => ⟨S4x64x256, .f32⟩
  | 59 => ⟨S4x64x256, .f32⟩
  | 60 => ⟨S4x64x256, .f32⟩
  | 61 => ⟨S4x64x256, .f32⟩
  | 62 => ⟨S4x64x128, .f32⟩
  | 63 => ⟨S_, .f32⟩
  | 64 => ⟨S4x64x128, .f32⟩
  | 65 => ⟨S4x64x128, .f32⟩
  | 66 => ⟨S4x64x128, .f32⟩
  | 67 => ⟨S4x64x128, .f32⟩
  | 68 => ⟨S4x64x128, .i1⟩
  | 69 => ⟨S4x64x128, .f32⟩
  | 70 => ⟨S4x64x128, .f32⟩
  | 71 => ⟨S4x64x128, .f32⟩
  | 72 => ⟨S4x64x128, .f32⟩
  | 73 => ⟨S4x64x128, .f32⟩
  | 74 => ⟨S4x64x128, .f32⟩
  | 75 => ⟨S4x64x128, .f32⟩
  | 76 => ⟨S4x64x128, .f32⟩
  | 77 => ⟨S_, .f32⟩
  | 78 => ⟨S4x64x128, .f32⟩
  | 79 => ⟨S4x64x128, .i1⟩
  | 80 => ⟨S_, .f32⟩
  | 81 => ⟨S4x64x128, .f32⟩
  | 82 => ⟨S4x64x128, .f32⟩
  | 83 => ⟨S_, .f32⟩
  | 84 => ⟨S4x64x128, .f32⟩
  | 85 => ⟨S4x64x128, .i1⟩
  | 86 => ⟨S_, .f32⟩
  | 87 => ⟨S4x64x128, .f32⟩
  | 88 => ⟨S4x64x128, .f32⟩
  | 89 => ⟨S4x64x128, .f32⟩
  | 90 => ⟨S4x64x128, .f32⟩
  | 91 => ⟨S_, .f32⟩
  | 92 => ⟨S_, .f32⟩
  | 93 => ⟨S_, .i1⟩
  | 94 => ⟨S_, .f32⟩
  | 95 => ⟨S_, .f32⟩
  | 96 => ⟨S_, .f32⟩
  | 97 => ⟨S_, .f32⟩
  | 98 => ⟨S4x64x128, .f32⟩
  | 99 => ⟨S4x64x128, .i1⟩
  | 100 => ⟨S_, .f32⟩
  | 101 => ⟨S4x64x128, .f32⟩
  | 102 => ⟨S4x64x128, .f32⟩
  | 103 => ⟨S4x64x128, .f32⟩
  | 104 => ⟨S4x64x128, .f32⟩
  | 105 => ⟨S4x64x128, .f32⟩
  | 106 => ⟨S_, .f32⟩
  | 107 => ⟨S4x64x128, .f32⟩
  | 108 => ⟨S4x64x128, .f32⟩
  | 109 => ⟨S4x64x128, .f32⟩
  | 110 => ⟨S_, .f32⟩
  | 111 => ⟨S4x64x128, .f32⟩
  | 112 => ⟨S4x64x128, .f32⟩
  | 113 => ⟨S_, .f32⟩
  | 114 => ⟨S_, .f32⟩
  | 115 => ⟨S4x64x128, .f32⟩
  | 116 => ⟨S4x1x128, .f32⟩
  | 117 => ⟨S_, .f32⟩
  | 118 => ⟨S4x64x128, .f32⟩
  | 119 => ⟨S4x64x128, .f32⟩
  | 120 => ⟨S4x64x128, .f32⟩
  | 121 => ⟨S4x64x128, .f32⟩
  | 122 => ⟨S4x64x128, .f32⟩
  | 123 => ⟨S4x64x128, .f32⟩
  | 124 => ⟨S4x128, .f32⟩
  | 125 => ⟨S4x128, .f32⟩
  | 126 => ⟨S4x64x256, .f32⟩
  | 127 => ⟨S4x256x128, .f32⟩
  | _ => ⟨S4096x8320, .bf16⟩

abbrev hbmTy0_2 (i : Nat) : BufTy := match i % 128 with
  | 0 => ⟨S4x128x256, .f32⟩
  | 1 => ⟨S4x64x128, .f32⟩
  | 2 => ⟨S4x128x1, .f32⟩
  | 3 => ⟨S4x128x256, .f32⟩
  | 4 => ⟨S4x128x256, .f32⟩
  | 5 => ⟨S4x128x256, .f32⟩
  | 6 => ⟨S4x128x256, .f32⟩
  | 7 => ⟨S4x128x256, .f32⟩
  | 8 => ⟨S4x256x64, .f32⟩
  | 9 => ⟨S4x64x256, .f32⟩
  | 10 => ⟨S4x128x64, .f32⟩
  | 11 => ⟨S4x64x128, .f32⟩
  | 12 => ⟨S4x128x256, .f32⟩
  | 13 => ⟨S4x128x256, .f32⟩
  | 14 => ⟨S4x128x256, .f32⟩
  | 15 => ⟨S_, .f32⟩
  | 16 => ⟨S4x128, .f32⟩
  | 17 => ⟨S4x128x1, .f32⟩
  | 18 => ⟨S_, .f32⟩
  | 19 => ⟨S4x128, .f32⟩
  | 20 => ⟨S4x128, .f32⟩
  | 21 => ⟨S4x1x128, .f32⟩
  | 22 => ⟨S4x64x128, .f32⟩
  | 23 => ⟨S4x64x128, .f32⟩
  | 24 => ⟨S4x64x128, .f32⟩
  | 25 => ⟨S_, .f32⟩
  | 26 => ⟨S4x128, .f32⟩
  | 27 => ⟨S4x1x128, .f32⟩
  | 28 => ⟨S4x64x128, .f32⟩
  | 29 => ⟨S4x1x128, .f32⟩
  | 30 => ⟨S_, .f32⟩
  | 31 => ⟨S4x64x128, .f32⟩
  | 32 => ⟨S4x64x128, .f32⟩
  | 33 => ⟨S_, .f32⟩
  | 34 => ⟨S4x64x128, .f32⟩
  | 35 => ⟨S4x64x128, .f32⟩
  | 36 => ⟨S_, .f32⟩
  | 37 => ⟨S_, .f32⟩
  | 38 => ⟨S4x64x128, .f32⟩
  | 39 => ⟨S_, .f32⟩
  | 40 => ⟨S4x64x128, .f32⟩
  | 41 => ⟨S4x64x128, .f32⟩
  | 42 => ⟨S4x64x128, .f32⟩
  | 43 => ⟨S4x64x128, .f32⟩
  | 44 => ⟨S4x64x128, .f32⟩
  | 45 => ⟨S1x4x64x128, .f32⟩
  | 46 => ⟨S_, .i32⟩
  | 47 => ⟨S_, .i32⟩
  | 48 => ⟨S_, .i32⟩
  | 49 => ⟨S64x4x64x128, .f32⟩
  | 50 => ⟨S1x4x64x128, .f32⟩
  | 51 => ⟨S_, .i32⟩
  | 52 => ⟨S_, .i32⟩
  | 53 => ⟨S_, .i32⟩
  | 54 => ⟨S64x4x64x128, .f32⟩
  | 55 => ⟨S1x4x64x256, .f32⟩
  | 56 => ⟨S_, .i32⟩
  | 57 => ⟨S_, .i32⟩
  | 58 => ⟨S_, .i32⟩
  | 59 => ⟨S64x4x64x256, .f32⟩
  | 60 => ⟨S1x4x64x256, .f32⟩
  | 61 => ⟨S_, .i32⟩
  | 62 => ⟨S_, .i32⟩
  | 63 => ⟨S_, .i32⟩
  | 64 => ⟨S64x4x64x256, .f32⟩
  | 65 => ⟨S1x4x64x128, .f32⟩
  | 66 => ⟨S_, .i32⟩
  | 67 => ⟨S_, .i32⟩
  | 68 => ⟨S_, .i32⟩
  | 69 => ⟨S64x4x64x128, .f32⟩
  | 70 => ⟨S1x1x256, .f32⟩
  | 71 => ⟨S_, .i32⟩
  | 72 => ⟨S_, .i32⟩
  | 73 => ⟨S64x1x256, .f32⟩
  | 74 => ⟨S_, .i32⟩
  | 75 => ⟨S_, .i32⟩
  | 76 => ⟨S64x64x4x128, .f32⟩
  | 77 => ⟨S4096x512, .f32⟩
  | 78 => ⟨S64x64x4x128, .f32⟩
  | 79 => ⟨S4096x512, .f32⟩
  | 80 => ⟨S64x64x4x256, .f32⟩
  | 81 => ⟨S4096x1024, .f32⟩
  | 82 => ⟨S64x64x4x256, .f32⟩
  | 83 => ⟨S4096x1024, .f32⟩
  | 84 => ⟨S64x64x4x128, .f32⟩
  | 85 => ⟨S4096x512, .f32⟩
  | 86 => ⟨S_, .f32⟩
  | 87 => ⟨S512, .f32⟩
  | 88 => ⟨S1x512, .f32⟩
  | 89 => ⟨S8x512, .f32⟩
  | 90 => ⟨S_, .f32⟩
  | 91 => ⟨S1x256, .f32⟩
  | 92 => ⟨S8x256, .f32⟩
  | 93 => ⟨S4096x2048, .bf16⟩
  | 94 => ⟨S4096x1024, .bf16⟩
  | 95 => ⟨S4096x5248, .bf16⟩
  | 96 => ⟨S4096x8320, .bf16⟩
  | 97 => ⟨S4096x512, .bf16⟩
  | 98 => ⟨S4096x512, .bf16⟩
  | 99 => ⟨S4096x1024, .bf16⟩
  | 100 => ⟨S4096x512, .bf16⟩
  | _ => ⟨S4096x8320, .bf16⟩

abbrev hbmTy (i : Nat) : BufTy := match i / 128 with
  | 0 => hbmTy0_0 i
  | 1 => hbmTy0_1 i
  | 2 => hbmTy0_2 i
  | _ => ⟨S4096x8320, .bf16⟩

abbrev bufTy : (tb : Table) → Fin (tcTables nBuf tb) → BufTy
  | .hbm, ⟨i, _⟩ => hbmTy i
  | _, _ => ⟨S4096x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_0 : Ref sig .tc := ⟨.hbm, 40, rfl⟩
abbrev main_v31 : Ref sig .tc := ⟨.hbm, 41, rfl⟩
abbrev main_cst_1 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_c : Ref sig .tc := ⟨.hbm, 54, rfl⟩
abbrev main_v38_0 : Ref sig .tc := ⟨.hbm, 55, rfl⟩
abbrev main_v38_1 : Ref sig .tc := ⟨.hbm, 56, rfl⟩
abbrev main_v38_2 : Ref sig .tc := ⟨.hbm, 57, rfl⟩
abbrev main_v38_3 : Ref sig .tc := ⟨.hbm, 58, rfl⟩
abbrev main_v38_4 : Ref sig .tc := ⟨.hbm, 59, rfl⟩
abbrev main_v38_5 : Ref sig .tc := ⟨.hbm, 60, rfl⟩
abbrev main_v38_6 : Ref sig .tc := ⟨.hbm, 61, rfl⟩
abbrev main_v38_7 : Ref sig .tc := ⟨.hbm, 62, rfl⟩
abbrev main_v38_8 : Ref sig .tc := ⟨.hbm, 63, rfl⟩
abbrev main_v38_9 : Ref sig .tc := ⟨.hbm, 64, rfl⟩
abbrev main_v38_10 : Ref sig .tc := ⟨.hbm, 65, rfl⟩
abbrev main_v38_11 : Ref sig .tc := ⟨.hbm, 66, rfl⟩
abbrev main_v38_12 : Ref sig .tc := ⟨.hbm, 67, rfl⟩
abbrev main_v38_13 : Ref sig .tc := ⟨.hbm, 68, rfl⟩
abbrev main_v38_14 : Ref sig .tc := ⟨.hbm, 69, rfl⟩
abbrev main_v38_15 : Ref sig .tc := ⟨.hbm, 70, rfl⟩
abbrev main_v38_16 : Ref sig .tc := ⟨.hbm, 71, rfl⟩
abbrev main_v38_17 : Ref sig .tc := ⟨.hbm, 72, rfl⟩
abbrev main_while0c_c_26 : Ref sig .tc := ⟨.hbm, 73, rfl⟩
abbrev main_while0c_v62 : Ref sig .tc := ⟨.hbm, 74, rfl⟩
abbrev main_while0b_c_26 : Ref sig .tc := ⟨.hbm, 75, rfl⟩
abbrev main_while0b_v62 : Ref sig .tc := ⟨.hbm, 76, rfl⟩
abbrev main_while0b_c_27 : Ref sig .tc := ⟨.hbm, 77, rfl⟩
abbrev main_while0b_v63 : Ref sig .tc := ⟨.hbm, 78, rfl⟩
abbrev main_while0b_call0_c : Ref sig .tc := ⟨.hbm, 79, rfl⟩
abbrev main_while0b_call0_c_0 : Ref sig .tc := ⟨.hbm, 80, rfl⟩
abbrev main_while0b_call0_c_1 : Ref sig .tc := ⟨.hbm, 81, rfl⟩
abbrev main_while0b_call0_v0 : Ref sig .tc := ⟨.hbm, 82, rfl⟩
abbrev main_while0b_v64 : Ref sig .tc := ⟨.hbm, 83, rfl⟩
abbrev main_while0b_call1_c : Ref sig .tc := ⟨.hbm, 84, rfl⟩
abbrev main_while0b_call1_c_0 : Ref sig .tc := ⟨.hbm, 85, rfl⟩
abbrev main_while0b_call1_c_1 : Ref sig .tc := ⟨.hbm, 86, rfl⟩
abbrev main_while0b_call1_v0 : Ref sig .tc := ⟨.hbm, 87, rfl⟩
abbrev main_while0b_v65 : Ref sig .tc := ⟨.hbm, 88, rfl⟩
abbrev main_while0b_call2_c : Ref sig .tc := ⟨.hbm, 89, rfl⟩
abbrev main_while0b_call2_c_0 : Ref sig .tc := ⟨.hbm, 90, rfl⟩
abbrev main_while0b_call2_c_1 : Ref sig .tc := ⟨.hbm, 91, rfl⟩
abbrev main_while0b_call2_v0 : Ref sig .tc := ⟨.hbm, 92, rfl⟩
abbrev main_while0b_v66 : Ref sig .tc := ⟨.hbm, 93, rfl⟩
abbrev main_while0b_call3_c : Ref sig .tc := ⟨.hbm, 94, rfl⟩
abbrev main_while0b_call3_c_0 : Ref sig .tc := ⟨.hbm, 95, rfl⟩
abbrev main_while0b_call3_c_1 : Ref sig .tc := ⟨.hbm, 96, rfl⟩
abbrev main_while0b_call3_v0 : Ref sig .tc := ⟨.hbm, 97, rfl⟩
abbrev main_while0b_v67 : Ref sig .tc := ⟨.hbm, 98, rfl⟩
abbrev main_while0b_call4_c : Ref sig .tc := ⟨.hbm, 99, rfl⟩
abbrev main_while0b_call4_c_0 : Ref sig .tc := ⟨.hbm, 100, rfl⟩
abbrev main_while0b_call4_c_1 : Ref sig .tc := ⟨.hbm, 101, rfl⟩
abbrev main_while0b_call4_v0 : Ref sig .tc := ⟨.hbm, 102, rfl⟩
abbrev main_while0b_v68 : Ref sig .tc := ⟨.hbm, 103, rfl⟩
abbrev main_while0b_call5_c : Ref sig .tc := ⟨.hbm, 104, rfl⟩
abbrev main_while0b_call5_c_0 : Ref sig .tc := ⟨.hbm, 105, rfl⟩
abbrev main_while0b_call5_c_1 : Ref sig .tc := ⟨.hbm, 106, rfl⟩
abbrev main_while0b_call5_v0 : Ref sig .tc := ⟨.hbm, 107, rfl⟩
abbrev main_while0b_v69 : Ref sig .tc := ⟨.hbm, 108, rfl⟩
abbrev main_while0b_call6_c : Ref sig .tc := ⟨.hbm, 109, rfl⟩
abbrev main_while0b_call6_c_0 : Ref sig .tc := ⟨.hbm, 110, rfl⟩
abbrev main_while0b_call6_c_1 : Ref sig .tc := ⟨.hbm, 111, rfl⟩
abbrev main_while0b_call6_v0 : Ref sig .tc := ⟨.hbm, 112, rfl⟩
abbrev main_while0b_v70 : Ref sig .tc := ⟨.hbm, 113, rfl⟩
abbrev main_while0b_call7_c : Ref sig .tc := ⟨.hbm, 114, rfl⟩
abbrev main_while0b_call7_c_0 : Ref sig .tc := ⟨.hbm, 115, rfl⟩
abbrev main_while0b_call7_c_1 : Ref sig .tc := ⟨.hbm, 116, rfl⟩
abbrev main_while0b_call7_v0 : Ref sig .tc := ⟨.hbm, 117, rfl⟩
abbrev main_while0b_v71 : Ref sig .tc := ⟨.hbm, 118, rfl⟩
abbrev main_while0b_call8_c : Ref sig .tc := ⟨.hbm, 119, rfl⟩
abbrev main_while0b_call8_c_0 : Ref sig .tc := ⟨.hbm, 120, rfl⟩
abbrev main_while0b_call8_c_1 : Ref sig .tc := ⟨.hbm, 121, rfl⟩
abbrev main_while0b_call8_v0 : Ref sig .tc := ⟨.hbm, 122, rfl⟩
abbrev main_while0b_v72 : Ref sig .tc := ⟨.hbm, 123, rfl⟩
abbrev main_while0b_v73 : Ref sig .tc := ⟨.hbm, 124, rfl⟩
abbrev main_while0b_cst_28 : Ref sig .tc := ⟨.hbm, 125, rfl⟩
abbrev main_while0b_v74 : Ref sig .tc := ⟨.hbm, 126, rfl⟩
abbrev main_while0b_v75 : Ref sig .tc := ⟨.hbm, 127, rfl⟩
abbrev main_while0b_cst_29 : Ref sig .tc := ⟨.hbm, 128, rfl⟩
abbrev main_while0b_v76 : Ref sig .tc := ⟨.hbm, 129, rfl⟩
abbrev main_while0b_v77 : Ref sig .tc := ⟨.hbm, 130, rfl⟩
abbrev main_while0b_cst_30 : Ref sig .tc := ⟨.hbm, 131, rfl⟩
abbrev main_while0b_v78 : Ref sig .tc := ⟨.hbm, 132, rfl⟩
abbrev main_while0b_v79 : Ref sig .tc := ⟨.hbm, 133, rfl⟩
abbrev main_while0b_v80 : Ref sig .tc := ⟨.hbm, 134, rfl⟩
abbrev main_while0b_v81 : Ref sig .tc := ⟨.hbm, 135, rfl⟩
abbrev main_while0b_cst_31 : Ref sig .tc := ⟨.hbm, 136, rfl⟩
abbrev main_while0b_v82 : Ref sig .tc := ⟨.hbm, 137, rfl⟩
abbrev main_while0b_v83 : Ref sig .tc := ⟨.hbm, 138, rfl⟩
abbrev main_while0b_v84 : Ref sig .tc := ⟨.hbm, 139, rfl⟩
abbrev main_while0b_v85 : Ref sig .tc := ⟨.hbm, 140, rfl⟩
abbrev main_while0b_v86 : Ref sig .tc := ⟨.hbm, 141, rfl⟩
abbrev main_while0b_v87 : Ref sig .tc := ⟨.hbm, 142, rfl⟩
abbrev main_while0b_v88 : Ref sig .tc := ⟨.hbm, 143, rfl⟩
abbrev main_while0b_call9_v0 : Ref sig .tc := ⟨.hbm, 144, rfl⟩
abbrev main_while0b_call9_v1 : Ref sig .tc := ⟨.hbm, 145, rfl⟩
abbrev main_while0b_call9_cst : Ref sig .tc := ⟨.hbm, 146, rfl⟩
abbrev main_while0b_call9_v2 : Ref sig .tc := ⟨.hbm, 147, rfl⟩
abbrev main_while0b_call9_v3 : Ref sig .tc := ⟨.hbm, 148, rfl⟩
abbrev main_while0b_call9_cst_0 : Ref sig .tc := ⟨.hbm, 149, rfl⟩
abbrev main_while0b_call9_v4 : Ref sig .tc := ⟨.hbm, 150, rfl⟩
abbrev main_while0b_v89_2 : Ref sig .tc := ⟨.hbm, 151, rfl⟩
abbrev main_while0b_call9_cst_1 : Ref sig .tc := ⟨.hbm, 152, rfl⟩
abbrev main_while0b_call9_v6 : Ref sig .tc := ⟨.hbm, 153, rfl⟩
abbrev main_while0b_call9_v7 : Ref sig .tc := ⟨.hbm, 154, rfl⟩
abbrev main_while0b_v89_1 : Ref sig .tc := ⟨.hbm, 155, rfl⟩
abbrev main_while0b_v89_0 : Ref sig .tc := ⟨.hbm, 156, rfl⟩
abbrev main_while0b_v90 : Ref sig .tc := ⟨.hbm, 157, rfl⟩
abbrev main_while0b_v91 : Ref sig .tc := ⟨.hbm, 158, rfl⟩
abbrev main_while0b_v92 : Ref sig .tc := ⟨.hbm, 159, rfl⟩
abbrev main_while0b_call10_v0 : Ref sig .tc := ⟨.hbm, 160, rfl⟩
abbrev main_while0b_call10_v1 : Ref sig .tc := ⟨.hbm, 161, rfl⟩
abbrev main_while0b_call10_v2 : Ref sig .tc := ⟨.hbm, 162, rfl⟩
abbrev main_while0b_v93 : Ref sig .tc := ⟨.hbm, 163, rfl⟩
abbrev main_while0b_v94 : Ref sig .tc := ⟨.hbm, 164, rfl⟩
abbrev main_while0b_cst_32 : Ref sig .tc := ⟨.hbm, 165, rfl⟩
abbrev main_while0b_v95 : Ref sig .tc := ⟨.hbm, 166, rfl⟩
abbrev main_while0b_v96 : Ref sig .tc := ⟨.hbm, 167, rfl⟩
abbrev main_while0b_v97 : Ref sig .tc := ⟨.hbm, 168, rfl⟩
abbrev main_while0b_v98 : Ref sig .tc := ⟨.hbm, 169, rfl⟩
abbrev main_while0b_cst_33 : Ref sig .tc := ⟨.hbm, 170, rfl⟩
abbrev main_while0b_v99 : Ref sig .tc := ⟨.hbm, 171, rfl⟩
abbrev main_while0b_v100 : Ref sig .tc := ⟨.hbm, 172, rfl⟩
abbrev main_while0b_v101 : Ref sig .tc := ⟨.hbm, 173, rfl⟩
abbrev main_while0b_cst_34 : Ref sig .tc := ⟨.hbm, 174, rfl⟩
abbrev main_while0b_v102 : Ref sig .tc := ⟨.hbm, 175, rfl⟩
abbrev main_while0b_v103 : Ref sig .tc := ⟨.hbm, 176, rfl⟩
abbrev main_while0b_v104 : Ref sig .tc := ⟨.hbm, 177, rfl⟩
abbrev main_while0b_v105 : Ref sig .tc := ⟨.hbm, 178, rfl⟩
abbrev main_while0b_v106 : Ref sig .tc := ⟨.hbm, 179, rfl⟩
abbrev main_while0b_cst_35 : Ref sig .tc := ⟨.hbm, 180, rfl⟩
abbrev main_while0b_v107 : Ref sig .tc := ⟨.hbm, 181, rfl⟩
abbrev main_while0b_v108 : Ref sig .tc := ⟨.hbm, 182, rfl⟩
abbrev main_while0b_cst_36 : Ref sig .tc := ⟨.hbm, 183, rfl⟩
abbrev main_while0b_v109 : Ref sig .tc := ⟨.hbm, 184, rfl⟩
abbrev main_while0b_v110 : Ref sig .tc := ⟨.hbm, 185, rfl⟩
abbrev main_while0b_v111 : Ref sig .tc := ⟨.hbm, 186, rfl⟩
abbrev main_while0b_v112 : Ref sig .tc := ⟨.hbm, 187, rfl⟩
abbrev main_while0b_v113 : Ref sig .tc := ⟨.hbm, 188, rfl⟩
abbrev main_while0b_v114 : Ref sig .tc := ⟨.hbm, 189, rfl⟩
abbrev main_while0b_v115 : Ref sig .tc := ⟨.hbm, 190, rfl⟩
abbrev main_while0b_call11_cst : Ref sig .tc := ⟨.hbm, 191, rfl⟩
abbrev main_while0b_call11_v0 : Ref sig .tc := ⟨.hbm, 192, rfl⟩
abbrev main_while0b_call11_v1 : Ref sig .tc := ⟨.hbm, 193, rfl⟩
abbrev main_while0b_call11_v2 : Ref sig .tc := ⟨.hbm, 194, rfl⟩
abbrev main_while0b_call11_v3 : Ref sig .tc := ⟨.hbm, 195, rfl⟩
abbrev main_while0b_call11_v4 : Ref sig .tc := ⟨.hbm, 196, rfl⟩
abbrev main_while0b_call11_v5 : Ref sig .tc := ⟨.hbm, 197, rfl⟩
abbrev main_while0b_call11_v6 : Ref sig .tc := ⟨.hbm, 198, rfl⟩
abbrev main_while0b_call11_v7 : Ref sig .tc := ⟨.hbm, 199, rfl⟩
abbrev main_while0b_call11_v8 : Ref sig .tc := ⟨.hbm, 200, rfl⟩
abbrev main_while0b_call11_v9 : Ref sig .tc := ⟨.hbm, 201, rfl⟩
abbrev main_while0b_call11_v10 : Ref sig .tc := ⟨.hbm, 202, rfl⟩
abbrev main_while0b_call11_v11 : Ref sig .tc := ⟨.hbm, 203, rfl⟩
abbrev main_while0b_v116_0 : Ref sig .tc := ⟨.hbm, 204, rfl⟩
abbrev main_while0b_call11_cst_0 : Ref sig .tc := ⟨.hbm, 205, rfl⟩
abbrev main_while0b_call11_v13 : Ref sig .tc := ⟨.hbm, 206, rfl⟩
abbrev main_while0b_call11_v14 : Ref sig .tc := ⟨.hbm, 207, rfl⟩
abbrev main_while0b_call11_cst_1 : Ref sig .tc := ⟨.hbm, 208, rfl⟩
abbrev main_while0b_call11_v15 : Ref sig .tc := ⟨.hbm, 209, rfl⟩
abbrev main_while0b_call11_v16 : Ref sig .tc := ⟨.hbm, 210, rfl⟩
abbrev main_while0b_call11_cst_2 : Ref sig .tc := ⟨.hbm, 211, rfl⟩
abbrev main_while0b_call11_v17 : Ref sig .tc := ⟨.hbm, 212, rfl⟩
abbrev main_while0b_call11_v18 : Ref sig .tc := ⟨.hbm, 213, rfl⟩
abbrev main_while0b_call11_cst_3 : Ref sig .tc := ⟨.hbm, 214, rfl⟩
abbrev main_while0b_call11_v19 : Ref sig .tc := ⟨.hbm, 215, rfl⟩
abbrev main_while0b_call11_v20 : Ref sig .tc := ⟨.hbm, 216, rfl⟩
abbrev main_while0b_call11_v21 : Ref sig .tc := ⟨.hbm, 217, rfl⟩
abbrev main_while0b_v116_1 : Ref sig .tc := ⟨.hbm, 218, rfl⟩
abbrev main_while0b_call11_cst_4 : Ref sig .tc := ⟨.hbm, 219, rfl⟩
abbrev main_while0b_call11_cst_5 : Ref sig .tc := ⟨.hbm, 220, rfl⟩
abbrev main_while0b_call11_v23 : Ref sig .tc := ⟨.hbm, 221, rfl⟩
abbrev main_while0b_call11_cst_6 : Ref sig .tc := ⟨.hbm, 222, rfl⟩
abbrev main_while0b_call11_cst_7 : Ref sig .tc := ⟨.hbm, 223, rfl⟩
abbrev main_while0b_call11_v24 : Ref sig .tc := ⟨.hbm, 224, rfl⟩
abbrev main_while0b_call11_cst_8 : Ref sig .tc := ⟨.hbm, 225, rfl⟩
abbrev main_while0b_call11_v25 : Ref sig .tc := ⟨.hbm, 226, rfl⟩
abbrev main_while0b_call11_v26 : Ref sig .tc := ⟨.hbm, 227, rfl⟩
abbrev main_while0b_call11_cst_9 : Ref sig .tc := ⟨.hbm, 228, rfl⟩
abbrev main_while0b_call11_v27 : Ref sig .tc := ⟨.hbm, 229, rfl⟩
abbrev main_while0b_call11_v28 : Ref sig .tc := ⟨.hbm, 230, rfl⟩
abbrev main_while0b_call11_v29 : Ref sig .tc := ⟨.hbm, 231, rfl⟩
abbrev main_while0b_call11_v30 : Ref sig .tc := ⟨.hbm, 232, rfl⟩
abbrev main_while0b_call11_v31 : Ref sig .tc := ⟨.hbm, 233, rfl⟩
abbrev main_while0b_call11_cst_10 : Ref sig .tc := ⟨.hbm, 234, rfl⟩
abbrev main_while0b_call11_v32 : Ref sig .tc := ⟨.hbm, 235, rfl⟩
abbrev main_while0b_v116_2 : Ref sig .tc := ⟨.hbm, 236, rfl⟩
abbrev main_while0b_v117 : Ref sig .tc := ⟨.hbm, 237, rfl⟩
abbrev main_while0b_cst_37 : Ref sig .tc := ⟨.hbm, 238, rfl⟩
abbrev main_while0b_v118 : Ref sig .tc := ⟨.hbm, 239, rfl⟩
abbrev main_while0b_v119 : Ref sig .tc := ⟨.hbm, 240, rfl⟩
abbrev main_while0b_call12_call0_cst : Ref sig .tc := ⟨.hbm, 241, rfl⟩
abbrev main_while0b_call12_call0_v0 : Ref sig .tc := ⟨.hbm, 242, rfl⟩
abbrev main_while0b_v120 : Ref sig .tc := ⟨.hbm, 243, rfl⟩
abbrev main_while0b_v121 : Ref sig .tc := ⟨.hbm, 244, rfl⟩
abbrev main_while0b_cst_38 : Ref sig .tc := ⟨.hbm, 245, rfl⟩
abbrev main_while0b_v122 : Ref sig .tc := ⟨.hbm, 246, rfl⟩
abbrev main_while0b_v123 : Ref sig .tc := ⟨.hbm, 247, rfl⟩
abbrev main_while0b_v124 : Ref sig .tc := ⟨.hbm, 248, rfl⟩
abbrev main_while0b_v125 : Ref sig .tc := ⟨.hbm, 249, rfl⟩
abbrev main_while0b_v126 : Ref sig .tc := ⟨.hbm, 250, rfl⟩
abbrev main_while0b_v127 : Ref sig .tc := ⟨.hbm, 251, rfl⟩
abbrev main_while0b_v128 : Ref sig .tc := ⟨.hbm, 252, rfl⟩
abbrev main_while0b_v129 : Ref sig .tc := ⟨.hbm, 253, rfl⟩
abbrev main_while0b_v130 : Ref sig .tc := ⟨.hbm, 254, rfl⟩
abbrev main_while0b_v131 : Ref sig .tc := ⟨.hbm, 255, rfl⟩
abbrev main_while0b_v132 : Ref sig .tc := ⟨.hbm, 256, rfl⟩
abbrev main_while0b_v133 : Ref sig .tc := ⟨.hbm, 257, rfl⟩
abbrev main_while0b_v134 : Ref sig .tc := ⟨.hbm, 258, rfl⟩
abbrev main_while0b_v135 : Ref sig .tc := ⟨.hbm, 259, rfl⟩
abbrev main_while0b_v136 : Ref sig .tc := ⟨.hbm, 260, rfl⟩
abbrev main_while0b_v137 : Ref sig .tc := ⟨.hbm, 261, rfl⟩
abbrev main_while0b_v138 : Ref sig .tc := ⟨.hbm, 262, rfl⟩
abbrev main_while0b_v139 : Ref sig .tc := ⟨.hbm, 263, rfl⟩
abbrev main_while0b_v140 : Ref sig .tc := ⟨.hbm, 264, rfl⟩
abbrev main_while0b_v141 : Ref sig .tc := ⟨.hbm, 265, rfl⟩
abbrev main_while0b_v142 : Ref sig .tc := ⟨.hbm, 266, rfl⟩
abbrev main_while0b_v143 : Ref sig .tc := ⟨.hbm, 267, rfl⟩
abbrev main_while0b_v144 : Ref sig .tc := ⟨.hbm, 268, rfl⟩
abbrev main_while0b_v145 : Ref sig .tc := ⟨.hbm, 269, rfl⟩
abbrev main_while0b_v146 : Ref sig .tc := ⟨.hbm, 270, rfl⟩
abbrev main_while0b_cst_39 : Ref sig .tc := ⟨.hbm, 271, rfl⟩
abbrev main_while0b_v147 : Ref sig .tc := ⟨.hbm, 272, rfl⟩
abbrev main_while0b_v148 : Ref sig .tc := ⟨.hbm, 273, rfl⟩
abbrev main_while0b_cst_40 : Ref sig .tc := ⟨.hbm, 274, rfl⟩
abbrev main_while0b_v149 : Ref sig .tc := ⟨.hbm, 275, rfl⟩
abbrev main_while0b_v150 : Ref sig .tc := ⟨.hbm, 276, rfl⟩
abbrev main_while0b_v151 : Ref sig .tc := ⟨.hbm, 277, rfl⟩
abbrev main_while0b_v152 : Ref sig .tc := ⟨.hbm, 278, rfl⟩
abbrev main_while0b_v153 : Ref sig .tc := ⟨.hbm, 279, rfl⟩
abbrev main_while0b_v154 : Ref sig .tc := ⟨.hbm, 280, rfl⟩
abbrev main_while0b_cst_41 : Ref sig .tc := ⟨.hbm, 281, rfl⟩
abbrev main_while0b_v155 : Ref sig .tc := ⟨.hbm, 282, rfl⟩
abbrev main_while0b_v156 : Ref sig .tc := ⟨.hbm, 283, rfl⟩
abbrev main_while0b_v157 : Ref sig .tc := ⟨.hbm, 284, rfl⟩
abbrev main_while0b_v158 : Ref sig .tc := ⟨.hbm, 285, rfl⟩
abbrev main_while0b_cst_42 : Ref sig .tc := ⟨.hbm, 286, rfl⟩
abbrev main_while0b_v159 : Ref sig .tc := ⟨.hbm, 287, rfl⟩
abbrev main_while0b_v160 : Ref sig .tc := ⟨.hbm, 288, rfl⟩
abbrev main_while0b_cst_43 : Ref sig .tc := ⟨.hbm, 289, rfl⟩
abbrev main_while0b_v161 : Ref sig .tc := ⟨.hbm, 290, rfl⟩
abbrev main_while0b_v162 : Ref sig .tc := ⟨.hbm, 291, rfl⟩
abbrev main_while0b_call13_call0_cst : Ref sig .tc := ⟨.hbm, 292, rfl⟩
abbrev main_while0b_call13_call0_v0 : Ref sig .tc := ⟨.hbm, 293, rfl⟩
abbrev main_while0b_v163 : Ref sig .tc := ⟨.hbm, 294, rfl⟩
abbrev main_while0b_cst_44 : Ref sig .tc := ⟨.hbm, 295, rfl⟩
abbrev main_while0b_v164 : Ref sig .tc := ⟨.hbm, 296, rfl⟩
abbrev main_while0b_v165 : Ref sig .tc := ⟨.hbm, 297, rfl⟩
abbrev main_while0b_v166 : Ref sig .tc := ⟨.hbm, 298, rfl⟩
abbrev main_while0b_v167 : Ref sig .tc := ⟨.hbm, 299, rfl⟩
abbrev main_while0b_v168 : Ref sig .tc := ⟨.hbm, 300, rfl⟩
abbrev main_while0b_call15_v0 : Ref sig .tc := ⟨.hbm, 301, rfl⟩
abbrev main_while0b_call15_c : Ref sig .tc := ⟨.hbm, 302, rfl⟩
abbrev main_while0b_call15_c_0 : Ref sig .tc := ⟨.hbm, 303, rfl⟩
abbrev main_while0b_call15_c_1 : Ref sig .tc := ⟨.hbm, 304, rfl⟩
abbrev main_while0b_v169 : Ref sig .tc := ⟨.hbm, 305, rfl⟩
abbrev main_while0b_call16_v0 : Ref sig .tc := ⟨.hbm, 306, rfl⟩
abbrev main_while0b_call16_c : Ref sig .tc := ⟨.hbm, 307, rfl⟩
abbrev main_while0b_call16_c_0 : Ref sig .tc := ⟨.hbm, 308, rfl⟩
abbrev main_while0b_call16_c_1 : Ref sig .tc := ⟨.hbm, 309, rfl⟩
abbrev main_while0b_v170 : Ref sig .tc := ⟨.hbm, 310, rfl⟩
abbrev main_while0b_call17_v0 : Ref sig .tc := ⟨.hbm, 311, rfl⟩
abbrev main_while0b_call17_c : Ref sig .tc := ⟨.hbm, 312, rfl⟩
abbrev main_while0b_call17_c_0 : Ref sig .tc := ⟨.hbm, 313, rfl⟩
abbrev main_while0b_call17_c_1 : Ref sig .tc := ⟨.hbm, 314, rfl⟩
abbrev main_while0b_v171 : Ref sig .tc := ⟨.hbm, 315, rfl⟩
abbrev main_while0b_call18_v0 : Ref sig .tc := ⟨.hbm, 316, rfl⟩
abbrev main_while0b_call18_c : Ref sig .tc := ⟨.hbm, 317, rfl⟩
abbrev main_while0b_call18_c_0 : Ref sig .tc := ⟨.hbm, 318, rfl⟩
abbrev main_while0b_call18_c_1 : Ref sig .tc := ⟨.hbm, 319, rfl⟩
abbrev main_while0b_v172 : Ref sig .tc := ⟨.hbm, 320, rfl⟩
abbrev main_while0b_call19_v0 : Ref sig .tc := ⟨.hbm, 321, rfl⟩
abbrev main_while0b_call19_c : Ref sig .tc := ⟨.hbm, 322, rfl⟩
abbrev main_while0b_call19_c_0 : Ref sig .tc := ⟨.hbm, 323, rfl⟩
abbrev main_while0b_call19_c_1 : Ref sig .tc := ⟨.hbm, 324, rfl⟩
abbrev main_while0b_v173 : Ref sig .tc := ⟨.hbm, 325, rfl⟩
abbrev main_while0b_call20_v0 : Ref sig .tc := ⟨.hbm, 326, rfl⟩
abbrev main_while0b_call20_c : Ref sig .tc := ⟨.hbm, 327, rfl⟩
abbrev main_while0b_call20_c_0 : Ref sig .tc := ⟨.hbm, 328, rfl⟩
abbrev main_while0b_v174 : Ref sig .tc := ⟨.hbm, 329, rfl⟩
abbrev main_while0b_c_45 : Ref sig .tc := ⟨.hbm, 330, rfl⟩
abbrev main_while0b_v175 : Ref sig .tc := ⟨.hbm, 331, rfl⟩
abbrev main_v39 : Ref sig .tc := ⟨.hbm, 332, rfl⟩
abbrev main_v40 : Ref sig .tc := ⟨.hbm, 333, rfl⟩
abbrev main_v41 : Ref sig .tc := ⟨.hbm, 334, rfl⟩
abbrev main_v42 : Ref sig .tc := ⟨.hbm, 335, rfl⟩
abbrev main_v43 : Ref sig .tc := ⟨.hbm, 336, rfl⟩
abbrev main_v44 : Ref sig .tc := ⟨.hbm, 337, rfl⟩
abbrev main_v45 : Ref sig .tc := ⟨.hbm, 338, rfl⟩
abbrev main_v46 : Ref sig .tc := ⟨.hbm, 339, rfl⟩
abbrev main_v47 : Ref sig .tc := ⟨.hbm, 340, rfl⟩
abbrev main_v48 : Ref sig .tc := ⟨.hbm, 341, rfl⟩
abbrev main_cst_7 : Ref sig .tc := ⟨.hbm, 342, rfl⟩
abbrev main_v49 : Ref sig .tc := ⟨.hbm, 343, rfl⟩
abbrev main_v50 : Ref sig .tc := ⟨.hbm, 344, rfl⟩
abbrev main_v51 : Ref sig .tc := ⟨.hbm, 345, rfl⟩
abbrev main_cst_8 : Ref sig .tc := ⟨.hbm, 346, rfl⟩
abbrev main_v52 : Ref sig .tc := ⟨.hbm, 347, rfl⟩
abbrev main_v53 : Ref sig .tc := ⟨.hbm, 348, rfl⟩
abbrev main_v54 : Ref sig .tc := ⟨.hbm, 349, rfl⟩
abbrev main_v55 : Ref sig .tc := ⟨.hbm, 350, rfl⟩
abbrev main_v56 : Ref sig .tc := ⟨.hbm, 351, rfl⟩
abbrev main_v57 : Ref sig .tc := ⟨.hbm, 352, rfl⟩
abbrev main_v58 : Ref sig .tc := ⟨.hbm, 353, rfl⟩
abbrev main_v59 : Ref sig .tc := ⟨.hbm, 354, rfl⟩
abbrev main_v60 : Ref sig .tc := ⟨.hbm, 355, rfl⟩
abbrev main_v61 : Ref sig .tc := ⟨.hbm, 356, rfl⟩

abbrev nD : Nat := 1
abbrev τ : Topo := Topo.v7x

variable {F : FTy → Type} [FloatOps F]

abbrev main_while0_count : Scf.Loop 32 := ⟨0#32, 64#32, 1#32⟩
-- ==== NormIn.lean ====
abbrev S4096x8320 : Shape := ⟨2, ![4096, 8320]⟩
abbrev S1024x8320 : Shape := ⟨2, ![1024, 8320]⟩
abbrev S4096x1024 : Shape := ⟨2, ![4096, 1024]⟩
abbrev S1x1024 : Shape := ⟨2, ![1, 1024]⟩
abbrev S8x1024 : Shape := ⟨2, ![8, 1024]⟩
abbrev S1024x1664 : Shape := ⟨2, ![1024, 1664]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S4096x8320, .bf16⟩
  | .hbm, ⟨1, _⟩ => ⟨S1024x8320, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S8x1024, .f32⟩
  | .local _ .vmem, ⟨0, _⟩ => ⟨S1024x1664, .bf16⟩
  | .local _ .vmem, ⟨1, _⟩ => ⟨S1024x1664, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S8x1024, .f32⟩
  | .local _ .vmem, ⟨14, _⟩ => ⟨S1024x1024, .f32⟩
  | _, _ => ⟨S4096x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![4, 5], ![false, false]⟩

def k0_cond3 (i : grid0.Coords) : BitVec 1 :=
  let arg1 : BitVec 32 := BitVec.ofNat 32 (i 1).val
  let c4_i32_6 : BitVec 32 := 4#32
  let v11 : BitVec 1 := Scalar.cmpi .eq arg1 c4_i32_6
  let v12 : BitVec 32 := Scalar.extui v11
  let c0_i32_7 : BitVec 32 := 0#32
  let v13 : BitVec 1 := Scalar.cmpi .ne v12 c0_i32_7
  v13

def k0_cond4 (i : grid0.Coords) : BitVec 1 :=
  let arg0 : BitVec 32 := BitVec.ofNat 32 (i 0).val
  let c0_i32_26 : BitVec 32 := 0#32
  let v50 : BitVec 1 := Scalar.cmpi .eq arg0 c0_i32_26
  let v51 : BitVec 32 := Scalar.extui v50
  let c0_i32_27 : BitVec 32 := 0#32
  let v52 : BitVec 1 := Scalar.cmpi .ne v51 c0_i32_27
  v52

def k0_cond5 (i : grid0.Coords) : BitVec 1 :=
  let arg0 : BitVec 32 := BitVec.ofNat 32 (i 0).val
  let c0_i32_28 : BitVec 32 := 0#32
  let v53 : BitVec 1 := Scalar.cmpi .sgt arg0 c0_i32_28
  let v54 : BitVec 32 := Scalar.extui v53
  let c0_i32_29 : BitVec 32 := 0#32
  let v55 : BitVec 1 := Scalar.cmpi .ne v54 c0_i32_29
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== NormInReferenceIdeal.lean ====
abbrev S4096x8320 : Shape := ⟨2, ![4096, 8320]⟩
abbrev S1024x8320 : Shape := ⟨2, ![1024, 8320]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x1024 : Shape := ⟨2, ![8, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x8320, .bf16⟩
  | .hbm, ⟨1, _⟩ => ⟨S1024x8320, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x8320, .f32⟩
  | .hbm, ⟨25, _⟩ => ⟨S4096x8320, .f32⟩
  | .hbm, ⟨26, _⟩ => ⟨S4096x8320, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | .hbm, ⟨53, _⟩ => ⟨S8x1024, .f32⟩
  | _, _ => ⟨S4096x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== NormGu.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S8x1024 : Shape := ⟨2, ![8, 1024]⟩
abbrev S1024x1408 : Shape := ⟨2, ![1024, 1408]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S8x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S8x1024, .f32⟩
  | .local _ .vmem, ⟨14, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32_6 : BitVec 32 := 3#32
  let v11 : BitVec 1 := Scalar.cmpi .eq arg1 c3_i32_6
  let v12 : BitVec 32 := Scalar.extui v11
  let c0_i32_7 : BitVec 32 := 0#32
  let v13 : BitVec 1 := Scalar.cmpi .ne v12 c0_i32_7
  v13

def k0_cond4 (i : grid0.Coords) : BitVec 1 :=
  let arg0 : BitVec 32 := BitVec.ofNat 32 (i 0).val
  let c0_i32_26 : BitVec 32 := 0#32
  let v50 : BitVec 1 := Scalar.cmpi .eq arg0 c0_i32_26
  let v51 : BitVec 32 := Scalar.extui v50
  let c0_i32_27 : BitVec 32 := 0#32
  let v52 : BitVec 1 := Scalar.cmpi .ne v51 c0_i32_27
  v52

def k0_cond5 (i : grid0.Coords) : BitVec 1 :=
  let arg0 : BitVec 32 := BitVec.ofNat 32 (i 0).val
  let c0_i32_28 : BitVec 32 := 0#32
  let v53 : BitVec 1 := Scalar.cmpi .sgt arg0 c0_i32_28
  let v54 : BitVec 32 := Scalar.extui v53
  let c0_i32_29 : BitVec 32 := 0#32
  let v55 : BitVec 1 := Scalar.cmpi .ne v54 c0_i32_29
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== NormGuReferenceIdeal.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x1024 : Shape := ⟨2, ![8, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x5632, .f32⟩
  | .hbm, ⟨25, _⟩ => ⟨S4096x5632, .f32⟩
  | .hbm, ⟨26, _⟩ => ⟨S4096x5632, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | .hbm, ⟨53, _⟩ => ⟨S8x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== WIn.lean ====
abbrev S4096x1024 : Shape := ⟨2, ![4096, 1024]⟩
abbrev S4096x8320 : Shape := ⟨2, ![4096, 8320]⟩
abbrev S1024x8320 : Shape := ⟨2, ![1024, 8320]⟩
abbrev S1024x1024 : Shape := ⟨2, ![1024, 1024]⟩
abbrev S1024x1664 : Shape := ⟨2, ![1024, 1664]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x8320, .bf16⟩
  | .hbm, ⟨2, _⟩ => ⟨S1024x8320, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1664, .bf16⟩
  | .local _ .vmem, ⟨5, _⟩ => ⟨S1024x1664, .bf16⟩
  | .local _ .vmem, ⟨6, _⟩ => ⟨S1024x1664, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInReferenceIdeal.lean ====
abbrev S4096x1024 : Shape := ⟨2, ![4096, 1024]⟩
abbrev S4096x8320 : Shape := ⟨2, ![4096, 8320]⟩
abbrev S_ : Shape := ⟨0, ![]⟩
abbrev S1024x8320 : Shape := ⟨2, ![1024, 8320]⟩
abbrev S8320x1024 : Shape := ⟨2, ![8320, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x8320, .bf16⟩
  | .hbm, ⟨2, _⟩ => ⟨S_, .f32⟩
  | .hbm, ⟨3, _⟩ => ⟨S1024x8320, .f32⟩
  | .hbm, ⟨4, _⟩ => ⟨S4096x1024, .f32⟩
  | .hbm, ⟨5, _⟩ => ⟨S4096x8320, .f32⟩
  | .hbm, ⟨6, _⟩ => ⟨S4096x8320, .f32⟩
  | .hbm, ⟨7, _⟩ => ⟨S8320x1024, .f32⟩
  | .hbm, ⟨8, _⟩ => ⟨S1024x8320, .f32⟩
  | .hbm, ⟨9, _⟩ => ⟨S1024x8320, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WGu.lean ====
abbrev S4096x1024 : Shape := ⟨2, ![4096, 1024]⟩
abbrev S4096x5632 : Shape := ⟨2, ![4096, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WGuReferenceIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WDown.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WDownReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Hid.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HidReferenceIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proj.lean ====
abbrev S4096x1024 : Shape := ⟨2, ![4096, 1024]⟩
abbrev S1024x8320 : Shape := ⟨2, ![1024, 8320]⟩
abbrev S4096x8320 : Shape := ⟨2, ![4096, 8320]⟩
abbrev S1024x1024 : Shape := ⟨2, ![1024, 1024]⟩
abbrev S1024x1664 : Shape := ⟨2, ![1024, 1664]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x8320, .bf16⟩
  | .hbm, ⟨2, _⟩ => ⟨S4096x8320, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1664, .bf16⟩
  | .local _ .vmem, ⟨5, _⟩ => ⟨S1024x1664, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjReferenceIdeal.lean ====
abbrev S4096x1024 : Shape := ⟨2, ![4096, 1024]⟩
abbrev S1024x8320 : Shape := ⟨2, ![1024, 8320]⟩
abbrev S4096x8320 : Shape := ⟨2, ![4096, 8320]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x8320, .bf16⟩
  | .hbm, ⟨2, _⟩ => ⟨S4096x1024, .f32⟩
  | .hbm, ⟨3, _⟩ => ⟨S1024x8320, .f32⟩
  | .hbm, ⟨4, _⟩ => ⟨S4096x8320, .f32⟩
  | .hbm, ⟨5, _⟩ => ⟨S4096x8320, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Gu.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuReferenceIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Ya.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== YaReferenceIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Dmix.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmixReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Wo.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WoReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SumDev.lean ====
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x32x1024, .f32⟩
  | .hbm, ⟨1, _⟩ => ⟨S32x1024, .f32⟩
  | .local _ .vmem, ⟨0, _⟩ => ⟨S8x32x1024, .f32⟩
  | .local _ .vmem, ⟨1, _⟩ => ⟨S32x1024, .f32⟩
  | _, _ => ⟨S8x32x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumDevReferenceIdeal.lean ====
abbrev S8x32x1024 : Shape := ⟨3, ![8, 32, 1024]⟩
abbrev S_ : Shape := ⟨0, ![]⟩
abbrev S32x1024 : Shape := ⟨2, ![32, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S_, .f32⟩
  | .hbm, ⟨2, _⟩ => ⟨S32x1024, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamNorm.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormIdeal.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormReferenceIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFgB.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFgBIdeal.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFgBReferenceIdeal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGla.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGlaIdeal.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGlaReferenceIdeal.lean ====
abbrev S2x256 : Shape := ⟨2, ![2, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S_, .f32⟩
  | .hbm, ⟨5, _⟩ => ⟨S2x256, .f32⟩
  | .hbm, ⟨6, _⟩ => ⟨S2x256, .f32⟩
  | .hbm, ⟨7, _⟩ => ⟨S_, .f32⟩
  | .hbm, ⟨8, _⟩ => ⟨S2x256, .f32⟩
  | .hbm, ⟨9, _⟩ => ⟨S2x256, .f32⟩
  | .hbm, ⟨10, _⟩ => ⟨S2x256, .f32⟩
  | .hbm, ⟨11, _⟩ => ⟨S_, .f32⟩
  | .hbm, ⟨12, _⟩ => ⟨S2x256, .f32⟩
  | .hbm, ⟨13, _⟩ => ⟨S2x256, .f32⟩
  | .hbm, ⟨14, _⟩ => ⟨S2x256, .f32⟩
  | .hbm, ⟨15, _⟩ => ⟨S_, .f32⟩
  | .hbm, ⟨16, _⟩ => ⟨S2x256, .f32⟩
  | .hbm, ⟨17, _⟩ => ⟨S2x256, .f32⟩
  | .hbm, ⟨18, _⟩ => ⟨S2x256, .f32⟩
  | .hbm, ⟨19, _⟩ => ⟨S_, .f32⟩
  | .hbm, ⟨20, _⟩ => ⟨S2x256, .f32⟩
  | .hbm, ⟨21, _⟩ => ⟨S2x256, .f32⟩
  | .hbm, ⟨22, _⟩ => ⟨S_, .f32⟩
  | .hbm, ⟨23, _⟩ => ⟨S2x256, .f32⟩
  | .hbm, ⟨24, _⟩ => ⟨S2x256, .f32⟩
  | .hbm, ⟨25, _⟩ => ⟨S2x256, .f32⟩
  | .hbm, ⟨26, _⟩ => ⟨S_, .f32⟩
  | .hbm, ⟨27, _⟩ => ⟨S2x256, .f32⟩
  | .hbm, ⟨28, _⟩ => ⟨S2x256, .f32⟩
  | .hbm, ⟨29, _⟩ => ⟨S2x256, .f32⟩
  | .hbm, ⟨30, _⟩ => ⟨S_, .f32⟩
  | .hbm, ⟨31, _⟩ => ⟨S2x256, .f32⟩
  | .hbm, ⟨32, _⟩ => ⟨S2x256, .f32⟩
  | .hbm, ⟨33, _⟩ => ⟨S2x256, .f32⟩
  | .hbm, ⟨34, _⟩ => ⟨S_, .f32⟩
  | .hbm, ⟨35, _⟩ => ⟨S2x256, .f32⟩
  | .hbm, ⟨36, _⟩ => ⟨S2x256, .f32⟩
  | _, _ => ⟨S2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFinal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFinalIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFinalReferenceIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSquare.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSquareIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSquareReferenceIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownReferenceIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFg.lean ====
abbrev S32x64 : Shape := ⟨2, ![32, 64]⟩

abbrev nBuf : Space → Nat
  | .hbm => 7
  | .vmem => 7
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x64, .f32⟩
  | .hbm, ⟨3, _⟩ => ⟨S32x64, .f32⟩
  | .hbm, ⟨4, _⟩ => ⟨S32x64, .f32⟩
  | .hbm, ⟨5, _⟩ => ⟨S32x64, .f32⟩
  | .hbm, ⟨6, _⟩ => ⟨S32x64, .f32⟩
  | .local _ .vmem, ⟨0, _⟩ => ⟨S32x64, .f32⟩
  | .local _ .vmem, ⟨1, _⟩ => ⟨S32x64, .f32⟩
  | .local _ .vmem, ⟨2, _⟩ => ⟨S32x64, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFgIdeal.lean ====
abbrev S32x64 : Shape := ⟨2, ![32, 64]⟩

abbrev nBuf : Space → Nat
  | .hbm => 7
  | .vmem => 7
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x64, .f32⟩
  | .hbm, ⟨3, _⟩ => ⟨S32x64, .f32⟩
  | .hbm, ⟨4, _⟩ => ⟨S32x64, .f32⟩
  | .hbm, ⟨5, _⟩ => ⟨S32x64, .f32⟩
  | .hbm, ⟨6, _⟩ => ⟨S32x64, .f32⟩
  | .local _ .vmem, ⟨0, _⟩ => ⟨S32x64, .f32⟩
  | .local _ .vmem, ⟨1, _⟩ => ⟨S32x64, .f32⟩
  | .local _ .vmem, ⟨2, _⟩ => ⟨S32x64, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFgReferenceIdeal.lean ====
abbrev S32x64 : Shape := ⟨2, ![32, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x64, .f32⟩
  | .hbm, ⟨3, _⟩ => ⟨S32x64, .f32⟩
  | .hbm, ⟨4, _⟩ => ⟨S_, .f32⟩
  | .hbm, ⟨5, _⟩ => ⟨S32x64, .f32⟩
  | .hbm, ⟨6, _⟩ => ⟨S32x64, .f32⟩
  | .hbm, ⟨7, _⟩ => ⟨S_, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S_, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S_, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S_, .f32⟩
  | .hbm, ⟨20, _⟩ => ⟨S32x64, .f32⟩
  | .hbm, ⟨21, _⟩ => ⟨S32x64, .f32⟩
  | .hbm, ⟨22, _⟩ => ⟨S_, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S_, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S_, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S_, .f32⟩
  | .hbm, ⟨35, _⟩ => ⟨S32x64, .f32⟩
  | .hbm, ⟨36, _⟩ => ⟨S32x64, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S6x128 : Shape := ⟨2, ![6, 128]⟩

abbrev nBuf : Space → Nat
  | .hbm => 7
  | .vmem => 7
  | .smem => 0
  | _ => 0

abbrev bufTy : (tb : Table) → Fin (tcTables nBuf tb) → BufTy
  | .hbm, ⟨0, _⟩ => ⟨S6x128, .f32⟩
  | .hbm, ⟨1, _⟩ => ⟨S6x128, .f32⟩
  | .hbm, ⟨2, _⟩ => ⟨S6x128, .f32⟩
  | .hbm, ⟨3, _⟩ => ⟨S6x128, .f32⟩
  | .hbm, ⟨4, _⟩ => ⟨S6x128, .f32⟩
  | .hbm, ⟨5, _⟩ => ⟨S6x128, .f32⟩
  | .hbm, ⟨6, _⟩ => ⟨S6x128, .f32⟩
  | .local _ .vmem, ⟨0, _⟩ => ⟨S6x128, .f32⟩
  | .local _ .vmem, ⟨1, _⟩ => ⟨S6x128, .f32⟩
  | .local _ .vmem, ⟨2, _⟩ => ⟨S6x128, .f32⟩
  | .local _ .vmem, ⟨3, _⟩ => ⟨S6x128, .f32⟩
  | .local _ .vmem, ⟨4, _⟩ => ⟨S6x128, .f32⟩
  | .local _ .vmem, ⟨5, _⟩ => ⟨S6x128, .f32⟩
  | .local _ .vmem, ⟨6, _⟩ => ⟨S6x128, .f32⟩
  | _, _ => ⟨S6x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvReferenceIdeal.lean ====
abbrev S6x128 : Shape := ⟨2, ![6, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S6x128, .f32⟩
  | .hbm, ⟨1, _⟩ => ⟨S6x128, .f32⟩
  | .hbm, ⟨2, _⟩ => ⟨S6x128, .f32⟩
  | .hbm, ⟨3, _⟩ => ⟨S6x128, .f32⟩
  | .hbm, ⟨4, _⟩ => ⟨S_, .f32⟩
  | .hbm, ⟨5, _⟩ => ⟨S6x128, .f32⟩
  | .hbm, ⟨6, _⟩ => ⟨S6x128, .f32⟩
  | .hbm, ⟨7, _⟩ => ⟨S_, .f32⟩
  | .hbm, ⟨8, _⟩ => ⟨S6x128, .f32⟩
  | .hbm, ⟨9, _⟩ => ⟨S6x128, .f32⟩
  | .hbm, ⟨10, _⟩ => ⟨S6x128, .f32⟩
  | .hbm, ⟨11, _⟩ => ⟨S_, .f32⟩
  | .hbm, ⟨12, _⟩ => ⟨S6x128, .f32⟩
  | .hbm, ⟨13, _⟩ => ⟨S6x128, .f32⟩
  | .hbm, ⟨14, _⟩ => ⟨S6x128, .f32⟩
  | .hbm, ⟨15, _⟩ => ⟨S_, .f32⟩
  | .hbm, ⟨16, _⟩ => ⟨S6x128, .f32⟩
  | .hbm, ⟨17, _⟩ => ⟨S6x128, .f32⟩
  | .hbm, ⟨18, _⟩ => ⟨S6x128, .f32⟩
  | .hbm, ⟨19, _⟩ => ⟨S_, .f32⟩
  | .hbm, ⟨20, _⟩ => ⟨S6x128, .f32⟩
  | .hbm, ⟨21, _⟩ => ⟨S6x128, .f32⟩
  | .hbm, ⟨22, _⟩ => ⟨S_, .f32⟩
  | .hbm, ⟨23, _⟩ => ⟨S6x128, .f32⟩
  | .hbm, ⟨24, _⟩ => ⟨S6x128, .f32⟩
  | .hbm, ⟨25, _⟩ => ⟨S6x128, .f32⟩
  | .hbm, ⟨26, _⟩ => ⟨S_, .f32⟩
  | .hbm, ⟨27, _⟩ => ⟨S6x128, .f32⟩
  | .hbm, ⟨28, _⟩ => ⟨S6x128, .f32⟩
  | .hbm, ⟨29, _⟩ => ⟨S6x128, .f32⟩
  | .hbm, ⟨30, _⟩ => ⟨S_, .f32⟩
  | .hbm, ⟨31, _⟩ => ⟨S6x128, .f32⟩
  | .hbm, ⟨32, _⟩ => ⟨S6x128, .f32⟩
  | .hbm, ⟨33, _⟩ => ⟨S6x128, .f32⟩
  | .hbm, ⟨34, _⟩ => ⟨S_, .f32⟩
  | .hbm, ⟨35, _⟩ => ⟨S6x128, .f32⟩
  | .hbm, ⟨36, _⟩ => ⟨S6x128, .f32⟩
  | _, _ => ⟨S6x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ChipSum.lean ====
abbrev S1 : Shape := ⟨1, ![1]⟩
abbrev S4x752x1024 : Shape := ⟨3, ![4, 752, 1024]⟩
abbrev S3x752x1024 : Shape := ⟨3, ![3, 752, 1024]⟩
abbrev S752x1024 : Shape := ⟨2, ![752, 1024]⟩
abbrev S1x752x1024 : Shape := ⟨3, ![1, 752, 1024]⟩

abbrev nBuf : Space → Nat
  | .hbm => 3
  | .vmem => 3
  | .smem => 1
  | _ => 0

abbrev bufTy : (tb : Table) → Fin (tcTables nBuf tb) → BufTy
  | .hbm, ⟨0, _⟩ => ⟨S4x752x1024, .bf16⟩
  | .hbm, ⟨1, _⟩ => ⟨S3x752x1024, .bf16⟩
  | .hbm, ⟨2, _⟩ => ⟨S752x1024, .f32⟩
  | .local _ .vmem, ⟨0, _⟩ => ⟨S1x752x1024, .bf16⟩
  | .local _ .vmem, ⟨1, _⟩ => ⟨S3x752x1024, .bf16⟩
  | .local _ .vmem, ⟨2, _⟩ => ⟨S752x1024, .f32⟩
  | .local _ .smem, ⟨0, _⟩ => ⟨S1, .i32⟩
  | _, _ => ⟨S4x752x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x752x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x752x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S752x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ChipSumReferenceIdeal.lean ====
abbrev S1 : Shape := ⟨1, ![1]⟩
abbrev S4x752x1024 : Shape := ⟨3, ![4, 752, 1024]⟩
abbrev S3x752x1024 : Shape := ⟨3, ![3, 752, 1024]⟩
abbrev S4 : Shape := ⟨1, ![4]⟩
abbrev S4x1x1 : Shape := ⟨3, ![4, 1, 1]⟩
abbrev S_ : Shape := ⟨0, ![]⟩
abbrev S752x1024 : Shape := ⟨2, ![752, 1024]⟩

abbrev nBuf : Space → Nat
  | .hbm => 20
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x752x1024, .bf16⟩
  | .hbm, ⟨2, _⟩ => ⟨S3x752x1024, .bf16⟩
  | .hbm, ⟨3, _⟩ => ⟨S4, .i32⟩
  | .hbm, ⟨4, _⟩ => ⟨S4x1x1, .i32⟩
  | .hbm, ⟨5, _⟩ => ⟨S_, .i32⟩
  | .hbm, ⟨6, _⟩ => ⟨S4x1x1, .i32⟩
  | .hbm, ⟨7, _⟩ => ⟨S4x1x1, .i1⟩
  | .hbm, ⟨8, _⟩ => ⟨S4x752x1024, .f32⟩
  | .hbm, ⟨9, _⟩ => ⟨S_, .f32⟩
  | .hbm, ⟨10, _⟩ => ⟨S_, .f32⟩
  | .hbm, ⟨11, _⟩ => ⟨S4x752x1024, .i1⟩
  | .hbm, ⟨12, _⟩ => ⟨S4x752x1024, .f32⟩
  | .hbm, ⟨13, _⟩ => ⟨S4x752x1024, .f32⟩
  | .hbm, ⟨14, _⟩ => ⟨S_, .f32⟩
  | .hbm, ⟨15, _⟩ => ⟨S752x1024, .f32⟩
  | .hbm, ⟨16, _⟩ => ⟨S3x752x1024, .f32⟩
  | .hbm, ⟨17, _⟩ => ⟨S_, .f32⟩
  | .hbm, ⟨18, _⟩ => ⟨S752x1024, .f32⟩
  | .hbm, ⟨19, _⟩ => ⟨S752x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]
-- ==== FinalGu.lean ====
abbrev S8 : Shape := ⟨1, ![8]⟩
abbrev S1 : Shape := ⟨1, ![1]⟩
abbrev S4x1024x1024 : Shape := ⟨3, ![4, 1024, 1024]⟩
abbrev S3x1024x1024 : Shape := ⟨3, ![3, 1024, 1024]⟩
abbrev S2x1024x352 : Shape := ⟨3, ![2, 1024, 352]⟩
abbrev S1x128x1024 : Shape := ⟨3, ![1, 128, 1024]⟩
abbrev S3x128x1024 : Shape := ⟨3, ![3, 128, 1024]⟩
abbrev S1x128x352 : Shape := ⟨3, ![1, 128, 352]⟩
abbrev S1x128 : Shape := ⟨2, ![1, 128]⟩
abbrev S1x128x128 : Shape := ⟨3, ![1, 128, 128]⟩
abbrev S128x128 : Shape := ⟨2, ![128, 128]⟩
abbrev S128x96 : Shape := ⟨2, ![128, 96]⟩
abbrev S1x128x96 : Shape := ⟨3, ![1, 128, 96]⟩

abbrev nBuf : Space → Nat
  | .hbm => 24
  | .vmem => 32
  | .smem => 2
  | _ => 0

abbrev bufTy : (tb : Table) → Fin (tcTables nBuf tb) → BufTy
  | .hbm, ⟨0, _⟩ => ⟨S4x1024x1024, .bf16⟩
  | .hbm, ⟨1, _⟩ => ⟨S3x1024x1024, .bf16⟩
  | .hbm, ⟨2, _⟩ => ⟨S2x1024x352, .f32⟩
  | .hbm, ⟨3, _⟩ => ⟨S2x1024x352, .f32⟩
  | .hbm, ⟨4, _⟩ => ⟨S2x1024x352, .f32⟩
  | .hbm, ⟨5, _⟩ => ⟨S2x1024x352, .f32⟩
  | .hbm, ⟨6, _⟩ => ⟨S2x1024x352, .f32⟩
  | .hbm, ⟨7, _⟩ => ⟨S2x1024x352, .f32⟩
  | .hbm, ⟨8, _⟩ => ⟨S2x1024x352, .f32⟩
  | .hbm, ⟨9, _⟩ => ⟨S2x1024x352, .f32⟩
  | .hbm, ⟨10, _⟩ => ⟨S2x1024x352, .f32⟩
  | .hbm, ⟨11, _⟩ => ⟨S2x1024x352, .f32⟩
  | .hbm, ⟨12, _⟩ => ⟨S2x1024x352, .f32⟩
  | .hbm, ⟨13, _⟩ => ⟨S2x1024x352, .f32⟩
  | .hbm, ⟨14, _⟩ => ⟨S2x1024x352, .f32⟩
  | .hbm, ⟨15, _⟩ => ⟨S2x1024x352, .f32⟩
  | .hbm, ⟨16, _⟩ => ⟨S2x1024x352, .f32⟩
  | .hbm, ⟨17, _⟩ => ⟨S2x1024x352, .f32⟩
  | .hbm, ⟨18, _⟩ => ⟨S2x1024x352, .f32⟩
  | .hbm, ⟨19, _⟩ => ⟨S2x1024x352, .f32⟩
  | .hbm, ⟨20, _⟩ => ⟨S2x1024x352, .f32⟩
  | .hbm, ⟨21, _⟩ => ⟨S2x1024x352, .f32⟩
  | .hbm, ⟨22, _⟩ => ⟨S2x1024x352, .f32⟩
  | .hbm, ⟨23, _⟩ => ⟨S2x1024x352, .f32⟩
  | .local _ .vmem, ⟨0, _⟩ => ⟨S1x128x1024, .bf16⟩
  | .local _ .vmem, ⟨1, _⟩ => ⟨S1x128x1024, .bf16⟩
  | .local _ .vmem, ⟨2, _⟩ => ⟨S3x128x1024, .bf16⟩
  | .local _ .vmem, ⟨3, _⟩ => ⟨S3x128x1024, .bf16⟩
  | .local _ .vmem, ⟨4, _⟩ => ⟨S1x128x352, .f32⟩
  | .local _ .vmem, ⟨5, _⟩ => ⟨S1x128x352, .f32⟩
  | .local _ .vmem, ⟨6, _⟩ => ⟨S1x128x352, .f32⟩
  | .local _ .vmem, ⟨7, _⟩ => ⟨S1x128x352, .f32⟩
  | .local _ .vmem, ⟨8, _⟩ => ⟨S1x128x352, .f32⟩
  | .local _ .vmem, ⟨9, _⟩ => ⟨S1x128x352, .f32⟩
  | .local _ .vmem, ⟨10, _⟩ => ⟨S1x128x352, .f32⟩
  | .local _ .vmem, ⟨11, _⟩ => ⟨S1x128x352, .f32⟩
  | .local _ .vmem, ⟨12, _⟩ => ⟨S1x128x352, .f32⟩
  | .local _ .vmem, ⟨13, _⟩ => ⟨S1x128x352, .f32⟩
  | .local _ .vmem, ⟨14, _⟩ => ⟨S1x128x352, .f32⟩
  | .local _ .vmem, ⟨15, _⟩ => ⟨S1x128x352, .f32⟩
  | .local _ .vmem, ⟨16, _⟩ => ⟨S1x128x352, .f32⟩
  | .local _ .vmem, ⟨17, _⟩ => ⟨S1x128x352, .f32⟩
  | .local _ .vmem, ⟨18, _⟩ => ⟨S1x128x352, .f32⟩
  | .local _ .vmem, ⟨19, _⟩ => ⟨S1x128x352, .f32⟩
  | .local _ .vmem, ⟨20, _⟩ => ⟨S1x128x352, .f32⟩
  | .local _ .vmem, ⟨21, _⟩ => ⟨S1x128x352, .f32⟩
  | .local _ .vmem, ⟨22, _⟩ => ⟨S1x128x352, .f32⟩
  | .local _ .vmem, ⟨23, _⟩ => ⟨S1x128x352, .f32⟩
  | .local _ .vmem, ⟨24, _⟩ => ⟨S1x128x352, .f32⟩
  | .local _ .vmem, ⟨25, _⟩ => ⟨S1x128x352, .f32⟩
  | .local _ .vmem, ⟨26, _⟩ => ⟨S1x128x352, .f32⟩
  | .local _ .vmem, ⟨27, _⟩ => ⟨S1x128x352, .f32⟩
  | .local _ .vmem, ⟨28, _⟩ => ⟨S1x128x352, .f32⟩
  | .local _ .vmem, ⟨29, _⟩ => ⟨S1x128x352, .f32⟩
  | .local _ .vmem, ⟨30, _⟩ => ⟨S1x128x352, .f32⟩
  | .local _ .vmem, ⟨31, _⟩ => ⟨S1x128x352, .f32⟩
  | .local _ .smem, ⟨0, _⟩ => ⟨S8, .i32⟩
  | .local _ .smem, ⟨1, _⟩ => ⟨S1, .i32⟩
  | _, _ => ⟨S4x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_arg9 : Ref sig .tc := ⟨.hbm, 7, rfl⟩
abbrev main_arg10 : Ref sig .tc := ⟨.hbm, 8, rfl⟩
abbrev main_arg11 : Ref sig .tc := ⟨.hbm, 9, rfl⟩
abbrev main_arg12 : Ref sig .tc := ⟨.hbm, 10, rfl⟩
abbrev main_arg13 : Ref sig .tc := ⟨.hbm, 11, rfl⟩
abbrev main_arg14 : Ref sig .tc := ⟨.hbm, 12, rfl⟩
abbrev main_arg15 : Ref sig .tc := ⟨.hbm, 13, rfl⟩
abbrev main_arg16 : Ref sig .tc := ⟨.hbm, 14, rfl⟩
abbrev main_arg17 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![8], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x352 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x352 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x352 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x352 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x352 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128x352 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x352 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x352 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x352 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== FinalGuReferenceIdeal.lean ====
abbrev S8 : Shape := ⟨1, ![8]⟩
abbrev S1 : Shape := ⟨1, ![1]⟩
abbrev S4x1024x1024 : Shape := ⟨3, ![4, 1024, 1024]⟩
abbrev S3x1024x1024 : Shape := ⟨3, ![3, 1024, 1024]⟩
abbrev S2x1024x352 : Shape := ⟨3, ![2, 1024, 352]⟩
abbrev S4 : Shape := ⟨1, ![4]⟩
abbrev S4x1x1 : Shape := ⟨3, ![4, 1, 1]⟩
abbrev S_ : Shape := ⟨0, ![]⟩
abbrev S1024x1024 : Shape := ⟨2, ![1024, 1024]⟩
abbrev S1024 : Shape := ⟨1, ![1024]⟩
abbrev S1024x1 : Shape := ⟨2, ![1024, 1]⟩
abbrev S352 : Shape := ⟨1, ![352]⟩
abbrev S1x352 : Shape := ⟨2, ![1, 352]⟩
abbrev S1024x352 : Shape := ⟨2, ![1024, 352]⟩
abbrev S1x1024x352 : Shape := ⟨3, ![1, 1024, 352]⟩
abbrev S1024x1024x1 : Shape := ⟨3, ![1024, 1024, 1]⟩
abbrev S1024x1024x352 : Shape := ⟨3, ![1024, 1024, 352]⟩

abbrev nBuf : Space → Nat
  | .hbm => 199
  | .vmem => 0
  | .smem => 0
  | _ => 0

abbrev hbmTy0_0 (i : Nat) : BufTy := match i % 128 with
  | 0 => ⟨S8, .i32⟩
  | 1 => ⟨S1, .i32⟩
  | 2 => ⟨S4x1024x1024, .bf16⟩
  | 3 => ⟨S3x1024x1024, .bf16⟩
  | 4 => ⟨S2x1024x352, .f32⟩
  | 5 => ⟨S2x1024x352, .f32⟩
  | 6 => ⟨S2x1024x352, .f32⟩
  | 7 => ⟨S2x1024x352, .f32⟩
  | 8 => ⟨S2x1024x352, .f32⟩
  | 9 => ⟨S2x1024x352, .f32⟩
  | 10 => ⟨S2x1024x352, .f32⟩
  | 11 => ⟨S2x1024x352, .f32⟩
  | 12 => ⟨S2x1024x352, .f32⟩
  | 13 => ⟨S2x1024x352, .f32⟩
  | 14 => ⟨S2x1024x352, .f32⟩
  | 15 => ⟨S2x1024x352, .f32⟩
  | 16 => ⟨S2x1024x352, .f32⟩
  | 17 => ⟨S2x1024x352, .f32⟩
  | 18 => ⟨S4, .i32⟩
  | 19 => ⟨S4x1x1, .i32⟩
  | 20 => ⟨S_, .i32⟩
  | 21 => ⟨S4x1x1, .i32⟩
  | 22 => ⟨S4x1x1, .i1⟩
  | 23 => ⟨S4x1024x1024, .f32⟩
  | 24 => ⟨S_, .f32⟩
  | 25 => ⟨S_, .f32⟩
  | 26 => ⟨S4x1024x1024, .i1⟩
  | 27 => ⟨S4x1024x1024, .f32⟩
  | 28 => ⟨S4x1024x1024, .f32⟩
  | 29 => ⟨S_, .f32⟩
  | 30 => ⟨S1024x1024, .f32⟩
  | 31 => ⟨S3x1024x1024, .f32⟩
  | 32 => ⟨S_, .f32⟩
  | 33 => ⟨S1024x1024, .f32⟩
  | 34 => ⟨S1024x1024, .f32⟩
  | 35 => ⟨S1, .i32⟩
  | 36 => ⟨S_, .i32⟩
  | 37 => ⟨S_, .i32⟩
  | 38 => ⟨S_, .i32⟩
  | 39 => ⟨S1024, .i32⟩
  | 40 => ⟨S1024x1, .i32⟩
  | 41 => ⟨S352, .i32⟩
  | 42 => ⟨S1x352, .i32⟩
  | 43 => ⟨S1x352, .i32⟩
  | 44 => ⟨S1x352, .i32⟩
  | 45 => ⟨S1024x352, .i32⟩
  | 46 => ⟨S1024x352, .i32⟩
  | 47 => ⟨S1024x352, .i1⟩
  | 48 => ⟨S1x1024x352, .i1⟩
  | 49 => ⟨S1024x1024x1, .f32⟩
  | 50 => ⟨S_, .f32⟩
  | 51 => ⟨S_, .f32⟩
  | 52 => ⟨S1024x1024x352, .i1⟩
  | 53 => ⟨S1024x1024x352, .f32⟩
  | 54 => ⟨S1024x1024x352, .f32⟩
  | 55 => ⟨S1024x1024x352, .f32⟩
  | 56 => ⟨S_, .f32⟩
  | 57 => ⟨S1024x352, .f32⟩
  | 58 => ⟨S1x1024x352, .f32⟩
  | 59 => ⟨S1024x352, .f32⟩
  | 60 => ⟨S1x1024x352, .f32⟩
  | 61 => ⟨S1024x352, .f32⟩
  | 62 => ⟨S1x1024x352, .f32⟩
  | 63 => ⟨S1024x352, .f32⟩
  | 64 => ⟨S_, .f32⟩
  | 65 => ⟨S1024x352, .f32⟩
  | 66 => ⟨S1024x352, .f32⟩
  | 67 => ⟨S_, .f32⟩
  | 68 => ⟨S1024x352, .f32⟩
  | 69 => ⟨S1024x352, .f32⟩
  | 70 => ⟨S1024x352, .f32⟩
  | 71 => ⟨S_, .f32⟩
  | 72 => ⟨S1024x352, .f32⟩
  | 73 => ⟨S1024x352, .f32⟩
  | 74 => ⟨S1024x352, .f32⟩
  | 75 => ⟨S_, .f32⟩
  | 76 => ⟨S1024x352, .f32⟩
  | 77 => ⟨S1024x352, .f32⟩
  | 78 => ⟨S1024x352, .f32⟩
  | 79 => ⟨S_, .f32⟩
  | 80 => ⟨S1024x352, .f32⟩
  | 81 => ⟨S1024x352, .f32⟩
  | 82 => ⟨S_, .f32⟩
  | 83 => ⟨S1024x352, .f32⟩
  | 84 => ⟨S1024x352, .f32⟩
  | 85 => ⟨S1024x352, .f32⟩
  | 86 => ⟨S_, .f32⟩
  | 87 => ⟨S1024x352, .f32⟩
  | 88 => ⟨S1024x352, .f32⟩
  | 89 => ⟨S1024x352, .f32⟩
  | 90 => ⟨S_, .f32⟩
  | 91 => ⟨S1024x352, .f32⟩
  | 92 => ⟨S1024x352, .f32⟩
  | 93 => ⟨S1024x352, .f32⟩
  | 94 => ⟨S_, .f32⟩
  | 95 => ⟨S1024x352, .f32⟩
  | 96 => ⟨S1024x352, .f32⟩
  | 97 => ⟨S1x1024x352, .f32⟩
  | 98 => ⟨S1024x352, .f32⟩
  | 99 => ⟨S1x1024x352, .f32⟩
  | 100 => ⟨S1x1024x352, .f32⟩
  | 101 => ⟨S2x1024x352, .f32⟩
  | 102 => ⟨S1x1024x352, .f32⟩
  | 103 => ⟨S1024x352, .f32⟩
  | 104 => ⟨S1x1024x352, .f32⟩
  | 105 => ⟨S1x1024x352, .f32⟩
  | 106 => ⟨S2x1024x352, .f32⟩
  | 107 => ⟨S1x1024x352, .f32⟩
  | 108 => ⟨S1024x352, .f32⟩
  | 109 => ⟨S1x1024x352, .f32⟩
  | 110 => ⟨S1x1024x352, .f32⟩
  | 111 => ⟨S2x1024x352, .f32⟩
  | 112 => ⟨S1x1024x352, .f32⟩
  | 113 => ⟨S1024x352, .f32⟩
  | 114 => ⟨S1x1024x352, .f32⟩
  | 115 => ⟨S1x1024x352, .f32⟩
  | 116 => ⟨S2x1024x352, .f32⟩
  | 117 => ⟨S1, .i32⟩
  | 118 => ⟨S_, .i32⟩
  | 119 => ⟨S_, .i32⟩
  | 120 => ⟨S_, .i32⟩
  | 121 => ⟨S1024, .i32⟩
  | 122 => ⟨S1024x1, .i32⟩
  | 123 => ⟨S352, .i32⟩
  | 124 => ⟨S1x352, .i32⟩
  | 125 => ⟨S1x352, .i32⟩
  | 126 => ⟨S1x352, .i32⟩
  | 127 => ⟨S1024x352, .i32⟩
  | _ => ⟨S8, .i32⟩

abbrev hbmTy0_1 (i : Nat) : BufTy := match i % 128 with
  | 0 => ⟨S1024x352, .i32⟩
  | 1 => ⟨S1024x352, .i1⟩
  | 2 => ⟨S1x1024x352, .i1⟩
  | 3 => ⟨S1024x1024x1, .f32⟩
  | 4 => ⟨S_, .f32⟩
  | 5 => ⟨S_, .f32⟩
  | 6 => ⟨S1024x1024x352, .i1⟩
  | 7 => ⟨S1024x1024x352, .f32⟩
  | 8 => ⟨S1024x1024x352, .f32⟩
  | 9 => ⟨S1024x1024x352, .f32⟩
  | 10 => ⟨S_, .f32⟩
  | 11 => ⟨S1024x352, .f32⟩
  | 12 => ⟨S1x1024x352, .f32⟩
  | 13 => ⟨S1024x352, .f32⟩
  | 14 => ⟨S1x1024x352, .f32⟩
  | 15 => ⟨S1024x352, .f32⟩
  | 16 => ⟨S1x1024x352, .f32⟩
  | 17 => ⟨S1024x352, .f32⟩
  | 18 => ⟨S_, .f32⟩
  | 19 => ⟨S1024x352, .f32⟩
  | 20 => ⟨S1024x352, .f32⟩
  | 21 => ⟨S_, .f32⟩
  | 22 => ⟨S1024x352, .f32⟩
  | 23 => ⟨S1024x352, .f32⟩
  | 24 => ⟨S1024x352, .f32⟩
  | 25 => ⟨S_, .f32⟩
  | 26 => ⟨S1024x352, .f32⟩
  | 27 => ⟨S1024x352, .f32⟩
  | 28 => ⟨S1024x352, .f32⟩
  | 29 => ⟨S_, .f32⟩
  | 30 => ⟨S1024x352, .f32⟩
  | 31 => ⟨S1024x352, .f32⟩
  | 32 => ⟨S1024x352, .f32⟩
  | 33 => ⟨S_, .f32⟩
  | 34 => ⟨S1024x352, .f32⟩
  | 35 => ⟨S1024x352, .f32⟩
  | 36 => ⟨S_, .f32⟩
  | 37 => ⟨S1024x352, .f32⟩
  | 38 => ⟨S1024x352, .f32⟩
  | 39 => ⟨S1024x352, .f32⟩
  | 40 => ⟨S_, .f32⟩
  | 41 => ⟨S1024x352, .f32⟩
  | 42 => ⟨S1024x352, .f32⟩
  | 43 => ⟨S1024x352, .f32⟩
  | 44 => ⟨S_, .f32⟩
  | 45 => ⟨S1024x352, .f32⟩
  | 46 => ⟨S1024x352, .f32⟩
  | 47 => ⟨S1024x352, .f32⟩
  | 48 => ⟨S_, .f32⟩
  | 49 => ⟨S1024x352, .f32⟩
  | 50 => ⟨S1024x352, .f32⟩
  | 51 => ⟨S1x1024x352, .f32⟩
  | 52 => ⟨S1024x352, .f32⟩
  | 53 => ⟨S1x1024x352, .f32⟩
  | 54 => ⟨S1x1024x352, .f32⟩
  | 55 => ⟨S2x1024x352, .f32⟩
  | 56 => ⟨S1x1024x352, .f32⟩
  | 57 => ⟨S1024x352, .f32⟩
  | 58 => ⟨S1x1024x352, .f32⟩
  | 59 => ⟨S1x1024x352, .f32⟩
  | 60 => ⟨S2x1024x352, .f32⟩
  | 61 => ⟨S1x1024x352, .f32⟩
  | 62 => ⟨S1024x352, .f32⟩
  | 63 => ⟨S1x1024x352, .f32⟩
  | 64 => ⟨S1x1024x352, .f32⟩
  | 65 => ⟨S2x1024x352, .f32⟩
  | 66 => ⟨S1x1024x352, .f32⟩
  | 67 => ⟨S1024x352, .f32⟩
  | 68 => ⟨S1x1024x352, .f32⟩
  | 69 => ⟨S1x1024x352, .f32⟩
  | 70 => ⟨S2x1024x352, .f32⟩
  | _ => ⟨S8, .i32⟩

abbrev hbmTy (i : Nat) : BufTy := match i / 128 with
  | 0 => hbmTy0_0 i
  | 1 => hbmTy0_1 i
  | _ => ⟨S8, .i32⟩

abbrev bufTy : (tb : Table) → Fin (tcTables nBuf tb) → BufTy
  | .hbm, ⟨i, _⟩ => hbmTy i
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v6 : Ref sig .tc := ⟨.hbm, 28, rfl⟩
abbrev main_cst_0 : Ref sig .tc := ⟨.hbm, 29, rfl⟩
abbrev main_v7 : Ref sig .tc := ⟨.hbm, 30, rfl⟩
abbrev main_v8 : Ref sig .tc := ⟨.hbm, 31, rfl⟩
abbrev main_cst_1 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_c : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_2 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_v25 : Ref sig .tc := ⟨.hbm, 55, rfl⟩
abbrev main_cst_3 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_4 : Ref sig .tc := ⟨.hbm, 64, rfl⟩
abbrev main_v33 : Ref sig .tc := ⟨.hbm, 65, rfl⟩
abbrev main_v34 : Ref sig .tc := ⟨.hbm, 66, rfl⟩
abbrev main_cst_5 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_6 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_7 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_8 : Ref sig .tc := ⟨.hbm, 79, rfl⟩
abbrev main_v44 : Ref sig .tc := ⟨.hbm, 80, rfl⟩
abbrev main_v45 : Ref sig .tc := ⟨.hbm, 81, rfl⟩
abbrev main_cst_9 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_10 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_11 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_12 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_13 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_14 : Ref sig .tc := ⟨.hbm, 132, rfl⟩
abbrev main_call2_v0 : Ref sig .tc := ⟨.hbm, 133, rfl⟩
abbrev main_call2_v1 : Ref sig .tc := ⟨.hbm, 134, rfl⟩
abbrev main_call2_v2 : Ref sig .tc := ⟨.hbm, 135, rfl⟩
abbrev main_call2_v3 : Ref sig .tc := ⟨.hbm, 136, rfl⟩
abbrev main_v91 : Ref sig .tc := ⟨.hbm, 137, rfl⟩
abbrev main_cst_15 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_cst_16 : Ref sig .tc := ⟨.hbm, 146, rfl⟩
abbrev main_v99 : Ref sig .tc := ⟨.hbm, 147, rfl⟩
abbrev main_v100 : Ref sig .tc := ⟨.hbm, 148, rfl⟩
abbrev main_cst_17 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_cst_18 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_cst_19 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_cst_20 : Ref sig .tc := ⟨.hbm, 161, rfl⟩
abbrev main_v110 : Ref sig .tc := ⟨.hbm, 162, rfl⟩
abbrev main_v111 : Ref sig .tc := ⟨.hbm, 163, rfl⟩
abbrev main_cst_21 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_cst_22 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_cst_23 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_cst_24 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩

abbrev nD : Nat := 1
abbrev τ : Topo := Topo.v7x

variable {F : FTy → Type} [FloatOps F]
-- ==== Proof.Spec.lean ====
module

public import Idealize.ShloMosaic.Lib.Pointwise

@[expose] public section

/-! The gradient of one chunk of the gated linear recurrence over the real numbers, and the recurrence of the state's gradient from the last
chunk to the first. Both programs are shown to compute these functions. -/

noncomputable section

namespace Cert.Gla

open Idealize.ShloMosaic

/-- The reals that three constants of the programs stand for. -/
def eps : ℝ := (Ideal.ofBits .f32 0x358637BD#32).toReal
def scale : ℝ := (Ideal.ofBits .f32 0x3DB504F3#32).toReal

def sg (x : ℝ) : ℝ := 1 / (1 + Real.exp (-x))

/-- The numbers that one chunk of one head reads: the queries, keys, values, the output gate's and the decay gate's arguments, the recurrence's
output `o`, the gradient `y` of the gated output, the norm's weights, the states before and after the chunk. -/
structure Chunk where
  q : Fin 64 → Fin 128 → ℝ
  k : Fin 64 → Fin 128 → ℝ
  fg : Fin 64 → Fin 128 → ℝ
  v : Fin 64 → Fin 256 → ℝ
  r : Fin 64 → Fin 256 → ℝ
  o : Fin 64 → Fin 256 → ℝ
  y : Fin 64 → Fin 256 → ℝ
  g : Fin 256 → ℝ
  sb : Fin 128 → Fin 256 → ℝ
  sa : Fin 128 → Fin 256 → ℝ

namespace Chunk

variable (C : Chunk)

/-- The norm: the inverse root mean square of a row of `o`, and the normalised row. -/
def rstd (l : Fin 64) : ℝ := (Real.sqrt ((∑ v, C.o l v * C.o l v) / 256 + eps))⁻¹
def ohat (l : Fin 64) (v : Fin 256) : ℝ := C.o l v * C.rstd l
/-- The gradient of the output gate's argument. -/
def dr (l : Fin 64) (v : Fin 256) : ℝ :=
  C.y l v * C.ohat l v * C.g v * (sg (C.r l v) * (1 + C.r l v * (1 - sg (C.r l v))))
def don (l : Fin 64) (v : Fin 256) : ℝ := C.y l v * (C.r l v * sg (C.r l v))
/-- The summands of the gradient of the norm's weights. -/
def dgt (l : Fin 64) (v : Fin 256) : ℝ := C.don l v * C.ohat l v
def dohat (l : Fin 64) (v : Fin 256) : ℝ := C.don l v * C.g v
/-- The gradient of the recurrence's output. -/
def dO (l : Fin 64) (v : Fin 256) : ℝ :=
  C.rstd l * (C.dohat l v - C.ohat l v * ((∑ w, C.dohat l w * C.ohat l w) / 256))

/-- The logarithm of the decay, its sum from the chunk's start, and the decays to the chunk's end. -/
def la (l : Fin 64) (k : Fin 128) : ℝ := (min (C.fg l k) 0 - Real.log (1 + Real.exp (-|C.fg l k|))) * (1 / 16)
def cum (l : Fin 64) (k : Fin 128) : ℝ := ∑ i ∈ Finset.Iic l, C.la i k
def dec (l : Fin 64) (k : Fin 128) : ℝ := Real.exp (C.cum 63 k - C.cum l k)
def gam (k : Fin 128) : ℝ := Real.exp (C.cum 63 k)
def kd (l : Fin 64) (k : Fin 128) : ℝ := C.k l k * C.dec l k
def qs (l : Fin 64) (k : Fin 128) : ℝ := C.q l k * scale

/-- The gradient of the queries. -/
def dq (l : Fin 64) (k : Fin 128) : ℝ := (∑ v, C.dO l v * C.sa k v) * scale

variable (B : Fin 128 → Fin 256 → ℝ)

/-- The gradient of the state after the chunk, from `B`, what the later chunks give it; and what the chunk gives the state before it. -/
def G (k : Fin 128) (v : Fin 256) : ℝ := B k v + ∑ l, C.dO l v * C.qs l k
def back (k : Fin 128) (v : Fin 256) : ℝ := C.G B k v * C.gam k
def dkd (l : Fin 64) (k : Fin 128) : ℝ := ∑ v, C.v l v * C.G B k v
/-- The gradients of the values and keys. -/
def dv (l : Fin 64) (v : Fin 256) : ℝ := ∑ k, C.kd l k * C.G B k v
def dk (l : Fin 64) (k : Fin 128) : ℝ := C.dkd B l k * C.dec l k
def e (l : Fin 64) (k : Fin 128) : ℝ := C.dkd B l k * C.kd l k
def dgg (k : Fin 128) : ℝ := (∑ v, C.G B k v * C.sb k v) * C.gam k
/-- The gradient of the decay gate's argument. -/
def dfg (l : Fin 64) (k : Fin 128) : ℝ :=
  (C.dgg B k + ((∑ i ∈ Finset.Iic l, C.e B i k) - C.e B l k)) * (1 / 16) * sg (-C.fg l k)

end Chunk

/-- The reals that the arguments hold. -/
structure In where
  proj : Fin 4096 → Fin 8320 → ℝ
  wfg : Fin 128 → Fin 512 → ℝ
  bfg : Fin 512 → ℝ
  st : Fin 4 → Fin 64 → Fin 256 → Fin 128 → ℝ
  doa : Fin 4096 → Fin 1024 → ℝ
  o : Fin 4096 → Fin 1024 → ℝ
  g : Fin 256 → ℝ

namespace In

variable (X : In)

def row (c l : Fin 64) : Fin 4096 := ⟨64 * c + l, by omega⟩
def colK (h : Fin 4) (k : Fin 128) : Fin 512 := ⟨128 * h + k, by omega⟩
def colV (h : Fin 4) (v : Fin 256) : Fin 1024 := ⟨256 * h + v, by omega⟩

/-- Chunk `c` of head `h`. -/
def chunk (h : Fin 4) (c : Fin 64) : Chunk where
  q l k := X.proj (row c l) ⟨128 * h + k, by omega⟩
  k l k := X.proj (row c l) ⟨512 + (128 * h + k), by omega⟩
  v l v := X.proj (row c l) ⟨1024 + (256 * h + v), by omega⟩
  r l v := X.proj (row c l) ⟨2048 + (256 * h + v), by omega⟩
  fg l k := (∑ z : Fin 128, X.proj (row c l) ⟨8192 + z, by omega⟩ * X.wfg z (colK h k)) + X.bfg (colK h k)
  o l v := X.o (row c l) (colV h v)
  y l v := X.doa (row c l) (colV h v)
  g := X.g
  sb k v := if hc : (c : ℕ) = 0 then 0 else X.st h ⟨c - 1, by omega⟩ v k
  sa k v := X.st h c v k

/-- The gradient of head `h`'s state after the last `n` chunks were gone through, from the end of the sequence. -/
def B (h : Fin 4) : ℕ → Fin 128 → Fin 256 → ℝ
  | 0 => fun _ _ => 0
  | n + 1 => (X.chunk h ⟨63 - n, by omega⟩).back (B h n)

/-- What the later chunks give the state after chunk `c`. -/
def Bc (h : Fin 4) (c : Fin 64) : Fin 128 → Fin 256 → ℝ := X.B h (63 - c)

end In

end Cert.Gla
-- ==== Proof.Real.lean ====
module

public import proofs.«01_k».proof.Proof.Spec

@[expose] public section

/-! The operations on extended reals, at arguments that are real. -/

noncomputable section

namespace Cert.Gla

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe' {x y : ℝ} (h : y ≠ 0) : Ideal.div (x : EReal) (y : EReal) = ((x / y : ℝ) : EReal) := by
  rw [Ideal.div_coe h, ← EReal.coe_mul, mul_one_div]

theorem exp_pos' (x : ℝ) : 0 < 1 + Real.exp x := by positivity

theorem log_coe' {x : ℝ} (h : 0 < x) : Ideal.log (x : EReal) = ((Real.log x : ℝ) : EReal) := by
  rw [Ideal.log_coe, if_neg (not_le.2 h)]

theorem rsqrt_coe' {x : ℝ} (h : 0 < x) : Ideal.rsqrt (x : EReal) = (((Real.sqrt x)⁻¹ : ℝ) : EReal) := by
  rw [Ideal.rsqrt_coe, if_neg (not_lt.2 h.le), if_neg h.ne']

theorem sigmoid_coe (x : ℝ) : Ideal.div 1 (1 + Ideal.exp (0 - (x : EReal))) = ((sg x : ℝ) : EReal) := by
  rw [← EReal.coe_zero, ← EReal.coe_sub, Ideal.exp_coe, ← EReal.coe_one, ← EReal.coe_add, div_coe' (exp_pos' _).ne', zero_sub, sg]

theorem ofBits_eps_f32 : Ideal.ofBits .f32 0x358637BD#32 = ((eps : ℝ) : EReal) ∧ 0 < eps := by
  have h : ∃ r : ℝ, 0 < r ∧ Ideal.ofBits .f32 0x358637BD#32 = (r : EReal) := by
    refine ⟨_, ?_, by simp [Ideal.ofBits, Ideal.ieee]; rfl⟩
    positivity
  obtain ⟨r, hr, h⟩ := h
  rw [eps, h]; exact ⟨rfl, hr⟩

theorem ofBits_scale_f32 : Ideal.ofBits .f32 0x3DB504F3#32 = ((scale : ℝ) : EReal) := by
  have h : ∃ r : ℝ, Ideal.ofBits .f32 0x3DB504F3#32 = (r : EReal) := ⟨_, by simp [Ideal.ofBits, Ideal.ieee]; rfl⟩
  obtain ⟨r, h⟩ := h
  rw [scale, h]; rfl

theorem ofBits_256_f32 : Ideal.ofBits .f32 0x43800000#32 = ((256 : ℝ) : EReal) := by
  simp [Ideal.ofBits, Ideal.ieee]; rw [← EReal.coe_mul]; norm_num

theorem ofBits_sixteenth_f32 : Ideal.ofBits .f32 0x3D800000#32 = ((1 / 16 : ℝ) : EReal) := by
  simp [Ideal.ofBits, Ideal.ieee]; rw [← EReal.coe_mul]; norm_num

theorem ofBits_16_f32 : Ideal.ofBits .f32 0x41800000#32 = ((16 : ℝ) : EReal) := by
  simp [Ideal.ofBits, Ideal.ieee]; rw [← EReal.coe_mul]; norm_num

theorem min_coe (x y : ℝ) : min (x : EReal) (y : EReal) = ((min x y : ℝ) : EReal) :=
  (EReal.coe_strictMono.monotone.map_min (a := x) (b := y)).symm
theorem max_coe (x y : ℝ) : max (x : EReal) (y : EReal) = ((max x y : ℝ) : EReal) :=
  (EReal.coe_strictMono.monotone.map_max (a := x) (b := y)).symm
theorem abs_coe (x : ℝ) : max (x : EReal) (-(x : EReal)) = ((|x| : ℝ) : EReal) := by
  rw [← EReal.coe_neg, max_coe, abs_eq_max_neg]

end Cert.Gla
-- ==== Proof.Tile.lean ====
module

public import proofs.«01_k».proof.Proof.Real
public import Idealize.ShloMosaic.Lib.Pipeline.ValueKit
public import Idealize.ShloMosaic.Lib.Pipeline.ReadBack

@[expose] public section

/-! A sum over a range cut into equal blocks: the running sum of the blocks' sums is the sum over the range. -/

noncomputable section

namespace Cert.Tile

open Idealize.ShloMosaic

/-- Position `k` of block `j`, of blocks of `w`. -/
def at_ (n w b : ℕ) (j : ℕ) (hj : j < b) (h : b * w = n) (k : Fin w) : Fin n :=
  ⟨w * j + k, by
    have := k.isLt
    calc w * j + k < w * j + w := by omega
      _ = w * (j + 1) := by ring
      _ ≤ w * b := Nat.mul_le_mul_left _ hj
      _ = n := by rw [Nat.mul_comm, h]⟩

theorem sum_blocks {M : Type} [AddCommMonoid M] (n w b : ℕ) (h : b * w = n) (f : Fin n → M) :
    ∑ p, f p = ∑ j : Fin b, ∑ k : Fin w, f (at_ n w b j j.isLt h k) := by
  subst h
  have e : ∑ p, f p = ∑ x : Fin b × Fin w, f (finProdFinEquiv x) := (Equiv.sum_comp (finProdFinEquiv (m := b) (n := w)) f).symm
  rw [e, Fintype.sum_prod_type]
  refine Finset.sum_congr rfl fun j _ => Finset.sum_congr rfl fun k _ => congrArg f (Fin.ext ?_)
  show (k : ℕ) + w * j = w * j + k
  omega

/-- Four blocks, added one after the other. -/
theorem sum_four {M : Type} [AddCommMonoid M] (n w : ℕ) (h : 4 * w = n) (f : Fin n → M) :
    ((∑ k : Fin w, f (at_ n w 4 0 (by decide) h k) + ∑ k : Fin w, f (at_ n w 4 1 (by decide) h k))
      + ∑ k : Fin w, f (at_ n w 4 2 (by decide) h k)) + ∑ k : Fin w, f (at_ n w 4 3 (by decide) h k) = ∑ p, f p := by
  rw [sum_blocks n w 4 h f, Fin.sum_univ_four]
  rfl

/-- Five blocks, added one after the other. -/
theorem sum_five {M : Type} [AddCommMonoid M] (n w : ℕ) (h : 5 * w = n) (f : Fin n → M) :
    (((∑ k : Fin w, f (at_ n w 5 0 (by decide) h k) + ∑ k : Fin w, f (at_ n w 5 1 (by decide) h k))
      + ∑ k : Fin w, f (at_ n w 5 2 (by decide) h k)) + ∑ k : Fin w, f (at_ n w 5 3 (by decide) h k))
      + ∑ k : Fin w, f (at_ n w 5 4 (by decide) h k) = ∑ p, f p := by
  rw [sum_blocks n w 5 h f, Fin.sum_univ_five]
  rfl

/-- Every index of a matrix is a row and a column. -/
theorem exists_ix2 {n0 n1 : ℕ} (i : (⟨2, ![n0, n1]⟩ : Shape).Idx) : ∃ p q, i = ix2 p q :=
  ⟨i 0, i 1, by funext d; fin_cases d <;> rfl⟩

theorem zero2 : (![0, 0] : Fin 2 → ℕ) = fun _ => 0 := funext fun a => by fin_cases a <;> rfl

end Cert.Tile
end
-- ==== Proof.Win.lean ====
module

public import proofs.«01_k».proof.Proof.Real

@[expose] public section

set_option maxRecDepth 16384

/-! Running sums along the rows of a chunk: a window of sixty-four rows that ends at a row sums the rows up to it, a window that begins at a row
sums the rows from it on. -/

noncomputable section

namespace Cert.Gla

open Idealize.ShloMosaic Idealize.ShloMosaic.Pointwise

/-- A window's sum, the padding being zero, is the sum over the window's positions of what each position gives. -/
theorem window_sum {s t u : Shape} {φ : FTy} (window strides lo hi : Fin s.rank → Nat) (x : FVec Ideal s φ) (init : u.Idx → EReal)
    (h : s.ReduceWindows window strides lo hi t) (hu : 0 < u.numel) (hi0 : init (Shape.Idx.first hu) = 0) (j : t.Idx)
    (g : (⟨s.rank, window⟩ : Shape).Idx → ℝ)
    (hg : ∀ w : (⟨s.rank, window⟩ : Shape).Idx,
      (if hin : ∀ a, lo a ≤ (j (a.cast h.1.symm)).val * strides a + (w a).val ∧ (j (a.cast h.1.symm)).val * strides a + (w a).val - lo a < s.size a
        then x (fun a => ⟨(j (a.cast h.1.symm)).val * strides a + (w a).val - lo a, (hin a).2⟩) else (0 : EReal)) = ((g w : ℝ) : EReal)) :
    Host.reduceWindowAdd (F := Ideal) (φ := φ) window strides lo hi x init h hu j = ((∑ w, g w : ℝ) : EReal) := by
  show Host.reduceWindow (fun a b : EReal => a + b) window strides lo hi x (fun _ : (⟨0, ![]⟩ : Shape).Idx => init (Shape.Idx.first hu)) h (by decide) j = _
  rw [hi0, coe_sum, sum_idx_eq_foldl]
  unfold Host.reduceWindow
  dsimp only
  congr 1
  funext r n
  congr 1
  refine Eq.trans ?_ (hg _)
  congr

theorem sum_up (f : Fin 64 → ℝ) (l : Fin 64) :
    (∑ b : Fin 64, if h : 63 ≤ (l : ℕ) + b then f ⟨(l : ℕ) + b - 63, by omega⟩ else 0) = ∑ i ∈ Finset.Iic l, f i := by
  classical
  rw [← Finset.sum_filter_add_sum_filter_not Finset.univ (fun b : Fin 64 => 63 ≤ (l : ℕ) + b),
    Finset.sum_eq_zero (s := Finset.univ.filter fun b : Fin 64 => ¬ 63 ≤ (l : ℕ) + b) (fun b hb => dif_neg (Finset.mem_filter.1 hb).2), add_zero]
  refine Finset.sum_bij' (fun b _ => (⟨(l : ℕ) + b - 63, by omega⟩ : Fin 64)) (fun i hi => (⟨63 + (i : ℕ) - l, by have := Fin.le_def.1 (Finset.mem_Iic.1 hi); omega⟩ : Fin 64)) ?_ ?_ ?_ ?_ ?_
  · intro b hb; simp only [Finset.mem_Iic, Fin.le_def]; omega
  · intro i hi; have := Fin.le_def.1 (Finset.mem_Iic.1 hi); simp only [Finset.mem_filter, Finset.mem_univ, true_and]; omega
  · intro b hb; have := (Finset.mem_filter.1 hb).2; apply Fin.ext; dsimp only; omega
  · intro i hi; have := Fin.le_def.1 (Finset.mem_Iic.1 hi); apply Fin.ext; dsimp only; omega
  · intro b hb; exact dif_pos (Finset.mem_filter.1 hb).2

theorem sum_down (f : Fin 64 → ℝ) (l : Fin 64) :
    (∑ b : Fin 64, if h : (l : ℕ) + b < 64 then f ⟨(l : ℕ) + b, h⟩ else 0) = ∑ i ∈ Finset.Ici l, f i := by
  classical
  rw [← Finset.sum_filter_add_sum_filter_not Finset.univ (fun b : Fin 64 => (l : ℕ) + b < 64),
    Finset.sum_eq_zero (s := Finset.univ.filter fun b : Fin 64 => ¬ (l : ℕ) + b < 64) (fun b hb => dif_neg (Finset.mem_filter.1 hb).2), add_zero]
  refine Finset.sum_bij' (fun b hb => (⟨(l : ℕ) + b, (Finset.mem_filter.1 hb).2⟩ : Fin 64)) (fun i hi => (⟨(i : ℕ) - l, by omega⟩ : Fin 64)) ?_ ?_ ?_ ?_ ?_
  · intro b hb; simp only [Finset.mem_Ici, Fin.le_def]; omega
  · intro i hi; have := Fin.le_def.1 (Finset.mem_Ici.1 hi); simp only [Finset.mem_filter, Finset.mem_univ, true_and]; omega
  · intro b hb; apply Fin.ext; dsimp only; omega
  · intro i hi; have := Fin.le_def.1 (Finset.mem_Ici.1 hi); apply Fin.ext; dsimp only; omega
  · intro b hb; exact dif_pos (Finset.mem_filter.1 hb).2

section
variable {x : FVec Ideal (⟨3, ![4, 64, 128]⟩ : Shape) .f32} {u : Shape} {init : u.Idx → EReal} {f : Fin 4 → Fin 64 → Fin 128 → ℝ}
  (hx : ∀ h l k, x (ix3 h l k) = ((f h l k : ℝ) : EReal))
include hx

theorem prefix_sum (hr : (⟨3, ![4, 64, 128]⟩ : Shape).ReduceWindows ![1, 64, 1] ![1, 1, 1] ![0, 63, 0] ![0, 0, 0] ⟨3, ![4, 64, 128]⟩) (hu : 0 < u.numel)
    (hi0 : init (Shape.Idx.first hu) = 0) (h : Fin 4) (l : Fin 64) (k : Fin 128) :
    Host.reduceWindowAdd (F := Ideal) (φ := .f32) ![1, 64, 1] ![1, 1, 1] ![0, 63, 0] ![0, 0, 0] x init hr hu (ix3 h l k)
      = ((∑ i ∈ Finset.Iic l, f h i k : ℝ) : EReal) := by
  refine (window_sum _ _ _ _ x init hr hu hi0 _ (fun w => if hb : 63 ≤ (l : ℕ) + (w 1 : ℕ) then f h ⟨(l : ℕ) + (w 1 : ℕ) - 63, by have := (w 1).isLt; change _ < 64 at this; omega⟩ k else 0) ?_).trans ?_
  · intro w
    have w0 : (w 0 : ℕ) < 1 := (w 0).isLt
    have w1 : (w 1 : ℕ) < 64 := (w 1).isLt
    have w2 : (w 2 : ℕ) < 1 := (w 2).isLt
    by_cases hb : 63 ≤ (l : ℕ) + (w 1 : ℕ)
    · rw [dif_pos hb, dif_pos]
      · rw [← hx]; congr 1; funext a; apply Fin.ext
        fin_cases a
        · show (h : ℕ) * 1 + (w 0 : ℕ) - 0 = h; omega
        · show (l : ℕ) * 1 + (w 1 : ℕ) - 63 = (l : ℕ) + (w 1 : ℕ) - 63; omega
        · show (k : ℕ) * 1 + (w 2 : ℕ) - 0 = k; omega
      · intro a
        fin_cases a
        · show 0 ≤ (h : ℕ) * 1 + (w 0 : ℕ) ∧ (h : ℕ) * 1 + (w 0 : ℕ) - 0 < 4; omega
        · show 63 ≤ (l : ℕ) * 1 + (w 1 : ℕ) ∧ (l : ℕ) * 1 + (w 1 : ℕ) - 63 < 64; omega
        · show 0 ≤ (k : ℕ) * 1 + (w 2 : ℕ) ∧ (k : ℕ) * 1 + (w 2 : ℕ) - 0 < 128; omega
    · rw [dif_neg hb, dif_neg]
      · rfl
      · intro hh; have := (hh 1).1; change 63 ≤ (l : ℕ) * 1 + (w 1 : ℕ) at this; omega
  · congr 1
    refine (sum_idx3 _).trans ?_
    simp only [Fin.sum_univ_one]
    exact sum_up (fun i => f h i k) l

theorem suffix_sum (hr : (⟨3, ![4, 64, 128]⟩ : Shape).ReduceWindows ![1, 64, 1] ![1, 1, 1] ![0, 0, 0] ![0, 63, 0] ⟨3, ![4, 64, 128]⟩) (hu : 0 < u.numel)
    (hi0 : init (Shape.Idx.first hu) = 0) (h : Fin 4) (l : Fin 64) (k : Fin 128) :
    Host.reduceWindowAdd (F := Ideal) (φ := .f32) ![1, 64, 1] ![1, 1, 1] ![0, 0, 0] ![0, 63, 0] x init hr hu (ix3 h l k)
      = ((∑ i ∈ Finset.Ici l, f h i k : ℝ) : EReal) := by
  refine (window_sum _ _ _ _ x init hr hu hi0 _ (fun w => if hb : (l : ℕ) + (w 1 : ℕ) < 64 then f h ⟨(l : ℕ) + (w 1 : ℕ), hb⟩ k else 0) ?_).trans ?_
  · intro w
    have w0 : (w 0 : ℕ) < 1 := (w 0).isLt
    have w1 : (w 1 : ℕ) < 64 := (w 1).isLt
    have w2 : (w 2 : ℕ) < 1 := (w 2).isLt
    by_cases hb : (l : ℕ) + (w 1 : ℕ) < 64
    · rw [dif_pos hb, dif_pos]
      · rw [← hx]; congr 1; funext a; apply Fin.ext
        fin_cases a
        · show (h : ℕ) * 1 + (w 0 : ℕ) - 0 = h; omega
        · show (l : ℕ) * 1 + (w 1 : ℕ) - 0 = (l : ℕ) + (w 1 : ℕ); omega
        · show (k : ℕ) * 1 + (w 2 : ℕ) - 0 = k; omega
      · intro a
        fin_cases a
        · show 0 ≤ (h : ℕ) * 1 + (w 0 : ℕ) ∧ (h : ℕ) * 1 + (w 0 : ℕ) - 0 < 4; omega
        · show 0 ≤ (l : ℕ) * 1 + (w 1 : ℕ) ∧ (l : ℕ) * 1 + (w 1 : ℕ) - 0 < 64; omega
        · show 0 ≤ (k : ℕ) * 1 + (w 2 : ℕ) ∧ (k : ℕ) * 1 + (w 2 : ℕ) - 0 < 128; omega
    · rw [dif_neg hb, dif_neg]
      · rfl
      · intro hh; have := (hh 1).2; change (l : ℕ) * 1 + (w 1 : ℕ) - 0 < 64 at this; omega
  · congr 1
    refine (sum_idx3 _).trans ?_
    simp only [Fin.sum_univ_one]
    exact sum_down (fun i => f h i k) l

end

/-! A sum over the first two axes. -/

theorem drop01 {n0 n1 n2 : ℕ} (h : (⟨3, ![n0, n1, n2]⟩ : Shape).ReducesTo [0, 1] ⟨1, ![n2]⟩) (a : Fin n0) (b : Fin n1) (c : Fin n2) :
    h.drop (ix3 a b c) = ix1 c := by
  funext i
  match i with
  | ⟨0, _⟩ => rfl

theorem hostReduceAdd01 {n0 n1 n2 : ℕ} (h : (⟨3, ![n0, n1, n2]⟩ : Shape).ReducesTo [0, 1] ⟨1, ![n2]⟩) (x : (⟨3, ![n0, n1, n2]⟩ : Shape).Idx → EReal)
    (init : EReal) (w : Fin n2) : Ideal.hostReduceAdd h x init (ix1 w) = init + ∑ a : Fin n0, ∑ b : Fin n1, x (ix3 a b w) := by
  unfold Ideal.hostReduceAdd
  congr 1
  rw [Finset.sum_filter, sum_idx3]
  refine Finset.sum_congr rfl fun a _ => Finset.sum_congr rfl fun b _ => ?_
  have e : ∀ c : Fin n2, (h.drop (ix3 a b c) = ix1 w) = (c = w) := fun c => by
    rw [drop01]; exact propext ⟨fun e => congrFun e 0, fun e => by rw [e]⟩
  simp only [e, Finset.sum_ite_eq', Finset.mem_univ, if_true]

end Cert.Gla
-- ==== Proof.Ref1.lean ====
module

public import proofs.«01_k».proof.Proof.Win
public import proofs.«01_k».proof.Proof.Gen.ReferenceIdeal.Run
public import Idealize.ShloMosaic.Lib.DynamicIndex

@[expose] public section

set_option maxRecDepth 16384

/-! One turn of the reference's loop, which goes through the chunks from the last to the first: what it computes from the arrays it carries. -/

noncomputable section

open Idealize.ShloMosaic Idealize.ShloMosaic.TcCoe Idealize.SL.Sem
namespace Cert.ReferenceIdeal.Gla
open Cert.ReferenceIdeal Cert.ReferenceIdeal.Gen Cert.ReferenceIdeal.Value Cert.Gla

/-! ## A chunk's slice, and a chunk's slice written -/

section
variable {c : Fin 64} {st : Fin 4 → Int} (h0 : st 0 = (c : ℕ)) (h1 : st 1 = 0) (h2 : st 2 = 0) (h3 : st 3 = 0)
include h0 h1 h2 h3

theorem off_eq (a : Fin 4) : st a = ((![(c : ℕ), 0, 0, 0] : Fin 4 → ℕ) a : Int) := by
  fin_cases a
  · exact h0
  · exact h1
  · exact h2
  · exact h3

theorem slice128 (A : Vec Ideal S64x4x64x128 .f32) (hf : S64x4x64x128.Slices (fun _ => 0) S1x4x64x128) (hc : S1x4x64x128.ShapeCasts S4x64x128)
    (h : Fin 4) (l : Fin 64) (k : Fin 128) : shapeCast S4x64x128 (Host.dynamicSlice S1x4x64x128 A st hf) hc (ix3 h l k) = A (ix4 c h l k) := by
  rw [Host.dynamicSlice_eq_extractStridedSlice _ A st ![(c : ℕ), 0, 0, 0] hf ⟨rfl, fun a => by fin_cases a <;> simp <;> omega⟩ (off_eq h0 h1 h2 h3)]
  pointwise
theorem slice256 (A : Vec Ideal S64x4x64x256 .f32) (hf : S64x4x64x256.Slices (fun _ => 0) S1x4x64x256) (hc : S1x4x64x256.ShapeCasts S4x64x256)
    (h : Fin 4) (l : Fin 64) (k : Fin 256) : shapeCast S4x64x256 (Host.dynamicSlice S1x4x64x256 A st hf) hc (ix3 h l k) = A (ix4 c h l k) := by
  rw [Host.dynamicSlice_eq_extractStridedSlice _ A st ![(c : ℕ), 0, 0, 0] hf ⟨rfl, fun a => by fin_cases a <;> simp <;> omega⟩ (off_eq h0 h1 h2 h3)]
  pointwise
theorem sliceS (A : Vec Ideal S64x4x128x256 .f32) (hf : S64x4x128x256.Slices (fun _ => 0) S1x4x128x256) (hc : S1x4x128x256.ShapeCasts S4x128x256)
    (h : Fin 4) (l : Fin 128) (k : Fin 256) : shapeCast S4x128x256 (Host.dynamicSlice S1x4x128x256 A st hf) hc (ix3 h l k) = A (ix4 c h l k) := by
  rw [Host.dynamicSlice_eq_extractStridedSlice _ A st ![(c : ℕ), 0, 0, 0] hf ⟨rfl, fun a => by fin_cases a <;> simp <;> omega⟩ (off_eq h0 h1 h2 h3)]
  pointwise
end

theorem ofBits_mhalf_f32 : Ideal.ofBits .f32 0xBF000000#32 = ((-(1 / 2) : ℝ) : EReal) := by
  simp [Ideal.ofBits, Ideal.ieee]; rw [← EReal.coe_mul]; norm_num

/-- The gradient through the norm, with the gradient of the mean of squares spelled out. -/
theorem dO_eq (C : Chunk) (l : Fin 64) (v : Fin 256) :
    C.dohat l v * C.rstd l
      + C.o l v * ((∑ w, C.o l w * C.dohat l w) * (-(1 / 2) * (C.rstd l / ((∑ v, C.o l v * C.o l v) / 256 + eps))) / 256)
      + (∑ w, C.o l w * C.dohat l w) * (-(1 / 2) * (C.rstd l / ((∑ v, C.o l v * C.o l v) / 256 + eps))) / 256 * C.o l v = C.dO l v := by
  have hp : 0 < (∑ v, C.o l v * C.o l v) / 256 + eps := by
    have h1 : 0 ≤ ∑ v, C.o l v * C.o l v := Finset.sum_nonneg fun v _ => mul_self_nonneg _
    have h2 := ofBits_eps_f32.2
    positivity
  have hs : (∑ w, C.dohat l w * C.ohat l w) = (∑ w, C.o l w * C.dohat l w) * C.rstd l := by
    rw [Finset.sum_mul]; refine Finset.sum_congr rfl fun w _ => ?_
    unfold Chunk.ohat; ring
  have hr : C.rstd l / ((∑ v, C.o l v * C.o l v) / 256 + eps) = C.rstd l * C.rstd l * C.rstd l := by
    have hq : C.rstd l * C.rstd l = ((∑ v, C.o l v * C.o l v) / 256 + eps)⁻¹ := by
      unfold Chunk.rstd; rw [← mul_inv, Real.mul_self_sqrt hp.le]
    rw [hq, div_eq_mul_inv, mul_comm]
  unfold Chunk.dO
  rw [hs, hr]; unfold Chunk.ohat; ring

/-- The slope of the logarithm of the sigmoid, as it is derived: the exponential of the argument less its softplus. -/
theorem slope_eq (C : Chunk) (l : Fin 64) (k : Fin 128) : Real.exp (-C.fg l k - -(C.la l k * 16)) = sg (-C.fg l k) := by
  have e : C.la l k * 16 = min (C.fg l k) 0 - Real.log (1 + Real.exp (-|C.fg l k|)) := by unfold Chunk.la; ring
  rw [e, sg, neg_neg]
  generalize C.fg l k = f
  rw [show -f - -(min f 0 - Real.log (1 + Real.exp (-|f|))) = (-f + min f 0) - Real.log (1 + Real.exp (-|f|)) by ring, Real.exp_sub,
    Real.exp_log (exp_pos' _)]
  have hf : Real.exp (-f) * Real.exp f = 1 := by rw [← Real.exp_add, neg_add_cancel, Real.exp_zero]
  rcases le_total 0 f with h0 | h0
  · rw [min_eq_right h0, abs_of_nonneg h0, add_zero, div_eq_div_iff (exp_pos' _).ne' (exp_pos' _).ne', mul_add, hf]; ring
  · rw [min_eq_left h0, abs_of_nonpos h0, neg_neg, neg_add_cancel, Real.exp_zero]

theorem suffix_eq (e : Fin 64 → ℝ) (d : ℝ) (l : Fin 64) :
    (∑ i ∈ Finset.Ici l, (-e i + if i = 63 then d + ∑ j, e j else 0)) = d + ((∑ i ∈ Finset.Iic l, e i) - e l) := by
  have h63 : (63 : Fin 64) ∈ Finset.Ici l := Finset.mem_Ici.2 (Fin.le_def.2 (by show (l : ℕ) ≤ 63; omega))
  rw [Finset.sum_add_distrib, Finset.sum_ite_eq' , if_pos h63, Finset.sum_neg_distrib]
  have hd : Disjoint (Finset.Iio l) (Finset.Ici l) := Finset.disjoint_left.2 fun x hx hy => absurd (Finset.mem_Ici.1 hy) (not_le.2 (Finset.mem_Iio.1 hx))
  have hu : Finset.Iio l ∪ Finset.Ici l = Finset.univ := by
    ext x; simp only [Finset.mem_union, Finset.mem_Iio, Finset.mem_Ici, Finset.mem_univ, iff_true]; exact lt_or_ge x l
  have h1 : ∑ j, e j = (∑ i ∈ Finset.Iio l, e i) + ∑ i ∈ Finset.Ici l, e i := by rw [← Finset.sum_union hd, hu]
  have h2 : ∑ i ∈ Finset.Iic l, e i = e l + ∑ i ∈ Finset.Iio l, e i := by
    rw [← Finset.Iio_insert, Finset.sum_insert (by simp)]
  rw [h1, h2]; ring

section
variable (V0 : Valuation τ sig (Elt Ideal))

/-- The slices that the turn writes. -/
def updQ : FVec Ideal S4x64x128 .f32 :=
  mulf (Host.dotGeneral (φ₁ := .f32) (φ₂ := .f32) dot_S4x64x256_S4x128x256_S4x64x128_2_2_1_1_0_0 none (res_main_while0b_v114 V0) (res_main_while0b_v72 V0)) (broadcastInDim S4x64x128 ![] bcast_S_S4x64x128 (constant S_ .f32 0x3DB504F3#32))
def updK : FVec Ideal S4x64x128 .f32 := mulf (φ := .f32) (res_main_while0b_v143 V0) (res_main_while0b_v126 V0)
def updV : FVec Ideal S4x64x256 .f32 :=
  transpose S4x64x256 [0, 2, 1] (Host.dotGeneral (φ₁ := .f32) (φ₂ := .f32) dot_S4x128x256_S4x64x128_S4x256x64_1_2_2_1_0_0 none (res_main_while0b_v139 V0) (res_main_while0b_v127 V0)) transposes_S4x256x64_S4x64x256_0_2_1
def updR : FVec Ideal S4x64x256 .f32 :=
  addf (φ := .f32) (mulf (φ := .f32) (res_main_while0b_v91 V0) (res_main_while0b_v89_2 V0)) (mulf (φ := .f32) (mulf (φ := .f32) (res_main_while0b_v67 V0) (res_main_while0b_v91 V0)) (mulf (φ := .f32) (res_main_while0b_v89_2 V0) (subf (φ := .f32) (broadcastInDim S4x64x256 ![] bcast_S_S4x64x256 (constant S_ .f32 0x3F800000#32)) (res_main_while0b_v89_2 V0))))
def updG : FVec Ideal S1x256 .f32 :=
  broadcastInDim S1x256 ![1] bcast_S256_S1x256_1 (Host.reduceAdd (φ := .f32) (shapeCast S1x1x256 (Host.reduceAdd (φ := .f32) (mulf (φ := .f32) (res_main_while0b_v85 V0) (res_main_while0b_v92 V0)) (constant S_ .f32 0x00000000#32) reducesTo_S4x64x256_S256_d0_1 h_S_) shapeCasts_S256_S1x1x256) (constant S_ .f32 0x00000000#32) reducesTo_S1x1x256_S256_d0_1 h_S_)

/-- The decay gates' sum of what the later rows and the state give them, and the slope of the logarithm of the sigmoid. -/
def winIn : FVec Ideal S4x64x128 .f32 :=
  addf (φ := .f32) (Host.negf (φ := .f32) (res_main_while0b_v154 V0)) (pad S4x64x128 ![0, 63, 0] ![0, 0, 0] ![0, 0, 0] (addf (φ := .f32) (broadcastInDim S4x1x128 ![0, 2] bcast_S4x128_S4x1x128_0_2 (mulf (φ := .f32) (Host.reduceAdd (φ := .f32) (shapeCast S4x128x1 (Host.reduceAdd (φ := .f32) (mulf (φ := .f32) (res_main_while0b_v139 V0) (res_main_while0b_v71 V0)) (constant S_ .f32 0x00000000#32) reducesTo_S4x128x256_S4x128_d2 h_S_) shapeCasts_S4x128_S4x128x1) (constant S_ .f32 0x00000000#32) reducesTo_S4x128x1_S4x128_d2 h_S_) (res_main_while0b_v129 V0))) (shapeCast S4x1x128 (Host.reduceAdd (φ := .f32) (res_main_while0b_v154 V0) (constant S_ .f32 0x00000000#32) reducesTo_S4x64x128_S4x128_d1 h_S_) shapeCasts_S4x128_S4x1x128)) (constant S_ .f32 0x00000000#32) pads_S4x1x128_S4x64x128_000_6300_000 h_S_)
def win : FVec Ideal S4x64x128 .f32 :=
  Host.reduceWindowAdd (F := Ideal) (φ := .f32) ![1, 64, 1] ![1, 1, 1] ![0, 0, 0] ![0, 63, 0] (winIn V0) (broadcastInDim S_ ![] bcast_S_S_ (constant S_ .f32 0x00000000#32)) reduceWindows_S4x64x128_S4x64x128_w1s1p0_0_w64s1p0_63_w1s1p0_0 h_S_
def slope : FVec Ideal S4x64x128 .f32 :=
  Host.exp (φ := .f32) (subf (φ := .f32) (select (cmpf (φ := .f32) .oeq (res_main_while0b_v115 V0) (broadcastInDim S4x64x128 ![] bcast_S_S4x64x128 (constant S_ .f32 0x7F800000#32))) (broadcastInDim S4x64x128 ![] bcast_S_S4x64x128 (constant S_ .f32 0x00000000#32)) (res_main_while0b_v115 V0)) (select (cmpf (φ := .f32) .oeq (res_main_while0b_v116_0 V0) (broadcastInDim S4x64x128 ![] bcast_S_S4x64x128 (constant S_ .f32 0x7F800000#32))) (broadcastInDim S4x64x128 ![] bcast_S_S4x64x128 (constant S_ .f32 0x00000000#32)) (res_main_while0b_v116_0 V0)))
def updF : FVec Ideal S4x64x128 .f32 :=
  Host.negf (φ := .f32) (mulf (φ := .f32) (Host.negf (φ := .f32) (Host.divf (φ := .f32) (win V0) (broadcastInDim S4x64x128 ![] bcast_S_S4x64x128 (constant S_ .f32 0x41800000#32)))) (slope V0))

theorem step16_eq : step_main_v38_16 (F := Ideal) V0 = Host.dynamicUpdateSlice (V0 (Proc.devRef .tc main_v38_16)) (broadcastInDim S1x4x64x128 ![1, 2, 3] bcast_S4x64x128_S1x4x64x128_1_2_3 (updF V0)) (fun k => (((![res_main_while0b_v63 V0, constantI S_ 32 0#32, constantI S_ 32 0#32, constantI S_ 32 0#32] : Fin 4 → (⟨S_, .i32⟩ : BufTy).Contents (Elt Ideal))) k (Shape.Idx.first h_S_)).toInt) updateFits_S64x4x64x128_S1x4x64x128 := by
  unfold step_main_v38_16 updF win slope winIn
  rfl

end

/-- What the turn at chunk `c` finds: the chunk's index, each head's numbers of the chunk, and the gradient the later chunks give the state. -/
structure At (V0 : Valuation τ sig (Elt Ideal)) (K : Fin 4 → Chunk) (Bk : Fin 4 → Fin 128 → Fin 256 → ℝ) (c : Fin 64) : Prop where
  idx : (res_main_while0b_v63 (F := Ideal) V0 (Shape.Idx.first h_S_)).toInt = (c : ℕ)
  q : ∀ h l k, (V0 (Proc.devRef .tc main_v38_0) : Vec Ideal S64x4x64x128 .f32) (ix4 c h l k) = (((K h).q l k : ℝ) : EReal)
  k : ∀ h l k, (V0 (Proc.devRef .tc main_v38_1) : Vec Ideal S64x4x64x128 .f32) (ix4 c h l k) = (((K h).k l k : ℝ) : EReal)
  v : ∀ h l v, (V0 (Proc.devRef .tc main_v38_2) : Vec Ideal S64x4x64x256 .f32) (ix4 c h l v) = (((K h).v l v : ℝ) : EReal)
  r : ∀ h l v, (V0 (Proc.devRef .tc main_v38_3) : Vec Ideal S64x4x64x256 .f32) (ix4 c h l v) = (((K h).r l v : ℝ) : EReal)
  fg : ∀ h l k, (V0 (Proc.devRef .tc main_v38_4) : Vec Ideal S64x4x64x128 .f32) (ix4 c h l k) = (((K h).fg l k : ℝ) : EReal)
  o : ∀ h l v, (V0 (Proc.devRef .tc main_v38_5) : Vec Ideal S64x4x64x256 .f32) (ix4 c h l v) = (((K h).o l v : ℝ) : EReal)
  y : ∀ h l v, (V0 (Proc.devRef .tc main_v38_6) : Vec Ideal S64x4x64x256 .f32) (ix4 c h l v) = (((K h).y l v : ℝ) : EReal)
  sb : ∀ h k v, (V0 (Proc.devRef .tc main_v38_7) : Vec Ideal S64x4x128x256 .f32) (ix4 c h k v) = (((K h).sb k v : ℝ) : EReal)
  sa : ∀ h k v, (V0 (Proc.devRef .tc main_v38_8) : Vec Ideal S64x4x128x256 .f32) (ix4 c h k v) = (((K h).sa k v : ℝ) : EReal)
  g : ∀ h v, (V0 (Proc.devRef .tc main_v38_9) : Vec Ideal S1x256 .f32) (ix2 0 v) = (((K h).g v : ℝ) : EReal)
  st : ∀ h k v, (V0 (Proc.devRef .tc main_v38_11) : Vec Ideal S4x128x256 .f32) (ix3 h k v) = ((Bk h k v : ℝ) : EReal)

section
variable {V0 : Valuation τ sig (Elt Ideal)} {K : Fin 4 → Chunk} {Bk : Fin 4 → Fin 128 → Fin 256 → ℝ} {c : Fin 64} (H : At V0 K Bk c) (h : Fin 4)
include H

theorem k_at (l : Fin 64) (k : Fin 128) : res_main_while0b_v65 (F := Ideal) V0 (ix3 h l k) = (((K h).k l k : ℝ) : EReal) :=
  (slice128 H.idx rfl rfl rfl _ _ _ h l k).trans (H.k h l k)
theorem v_at (l : Fin 64) (v : Fin 256) : res_main_while0b_v66 (F := Ideal) V0 (ix3 h l v) = (((K h).v l v : ℝ) : EReal) :=
  (slice256 H.idx rfl rfl rfl _ _ _ h l v).trans (H.v h l v)
theorem r_at (l : Fin 64) (v : Fin 256) : res_main_while0b_v67 (F := Ideal) V0 (ix3 h l v) = (((K h).r l v : ℝ) : EReal) :=
  (slice256 H.idx rfl rfl rfl _ _ _ h l v).trans (H.r h l v)
theorem o_at (l : Fin 64) (v : Fin 256) : res_main_while0b_v69 (F := Ideal) V0 (ix3 h l v) = (((K h).o l v : ℝ) : EReal) :=
  (slice256 H.idx rfl rfl rfl _ _ _ h l v).trans (H.o h l v)
theorem y_at (l : Fin 64) (v : Fin 256) : res_main_while0b_v70 (F := Ideal) V0 (ix3 h l v) = (((K h).y l v : ℝ) : EReal) :=
  (slice256 H.idx rfl rfl rfl _ _ _ h l v).trans (H.y h l v)
theorem sb_at (k : Fin 128) (v : Fin 256) : res_main_while0b_v71 (F := Ideal) V0 (ix3 h k v) = (((K h).sb k v : ℝ) : EReal) :=
  (sliceS H.idx rfl rfl rfl _ _ _ h k v).trans (H.sb h k v)
theorem sa_at (k : Fin 128) (v : Fin 256) : res_main_while0b_v72 (F := Ideal) V0 (ix3 h k v) = (((K h).sa k v : ℝ) : EReal) :=
  (sliceS H.idx rfl rfl rfl _ _ _ h k v).trans (H.sa h k v)

/-! ## The decays -/

theorem nfg_at (l : Fin 64) (k : Fin 128) : res_main_while0b_v115 (F := Ideal) V0 (ix3 h l k) = ((-(K h).fg l k : ℝ) : EReal) := by
  unfold res_main_while0b_v115
  rw [EReal.coe_neg, ← H.fg h l k]
  exact congrArg (fun x : EReal => -x) (slice128 H.idx rfl rfl rfl _ _ _ h l k)
theorem qs_at (l : Fin 64) (k : Fin 128) : res_main_while0b_v123 (F := Ideal) V0 (ix3 h l k) = (((K h).qs l k : ℝ) : EReal) := by
  unfold res_main_while0b_v123 Chunk.qs
  rw [EReal.coe_mul, ← ofBits_scale_f32, ← H.q h l k]
  exact congrArg (fun x : EReal => x * Ideal.ofBits .f32 0x3DB504F3#32) (slice128 H.idx rfl rfl rfl _ _ _ h l k)
theorem sp_at (l : Fin 64) (k : Fin 128) : res_main_while0b_v116_0 (F := Ideal) V0 (ix3 h l k) = ((-((K h).la l k * 16) : ℝ) : EReal) := by
  have hn := nfg_at H h l k
  pointwise [res_main_while0b_v116_0, res_main_while0b_call11_v3, res_main_while0b_call11_cst]
  rw [hn, if_neg (not_not.2 rfl)]
  show max _ _ + Ideal.log (1 + Ideal.exp (-(max _ _))) = _
  rw [abs_coe, ← EReal.coe_neg, Ideal.exp_coe, ← EReal.coe_one, ← EReal.coe_add, log_coe' (exp_pos' _), ← EReal.coe_zero, max_coe, ← EReal.coe_add, abs_neg]
  congr 1
  unfold Chunk.la
  have : max (-(K h).fg l k) 0 = -min ((K h).fg l k) 0 := by rw [← max_neg_neg, neg_zero]
  rw [this]; ring
theorem la_at (l : Fin 64) (k : Fin 128) : Host.divf (F := Ideal) (Host.negf (res_main_while0b_v116_0 (F := Ideal) V0))
    (broadcastInDim S4x64x128 ![] bcast_S_S4x64x128 (constant S_ .f32 0x41800000#32)) (ix3 h l k) = (((K h).la l k : ℝ) : EReal) := by
  have hn := sp_at H h l k
  pointwise
  rw [hn, ofBits_16_f32, ← EReal.coe_neg, div_coe' (by norm_num)]
  congr 1; ring
theorem cum_at (l : Fin 64) (k : Fin 128) : res_main_while0b_v120 (F := Ideal) V0 (ix3 h l k) = (((K h).cum l k : ℝ) : EReal) := by
  unfold res_main_while0b_v120
  exact prefix_sum (f := fun h l k => (K h).la l k) (fun h l k => la_at H h l k) _ _ (by pointwise) h l k
theorem last_at (k : Fin 128) : res_main_while0b_v121 (F := Ideal) V0 (ix3 h 0 k) = (((K h).cum 63 k : ℝ) : EReal) := by
  rw [← cum_at H h 63 k]
  pointwise [res_main_while0b_v121]
theorem dec_at (l : Fin 64) (k : Fin 128) : res_main_while0b_v126 (F := Ideal) V0 (ix3 h l k) = (((K h).dec l k : ℝ) : EReal) := by
  have h1 := cum_at H h l k
  have h2 := last_at H h k
  pointwise [res_main_while0b_v126]
  rw [h1, h2, ← EReal.coe_sub, Ideal.exp_coe]; rfl
theorem kd_at (l : Fin 64) (k : Fin 128) : res_main_while0b_v127 (F := Ideal) V0 (ix3 h l k) = (((K h).kd l k : ℝ) : EReal) := by
  have h1 := k_at H h l k
  have h2 := dec_at H h l k
  pointwise [res_main_while0b_v127]
  rw [h1, h2, ← EReal.coe_mul]; rfl
theorem gam_at (k : Fin 128) : res_main_while0b_v129 (F := Ideal) V0 (ix2 h k) = (((K h).gam k : ℝ) : EReal) := by
  have h2 := last_at H h k
  pointwise [res_main_while0b_v129]
  rw [h2, Ideal.exp_coe]; rfl

/-! ## The norm and the output gate -/

theorem var_at (l : Fin 64) : res_main_while0b_v79 (F := Ideal) V0 (ix3 h l 0) = (((∑ v, (K h).o l v * (K h).o l v) / 256 + eps : ℝ) : EReal) := by
  have h1 := o_at H h l
  pointwise [res_main_while0b_v79]
  simp only [h1, ← EReal.coe_mul, ← coe_sum, ofBits_256_f32, ofBits_eps_f32.1, div_coe' (show (256 : ℝ) ≠ 0 by norm_num), ← EReal.coe_add, zero_add]
omit H in
theorem var_pos (C : Chunk) (l : Fin 64) : 0 < (∑ v, C.o l v * C.o l v) / 256 + eps := by
  have h1 : 0 ≤ ∑ v, C.o l v * C.o l v := Finset.sum_nonneg fun v _ => mul_self_nonneg _
  have h2 := ofBits_eps_f32.2
  positivity
theorem rstd_at (l : Fin 64) : res_main_while0b_v80 (F := Ideal) V0 (ix3 h l 0) = (((K h).rstd l : ℝ) : EReal) := by
  have h1 := var_at H h l
  unfold res_main_while0b_v80
  refine (congrArg Ideal.rsqrt h1).trans ?_
  rw [rsqrt_coe' (var_pos (K h) l)]; rfl
theorem ohat_at (l : Fin 64) (v : Fin 256) : res_main_while0b_v85 (F := Ideal) V0 (ix3 h l v) = (((K h).ohat l v : ℝ) : EReal) := by
  have h1 := o_at H h l v
  have h2 := rstd_at H h l
  pointwise [res_main_while0b_v85]
  rw [h1, h2, ← EReal.coe_mul]; rfl
theorem g_at (v : Fin 256) : res_main_while0b_v86 (F := Ideal) V0 (ix3 0 0 v) = (((K h).g v : ℝ) : EReal) := by
  have h1 := H.g h v
  pointwise [res_main_while0b_v86]
  exact h1
theorem sr_at (l : Fin 64) (v : Fin 256) : res_main_while0b_v89_2 (F := Ideal) V0 (ix3 h l v) = ((sg ((K h).r l v) : ℝ) : EReal) := by
  have h1 := r_at H h l v
  pointwise [res_main_while0b_v89_2]
  rw [h1, ← sigmoid_coe, zero_sub]
theorem don_at (l : Fin 64) (v : Fin 256) : res_main_while0b_v92 (F := Ideal) V0 (ix3 h l v) = (((K h).don l v : ℝ) : EReal) := by
  have h1 := r_at H h l v
  have h2 := sr_at H h l v
  have h3 := y_at H h l v
  pointwise [res_main_while0b_v92, res_main_while0b_v89_0]
  simp only [h1, h2, h3, ← EReal.coe_mul]; rfl
theorem dg_at (l : Fin 64) (v : Fin 256) : res_main_while0b_v91 (F := Ideal) V0 (ix3 h l v) = (((K h).ohat l v * (K h).g v * (K h).y l v : ℝ) : EReal) := by
  have h1 := ohat_at H h l v
  have h2 := g_at H h v
  have h3 := y_at H h l v
  pointwise [res_main_while0b_v91, res_main_while0b_v88]
  simp only [h1, h2, h3, ← EReal.coe_mul]
theorem dohat_at (l : Fin 64) (v : Fin 256) : res_main_while0b_v98 (F := Ideal) V0 (ix3 h l v) = (((K h).dohat l v : ℝ) : EReal) := by
  have h1 := don_at H h l v
  have h2 := g_at H h v
  pointwise [res_main_while0b_v98]
  simp only [h1, h2, ← EReal.coe_mul]; rfl
theorem cor_at (l : Fin 64) (v : Fin 256) : res_main_while0b_v110 (F := Ideal) V0 (ix3 h l v)
    = (((∑ w, (K h).o l w * (K h).dohat l w) * (-(1 / 2) * ((K h).rstd l / ((∑ v, (K h).o l v * (K h).o l v) / 256 + eps))) / 256 : ℝ) : EReal) := by
  have h1 := o_at H h l
  have h2 := dohat_at H h l
  have h3 := rstd_at H h l
  have h4 := var_at H h l
  pointwise [res_main_while0b_v110]
  simp only [Fin.sum_univ_one, h1, h2, h3, h4, ← EReal.coe_mul, ← coe_sum, ofBits_256_f32, ofBits_mhalf_f32, div_coe' (var_pos (K h) l).ne', div_coe' (show (256 : ℝ) ≠ 0 by norm_num), ← EReal.coe_add, zero_add]
theorem dO_at (l : Fin 64) (v : Fin 256) : res_main_while0b_v114 (F := Ideal) V0 (ix3 h l v) = (((K h).dO l v : ℝ) : EReal) := by
  have h1 := o_at H h l v
  have h2 := dohat_at H h l v
  have h3 := rstd_at H h l
  have h4 := cor_at H h l v
  pointwise [res_main_while0b_v114]
  simp only [h1, h2, h3, h4, ← EReal.coe_mul, ← EReal.coe_add]
  congr 1
  exact dO_eq (K h) l v

/-! ## The state's gradient, and what it gives the keys, the values and the decays -/

theorem G_at (k : Fin 128) (v : Fin 256) : res_main_while0b_v139 (F := Ideal) V0 (ix3 h k v) = (((K h).G (Bk h) k v : ℝ) : EReal) := by
  have h1 : ∀ l, res_main_while0b_v114 (F := Ideal) V0 (ix3 h l v) = _ := fun l => dO_at H h l v
  have h2 : ∀ l, res_main_while0b_v123 (F := Ideal) V0 (ix3 h l k) = _ := fun l => qs_at H h l k
  have h3 := H.st h k v
  pointwise [res_main_while0b_v139]
  simp only [h1, h2, h3, ← EReal.coe_mul, ← coe_sum, ← EReal.coe_add]; rfl
theorem dkd_at (l : Fin 64) (k : Fin 128) : res_main_while0b_v143 (F := Ideal) V0 (ix3 h l k) = (((K h).dkd (Bk h) l k : ℝ) : EReal) := by
  have h1 := G_at H h k
  have h2 := v_at H h l
  pointwise [res_main_while0b_v143]
  simp only [h1, h2, ← EReal.coe_mul, ← coe_sum]
  congr 1; exact Finset.sum_congr rfl fun v _ => mul_comm _ _
theorem e_at (l : Fin 64) (k : Fin 128) : res_main_while0b_v154 (F := Ideal) V0 (ix3 h l k) = (((K h).e (Bk h) l k : ℝ) : EReal) := by
  have h1 := k_at H h l k
  have h2 := dkd_at H h l k
  have h3 := dec_at H h l k
  pointwise [res_main_while0b_v154]
  simp only [h1, h2, h3, ← EReal.coe_mul]
  congr 1; unfold Chunk.e Chunk.kd; ring

/-! ## The arrays the turn writes -/

theorem back_at (k : Fin 128) (v : Fin 256) : step_main_v38_11 (F := Ideal) V0 (ix3 h k v) = (((K h).back (Bk h) k v : ℝ) : EReal) := by
  have h1 := G_at H h k v
  have h2 := gam_at H h k
  unfold step_main_v38_11
  rw [id_eq]
  pointwise [res_main_while0b_v134]
  simp only [h1, h2, ← EReal.coe_mul]
  congr 1; exact mul_comm _ _
theorem dq_at (l : Fin 64) (k : Fin 128) : updQ V0 (ix3 h l k) = (((K h).dq l k : ℝ) : EReal) := by
  have h1 := dO_at H h l
  have h2 := sa_at H h k
  pointwise [updQ]
  simp only [h1, h2, ← EReal.coe_mul, ← coe_sum, ofBits_scale_f32]; rfl
theorem dk_at (l : Fin 64) (k : Fin 128) : updK V0 (ix3 h l k) = (((K h).dk (Bk h) l k : ℝ) : EReal) := by
  have h1 := dkd_at H h l k
  have h2 := dec_at H h l k
  pointwise [updK]
  rw [h1, h2, ← EReal.coe_mul]; rfl
theorem dv_at (l : Fin 64) (v : Fin 256) : updV V0 (ix3 h l v) = (((K h).dv (Bk h) l v : ℝ) : EReal) := by
  have h1 : ∀ k, res_main_while0b_v139 (F := Ideal) V0 (ix3 h k v) = _ := fun k => G_at H h k v
  have h2 := kd_at H h l
  pointwise [updV]
  simp only [h1, h2, ← EReal.coe_mul, ← coe_sum]
  congr 1; exact Finset.sum_congr rfl fun k _ => mul_comm _ _
theorem dr_at (l : Fin 64) (v : Fin 256) : updR V0 (ix3 h l v) = (((K h).dr l v : ℝ) : EReal) := by
  have h1 := dg_at H h l v
  have h2 := sr_at H h l v
  have h3 := r_at H h l v
  pointwise [updR]
  simp only [h1, h2, h3, ← EReal.coe_mul, ← EReal.coe_add, ← EReal.coe_one, ← EReal.coe_sub]
  congr 1; unfold Chunk.dr; ring
theorem dgt_at (v : Fin 256) : updG V0 (ix2 0 v) = ((∑ h, ∑ l, (K h).dgt l v : ℝ) : EReal) := by
  have h1 := ohat_at H
  have h2 := don_at H
  pointwise [updG]
  rw [hostReduceAdd01]
  pointwise
  rw [hostReduceAdd01]
  pointwise
  simp only [Fin.sum_univ_one, h1, h2, ← EReal.coe_mul, ← coe_sum, zero_add]
  congr 1; refine Finset.sum_congr rfl fun h _ => Finset.sum_congr rfl fun l _ => ?_
  exact mul_comm _ _

theorem winIn_at (l : Fin 64) (k : Fin 128) : winIn V0 (ix3 h l k)
    = ((-(K h).e (Bk h) l k + (if l = 63 then (K h).dgg (Bk h) k + ∑ i, (K h).e (Bk h) i k else 0) : ℝ) : EReal) := by
  have h1 := G_at H h k
  have h2 := sb_at H h k
  have h3 := gam_at H h k
  have h4 : ∀ l, res_main_while0b_v154 (F := Ideal) V0 (ix3 h l k) = _ := fun l => e_at H h l k
  pointwise [winIn]
  simp only [Fin.sum_univ_one, h1, h2, h3, h4, ← EReal.coe_mul, ← coe_sum, zero_add]
  by_cases hl : l = 63
  · subst hl
    rw [if_pos rfl, dif_pos (by decide), ← EReal.coe_add, ← EReal.coe_neg, ← EReal.coe_add]; rfl
  · rw [if_neg hl, dif_neg (fun hh => hl (Fin.ext (by have := hh.1; show (l : ℕ) = 63; omega))), ← EReal.coe_zero, ← EReal.coe_neg, ← EReal.coe_add]
theorem slope_at (l : Fin 64) (k : Fin 128) : slope V0 (ix3 h l k) = ((sg (-(K h).fg l k) : ℝ) : EReal) := by
  have h1 := nfg_at H h l k
  have h2 := sp_at H h l k
  have ht : Ideal.ofBits .f32 2139095040#32 = ⊤ := by simp [Ideal.ofBits, Ideal.ieee]
  pointwise [slope]
  rw [h1, h2, ht, if_neg (EReal.coe_ne_top _), if_neg (EReal.coe_ne_top _), ← EReal.coe_sub, Ideal.exp_coe, slope_eq]
theorem win_at (l : Fin 64) (k : Fin 128) : win V0 (ix3 h l k)
    = (((K h).dgg (Bk h) k + ((∑ i ∈ Finset.Iic l, (K h).e (Bk h) i k) - (K h).e (Bk h) l k) : ℝ) : EReal) := by
  unfold win
  refine (suffix_sum (fun h l k => winIn_at H h l k) _ _ (by pointwise) h l k).trans (congrArg _ ?_)
  exact suffix_eq (fun i => (K h).e (Bk h) i k) _ l
theorem dfg_at (l : Fin 64) (k : Fin 128) : updF V0 (ix3 h l k) = (((K h).dfg (Bk h) l k : ℝ) : EReal) := by
  have h1 := win_at H h l k
  have h2 := slope_at H h l k
  pointwise [updF]
  rw [h1, h2, ofBits_16_f32, div_coe' (by norm_num), ← EReal.coe_neg, ← EReal.coe_mul, ← EReal.coe_neg]
  congr 1; unfold Chunk.dfg; ring

end

end Cert.ReferenceIdeal.Gla
-- ==== Proof.Norm.lean ====
module

public import proofs.«01_k».proof.Proof.Tile
public import proofs.«01_k».proof.Proof.Ref1

@[expose] public section

/-! A row's root-mean-square norm over the real numbers, and the gradient pulled back through it. -/

noncomputable section

namespace Cert.Norm

open Idealize.ShloMosaic Cert.Gla

variable (d g x r : Fin 1024 → ℝ)

/-- The mean of the row's squares, with the norm's offset. -/
def var : ℝ := (∑ q, x q * x q) / 1024 + eps

def rstd : ℝ := (Real.sqrt (var x))⁻¹

/-- The row, normed. -/
def xn (q : Fin 1024) : ℝ := x q * rstd x

/-- The gradient of a row before its norm, with what comes beside it: `d` is the gradient after the norm and its gain `g`. -/
def dx (q : Fin 1024) : ℝ := r q + rstd x * (d q * g q - xn x q * ((∑ w, d w * g w * xn x w) / 1024))

theorem var_pos : 0 < var x := by
  have h1 : 0 ≤ ∑ v, x v * x v := Finset.sum_nonneg fun v _ => mul_self_nonneg _
  have h2 := ofBits_eps_f32.2
  unfold var
  positivity

/-- The gradient with the gradient of the mean of squares spelled out. -/
theorem dx_eq (q : Fin 1024) :
    r q + (d q * g q * rstd x
      + x q * ((∑ w, x w * (d w * g w)) * (-(1 / 2) * (rstd x / var x)) / 1024)
      + (∑ w, x w * (d w * g w)) * (-(1 / 2) * (rstd x / var x)) / 1024 * x q) = dx d g x r q := by
  have hp := var_pos x
  have hs : (∑ w, d w * g w * xn x w) = (∑ w, x w * (d w * g w)) * rstd x := by
    rw [Finset.sum_mul]; refine Finset.sum_congr rfl fun w _ => ?_
    unfold xn; ring
  have hr : rstd x / var x = rstd x * rstd x * rstd x := by
    have hq : rstd x * rstd x = (var x)⁻¹ := by
      unfold rstd; rw [← mul_inv, Real.mul_self_sqrt hp.le]
    rw [hq, div_eq_mul_inv, mul_comm]
  unfold dx
  rw [hs, hr]; unfold xn; ring

theorem ofBits_1024_f32 : Ideal.ofBits .f32 0x44800000#32 = ((1024 : ℝ) : EReal) := by
  simp [Ideal.ofBits, Ideal.ieee]; rw [← EReal.coe_mul]; norm_num

end Cert.Norm

end
-- ==== Proof.NormInVal.lean ====
module

public import proofs.«01_k».proof.Proof.Norm
public import proofs.«01_k».proof.Proof.Gen.NormInIdeal.Value

@[expose] public section

set_option maxRecDepth 16384

/-! The gradient before the mixer's norm: the arrays the kernel leaves. -/

noncomputable section

open Idealize.ShloMosaic Idealize.ShloMosaic.TcCoe Idealize.SL.Sem

namespace Cert.NormInIdeal.Calc
open Cert.NormInIdeal Cert.NormInIdeal.Gen Cert.Tile Cert.Gla

/-! ## The arrays, of the arguments' reals -/

/-- The gradient after the norm: the product of the gradient of the projection with its weight. -/
def dh (a : Fin 4096 → Fin 8320 → ℝ) (b : Fin 1024 → Fin 8320 → ℝ) (p : Fin 4096) (q : Fin 1024) : ℝ := ∑ k, a p k * b q k

/-- The gradient before the norm, beside the residual's. -/
def dxA (a : Fin 4096 → Fin 8320 → ℝ) (b : Fin 1024 → Fin 8320 → ℝ) (x : Fin 4096 → Fin 1024 → ℝ) (g : Fin 1024 → ℝ) (r : Fin 4096 → Fin 1024 → ℝ) :
    Vec Ideal S4096x1024 .f32 := fun i => ((Norm.dx (dh a b (i 0)) g (x (i 0)) (r (i 0)) (i 1) : ℝ) : EReal)

/-- The same in the narrow format, which is the same number. -/
def dx16A (a : Fin 4096 → Fin 8320 → ℝ) (b : Fin 1024 → Fin 8320 → ℝ) (x : Fin 4096 → Fin 1024 → ℝ) (g : Fin 1024 → ℝ) (r : Fin 4096 → Fin 1024 → ℝ) :
    Vec Ideal S4096x1024 .bf16 := fun i => ((Norm.dx (dh a b (i 0)) g (x (i 0)) (r (i 0)) (i 1) : ℝ) : EReal)

/-- The gain's gradient, on each of eight rows. -/
def dgA (a : Fin 4096 → Fin 8320 → ℝ) (b : Fin 1024 → Fin 8320 → ℝ) (x : Fin 4096 → Fin 1024 → ℝ) : Vec Ideal S8x1024 .f32 :=
  fun i => ((∑ p, dh a b p (i 1) * Norm.xn (x p) (i 1) : ℝ) : EReal)

theorem dxA_at (a : Fin 4096 → Fin 8320 → ℝ) (b : Fin 1024 → Fin 8320 → ℝ) (x : Fin 4096 → Fin 1024 → ℝ) (g : Fin 1024 → ℝ) (r : Fin 4096 → Fin 1024 → ℝ)
    {i : S4096x1024.Idx} {p : Fin 4096} {q : Fin 1024} (h0 : (i 0 : ℕ) = p) (h1 : (i 1 : ℕ) = q) :
    dxA a b x g r i = ((Norm.dx (dh a b p) g (x p) (r p) q : ℝ) : EReal) := by
  obtain rfl : i 0 = p := Fin.ext h0
  obtain rfl : i 1 = q := Fin.ext h1
  rfl
theorem dx16A_at (a : Fin 4096 → Fin 8320 → ℝ) (b : Fin 1024 → Fin 8320 → ℝ) (x : Fin 4096 → Fin 1024 → ℝ) (g : Fin 1024 → ℝ) (r : Fin 4096 → Fin 1024 → ℝ)
    {i : S4096x1024.Idx} {p : Fin 4096} {q : Fin 1024} (h0 : (i 0 : ℕ) = p) (h1 : (i 1 : ℕ) = q) :
    dx16A a b x g r i = ((Norm.dx (dh a b p) g (x p) (r p) q : ℝ) : EReal) := by
  obtain rfl : i 0 = p := Fin.ext h0
  obtain rfl : i 1 = q := Fin.ext h1
  rfl
theorem dgA_at (a : Fin 4096 → Fin 8320 → ℝ) (b : Fin 1024 → Fin 8320 → ℝ) (x : Fin 4096 → Fin 1024 → ℝ)
    {i : S8x1024.Idx} {q : Fin 1024} (h1 : (i 1 : ℕ) = q) :
    dgA a b x i = ((∑ p, dh a b p q * Norm.xn (x p) q : ℝ) : EReal) := by
  obtain rfl : i 1 = q := Fin.ext h1
  rfl

/-! ## What a grid point computes from blocks that hold reals -/

theorem pay6_at {v16 : Vec Ideal S1024x1024 .f32} {x : Fin 1024 → ℝ} (p : Fin 1024) (hx : ∀ q : Fin 1024, (v16 (ix2 p q) : EReal) = ((x q : ℝ) : EReal)) :
    k0_pay6 (F := Ideal) v16 (ix2 p 0) = ((Norm.rstd x : ℝ) : EReal) := by
  pointwise [k0_pay6]
  simp only [hx, ← EReal.coe_mul, ← coe_sum, Norm.ofBits_1024_f32, ofBits_eps_f32.1, div_coe' (show (1024 : ℝ) ≠ 0 by norm_num), ← EReal.coe_add]
  rw [← Norm.var, rsqrt_coe' (Norm.var_pos x)]; rfl

theorem pay7_at {v16 : Vec Ideal S1024x1024 .f32} {x : Fin 1024 → ℝ} (p : Fin 1024) (hx : ∀ q : Fin 1024, (v16 (ix2 p q) : EReal) = ((x q : ℝ) : EReal)) (q : Fin 1024) :
    k0_pay7 (F := Ideal) v16 (ix2 p q) = ((Norm.xn x q : ℝ) : EReal) := by
  have h1 := pay6_at p hx
  have h2 := hx q
  pointwise [k0_pay7]
  rw [h1, h2, ← EReal.coe_mul]; rfl

theorem pay8_at {v2 v14 v16 v30 : Vec Ideal S1024x1024 .f32} {v27 : Vec Ideal S1x1024 .f32} {d g x r : Fin 1024 → ℝ} (p : Fin 1024)
    (hd : ∀ q : Fin 1024, (k0_pay5 (F := Ideal) v2 v14 (ix2 p q) : EReal) = ((d q : ℝ) : EReal)) (hg : ∀ q : Fin 1024, (v27 (ix2 0 q) : EReal) = ((g q : ℝ) : EReal))
    (hx : ∀ q : Fin 1024, (v16 (ix2 p q) : EReal) = ((x q : ℝ) : EReal)) (hr : ∀ q : Fin 1024, (v30 (ix2 p q) : EReal) = ((r q : ℝ) : EReal)) (q : Fin 1024) :
    k0_pay8 (F := Ideal) v2 v14 v16 v27 v30 (ix2 p q) = ((Norm.dx d g x r q : ℝ) : EReal) := by
  have h6 := pay6_at p hx
  have h7 := pay7_at p hx
  pointwise [k0_pay8]
  simp only [hd, hg, hr, h6, h7, ← EReal.coe_mul, ← coe_sum, Norm.ofBits_1024_f32, div_coe' (show (1024 : ℝ) ≠ 0 by norm_num), ← EReal.coe_add, ← EReal.coe_sub]
  rfl

theorem pay10_at {v2 v14 v16 : Vec Ideal S1024x1024 .f32} {d x : Fin 1024 → Fin 1024 → ℝ}
    (hd : ∀ p q : Fin 1024, (k0_pay5 (F := Ideal) v2 v14 (ix2 p q) : EReal) = ((d p q : ℝ) : EReal))
    (hx : ∀ p q : Fin 1024, (v16 (ix2 p q) : EReal) = ((x p q : ℝ) : EReal)) (e : Fin 8) (q : Fin 1024) :
    k0_pay10 (F := Ideal) v2 v14 v16 (ix2 e q) = ((∑ p, d p q * Norm.xn (x p) q : ℝ) : EReal) := by
  have h7 : ∀ p : Fin 1024, k0_pay7 (F := Ideal) v16 (ix2 p q) = _ := fun p => pay7_at p (hx p) q
  pointwise [k0_pay10]
  simp only [hd, h7, ← EReal.coe_mul, ← coe_sum]

/-! ## The blocks -/

variable (m : (ℓ : Loc nD τ sig) → Buf (Elt Ideal) ℓ) (c : Dev nD)

theorem idx : ∀ t : Fin cfg0.N, win0_0.index t = ![t.val / 5, t.val % 5] ∧ win0_1.index t = ![0, t.val % 5] ∧ win0_2.index t = ![t.val / 5, 0]
    ∧ win0_3.index t = ![0, 0] ∧ win0_4.index t = ![t.val / 5, 0] ∧ win0_5.index t = ![t.val / 5, 0] ∧ win0_6.index t = ![t.val / 5, 0] ∧ win0_7.index t = ![0, 0] :=
  (by decide +kernel : ∀ t : Fin grid0.N, _)
theorem lt_N (t : Fin cfg0.N) : t.val < 20 := lt_of_lt_of_eq t.isLt N_0

/-- The arguments. -/
abbrev A0 : Vec Ideal S4096x8320 .bf16 := m ((c : Thread nD τ).loc main_arg0)
abbrev A1 : Vec Ideal S1024x8320 .bf16 := m ((c : Thread nD τ).loc main_arg1)
abbrev A2 : Vec Ideal S4096x1024 .f32 := m ((c : Thread nD τ).loc main_arg2)
abbrev A3 : Vec Ideal S1x1024 .f32 := m ((c : Thread nD τ).loc main_arg3)
abbrev A4 : Vec Ideal S4096x1024 .f32 := m ((c : Thread nD τ).loc main_arg4)

/-- The arguments are reals. -/
structure At (a : Fin 4096 → Fin 8320 → ℝ) (b : Fin 1024 → Fin 8320 → ℝ) (x : Fin 4096 → Fin 1024 → ℝ) (g : Fin 1024 → ℝ) (r : Fin 4096 → Fin 1024 → ℝ) : Prop where
  a : ∀ p k, (A0 m c (ix2 p k) : EReal) = ((a p k : ℝ) : EReal)
  b : ∀ q k, (A1 m c (ix2 q k) : EReal) = ((b q k : ℝ) : EReal)
  x : ∀ p q, (A2 m c (ix2 p q) : EReal) = ((x p q : ℝ) : EReal)
  g : ∀ q, (A3 m c (ix2 0 q) : EReal) = ((g q : ℝ) : EReal)
  r : ∀ p q, (A4 m c (ix2 p q) : EReal) = ((r p q : ℝ) : EReal)

/-- The row of the arrays that row `p` of a point's blocks is. -/
def row (t : Fin cfg0.N) (p : Fin 1024) : Fin 4096 := ⟨1024 * (t.val / 5) + p, by have := lt_N t; omega⟩

theorem rd2 (t : Fin cfg0.N) (p q : Fin 1024) : (iblk m c 2 t : Vec Ideal S1024x1024 .f32) (ix2 p q) = A2 m c (ix2 (row t p) q) := by
  have := lt_N t
  blk_point [iblk, V, idx t, row]
theorem rd3 (t : Fin cfg0.N) (q : Fin 1024) : (iblk m c 3 t : Vec Ideal S1x1024 .f32) (ix2 0 q) = A3 m c (ix2 0 q) := by
  blk_point [iblk, V, idx t]
theorem rd4 (t : Fin cfg0.N) (p q : Fin 1024) : (iblk m c 4 t : Vec Ideal S1024x1024 .f32) (ix2 p q) = A4 m c (ix2 (row t p) q) := by
  have := lt_N t
  blk_point [iblk, V, idx t, row]

/-- What one grid point adds: the product of its blocks. -/
def part (t : Fin cfg0.N) : FVec Ideal S1024x1024 .f32 := k0_pay1 (F := Ideal) (iblk m c 0 t) (iblk m c 1 t)

theorem part_at (t : Fin cfg0.N) (j : ℕ) (hj : j < 5) (h : t.val % 5 = j) (P : Fin 4096) (p : Fin 1024) (hP : (P : ℕ) = 1024 * (t.val / 5) + p) (q : Fin 1024) :
    part m c t (ix2 p q) = (∑ k : Fin 1664, (A0 m c (ix2 P (at_ 8320 1664 5 j hj rfl k)) : EReal)
      * (A1 m c (ix2 q (at_ 8320 1664 5 j hj rfl k)) : EReal) : EReal) := by
  have ht := lt_N t
  obtain rfl : P = row t p := Fin.ext hP
  have e0 : ∀ k : Fin 1664, (iblk m c 0 t : Vec Ideal S1024x1664 .bf16) (ix2 p k)
      = A0 m c (ix2 (row t p) (at_ 8320 1664 5 j hj rfl k)) := by
    intro k
    subst h
    blk_point [iblk, V, idx t, at_, row]
  have e1 : ∀ k : Fin 1664, (iblk m c 1 t : Vec Ideal S1024x1664 .bf16) (ix2 q k)
      = A1 m c (ix2 q (at_ 8320 1664 5 j hj rfl k)) := by
    intro k
    subst h
    blk_point [iblk, V, idx t, at_]
  have e : ∀ (x0 : Vec Ideal S1024x1664 .bf16) (x1 : Vec Ideal S1024x1664 .bf16),
      k0_pay1 (F := Ideal) x0 x1 (ix2 p q) = (∑ k : Fin 1664, (x0 (ix2 p k) : EReal) * (x1 (ix2 q k) : EReal) : EReal) := by
    intro x0 x1
    pointwise [k0_pay1]
  refine (e _ _).trans ?_
  simp only [e0, e1]

/-! ## What each kind of point leaves -/

section
variable (i : grid0.Coords) (a2 : Memref sig .tc .vmem S1024x1664 .bf16) (h2 : a2.IsWhole) (a3 : Memref sig .tc .vmem S1024x1664 .bf16) (h3 : a3.IsWhole)
  (a4 : Memref sig .tc .vmem S1024x1024 .f32) (h4 : a4.IsWhole) (a5 : Memref sig .tc .vmem S1x1024 .f32) (h5 : a5.IsWhole) (a6 : Memref sig .tc .vmem S1024x1024 .f32) (h6 : a6.IsWhole)
  (a7 : Memref sig .tc .vmem S1024x1024 .f32) (h7 : a7.IsWhole) (a8 : Memref sig .tc .vmem S1024x1024 .bf16) (h8 : a8.IsWhole) (a9 : Memref sig .tc .vmem S8x1024 .f32) (h9 : a9.IsWhole)
  (a10 : Memref sig .tc .vmem S1024x1024 .f32) (h10 : a10.IsWhole)
  (x0 : Vec Ideal S1024x1664 .bf16) (x1 : Vec Ideal S1024x1664 .bf16) (x2 : Vec Ideal S1024x1024 .f32) (x3 : Vec Ideal S1x1024 .f32) (x4 : Vec Ideal S1024x1024 .f32)
  (xo : Vec Ideal S8x1024 .f32) (xs : Vec Ideal S1024x1024 .f32)

/-- The first point of a row block writes its product to the running sum. -/
theorem scratch_A (hc0 : cond0_0 i) (hc1 : ¬cond0_1 i) (hc2 : ¬cond0_2 i) :
    sout0_A_0 c i a2 h2 a3 h3 a4 h4 a5 h5 a6 h6 a7 h7 a8 h8 a9 h9 a10 h10 hc0 hc1 hc2 x0 x1 x2 x3 x4 = k0_pay1 x0 x1 := by
  unfold sout0_A_0
  rw [View.read_writes_eq_canon _ _ _ (scover0_A_0 c i a2 h2 a3 h3 a4 h4 a5 h5 a6 h6 a7 h7 a8 h8 a9 h9 a10 h10 hc0 hc1 hc2 x0 x1 x2 x3 x4)]
  unfold kernelRun0_A
  dsimp only
  rw [View.canon_unit_zero zero2]
  unfold k0_pay2
  simp only [View.readAt_eq_ld, h2.read_unread, h3.read_unread, h4.read_unread, h5.read_unread, h6.read_unread, h9.read_unread, h10.read_unread, View.ld_unit_zero (S := S1024x1664) zero2, View.ld_unit_zero (S := S1024x1024) zero2, View.ld_unit_zero (S := S1x1024) zero2, View.ld_unit_zero (S := S8x1024) zero2, shapeCast_self]

/-- The next ones add theirs. -/
theorem scratch_B (hc0 : ¬cond0_0 i) (hc1 : cond0_1 i) (hc2 : ¬cond0_2 i) :
    sout0_B_0 c i a2 h2 a3 h3 a4 h4 a5 h5 a6 h6 a7 h7 a8 h8 a9 h9 a10 h10 hc0 hc1 hc2 x0 x1 x2 x3 x4 xs = addf xs (k0_pay1 x0 x1) := by
  unfold sout0_B_0
  rw [View.read_writes_eq_canon _ _ _ (scover0_B_0 c i a2 h2 a3 h3 a4 h4 a5 h5 a6 h6 a7 h7 a8 h8 a9 h9 a10 h10 hc0 hc1 hc2 x0 x1 x2 x3 x4 xs)]
  unfold kernelRun0_B
  dsimp only
  rw [View.canon_unit_zero zero2]
  unfold k0_pay3
  simp only [View.readAt_eq_ld, h2.read_unread, h3.read_unread, h4.read_unread, h5.read_unread, h6.read_unread, h9.read_unread, h10.read_unread, View.ld_unit_zero (S := S1024x1664) zero2, View.ld_unit_zero (S := S1024x1024) zero2, View.ld_unit_zero (S := S1x1024) zero2, View.ld_unit_zero (S := S8x1024) zero2, shapeCast_self]

/-- The last writes the gradient before the norm, and writes or adds the gain's. -/
theorem dx_C (hc0 : ¬cond0_0 i) (hc1 : ¬cond0_1 i) (hc2 : cond0_2 i) (hc3 : cond0_3 i) (hc4 : ¬cond0_4 i) :
    out0_C_5 c i a2 h2 a3 h3 a4 h4 a5 h5 a6 h6 a7 h7 a8 h8 a9 h9 a10 h10 hc0 hc1 hc2 hc3 hc4 x0 x1 x2 x3 x4 xs = k0_pay8 (k0_pay1 x0 x1) xs x2 x3 x4 := by
  unfold out0_C_5
  rw [View.read_writes_eq_canon _ _ _ (cover0_C_5 c i a2 h2 a3 h3 a4 h4 a5 h5 a6 h6 a7 h7 a8 h8 a9 h9 a10 h10 hc0 hc1 hc2 hc3 hc4 x0 x1 x2 x3 x4 xs)]
  unfold kernelRun0_C
  dsimp only
  rw [View.canon_unit_zero zero2]
  simp only [View.readAt_eq_ld, h2.read_unread, h3.read_unread, h4.read_unread, h5.read_unread, h6.read_unread, h9.read_unread, h10.read_unread, View.ld_unit_zero (S := S1024x1664) zero2, View.ld_unit_zero (S := S1024x1024) zero2, View.ld_unit_zero (S := S1x1024) zero2, View.ld_unit_zero (S := S8x1024) zero2, shapeCast_self]
theorem dx16_C (hc0 : ¬cond0_0 i) (hc1 : ¬cond0_1 i) (hc2 : cond0_2 i) (hc3 : cond0_3 i) (hc4 : ¬cond0_4 i) :
    out0_C_6 c i a2 h2 a3 h3 a4 h4 a5 h5 a6 h6 a7 h7 a8 h8 a9 h9 a10 h10 hc0 hc1 hc2 hc3 hc4 x0 x1 x2 x3 x4 xs = k0_pay9 (k0_pay1 x0 x1) xs x2 x3 x4 := by
  unfold out0_C_6
  rw [View.read_writes_eq_canon _ _ _ (cover0_C_6 c i a2 h2 a3 h3 a4 h4 a5 h5 a6 h6 a7 h7 a8 h8 a9 h9 a10 h10 hc0 hc1 hc2 hc3 hc4 x0 x1 x2 x3 x4 xs)]
  unfold kernelRun0_C
  dsimp only
  rw [View.canon_unit_zero zero2]
  simp only [View.readAt_eq_ld, h2.read_unread, h3.read_unread, h4.read_unread, h5.read_unread, h6.read_unread, h9.read_unread, h10.read_unread, View.ld_unit_zero (S := S1024x1664) zero2, View.ld_unit_zero (S := S1024x1024) zero2, View.ld_unit_zero (S := S1x1024) zero2, View.ld_unit_zero (S := S8x1024) zero2, shapeCast_self]
theorem dg_C (hc0 : ¬cond0_0 i) (hc1 : ¬cond0_1 i) (hc2 : cond0_2 i) (hc3 : cond0_3 i) (hc4 : ¬cond0_4 i) :
    out0_C_7 c i a2 h2 a3 h3 a4 h4 a5 h5 a6 h6 a7 h7 a8 h8 a9 h9 a10 h10 hc0 hc1 hc2 hc3 hc4 x0 x1 x2 x3 x4 xs = k0_pay10 (k0_pay1 x0 x1) xs x2 := by
  unfold out0_C_7
  rw [View.read_writes_eq_canon _ _ _ (cover0_C_7 c i a2 h2 a3 h3 a4 h4 a5 h5 a6 h6 a7 h7 a8 h8 a9 h9 a10 h10 hc0 hc1 hc2 hc3 hc4 x0 x1 x2 x3 x4 xs)]
  unfold kernelRun0_C
  dsimp only
  rw [View.canon_unit_zero zero2]
  unfold kernelRun0_C.sl.r
  simp only [View.readAt_eq_ld, h2.read_unread, h3.read_unread, h4.read_unread, h5.read_unread, h6.read_unread, h9.read_unread, h10.read_unread, View.ld_unit_zero (S := S1024x1664) zero2, View.ld_unit_zero (S := S1024x1024) zero2, View.ld_unit_zero (S := S1x1024) zero2, View.ld_unit_zero (S := S8x1024) zero2, shapeCast_self]
theorem dx_D (hc0 : ¬cond0_0 i) (hc1 : ¬cond0_1 i) (hc2 : cond0_2 i) (hc3 : ¬cond0_3 i) (hc4 : cond0_4 i) :
    out0_D_5 c i a2 h2 a3 h3 a4 h4 a5 h5 a6 h6 a7 h7 a8 h8 a9 h9 a10 h10 hc0 hc1 hc2 hc3 hc4 x0 x1 x2 x3 x4 xo xs = k0_pay8 (k0_pay1 x0 x1) xs x2 x3 x4 := by
  unfold out0_D_5
  rw [View.read_writes_eq_canon _ _ _ (cover0_D_5 c i a2 h2 a3 h3 a4 h4 a5 h5 a6 h6 a7 h7 a8 h8 a9 h9 a10 h10 hc0 hc1 hc2 hc3 hc4 x0 x1 x2 x3 x4 xo xs)]
  unfold kernelRun0_D
  dsimp only
  rw [View.canon_unit_zero zero2]
  simp only [View.readAt_eq_ld, h2.read_unread, h3.read_unread, h4.read_unread, h5.read_unread, h6.read_unread, h9.read_unread, h10.read_unread, View.ld_unit_zero (S := S1024x1664) zero2, View.ld_unit_zero (S := S1024x1024) zero2, View.ld_unit_zero (S := S1x1024) zero2, View.ld_unit_zero (S := S8x1024) zero2, shapeCast_self]
theorem dx16_D (hc0 : ¬cond0_0 i) (hc1 : ¬cond0_1 i) (hc2 : cond0_2 i) (hc3 : ¬cond0_3 i) (hc4 : cond0_4 i) :
    out0_D_6 c i a2 h2 a3 h3 a4 h4 a5 h5 a6 h6 a7 h7 a8 h8 a9 h9 a10 h10 hc0 hc1 hc2 hc3 hc4 x0 x1 x2 x3 x4 xo xs = k0_pay9 (k0_pay1 x0 x1) xs x2 x3 x4 := by
  unfold out0_D_6
  rw [View.read_writes_eq_canon _ _ _ (cover0_D_6 c i a2 h2 a3 h3 a4 h4 a5 h5 a6 h6 a7 h7 a8 h8 a9 h9 a10 h10 hc0 hc1 hc2 hc3 hc4 x0 x1 x2 x3 x4 xo xs)]
  unfold kernelRun0_D
  dsimp only
  rw [View.canon_unit_zero zero2]
  simp only [View.readAt_eq_ld, h2.read_unread, h3.read_unread, h4.read_unread, h5.read_unread, h6.read_unread, h9.read_unread, h10.read_unread, View.ld_unit_zero (S := S1024x1664) zero2, View.ld_unit_zero (S := S1024x1024) zero2, View.ld_unit_zero (S := S1x1024) zero2, View.ld_unit_zero (S := S8x1024) zero2, shapeCast_self]
theorem dg_D (hc0 : ¬cond0_0 i) (hc1 : ¬cond0_1 i) (hc2 : cond0_2 i) (hc3 : ¬cond0_3 i) (hc4 : cond0_4 i) :
    out0_D_7 c i a2 h2 a3 h3 a4 h4 a5 h5 a6 h6 a7 h7 a8 h8 a9 h9 a10 h10 hc0 hc1 hc2 hc3 hc4 x0 x1 x2 x3 x4 xo xs = addf xo (k0_pay10 (k0_pay1 x0 x1) xs x2) := by
  unfold out0_D_7
  rw [View.read_writes_eq_canon _ _ _ (cover0_D_7 c i a2 h2 a3 h3 a4 h4 a5 h5 a6 h6 a7 h7 a8 h8 a9 h9 a10 h10 hc0 hc1 hc2 hc3 hc4 x0 x1 x2 x3 x4 xo xs)]
  unfold kernelRun0_D
  dsimp only
  rw [View.canon_unit_zero zero2]
  unfold k0_pay4
  unfold kernelRun0_D.sl.r
  simp only [View.readAt_eq_ld, h2.read_unread, h3.read_unread, h4.read_unread, h5.read_unread, h6.read_unread, h9.read_unread, h10.read_unread, View.ld_unit_zero (S := S1024x1664) zero2, View.ld_unit_zero (S := S1024x1024) zero2, View.ld_unit_zero (S := S1x1024) zero2, View.ld_unit_zero (S := S8x1024) zero2, shapeCast_self]
end

/-! ## The state after each point -/

theorem run_A (t : Fin cfg0.N) (h : t.val % 5 = 0) : (outsAt0 m c t.val t.isLt).2.2.2 = part m c t := by
  rw [outsAt0_A m c t h (by omega) (by omega)]
  dsimp only
  rw [scratch_A]
  rfl
theorem run_B (t u : Fin cfg0.N) (h : 1 ≤ t.val % 5 ∧ t.val % 5 ≤ 3) (hu : t.val - 1 = u.val) :
    (outsAt0 m c t.val t.isLt).2.2.2 = addf (F := Ideal) (s := S1024x1024) (φ := .f32) (outsAt0 m c u.val u.isLt).2.2.2 (part m c t) := by
  rw [outsAt0_B m c t (by omega) h (by omega)]
  simp only [hu]
  rw [scratch_B]
  rfl

/-- The gain's gradient is kept until a row block's last point. -/
theorem keep (t u : Fin cfg0.N) (h : t.val % 5 ≠ 4) (hu : t.val - 1 = u.val) :
    (outsAt0 m c t.val t.isLt).2.2.1 = (outsAt0 m c u.val u.isLt).2.2.1 := by
  have hm : t.val % 5 < 5 := Nat.mod_lt _ (by decide)
  by_cases h0 : t.val % 5 = 0
  · rw [outsAt0_A m c t h0 (by omega) (by omega)]
    simp only [hu]
    rfl
  · rw [outsAt0_B m c t h0 (by omega) (by omega)]
    simp only [hu]
    rfl

/-- What a row block adds to the gain's gradient. -/
def add (t u : Fin cfg0.N) : FVec Ideal S8x1024 .f32 := k0_pay10 (F := Ideal) (part m c t) (outsAt0 m c u.val u.isLt).2.2.2 (iblk m c 2 t)

theorem last5 (t u : Fin cfg0.N) (h : t.val % 5 = 4) (hu : t.val - 1 = u.val) :
    (outsAt0 m c t.val t.isLt).1 = k0_pay8 (F := Ideal) (part m c t) (outsAt0 m c u.val u.isLt).2.2.2 (iblk m c 2 t) (iblk m c 3 t) (iblk m c 4 t) := by
  by_cases h0 : t.val < 5
  · rw [outsAt0_C m c t (by omega) (by omega) h h0 (by omega)]
    simp only [hu]
    rw [dx_C]
    rfl
  · rw [outsAt0_D m c t (by omega) (by omega) h h0 (by omega)]
    simp only [hu]
    rw [dx_D]
    rfl
theorem last6 (t u : Fin cfg0.N) (h : t.val % 5 = 4) (hu : t.val - 1 = u.val) :
    (outsAt0 m c t.val t.isLt).2.1 = k0_pay9 (F := Ideal) (part m c t) (outsAt0 m c u.val u.isLt).2.2.2 (iblk m c 2 t) (iblk m c 3 t) (iblk m c 4 t) := by
  by_cases h0 : t.val < 5
  · rw [outsAt0_C m c t (by omega) (by omega) h h0 (by omega)]
    simp only [hu]
    rw [dx16_C]
    rfl
  · rw [outsAt0_D m c t (by omega) (by omega) h h0 (by omega)]
    simp only [hu]
    rw [dx16_D]
    rfl
theorem last7_C (t u : Fin cfg0.N) (h : t.val = 4) (hu : t.val - 1 = u.val) :
    (outsAt0 m c t.val t.isLt).2.2.1 = add m c t u := by
  rw [outsAt0_C m c t (by omega) (by omega) (by omega) (by omega) (by omega)]
  simp only [hu]
  rw [dg_C]
  rfl
theorem last7_D (t u : Fin cfg0.N) (h : t.val % 5 = 4) (h0 : 5 ≤ t.val) (hu : t.val - 1 = u.val) :
    (outsAt0 m c t.val t.isLt).2.2.1 = addf (F := Ideal) (s := S8x1024) (φ := .f32) (outsAt0 m c u.val u.isLt).2.2.1 (add m c t u) := by
  rw [outsAt0_D m c t (by omega) (by omega) h (by omega) h0]
  simp only [hu]
  rw [dg_D]
  rfl

/-! ## The arrays -/

section
variable {m c} {a : Fin 4096 → Fin 8320 → ℝ} {b : Fin 1024 → Fin 8320 → ℝ} {x : Fin 4096 → Fin 1024 → ℝ} {g : Fin 1024 → ℝ} {r : Fin 4096 → Fin 1024 → ℝ}
  (H : At m c a b x g r)
include H

theorem rd2_at (t : Fin cfg0.N) (p q : Fin 1024) : (iblk m c 2 t : Vec Ideal S1024x1024 .f32) (ix2 p q) = ((x (row t p) q : ℝ) : EReal) := (rd2 m c t p q).trans (H.x _ _)
theorem rd3_at (t : Fin cfg0.N) (q : Fin 1024) : (iblk m c 3 t : Vec Ideal S1x1024 .f32) (ix2 0 q) = ((g q : ℝ) : EReal) := (rd3 m c t q).trans (H.g _)
theorem rd4_at (t : Fin cfg0.N) (p q : Fin 1024) : (iblk m c 4 t : Vec Ideal S1024x1024 .f32) (ix2 p q) = ((r (row t p) q : ℝ) : EReal) := (rd4 m c t p q).trans (H.r _ _)

/-- At a row block's last point the running sum and the point's product make the whole product. -/
theorem dh_at (t u : Fin cfg0.N) (h : t.val % 5 = 4) (hu : t.val - 1 = u.val) (p q : Fin 1024) :
    k0_pay5 (F := Ideal) (part m c t) (outsAt0 m c u.val u.isLt).2.2.2 (ix2 p q) = ((dh a b (row t p) q : ℝ) : EReal) := by
  have ht := lt_N t
  have hN : cfg0.N = 20 := N_0
  let s0 : Fin cfg0.N := ⟨t.val - 4, by omega⟩
  have e0 : s0.val = t.val - 4 := rfl
  let s1 : Fin cfg0.N := ⟨t.val - 3, by omega⟩
  have e1 : s1.val = t.val - 3 := rfl
  let s2 : Fin cfg0.N := ⟨t.val - 2, by omega⟩
  have e2 : s2.val = t.val - 2 := rfl
  rw [run_B m c u s2 (by omega) (by omega), run_B m c s2 s1 (by omega) (by omega), run_B m c s1 s0 (by omega) (by omega), run_A m c s0 (by omega)]
  have e : ∀ a0 a1 a2 a3 a4 : Vec Ideal S1024x1024 .f32, (k0_pay5 (F := Ideal) a4 (addf (F := Ideal) (s := S1024x1024) (φ := .f32) (addf (F := Ideal) (s := S1024x1024) (φ := .f32) (addf (F := Ideal) (s := S1024x1024) (φ := .f32) a0 a1) a2) a3) : FVec Ideal S1024x1024 .f32) (ix2 p q)
      = (((a0 (ix2 p q) : EReal) + (a1 (ix2 p q) : EReal) + (a2 (ix2 p q) : EReal) + (a3 (ix2 p q) : EReal) + (a4 (ix2 p q) : EReal) : EReal)) := fun _ _ _ _ _ => rfl
  refine (e _ _ _ _ _).trans ?_
  rw [part_at m c s0 0 (by decide) (by omega) (row t p) p (by dsimp only [row]; omega) q, part_at m c s1 1 (by decide) (by omega) (row t p) p (by dsimp only [row]; omega) q, part_at m c s2 2 (by decide) (by omega) (row t p) p (by dsimp only [row]; omega) q, part_at m c u 3 (by decide) (by omega) (row t p) p (by dsimp only [row]; omega) q, part_at m c t 4 (by decide) (by omega) (row t p) p rfl q]
  refine (sum_five (M := EReal) 8320 1664 rfl fun k => (A0 m c (ix2 (row t p) k) : EReal) * (A1 m c (ix2 q k) : EReal)).trans ?_
  simp only [H.a, H.b, ← EReal.coe_mul, ← coe_sum]
  rfl

theorem add_at (t u : Fin cfg0.N) (h : t.val % 5 = 4) (hu : t.val - 1 = u.val) (e : Fin 8) (q : Fin 1024) :
    add m c t u (ix2 e q) = ((∑ p, dh a b (row t p) q * Norm.xn (x (row t p)) q : ℝ) : EReal) :=
  pay10_at (d := fun p q => dh a b (row t p) q) (x := fun p q => x (row t p) q) (fun p q => dh_at H t u h hu p q) (fun p q => rd2_at H t p q) e q

theorem arr5 : (dats m 0 c).arrAt 5 cfg0.N = dxA a b x g r := by
  refine (dats m 0 c).arrAt_eq_of_covers 5 _ (by decide +kernel) fun t hf y => ?_
  have ht := lt_N t
  have h3 : t.val % 5 = 4 := (flush0_5 t).mp hf
  obtain ⟨p, q, rfl⟩ := exists_ix2 y
  blk_simp
  rw [after0_5]
  have hN : cfg0.N = 20 := N_0
  let u : Fin cfg0.N := ⟨t.val - 1, by omega⟩
  rw [last5 m c t u h3 rfl]
  refine (pay8_at p (dh_at H t u h3 rfl p) (rd3_at H t) (rd2_at H t p) (rd4_at H t p) q).trans ?_
  refine (dxA_at a b x g r ?_ ?_).symm
  · blk_simp [idx t]; dsimp only [row]; omega
  · blk_simp [idx t]

theorem arr6 : (dats m 0 c).arrAt 6 cfg0.N = dx16A a b x g r := by
  refine (dats m 0 c).arrAt_eq_of_covers 6 _ (by decide +kernel) fun t hf y => ?_
  have ht := lt_N t
  have h3 : t.val % 5 = 4 := (flush0_6 t).mp hf
  obtain ⟨p, q, rfl⟩ := exists_ix2 y
  blk_simp
  rw [after0_6]
  have hN : cfg0.N = 20 := N_0
  let u : Fin cfg0.N := ⟨t.val - 1, by omega⟩
  rw [last6 m c t u h3 rfl]
  refine (pay8_at p (dh_at H t u h3 rfl p) (rd3_at H t) (rd2_at H t p) (rd4_at H t p) q).trans ?_
  refine (dx16A_at a b x g r ?_ ?_).symm
  · blk_simp [idx t]; dsimp only [row]; omega
  · blk_simp [idx t]

theorem arr7 : (dats m 0 c).arrAt 7 cfg0.N = dgA a b x := by
  refine (dats m 0 c).arrAt_eq_of_covers 7 _ (by decide +kernel) fun t19 hf y => ?_
  have ht := lt_N t19
  have h3 : t19.val % 20 = 19 := (flush0_7 t19).mp hf
  obtain ⟨e, q, rfl⟩ := exists_ix2 y
  blk_simp
  rw [after0_7]
  have hN : cfg0.N = 20 := N_0
  obtain ⟨t3, z3⟩ : ∃ u : Fin cfg0.N, u.val = 3 := ⟨⟨3, by omega⟩, rfl⟩
  obtain ⟨t4, z4⟩ : ∃ u : Fin cfg0.N, u.val = 4 := ⟨⟨4, by omega⟩, rfl⟩
  obtain ⟨t5, z5⟩ : ∃ u : Fin cfg0.N, u.val = 5 := ⟨⟨5, by omega⟩, rfl⟩
  obtain ⟨t6, z6⟩ : ∃ u : Fin cfg0.N, u.val = 6 := ⟨⟨6, by omega⟩, rfl⟩
  obtain ⟨t7, z7⟩ : ∃ u : Fin cfg0.N, u.val = 7 := ⟨⟨7, by omega⟩, rfl⟩
  obtain ⟨t8, z8⟩ : ∃ u : Fin cfg0.N, u.val = 8 := ⟨⟨8, by omega⟩, rfl⟩
  obtain ⟨t9, z9⟩ : ∃ u : Fin cfg0.N, u.val = 9 := ⟨⟨9, by omega⟩, rfl⟩
  obtain ⟨t10, z10⟩ : ∃ u : Fin cfg0.N, u.val = 10 := ⟨⟨10, by omega⟩, rfl⟩
  obtain ⟨t11, z11⟩ : ∃ u : Fin cfg0.N, u.val = 11 := ⟨⟨11, by omega⟩, rfl⟩
  obtain ⟨t12, z12⟩ : ∃ u : Fin cfg0.N, u.val = 12 := ⟨⟨12, by omega⟩, rfl⟩
  obtain ⟨t13, z13⟩ : ∃ u : Fin cfg0.N, u.val = 13 := ⟨⟨13, by omega⟩, rfl⟩
  obtain ⟨t14, z14⟩ : ∃ u : Fin cfg0.N, u.val = 14 := ⟨⟨14, by omega⟩, rfl⟩
  obtain ⟨t15, z15⟩ : ∃ u : Fin cfg0.N, u.val = 15 := ⟨⟨15, by omega⟩, rfl⟩
  obtain ⟨t16, z16⟩ : ∃ u : Fin cfg0.N, u.val = 16 := ⟨⟨16, by omega⟩, rfl⟩
  obtain ⟨t17, z17⟩ : ∃ u : Fin cfg0.N, u.val = 17 := ⟨⟨17, by omega⟩, rfl⟩
  obtain ⟨t18, z18⟩ : ∃ u : Fin cfg0.N, u.val = 18 := ⟨⟨18, by omega⟩, rfl⟩
  rw [last7_D m c t19 t18 (by omega) (by omega) (by omega),
    keep m c t18 t17 (by omega) (by omega),
    keep m c t17 t16 (by omega) (by omega),
    keep m c t16 t15 (by omega) (by omega),
    keep m c t15 t14 (by omega) (by omega),
    last7_D m c t14 t13 (by omega) (by omega) (by omega),
    keep m c t13 t12 (by omega) (by omega),
    keep m c t12 t11 (by omega) (by omega),
    keep m c t11 t10 (by omega) (by omega),
    keep m c t10 t9 (by omega) (by omega),
    last7_D m c t9 t8 (by omega) (by omega) (by omega),
    keep m c t8 t7 (by omega) (by omega),
    keep m c t7 t6 (by omega) (by omega),
    keep m c t6 t5 (by omega) (by omega),
    keep m c t5 t4 (by omega) (by omega),
    last7_C m c t4 t3 (by omega) (by omega)]
  have ee : ∀ a0 a1 a2 a3 : Vec Ideal S8x1024 .f32, (addf (F := Ideal) (s := S8x1024) (φ := .f32) (addf (F := Ideal) (s := S8x1024) (φ := .f32) (addf (F := Ideal) (s := S8x1024) (φ := .f32) a0 a1) a2) a3 : Vec Ideal S8x1024 .f32) (ix2 e q)
      = (((a0 (ix2 e q) : EReal) + (a1 (ix2 e q) : EReal) + (a2 (ix2 e q) : EReal) + (a3 (ix2 e q) : EReal) : EReal)) := fun _ _ _ _ => rfl
  refine (ee _ _ _ _).trans ?_
  rw [add_at H t4 t3 (by omega) (by omega) e q, add_at H t9 t8 (by omega) (by omega) e q, add_at H t14 t13 (by omega) (by omega) e q, add_at H t19 t18 (by omega) (by omega) e q]
  rw [← EReal.coe_add, ← EReal.coe_add, ← EReal.coe_add]
  refine Eq.trans ?_ (dgA_at a b x (q := q) ?_).symm
  · refine congrArg _ ?_
    have w : ∀ (t : Fin cfg0.N) (j : ℕ) (hj : j < 4), t.val / 5 = j → row t = at_ 4096 1024 4 j hj rfl := by
      intro t j hj h
      subst h
      rfl
    rw [w t4 0 (by decide) (by omega), w t9 1 (by decide) (by omega), w t14 2 (by decide) (by omega), w t19 3 (by decide) (by omega)]
    exact sum_four (M := ℝ) 4096 1024 rfl fun p => dh a b p q * Norm.xn (x p) q
  · blk_simp [idx t19]
end

end Cert.NormInIdeal.Calc

end
-- ==== Proof.Pre.lean ====
module

public import proofs.«01_k».proof.Defs
public import proofs.«01_k».proof.Proof.Spec

@[expose] public section

set_option maxRecDepth 65536

/-! The precondition: what it says of every entry of an argument, and that its side conditions hold. -/

noncomputable section

open Idealize.ShloMosaic
namespace Cert.Pre_finite.Gla
open Cert.Pre_finite Cert.Gla

theorem facts : Cert.Pre_finite.Facts where
  bcast_S_S4096x8320 := by decide
  reducesTo_S4096x8320_S_d0_1 := by decide
  h_S_ := by decide
  bcast_S_S128x512 := by decide
  reducesTo_S128x512_S_d0_1 := by decide
  bcast_S_S1x512 := by decide
  reducesTo_S1x512_S_d0_1 := by decide
  bcast_S_S4x64x256x128 := by decide
  reducesTo_S4x64x256x128_S_d0_1_2_3 := by decide
  bcast_S_S4096x1024 := by decide
  reducesTo_S4096x1024_S_d0_1 := by decide
  bcast_S_S1x256 := by decide
  reducesTo_S1x256_S_d0_1 := by decide

theorem and_one {a b : BitVec 1} (h : IntOp.andi a b = 1#1) : a = 1#1 ∧ b = 1#1 := by
  revert a b; decide

/-- A conjunction along a list is true only if each conjunct is. -/
theorem each_of_fold {α : Type} (g : α → BitVec 1) : ∀ (l : List α) (a : BitVec 1),
    l.foldl (fun r n => IntOp.andi r (g n)) a = 1#1 → a = 1#1 ∧ ∀ n ∈ l, g n = 1#1
  | [], a, h => ⟨h, fun n hn => absurd hn List.not_mem_nil⟩
  | b :: l, a, h => by
    obtain ⟨h1, h2⟩ := each_of_fold g l _ h
    obtain ⟨h3, h4⟩ := and_one h1
    refine ⟨h3, fun n hn => ?_⟩
    rcases List.mem_cons.mp hn with rfl | hn
    · exact h4
    · exact h2 n hn

/-- An entry whose absolute value is below something is a real number. -/
theorem real_of_lt {φ : FTy} {x y : Ideal φ} (h : (FloatOps.cmpf .olt (FloatOps.hostAbsf x) y : BitVec 1) = 1#1) :
    (x : EReal) = ((EReal.toReal x : ℝ) : EReal) := by
  have h1 : (max (x : EReal) (-(x : EReal)) : EReal) < y := by
    by_contra hc
    have h0 : (FloatOps.cmpf .olt (FloatOps.hostAbsf x) y : BitVec 1) = BitVec.ofBool (decide ((max (x : EReal) (-(x : EReal)) : EReal) < y)) := rfl
    rw [h0, decide_eq_false hc] at h
    exact absurd h (by decide)
  have h2 := lt_of_lt_of_le h1 le_top
  refine (EReal.coe_toReal ?_ ?_).symm
  · rintro rfl
    simp at h2
  · rintro rfl
    simp at h2

theorem real_of_all {s : Shape} {φ : FTy} {axes : List (Fin s.rank)} (x y : FVec Ideal s φ) (v : IVec S_ 1) (h : s.ReducesTo axes S_) (hu : 0 < S_.numel)
    (e : Host.reduce IntOp.andi (cmpf .olt (Host.absf x) y) v h hu (Shape.Idx.first hu) = 1#1) (i : s.Idx) :
    (x i : EReal) = ((EReal.toReal (x i) : ℝ) : EReal) := by
  have h1 := (each_of_fold (fun n => cmpf .olt (Host.absf x) y (s.rowMajor.symm n)) _ _ e).2 (s.rowMajor i)
    (List.mem_filter.mpr ⟨List.mem_finRange _, decide_eq_true (funext fun d => d.elim0)⟩)
  have h2 : cmpf .olt (Host.absf x) y i = 1#1 := by simpa only [Equiv.symm_apply_apply] using h1
  exact real_of_lt h2

theorem reals {a0 : FVec Ideal S4096x8320 .bf16} {a1 : FVec Ideal S128x512 .bf16} {a2 : FVec Ideal S1x512 .f32} {a3 : FVec Ideal S4x64x256x128 .bf16}
    {a4 a5 : FVec Ideal S4096x1024 .bf16} {a6 : FVec Ideal S1x256 .f32} {a7 : FVec Ideal S4096x8320 .bf16}
    (h : @Cert.Pre_finite.fn facts Ideal _ a0 a1 a2 a3 a4 a5 a6 a7 = fun _ => 1#1) :
    (∀ i, (a0 i : EReal) = ((EReal.toReal (a0 i) : ℝ) : EReal)) ∧ (∀ i, (a1 i : EReal) = ((EReal.toReal (a1 i) : ℝ) : EReal))
    ∧ (∀ i, (a2 i : EReal) = ((EReal.toReal (a2 i) : ℝ) : EReal)) ∧ (∀ i, (a3 i : EReal) = ((EReal.toReal (a3 i) : ℝ) : EReal))
    ∧ (∀ i, (a4 i : EReal) = ((EReal.toReal (a4 i) : ℝ) : EReal)) ∧ (∀ i, (a5 i : EReal) = ((EReal.toReal (a5 i) : ℝ) : EReal))
    ∧ (∀ i, (a6 i : EReal) = ((EReal.toReal (a6 i) : ℝ) : EReal)) := by
  have e := congrFun h (Shape.Idx.first facts.h_S_)
  obtain ⟨e, e6⟩ := and_one e
  obtain ⟨e, e5⟩ := and_one e
  obtain ⟨e, e4⟩ := and_one e
  obtain ⟨e, e3⟩ := and_one e
  obtain ⟨e, e2⟩ := and_one e
  obtain ⟨e0, e1⟩ := and_one e
  exact ⟨real_of_all _ _ _ _ _ e0, real_of_all _ _ _ _ _ e1, real_of_all _ _ _ _ _ e2, real_of_all _ _ _ _ _ e3, real_of_all _ _ _ _ _ e4,
    real_of_all _ _ _ _ _ e5, real_of_all _ _ _ _ _ e6⟩

/-- The reals of the arguments. -/
def ofArgs (a0 : FVec Ideal S4096x8320 .bf16) (a1 : FVec Ideal S128x512 .bf16) (a2 : FVec Ideal S1x512 .f32) (a3 : FVec Ideal S4x64x256x128 .bf16)
    (a4 a5 : FVec Ideal S4096x1024 .bf16) (a6 : FVec Ideal S1x256 .f32) : In where
  proj p z := EReal.toReal (a0 (ix2 p z))
  wfg z k := EReal.toReal (a1 (ix2 z k))
  bfg k := EReal.toReal (a2 (ix2 0 k))
  st h n v k := EReal.toReal (a3 (ix4 h n v k))
  doa p v := EReal.toReal (a4 (ix2 p v))
  o p v := EReal.toReal (a5 (ix2 p v))
  g v := EReal.toReal (a6 (ix2 0 v))

end Cert.Pre_finite.Gla
-- ==== Proof.NormInRef.lean ====
module

public import proofs.«01_k».proof.Proof.NormInVal
public import proofs.«01_k».proof.Proof.Pre
public import proofs.«01_k».proof.Proof.Gen.NormInReferenceIdeal.Run

@[expose] public section

set_option maxRecDepth 16384

/-! The gradient before the mixer's norm: the arrays the reference leaves. -/

noncomputable section

open Idealize.ShloMosaic Idealize.ShloMosaic.TcCoe Idealize.SL.Sem

namespace Cert.Pre_norm_in_finite.Calc
open Cert.Pre_norm_in_finite

/-! ## The precondition: every entry of an argument is a real number -/

theorem facts : Cert.Pre_norm_in_finite.Facts where
  bcast_S_S4096x8320 := by decide
  reducesTo_S4096x8320_S_d0_1 := by decide
  h_S_ := by decide
  bcast_S_S1024x8320 := by decide
  reducesTo_S1024x8320_S_d0_1 := by decide
  bcast_S_S4096x1024 := by decide
  reducesTo_S4096x1024_S_d0_1 := by decide
  bcast_S_S1x1024 := by decide
  reducesTo_S1x1024_S_d0_1 := by decide

theorem reals {a0 : FVec Ideal S4096x8320 .bf16} {a1 : FVec Ideal S1024x8320 .bf16} {a2 : FVec Ideal S4096x1024 .f32} {a3 : FVec Ideal S1x1024 .f32}
    {a4 : FVec Ideal S4096x1024 .f32} (h : @Cert.Pre_norm_in_finite.fn facts Ideal _ a0 a1 a2 a3 a4 = fun _ => 1#1) :
    (∀ i, (a0 i : EReal) = ((EReal.toReal (a0 i) : ℝ) : EReal)) ∧ (∀ i, (a1 i : EReal) = ((EReal.toReal (a1 i) : ℝ) : EReal))
    ∧ (∀ i, (a2 i : EReal) = ((EReal.toReal (a2 i) : ℝ) : EReal)) ∧ (∀ i, (a3 i : EReal) = ((EReal.toReal (a3 i) : ℝ) : EReal))
    ∧ (∀ i, (a4 i : EReal) = ((EReal.toReal (a4 i) : ℝ) : EReal)) := by
  have e := congrFun h (Shape.Idx.first facts.h_S_)
  obtain ⟨e, e4⟩ := Cert.Pre_finite.Gla.and_one e
  obtain ⟨e, e3⟩ := Cert.Pre_finite.Gla.and_one e
  obtain ⟨e, e2⟩ := Cert.Pre_finite.Gla.and_one e
  obtain ⟨e0, e1⟩ := Cert.Pre_finite.Gla.and_one e
  exact ⟨Cert.Pre_finite.Gla.real_of_all _ _ _ _ _ e0, Cert.Pre_finite.Gla.real_of_all _ _ _ _ _ e1, Cert.Pre_finite.Gla.real_of_all _ _ _ _ _ e2,
    Cert.Pre_finite.Gla.real_of_all _ _ _ _ _ e3, Cert.Pre_finite.Gla.real_of_all _ _ _ _ _ e4⟩

end Cert.Pre_norm_in_finite.Calc

namespace Cert.NormInReferenceIdeal.Calc
open Cert.NormInReferenceIdeal Cert.NormInReferenceIdeal.Gen Cert.NormInReferenceIdeal.Value Cert.Tile Cert.Gla
open Cert.NormInIdeal.Calc (dh dxA dx16A dgA dxA_at dx16A_at dgA_at)

/-! ## The reference, a value at a time -/

section
variable (a0 : FVec Ideal S4096x8320 .bf16) (a1 : FVec Ideal S1024x8320 .bf16) (a2 : FVec Ideal S4096x1024 .f32) (a3 : FVec Ideal S1x1024 .f32)
  (a4 : FVec Ideal S4096x1024 .f32)

/-- The gradient after the norm. -/
def dotV : FVec Ideal S4096x1024 .f32 :=
  Host.dotGeneral (F := Ideal) dot_S4096x8320_S1024x8320_S4096x1024_1_1_0_0_n_n none (extf .f32 a0 bitsLt_bf16_f32) (extf .f32 a1 bitsLt_bf16_f32)
/-- The mean of each row's squares, with the offset. -/
def varV : FVec Ideal S4096x1 .f32 :=
  addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
/-- Its inverse square root. -/
def rstdV : FVec Ideal S4096x1 .f32 := Host.rsqrt (varV a2)
/-- The gradient of the normed rows. -/
def dxnV : FVec Ideal S4096x1024 .f32 := mulf (dotV a0 a1) (broadcastInDim S4096x1024 ![0, 1] bcast_S1x1024_S4096x1024_0_1 a3)
/-- What the normed rows give the inverse square root. -/
def drV : FVec Ideal S4096 .f32 := Host.reduceAdd (mulf a2 (dxnV a0 a1 a3)) (constant S_ .f32 0x00000000#32) reducesTo_S4096x1024_S4096_d1 h_S_
/-- What that gives each square, one number a row. -/
def corV : FVec Ideal S4096 .f32 :=
  Host.reduceAdd (Host.divf (mulf (shapeCast S4096x1 (drV a0 a1 a2 a3) shapeCasts_S4096_S4096x1) (mulf (broadcastInDim S4096x1 ![] bcast_S_S4096x1 (constant S_ .f32 0xBF000000#32)) (Host.divf (rstdV a2) (varV a2)))) (broadcastInDim S4096x1 ![] bcast_S_S4096x1 (constant S_ .f32 0x44800000#32))) (constant S_ .f32 0x00000000#32) reducesTo_S4096x1_S4096_d1 h_S_
/-- The gradient of the rows. -/
def dxV : FVec Ideal S4096x1024 .f32 :=
  addf a4 (addf (addf (mulf (dxnV a0 a1 a3) (broadcastInDim S4096x1024 ![0, 1] bcast_S4096x1_S4096x1024_0_1 (rstdV a2))) (mulf a2 (broadcastInDim S4096x1024 ![0] bcast_S4096_S4096x1024_0 (corV a0 a1 a2 a3)))) (mulf (broadcastInDim S4096x1024 ![0] bcast_S4096_S4096x1024_0 (corV a0 a1 a2 a3)) a2))
/-- The gradient of the gain, on eight rows. -/
def dgV : FVec Ideal S8x1024 .f32 :=
  broadcastInDim S8x1024 ![0, 1] bcast_S1x1024_S8x1024_0_1 (shapeCast S1x1024 (Host.reduceAdd (mulf (mulf a2 (broadcastInDim S4096x1024 ![0, 1] bcast_S4096x1_S4096x1024_0_1 (rstdV a2))) (dotV a0 a1)) (constant S_ .f32 0x00000000#32) reducesTo_S4096x1024_S1024_d0 h_S_) shapeCasts_S1024_S1x1024)

end

theorem v38_eq (m : (ℓ : Loc nD τ sig) → Buf (Elt Ideal) ℓ) (c : Dev nD) : res_main_v38 m c
    = dxV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_main_v38 dxV corV drV dxnV rstdV varV dotV
  rfl
theorem v39_eq (m : (ℓ : Loc nD τ sig) → Buf (Elt Ideal) ℓ) (c : Dev nD) : res_main_v39 m c
    = truncf .bf16 (dxV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) bitsLt_bf16_f32 := by
  unfold res_main_v39 dxV corV drV dxnV rstdV varV dotV
  rfl

section
variable {a0 : FVec Ideal S4096x8320 .bf16} {a1 : FVec Ideal S1024x8320 .bf16} {a2 : FVec Ideal S4096x1024 .f32} {a3 : FVec Ideal S1x1024 .f32}
  {a4 : FVec Ideal S4096x1024 .f32} {a : Fin 4096 → Fin 8320 → ℝ} {b : Fin 1024 → Fin 8320 → ℝ} {x : Fin 4096 → Fin 1024 → ℝ} {g : Fin 1024 → ℝ} {r : Fin 4096 → Fin 1024 → ℝ}
  (h0 : ∀ p k, (a0 (ix2 p k) : EReal) = ((a p k : ℝ) : EReal)) (h1 : ∀ q k, (a1 (ix2 q k) : EReal) = ((b q k : ℝ) : EReal))
  (h2 : ∀ p q, (a2 (ix2 p q) : EReal) = ((x p q : ℝ) : EReal)) (h3 : ∀ q, (a3 (ix2 0 q) : EReal) = ((g q : ℝ) : EReal))
  (h4 : ∀ p q, (a4 (ix2 p q) : EReal) = ((r p q : ℝ) : EReal))

include h0 h1 in
theorem dot_at (p : Fin 4096) (q : Fin 1024) : dotV a0 a1 (ix2 p q) = ((dh a b p q : ℝ) : EReal) := by
  pointwise [dotV]
  simp only [h0, h1, ← EReal.coe_mul, ← coe_sum]
  rfl

include h2 in
theorem var_at (p : Fin 4096) : varV a2 (ix2 p 0) = ((Norm.var (x p) : ℝ) : EReal) := by
  pointwise [varV]
  simp only [h2, ← EReal.coe_mul, ← coe_sum, zero_add, Norm.ofBits_1024_f32, ofBits_eps_f32.1, div_coe' (show (1024 : ℝ) ≠ 0 by norm_num), ← EReal.coe_add]
  rfl

include h2 in
theorem rstd_at (p : Fin 4096) : rstdV a2 (ix2 p 0) = ((Norm.rstd (x p) : ℝ) : EReal) := by
  have e := var_at h2 p
  pointwise [rstdV]
  rw [e, rsqrt_coe' (Norm.var_pos _)]; rfl

include h0 h1 h3 in
theorem dxn_at (p : Fin 4096) (q : Fin 1024) : dxnV a0 a1 a3 (ix2 p q) = ((dh a b p q * g q : ℝ) : EReal) := by
  have e := dot_at h0 h1 p q
  have e3 := h3 q
  pointwise [dxnV]
  rw [e, e3, ← EReal.coe_mul]

include h0 h1 h2 h3 in
theorem dr_at (p : Fin 4096) : drV a0 a1 a2 a3 (ix1 p) = ((∑ w, x p w * (dh a b p w * g w) : ℝ) : EReal) := by
  have e := dxn_at h0 h1 h3 p
  pointwise [drV]
  simp only [h2, e, ← EReal.coe_mul, ← coe_sum, zero_add]

include h0 h1 h2 h3 in
theorem cor_at (p : Fin 4096) : corV a0 a1 a2 a3 (ix1 p)
    = (((∑ w, x p w * (dh a b p w * g w)) * (-(1 / 2) * (Norm.rstd (x p) / Norm.var (x p))) / 1024 : ℝ) : EReal) := by
  have e1 := dr_at h0 h1 h2 h3 p
  have e2 := var_at h2 p
  have e3 := rstd_at h2 p
  pointwise [corV]
  simp only [Finset.univ_unique, Finset.sum_singleton, Fin.default_eq_zero, Fin.isValue, e1, e2, e3, Norm.ofBits_1024_f32, Cert.ReferenceIdeal.Gla.ofBits_mhalf_f32, div_coe' (Norm.var_pos (x p)).ne', div_coe' (show (1024 : ℝ) ≠ 0 by norm_num),
    ← EReal.coe_mul, zero_add]

include h0 h1 h2 h3 h4 in
theorem dx_at (p : Fin 4096) (q : Fin 1024) : dxV a0 a1 a2 a3 a4 (ix2 p q) = ((Norm.dx (dh a b p) g (x p) (r p) q : ℝ) : EReal) := by
  have e1 := dxn_at h0 h1 h3 p q
  have e2 := rstd_at h2 p
  have e3 := cor_at h0 h1 h2 h3 p
  have e4 := h4 p q
  have e5 := h2 p q
  pointwise [dxV]
  rw [e1, e2, e3, e4, e5]
  simp only [← EReal.coe_mul, ← EReal.coe_add]
  exact congrArg _ (Norm.dx_eq (dh a b p) g (x p) (r p) q)

include h0 h1 h2 in
theorem dg_at (e : Fin 8) (q : Fin 1024) : dgV a0 a1 a2 (ix2 e q) = ((∑ p, dh a b p q * Norm.xn (x p) q : ℝ) : EReal) := by
  have e1 : ∀ p, dotV a0 a1 (ix2 p q) = _ := fun p => dot_at h0 h1 p q
  have e2 := rstd_at h2
  pointwise [dgV]
  simp only [e1, e2, h2, ← EReal.coe_mul, ← coe_sum, zero_add]
  refine congrArg _ (Finset.sum_congr rfl fun p _ => ?_)
  unfold Norm.xn
  ring

include h0 h1 h2 h3 h4 in
theorem dx_eq : dxV a0 a1 a2 a3 a4 = dxA a b x g r := by
  funext i
  obtain ⟨p, q, rfl⟩ := exists_ix2 i
  exact (dx_at h0 h1 h2 h3 h4 p q).trans (dxA_at a b x g r (i := ix2 p q) (p := p) (q := q) rfl rfl).symm
include h0 h1 h2 h3 h4 in
theorem dx16_eq : truncf .bf16 (dxV a0 a1 a2 a3 a4) bitsLt_bf16_f32 = dx16A a b x g r := by
  funext i
  obtain ⟨p, q, rfl⟩ := exists_ix2 i
  exact (dx_at h0 h1 h2 h3 h4 p q).trans (dx16A_at a b x g r (i := ix2 p q) (p := p) (q := q) rfl rfl).symm
include h0 h1 h2 in
theorem dg_eq : dgV a0 a1 a2 = dgA a b x := by
  funext i
  obtain ⟨e, q, rfl⟩ := exists_ix2 i
  exact (dg_at h0 h1 h2 e q).trans (dgA_at a b x (i := ix2 e q) (q := q) rfl).symm
end

end Cert.NormInReferenceIdeal.Calc

end
-- ==== Proof.NormGuVal.lean ====
module

public import proofs.«01_k».proof.Proof.Norm
public import proofs.«01_k».proof.Proof.Gen.NormGuIdeal.Value

@[expose] public section

set_option maxRecDepth 16384

/-! The gradient before the feed-forward's norm: the arrays the kernel leaves. -/

noncomputable section

open Idealize.ShloMosaic Idealize.ShloMosaic.TcCoe Idealize.SL.Sem

namespace Cert.NormGuIdeal.Calc
open Cert.NormGuIdeal Cert.NormGuIdeal.Gen Cert.Tile Cert.Gla

/-! ## The arrays, of the arguments' reals -/

/-- The gradient after the norm: the product of the gradient of the projection with its weight. -/
def dh (a : Fin 4096 → Fin 5632 → ℝ) (b : Fin 1024 → Fin 5632 → ℝ) (p : Fin 4096) (q : Fin 1024) : ℝ := ∑ k, a p k * b q k

/-- The gradient before the norm, beside the residual's. -/
def dxA (a : Fin 4096 → Fin 5632 → ℝ) (b : Fin 1024 → Fin 5632 → ℝ) (x : Fin 4096 → Fin 1024 → ℝ) (g : Fin 1024 → ℝ) (r : Fin 4096 → Fin 1024 → ℝ) :
    Vec Ideal S4096x1024 .f32 := fun i => ((Norm.dx (dh a b (i 0)) g (x (i 0)) (r (i 0)) (i 1) : ℝ) : EReal)

/-- The same in the narrow format, which is the same number. -/
def dx16A (a : Fin 4096 → Fin 5632 → ℝ) (b : Fin 1024 → Fin 5632 → ℝ) (x : Fin 4096 → Fin 1024 → ℝ) (g : Fin 1024 → ℝ) (r : Fin 4096 → Fin 1024 → ℝ) :
    Vec Ideal S4096x1024 .bf16 := fun i => ((Norm.dx (dh a b (i 0)) g (x (i 0)) (r (i 0)) (i 1) : ℝ) : EReal)

/-- The gain's gradient, on each of eight rows. -/
def dgA (a : Fin 4096 → Fin 5632 → ℝ) (b : Fin 1024 → Fin 5632 → ℝ) (x : Fin 4096 → Fin 1024 → ℝ) : Vec Ideal S8x1024 .f32 :=
  fun i => ((∑ p, dh a b p (i 1) * Norm.xn (x p) (i 1) : ℝ) : EReal)

theorem dxA_at (a : Fin 4096 → Fin 5632 → ℝ) (b : Fin 1024 → Fin 5632 → ℝ) (x : Fin 4096 → Fin 1024 → ℝ) (g : Fin 1024 → ℝ) (r : Fin 4096 → Fin 1024 → ℝ)
    {i : S4096x1024.Idx} {p : Fin 4096} {q : Fin 1024} (h0 : (i 0 : ℕ) = p) (h1 : (i 1 : ℕ) = q) :
    dxA a b x g r i = ((Norm.dx (dh a b p) g (x p) (r p) q : ℝ) : EReal) := by
  obtain rfl : i 0 = p := Fin.ext h0
  obtain rfl : i 1 = q := Fin.ext h1
  rfl
theorem dx16A_at (a : Fin 4096 → Fin 5632 → ℝ) (b : Fin 1024 → Fin 5632 → ℝ) (x : Fin 4096 → Fin 1024 → ℝ) (g : Fin 1024 → ℝ) (r : Fin 4096 → Fin 1024 → ℝ)
    {i : S4096x1024.Idx} {p : Fin 4096} {q : Fin 1024} (h0 : (i 0 : ℕ) = p) (h1 : (i 1 : ℕ) = q) :
    dx16A a b x g r i = ((Norm.dx (dh a b p) g (x p) (r p) q : ℝ) : EReal) := by
  obtain rfl : i 0 = p := Fin.ext h0
  obtain rfl : i 1 = q := Fin.ext h1
  rfl
theorem dgA_at (a : Fin 4096 → Fin 5632 → ℝ) (b : Fin 1024 → Fin 5632 → ℝ) (x : Fin 4096 → Fin 1024 → ℝ)
    {i : S8x1024.Idx} {q : Fin 1024} (h1 : (i 1 : ℕ) = q) :
    dgA a b x i = ((∑ p, dh a b p q * Norm.xn (x p) q : ℝ) : EReal) := by
  obtain rfl : i 1 = q := Fin.ext h1
  rfl

/-! ## What a grid point computes from blocks that hold reals -/

theorem pay6_at {v16 : Vec Ideal S1024x1024 .f32} {x : Fin 1024 → ℝ} (p : Fin 1024) (hx : ∀ q : Fin 1024, (v16 (ix2 p q) : EReal) = ((x q : ℝ) : EReal)) :
    k0_pay6 (F := Ideal) v16 (ix2 p 0) = ((Norm.rstd x : ℝ) : EReal) := by
  pointwise [k0_pay6]
  simp only [hx, ← EReal.coe_mul, ← coe_sum, Norm.ofBits_1024_f32, ofBits_eps_f32.1, div_coe' (show (1024 : ℝ) ≠ 0 by norm_num), ← EReal.coe_add]
  rw [← Norm.var, rsqrt_coe' (Norm.var_pos x)]; rfl

theorem pay7_at {v16 : Vec Ideal S1024x1024 .f32} {x : Fin 1024 → ℝ} (p : Fin 1024) (hx : ∀ q : Fin 1024, (v16 (ix2 p q) : EReal) = ((x q : ℝ) : EReal)) (q : Fin 1024) :
    k0_pay7 (F := Ideal) v16 (ix2 p q) = ((Norm.xn x q : ℝ) : EReal) := by
  have h1 := pay6_at p hx
  have h2 := hx q
  pointwise [k0_pay7]
  rw [h1, h2, ← EReal.coe_mul]; rfl

theorem pay8_at {v2 v14 v16 v30 : Vec Ideal S1024x1024 .f32} {v27 : Vec Ideal S1x1024 .f32} {d g x r : Fin 1024 → ℝ} (p : Fin 1024)
    (hd : ∀ q : Fin 1024, (k0_pay5 (F := Ideal) v2 v14 (ix2 p q) : EReal) = ((d q : ℝ) : EReal)) (hg : ∀ q : Fin 1024, (v27 (ix2 0 q) : EReal) = ((g q : ℝ) : EReal))
    (hx : ∀ q : Fin 1024, (v16 (ix2 p q) : EReal) = ((x q : ℝ) : EReal)) (hr : ∀ q : Fin 1024, (v30 (ix2 p q) : EReal) = ((r q : ℝ) : EReal)) (q : Fin 1024) :
    k0_pay8 (F := Ideal) v2 v14 v16 v27 v30 (ix2 p q) = ((Norm.dx d g x r q : ℝ) : EReal) := by
  have h6 := pay6_at p hx
  have h7 := pay7_at p hx
  pointwise [k0_pay8]
  simp only [hd, hg, hr, h6, h7, ← EReal.coe_mul, ← coe_sum, Norm.ofBits_1024_f32, div_coe' (show (1024 : ℝ) ≠ 0 by norm_num), ← EReal.coe_add, ← EReal.coe_sub]
  rfl

theorem pay10_at {v2 v14 v16 : Vec Ideal S1024x1024 .f32} {d x : Fin 1024 → Fin 1024 → ℝ}
    (hd : ∀ p q : Fin 1024, (k0_pay5 (F := Ideal) v2 v14 (ix2 p q) : EReal) = ((d p q : ℝ) : EReal))
    (hx : ∀ p q : Fin 1024, (v16 (ix2 p q) : EReal) = ((x p q : ℝ) : EReal)) (e : Fin 8) (q : Fin 1024) :
    k0_pay10 (F := Ideal) v2 v14 v16 (ix2 e q) = ((∑ p, d p q * Norm.xn (x p) q : ℝ) : EReal) := by
  have h7 : ∀ p : Fin 1024, k0_pay7 (F := Ideal) v16 (ix2 p q) = _ := fun p => pay7_at p (hx p) q
  pointwise [k0_pay10]
  simp only [hd, h7, ← EReal.coe_mul, ← coe_sum]

/-! ## The blocks -/

variable (m : (ℓ : Loc nD τ sig) → Buf (Elt Ideal) ℓ) (c : Dev nD)

theorem idx : ∀ t : Fin cfg0.N, win0_0.index t = ![t.val / 4, t.val % 4] ∧ win0_1.index t = ![0, t.val % 4] ∧ win0_2.index t = ![t.val / 4, 0]
    ∧ win0_3.index t = ![0, 0] ∧ win0_4.index t = ![t.val / 4, 0] ∧ win0_5.index t = ![t.val / 4, 0] ∧ win0_6.index t = ![t.val / 4, 0] ∧ win0_7.index t = ![0, 0] :=
  (by decide +kernel : ∀ t : Fin grid0.N, _)
theorem lt_N (t : Fin cfg0.N) : t.val < 16 := lt_of_lt_of_eq t.isLt N_0

/-- The arguments. -/
abbrev A0 : Vec Ideal S4096x5632 .bf16 := m ((c : Thread nD τ).loc main_arg0)
abbrev A1 : Vec Ideal S1024x5632 .bf16 := m ((c : Thread nD τ).loc main_arg1)
abbrev A2 : Vec Ideal S4096x1024 .f32 := m ((c : Thread nD τ).loc main_arg2)
abbrev A3 : Vec Ideal S1x1024 .f32 := m ((c : Thread nD τ).loc main_arg3)
abbrev A4 : Vec Ideal S4096x1024 .f32 := m ((c : Thread nD τ).loc main_arg4)

/-- The arguments are reals. -/
structure At (a : Fin 4096 → Fin 5632 → ℝ) (b : Fin 1024 → Fin 5632 → ℝ) (x : Fin 4096 → Fin 1024 → ℝ) (g : Fin 1024 → ℝ) (r : Fin 4096 → Fin 1024 → ℝ) : Prop where
  a : ∀ p k, (A0 m c (ix2 p k) : EReal) = ((a p k : ℝ) : EReal)
  b : ∀ q k, (A1 m c (ix2 q k) : EReal) = ((b q k : ℝ) : EReal)
  x : ∀ p q, (A2 m c (ix2 p q) : EReal) = ((x p q : ℝ) : EReal)
  g : ∀ q, (A3 m c (ix2 0 q) : EReal) = ((g q : ℝ) : EReal)
  r : ∀ p q, (A4 m c (ix2 p q) : EReal) = ((r p q : ℝ) : EReal)

/-- The row of the arrays that row `p` of a point's blocks is. -/
def row (t : Fin cfg0.N) (p : Fin 1024) : Fin 4096 := ⟨1024 * (t.val / 4) + p, by have := lt_N t; omega⟩

theorem rd2 (t : Fin cfg0.N) (p q : Fin 1024) : (iblk m c 2 t : Vec Ideal S1024x1024 .f32) (ix2 p q) = A2 m c (ix2 (row t p) q) := by
  have := lt_N t
  blk_point [iblk, V, idx t, row]
theorem rd3 (t : Fin cfg0.N) (q : Fin 1024) : (iblk m c 3 t : Vec Ideal S1x1024 .f32) (ix2 0 q) = A3 m c (ix2 0 q) := by
  blk_point [iblk, V, idx t]
theorem rd4 (t : Fin cfg0.N) (p q : Fin 1024) : (iblk m c 4 t : Vec Ideal S1024x1024 .f32) (ix2 p q) = A4 m c (ix2 (row t p) q) := by
  have := lt_N t
  blk_point [iblk, V, idx t, row]

/-- What one grid point adds: the product of its blocks. -/
def part (t : Fin cfg0.N) : FVec Ideal S1024x1024 .f32 := k0_pay1 (F := Ideal) (iblk m c 0 t) (iblk m c 1 t)

theorem part_at (t : Fin cfg0.N) (j : ℕ) (hj : j < 4) (h : t.val % 4 = j) (P : Fin 4096) (p : Fin 1024) (hP : (P : ℕ) = 1024 * (t.val / 4) + p) (q : Fin 1024) :
    part m c t (ix2 p q) = (∑ k : Fin 1408, (A0 m c (ix2 P (at_ 5632 1408 4 j hj rfl k)) : EReal)
      * (A1 m c (ix2 q (at_ 5632 1408 4 j hj rfl k)) : EReal) : EReal) := by
  have ht := lt_N t
  obtain rfl : P = row t p := Fin.ext hP
  have e0 : ∀ k : Fin 1408, (iblk m c 0 t : Vec Ideal S1024x1408 .bf16) (ix2 p k)
      = A0 m c (ix2 (row t p) (at_ 5632 1408 4 j hj rfl k)) := by
    intro k
    subst h
    blk_point [iblk, V, idx t, at_, row]
  have e1 : ∀ k : Fin 1408, (iblk m c 1 t : Vec Ideal S1024x1408 .bf16) (ix2 q k)
      = A1 m c (ix2 q (at_ 5632 1408 4 j hj rfl k)) := by
    intro k
    subst h
    blk_point [iblk, V, idx t, at_]
  have e : ∀ (x0 : Vec Ideal S1024x1408 .bf16) (x1 : Vec Ideal S1024x1408 .bf16),
      k0_pay1 (F := Ideal) x0 x1 (ix2 p q) = (∑ k : Fin 1408, (x0 (ix2 p k) : EReal) * (x1 (ix2 q k) : EReal) : EReal) := by
    intro x0 x1
    pointwise [k0_pay1]
  refine (e _ _).trans ?_
  simp only [e0, e1]

/-! ## What each kind of point leaves -/

section
variable (i : grid0.Coords) (a2 : Memref sig .tc .vmem S1024x1408 .bf16) (h2 : a2.IsWhole) (a3 : Memref sig .tc .vmem S1024x1408 .bf16) (h3 : a3.IsWhole)
  (a4 : Memref sig .tc .vmem S1024x1024 .f32) (h4 : a4.IsWhole) (a5 : Memref sig .tc .vmem S1x1024 .f32) (h5 : a5.IsWhole) (a6 : Memref sig .tc .vmem S1024x1024 .f32) (h6 : a6.IsWhole)
  (a7 : Memref sig .tc .vmem S1024x1024 .f32) (h7 : a7.IsWhole) (a8 : Memref sig .tc .vmem S1024x1024 .bf16) (h8 : a8.IsWhole) (a9 : Memref sig .tc .vmem S8x1024 .f32) (h9 : a9.IsWhole)
  (a10 : Memref sig .tc .vmem S1024x1024 .f32) (h10 : a10.IsWhole)
  (x0 : Vec Ideal S1024x1408 .bf16) (x1 : Vec Ideal S1024x1408 .bf16) (x2 : Vec Ideal S1024x1024 .f32) (x3 : Vec Ideal S1x1024 .f32) (x4 : Vec Ideal S1024x1024 .f32)
  (xo : Vec Ideal S8x1024 .f32) (xs : Vec Ideal S1024x1024 .f32)

/-- The first point of a row block writes its product to the running sum. -/
theorem scratch_A (hc0 : cond0_0 i) (hc1 : ¬cond0_1 i) (hc2 : ¬cond0_2 i) :
    sout0_A_0 c i a2 h2 a3 h3 a4 h4 a5 h5 a6 h6 a7 h7 a8 h8 a9 h9 a10 h10 hc0 hc1 hc2 x0 x1 x2 x3 x4 = k0_pay1 x0 x1 := by
  unfold sout0_A_0
  rw [View.read_writes_eq_canon _ _ _ (scover0_A_0 c i a2 h2 a3 h3 a4 h4 a5 h5 a6 h6 a7 h7 a8 h8 a9 h9 a10 h10 hc0 hc1 hc2 x0 x1 x2 x3 x4)]
  unfold kernelRun0_A
  dsimp only
  rw [View.canon_unit_zero zero2]
  unfold k0_pay2
  simp only [View.readAt_eq_ld, h2.read_unread, h3.read_unread, h4.read_unread, h5.read_unread, h6.read_unread, h9.read_unread, h10.read_unread, View.ld_unit_zero (S := S1024x1408) zero2, View.ld_unit_zero (S := S1024x1024) zero2, View.ld_unit_zero (S := S1x1024) zero2, View.ld_unit_zero (S := S8x1024) zero2, shapeCast_self]

/-- The next ones add theirs. -/
theorem scratch_B (hc0 : ¬cond0_0 i) (hc1 : cond0_1 i) (hc2 : ¬cond0_2 i) :
    sout0_B_0 c i a2 h2 a3 h3 a4 h4 a5 h5 a6 h6 a7 h7 a8 h8 a9 h9 a10 h10 hc0 hc1 hc2 x0 x1 x2 x3 x4 xs = addf xs (k0_pay1 x0 x1) := by
  unfold sout0_B_0
  rw [View.read_writes_eq_canon _ _ _ (scover0_B_0 c i a2 h2 a3 h3 a4 h4 a5 h5 a6 h6 a7 h7 a8 h8 a9 h9 a10 h10 hc0 hc1 hc2 x0 x1 x2 x3 x4 xs)]
  unfold kernelRun0_B
  dsimp only
  rw [View.canon_unit_zero zero2]
  unfold k0_pay3
  simp only [View.readAt_eq_ld, h2.read_unread, h3.read_unread, h4.read_unread, h5.read_unread, h6.read_unread, h9.read_unread, h10.read_unread, View.ld_unit_zero (S := S1024x1408) zero2, View.ld_unit_zero (S := S1024x1024) zero2, View.ld_unit_zero (S := S1x1024) zero2, View.ld_unit_zero (S := S8x1024) zero2, shapeCast_self]

/-- The last writes the gradient before the norm, and writes or adds the gain's. -/
theorem dx_C (hc0 : ¬cond0_0 i) (hc1 : ¬cond0_1 i) (hc2 : cond0_2 i) (hc3 : cond0_3 i) (hc4 : ¬cond0_4 i) :
    out0_C_5 c i a2 h2 a3 h3 a4 h4 a5 h5 a6 h6 a7 h7 a8 h8 a9 h9 a10 h10 hc0 hc1 hc2 hc3 hc4 x0 x1 x2 x3 x4 xs = k0_pay8 (k0_pay1 x0 x1) xs x2 x3 x4 := by
  unfold out0_C_5
  rw [View.read_writes_eq_canon _ _ _ (cover0_C_5 c i a2 h2 a3 h3 a4 h4 a5 h5 a6 h6 a7 h7 a8 h8 a9 h9 a10 h10 hc0 hc1 hc2 hc3 hc4 x0 x1 x2 x3 x4 xs)]
  unfold kernelRun0_C
  dsimp only
  rw [View.canon_unit_zero zero2]
  simp only [View.readAt_eq_ld, h2.read_unread, h3.read_unread, h4.read_unread, h5.read_unread, h6.read_unread, h9.read_unread, h10.read_unread, View.ld_unit_zero (S := S1024x1408) zero2, View.ld_unit_zero (S := S1024x1024) zero2, View.ld_unit_zero (S := S1x1024) zero2, View.ld_unit_zero (S := S8x1024) zero2, shapeCast_self]
theorem dx16_C (hc0 : ¬cond0_0 i) (hc1 : ¬cond0_1 i) (hc2 : cond0_2 i) (hc3 : cond0_3 i) (hc4 : ¬cond0_4 i) :
    out0_C_6 c i a2 h2 a3 h3 a4 h4 a5 h5 a6 h6 a7 h7 a8 h8 a9 h9 a10 h10 hc0 hc1 hc2 hc3 hc4 x0 x1 x2 x3 x4 xs = k0_pay9 (k0_pay1 x0 x1) xs x2 x3 x4 := by
  unfold out0_C_6
  rw [View.read_writes_eq_canon _ _ _ (cover0_C_6 c i a2 h2 a3 h3 a4 h4 a5 h5 a6 h6 a7 h7 a8 h8 a9 h9 a10 h10 hc0 hc1 hc2 hc3 hc4 x0 x1 x2 x3 x4 xs)]
  unfold kernelRun0_C
  dsimp only
  rw [View.canon_unit_zero zero2]
  simp only [View.readAt_eq_ld, h2.read_unread, h3.read_unread, h4.read_unread, h5.read_unread, h6.read_unread, h9.read_unread, h10.read_unread, View.ld_unit_zero (S := S1024x1408) zero2, View.ld_unit_zero (S := S1024x1024) zero2, View.ld_unit_zero (S := S1x1024) zero2, View.ld_unit_zero (S := S8x1024) zero2, shapeCast_self]
theorem dg_C (hc0 : ¬cond0_0 i) (hc1 : ¬cond0_1 i) (hc2 : cond0_2 i) (hc3 : cond0_3 i) (hc4 : ¬cond0_4 i) :
    out0_C_7 c i a2 h2 a3 h3 a4 h4 a5 h5 a6 h6 a7 h7 a8 h8 a9 h9 a10 h10 hc0 hc1 hc2 hc3 hc4 x0 x1 x2 x3 x4 xs = k0_pay10 (k0_pay1 x0 x1) xs x2 := by
  unfold out0_C_7
  rw [View.read_writes_eq_canon _ _ _ (cover0_C_7 c i a2 h2 a3 h3 a4 h4 a5 h5 a6 h6 a7 h7 a8 h8 a9 h9 a10 h10 hc0 hc1 hc2 hc3 hc4 x0 x1 x2 x3 x4 xs)]
  unfold kernelRun0_C
  dsimp only
  rw [View.canon_unit_zero zero2]
  unfold kernelRun0_C.sl.r
  simp only [View.readAt_eq_ld, h2.read_unread, h3.read_unread, h4.read_unread, h5.read_unread, h6.read_unread, h9.read_unread, h10.read_unread, View.ld_unit_zero (S := S1024x1408) zero2, View.ld_unit_zero (S := S1024x1024) zero2, View.ld_unit_zero (S := S1x1024) zero2, View.ld_unit_zero (S := S8x1024) zero2, shapeCast_self]
theorem dx_D (hc0 : ¬cond0_0 i) (hc1 : ¬cond0_1 i) (hc2 : cond0_2 i) (hc3 : ¬cond0_3 i) (hc4 : cond0_4 i) :
    out0_D_5 c i a2 h2 a3 h3 a4 h4 a5 h5 a6 h6 a7 h7 a8 h8 a9 h9 a10 h10 hc0 hc1 hc2 hc3 hc4 x0 x1 x2 x3 x4 xo xs = k0_pay8 (k0_pay1 x0 x1) xs x2 x3 x4 := by
  unfold out0_D_5
  rw [View.read_writes_eq_canon _ _ _ (cover0_D_5 c i a2 h2 a3 h3 a4 h4 a5 h5 a6 h6 a7 h7 a8 h8 a9 h9 a10 h10 hc0 hc1 hc2 hc3 hc4 x0 x1 x2 x3 x4 xo xs)]
  unfold kernelRun0_D
  dsimp only
  rw [View.canon_unit_zero zero2]
  simp only [View.readAt_eq_ld, h2.read_unread, h3.read_unread, h4.read_unread, h5.read_unread, h6.read_unread, h9.read_unread, h10.read_unread, View.ld_unit_zero (S := S1024x1408) zero2, View.ld_unit_zero (S := S1024x1024) zero2, View.ld_unit_zero (S := S1x1024) zero2, View.ld_unit_zero (S := S8x1024) zero2, shapeCast_self]
theorem dx16_D (hc0 : ¬cond0_0 i) (hc1 : ¬cond0_1 i) (hc2 : cond0_2 i) (hc3 : ¬cond0_3 i) (hc4 : cond0_4 i) :
    out0_D_6 c i a2 h2 a3 h3 a4 h4 a5 h5 a6 h6 a7 h7 a8 h8 a9 h9 a10 h10 hc0 hc1 hc2 hc3 hc4 x0 x1 x2 x3 x4 xo xs = k0_pay9 (k0_pay1 x0 x1) xs x2 x3 x4 := by
  unfold out0_D_6
  rw [View.read_writes_eq_canon _ _ _ (cover0_D_6 c i a2 h2 a3 h3 a4 h4 a5 h5 a6 h6 a7 h7 a8 h8 a9 h9 a10 h10 hc0 hc1 hc2 hc3 hc4 x0 x1 x2 x3 x4 xo xs)]
  unfold kernelRun0_D
  dsimp only
  rw [View.canon_unit_zero zero2]
  simp only [View.readAt_eq_ld, h2.read_unread, h3.read_unread, h4.read_unread, h5.read_unread, h6.read_unread, h9.read_unread, h10.read_unread, View.ld_unit_zero (S := S1024x1408) zero2, View.ld_unit_zero (S := S1024x1024) zero2, View.ld_unit_zero (S := S1x1024) zero2, View.ld_unit_zero (S := S8x1024) zero2, shapeCast_self]
theorem dg_D (hc0 : ¬cond0_0 i) (hc1 : ¬cond0_1 i) (hc2 : cond0_2 i) (hc3 : ¬cond0_3 i) (hc4 : cond0_4 i) :
    out0_D_7 c i a2 h2 a3 h3 a4 h4 a5 h5 a6 h6 a7 h7 a8 h8 a9 h9 a10 h10 hc0 hc1 hc2 hc3 hc4 x0 x1 x2 x3 x4 xo xs = addf xo (k0_pay10 (k0_pay1 x0 x1) xs x2) := by
  unfold out0_D_7
  rw [View.read_writes_eq_canon _ _ _ (cover0_D_7 c i a2 h2 a3 h3 a4 h4 a5 h5 a6 h6 a7 h7 a8 h8 a9 h9 a10 h10 hc0 hc1 hc2 hc3 hc4 x0 x1 x2 x3 x4 xo xs)]
  unfold kernelRun0_D
  dsimp only
  rw [View.canon_unit_zero zero2]
  unfold k0_pay4
  unfold kernelRun0_D.sl.r
  simp only [View.readAt_eq_ld, h2.read_unread, h3.read_unread, h4.read_unread, h5.read_unread, h6.read_unread, h9.read_unread, h10.read_unread, View.ld_unit_zero (S := S1024x1408) zero2, View.ld_unit_zero (S := S1024x1024) zero2, View.ld_unit_zero (S := S1x1024) zero2, View.ld_unit_zero (S := S8x1024) zero2, shapeCast_self]
end

/-! ## The state after each point -/

theorem run_A (t : Fin cfg0.N) (h : t.val % 4 = 0) : (outsAt0 m c t.val t.isLt).2.2.2 = part m c t := by
  rw [outsAt0_A m c t h (by omega) (by omega)]
  dsimp only
  rw [scratch_A]
  rfl
theorem run_B (t u : Fin cfg0.N) (h : 1 ≤ t.val % 4 ∧ t.val % 4 ≤ 2) (hu : t.val - 1 = u.val) :
    (outsAt0 m c t.val t.isLt).2.2.2 = addf (F := Ideal) (s := S1024x1024) (φ := .f32) (outsAt0 m c u.val u.isLt).2.2.2 (part m c t) := by
  rw [outsAt0_B m c t (by omega) h (by omega)]
  simp only [hu]
  rw [scratch_B]
  rfl

/-- The gain's gradient is kept until a row block's last point. -/
theorem keep (t u : Fin cfg0.N) (h : t.val % 4 ≠ 3) (hu : t.val - 1 = u.val) :
    (outsAt0 m c t.val t.isLt).2.2.1 = (outsAt0 m c u.val u.isLt).2.2.1 := by
  have hm : t.val % 4 < 4 := Nat.mod_lt _ (by decide)
  by_cases h0 : t.val % 4 = 0
  · rw [outsAt0_A m c t h0 (by omega) (by omega)]
    simp only [hu]
    rfl
  · rw [outsAt0_B m c t h0 (by omega) (by omega)]
    simp only [hu]
    rfl

/-- What a row block adds to the gain's gradient. -/
def add (t u : Fin cfg0.N) : FVec Ideal S8x1024 .f32 := k0_pay10 (F := Ideal) (part m c t) (outsAt0 m c u.val u.isLt).2.2.2 (iblk m c 2 t)

theorem last5 (t u : Fin cfg0.N) (h : t.val % 4 = 3) (hu : t.val - 1 = u.val) :
    (outsAt0 m c t.val t.isLt).1 = k0_pay8 (F := Ideal) (part m c t) (outsAt0 m c u.val u.isLt).2.2.2 (iblk m c 2 t) (iblk m c 3 t) (iblk m c 4 t) := by
  by_cases h0 : t.val < 4
  · rw [outsAt0_C m c t (by omega) (by omega) h h0 (by omega)]
    simp only [hu]
    rw [dx_C]
    rfl
  · rw [outsAt0_D m c t (by omega) (by omega) h h0 (by omega)]
    simp only [hu]
    rw [dx_D]
    rfl
theorem last6 (t u : Fin cfg0.N) (h : t.val % 4 = 3) (hu : t.val - 1 = u.val) :
    (outsAt0 m c t.val t.isLt).2.1 = k0_pay9 (F := Ideal) (part m c t) (outsAt0 m c u.val u.isLt).2.2.2 (iblk m c 2 t) (iblk m c 3 t) (iblk m c 4 t) := by
  by_cases h0 : t.val < 4
  · rw [outsAt0_C m c t (by omega) (by omega) h h0 (by omega)]
    simp only [hu]
    rw [dx16_C]
    rfl
  · rw [outsAt0_D m c t (by omega) (by omega) h h0 (by omega)]
    simp only [hu]
    rw [dx16_D]
    rfl
theorem last7_C (t u : Fin cfg0.N) (h : t.val = 3) (hu : t.val - 1 = u.val) :
    (outsAt0 m c t.val t.isLt).2.2.1 = add m c t u := by
  rw [outsAt0_C m c t (by omega) (by omega) (by omega) (by omega) (by omega)]
  simp only [hu]
  rw [dg_C]
  rfl
theorem last7_D (t u : Fin cfg0.N) (h : t.val % 4 = 3) (h0 : 4 ≤ t.val) (hu : t.val - 1 = u.val) :
    (outsAt0 m c t.val t.isLt).2.2.1 = addf (F := Ideal) (s := S8x1024) (φ := .f32) (outsAt0 m c u.val u.isLt).2.2.1 (add m c t u) := by
  rw [outsAt0_D m c t (by omega) (by omega) h (by omega) h0]
  simp only [hu]
  rw [dg_D]
  rfl

/-! ## The arrays -/

section
variable {m c} {a : Fin 4096 → Fin 5632 → ℝ} {b : Fin 1024 → Fin 5632 → ℝ} {x : Fin 4096 → Fin 1024 → ℝ} {g : Fin 1024 → ℝ} {r : Fin 4096 → Fin 1024 → ℝ}
  (H : At m c a b x g r)
include H

theorem rd2_at (t : Fin cfg0.N) (p q : Fin 1024) : (iblk m c 2 t : Vec Ideal S1024x1024 .f32) (ix2 p q) = ((x (row t p) q : ℝ) : EReal) := (rd2 m c t p q).trans (H.x _ _)
theorem rd3_at (t : Fin cfg0.N) (q : Fin 1024) : (iblk m c 3 t : Vec Ideal S1x1024 .f32) (ix2 0 q) = ((g q : ℝ) : EReal) := (rd3 m c t q).trans (H.g _)
theorem rd4_at (t : Fin cfg0.N) (p q : Fin 1024) : (iblk m c 4 t : Vec Ideal S1024x1024 .f32) (ix2 p q) = ((r (row t p) q : ℝ) : EReal) := (rd4 m c t p q).trans (H.r _ _)

/-- At a row block's last point the running sum and the point's product make the whole product. -/
theorem dh_at (t u : Fin cfg0.N) (h : t.val % 4 = 3) (hu : t.val - 1 = u.val) (p q : Fin 1024) :
    k0_pay5 (F := Ideal) (part m c t) (outsAt0 m c u.val u.isLt).2.2.2 (ix2 p q) = ((dh a b (row t p) q : ℝ) : EReal) := by
  have ht := lt_N t
  have hN : cfg0.N = 16 := N_0
  let s0 : Fin cfg0.N := ⟨t.val - 3, by omega⟩
  have e0 : s0.val = t.val - 3 := rfl
  let s1 : Fin cfg0.N := ⟨t.val - 2, by omega⟩
  have e1 : s1.val = t.val - 2 := rfl
  rw [run_B m c u s1 (by omega) (by omega), run_B m c s1 s0 (by omega) (by omega), run_A m c s0 (by omega)]
  have e : ∀ a0 a1 a2 a3 : Vec Ideal S1024x1024 .f32, (k0_pay5 (F := Ideal) a3 (addf (F := Ideal) (s := S1024x1024) (φ := .f32) (addf (F := Ideal) (s := S1024x1024) (φ := .f32) a0 a1) a2) : FVec Ideal S1024x1024 .f32) (ix2 p q)
      = (((a0 (ix2 p q) : EReal) + (a1 (ix2 p q) : EReal) + (a2 (ix2 p q) : EReal) + (a3 (ix2 p q) : EReal) : EReal)) := fun _ _ _ _ => rfl
  refine (e _ _ _ _).trans ?_
  rw [part_at m c s0 0 (by decide) (by omega) (row t p) p (by dsimp only [row]; omega) q, part_at m c s1 1 (by decide) (by omega) (row t p) p (by dsimp only [row]; omega) q, part_at m c u 2 (by decide) (by omega) (row t p) p (by dsimp only [row]; omega) q, part_at m c t 3 (by decide) (by omega) (row t p) p rfl q]
  refine (sum_four (M := EReal) 5632 1408 rfl fun k => (A0 m c (ix2 (row t p) k) : EReal) * (A1 m c (ix2 q k) : EReal)).trans ?_
  simp only [H.a, H.b, ← EReal.coe_mul, ← coe_sum]
  rfl

theorem add_at (t u : Fin cfg0.N) (h : t.val % 4 = 3) (hu : t.val - 1 = u.val) (e : Fin 8) (q : Fin 1024) :
    add m c t u (ix2 e q) = ((∑ p, dh a b (row t p) q * Norm.xn (x (row t p)) q : ℝ) : EReal) :=
  pay10_at (d := fun p q => dh a b (row t p) q) (x := fun p q => x (row t p) q) (fun p q => dh_at H t u h hu p q) (fun p q => rd2_at H t p q) e q

theorem arr5 : (dats m 0 c).arrAt 5 cfg0.N = dxA a b x g r := by
  refine (dats m 0 c).arrAt_eq_of_covers 5 _ (by decide +kernel) fun t hf y => ?_
  have ht := lt_N t
  have h3 : t.val % 4 = 3 := (flush0_5 t).mp hf
  obtain ⟨p, q, rfl⟩ := exists_ix2 y
  blk_simp
  rw [after0_5]
  have hN : cfg0.N = 16 := N_0
  let u : Fin cfg0.N := ⟨t.val - 1, by omega⟩
  rw [last5 m c t u h3 rfl]
  refine (pay8_at p (dh_at H t u h3 rfl p) (rd3_at H t) (rd2_at H t p) (rd4_at H t p) q).trans ?_
  refine (dxA_at a b x g r ?_ ?_).symm
  · blk_simp [idx t]; dsimp only [row]; omega
  · blk_simp [idx t]

theorem arr6 : (dats m 0 c).arrAt 6 cfg0.N = dx16A a b x g r := by
  refine (dats m 0 c).arrAt_eq_of_covers 6 _ (by decide +kernel) fun t hf y => ?_
  have ht := lt_N t
  have h3 : t.val % 4 = 3 := (flush0_6 t).mp hf
  obtain ⟨p, q, rfl⟩ := exists_ix2 y
  blk_simp
  rw [after0_6]
  have hN : cfg0.N = 16 := N_0
  let u : Fin cfg0.N := ⟨t.val - 1, by omega⟩
  rw [last6 m c t u h3 rfl]
  refine (pay8_at p (dh_at H t u h3 rfl p) (rd3_at H t) (rd2_at H t p) (rd4_at H t p) q).trans ?_
  refine (dx16A_at a b x g r ?_ ?_).symm
  · blk_simp [idx t]; dsimp only [row]; omega
  · blk_simp [idx t]

theorem arr7 : (dats m 0 c).arrAt 7 cfg0.N = dgA a b x := by
  refine (dats m 0 c).arrAt_eq_of_covers 7 _ (by decide +kernel) fun t15 hf y => ?_
  have ht := lt_N t15
  have h3 : t15.val % 16 = 15 := (flush0_7 t15).mp hf
  obtain ⟨e, q, rfl⟩ := exists_ix2 y
  blk_simp
  rw [after0_7]
  have hN : cfg0.N = 16 := N_0
  obtain ⟨t2, z2⟩ : ∃ u : Fin cfg0.N, u.val = 2 := ⟨⟨2, by omega⟩, rfl⟩
  obtain ⟨t3, z3⟩ : ∃ u : Fin cfg0.N, u.val = 3 := ⟨⟨3, by omega⟩, rfl⟩
  obtain ⟨t4, z4⟩ : ∃ u : Fin cfg0.N, u.val = 4 := ⟨⟨4, by omega⟩, rfl⟩
  obtain ⟨t5, z5⟩ : ∃ u : Fin cfg0.N, u.val = 5 := ⟨⟨5, by omega⟩, rfl⟩
  obtain ⟨t6, z6⟩ : ∃ u : Fin cfg0.N, u.val = 6 := ⟨⟨6, by omega⟩, rfl⟩
  obtain ⟨t7, z7⟩ : ∃ u : Fin cfg0.N, u.val = 7 := ⟨⟨7, by omega⟩, rfl⟩
  obtain ⟨t8, z8⟩ : ∃ u : Fin cfg0.N, u.val = 8 := ⟨⟨8, by omega⟩, rfl⟩
  obtain ⟨t9, z9⟩ : ∃ u : Fin cfg0.N, u.val = 9 := ⟨⟨9, by omega⟩, rfl⟩
  obtain ⟨t10, z10⟩ : ∃ u : Fin cfg0.N, u.val = 10 := ⟨⟨10, by omega⟩, rfl⟩
  obtain ⟨t11, z11⟩ : ∃ u : Fin cfg0.N, u.val = 11 := ⟨⟨11, by omega⟩, rfl⟩
  obtain ⟨t12, z12⟩ : ∃ u : Fin cfg0.N, u.val = 12 := ⟨⟨12, by omega⟩, rfl⟩
  obtain ⟨t13, z13⟩ : ∃ u : Fin cfg0.N, u.val = 13 := ⟨⟨13, by omega⟩, rfl⟩
  obtain ⟨t14, z14⟩ : ∃ u : Fin cfg0.N, u.val = 14 := ⟨⟨14, by omega⟩, rfl⟩
  rw [last7_D m c t15 t14 (by omega) (by omega) (by omega),
    keep m c t14 t13 (by omega) (by omega),
    keep m c t13 t12 (by omega) (by omega),
    keep m c t12 t11 (by omega) (by omega),
    last7_D m c t11 t10 (by omega) (by omega) (by omega),
    keep m c t10 t9 (by omega) (by omega),
    keep m c t9 t8 (by omega) (by omega),
    keep m c t8 t7 (by omega) (by omega),
    last7_D m c t7 t6 (by omega) (by omega) (by omega),
    keep m c t6 t5 (by omega) (by omega),
    keep m c t5 t4 (by omega) (by omega),
    keep m c t4 t3 (by omega) (by omega),
    last7_C m c t3 t2 (by omega) (by omega)]
  have ee : ∀ a0 a1 a2 a3 : Vec Ideal S8x1024 .f32, (addf (F := Ideal) (s := S8x1024) (φ := .f32) (addf (F := Ideal) (s := S8x1024) (φ := .f32) (addf (F := Ideal) (s := S8x1024) (φ := .f32) a0 a1) a2) a3 : Vec Ideal S8x1024 .f32) (ix2 e q)
      = (((a0 (ix2 e q) : EReal) + (a1 (ix2 e q) : EReal) + (a2 (ix2 e q) : EReal) + (a3 (ix2 e q) : EReal) : EReal)) := fun _ _ _ _ => rfl
  refine (ee _ _ _ _).trans ?_
  rw [add_at H t3 t2 (by omega) (by omega) e q, add_at H t7 t6 (by omega) (by omega) e q, add_at H t11 t10 (by omega) (by omega) e q, add_at H t15 t14 (by omega) (by omega) e q]
  rw [← EReal.coe_add, ← EReal.coe_add, ← EReal.coe_add]
  refine Eq.trans ?_ (dgA_at a b x (q := q) ?_).symm
  · refine congrArg _ ?_
    have w : ∀ (t : Fin cfg0.N) (j : ℕ) (hj : j < 4), t.val / 4 = j → row t = at_ 4096 1024 4 j hj rfl := by
      intro t j hj h
      subst h
      rfl
    rw [w t3 0 (by decide) (by omega), w t7 1 (by decide) (by omega), w t11 2 (by decide) (by omega), w t15 3 (by decide) (by omega)]
    exact sum_four (M := ℝ) 4096 1024 rfl fun p => dh a b p q * Norm.xn (x p) q
  · blk_simp [idx t15]
end

end Cert.NormGuIdeal.Calc

end
-- ==== Proof.NormGuRef.lean ====
module

public import proofs.«01_k».proof.Proof.NormGuVal
public import proofs.«01_k».proof.Proof.Pre
public import proofs.«01_k».proof.Proof.Gen.NormGuReferenceIdeal.Run

@[expose] public section

set_option maxRecDepth 16384

/-! The gradient before the feed-forward's norm: the arrays the reference leaves. -/

noncomputable section

open Idealize.ShloMosaic Idealize.ShloMosaic.TcCoe Idealize.SL.Sem

namespace Cert.Pre_norm_gu_finite.Calc
open Cert.Pre_norm_gu_finite

/-! ## The precondition: every entry of an argument is a real number -/

theorem facts : Cert.Pre_norm_gu_finite.Facts where
  bcast_S_S4096x5632 := by decide
  reducesTo_S4096x5632_S_d0_1 := by decide
  h_S_ := by decide
  bcast_S_S1024x5632 := by decide
  reducesTo_S1024x5632_S_d0_1 := by decide
  bcast_S_S4096x1024 := by decide
  reducesTo_S4096x1024_S_d0_1 := by decide
  bcast_S_S1x1024 := by decide
  reducesTo_S1x1024_S_d0_1 := by decide

theorem reals {a0 : FVec Ideal S4096x5632 .bf16} {a1 : FVec Ideal S1024x5632 .bf16} {a2 : FVec Ideal S4096x1024 .f32} {a3 : FVec Ideal S1x1024 .f32}
    {a4 : FVec Ideal S4096x1024 .f32} (h : @Cert.Pre_norm_gu_finite.fn facts Ideal _ a0 a1 a2 a3 a4 = fun _ => 1#1) :
    (∀ i, (a0 i : EReal) = ((EReal.toReal (a0 i) : ℝ) : EReal)) ∧ (∀ i, (a1 i : EReal) = ((EReal.toReal (a1 i) : ℝ) : EReal))
    ∧ (∀ i, (a2 i : EReal) = ((EReal.toReal (a2 i) : ℝ) : EReal)) ∧ (∀ i, (a3 i : EReal) = ((EReal.toReal (a3 i) : ℝ) : EReal))
    ∧ (∀ i, (a4 i : EReal) = ((EReal.toReal (a4 i) : ℝ) : EReal)) := by
  have e := congrFun h (Shape.Idx.first facts.h_S_)
  obtain ⟨e, e4⟩ := Cert.Pre_finite.Gla.and_one e
  obtain ⟨e, e3⟩ := Cert.Pre_finite.Gla.and_one e
  obtain ⟨e, e2⟩ := Cert.Pre_finite.Gla.and_one e
  obtain ⟨e0, e1⟩ := Cert.Pre_finite.Gla.and_one e
  exact ⟨Cert.Pre_finite.Gla.real_of_all _ _ _ _ _ e0, Cert.Pre_finite.Gla.real_of_all _ _ _ _ _ e1, Cert.Pre_finite.Gla.real_of_all _ _ _ _ _ e2,
    Cert.Pre_finite.Gla.real_of_all _ _ _ _ _ e3, Cert.Pre_finite.Gla.real_of_all _ _ _ _ _ e4⟩

end Cert.Pre_norm_gu_finite.Calc

namespace Cert.NormGuReferenceIdeal.Calc
open Cert.NormGuReferenceIdeal Cert.NormGuReferenceIdeal.Gen Cert.NormGuReferenceIdeal.Value Cert.Tile Cert.Gla
open Cert.NormGuIdeal.Calc (dh dxA dx16A dgA dxA_at dx16A_at dgA_at)

/-! ## The reference, a value at a time -/

section
variable (a0 : FVec Ideal S4096x5632 .bf16) (a1 : FVec Ideal S1024x5632 .bf16) (a2 : FVec Ideal S4096x1024 .f32) (a3 : FVec Ideal S1x1024 .f32)
  (a4 : FVec Ideal S4096x1024 .f32)

/-- The gradient after the norm. -/
def dotV : FVec Ideal S4096x1024 .f32 :=
  Host.dotGeneral (F := Ideal) dot_S4096x5632_S1024x5632_S4096x1024_1_1_0_0_n_n none (extf .f32 a0 bitsLt_bf16_f32) (extf .f32 a1 bitsLt_bf16_f32)
/-- The mean of each row's squares, with the offset. -/
def varV : FVec Ideal S4096x1 .f32 :=
  addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
/-- Its inverse square root. -/
def rstdV : FVec Ideal S4096x1 .f32 := Host.rsqrt (varV a2)
/-- The gradient of the normed rows. -/
def dxnV : FVec Ideal S4096x1024 .f32 := mulf (dotV a0 a1) (broadcastInDim S4096x1024 ![0, 1] bcast_S1x1024_S4096x1024_0_1 a3)
/-- What the normed rows give the inverse square root. -/
def drV : FVec Ideal S4096 .f32 := Host.reduceAdd (mulf a2 (dxnV a0 a1 a3)) (constant S_ .f32 0x00000000#32) reducesTo_S4096x1024_S4096_d1 h_S_
/-- What that gives each square, one number a row. -/
def corV : FVec Ideal S4096 .f32 :=
  Host.reduceAdd (Host.divf (mulf (shapeCast S4096x1 (drV a0 a1 a2 a3) shapeCasts_S4096_S4096x1) (mulf (broadcastInDim S4096x1 ![] bcast_S_S4096x1 (constant S_ .f32 0xBF000000#32)) (Host.divf (rstdV a2) (varV a2)))) (broadcastInDim S4096x1 ![] bcast_S_S4096x1 (constant S_ .f32 0x44800000#32))) (constant S_ .f32 0x00000000#32) reducesTo_S4096x1_S4096_d1 h_S_
/-- The gradient of the rows. -/
def dxV : FVec Ideal S4096x1024 .f32 :=
  addf a4 (addf (addf (mulf (dxnV a0 a1 a3) (broadcastInDim S4096x1024 ![0, 1] bcast_S4096x1_S4096x1024_0_1 (rstdV a2))) (mulf a2 (broadcastInDim S4096x1024 ![0] bcast_S4096_S4096x1024_0 (corV a0 a1 a2 a3)))) (mulf (broadcastInDim S4096x1024 ![0] bcast_S4096_S4096x1024_0 (corV a0 a1 a2 a3)) a2))
/-- The gradient of the gain, on eight rows. -/
def dgV : FVec Ideal S8x1024 .f32 :=
  broadcastInDim S8x1024 ![0, 1] bcast_S1x1024_S8x1024_0_1 (shapeCast S1x1024 (Host.reduceAdd (mulf (mulf a2 (broadcastInDim S4096x1024 ![0, 1] bcast_S4096x1_S4096x1024_0_1 (rstdV a2))) (dotV a0 a1)) (constant S_ .f32 0x00000000#32) reducesTo_S4096x1024_S1024_d0 h_S_) shapeCasts_S1024_S1x1024)

end

theorem v38_eq (m : (ℓ : Loc nD τ sig) → Buf (Elt Ideal) ℓ) (c : Dev nD) : res_main_v38 m c
    = dxV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_main_v38 dxV corV drV dxnV rstdV varV dotV
  rfl
theorem v39_eq (m : (ℓ : Loc nD τ sig) → Buf (Elt Ideal) ℓ) (c : Dev nD) : res_main_v39 m c
    = truncf .bf16 (dxV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) bitsLt_bf16_f32 := by
  unfold res_main_v39 dxV corV drV dxnV rstdV varV dotV
  rfl

section
variable {a0 : FVec Ideal S4096x5632 .bf16} {a1 : FVec Ideal S1024x5632 .bf16} {a2 : FVec Ideal S4096x1024 .f32} {a3 : FVec Ideal S1x1024 .f32}
  {a4 : FVec Ideal S4096x1024 .f32} {a : Fin 4096 → Fin 5632 → ℝ} {b : Fin 1024 → Fin 5632 → ℝ} {x : Fin 4096 → Fin 1024 → ℝ} {g : Fin 1024 → ℝ} {r : Fin 4096 → Fin 1024 → ℝ}
  (h0 : ∀ p k, (a0 (ix2 p k) : EReal) = ((a p k : ℝ) : EReal)) (h1 : ∀ q k, (a1 (ix2 q k) : EReal) = ((b q k : ℝ) : EReal))
  (h2 : ∀ p q, (a2 (ix2 p q) : EReal) = ((x p q : ℝ) : EReal)) (h3 : ∀ q, (a3 (ix2 0 q) : EReal) = ((g q : ℝ) : EReal))
  (h4 : ∀ p q, (a4 (ix2 p q) : EReal) = ((r p q : ℝ) : EReal))

include h0 h1 in
theorem dot_at (p : Fin 4096) (q : Fin 1024) : dotV a0 a1 (ix2 p q) = ((dh a b p q : ℝ) : EReal) := by
  pointwise [dotV]
  simp only [h0, h1, ← EReal.coe_mul, ← coe_sum]
  rfl

include h2 in
theorem var_at (p : Fin 4096) : varV a2 (ix2 p 0) = ((Norm.var (x p) : ℝ) : EReal) := by
  pointwise [varV]
  simp only [h2, ← EReal.coe_mul, ← coe_sum, zero_add, Norm.ofBits_1024_f32, ofBits_eps_f32.1, div_coe' (show (1024 : ℝ) ≠ 0 by norm_num), ← EReal.coe_add]
  rfl

include h2 in
theorem rstd_at (p : Fin 4096) : rstdV a2 (ix2 p 0) = ((Norm.rstd (x p) : ℝ) : EReal) := by
  have e := var_at h2 p
  pointwise [rstdV]
  rw [e, rsqrt_coe' (Norm.var_pos _)]; rfl

include h0 h1 h3 in
theorem dxn_at (p : Fin 4096) (q : Fin 1024) : dxnV a0 a1 a3 (ix2 p q) = ((dh a b p q * g q : ℝ) : EReal) := by
  have e := dot_at h0 h1 p q
  have e3 := h3 q
  pointwise [dxnV]
  rw [e, e3, ← EReal.coe_mul]

include h0 h1 h2 h3 in
theorem dr_at (p : Fin 4096) : drV a0 a1 a2 a3 (ix1 p) = ((∑ w, x p w * (dh a b p w * g w) : ℝ) : EReal) := by
  have e := dxn_at h0 h1 h3 p
  pointwise [drV]
  simp only [h2, e, ← EReal.coe_mul, ← coe_sum, zero_add]

include h0 h1 h2 h3 in
theorem cor_at (p : Fin 4096) : corV a0 a1 a2 a3 (ix1 p)
    = (((∑ w, x p w * (dh a b p w * g w)) * (-(1 / 2) * (Norm.rstd (x p) / Norm.var (x p))) / 1024 : ℝ) : EReal) := by
  have e1 := dr_at h0 h1 h2 h3 p
  have e2 := var_at h2 p
  have e3 := rstd_at h2 p
  pointwise [corV]
  simp only [Finset.univ_unique, Finset.sum_singleton, Fin.default_eq_zero, Fin.isValue, e1, e2, e3, Norm.ofBits_1024_f32, Cert.ReferenceIdeal.Gla.ofBits_mhalf_f32, div_coe' (Norm.var_pos (x p)).ne', div_coe' (show (1024 : ℝ) ≠ 0 by norm_num),
    ← EReal.coe_mul, zero_add]

include h0 h1 h2 h3 h4 in
theorem dx_at (p : Fin 4096) (q : Fin 1024) : dxV a0 a1 a2 a3 a4 (ix2 p q) = ((Norm.dx (dh a b p) g (x p) (r p) q : ℝ) : EReal) := by
  have e1 := dxn_at h0 h1 h3 p q
  have e2 := rstd_at h2 p
  have e3 := cor_at h0 h1 h2 h3 p
  have e4 := h4 p q
  have e5 := h2 p q
  pointwise [dxV]
  rw [e1, e2, e3, e4, e5]
  simp only [← EReal.coe_mul, ← EReal.coe_add]
  exact congrArg _ (Norm.dx_eq (dh a b p) g (x p) (r p) q)

include h0 h1 h2 in
theorem dg_at (e : Fin 8) (q : Fin 1024) : dgV a0 a1 a2 (ix2 e q) = ((∑ p, dh a b p q * Norm.xn (x p) q : ℝ) : EReal) := by
  have e1 : ∀ p, dotV a0 a1 (ix2 p q) = _ := fun p => dot_at h0 h1 p q
  have e2 := rstd_at h2
  pointwise [dgV]
  simp only [e1, e2, h2, ← EReal.coe_mul, ← coe_sum, zero_add]
  refine congrArg _ (Finset.sum_congr rfl fun p _ => ?_)
  unfold Norm.xn
  ring

include h0 h1 h2 h3 h4 in
theorem dx_eq : dxV a0 a1 a2 a3 a4 = dxA a b x g r := by
  funext i
  obtain ⟨p, q, rfl⟩ := exists_ix2 i
  exact (dx_at h0 h1 h2 h3 h4 p q).trans (dxA_at a b x g r (i := ix2 p q) (p := p) (q := q) rfl rfl).symm
include h0 h1 h2 h3 h4 in
theorem dx16_eq : truncf .bf16 (dxV a0 a1 a2 a3 a4) bitsLt_bf16_f32 = dx16A a b x g r := by
  funext i
  obtain ⟨p, q, rfl⟩ := exists_ix2 i
  exact (dx_at h0 h1 h2 h3 h4 p q).trans (dx16A_at a b x g r (i := ix2 p q) (p := p) (q := q) rfl rfl).symm
include h0 h1 h2 in
theorem dg_eq : dgV a0 a1 a2 = dgA a b x := by
  funext i
  obtain ⟨e, q, rfl⟩ := exists_ix2 i
  exact (dg_at h0 h1 h2 e q).trans (dgA_at a b x (i := ix2 e q) (q := q) rfl).symm
end

end Cert.NormGuReferenceIdeal.Calc

end
-- ==== Proof.WInVal.lean ====
module

public import proofs.«01_k».proof.Proof.Tile
public import proofs.«01_k».proof.Proof.Gen.WInIdeal.Value
public import proofs.«01_k».proof.Proof.Gen.WInReferenceIdeal.Run

@[expose] public section

set_option maxRecDepth 16384

/-! The gradient of the mixer's projection: the kernel's array, and the reference's, is the product of the first argument transposed with the second. -/

noncomputable section

open Idealize.ShloMosaic Idealize.ShloMosaic.TcCoe Idealize.SL.Sem

namespace Cert.WInIdeal.Calc
open Cert.WInIdeal Cert.WInIdeal.Gen Cert.Tile

/-- The product, the first array transposed. -/
def out (a : Vec Ideal S4096x1024 .bf16) (b : Vec Ideal S4096x8320 .bf16) : Vec Ideal S1024x8320 .bf16 :=
  fun i => ((∑ k : Fin 4096, (a (ix2 k (i 0)) : EReal) * (b (ix2 k (i 1)) : EReal) : EReal))

theorem out_at (a : Vec Ideal S4096x1024 .bf16) (b : Vec Ideal S4096x8320 .bf16) {i : S1024x8320.Idx} {p : Fin 1024} {q : Fin 8320}
    (h0 : (i 0 : ℕ) = p) (h1 : (i 1 : ℕ) = q) :
    out a b i = (∑ k : Fin 4096, (a (ix2 k p) : EReal) * (b (ix2 k q) : EReal) : EReal) := by
  obtain rfl : i 0 = p := Fin.ext h0
  obtain rfl : i 1 = q := Fin.ext h1
  rfl

variable (m : (ℓ : Loc nD τ sig) → Buf (Elt Ideal) ℓ) (c : Dev nD)

theorem idx : ∀ t : Fin cfg0.N, win0_0.index t = ![t.val % 4, 0] ∧ win0_1.index t = ![t.val % 4, t.val / 4] ∧ win0_2.index t = ![0, t.val / 4] :=
  (by decide +kernel : ∀ t : Fin grid0.N, _)
theorem lt_N (t : Fin cfg0.N) : t.val < 20 := lt_of_lt_of_eq t.isLt N_0

/-- The arguments. -/
abbrev A : Vec Ideal S4096x1024 .bf16 := m ((c : Thread nD τ).loc main_arg0)
abbrev B : Vec Ideal S4096x8320 .bf16 := m ((c : Thread nD τ).loc main_arg1)

/-- What one grid point adds: the product of its blocks. -/
def part (t : Fin cfg0.N) : Vec Ideal S1024x1664 .f32 := k0_pay1 (F := Ideal) (iblk m c 0 t) (iblk m c 1 t)

theorem part_at (t : Fin cfg0.N) (j : ℕ) (hj : j < 4) (h : t.val % 4 = j) (r : Fin 5) (hr : t.val / 4 = r) (p : Fin 1024) (q : Fin 1664) :
    part m c t (ix2 p q) = (∑ k : Fin 1024, (A m c (ix2 (at_ 4096 1024 4 j hj rfl k) p) : EReal)
      * (B m c (ix2 (at_ 4096 1024 4 j hj rfl k) ⟨1664 * r + q, by omega⟩) : EReal) : EReal) := by
  have ht := lt_N t
  have e0 : ∀ k : Fin 1024, (iblk m c 0 t : Vec Ideal S1024x1024 .bf16) (ix2 k p)
      = A m c (ix2 (at_ 4096 1024 4 j hj rfl k) p) := by
    intro k
    subst h
    blk_point [iblk, V, idx t, at_, hr]
  have e1 : ∀ k : Fin 1024, (iblk m c 1 t : Vec Ideal S1024x1664 .bf16) (ix2 k q)
      = B m c (ix2 (at_ 4096 1024 4 j hj rfl k) ⟨1664 * r + q, by omega⟩) := by
    intro k
    subst h
    blk_point [iblk, V, idx t, at_, hr]
  have e : ∀ (x0 : Vec Ideal S1024x1024 .bf16) (x1 : Vec Ideal S1024x1664 .bf16),
      k0_pay1 (F := Ideal) x0 x1 (ix2 p q) = (∑ k : Fin 1024, (x0 (ix2 k p) : EReal) * (x1 (ix2 k q) : EReal) : EReal) := by
    intro x0 x1
    pointwise [k0_pay1]
  refine (e _ _).trans ?_
  simp only [e0, e1]

section
variable (i : grid0.Coords) (a3 : Memref sig .tc .vmem S1024x1024 .bf16) (h3 : a3.IsWhole) (a4 : Memref sig .tc .vmem S1024x1664 .bf16) (h4 : a4.IsWhole)
  (a5 : Memref sig .tc .vmem S1024x1664 .bf16) (h5 : a5.IsWhole) (a6 : Memref sig .tc .vmem S1024x1664 .f32) (h6 : a6.IsWhole)
  (x0 : Vec Ideal S1024x1024 .bf16) (x1 : Vec Ideal S1024x1664 .bf16) (xs : Vec Ideal S1024x1664 .f32)

/-- The first of four points writes its product to the running sum. -/
theorem scratch_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  unfold k0_pay2
  simp only [View.readAt_eq_ld, h3.read_unread, h4.read_unread, View.ld_unit_zero (S := S1024x1024) zero2, View.ld_unit_zero (S := S1024x1664) zero2, shapeCast_self]

/-- The next two add theirs. -/
theorem scratch_B (hc0 : ¬cond0_0 i) (hc1 : cond0_1 i) (hc2 : ¬cond0_2 i) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero zero2]
  unfold k0_pay3
  simp only [View.readAt_eq_ld, h3.read_unread, h4.read_unread, h6.read_unread, View.ld_unit_zero (S := S1024x1024) zero2, View.ld_unit_zero (S := S1024x1664) zero2, shapeCast_self]

/-- The last adds its own and writes the sum out. -/
theorem written_C (hc0 : ¬cond0_0 i) (hc1 : ¬cond0_1 i) (hc2 : cond0_2 i) :
    out0_C_2 c i a3 h3 a4 h4 a5 h5 a6 h6 hc0 hc1 hc2 x0 x1 xs = truncf .bf16 (addf xs (k0_pay1 x0 x1)) bitsLt_bf16_f32 := by
  unfold out0_C_2
  rw [View.read_writes_eq_canon _ _ _ (cover0_C_2 c i a3 h3 a4 h4 a5 h5 a6 h6 hc0 hc1 hc2 x0 x1 xs)]
  unfold kernelRun0_C
  dsimp only
  rw [View.canon_unit_zero zero2]
  unfold k0_pay4
  simp only [View.readAt_eq_ld, h3.read_unread, h4.read_unread, h6.read_unread, View.ld_unit_zero (S := S1024x1024) zero2, View.ld_unit_zero (S := S1024x1664) zero2, shapeCast_self]
end

theorem run_A (t : Fin cfg0.N) (h : t.val % 4 = 0) : (outsAt0 m c t.val t.isLt).2 = part m c t := by
  rw [outsAt0_A m c t h (by omega) (by omega)]
  dsimp only
  rw [scratch_A]
  rfl

theorem run_B (t u : Fin cfg0.N) (h : t.val % 4 = 1 ∨ t.val % 4 = 2) (hu : t.val - 1 = u.val) :
    (outsAt0 m c t.val t.isLt).2 = addf (F := Ideal) (s := S1024x1664) (φ := .f32) (outsAt0 m c u.val u.isLt).2 (part m c t) := by
  rw [outsAt0_B m c t (by omega) (by omega) (by omega)]
  simp only [hu]
  rw [scratch_B]
  rfl

theorem run_C (t u : Fin cfg0.N) (h : t.val % 4 = 3) (hu : t.val - 1 = u.val) :
    (outsAt0 m c t.val t.isLt).1 = truncf (F := Ideal) (s := S1024x1664) .bf16 (addf (F := Ideal) (s := S1024x1664) (φ := .f32) (outsAt0 m c u.val u.isLt).2 (part m c t)) bitsLt_bf16_f32 := by
  rw [outsAt0_C m c t (by omega) (by omega) (by omega)]
  simp only [hu]
  rw [written_C]
  rfl

theorem arr2 : (dats m 0 c).arrAt 2 cfg0.N = out (m ((c : Thread nD τ).loc main_arg0)) (m ((c : Thread nD τ).loc main_arg1)) := by
  refine (dats m 0 c).arrAt_eq_of_covers 2 _ (by decide +kernel) fun t hf y => ?_
  have ht := lt_N t
  have h3 : t.val % 4 = 3 := (flush0_2 t).mp hf
  obtain ⟨p, q, rfl⟩ := exists_ix2 y
  blk_simp
  rw [after0_2]
  have hN : cfg0.N = 20 := N_0
  let t2 : Fin cfg0.N := ⟨t.val - 1, by omega⟩
  let t1 : Fin cfg0.N := ⟨t.val - 2, by omega⟩
  let t0 : Fin cfg0.N := ⟨t.val - 3, by omega⟩
  have e2 : t2.val = t.val - 1 := rfl
  have e1 : t1.val = t.val - 2 := rfl
  have e0 : t0.val = t.val - 3 := rfl
  let r : Fin 5 := ⟨t.val / 4, by omega⟩
  have er : r.val = t.val / 4 := rfl
  rw [run_C m c t t2 h3 rfl, run_B m c t2 t1 (by omega) (by omega), run_B m c t1 t0 (by omega) (by omega), run_A m c t0 (by omega)]
  have e : ∀ a0 a1 a2 a3 : Vec Ideal S1024x1664 .f32, (truncf (F := Ideal) (s := S1024x1664) .bf16 (addf (F := Ideal) (s := S1024x1664) (φ := .f32) (addf (F := Ideal) (s := S1024x1664) (φ := .f32) (addf (F := Ideal) (s := S1024x1664) (φ := .f32) a0 a1) a2) a3) bitsLt_bf16_f32 : Vec Ideal S1024x1664 .bf16) (ix2 p q)
      = (((a0 (ix2 p q) : EReal) + (a1 (ix2 p q) : EReal) + (a2 (ix2 p q) : EReal) + (a3 (ix2 p q) : EReal) : EReal)) := fun _ _ _ _ => rfl
  refine (e _ _ _ _).trans ?_
  rw [part_at m c t0 0 (by decide) (by omega) r (by omega), part_at m c t1 1 (by decide) (by omega) r (by omega),
    part_at m c t2 2 (by decide) (by omega) r (by omega), part_at m c t 3 (by decide) h3 r rfl]
  refine (sum_four (M := EReal) 4096 1024 rfl fun x => (A m c (ix2 x p) : EReal) * (B m c (ix2 x ⟨1664 * r + q, by omega⟩) : EReal)).trans ?_
  refine (out_at _ _ ?_ ?_).symm
  · blk_simp [idx t]
  · blk_simp [idx t]; dsimp only [r]; omega

end Cert.WInIdeal.Calc

namespace Cert.WInReferenceIdeal.Calc
open Cert.WInReferenceIdeal Cert.WInReferenceIdeal.Gen Cert.Tile

theorem ref_eq (a : Vec Ideal S4096x1024 .bf16) (b : Vec Ideal S4096x8320 .bf16) :
    (truncf .bf16 (transpose S1024x8320 [1, 0] (Host.dotGeneral (F := Ideal) dot_S4096x8320_S4096x1024_S8320x1024_0_0_1_1_n_n none (extf .f32 b bitsLt_bf16_f32) (extf .f32 a bitsLt_bf16_f32)) transposes_S8320x1024_S1024x8320_1_0) bitsLt_bf16_f32 : Vec Ideal S1024x8320 .bf16)
      = Cert.WInIdeal.Calc.out a b := by
  funext i
  obtain ⟨p, q, rfl⟩ := exists_ix2 i
  rw [Cert.WInIdeal.Calc.out_at a b (p := p) (q := q) rfl rfl]
  pointwise
  exact Finset.sum_congr rfl fun k _ => mul_comm _ _

end Cert.WInReferenceIdeal.Calc

end
-- ==== Proof.WGuVal.lean ====
module

public import proofs.«01_k».proof.Proof.Tile
public import proofs.«01_k».proof.Proof.Gen.WGuIdeal.Value
public import proofs.«01_k».proof.Proof.Gen.WGuReferenceIdeal.Run

@[expose] public section

set_option maxRecDepth 16384

/-! The gradient of the feed-forward's first matrix: the kernel's array, and the reference's, is the product of the first argument transposed with the second. -/

noncomputable section

open Idealize.ShloMosaic Idealize.ShloMosaic.TcCoe Idealize.SL.Sem

namespace Cert.WGuIdeal.Calc
open Cert.WGuIdeal Cert.WGuIdeal.Gen Cert.Tile

/-- The product, the first array transposed. -/
def out (a : Vec Ideal S4096x1024 .bf16) (b : Vec Ideal S4096x5632 .bf16) : Vec Ideal S1024x5632 .bf16 :=
  fun i => ((∑ k : Fin 4096, (a (ix2 k (i 0)) : EReal) * (b (ix2 k (i 1)) : EReal) : EReal))

theorem out_at (a : Vec Ideal S4096x1024 .bf16) (b : Vec Ideal S4096x5632 .bf16) {i : S1024x5632.Idx} {p : Fin 1024} {q : Fin 5632}
    (h0 : (i 0 : ℕ) = p) (h1 : (i 1 : ℕ) = q) :
    out a b i = (∑ k : Fin 4096, (a (ix2 k p) : EReal) * (b (ix2 k q) : EReal) : EReal) := by
  obtain rfl : i 0 = p := Fin.ext h0
  obtain rfl : i 1 = q := Fin.ext h1
  rfl

variable (m : (ℓ : Loc nD τ sig) → Buf (Elt Ideal) ℓ) (c : Dev nD)

theorem idx : ∀ t : Fin cfg0.N, win0_0.index t = ![t.val % 4, 0] ∧ win0_1.index t = ![t.val % 4, t.val / 4] ∧ win0_2.index t = ![0, t.val / 4] :=
  (by decide +kernel : ∀ t : Fin grid0.N, _)
theorem lt_N (t : Fin cfg0.N) : t.val < 16 := lt_of_lt_of_eq t.isLt N_0

/-- The arguments. -/
abbrev A : Vec Ideal S4096x1024 .bf16 := m ((c : Thread nD τ).loc main_arg0)
abbrev B : Vec Ideal S4096x5632 .bf16 := m ((c : Thread nD τ).loc main_arg1)

/-- What one grid point adds: the product of its blocks. -/
def part (t : Fin cfg0.N) : Vec Ideal S1024x1408 .f32 := k0_pay1 (F := Ideal) (iblk m c 0 t) (iblk m c 1 t)

theorem part_at (t : Fin cfg0.N) (j : ℕ) (hj : j < 4) (h : t.val % 4 = j) (r : Fin 4) (hr : t.val / 4 = r) (p : Fin 1024) (q : Fin 1408) :
    part m c t (ix2 p q) = (∑ k : Fin 1024, (A m c (ix2 (at_ 4096 1024 4 j hj rfl k) p) : EReal)
      * (B m c (ix2 (at_ 4096 1024 4 j hj rfl k) ⟨1408 * r + q, by omega⟩) : EReal) : EReal) := by
  have ht := lt_N t
  have e0 : ∀ k : Fin 1024, (iblk m c 0 t : Vec Ideal S1024x1024 .bf16) (ix2 k p)
      = A m c (ix2 (at_ 4096 1024 4 j hj rfl k) p) := by
    intro k
    subst h
    blk_point [iblk, V, idx t, at_, hr]
  have e1 : ∀ k : Fin 1024, (iblk m c 1 t : Vec Ideal S1024x1408 .bf16) (ix2 k q)
      = B m c (ix2 (at_ 4096 1024 4 j hj rfl k) ⟨1408 * r + q, by omega⟩) := by
    intro k
    subst h
    blk_point [iblk, V, idx t, at_, hr]
  have e : ∀ (x0 : Vec Ideal S1024x1024 .bf16) (x1 : Vec Ideal S1024x1408 .bf16),
      k0_pay1 (F := Ideal) x0 x1 (ix2 p q) = (∑ k : Fin 1024, (x0 (ix2 k p) : EReal) * (x1 (ix2 k q) : EReal) : EReal) := by
    intro x0 x1
    pointwise [k0_pay1]
  refine (e _ _).trans ?_
  simp only [e0, e1]

section
variable (i : grid0.Coords) (a3 : Memref sig .tc .vmem S1024x1024 .bf16) (h3 : a3.IsWhole) (a4 : Memref sig .tc .vmem S1024x1408 .bf16) (h4 : a4.IsWhole)
  (a5 : Memref sig .tc .vmem S1024x1408 .bf16) (h5 : a5.IsWhole) (a6 : Memref sig .tc .vmem S1024x1408 .f32) (h6 : a6.IsWhole)
  (x0 : Vec Ideal S1024x1024 .bf16) (x1 : Vec Ideal S1024x1408 .bf16) (xs : Vec Ideal S1024x1408 .f32)

/-- The first of four points writes its product to the running sum. -/
theorem scratch_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  unfold k0_pay2
  simp only [View.readAt_eq_ld, h3.read_unread, h4.read_unread, View.ld_unit_zero (S := S1024x1024) zero2, View.ld_unit_zero (S := S1024x1408) zero2, shapeCast_self]

/-- The next two add theirs. -/
theorem scratch_B (hc0 : ¬cond0_0 i) (hc1 : cond0_1 i) (hc2 : ¬cond0_2 i) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero zero2]
  unfold k0_pay3
  simp only [View.readAt_eq_ld, h3.read_unread, h4.read_unread, h6.read_unread, View.ld_unit_zero (S := S1024x1024) zero2, View.ld_unit_zero (S := S1024x1408) zero2, shapeCast_self]

/-- The last adds its own and writes the sum out. -/
theorem written_C (hc0 : ¬cond0_0 i) (hc1 : ¬cond0_1 i) (hc2 : cond0_2 i) :
    out0_C_2 c i a3 h3 a4 h4 a5 h5 a6 h6 hc0 hc1 hc2 x0 x1 xs = truncf .bf16 (addf xs (k0_pay1 x0 x1)) bitsLt_bf16_f32 := by
  unfold out0_C_2
  rw [View.read_writes_eq_canon _ _ _ (cover0_C_2 c i a3 h3 a4 h4 a5 h5 a6 h6 hc0 hc1 hc2 x0 x1 xs)]
  unfold kernelRun0_C
  dsimp only
  rw [View.canon_unit_zero zero2]
  unfold k0_pay4
  simp only [View.readAt_eq_ld, h3.read_unread, h4.read_unread, h6.read_unread, View.ld_unit_zero (S := S1024x1024) zero2, View.ld_unit_zero (S := S1024x1408) zero2, shapeCast_self]
end

theorem run_A (t : Fin cfg0.N) (h : t.val % 4 = 0) : (outsAt0 m c t.val t.isLt).2 = part m c t := by
  rw [outsAt0_A m c t h (by omega) (by omega)]
  dsimp only
  rw [scratch_A]
  rfl

theorem run_B (t u : Fin cfg0.N) (h : t.val % 4 = 1 ∨ t.val % 4 = 2) (hu : t.val - 1 = u.val) :
    (outsAt0 m c t.val t.isLt).2 = addf (F := Ideal) (s := S1024x1408) (φ := .f32) (outsAt0 m c u.val u.isLt).2 (part m c t) := by
  rw [outsAt0_B m c t (by omega) (by omega) (by omega)]
  simp only [hu]
  rw [scratch_B]
  rfl

theorem run_C (t u : Fin cfg0.N) (h : t.val % 4 = 3) (hu : t.val - 1 = u.val) :
    (outsAt0 m c t.val t.isLt).1 = truncf (F := Ideal) (s := S1024x1408) .bf16 (addf (F := Ideal) (s := S1024x1408) (φ := .f32) (outsAt0 m c u.val u.isLt).2 (part m c t)) bitsLt_bf16_f32 := by
  rw [outsAt0_C m c t (by omega) (by omega) (by omega)]
  simp only [hu]
  rw [written_C]
  rfl

theorem arr2 : (dats m 0 c).arrAt 2 cfg0.N = out (m ((c : Thread nD τ).loc main_arg0)) (m ((c : Thread nD τ).loc main_arg1)) := by
  refine (dats m 0 c).arrAt_eq_of_covers 2 _ (by decide +kernel) fun t hf y => ?_
  have ht := lt_N t
  have h3 : t.val % 4 = 3 := (flush0_2 t).mp hf
  obtain ⟨p, q, rfl⟩ := exists_ix2 y
  blk_simp
  rw [after0_2]
  have hN : cfg0.N = 16 := N_0
  let t2 : Fin cfg0.N := ⟨t.val - 1, by omega⟩
  let t1 : Fin cfg0.N := ⟨t.val - 2, by omega⟩
  let t0 : Fin cfg0.N := ⟨t.val - 3, by omega⟩
  have e2 : t2.val = t.val - 1 := rfl
  have e1 : t1.val = t.val - 2 := rfl
  have e0 : t0.val = t.val - 3 := rfl
  let r : Fin 4 := ⟨t.val / 4, by omega⟩
  have er : r.val = t.val / 4 := rfl
  rw [run_C m c t t2 h3 rfl, run_B m c t2 t1 (by omega) (by omega), run_B m c t1 t0 (by omega) (by omega), run_A m c t0 (by omega)]
  have e : ∀ a0 a1 a2 a3 : Vec Ideal S1024x1408 .f32, (truncf (F := Ideal) (s := S1024x1408) .bf16 (addf (F := Ideal) (s := S1024x1408) (φ := .f32) (addf (F := Ideal) (s := S1024x1408) (φ := .f32) (addf (F := Ideal) (s := S1024x1408) (φ := .f32) a0 a1) a2) a3) bitsLt_bf16_f32 : Vec Ideal S1024x1408 .bf16) (ix2 p q)
      = (((a0 (ix2 p q) : EReal) + (a1 (ix2 p q) : EReal) + (a2 (ix2 p q) : EReal) + (a3 (ix2 p q) : EReal) : EReal)) := fun _ _ _ _ => rfl
  refine (e _ _ _ _).trans ?_
  rw [part_at m c t0 0 (by decide) (by omega) r (by omega), part_at m c t1 1 (by decide) (by omega) r (by omega),
    part_at m c t2 2 (by decide) (by omega) r (by omega), part_at m c t 3 (by decide) h3 r rfl]
  refine (sum_four (M := EReal) 4096 1024 rfl fun x => (A m c (ix2 x p) : EReal) * (B m c (ix2 x ⟨1408 * r + q, by omega⟩) : EReal)).trans ?_
  refine (out_at _ _ ?_ ?_).symm
  · blk_simp [idx t]
  · blk_simp [idx t]; dsimp only [r]; omega

end Cert.WGuIdeal.Calc

namespace Cert.WGuReferenceIdeal.Calc
open Cert.WGuReferenceIdeal Cert.WGuReferenceIdeal.Gen Cert.Tile

theorem ref_eq (a : Vec Ideal S4096x1024 .bf16) (b : Vec Ideal S4096x5632 .bf16) :
    (truncf .bf16 (transpose S1024x5632 [1, 0] (Host.dotGeneral (F := Ideal) dot_S4096x5632_S4096x1024_S5632x1024_0_0_1_1_n_n none (extf .f32 b bitsLt_bf16_f32) (extf .f32 a bitsLt_bf16_f32)) transposes_S5632x1024_S1024x5632_1_0) bitsLt_bf16_f32 : Vec Ideal S1024x5632 .bf16)
      = Cert.WGuIdeal.Calc.out a b := by
  funext i
  obtain ⟨p, q, rfl⟩ := exists_ix2 i
  rw [Cert.WGuIdeal.Calc.out_at a b (p := p) (q := q) rfl rfl]
  pointwise
  exact Finset.sum_congr rfl fun k _ => mul_comm _ _

end Cert.WGuReferenceIdeal.Calc

end
-- ==== Proof.WDownVal.lean ====
module

public import proofs.«01_k».proof.Proof.Tile
public import proofs.«01_k».proof.Proof.Gen.WDownIdeal.Value
public import proofs.«01_k».proof.Proof.Gen.WDownReferenceIdeal.Run

@[expose] public section

set_option maxRecDepth 16384

/-! The gradient of the feed-forward's second matrix: the kernel's array, and the reference's, is the product of the first argument transposed with the second. -/

noncomputable section

open Idealize.ShloMosaic Idealize.ShloMosaic.TcCoe Idealize.SL.Sem

namespace Cert.WDownIdeal.Calc
open Cert.WDownIdeal Cert.WDownIdeal.Gen Cert.Tile

/-- The product, the first array transposed. -/
def out (a : Vec Ideal S4096x2816 .bf16) (b : Vec Ideal S4096x1024 .bf16) : Vec Ideal S2816x1024 .bf16 :=
  fun i => ((∑ k : Fin 4096, (a (ix2 k (i 0)) : EReal) * (b (ix2 k (i 1)) : EReal) : EReal))

theorem out_at (a : Vec Ideal S4096x2816 .bf16) (b : Vec Ideal S4096x1024 .bf16) {i : S2816x1024.Idx} {p : Fin 2816} {q : Fin 1024}
    (h0 : (i 0 : ℕ) = p) (h1 : (i 1 : ℕ) = q) :
    out a b i = (∑ k : Fin 4096, (a (ix2 k p) : EReal) * (b (ix2 k q) : EReal) : EReal) := by
  obtain rfl : i 0 = p := Fin.ext h0
  obtain rfl : i 1 = q := Fin.ext h1
  rfl

variable (m : (ℓ : Loc nD τ sig) → Buf (Elt Ideal) ℓ) (c : Dev nD)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)
theorem lt_N (t : Fin cfg0.N) : t.val < 8 := lt_of_lt_of_eq t.isLt N_0

/-- The arguments. -/
abbrev A : Vec Ideal S4096x2816 .bf16 := m ((c : Thread nD τ).loc main_arg0)
abbrev B : Vec Ideal S4096x1024 .bf16 := m ((c : Thread nD τ).loc main_arg1)

/-- What one grid point adds: the product of its blocks. -/
def part (t : Fin cfg0.N) : Vec Ideal S1408x1024 .f32 := k0_pay1 (F := Ideal) (iblk m c 0 t) (iblk m c 1 t)

theorem part_at (t : Fin cfg0.N) (j : ℕ) (hj : j < 4) (h : t.val % 4 = j) (r : Fin 2) (hr : t.val / 4 = r) (p : Fin 1408) (q : Fin 1024) :
    part m c t (ix2 p q) = (∑ k : Fin 1024, (A m c (ix2 (at_ 4096 1024 4 j hj rfl k) ⟨1408 * r + p, by omega⟩) : EReal)
      * (B m c (ix2 (at_ 4096 1024 4 j hj rfl k) q) : EReal) : EReal) := by
  have ht := lt_N t
  have e0 : ∀ k : Fin 1024, (iblk m c 0 t : Vec Ideal S1024x1408 .bf16) (ix2 k p)
      = A m c (ix2 (at_ 4096 1024 4 j hj rfl k) ⟨1408 * r + p, by omega⟩) := by
    intro k
    subst h
    blk_point [iblk, V, idx t, at_, hr]
  have e1 : ∀ k : Fin 1024, (iblk m c 1 t : Vec Ideal S1024x1024 .bf16) (ix2 k q)
      = B m c (ix2 (at_ 4096 1024 4 j hj rfl k) q) := by
    intro k
    subst h
    blk_point [iblk, V, idx t, at_, hr]
  have e : ∀ (x0 : Vec Ideal S1024x1408 .bf16) (x1 : Vec Ideal S1024x1024 .bf16),
      k0_pay1 (F := Ideal) x0 x1 (ix2 p q) = (∑ k : Fin 1024, (x0 (ix2 k p) : EReal) * (x1 (ix2 k q) : EReal) : EReal) := by
    intro x0 x1
    pointwise [k0_pay1]
  refine (e _ _).trans ?_
  simp only [e0, e1]

section
variable (i : grid0.Coords) (a3 : Memref sig .tc .vmem S1024x1408 .bf16) (h3 : a3.IsWhole) (a4 : Memref sig .tc .vmem S1024x1024 .bf16) (h4 : a4.IsWhole)
  (a5 : Memref sig .tc .vmem S1408x1024 .bf16) (h5 : a5.IsWhole) (a6 : Memref sig .tc .vmem S1408x1024 .f32) (h6 : a6.IsWhole)
  (x0 : Vec Ideal S1024x1408 .bf16) (x1 : Vec Ideal S1024x1024 .bf16) (xs : Vec Ideal S1408x1024 .f32)

/-- The first of four points writes its product to the running sum. -/
theorem scratch_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  unfold k0_pay2
  simp only [View.readAt_eq_ld, h3.read_unread, h4.read_unread, View.ld_unit_zero (S := S1024x1408) zero2, View.ld_unit_zero (S := S1024x1024) zero2, View.ld_unit_zero (S := S1408x1024) zero2, shapeCast_self]

/-- The next two add theirs. -/
theorem scratch_B (hc0 : ¬cond0_0 i) (hc1 : cond0_1 i) (hc2 : ¬cond0_2 i) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero zero2]
  unfold k0_pay3
  simp only [View.readAt_eq_ld, h3.read_unread, h4.read_unread, h6.read_unread, View.ld_unit_zero (S := S1024x1408) zero2, View.ld_unit_zero (S := S1024x1024) zero2, View.ld_unit_zero (S := S1408x1024) zero2, shapeCast_self]

/-- The last adds its own and writes the sum out. -/
theorem written_C (hc0 : ¬cond0_0 i) (hc1 : ¬cond0_1 i) (hc2 : cond0_2 i) :
    out0_C_2 c i a3 h3 a4 h4 a5 h5 a6 h6 hc0 hc1 hc2 x0 x1 xs = truncf .bf16 (addf xs (k0_pay1 x0 x1)) bitsLt_bf16_f32 := by
  unfold out0_C_2
  rw [View.read_writes_eq_canon _ _ _ (cover0_C_2 c i a3 h3 a4 h4 a5 h5 a6 h6 hc0 hc1 hc2 x0 x1 xs)]
  unfold kernelRun0_C
  dsimp only
  rw [View.canon_unit_zero zero2]
  unfold k0_pay4
  simp only [View.readAt_eq_ld, h3.read_unread, h4.read_unread, h6.read_unread, View.ld_unit_zero (S := S1024x1408) zero2, View.ld_unit_zero (S := S1024x1024) zero2, View.ld_unit_zero (S := S1408x1024) zero2, shapeCast_self]
end

theorem run_A (t : Fin cfg0.N) (h : t.val % 4 = 0) : (outsAt0 m c t.val t.isLt).2 = part m c t := by
  rw [outsAt0_A m c t h (by omega) (by omega)]
  dsimp only
  rw [scratch_A]
  rfl

theorem run_B (t u : Fin cfg0.N) (h : t.val % 4 = 1 ∨ t.val % 4 = 2) (hu : t.val - 1 = u.val) :
    (outsAt0 m c t.val t.isLt).2 = addf (F := Ideal) (s := S1408x1024) (φ := .f32) (outsAt0 m c u.val u.isLt).2 (part m c t) := by
  rw [outsAt0_B m c t (by omega) (by omega) (by omega)]
  simp only [hu]
  rw [scratch_B]
  rfl

theorem run_C (t u : Fin cfg0.N) (h : t.val % 4 = 3) (hu : t.val - 1 = u.val) :
    (outsAt0 m c t.val t.isLt).1 = truncf (F := Ideal) (s := S1408x1024) .bf16 (addf (F := Ideal) (s := S1408x1024) (φ := .f32) (outsAt0 m c u.val u.isLt).2 (part m c t)) bitsLt_bf16_f32 := by
  rw [outsAt0_C m c t (by omega) (by omega) (by omega)]
  simp only [hu]
  rw [written_C]
  rfl

theorem arr2 : (dats m 0 c).arrAt 2 cfg0.N = out (m ((c : Thread nD τ).loc main_arg0)) (m ((c : Thread nD τ).loc main_arg1)) := by
  refine (dats m 0 c).arrAt_eq_of_covers 2 _ (by decide +kernel) fun t hf y => ?_
  have ht := lt_N t
  have h3 : t.val % 4 = 3 := (flush0_2 t).mp hf
  obtain ⟨p, q, rfl⟩ := exists_ix2 y
  blk_simp
  rw [after0_2]
  have hN : cfg0.N = 8 := N_0
  let t2 : Fin cfg0.N := ⟨t.val - 1, by omega⟩
  let t1 : Fin cfg0.N := ⟨t.val - 2, by omega⟩
  let t0 : Fin cfg0.N := ⟨t.val - 3, by omega⟩
  have e2 : t2.val = t.val - 1 := rfl
  have e1 : t1.val = t.val - 2 := rfl
  have e0 : t0.val = t.val - 3 := rfl
  let r : Fin 2 := ⟨t.val / 4, by omega⟩
  have er : r.val = t.val / 4 := rfl
  rw [run_C m c t t2 h3 rfl, run_B m c t2 t1 (by omega) (by omega), run_B m c t1 t0 (by omega) (by omega), run_A m c t0 (by omega)]
  have e : ∀ a0 a1 a2 a3 : Vec Ideal S1408x1024 .f32, (truncf (F := Ideal) (s := S1408x1024) .bf16 (addf (F := Ideal) (s := S1408x1024) (φ := .f32) (addf (F := Ideal) (s := S1408x1024) (φ := .f32) (addf (F := Ideal) (s := S1408x1024) (φ := .f32) a0 a1) a2) a3) bitsLt_bf16_f32 : Vec Ideal S1408x1024 .bf16) (ix2 p q)
      = (((a0 (ix2 p q) : EReal) + (a1 (ix2 p q) : EReal) + (a2 (ix2 p q) : EReal) + (a3 (ix2 p q) : EReal) : EReal)) := fun _ _ _ _ => rfl
  refine (e _ _ _ _).trans ?_
  rw [part_at m c t0 0 (by decide) (by omega) r (by omega), part_at m c t1 1 (by decide) (by omega) r (by omega),
    part_at m c t2 2 (by decide) (by omega) r (by omega), part_at m c t 3 (by decide) h3 r rfl]
  refine (sum_four (M := EReal) 4096 1024 rfl fun x => (A m c (ix2 x ⟨1408 * r + p, by omega⟩) : EReal) * (B m c (ix2 x q) : EReal)).trans ?_
  refine (out_at _ _ ?_ ?_).symm
  · blk_simp [idx t]; dsimp only [r]; omega
  · blk_simp [idx t]

end Cert.WDownIdeal.Calc

namespace Cert.WDownReferenceIdeal.Calc
open Cert.WDownReferenceIdeal Cert.WDownReferenceIdeal.Gen Cert.Tile

theorem ref_eq (a : Vec Ideal S4096x2816 .bf16) (b : Vec Ideal S4096x1024 .bf16) :
    (truncf .bf16 (transpose S2816x1024 [1, 0] (Host.dotGeneral (F := Ideal) dot_S4096x1024_S4096x2816_S1024x2816_0_0_1_1_n_n none (extf .f32 b bitsLt_bf16_f32) (extf .f32 a bitsLt_bf16_f32)) transposes_S1024x2816_S2816x1024_1_0) bitsLt_bf16_f32 : Vec Ideal S2816x1024 .bf16)
      = Cert.WDownIdeal.Calc.out a b := by
  funext i
  obtain ⟨p, q, rfl⟩ := exists_ix2 i
  rw [Cert.WDownIdeal.Calc.out_at a b (p := p) (q := q) rfl rfl]
  pointwise
  exact Finset.sum_congr rfl fun k _ => mul_comm _ _

end Cert.WDownReferenceIdeal.Calc

end
-- ==== Proof.HidVal.lean ====
module

public import proofs.«01_k».proof.Proof.Tile
public import proofs.«01_k».proof.Proof.Gen.HidIdeal.Value
public import proofs.«01_k».proof.Proof.Gen.HidReferenceIdeal.Run

@[expose] public section

set_option maxRecDepth 16384

/-! The gradient of the feed-forward's hidden values: the kernel's array, and the reference's, is the product of the first argument with the second transposed. -/

noncomputable section

open Idealize.ShloMosaic Idealize.ShloMosaic.TcCoe Idealize.SL.Sem

namespace Cert.HidIdeal.Calc
open Cert.HidIdeal Cert.HidIdeal.Gen Cert.Tile

/-- The product with the second array transposed. -/
def out (a : Vec Ideal S4096x1024 .bf16) (b : Vec Ideal S2816x1024 .bf16) : Vec Ideal S4096x2816 .bf16 :=
  fun i => ((∑ k : Fin 1024, (a (ix2 (i 0) k) : EReal) * (b (ix2 (i 1) k) : EReal) : EReal))

theorem out_at (a : Vec Ideal S4096x1024 .bf16) (b : Vec Ideal S2816x1024 .bf16) {i : S4096x2816.Idx} {p : Fin 4096} {q : Fin 2816}
    (h0 : (i 0 : ℕ) = p) (h1 : (i 1 : ℕ) = q) :
    out a b i = (∑ k : Fin 1024, (a (ix2 p k) : EReal) * (b (ix2 q k) : EReal) : EReal) := by
  obtain rfl : i 0 = p := Fin.ext h0
  obtain rfl : i 1 = q := Fin.ext h1
  rfl

variable (m : (ℓ : Loc nD τ sig) → Buf (Elt Ideal) ℓ) (c : Dev nD)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)
theorem lt_N (t : Fin cfg0.N) : t.val < 8 := lt_of_lt_of_eq t.isLt N_0

theorem rd0 (t : Fin cfg0.N) (p : Fin 1024) (k : Fin 1024) :
    (iblk m c 0 t : Vec Ideal S1024x1024 .bf16) (ix2 p k)
      = (m ((c : Thread nD τ).loc main_arg0) : Vec Ideal S4096x1024 .bf16) (ix2 ⟨1024 * (t.val / 2) + p, by have := lt_N t; omega⟩ k) := by
  have := lt_N t
  blk_point [iblk, V, idx t]
theorem rd1 (t : Fin cfg0.N) (k : Fin 1024) (q : Fin 1408) :
    (iblk m c 1 t : Vec Ideal S1408x1024 .bf16) (ix2 q k)
      = (m ((c : Thread nD τ).loc main_arg1) : Vec Ideal S2816x1024 .bf16) (ix2 ⟨1408 * (t.val % 2) + q, by have := lt_N t; omega⟩ k) := by
  have := lt_N t
  blk_point [iblk, V, idx t]

/-- A block's product. -/
theorem pay (x0 : Vec Ideal S1024x1024 .bf16) (x1 : Vec Ideal S1408x1024 .bf16) (p : Fin 1024) (q : Fin 1408) :
    k0_pay1 x0 x1 (ix2 p q) = (∑ k : Fin 1024, (x0 (ix2 p k) : EReal) * (x1 (ix2 q k) : EReal) : EReal) := by
  pointwise [k0_pay1]

theorem written (x0 : Vec Ideal S1024x1024 .bf16) (x1 : Vec Ideal S1408x1024 .bf16) : out0_2 x0 x1 = k0_pay1 x0 x1 := by
  unfold out0_2
  rw [View.canon_unit_zero zero2]
  simp only [View.ld_unit_zero (S := S1024x1024) zero2, View.ld_unit_zero (S := S1408x1024) zero2]

theorem arr2 : (dats m 0 c).arrAt 2 cfg0.N = out (m ((c : Thread nD τ).loc main_arg0)) (m ((c : Thread nD τ).loc main_arg1)) := by
  refine (dats m 0 c).arrAt_eq_of_covers 2 _ (by decide +kernel) fun t hf y => ?_
  have ht := lt_N t
  obtain ⟨p, q, rfl⟩ := exists_ix2 y
  blk_simp
  rw [after0_2, written]
  refine (pay _ _ p q).trans ?_
  simp only [rd0, rd1]
  refine (out_at _ _ ?_ ?_).symm
  · blk_simp [idx t]; dsimp only; omega
  · blk_simp [idx t]; dsimp only; omega

end Cert.HidIdeal.Calc

namespace Cert.HidReferenceIdeal.Calc
open Cert.HidReferenceIdeal Cert.HidReferenceIdeal.Gen Cert.Tile

theorem ref_eq (a : Vec Ideal S4096x1024 .bf16) (b : Vec Ideal S2816x1024 .bf16) :
    (truncf .bf16 (Host.dotGeneral (F := Ideal) dot_S4096x1024_S2816x1024_S4096x2816_1_1_0_0_n_n none (extf .f32 a bitsLt_bf16_f32) (extf .f32 b bitsLt_bf16_f32)) bitsLt_bf16_f32 : Vec Ideal S4096x2816 .bf16)
      = Cert.HidIdeal.Calc.out a b := by
  funext i
  obtain ⟨p, q, rfl⟩ := exists_ix2 i
  rw [Cert.HidIdeal.Calc.out_at a b (p := p) (q := q) rfl rfl]
  pointwise

end Cert.HidReferenceIdeal.Calc

end
-- ==== Proof.ProjVal.lean ====
module

public import proofs.«01_k».proof.Proof.Tile
public import proofs.«01_k».proof.Proof.Gen.ProjIdeal.Value
public import proofs.«01_k».proof.Proof.Gen.ProjReferenceIdeal.Run

@[expose] public section

set_option maxRecDepth 16384

/-! The projection of the mixer's input: the kernel's array, and the reference's, is the product of its arguments. -/

noncomputable section

open Idealize.ShloMosaic Idealize.ShloMosaic.TcCoe Idealize.SL.Sem

namespace Cert.ProjIdeal.Calc
open Cert.ProjIdeal Cert.ProjIdeal.Gen Cert.Tile

/-- The product. -/
def out (a : Vec Ideal S4096x1024 .bf16) (b : Vec Ideal S1024x8320 .bf16) : Vec Ideal S4096x8320 .bf16 :=
  fun i => ((∑ k : Fin 1024, (a (ix2 (i 0) k) : EReal) * (b (ix2 k (i 1)) : EReal) : EReal))

theorem out_at (a : Vec Ideal S4096x1024 .bf16) (b : Vec Ideal S1024x8320 .bf16) {i : S4096x8320.Idx} {p : Fin 4096} {q : Fin 8320}
    (h0 : (i 0 : ℕ) = p) (h1 : (i 1 : ℕ) = q) :
    out a b i = (∑ k : Fin 1024, (a (ix2 p k) : EReal) * (b (ix2 k q) : EReal) : EReal) := by
  obtain rfl : i 0 = p := Fin.ext h0
  obtain rfl : i 1 = q := Fin.ext h1
  rfl

variable (m : (ℓ : Loc nD τ sig) → Buf (Elt Ideal) ℓ) (c : Dev nD)

theorem idx : ∀ t : Fin cfg0.N, win0_0.index t = ![t.val / 5, 0] ∧ win0_1.index t = ![0, t.val % 5] ∧ win0_2.index t = ![t.val / 5, t.val % 5] :=
  (by decide +kernel : ∀ t : Fin grid0.N, _)
theorem lt_N (t : Fin cfg0.N) : t.val < 20 := lt_of_lt_of_eq t.isLt N_0

theorem rd0 (t : Fin cfg0.N) (p : Fin 1024) (k : Fin 1024) :
    (iblk m c 0 t : Vec Ideal S1024x1024 .bf16) (ix2 p k)
      = (m ((c : Thread nD τ).loc main_arg0) : Vec Ideal S4096x1024 .bf16) (ix2 ⟨1024 * (t.val / 5) + p, by have := lt_N t; omega⟩ k) := by
  have := lt_N t
  blk_point [iblk, V, idx t]
theorem rd1 (t : Fin cfg0.N) (k : Fin 1024) (q : Fin 1664) :
    (iblk m c 1 t : Vec Ideal S1024x1664 .bf16) (ix2 k q)
      = (m ((c : Thread nD τ).loc main_arg1) : Vec Ideal S1024x8320 .bf16) (ix2 k ⟨1664 * (t.val % 5) + q, by have := lt_N t; omega⟩) := by
  have := lt_N t
  blk_point [iblk, V, idx t]

/-- A block's product. -/
theorem pay (x0 : Vec Ideal S1024x1024 .bf16) (x1 : Vec Ideal S1024x1664 .bf16) (p : Fin 1024) (q : Fin 1664) :
    k0_pay1 x0 x1 (ix2 p q) = (∑ k : Fin 1024, (x0 (ix2 p k) : EReal) * (x1 (ix2 k q) : EReal) : EReal) := by
  pointwise [k0_pay1]

theorem written (x0 : Vec Ideal S1024x1024 .bf16) (x1 : Vec Ideal S1024x1664 .bf16) : out0_2 x0 x1 = k0_pay1 x0 x1 := by
  unfold out0_2
  rw [View.canon_unit_zero zero2]
  simp only [View.ld_unit_zero (S := S1024x1024) zero2, View.ld_unit_zero (S := S1024x1664) zero2]

theorem arr2 : (dats m 0 c).arrAt 2 cfg0.N = out (m ((c : Thread nD τ).loc main_arg0)) (m ((c : Thread nD τ).loc main_arg1)) := by
  refine (dats m 0 c).arrAt_eq_of_covers 2 _ (by decide +kernel) fun t hf y => ?_
  have ht := lt_N t
  obtain ⟨p, q, rfl⟩ := exists_ix2 y
  blk_simp
  rw [after0_2, written]
  refine (pay _ _ p q).trans ?_
  simp only [rd0, rd1]
  refine (out_at _ _ ?_ ?_).symm
  · blk_simp [idx t]; dsimp only; omega
  · blk_simp [idx t]; dsimp only; omega

end Cert.ProjIdeal.Calc

namespace Cert.ProjReferenceIdeal.Calc
open Cert.ProjReferenceIdeal Cert.ProjReferenceIdeal.Gen Cert.Tile

theorem ref_eq (a : Vec Ideal S4096x1024 .bf16) (b : Vec Ideal S1024x8320 .bf16) :
    (truncf .bf16 (Host.dotGeneral (F := Ideal) dot_S4096x1024_S1024x8320_S4096x8320_1_0_0_1_n_n none (extf .f32 a bitsLt_bf16_f32) (extf .f32 b bitsLt_bf16_f32)) bitsLt_bf16_f32 : Vec Ideal S4096x8320 .bf16)
      = Cert.ProjIdeal.Calc.out a b := by
  funext i
  obtain ⟨p, q, rfl⟩ := exists_ix2 i
  rw [Cert.ProjIdeal.Calc.out_at a b (p := p) (q := q) rfl rfl]
  pointwise

end Cert.ProjReferenceIdeal.Calc

end
-- ==== Proof.GuVal.lean ====
module

public import proofs.«01_k».proof.Proof.Tile
public import proofs.«01_k».proof.Proof.Gen.GuIdeal.Value
public import proofs.«01_k».proof.Proof.Gen.GuReferenceIdeal.Run

@[expose] public section

set_option maxRecDepth 16384

/-! The projection of the feed-forward's input: the kernel's array, and the reference's, is the product of its arguments. -/

noncomputable section

open Idealize.ShloMosaic Idealize.ShloMosaic.TcCoe Idealize.SL.Sem

namespace Cert.GuIdeal.Calc
open Cert.GuIdeal Cert.GuIdeal.Gen Cert.Tile

/-- The product. -/
def out (a : Vec Ideal S4096x1024 .bf16) (b : Vec Ideal S1024x5632 .bf16) : Vec Ideal S4096x5632 .bf16 :=
  fun i => ((∑ k : Fin 1024, (a (ix2 (i 0) k) : EReal) * (b (ix2 k (i 1)) : EReal) : EReal))

theorem out_at (a : Vec Ideal S4096x1024 .bf16) (b : Vec Ideal S1024x5632 .bf16) {i : S4096x5632.Idx} {p : Fin 4096} {q : Fin 5632}
    (h0 : (i 0 : ℕ) = p) (h1 : (i 1 : ℕ) = q) :
    out a b i = (∑ k : Fin 1024, (a (ix2 p k) : EReal) * (b (ix2 k q) : EReal) : EReal) := by
  obtain rfl : i 0 = p := Fin.ext h0
  obtain rfl : i 1 = q := Fin.ext h1
  rfl

variable (m : (ℓ : Loc nD τ sig) → Buf (Elt Ideal) ℓ) (c : Dev nD)

theorem idx : ∀ t : Fin cfg0.N, win0_0.index t = ![t.val / 4, 0] ∧ win0_1.index t = ![0, t.val % 4] ∧ win0_2.index t = ![t.val / 4, t.val % 4] :=
  (by decide +kernel : ∀ t : Fin grid0.N, _)
theorem lt_N (t : Fin cfg0.N) : t.val < 16 := lt_of_lt_of_eq t.isLt N_0

theorem rd0 (t : Fin cfg0.N) (p : Fin 1024) (k : Fin 1024) :
    (iblk m c 0 t : Vec Ideal S1024x1024 .bf16) (ix2 p k)
      = (m ((c : Thread nD τ).loc main_arg0) : Vec Ideal S4096x1024 .bf16) (ix2 ⟨1024 * (t.val / 4) + p, by have := lt_N t; omega⟩ k) := by
  have := lt_N t
  blk_point [iblk, V, idx t]
theorem rd1 (t : Fin cfg0.N) (k : Fin 1024) (q : Fin 1408) :
    (iblk m c 1 t : Vec Ideal S1024x1408 .bf16) (ix2 k q)
      = (m ((c : Thread nD τ).loc main_arg1) : Vec Ideal S1024x5632 .bf16) (ix2 k ⟨1408 * (t.val % 4) + q, by have := lt_N t; omega⟩) := by
  have := lt_N t
  blk_point [iblk, V, idx t]

/-- A block's product. -/
theorem pay (x0 : Vec Ideal S1024x1024 .bf16) (x1 : Vec Ideal S1024x1408 .bf16) (p : Fin 1024) (q : Fin 1408) :
    k0_pay1 x0 x1 (ix2 p q) = (∑ k : Fin 1024, (x0 (ix2 p k) : EReal) * (x1 (ix2 k q) : EReal) : EReal) := by
  pointwise [k0_pay1]

theorem written (x0 : Vec Ideal S1024x1024 .bf16) (x1 : Vec Ideal S1024x1408 .bf16) : out0_2 x0 x1 = k0_pay1 x0 x1 := by
  unfold out0_2
  rw [View.canon_unit_zero zero2]
  simp only [View.ld_unit_zero (S := S1024x1024) zero2, View.ld_unit_zero (S := S1024x1408) zero2]

theorem arr2 : (dats m 0 c).arrAt 2 cfg0.N = out (m ((c : Thread nD τ).loc main_arg0)) (m ((c : Thread nD τ).loc main_arg1)) := by
  refine (dats m 0 c).arrAt_eq_of_covers 2 _ (by decide +kernel) fun t hf y => ?_
  have ht := lt_N t
  obtain ⟨p, q, rfl⟩ := exists_ix2 y
  blk_simp
  rw [after0_2, written]
  refine (pay _ _ p q).trans ?_
  simp only [rd0, rd1]
  refine (out_at _ _ ?_ ?_).symm
  · blk_simp [idx t]; dsimp only; omega
  · blk_simp [idx t]; dsimp only; omega

end Cert.GuIdeal.Calc

namespace Cert.GuReferenceIdeal.Calc
open Cert.GuReferenceIdeal Cert.GuReferenceIdeal.Gen Cert.Tile

theorem ref_eq (a : Vec Ideal S4096x1024 .bf16) (b : Vec Ideal S1024x5632 .bf16) :
    (truncf .bf16 (Host.dotGeneral (F := Ideal) dot_S4096x1024_S1024x5632_S4096x5632_1_0_0_1_n_n none (extf .f32 a bitsLt_bf16_f32) (extf .f32 b bitsLt_bf16_f32)) bitsLt_bf16_f32 : Vec Ideal S4096x5632 .bf16)
      = Cert.GuIdeal.Calc.out a b := by
  funext i
  obtain ⟨p, q, rfl⟩ := exists_ix2 i
  rw [Cert.GuIdeal.Calc.out_at a b (p := p) (q := q) rfl rfl]
  pointwise

end Cert.GuReferenceIdeal.Calc

end
-- ==== Proof.YaVal.lean ====
module

public import proofs.«01_k».proof.Proof.Tile
public import proofs.«01_k».proof.Proof.Gen.YaIdeal.Value
public import proofs.«01_k».proof.Proof.Gen.YaReferenceIdeal.Run

@[expose] public section

set_option maxRecDepth 16384

/-! A product with a square weight: the kernel's array, and the reference's, is the product of its arguments. -/

noncomputable section

open Idealize.ShloMosaic Idealize.ShloMosaic.TcCoe Idealize.SL.Sem

namespace Cert.YaIdeal.Calc
open Cert.YaIdeal Cert.YaIdeal.Gen Cert.Tile

/-- The product. -/
def out (a : Vec Ideal S4096x1024 .bf16) (b : Vec Ideal S1024x1024 .bf16) : Vec Ideal S4096x1024 .bf16 :=
  fun i => ((∑ k : Fin 1024, (a (ix2 (i 0) k) : EReal) * (b (ix2 k (i 1)) : EReal) : EReal))

theorem out_at (a : Vec Ideal S4096x1024 .bf16) (b : Vec Ideal S1024x1024 .bf16) {i : S4096x1024.Idx} {p : Fin 4096} {q : Fin 1024}
    (h0 : (i 0 : ℕ) = p) (h1 : (i 1 : ℕ) = q) :
    out a b i = (∑ k : Fin 1024, (a (ix2 p k) : EReal) * (b (ix2 k q) : EReal) : EReal) := by
  obtain rfl : i 0 = p := Fin.ext h0
  obtain rfl : i 1 = q := Fin.ext h1
  rfl

variable (m : (ℓ : Loc nD τ sig) → Buf (Elt Ideal) ℓ) (c : Dev nD)

theorem idx : ∀ t : Fin cfg0.N, win0_0.index t = ![t.val / 1, 0] ∧ win0_1.index t = ![0, t.val % 1] ∧ win0_2.index t = ![t.val / 1, t.val % 1] :=
  (by decide +kernel : ∀ t : Fin grid0.N, _)
theorem lt_N (t : Fin cfg0.N) : t.val < 4 := lt_of_lt_of_eq t.isLt N_0

theorem rd0 (t : Fin cfg0.N) (p : Fin 1024) (k : Fin 1024) :
    (iblk m c 0 t : Vec Ideal S1024x1024 .bf16) (ix2 p k)
      = (m ((c : Thread nD τ).loc main_arg0) : Vec Ideal S4096x1024 .bf16) (ix2 ⟨1024 * (t.val / 1) + p, by have := lt_N t; omega⟩ k) := by
  have := lt_N t
  blk_point [iblk, V, idx t]
theorem rd1 (t : Fin cfg0.N) (k : Fin 1024) (q : Fin 1024) :
    (iblk m c 1 t : Vec Ideal S1024x1024 .bf16) (ix2 k q)
      = (m ((c : Thread nD τ).loc main_arg1) : Vec Ideal S1024x1024 .bf16) (ix2 k ⟨1024 * (t.val % 1) + q, by have := lt_N t; omega⟩) := by
  have := lt_N t
  blk_point [iblk, V, idx t]

/-- A block's product. -/
theorem pay (x0 : Vec Ideal S1024x1024 .bf16) (x1 : Vec Ideal S1024x1024 .bf16) (p : Fin 1024) (q : Fin 1024) :
    k0_pay1 x0 x1 (ix2 p q) = (∑ k : Fin 1024, (x0 (ix2 p k) : EReal) * (x1 (ix2 k q) : EReal) : EReal) := by
  pointwise [k0_pay1]

theorem written (x0 : Vec Ideal S1024x1024 .bf16) (x1 : Vec Ideal S1024x1024 .bf16) : out0_2 x0 x1 = k0_pay1 x0 x1 := by
  unfold out0_2
  rw [View.canon_unit_zero zero2]
  simp only [View.ld_unit_zero (S := S1024x1024) zero2, View.ld_unit_zero (S := S1024x1024) zero2]

theorem arr2 : (dats m 0 c).arrAt 2 cfg0.N = out (m ((c : Thread nD τ).loc main_arg0)) (m ((c : Thread nD τ).loc main_arg1)) := by
  refine (dats m 0 c).arrAt_eq_of_covers 2 _ (by decide +kernel) fun t hf y => ?_
  have ht := lt_N t
  obtain ⟨p, q, rfl⟩ := exists_ix2 y
  blk_simp
  rw [after0_2, written]
  refine (pay _ _ p q).trans ?_
  simp only [rd0, rd1]
  refine (out_at _ _ ?_ ?_).symm
  · blk_simp [idx t]; dsimp only; omega
  · blk_simp [idx t]; dsimp only; omega

end Cert.YaIdeal.Calc

namespace Cert.YaReferenceIdeal.Calc
open Cert.YaReferenceIdeal Cert.YaReferenceIdeal.Gen Cert.Tile

theorem ref_eq (a : Vec Ideal S4096x1024 .bf16) (b : Vec Ideal S1024x1024 .bf16) :
    (truncf .bf16 (Host.dotGeneral (F := Ideal) dot_S4096x1024_S1024x1024_S4096x1024_1_0_0_1_n_n none (extf .f32 a bitsLt_bf16_f32) (extf .f32 b bitsLt_bf16_f32)) bitsLt_bf16_f32 : Vec Ideal S4096x1024 .bf16)
      = Cert.YaIdeal.Calc.out a b := by
  funext i
  obtain ⟨p, q, rfl⟩ := exists_ix2 i
  rw [Cert.YaIdeal.Calc.out_at a b (p := p) (q := q) rfl rfl]
  pointwise

end Cert.YaReferenceIdeal.Calc

end
-- ==== Proof.DmixVal.lean ====
module

public import proofs.«01_k».proof.Proof.Tile
public import proofs.«01_k».proof.Proof.Gen.DmixIdeal.Value
public import proofs.«01_k».proof.Proof.Gen.DmixReferenceIdeal.Run

@[expose] public section

set_option maxRecDepth 16384

/-! The gradient of what a product with a square weight reads: the kernel's array, and the reference's, is the product of the first argument with the second transposed. -/

noncomputable section

open Idealize.ShloMosaic Idealize.ShloMosaic.TcCoe Idealize.SL.Sem

namespace Cert.DmixIdeal.Calc
open Cert.DmixIdeal Cert.DmixIdeal.Gen Cert.Tile

/-- The product with the second array transposed. -/
def out (a : Vec Ideal S4096x1024 .bf16) (b : Vec Ideal S1024x1024 .bf16) : Vec Ideal S4096x1024 .bf16 :=
  fun i => ((∑ k : Fin 1024, (a (ix2 (i 0) k) : EReal) * (b (ix2 (i 1) k) : EReal) : EReal))

theorem out_at (a : Vec Ideal S4096x1024 .bf16) (b : Vec Ideal S1024x1024 .bf16) {i : S4096x1024.Idx} {p : Fin 4096} {q : Fin 1024}
    (h0 : (i 0 : ℕ) = p) (h1 : (i 1 : ℕ) = q) :
    out a b i = (∑ k : Fin 1024, (a (ix2 p k) : EReal) * (b (ix2 q k) : EReal) : EReal) := by
  obtain rfl : i 0 = p := Fin.ext h0
  obtain rfl : i 1 = q := Fin.ext h1
  rfl

variable (m : (ℓ : Loc nD τ sig) → Buf (Elt Ideal) ℓ) (c : Dev nD)

theorem idx : ∀ t : Fin cfg0.N, win0_0.index t = ![t.val / 1, 0] ∧ win0_1.index t = ![t.val % 1, 0] ∧ win0_2.index t = ![t.val / 1, t.val % 1] :=
  (by decide +kernel : ∀ t : Fin grid0.N, _)
theorem lt_N (t : Fin cfg0.N) : t.val < 4 := lt_of_lt_of_eq t.isLt N_0

theorem rd0 (t : Fin cfg0.N) (p : Fin 1024) (k : Fin 1024) :
    (iblk m c 0 t : Vec Ideal S1024x1024 .bf16) (ix2 p k)
      = (m ((c : Thread nD τ).loc main_arg0) : Vec Ideal S4096x1024 .bf16) (ix2 ⟨1024 * (t.val / 1) + p, by have := lt_N t; omega⟩ k) := by
  have := lt_N t
  blk_point [iblk, V, idx t]
theorem rd1 (t : Fin cfg0.N) (k : Fin 1024) (q : Fin 1024) :
    (iblk m c 1 t : Vec Ideal S1024x1024 .bf16) (ix2 q k)
      = (m ((c : Thread nD τ).loc main_arg1) : Vec Ideal S1024x1024 .bf16) (ix2 ⟨1024 * (t.val % 1) + q, by have := lt_N t; omega⟩ k) := by
  have := lt_N t
  blk_point [iblk, V, idx t]

/-- A block's product. -/
theorem pay (x0 : Vec Ideal S1024x1024 .bf16) (x1 : Vec Ideal S1024x1024 .bf16) (p : Fin 1024) (q : Fin 1024) :
    k0_pay1 x0 x1 (ix2 p q) = (∑ k : Fin 1024, (x0 (ix2 p k) : EReal) * (x1 (ix2 q k) : EReal) : EReal) := by
  pointwise [k0_pay1]

theorem written (x0 : Vec Ideal S1024x1024 .bf16) (x1 : Vec Ideal S1024x1024 .bf16) : out0_2 x0 x1 = k0_pay1 x0 x1 := by
  unfold out0_2
  rw [View.canon_unit_zero zero2]
  simp only [View.ld_unit_zero (S := S1024x1024) zero2, View.ld_unit_zero (S := S1024x1024) zero2]

theorem arr2 : (dats m 0 c).arrAt 2 cfg0.N = out (m ((c : Thread nD τ).loc main_arg0)) (m ((c : Thread nD τ).loc main_arg1)) := by
  refine (dats m 0 c).arrAt_eq_of_covers 2 _ (by decide +kernel) fun t hf y => ?_
  have ht := lt_N t
  obtain ⟨p, q, rfl⟩ := exists_ix2 y
  blk_simp
  rw [after0_2, written]
  refine (pay _ _ p q).trans ?_
  simp only [rd0, rd1]
  refine (out_at _ _ ?_ ?_).symm
  · blk_simp [idx t]; dsimp only; omega
  · blk_simp [idx t]; dsimp only; omega

end Cert.DmixIdeal.Calc

namespace Cert.DmixReferenceIdeal.Calc
open Cert.DmixReferenceIdeal Cert.DmixReferenceIdeal.Gen Cert.Tile

theorem ref_eq (a : Vec Ideal S4096x1024 .bf16) (b : Vec Ideal S1024x1024 .bf16) :
    (truncf .bf16 (Host.dotGeneral (F := Ideal) dot_S4096x1024_S1024x1024_S4096x1024_1_1_0_0_n_n none (extf .f32 a bitsLt_bf16_f32) (extf .f32 b bitsLt_bf16_f32)) bitsLt_bf16_f32 : Vec Ideal S4096x1024 .bf16)
      = Cert.DmixIdeal.Calc.out a b := by
  funext i
  obtain ⟨p, q, rfl⟩ := exists_ix2 i
  rw [Cert.DmixIdeal.Calc.out_at a b (p := p) (q := q) rfl rfl]
  pointwise

end Cert.DmixReferenceIdeal.Calc

end
-- ==== Proof.WoVal.lean ====
module

public import proofs.«01_k».proof.Proof.Tile
public import proofs.«01_k».proof.Proof.Gen.WoIdeal.Value
public import proofs.«01_k».proof.Proof.Gen.WoReferenceIdeal.Run

@[expose] public section

set_option maxRecDepth 16384

/-! The gradient of a square weight: the kernel's array, and the reference's, is the product of the first argument transposed with the second. -/

noncomputable section

open Idealize.ShloMosaic Idealize.ShloMosaic.TcCoe Idealize.SL.Sem

namespace Cert.WoIdeal.Calc
open Cert.WoIdeal Cert.WoIdeal.Gen Cert.Tile

/-- The product, the first array transposed. -/
def out (a : Vec Ideal S4096x1024 .bf16) (b : Vec Ideal S4096x1024 .bf16) : Vec Ideal S1024x1024 .bf16 :=
  fun i => ((∑ k : Fin 4096, (a (ix2 k (i 0)) : EReal) * (b (ix2 k (i 1)) : EReal) : EReal))

theorem out_at (a : Vec Ideal S4096x1024 .bf16) (b : Vec Ideal S4096x1024 .bf16) {i : S1024x1024.Idx} {p : Fin 1024} {q : Fin 1024}
    (h0 : (i 0 : ℕ) = p) (h1 : (i 1 : ℕ) = q) :
    out a b i = (∑ k : Fin 4096, (a (ix2 k p) : EReal) * (b (ix2 k q) : EReal) : EReal) := by
  obtain rfl : i 0 = p := Fin.ext h0
  obtain rfl : i 1 = q := Fin.ext h1
  rfl

variable (m : (ℓ : Loc nD τ sig) → Buf (Elt Ideal) ℓ) (c : Dev nD)

theorem idx : ∀ t : Fin cfg0.N, win0_0.index t = ![t.val % 4, 0] ∧ win0_1.index t = ![t.val % 4, 0] ∧ win0_2.index t = ![0, 0] :=
  (by decide +kernel : ∀ t : Fin grid0.N, _)
theorem lt_N (t : Fin cfg0.N) : t.val < 4 := lt_of_lt_of_eq t.isLt N_0

/-- The arguments. -/
abbrev A : Vec Ideal S4096x1024 .bf16 := m ((c : Thread nD τ).loc main_arg0)
abbrev B : Vec Ideal S4096x1024 .bf16 := m ((c : Thread nD τ).loc main_arg1)

/-- What one grid point adds: the product of its blocks. -/
def part (t : Fin cfg0.N) : Vec Ideal S1024x1024 .f32 := k0_pay1 (F := Ideal) (iblk m c 0 t) (iblk m c 1 t)

theorem part_at (t : Fin cfg0.N) (j : ℕ) (hj : j < 4) (h : t.val % 4 = j) (r : Fin 1) (hr : t.val / 4 = r) (p : Fin 1024) (q : Fin 1024) :
    part m c t (ix2 p q) = (∑ k : Fin 1024, (A m c (ix2 (at_ 4096 1024 4 j hj rfl k) p) : EReal)
      * (B m c (ix2 (at_ 4096 1024 4 j hj rfl k) q) : EReal) : EReal) := by
  have ht := lt_N t
  have e0 : ∀ k : Fin 1024, (iblk m c 0 t : Vec Ideal S1024x1024 .bf16) (ix2 k p)
      = A m c (ix2 (at_ 4096 1024 4 j hj rfl k) p) := by
    intro k
    subst h
    blk_point [iblk, V, idx t, at_, hr]
  have e1 : ∀ k : Fin 1024, (iblk m c 1 t : Vec Ideal S1024x1024 .bf16) (ix2 k q)
      = B m c (ix2 (at_ 4096 1024 4 j hj rfl k) q) := by
    intro k
    subst h
    blk_point [iblk, V, idx t, at_, hr]
  have e : ∀ (x0 : Vec Ideal S1024x1024 .bf16) (x1 : Vec Ideal S1024x1024 .bf16),
      k0_pay1 (F := Ideal) x0 x1 (ix2 p q) = (∑ k : Fin 1024, (x0 (ix2 k p) : EReal) * (x1 (ix2 k q) : EReal) : EReal) := by
    intro x0 x1
    pointwise [k0_pay1]
  refine (e _ _).trans ?_
  simp only [e0, e1]

section
variable (i : grid0.Coords) (a3 : Memref sig .tc .vmem S1024x1024 .bf16) (h3 : a3.IsWhole) (a4 : Memref sig .tc .vmem S1024x1024 .bf16) (h4 : a4.IsWhole)
  (a5 : Memref sig .tc .vmem S1024x1024 .bf16) (h5 : a5.IsWhole) (a6 : Memref sig .tc .vmem S1024x1024 .f32) (h6 : a6.IsWhole)
  (x0 : Vec Ideal S1024x1024 .bf16) (x1 : Vec Ideal S1024x1024 .bf16) (xs : Vec Ideal S1024x1024 .f32)

/-- The first of four points writes its product to the running sum. -/
theorem scratch_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  unfold k0_pay2
  simp only [View.readAt_eq_ld, h3.read_unread, h4.read_unread, View.ld_unit_zero (S := S1024x1024) zero2, shapeCast_self]

/-- The next two add theirs. -/
theorem scratch_B (hc0 : ¬cond0_0 i) (hc1 : cond0_1 i) (hc2 : ¬cond0_2 i) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero zero2]
  unfold k0_pay3
  simp only [View.readAt_eq_ld, h3.read_unread, h4.read_unread, h6.read_unread, View.ld_unit_zero (S := S1024x1024) zero2, shapeCast_self]

/-- The last adds its own and writes the sum out. -/
theorem written_C (hc0 : ¬cond0_0 i) (hc1 : ¬cond0_1 i) (hc2 : cond0_2 i) :
    out0_C_2 c i a3 h3 a4 h4 a5 h5 a6 h6 hc0 hc1 hc2 x0 x1 xs = truncf .bf16 (addf xs (k0_pay1 x0 x1)) bitsLt_bf16_f32 := by
  unfold out0_C_2
  rw [View.read_writes_eq_canon _ _ _ (cover0_C_2 c i a3 h3 a4 h4 a5 h5 a6 h6 hc0 hc1 hc2 x0 x1 xs)]
  unfold kernelRun0_C
  dsimp only
  rw [View.canon_unit_zero zero2]
  unfold k0_pay4
  simp only [View.readAt_eq_ld, h3.read_unread, h4.read_unread, h6.read_unread, View.ld_unit_zero (S := S1024x1024) zero2, shapeCast_self]
end

theorem run_A (t : Fin cfg0.N) (h : t.val % 4 = 0) : (outsAt0 m c t.val t.isLt).2 = part m c t := by
  rw [outsAt0_A m c t h (by omega) (by omega)]
  dsimp only
  rw [scratch_A]
  rfl

theorem run_B (t u : Fin cfg0.N) (h : t.val % 4 = 1 ∨ t.val % 4 = 2) (hu : t.val - 1 = u.val) :
    (outsAt0 m c t.val t.isLt).2 = addf (F := Ideal) (s := S1024x1024) (φ := .f32) (outsAt0 m c u.val u.isLt).2 (part m c t) := by
  rw [outsAt0_B m c t (by omega) (by omega) (by omega)]
  simp only [hu]
  rw [scratch_B]
  rfl

theorem run_C (t u : Fin cfg0.N) (h : t.val % 4 = 3) (hu : t.val - 1 = u.val) :
    (outsAt0 m c t.val t.isLt).1 = truncf (F := Ideal) (s := S1024x1024) .bf16 (addf (F := Ideal) (s := S1024x1024) (φ := .f32) (outsAt0 m c u.val u.isLt).2 (part m c t)) bitsLt_bf16_f32 := by
  rw [outsAt0_C m c t (by omega) (by omega) (by omega)]
  simp only [hu]
  rw [written_C]
  rfl

theorem arr2 : (dats m 0 c).arrAt 2 cfg0.N = out (m ((c : Thread nD τ).loc main_arg0)) (m ((c : Thread nD τ).loc main_arg1)) := by
  refine (dats m 0 c).arrAt_eq_of_covers 2 _ (by decide +kernel) fun t hf y => ?_
  have ht := lt_N t
  have h3 : t.val % 4 = 3 := (flush0_2 t).mp hf
  obtain ⟨p, q, rfl⟩ := exists_ix2 y
  blk_simp
  rw [after0_2]
  have hN : cfg0.N = 4 := N_0
  let t2 : Fin cfg0.N := ⟨t.val - 1, by omega⟩
  let t1 : Fin cfg0.N := ⟨t.val - 2, by omega⟩
  let t0 : Fin cfg0.N := ⟨t.val - 3, by omega⟩
  have e2 : t2.val = t.val - 1 := rfl
  have e1 : t1.val = t.val - 2 := rfl
  have e0 : t0.val = t.val - 3 := rfl
  let r : Fin 1 := ⟨t.val / 4, by omega⟩
  have er : r.val = t.val / 4 := rfl
  rw [run_C m c t t2 h3 rfl, run_B m c t2 t1 (by omega) (by omega), run_B m c t1 t0 (by omega) (by omega), run_A m c t0 (by omega)]
  have e : ∀ a0 a1 a2 a3 : Vec Ideal S1024x1024 .f32, (truncf (F := Ideal) (s := S1024x1024) .bf16 (addf (F := Ideal) (s := S1024x1024) (φ := .f32) (addf (F := Ideal) (s := S1024x1024) (φ := .f32) (addf (F := Ideal) (s := S1024x1024) (φ := .f32) a0 a1) a2) a3) bitsLt_bf16_f32 : Vec Ideal S1024x1024 .bf16) (ix2 p q)
      = (((a0 (ix2 p q) : EReal) + (a1 (ix2 p q) : EReal) + (a2 (ix2 p q) : EReal) + (a3 (ix2 p q) : EReal) : EReal)) := fun _ _ _ _ => rfl
  refine (e _ _ _ _).trans ?_
  rw [part_at m c t0 0 (by decide) (by omega) r (by omega), part_at m c t1 1 (by decide) (by omega) r (by omega),
    part_at m c t2 2 (by decide) (by omega) r (by omega), part_at m c t 3 (by decide) h3 r rfl]
  refine (sum_four (M := EReal) 4096 1024 rfl fun x => (A m c (ix2 x p) : EReal) * (B m c (ix2 x q) : EReal)).trans ?_
  refine (out_at _ _ ?_ ?_).symm
  · blk_simp [idx t]
  · blk_simp [idx t]

end Cert.WoIdeal.Calc

namespace Cert.WoReferenceIdeal.Calc
open Cert.WoReferenceIdeal Cert.WoReferenceIdeal.Gen Cert.Tile

theorem ref_eq (a : Vec Ideal S4096x1024 .bf16) (b : Vec Ideal S4096x1024 .bf16) :
    (truncf .bf16 (transpose S1024x1024 [1, 0] (Host.dotGeneral (F := Ideal) dot_S4096x1024_S4096x1024_S1024x1024_0_0_1_1_n_n none (extf .f32 b bitsLt_bf16_f32) (extf .f32 a bitsLt_bf16_f32)) transposes_S1024x1024_S1024x1024_1_0) bitsLt_bf16_f32 : Vec Ideal S1024x1024 .bf16)
      = Cert.WoIdeal.Calc.out a b := by
  funext i
  obtain ⟨p, q, rfl⟩ := exists_ix2 i
  rw [Cert.WoIdeal.Calc.out_at a b (p := p) (q := q) rfl rfl]
  pointwise
  exact Finset.sum_congr rfl fun k _ => mul_comm _ _

end Cert.WoReferenceIdeal.Calc

end
-- ==== Proof.SumDevVal.lean ====
module

public import proofs.«01_k».proof.Proof.Tile
public import proofs.«01_k».proof.Proof.Gen.SumDevIdeal.Value
public import proofs.«01_k».proof.Proof.Gen.SumDevReferenceIdeal.Run

@[expose] public section

/-! The sum of the eight devices' small gradients and losses: the kernel adds them one after the other. -/

noncomputable section

open Idealize.ShloMosaic Idealize.ShloMosaic.TcCoe Idealize.SL.Sem

namespace Cert.SumDevReferenceIdeal.Calc
open Cert.SumDevReferenceIdeal Cert.SumDevReferenceIdeal.Gen Cert.Tile

theorem sum_eq (a : Vec Ideal S8x32x1024 .f32) :
    (Host.reduceAdd (F := Ideal) a (constant S_ .f32 0x00000000#32) reducesTo_S8x32x1024_S32x1024_d0 h_S_ : Vec Ideal S32x1024 .f32)
      = Cert.SumDevIdeal.Value.G1 (F := Ideal) a := by
  funext i
  obtain ⟨p, q, rfl⟩ := exists_ix2 i
  pointwise [Cert.SumDevIdeal.Value.G1, Cert.SumDevIdeal.Gen.k0_pay1]
  exact Fin.sum_univ_eight _

end Cert.SumDevReferenceIdeal.Calc

end
-- ==== Proof.ChipSumVal.lean ====
module

public import proofs.«01_k».proof.Proof.Tile
public import proofs.«01_k».proof.Proof.Gen.ChipSum.Frame
public import proofs.«01_k».proof.Proof.Gen.ChipSumIdeal.Frame
public import proofs.«01_k».proof.Proof.Gen.ChipSumReferenceIdeal.Run
public import proofs.«01_k».proof.Proof.Gen.Pre_chip_in_range

@[expose] public section

set_option maxRecDepth 16384

/-! The sum of the chips' gradients: the kernel's array, and the reference's, is this chip's block plus the three that it was sent. -/

noncomputable section

open Idealize.ShloMosaic Idealize.ShloMosaic.TcCoe Idealize.SL.Sem

namespace Cert.Pre_chip_in_range.Calc
open Cert.Pre_chip_in_range

/-- An array of one element has one index. -/
theorem one (i j : S1.Idx) : i = j := by
  funext a
  obtain rfl : a = 0 := Subsingleton.elim _ _
  exact Subsingleton.elim (α := Fin 1) _ _

/-- The chip's number. -/
def chip (w : IVec S1 32) : BitVec 32 := w fun a => ⟨0, by obtain rfl : a = 0 := Subsingleton.elim _ _; decide⟩

theorem chip_eq (w : IVec S1 32) (i : S1.Idx) : w i = chip w := congrArg w (one _ _)

/-- The precondition read: the chip's number is below four. -/
theorem lt_four {F : FTy → Type} [FloatOps F] (w : IVec S1 32) (a : FVec F S4x752x1024 .bf16) (r : FVec F S3x752x1024 .bf16)
    (h : (fn w a r) = fun _ => 1#1) : (chip w).toNat < 4 := by
  have pre := congrFun h (fun a => Fin.elim0 a)
  have andi_one (a b : BitVec 1) : IntOp.andi a b = 1#1 ↔ a = 1#1 ∧ b = 1#1 := by revert a b; decide
  have key (x : BitVec 32) (h0 : (0#32).sle x = true) (h1 : x.slt 4#32 = true) : x.toNat < 4 := by
    simp only [BitVec.sle, BitVec.slt, decide_eq_true_eq] at h0 h1
    rw [show (0#32 : BitVec 32).toInt = 0 from rfl] at h0
    rw [show (4#32 : BitVec 32).toInt = 4 from rfl] at h1
    rw [BitVec.toInt_eq_toNat_cond] at h0 h1
    have := x.isLt
    split at h0 <;> omega
  have ho (p : Bool) : (BitVec.ofBool p = 1#1) ↔ p = true := by cases p <;> decide
  simp only [fn, constantI, cmpi, andi, andi_one, IntOp.cmpi, ho, shapeCast, chip_eq] at pre
  exact key _ pre.1 pre.2

end Cert.Pre_chip_in_range.Calc

namespace Cert.ChipSum.Calc
open Cert.ChipSum Cert.ChipSum.Gen Cert.Pre_chip_in_range.Calc Cert.Tile

/-- The chip's number selects the first window's block. -/
theorem index_eq {F : FTy → Type} [FloatOps F] (m : (ℓ : Loc nD τ sig) → Buf (Elt F) ℓ) (i : grid0.Coords) :
    cc0_transform_0 inb_S1_S1_0 numel1_S1 (tbl m) i = ![(chip (m (((0 : Dev nD).tc : Thread nD τ).loc main_arg0) : IVec S1 32)).toNat, 0, 0] := by
  have hi : (i 0).val = 0 := Nat.lt_one_iff.1 (i 0).isLt
  unfold cc0_transform_0
  dsimp only
  rw [hi]
  congr 1
  exact congrArg BitVec.toNat (chip_eq (m (((0 : Dev nD).tc : Thread nD τ).loc main_arg0) : IVec S1 32) _)

/-- A chip below four selects a block inside the array. -/
theorem ok_of_lt {F : FTy → Type} [FloatOps F] (m : (ℓ : Loc nD τ sig) → Buf (Elt F) ℓ)
    (h : (chip (m (((0 : Dev nD).tc : Thread nD τ).loc main_arg0) : IVec S1 32)).toNat < 4) : Ok m := by
  intro i
  refine ⟨fun a => ?_, .inr (Affine.block_words_dvd (of_decide_eq_true rfl) (by decide))⟩
  rw [index_eq]
  match a with
  | ⟨0, _⟩ => exact (Nat.mul_one _).le.trans h
  | ⟨1, _⟩ => exact (by decide : (0 + 1) * 752 ≤ 752)
  | ⟨2, _⟩ => exact (by decide : (0 + 1) * 1024 ≤ 1024)

end Cert.ChipSum.Calc

namespace Cert.ChipSumIdeal.Calc
open Cert.ChipSumIdeal Cert.ChipSumIdeal.Gen Cert.Pre_chip_in_range.Calc Cert.Tile

/-- The chip's number selects the first window's block. -/
theorem index_eq {F : FTy → Type} [FloatOps F] (m : (ℓ : Loc nD τ sig) → Buf (Elt F) ℓ) (i : grid0.Coords) :
    cc0_transform_0 inb_S1_S1_0 numel1_S1 (tbl m) i = ![(chip (m (((0 : Dev nD).tc : Thread nD τ).loc main_arg0) : IVec S1 32)).toNat, 0, 0] := by
  have hi : (i 0).val = 0 := Nat.lt_one_iff.1 (i 0).isLt
  unfold cc0_transform_0
  dsimp only
  rw [hi]
  congr 1
  exact congrArg BitVec.toNat (chip_eq (m (((0 : Dev nD).tc : Thread nD τ).loc main_arg0) : IVec S1 32) _)

/-- A chip below four selects a block inside the array. -/
theorem ok_of_lt {F : FTy → Type} [FloatOps F] (m : (ℓ : Loc nD τ sig) → Buf (Elt F) ℓ)
    (h : (chip (m (((0 : Dev nD).tc : Thread nD τ).loc main_arg0) : IVec S1 32)).toNat < 4) : Ok m := by
  intro i
  refine ⟨fun a => ?_, .inr (Affine.block_words_dvd (of_decide_eq_true rfl) (by decide))⟩
  rw [index_eq]
  match a with
  | ⟨0, _⟩ => exact (Nat.mul_one _).le.trans h
  | ⟨1, _⟩ => exact (by decide : (0 + 1) * 752 ≤ 752)
  | ⟨2, _⟩ => exact (by decide : (0 + 1) * 1024 ≤ 1024)

/-- The block of chip `k`, and the three that were sent. -/
def out (k : Fin 4) (a : Vec Ideal S4x752x1024 .bf16) (r : Vec Ideal S3x752x1024 .bf16) : Vec Ideal S752x1024 .f32 := fun i =>
  ((((a (ix3 k (i 0) (i 1)) : EReal) + (r (ix3 0 (i 0) (i 1)) : EReal)) + (r (ix3 1 (i 0) (i 1)) : EReal)) + (r (ix3 2 (i 0) (i 1)) : EReal) : EReal)

theorem out_at (k : Fin 4) (a : Vec Ideal S4x752x1024 .bf16) (r : Vec Ideal S3x752x1024 .bf16) {i : S752x1024.Idx} {p : Fin 752} {q : Fin 1024}
    (h0 : (i 0 : ℕ) = p) (h1 : (i 1 : ℕ) = q) :
    out k a r i = ((((a (ix3 k p q) : EReal) + (r (ix3 0 p q) : EReal)) + (r (ix3 1 p q) : EReal)) + (r (ix3 2 p q) : EReal) : EReal) := by
  obtain rfl : i 0 = p := Fin.ext h0
  obtain rfl : i 1 = q := Fin.ext h1
  rfl

variable (m : (ℓ : Loc nD τ sig) → Buf (Elt Ideal) ℓ) (hO : Ok m) (c : Dev nD)

theorem idx0 (t : Fin (cfgM m hO).N) :
    ((cfgM m hO).win 0).index t = ![(chip (m (((0 : Dev nD).tc : Thread nD τ).loc main_arg0) : IVec S1 32)).toNat, 0, 0] := index_eq m _
theorem idx1 (t : Fin (cfgM m hO).N) : ((cfgM m hO).win 1).index t = ![0, 0, 0] :=
  (by decide +kernel : ∀ t : Fin grid0.N, cc0_transform_1 (grid0.coords t) = ![0, 0, 0]) t
theorem idx2 (t : Fin (cfgM m hO).N) : ((cfgM m hO).win 2).index t = ![0, 0] :=
  (by decide +kernel : ∀ t : Fin grid0.N, cc0_transform_2 (grid0.coords t) = ![0, 0]) t

theorem rd0 (k : Fin 4) (hk : (chip (m (((0 : Dev nD).tc : Thread nD τ).loc main_arg0) : IVec S1 32)).toNat = k) (t : Fin (cfgM m hO).N) (p : Fin 752) (q : Fin 1024) :
    (iblk m hO c 0 t : Vec Ideal S1x752x1024 .bf16) (ix3 0 p q) = (m ((c : Thread nD τ).loc main_arg1) : Vec Ideal S4x752x1024 .bf16) (ix3 k p q) := by
  show (m ((c : Thread nD τ).loc main_arg1) : Vec Ideal S4x752x1024 .bf16) ((((cfgM m hO).win 0).blk t).view.emb (ix3 0 p q)) = _
  have e := idx0 m hO t
  refine congrArg _ (funext fun a => Fin.ext ?_)
  match a with
  | ⟨0, _⟩ =>
    show ((cfgM m hO).win 0).index t (0 : Fin 3) * 1 + 1 * 0 = k.val
    rw [e, ← hk]; exact Nat.mul_one _
  | ⟨1, _⟩ =>
    show ((cfgM m hO).win 0).index t (1 : Fin 3) * 752 + 1 * p.val = p.val
    rw [e]; show 0 * 752 + 1 * p.val = p.val; omega
  | ⟨2, _⟩ =>
    show ((cfgM m hO).win 0).index t (2 : Fin 3) * 1024 + 1 * q.val = q.val
    rw [e]; show 0 * 1024 + 1 * q.val = q.val; omega

theorem rd1 (t : Fin (cfgM m hO).N) (k : Fin 3) (p : Fin 752) (q : Fin 1024) :
    (iblk m hO c 1 t : Vec Ideal S3x752x1024 .bf16) (ix3 k p q) = (m ((c : Thread nD τ).loc main_arg2) : Vec Ideal S3x752x1024 .bf16) (ix3 k p q) := by
  show (m ((c : Thread nD τ).loc main_arg2) : Vec Ideal S3x752x1024 .bf16) ((((cfgM m hO).win 1).blk t).view.emb (ix3 k p q)) = _
  have e := idx1 m hO t
  refine congrArg _ (funext fun a => Fin.ext ?_)
  match a with
  | ⟨0, _⟩ =>
    show ((cfgM m hO).win 1).index t (0 : Fin 3) * 3 + 1 * k.val = k.val
    rw [e]; show 0 * 3 + 1 * k.val = k.val; omega
  | ⟨1, _⟩ =>
    show ((cfgM m hO).win 1).index t (1 : Fin 3) * 752 + 1 * p.val = p.val
    rw [e]; show 0 * 752 + 1 * p.val = p.val; omega
  | ⟨2, _⟩ =>
    show ((cfgM m hO).win 1).index t (2 : Fin 3) * 1024 + 1 * q.val = q.val
    rw [e]; show 0 * 1024 + 1 * q.val = q.val; omega

theorem emb2 (t : Fin (cfgM m hO).N) (j : S752x1024.Idx) : (((cfgM m hO).win 2).blk t).view.emb j = j := by
  have e := idx2 m hO t
  refine funext fun a => Fin.ext ?_
  match a with
  | ⟨0, _⟩ =>
    show ((cfgM m hO).win 2).index t (0 : Fin 2) * 752 + 1 * (j 0).val = (j 0).val
    rw [e]; show 0 * 752 + 1 * (j 0).val = (j 0).val; omega
  | ⟨1, _⟩ =>
    show ((cfgM m hO).win 2).index t (1 : Fin 2) * 1024 + 1 * (j 1).val = (j 1).val
    rw [e]; show 0 * 1024 + 1 * (j 1).val = (j 1).val; omega

theorem covered2 (i : S752x1024.Idx) : ∃ t : Fin (cfgM m hO).N, ((cfgM m hO).win 2).flush t = true ∧ i ∈ (((cfgM m hO).win 2).blk t).view.set :=
  ⟨(⟨0, by decide⟩ : Fin grid0.N), flush0_2 (adm m hO) _, by
    have h := (((cfgM m hO).win 2).blk (⟨0, by decide⟩ : Fin grid0.N)).view.emb_mem_set i
    rwa [emb2] at h⟩

section
variable (i : grid0.Coords) (a2 : Memref sig .tc .vmem S1x752x1024 .bf16) (h2 : a2.IsWhole) (a3 : Memref sig .tc .vmem S3x752x1024 .bf16) (h3 : a3.IsWhole)
  (a4 : Memref sig .tc .vmem S752x1024 .f32) (h4 : a4.IsWhole) (x0 : Vec Ideal S1x752x1024 .bf16) (x1 : Vec Ideal S3x752x1024 .bf16) (xt : TbBuf0 (F := Ideal) c tbM0_0)

theorem zero3 : (![0, 0, 0] : Fin 3 → ℕ) = fun _ => 0 := funext fun a => by fin_cases a <;> rfl

/-- The body adds the four blocks in turn. -/
theorem written (p : Fin 752) (q : Fin 1024) :
    out0_A_2 c i a2 h2 a3 h3 a4 h4 x0 x1 xt (ix2 p q)
      = ((((x0 (ix3 0 p q) : EReal) + (x1 (ix3 0 p q) : EReal)) + (x1 (ix3 1 p q) : EReal)) + (x1 (ix3 2 p q) : EReal) : EReal) := by
  unfold out0_A_2
  rw [View.read_writes_eq_canon _ _ _ (cover0_A_2 c i a2 h2 a3 h3 a4 h4 x0 x1 xt)]
  unfold kernelRun0_A
  dsimp only
  rw [View.canon_unit_zero zero2]
  simp only [View.readAt_eq_ld, h2.read_unread, h3.read_unread, View.ld_unit_zero (S := S1x752x1024) zero3]
  pointwise [k0_pay1]
end

theorem arr2 (k : Fin 4) (hk : (chip (m (((0 : Dev nD).tc : Thread nD τ).loc main_arg0) : IVec S1 32)).toNat = k) :
    (dats m hO 0 c).arrAt 2 (cfgM m hO).N = out k (m ((c : Thread nD τ).loc main_arg1)) (m ((c : Thread nD τ).loc main_arg2)) := by
  refine (dats m hO 0 c).arrAt_eq_of_emb 2 _ (fun t hf y => ?_) (covered2 m hO)
  refine Eq.trans ?_ (congrArg (out k (m ((c : Thread nD τ).loc main_arg1)) (m ((c : Thread nD τ).loc main_arg2))) (emb2 m hO t y).symm)
  refine (congrFun (after0_2 m hO c t) y).trans ?_
  obtain ⟨p, q, rfl⟩ := exists_ix2 y
  refine (written _ _ _ _ _ _ _ _ _ _ _ p q).trans ?_
  simp only [rd0 m hO c k hk t, rd1]
  rfl

end Cert.ChipSumIdeal.Calc

namespace Cert.ChipSumReferenceIdeal.Calc
open Cert.ChipSumReferenceIdeal Cert.ChipSumReferenceIdeal.Gen Cert.Pre_chip_in_range.Calc Cert.Tile

theorem ref_eq (k : Fin 4) (w : IVec S1 32) (hk : (chip w).toNat = k) (a : Vec Ideal S4x752x1024 .bf16) (r : Vec Ideal S3x752x1024 .bf16) :
    (addf (Host.reduceAdd (F := Ideal) (select (broadcastInDim S4x752x1024 ![0, 1, 2] bcast_S4x1x1_S4x752x1024_0_1_2 (cmpi .eq (broadcastInDim S4x1x1 ![0] bcast_S4_S4x1x1_0 (iotaInDim S4 32 0)) (broadcastInDim S4x1x1 ![] bcast_S_S4x1x1 (shapeCast _ w shapeCasts_S1_S_)))) (extf .f32 a bitsLt_bf16_f32) (broadcastInDim S4x752x1024 ![] bcast_S_S4x752x1024 (id (constant S_ .f32 0x00000000#32)))) (constant S_ .f32 0x00000000#32) reducesTo_S4x752x1024_S752x1024_d0 h_S_) (Host.reduceAdd (F := Ideal) (extf .f32 r bitsLt_bf16_f32) (constant S_ .f32 0x00000000#32) reducesTo_S3x752x1024_S752x1024_d0 h_S_) : Vec Ideal S752x1024 .f32)
      = Cert.ChipSumIdeal.Calc.out k a r := by
  funext i
  obtain ⟨p, q, rfl⟩ := exists_ix2 i
  rw [Cert.ChipSumIdeal.Calc.out_at k a r (p := p) (q := q) rfl rfl]
  have e : chip w = BitVec.ofNat 32 k := BitVec.eq_of_toNat_eq (hk.trans (by rw [BitVec.toNat_ofNat]; have := k.isLt; omega))
  have hs (x k : Fin 4) (u v : EReal) : Scalar.select (IntOp.cmpi .eq (BitVec.ofNat 32 x) (BitVec.ofNat 32 k)) u v = if x = k then u else v := by
    have hc : IntOp.cmpi .eq (BitVec.ofNat 32 x) (BitVec.ofNat 32 k) = if x = k then 1#1 else 0#1 := by revert x k; decide
    rw [hc]; split <;> rfl
  simp only [id_eq]
  pointwise
  simp only [chip_eq, e, hs, Finset.sum_ite_eq', Finset.mem_univ, if_true, Fin.sum_univ_three, add_assoc]

end Cert.ChipSumReferenceIdeal.Calc

end
-- ==== Proof.FinalGuTile.lean ====
module

public import Idealize.ShloMosaic.Lib.KernelVsHost
public import proofs.«01_k».proof.Proof.ChipSumVal
public import proofs.«01_k».proof.Proof.Gen.FinalGuIdeal.Frame

@[expose] public section

set_option maxRecDepth 16384

noncomputable section

open Idealize.ShloMosaic Idealize.ShloMosaic.TcCoe Idealize.SL.Sem

namespace Cert.FinalGuIdeal.Calc
open Cert.FinalGuIdeal Cert.FinalGuIdeal.Gen Cert.Tile

/-- The amount of the rotation, of the shift `v`. -/
def amount (v : BitVec 32) : BitVec 32 :=
  let v64 : BitVec 32 := 128#32
  let v65 : BitVec 32 := Scalar.remsi (Scalar.subi 128#32 v) v64
  Scalar.select (Scalar.andi (Scalar.xori (Scalar.cmpi .slt v65 0#32) (Scalar.cmpi .slt v64 0#32)) (Scalar.cmpi .ne v65 0#32)) (Scalar.addi v65 v64) v65

theorem amount_eq (s : Fin 128) : (amount (BitVec.ofNat 32 s)).toNat = (128 - s) % 128 := by
  revert s; decide +kernel

theorem mask_eq (s l : Fin 128) (u v : EReal) :
    Scalar.select (IntOp.cmpi .slt (BitVec.ofNat 32 l) (Scalar.subi 128#32 (BitVec.ofNat 32 s))) u v = if (l : ℕ) + s < 128 then u else v := by
  have hc : IntOp.cmpi .slt (BitVec.ofNat 32 l) (Scalar.subi 128#32 (BitVec.ofNat 32 s)) = if (l : ℕ) + s < 128 then 1#1 else 0#1 := by
    revert s l; decide +kernel
  rw [hc]; split <;> rfl

theorem rotated (s : Fin 128) (x : FVec Ideal S128x128 .f32) (p l : Fin 128) :
    dynamicRotate 1 (amount (BitVec.ofNat 32 s)) none x rotates_S128x128_d1 (ix2 p l) = x (ix2 p ⟨(l + s) % 128, Nat.mod_lt _ (by decide)⟩) := by
  refine dynamicRotate_apply _ _ _ _ _ _ (fun b => ?_)
  match b with
  | ⟨0, _⟩ => rfl
  | ⟨1, _⟩ =>
    show ((l : ℕ) + s) % 128 = ((l : ℕ) + 128 - (amount (BitVec.ofNat 32 s)).toNat % 128) % 128
    rw [amount_eq]; omega

/-- Two neighbouring tiles read as one array of 256 columns. -/
def pair (x y : FVec Ideal S128x128 .f32) (p : Fin 128) (n : ℕ) : EReal :=
  if n < 128 then x (ix2 p ⟨n % 128, Nat.mod_lt _ (by decide)⟩) else y (ix2 p ⟨n % 128, Nat.mod_lt _ (by decide)⟩)

theorem picked (s : Fin 128) (x y : FVec Ideal S128x128 .f32) (p l : Fin 128) :
    Scalar.select (IntOp.cmpi .slt (BitVec.ofNat 32 l) (Scalar.subi 128#32 (BitVec.ofNat 32 s)))
      (dynamicRotate 1 (amount (BitVec.ofNat 32 s)) none x rotates_S128x128_d1 (ix2 p l))
      (dynamicRotate 1 (amount (BitVec.ofNat 32 s)) none y rotates_S128x128_d1 (ix2 p l)) = pair x y p (l + s) := by
  rw [mask_eq, rotated, rotated]; rfl

theorem width : Scalar.select (Scalar.cmpi .eq 128#32 0#32) 1#32 128#32 = (128#32 : BitVec 32) := by decide

abbrev lanes : IVec S1x128 32 := iota .tc S1x128 32 [1] iota_S1x128_d1_w32

theorem lane_at (w : BitVec 32) (p l : Fin 128) :
    (broadcastTo S128x128 (shapeCast S1x128 (cmpi .slt lanes (broadcast S1x128 w)) shapeCasts_S1x128_S1x128) broadcasts_S1x128_S128x128 : IVec S128x128 1) (ix2 p l)
      = IntOp.cmpi .slt (BitVec.ofNat 32 l) w := by
  pointwise

/-- The lanes before the shift's end are the first tile's, the others the second's. -/
def rolled (s : Fin 128) (x y : FVec Ideal S128x128 .f32) : FVec Ideal S128x128 .f32 :=
  select (broadcastTo S128x128 (shapeCast S1x128 (cmpi .slt lanes (broadcast S1x128 (Scalar.subi 128#32 (BitVec.ofNat 32 s)))) shapeCasts_S1x128_S1x128) broadcasts_S1x128_S128x128)
    (dynamicRotate 1 (amount (BitVec.ofNat 32 s)) none x rotates_S128x128_d1) (dynamicRotate 1 (amount (BitVec.ofNat 32 s)) none y rotates_S128x128_d1)

theorem rolled_at (s : Fin 128) (x y : FVec Ideal S128x128 .f32) (p l : Fin 128) : rolled s x y (ix2 p l) = pair x y p (l + s) := by
  refine Eq.trans ?_ (picked s x y p l)
  show Scalar.select (_ : BitVec 1) _ _ = _
  rw [lane_at]

theorem rolled_11 (s : Fin 128) (x y : FVec Ideal S128x128 .f32) :
    k0_pay11 (F := Ideal) lanes (BitVec.ofNat 32 s) x y 128#32 (Scalar.remsi (Scalar.subi 128#32 (BitVec.ofNat 32 s)) 128#32) = rolled s x y := by
  unfold k0_pay11 k0_pay9  rolled amount
  with_reducible rfl

theorem rolled_12 (s : Fin 128) (x y : FVec Ideal S128x128 .f32) :
    k0_pay12 (F := Ideal) lanes (BitVec.ofNat 32 s) x y 128#32 (Scalar.remsi (Scalar.subi 128#32 (BitVec.ofNat 32 s)) 128#32) = rolled s x y := by
  unfold k0_pay12 k0_pay9 k0_pay10 rolled amount
  with_reducible rfl

theorem rolled_13 (s : Fin 128) (x y : FVec Ideal S128x128 .f32) :
    k0_pay13 (F := Ideal) lanes (BitVec.ofNat 32 s) x y 128#32 (Scalar.remsi (Scalar.subi 128#32 (BitVec.ofNat 32 s)) 128#32) = rolled s x y := by
  unfold k0_pay13  k0_pay10 rolled amount
  with_reducible rfl

theorem rolled_22 (s : Fin 128) (x y : FVec Ideal S128x128 .f32) :
    k0_pay22 (F := Ideal) lanes (BitVec.ofNat 32 s) x y = rolled s x y := by
  unfold k0_pay22 k0_pay19 rolled amount
  simp only [width]

theorem rolled_23 (s : Fin 128) (x y : FVec Ideal S128x128 .f32) :
    k0_pay23 (F := Ideal) lanes (BitVec.ofNat 32 s) x y = rolled s x y := by
  unfold k0_pay23 k0_pay19 k0_pay20 rolled amount
  simp only [width]

/-- The sum of the chips' blocks, over 128 columns. -/
theorem tile_at (a b c d : Vec Ideal S1x128x128 .bf16) (p l : Fin 128) :
    k0_pay5 (F := Ideal) a b c d (ix2 p l) = ((((a (ix3 0 p l) : EReal) + (b (ix3 0 p l) : EReal)) + (c (ix3 0 p l) : EReal)) + (d (ix3 0 p l) : EReal) : EReal) := by
  pointwise [k0_pay5]

theorem rolled_24 (s : Fin 128) (x : FVec Ideal S128x128 .f32) (a b c d : Vec Ideal S1x128x128 .bf16) :
    k0_pay24 (F := Ideal) lanes (BitVec.ofNat 32 s) (k0_pay20 (BitVec.ofNat 32 s) x) (k0_pay21 (BitVec.ofNat 32 s) a b c d) 128#32 = rolled s x (k0_pay5 a b c d) := by
  unfold k0_pay24 k0_pay20 k0_pay21 k0_pay5 rolled amount
  simp only [width]

theorem tile_16 (a b c d : Vec Ideal S1x128x128 .bf16) : k0_pay16 (F := Ideal) (k0_pay14 a b c) (k0_pay15 d) = k0_pay5 a b c d := rfl

/-- The first moment's step, the second's, and the weight's change. -/
def first (m g : EReal) : EReal := Ideal.ofBits FTy.f32 0x3F666666#32 * m + Ideal.ofBits FTy.f32 0x3DCCCCCD#32 * g
def second (v g : EReal) : EReal := Ideal.ofBits FTy.f32 0x3F7FBE77#32 * v + Ideal.ofBits FTy.f32 0x3A83126F#32 * (g * g)
def delta (w g m v : EReal) : EReal :=
  Ideal.ofBits FTy.f32 0xBA83126F#32 * (Ideal.div (Ideal.div (first m g) (Ideal.ofBits FTy.f32 0x3F26BD02#32))
      (Ideal.sqrt (Ideal.div (second v g) (Ideal.ofBits FTy.f32 0x3C231ACC#32)) + Ideal.ofBits FTy.f32 0x322BCC77#32)
    + Ideal.ofBits FTy.f32 0x3C23D70A#32 * w)

section
variable (g : FVec Ideal S128x128 .f32) (w m v : Vec Ideal S1x128x128 .f32) (w' m' v' : Vec Ideal S1x128x96 .f32) (p l : Fin 128) (k : Fin 96)

theorem g0 : k0_pay28 (F := Ideal) g (ix3 0 p l) = g (ix2 p l) := by
  pointwise [k0_pay28]

theorem g1 : k0_pay37 (F := Ideal) g (ix3 0 p l) = g (ix2 p l) := by
  pointwise [k0_pay37]

theorem g2 : k0_pay48 (F := Ideal) (k0_pay41 g) (ix3 0 p k) = g (ix2 p (Fin.castLE (by decide) k)) := by
  pointwise [k0_pay48, k0_pay41]
  rfl

theorem d0 : k0_pay29 (F := Ideal) (k0_pay27 g w m v) (ix3 0 p l) = delta (w (ix3 0 p l)) (g (ix2 p l)) (m (ix3 0 p l)) (v (ix3 0 p l)) := by
  pointwise [k0_pay29, k0_pay27, k0_pay25, k0_pay26]
  rfl

theorem d1 : k0_pay38 (F := Ideal) (k0_pay32 w) (k0_pay35 g m) (k0_pay36 g v) (Scalar.ofBits .f32 0x322BCC77#32) (ix3 0 p l) = delta (w (ix3 0 p l)) (g (ix2 p l)) (m (ix3 0 p l)) (v (ix3 0 p l)) := by
  pointwise [k0_pay38, k0_pay32, k0_pay35, k0_pay36, k0_pay33, k0_pay34]
  rfl

theorem d2 : k0_pay49 (F := Ideal) (k0_pay41 g) (k0_pay42 w') (k0_pay43 v') (k0_pay44 m') (k0_pay45 g) (ix3 0 p k) = delta (w' (ix3 0 p k)) (g (ix2 p (Fin.castLE (by decide) k))) (m' (ix3 0 p k)) (v' (ix3 0 p k)) := by
  pointwise [k0_pay49, k0_pay41, k0_pay42, k0_pay43, k0_pay44, k0_pay45, k0_pay46, k0_pay47]
  rfl

theorem m0 : k0_pay30 (F := Ideal) (k0_pay25 g m) (ix3 0 p l) = first (m (ix3 0 p l)) (g (ix2 p l)) := by
  pointwise [k0_pay30, k0_pay25]
  rfl

theorem m1 : k0_pay39 (F := Ideal) (k0_pay33 g m) (ix3 0 p l) = first (m (ix3 0 p l)) (g (ix2 p l)) := by
  pointwise [k0_pay39, k0_pay33]
  rfl

theorem m2 : k0_pay50 (F := Ideal) (k0_pay44 m') (k0_pay45 g) (ix3 0 p k) = first (m' (ix3 0 p k)) (g (ix2 p (Fin.castLE (by decide) k))) := by
  pointwise [k0_pay50, k0_pay46, k0_pay44, k0_pay45, k0_pay41]
  rfl

theorem v0 : k0_pay31 (F := Ideal) (k0_pay26 g v) (ix3 0 p l) = second (v (ix3 0 p l)) (g (ix2 p l)) := by
  pointwise [k0_pay31, k0_pay26]
  rfl

theorem v1 : k0_pay40 (F := Ideal) (k0_pay34 g v) (ix3 0 p l) = second (v (ix3 0 p l)) (g (ix2 p l)) := by
  pointwise [k0_pay40, k0_pay34]
  rfl

theorem v2 : k0_pay51 (F := Ideal) (k0_pay41 g) (k0_pay43 v') (ix3 0 p k) = second (v' (ix3 0 p k)) (g (ix2 p (Fin.castLE (by decide) k))) := by
  pointwise [k0_pay51, k0_pay47, k0_pay43, k0_pay41]
  rfl

theorem g3 : k0_pay55 (F := Ideal) g (ix3 0 p l) = g (ix2 p l) := by
  pointwise [k0_pay55]

theorem g4 : k0_pay62 (F := Ideal) g (ix3 0 p l) = g (ix2 p l) := by
  pointwise [k0_pay62]

theorem g5 : k0_pay1 (F := Ideal) (k0_pay66 g) (ix3 0 p k) = g (ix2 p (Fin.castLE (by decide) k)) := by
  pointwise [k0_pay1, k0_pay66]
  rfl

theorem d3 : k0_pay56 (F := Ideal) g (k0_pay52 w) m v (ix3 0 p l) = delta (w (ix3 0 p l)) (g (ix2 p l)) (m (ix3 0 p l)) (v (ix3 0 p l)) := by
  pointwise [k0_pay56, k0_pay52, k0_pay53, k0_pay54]
  rfl

theorem d4 : k0_pay63 (F := Ideal) (k0_pay61 g w m v) (ix3 0 p l) = delta (w (ix3 0 p l)) (g (ix2 p l)) (m (ix3 0 p l)) (v (ix3 0 p l)) := by
  pointwise [k0_pay63, k0_pay61, k0_pay59, k0_pay60]
  rfl

theorem d5 : k0_pay2 (F := Ideal) (k0_pay67 w') (k0_pay68 g m') (k0_pay69 g v') k0_pay70 (ix3 0 p k) = delta (w' (ix3 0 p k)) (g (ix2 p (Fin.castLE (by decide) k))) (m' (ix3 0 p k)) (v' (ix3 0 p k)) := by
  pointwise [k0_pay2, k0_pay67, k0_pay68, k0_pay69, k0_pay70, k0_pay66]
  rfl

theorem m3 : k0_pay57 (F := Ideal) (k0_pay53 g m) (ix3 0 p l) = first (m (ix3 0 p l)) (g (ix2 p l)) := by
  pointwise [k0_pay57, k0_pay53]
  rfl

theorem m4 : k0_pay64 (F := Ideal) (k0_pay59 g m) (ix3 0 p l) = first (m (ix3 0 p l)) (g (ix2 p l)) := by
  pointwise [k0_pay64, k0_pay59]
  rfl

theorem m5 : k0_pay3 (F := Ideal) (k0_pay68 g m') (ix3 0 p k) = first (m' (ix3 0 p k)) (g (ix2 p (Fin.castLE (by decide) k))) := by
  pointwise [k0_pay3, k0_pay68, k0_pay66]
  rfl

theorem v3 : k0_pay58 (F := Ideal) (k0_pay54 g v) (ix3 0 p l) = second (v (ix3 0 p l)) (g (ix2 p l)) := by
  pointwise [k0_pay58, k0_pay54]
  rfl

theorem v4 : k0_pay65 (F := Ideal) (k0_pay60 g v) (ix3 0 p l) = second (v (ix3 0 p l)) (g (ix2 p l)) := by
  pointwise [k0_pay65, k0_pay60]
  rfl

theorem v5 : k0_pay4 (F := Ideal) (k0_pay69 g v') (ix3 0 p k) = second (v' (ix3 0 p k)) (g (ix2 p (Fin.castLE (by decide) k))) := by
  pointwise [k0_pay4, k0_pay69, k0_pay66]
  rfl

end

/-- The chips' sum at row `p` and column `n` of a block. -/
def total (x0 : Vec Ideal S1x128x1024 .bf16) (x1 : Vec Ideal S3x128x1024 .bf16) (p : Fin 128) (n : ℕ) : EReal :=
  ((((x0 (ix3 0 p ⟨n % 1024, Nat.mod_lt _ (by decide)⟩) : EReal) + (x1 (ix3 0 p ⟨n % 1024, Nat.mod_lt _ (by decide)⟩) : EReal))
    + (x1 (ix3 1 p ⟨n % 1024, Nat.mod_lt _ (by decide)⟩) : EReal)) + (x1 (ix3 2 p ⟨n % 1024, Nat.mod_lt _ (by decide)⟩) : EReal) : EReal)

/-- An index of a block of one layer is a row and a column. -/
theorem exists_row (w : ℕ) (x : (⟨3, ![1, 128, w]⟩ : Shape).Idx) : ∃ (p : Fin 128) (l : Fin w), x = ix3 (n0 := 1) 0 p l :=
  ⟨x 1, x 2, by
    funext a
    match a with
    | ⟨0, _⟩ => exact Subsingleton.elim (α := Fin 1) _ _
    | ⟨1, _⟩ => rfl
    | ⟨2, _⟩ => rfl⟩

theorem ld_one (o : ℕ) (x : Vec Ideal S1x128x1024 .bf16) (h) (ho : o ≤ 896) (p l : Fin 128) :
    View.ld (Val := Elt Ideal) (e' := .bf16) (S := S1x128x1024) x (Rect.unit ![0, 0, o] S1x128x128.size h) (ix3 (n0 := 1) 0 p l) = x (ix3 0 p ⟨(o + l) % 1024, Nat.mod_lt _ (by decide)⟩) := by
  refine congrArg x (funext fun a => Fin.ext ?_)
  match a with
  | ⟨0, _⟩ => rfl
  | ⟨1, _⟩ => show 0 + 1 * (p : ℕ) = p; omega
  | ⟨2, _⟩ => show o + 1 * (l : ℕ) = (o + l) % 1024; omega

theorem ld_three (o : ℕ) (j : Fin 3) (x : Vec Ideal S3x128x1024 .bf16) (h) (ho : o ≤ 896) (p l : Fin 128) :
    View.ld (Val := Elt Ideal) (e' := .bf16) (S := S3x128x1024) x (Rect.unit ![(j : ℕ), 0, o] S1x128x128.size h) (ix3 (n0 := 1) 0 p l) = x (ix3 j p ⟨(o + l) % 1024, Nat.mod_lt _ (by decide)⟩) := by
  refine congrArg x (funext fun a => Fin.ext ?_)
  match a with
  | ⟨0, _⟩ => show (j : ℕ) + 1 * 0 = j; omega
  | ⟨1, _⟩ => show 0 + 1 * (p : ℕ) = p; omega
  | ⟨2, _⟩ => show o + 1 * (l : ℕ) = (o + l) % 1024; omega

/-- Two neighbouring tiles of sums, read across. -/
theorem pair_total (x y : FVec Ideal S128x128 .f32) (x0 : Vec Ideal S1x128x1024 .bf16) (x1 : Vec Ideal S3x128x1024 .bf16) (o : ℕ)
    (hx : ∀ p l : Fin 128, x (ix2 p l) = total x0 x1 p (o + l)) (hy : ∀ p l : Fin 128, y (ix2 p l) = total x0 x1 p (o + 128 + l))
    (p : Fin 128) (n : ℕ) (hn : n < 256) : pair x y p n = total x0 x1 p (o + n) := by
  unfold pair
  split
  · rw [hx]; exact congrArg (total x0 x1 p) (by show o + n % 128 = o + n; omega)
  · rw [hy]; exact congrArg (total x0 x1 p) (by show o + 128 + n % 128 = o + n; omega)

theorem rolled_total (s : Fin 128) (x y : FVec Ideal S128x128 .f32) (x0 : Vec Ideal S1x128x1024 .bf16) (x1 : Vec Ideal S3x128x1024 .bf16) (o : ℕ)
    (hx : ∀ p l : Fin 128, x (ix2 p l) = total x0 x1 p (o + l)) (hy : ∀ p l : Fin 128, y (ix2 p l) = total x0 x1 p (o + 128 + l))
    (p l : Fin 128) : rolled s x y (ix2 p l) = total x0 x1 p (o + l + s) := by
  rw [rolled_at, pair_total x y x0 x1 o hx hy p _ (by omega)]
  exact congrArg (total x0 x1 p) (by omega)

end Cert.FinalGuIdeal.Calc

end
-- ==== Proof.FinalGuBlock.lean ====
module

public import proofs.«01_k».proof.Proof.FinalGuTile

@[expose] public section

set_option maxRecDepth 16384

/-! The kernel of the windows, block by block: what it writes in each of its eight arrays. -/

noncomputable section

open Idealize.ShloMosaic Idealize.ShloMosaic.TcCoe Idealize.SL.Sem

namespace Cert.FinalGuIdeal.Calc
open Cert.FinalGuIdeal Cert.FinalGuIdeal.Gen Cert.Tile

/-- The columns `b + s` on of the chips' sum. -/
def grad (b : ℕ) (s : Fin 128) (x0 : Vec Ideal S1x128x1024 .bf16) (x1 : Vec Ideal S3x128x1024 .bf16) : Vec Ideal S1x128x352 .f32 := fun y =>
  total x0 x1 (y 1) (b + (y 2 : ℕ) + s)

theorem grad_emb (b o : ℕ) (s : Fin 128) (x0 : Vec Ideal S1x128x1024 .bf16) (x1 : Vec Ideal S3x128x1024 .bf16) (h) (p l : Fin 128) :
    grad b s x0 x1 ((Rect.unit (s := S1x128x352) ![0, 0, o] S1x128x128.size h).emb (ix3 (n0 := 1) 0 p l)) = total x0 x1 p (b + o + l + s) := by
  show total x0 x1 (⟨0 + 1 * (p : ℕ), _⟩ : Fin 128) (b + (o + 1 * (l : ℕ)) + s) = _
  congr 1
  · exact Fin.ext (by show 0 + 1 * (p : ℕ) = p; omega)
  · omega

theorem grad_emb' (b o : ℕ) (s : Fin 128) (x0 : Vec Ideal S1x128x1024 .bf16) (x1 : Vec Ideal S3x128x1024 .bf16) (h) (p : Fin 128) (l : Fin 96) :
    grad b s x0 x1 ((Rect.unit (s := S1x128x352) ![0, 0, o] S1x128x96.size h).emb (ix3 (n0 := 1) 0 p l)) = total x0 x1 p (b + o + l + s) := by
  show total x0 x1 (⟨0 + 1 * (p : ℕ), _⟩ : Fin 128) (b + (o + 1 * (l : ℕ)) + s) = _
  congr 1
  · exact Fin.ext (by show 0 + 1 * (p : ℕ) = p; omega)
  · omega

section
variable (c : Dev nD) (i : grid0.Coords) (a3 : Memref sig .tc .vmem S1x128x1024 .bf16) (h3 : a3.IsWhole) (a4 : Memref sig .tc .vmem S3x128x1024 .bf16) (h4 : a4.IsWhole) (a5 : Memref sig .tc .vmem S1x128x352 .f32) (h5 : a5.IsWhole) (a6 : Memref sig .tc .vmem S1x128x352 .f32) (h6 : a6.IsWhole) (a7 : Memref sig .tc .vmem S1x128x352 .f32) (h7 : a7.IsWhole) (a8 : Memref sig .tc .vmem S1x128x352 .f32) (h8 : a8.IsWhole) (a9 : Memref sig .tc .vmem S1x128x352 .f32) (h9 : a9.IsWhole) (a10 : Memref sig .tc .vmem S1x128x352 .f32) (h10 : a10.IsWhole) (a19 : Memref sig .tc .vmem S1x128x352 .f32) (h19 : a19.IsWhole) (a20 : Memref sig .tc .vmem S1x128x352 .f32) (h20 : a20.IsWhole) (a21 : Memref sig .tc .vmem S1x128x352 .f32) (h21 : a21.IsWhole) (a22 : Memref sig .tc .vmem S1x128x352 .f32) (h22 : a22.IsWhole) (a23 : Memref sig .tc .vmem S1x128x352 .f32) (h23 : a23.IsWhole) (a24 : Memref sig .tc .vmem S1x128x352 .f32) (h24 : a24.IsWhole) (a25 : Memref sig .tc .vmem S1x128x352 .f32) (h25 : a25.IsWhole) (a26 : Memref sig .tc .vmem S1x128x352 .f32) (h26 : a26.IsWhole)
  (x0 : Vec Ideal S1x128x1024 .bf16) (x1 : Vec Ideal S3x128x1024 .bf16) (x2 : Vec Ideal S1x128x352 .f32) (x3 : Vec Ideal S1x128x352 .f32) (x4 : Vec Ideal S1x128x352 .f32) (x5 : Vec Ideal S1x128x352 .f32) (x6 : Vec Ideal S1x128x352 .f32) (x7 : Vec Ideal S1x128x352 .f32) (xt0 : TbBuf0 (F := Ideal) c tbM0_0) (xt1 : TbBuf0 (F := Ideal) c tbM0_1)

theorem t_1 (p l : Fin 128) : kernelRun0_A.sl.r_1 c a3 h3 a4 h4 x0 x1 (ix2 p l) = total x0 x1 p (0 + l) := by
  unfold kernelRun0_A.sl.r_1
  simp only [View.readAt_eq_ld, h3.read_unread, h4.read_unread]
  refine (tile_at _ _ _ _ p l).trans ?_
  rw [ld_one 0 x0 _ (by decide) p l]
  erw [ld_three 0 0 x1 _ (by decide) p l, ld_three 0 1 x1 _ (by decide) p l, ld_three 0 2 x1 _ (by decide) p l]
  rfl

theorem t_2 (p l : Fin 128) : kernelRun0_A.sl.r_2 c a3 h3 a4 h4 x0 x1 (ix2 p l) = total x0 x1 p (128 + l) := by
  unfold kernelRun0_A.sl.r_2
  simp only [View.readAt_eq_ld, h3.read_unread, h4.read_unread]
  refine (tile_at _ _ _ _ p l).trans ?_
  rw [ld_one 128 x0 _ (by decide) p l]
  erw [ld_three 128 0 x1 _ (by decide) p l, ld_three 128 1 x1 _ (by decide) p l, ld_three 128 2 x1 _ (by decide) p l]
  rfl

theorem t_3 (p l : Fin 128) : kernelRun0_A.sl.r_3 c a3 h3 a4 h4 x0 x1 (ix2 p l) = total x0 x1 p (256 + l) := by
  unfold kernelRun0_A.sl.r_3
  simp only [View.readAt_eq_ld, h3.read_unread, h4.read_unread]
  refine (tile_at _ _ _ _ p l).trans ?_
  rw [ld_one 256 x0 _ (by decide) p l]
  erw [ld_three 256 0 x1 _ (by decide) p l, ld_three 256 1 x1 _ (by decide) p l, ld_three 256 2 x1 _ (by decide) p l]
  rfl

theorem t_4 (p l : Fin 128) : kernelRun0_A.sl.r_4 c a3 h3 a4 h4 x0 x1 (ix2 p l) = total x0 x1 p (384 + l) := by
  unfold kernelRun0_A.sl.r_4
  simp only [View.readAt_eq_ld, h3.read_unread, h4.read_unread]
  refine (tile_at _ _ _ _ p l).trans ?_
  rw [ld_one 384 x0 _ (by decide) p l]
  erw [ld_three 384 0 x1 _ (by decide) p l, ld_three 384 1 x1 _ (by decide) p l, ld_three 384 2 x1 _ (by decide) p l]
  rfl

theorem t_10 (p l : Fin 128) : kernelRun0_A.sl.r_10 c a3 h3 a4 h4 x0 x1 (ix2 p l) = total x0 x1 p (512 + l) := by
  unfold kernelRun0_A.sl.r_10 kernelRun0_A.sl.r_8 kernelRun0_A.sl.r_9
  simp only [View.readAt_eq_ld, h3.read_unread, h4.read_unread]
  rw [tile_16]
  refine (tile_at _ _ _ _ p l).trans ?_
  rw [ld_one 512 x0 _ (by decide) p l]
  erw [ld_three 512 0 x1 _ (by decide) p l, ld_three 512 1 x1 _ (by decide) p l, ld_three 512 2 x1 _ (by decide) p l]
  rfl

theorem t_11 (p l : Fin 128) : kernelRun0_A.sl.r_11 c a3 h3 a4 h4 x0 x1 (ix2 p l) = total x0 x1 p (640 + l) := by
  unfold kernelRun0_A.sl.r_11
  simp only [View.readAt_eq_ld, h3.read_unread, h4.read_unread]
  refine (tile_at _ _ _ _ p l).trans ?_
  rw [ld_one 640 x0 _ (by decide) p l]
  erw [ld_three 640 0 x1 _ (by decide) p l, ld_three 640 1 x1 _ (by decide) p l, ld_three 640 2 x1 _ (by decide) p l]
  rfl

theorem t_12 (p l : Fin 128) : kernelRun0_A.sl.r_12 c a3 h3 a4 h4 x0 x1 (ix2 p l) = total x0 x1 p (768 + l) := by
  unfold kernelRun0_A.sl.r_12
  simp only [View.readAt_eq_ld, h3.read_unread, h4.read_unread]
  refine (tile_at _ _ _ _ p l).trans ?_
  rw [ld_one 768 x0 _ (by decide) p l]
  erw [ld_three 768 0 x1 _ (by decide) p l, ld_three 768 1 x1 _ (by decide) p l, ld_three 768 2 x1 _ (by decide) p l]
  rfl

theorem s_5 (s : Fin 128) (hs : kernelRun0_A.sl.r c xt0 = BitVec.ofNat 32 s) (p l : Fin 128) : kernelRun0_A.sl.r_5 c a3 h3 a4 h4 x0 x1 xt0 (ix2 p l) = total x0 x1 p (0 + l + s) := by
  unfold kernelRun0_A.sl.r_5 kernelRun0_A.sl.v65 kernelRun0_A.sl.v62 kernelRun0_A.sl.v0
  rw [hs]
  refine (congrFun (rolled_11 s _ _) (ix2 p l)).trans ?_
  exact rolled_total s _ _ x0 x1 0 (t_1 c a3 h3 a4 h4 x0 x1) (t_2 c a3 h3 a4 h4 x0 x1) p l

theorem s_6 (s : Fin 128) (hs : kernelRun0_A.sl.r c xt0 = BitVec.ofNat 32 s) (p l : Fin 128) : kernelRun0_A.sl.r_6 c a3 h3 a4 h4 x0 x1 xt0 (ix2 p l) = total x0 x1 p (128 + l + s) := by
  unfold kernelRun0_A.sl.r_6 kernelRun0_A.sl.v65 kernelRun0_A.sl.v62 kernelRun0_A.sl.v0
  rw [hs]
  refine (congrFun (rolled_12 s _ _) (ix2 p l)).trans ?_
  exact rolled_total s _ _ x0 x1 128 (t_2 c a3 h3 a4 h4 x0 x1) (t_3 c a3 h3 a4 h4 x0 x1) p l

theorem s_7 (s : Fin 128) (hs : kernelRun0_A.sl.r c xt0 = BitVec.ofNat 32 s) (p l : Fin 128) : kernelRun0_A.sl.r_7 c a3 h3 a4 h4 x0 x1 xt0 (ix2 p l) = total x0 x1 p (256 + l + s) := by
  unfold kernelRun0_A.sl.r_7 kernelRun0_A.sl.v65 kernelRun0_A.sl.v62 kernelRun0_A.sl.v0
  rw [hs]
  refine (congrFun (rolled_13 s _ _) (ix2 p l)).trans ?_
  exact rolled_total s _ _ x0 x1 256 (t_3 c a3 h3 a4 h4 x0 x1) (t_4 c a3 h3 a4 h4 x0 x1) p l

theorem s_16 (s : Fin 128) (hs : kernelRun0_A.sl.r c xt0 = BitVec.ofNat 32 s) (p l : Fin 128) : kernelRun0_A.sl.r_16 c a3 h3 a4 h4 x0 x1 xt0 (ix2 p l) = total x0 x1 p (512 + l + s) := by
  unfold kernelRun0_A.sl.r_16 kernelRun0_A.sl.v0
  rw [hs]
  refine (congrFun (rolled_22 s _ _) (ix2 p l)).trans ?_
  exact rolled_total s _ _ x0 x1 512 (t_10 c a3 h3 a4 h4 x0 x1) (t_11 c a3 h3 a4 h4 x0 x1) p l

theorem s_17 (s : Fin 128) (hs : kernelRun0_A.sl.r c xt0 = BitVec.ofNat 32 s) (p l : Fin 128) : kernelRun0_A.sl.r_17 c a3 h3 a4 h4 x0 x1 xt0 (ix2 p l) = total x0 x1 p (640 + l + s) := by
  unfold kernelRun0_A.sl.r_17 kernelRun0_A.sl.v0
  rw [hs]
  refine (congrFun (rolled_23 s _ _) (ix2 p l)).trans ?_
  exact rolled_total s _ _ x0 x1 640 (t_11 c a3 h3 a4 h4 x0 x1) (t_12 c a3 h3 a4 h4 x0 x1) p l

theorem s_18 (s : Fin 128) (hs : kernelRun0_A.sl.r c xt0 = BitVec.ofNat 32 s) (p l : Fin 128) : kernelRun0_A.sl.r_18 c a3 h3 a4 h4 x0 x1 xt0 (ix2 p l) = total x0 x1 p (768 + l + s) := by
  unfold kernelRun0_A.sl.r_18 kernelRun0_A.sl.r_14 kernelRun0_A.sl.r_15 kernelRun0_A.sl.r_13 kernelRun0_A.sl.v0
  rw [hs]
  refine (congrFun (rolled_24 s _ _ _ _ _) (ix2 p l)).trans ?_
  refine rolled_total s _ _ x0 x1 768 (t_12 c a3 h3 a4 h4 x0 x1) (fun p l => ?_) p l
  simp only [View.readAt_eq_ld, h3.read_unread, h4.read_unread]
  refine (tile_at _ _ _ _ p l).trans ?_
  rw [ld_one 896 x0 _ (by decide) p l]
  erw [ld_three 896 0 x1 _ (by decide) p l, ld_three 896 1 x1 _ (by decide) p l, ld_three 896 2 x1 _ (by decide) p l]
  rfl

theorem written_8 (s : Fin 128) (hs : kernelRun0_A.sl.r c xt0 = BitVec.ofNat 32 s) (y : S1x128x352.Idx) :
    out0_A_8 c i a3 h3 a4 h4 a5 h5 a6 h6 a7 h7 a8 h8 a9 h9 a10 h10 a19 h19 a20 h20 a21 h21 a22 h22 a23 h23 a24 h24 a25 h25 a26 h26 x0 x1 x2 x3 x4 x5 x6 x7 xt0 xt1 y = (grad 0 s x0 x1 : Vec Ideal S1x128x352 .f32) y := by
  unfold out0_A_8
  rw [View.read_writes_eq_canon _ _ _ (cover0_A_8 c i a3 h3 a4 h4 a5 h5 a6 h6 a7 h7 a8 h8 a9 h9 a10 h10 a19 h19 a20 h20 a21 h21 a22 h22 a23 h23 a24 h24 a25 h25 a26 h26 x0 x1 x2 x3 x4 x5 x6 x7 xt0 xt1)]
  refine View.canon_apply_of_pieces (grad 0 s x0 x1 : Vec Ideal S1x128x352 .f32) _ ?_ y (cover0_A_8 c i a3 h3 a4 h4 a5 h5 a6 h6 a7 h7 a8 h8 a9 h9 a10 h10 a19 h19 a20 h20 a21 h21 a22 h22 a23 h23 a24 h24 a25 h25 a26 h26 x0 x1 x2 x3 x4 x5 x6 x7 xt0 xt1 y)
  unfold kernelRun0_A
  dsimp only
  simp only [kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42]
  try simp only [View.readAt_eq_ld, h5.read_unread, h6.read_unread, h7.read_unread, h8.read_unread, h9.read_unread, h10.read_unread]
  intro q hq
  simp only [List.mem_cons, List.not_mem_nil, or_false] at hq
  rcases hq with rfl | rfl | rfl
  · intro x
    obtain ⟨p, l, rfl⟩ := exists_row 96 x
    dsimp only
    refine (g2 (kernelRun0_A.sl.r_7 c a3 h3 a4 h4 x0 x1 xt0)  p l).trans ?_
    rw [s_7 c a3 h3 a4 h4 x0 x1 xt0 s hs]
    exact (grad_emb' 0 256 s x0 x1 _ p l).symm
  · intro x
    obtain ⟨p, l, rfl⟩ := exists_row 128 x
    dsimp only
    refine (g1 (kernelRun0_A.sl.r_6 c a3 h3 a4 h4 x0 x1 xt0)  p l).trans ?_
    rw [s_6 c a3 h3 a4 h4 x0 x1 xt0 s hs]
    exact (grad_emb 0 128 s x0 x1 _ p l).symm
  · intro x
    obtain ⟨p, l, rfl⟩ := exists_row 128 x
    dsimp only
    refine (g0 (kernelRun0_A.sl.r_5 c a3 h3 a4 h4 x0 x1 xt0)  p l).trans ?_
    rw [s_5 c a3 h3 a4 h4 x0 x1 xt0 s hs]
    exact (grad_emb 0 0 s x0 x1 _ p l).symm

theorem written_9 (s : Fin 128) (hs : kernelRun0_A.sl.r c xt0 = BitVec.ofNat 32 s) (y : S1x128x352.Idx) :
    out0_A_9 c i a3 h3 a4 h4 a5 h5 a6 h6 a7 h7 a8 h8 a9 h9 a10 h10 a19 h19 a20 h20 a21 h21 a22 h22 a23 h23 a24 h24 a25 h25 a26 h26 x0 x1 x2 x3 x4 x5 x6 x7 xt0 xt1 y = (fun y => delta (x2 y) (grad 0 s x0 x1 y) (x3 y) (x4 y) : Vec Ideal S1x128x352 .f32) y := by
  unfold out0_A_9
  rw [View.read_writes_eq_canon _ _ _ (cover0_A_9 c i a3 h3 a4 h4 a5 h5 a6 h6 a7 h7 a8 h8 a9 h9 a10 h10 a19 h19 a20 h20 a21 h21 a22 h22 a23 h23 a24 h24 a25 h25 a26 h26 x0 x1 x2 x3 x4 x5 x6 x7 xt0 xt1)]
  refine View.canon_apply_of_pieces (fun y => delta (x2 y) (grad 0 s x0 x1 y) (x3 y) (x4 y) : Vec Ideal S1x128x352 .f32) _ ?_ y (cover0_A_9 c i a3 h3 a4 h4 a5 h5 a6 h6 a7 h7 a8 h8 a9 h9 a10 h10 a19 h19 a20 h20 a21 h21 a22 h22 a23 h23 a24 h24 a25 h25 a26 h26 x0 x1 x2 x3 x4 x5 x6 x7 xt0 xt1 y)
  unfold kernelRun0_A
  dsimp only
  simp only [kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42]
  try simp only [View.readAt_eq_ld, h5.read_unread, h6.read_unread, h7.read_unread, h8.read_unread, h9.read_unread, h10.read_unread]
  intro q hq
  simp only [List.mem_cons, List.not_mem_nil, or_false] at hq
  rcases hq with rfl | rfl | rfl
  · intro x
    obtain ⟨p, l, rfl⟩ := exists_row 96 x
    dsimp only
    refine (d2 (kernelRun0_A.sl.r_7 c a3 h3 a4 h4 x0 x1 xt0) _ _ _ p l).trans ?_
    rw [s_7 c a3 h3 a4 h4 x0 x1 xt0 s hs]
    have e := (grad_emb' 0 256 s x0 x1 inb_S1x128x352_S1x128x96_0_0_256 p l).symm
    exact congrArg (fun g => delta _ g _ _) e
  · intro x
    obtain ⟨p, l, rfl⟩ := exists_row 128 x
    dsimp only
    refine (d1 (kernelRun0_A.sl.r_6 c a3 h3 a4 h4 x0 x1 xt0) _ _ _ p l).trans ?_
    rw [s_6 c a3 h3 a4 h4 x0 x1 xt0 s hs]
    have e := (grad_emb 0 128 s x0 x1 inb_S1x128x352_S1x128x128_0_0_128 p l).symm
    exact congrArg (fun g => delta _ g _ _) e
  · intro x
    obtain ⟨p, l, rfl⟩ := exists_row 128 x
    dsimp only
    refine (d0 (kernelRun0_A.sl.r_5 c a3 h3 a4 h4 x0 x1 xt0) _ _ _ p l).trans ?_
    rw [s_5 c a3 h3 a4 h4 x0 x1 xt0 s hs]
    have e := (grad_emb 0 0 s x0 x1 inb_S1x128x352_S1x128x128_0_0_0 p l).symm
    exact congrArg (fun g => delta _ g _ _) e

theorem written_10 (s : Fin 128) (hs : kernelRun0_A.sl.r c xt0 = BitVec.ofNat 32 s) (y : S1x128x352.Idx) :
    out0_A_10 c i a3 h3 a4 h4 a5 h5 a6 h6 a7 h7 a8 h8 a9 h9 a10 h10 a19 h19 a20 h20 a21 h21 a22 h22 a23 h23 a24 h24 a25 h25 a26 h26 x0 x1 x2 x3 x4 x5 x6 x7 xt0 xt1 y = (fun y => first (x3 y) (grad 0 s x0 x1 y) : Vec Ideal S1x128x352 .f32) y := by
  unfold out0_A_10
  rw [View.read_writes_eq_canon _ _ _ (cover0_A_10 c i a3 h3 a4 h4 a5 h5 a6 h6 a7 h7 a8 h8 a9 h9 a10 h10 a19 h19 a20 h20 a21 h21 a22 h22 a23 h23 a24 h24 a25 h25 a26 h26 x0 x1 x2 x3 x4 x5 x6 x7 xt0 xt1)]
  refine View.canon_apply_of_pieces (fun y => first (x3 y) (grad 0 s x0 x1 y) : Vec Ideal S1x128x352 .f32) _ ?_ y (cover0_A_10 c i a3 h3 a4 h4 a5 h5 a6 h6 a7 h7 a8 h8 a9 h9 a10 h10 a19 h19 a20 h20 a21 h21 a22 h22 a23 h23 a24 h24 a25 h25 a26 h26 x0 x1 x2 x3 x4 x5 x6 x7 xt0 xt1 y)
  unfold kernelRun0_A
  dsimp only
  simp only [kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42]
  try simp only [View.readAt_eq_ld, h5.read_unread, h6.read_unread, h7.read_unread, h8.read_unread, h9.read_unread, h10.read_unread]
  intro q hq
  simp only [List.mem_cons, List.not_mem_nil, or_false] at hq
  rcases hq with rfl | rfl | rfl
  · intro x
    obtain ⟨p, l, rfl⟩ := exists_row 96 x
    dsimp only
    refine (m2 (kernelRun0_A.sl.r_7 c a3 h3 a4 h4 x0 x1 xt0) _ p l).trans ?_
    rw [s_7 c a3 h3 a4 h4 x0 x1 xt0 s hs]
    have e := (grad_emb' 0 256 s x0 x1 inb_S1x128x352_S1x128x96_0_0_256 p l).symm
    exact congrArg (first _) e
  · intro x
    obtain ⟨p, l, rfl⟩ := exists_row 128 x
    dsimp only
    refine (m1 (kernelRun0_A.sl.r_6 c a3 h3 a4 h4 x0 x1 xt0) _ p l).trans ?_
    rw [s_6 c a3 h3 a4 h4 x0 x1 xt0 s hs]
    have e := (grad_emb 0 128 s x0 x1 inb_S1x128x352_S1x128x128_0_0_128 p l).symm
    exact congrArg (first _) e
  · intro x
    obtain ⟨p, l, rfl⟩ := exists_row 128 x
    dsimp only
    refine (m0 (kernelRun0_A.sl.r_5 c a3 h3 a4 h4 x0 x1 xt0) _ p l).trans ?_
    rw [s_5 c a3 h3 a4 h4 x0 x1 xt0 s hs]
    have e := (grad_emb 0 0 s x0 x1 inb_S1x128x352_S1x128x128_0_0_0 p l).symm
    exact congrArg (first _) e

theorem written_11 (s : Fin 128) (hs : kernelRun0_A.sl.r c xt0 = BitVec.ofNat 32 s) (y : S1x128x352.Idx) :
    out0_A_11 c i a3 h3 a4 h4 a5 h5 a6 h6 a7 h7 a8 h8 a9 h9 a10 h10 a19 h19 a20 h20 a21 h21 a22 h22 a23 h23 a24 h24 a25 h25 a26 h26 x0 x1 x2 x3 x4 x5 x6 x7 xt0 xt1 y = (fun y => second (x4 y) (grad 0 s x0 x1 y) : Vec Ideal S1x128x352 .f32) y := by
  unfold out0_A_11
  rw [View.read_writes_eq_canon _ _ _ (cover0_A_11 c i a3 h3 a4 h4 a5 h5 a6 h6 a7 h7 a8 h8 a9 h9 a10 h10 a19 h19 a20 h20 a21 h21 a22 h22 a23 h23 a24 h24 a25 h25 a26 h26 x0 x1 x2 x3 x4 x5 x6 x7 xt0 xt1)]
  refine View.canon_apply_of_pieces (fun y => second (x4 y) (grad 0 s x0 x1 y) : Vec Ideal S1x128x352 .f32) _ ?_ y (cover0_A_11 c i a3 h3 a4 h4 a5 h5 a6 h6 a7 h7 a8 h8 a9 h9 a10 h10 a19 h19 a20 h20 a21 h21 a22 h22 a23 h23 a24 h24 a25 h25 a26 h26 x0 x1 x2 x3 x4 x5 x6 x7 xt0 xt1 y)
  unfold kernelRun0_A
  dsimp only
  simp only [kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42]
  try simp only [View.readAt_eq_ld, h5.read_unread, h6.read_unread, h7.read_unread, h8.read_unread, h9.read_unread, h10.read_unread]
  intro q hq
  simp only [List.mem_cons, List.not_mem_nil, or_false] at hq
  rcases hq with rfl | rfl | rfl
  · intro x
    obtain ⟨p, l, rfl⟩ := exists_row 96 x
    dsimp only
    refine (v2 (kernelRun0_A.sl.r_7 c a3 h3 a4 h4 x0 x1 xt0) _ p l).trans ?_
    rw [s_7 c a3 h3 a4 h4 x0 x1 xt0 s hs]
    have e := (grad_emb' 0 256 s x0 x1 inb_S1x128x352_S1x128x96_0_0_256 p l).symm
    exact congrArg (second _) e
  · intro x
    obtain ⟨p, l, rfl⟩ := exists_row 128 x
    dsimp only
    refine (v1 (kernelRun0_A.sl.r_6 c a3 h3 a4 h4 x0 x1 xt0) _ p l).trans ?_
    rw [s_6 c a3 h3 a4 h4 x0 x1 xt0 s hs]
    have e := (grad_emb 0 128 s x0 x1 inb_S1x128x352_S1x128x128_0_0_128 p l).symm
    exact congrArg (second _) e
  · intro x
    obtain ⟨p, l, rfl⟩ := exists_row 128 x
    dsimp only
    refine (v0 (kernelRun0_A.sl.r_5 c a3 h3 a4 h4 x0 x1 xt0) _ p l).trans ?_
    rw [s_5 c a3 h3 a4 h4 x0 x1 xt0 s hs]
    have e := (grad_emb 0 0 s x0 x1 inb_S1x128x352_S1x128x128_0_0_0 p l).symm
    exact congrArg (second _) e

theorem written_12 (s : Fin 128) (hs : kernelRun0_A.sl.r c xt0 = BitVec.ofNat 32 s) (y : S1x128x352.Idx) :
    out0_A_12 c i a3 h3 a4 h4 a5 h5 a6 h6 a7 h7 a8 h8 a9 h9 a10 h10 a19 h19 a20 h20 a21 h21 a22 h22 a23 h23 a24 h24 a25 h25 a26 h26 x0 x1 x2 x3 x4 x5 x6 x7 xt0 xt1 y = (grad 512 s x0 x1 : Vec Ideal S1x128x352 .f32) y := by
  unfold out0_A_12
  rw [View.read_writes_eq_canon _ _ _ (cover0_A_12 c i a3 h3 a4 h4 a5 h5 a6 h6 a7 h7 a8 h8 a9 h9 a10 h10 a19 h19 a20 h20 a21 h21 a22 h22 a23 h23 a24 h24 a25 h25 a26 h26 x0 x1 x2 x3 x4 x5 x6 x7 xt0 xt1)]
  refine View.canon_apply_of_pieces (grad 512 s x0 x1 : Vec Ideal S1x128x352 .f32) _ ?_ y (cover0_A_12 c i a3 h3 a4 h4 a5 h5 a6 h6 a7 h7 a8 h8 a9 h9 a10 h10 a19 h19 a20 h20 a21 h21 a22 h22 a23 h23 a24 h24 a25 h25 a26 h26 x0 x1 x2 x3 x4 x5 x6 x7 xt0 xt1 y)
  unfold kernelRun0_A
  dsimp only
  simp only [kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42]
  try simp only [View.readAt_eq_ld, h5.read_unread, h6.read_unread, h7.read_unread, h8.read_unread, h9.read_unread, h10.read_unread]
  intro q hq
  simp only [List.mem_cons, List.not_mem_nil, or_false] at hq
  rcases hq with rfl | rfl | rfl
  · intro x
    obtain ⟨p, l, rfl⟩ := exists_row 96 x
    dsimp only
    refine (g5 (kernelRun0_A.sl.r_18 c a3 h3 a4 h4 x0 x1 xt0)  p l).trans ?_
    rw [s_18 c a3 h3 a4 h4 x0 x1 xt0 s hs]
    exact (grad_emb' 512 256 s x0 x1 _ p l).symm
  · intro x
    obtain ⟨p, l, rfl⟩ := exists_row 128 x
    dsimp only
    refine (g4 (kernelRun0_A.sl.r_17 c a3 h3 a4 h4 x0 x1 xt0)  p l).trans ?_
    rw [s_17 c a3 h3 a4 h4 x0 x1 xt0 s hs]
    exact (grad_emb 512 128 s x0 x1 _ p l).symm
  · intro x
    obtain ⟨p, l, rfl⟩ := exists_row 128 x
    dsimp only
    refine (g3 (kernelRun0_A.sl.r_16 c a3 h3 a4 h4 x0 x1 xt0)  p l).trans ?_
    rw [s_16 c a3 h3 a4 h4 x0 x1 xt0 s hs]
    exact (grad_emb 512 0 s x0 x1 _ p l).symm

theorem written_13 (s : Fin 128) (hs : kernelRun0_A.sl.r c xt0 = BitVec.ofNat 32 s) (y : S1x128x352.Idx) :
    out0_A_13 c i a3 h3 a4 h4 a5 h5 a6 h6 a7 h7 a8 h8 a9 h9 a10 h10 a19 h19 a20 h20 a21 h21 a22 h22 a23 h23 a24 h24 a25 h25 a26 h26 x0 x1 x2 x3 x4 x5 x6 x7 xt0 xt1 y = (fun y => delta (x5 y) (grad 512 s x0 x1 y) (x6 y) (x7 y) : Vec Ideal S1x128x352 .f32) y := by
  unfold out0_A_13
  rw [View.read_writes_eq_canon _ _ _ (cover0_A_13 c i a3 h3 a4 h4 a5 h5 a6 h6 a7 h7 a8 h8 a9 h9 a10 h10 a19 h19 a20 h20 a21 h21 a22 h22 a23 h23 a24 h24 a25 h25 a26 h26 x0 x1 x2 x3 x4 x5 x6 x7 xt0 xt1)]
  refine View.canon_apply_of_pieces (fun y => delta (x5 y) (grad 512 s x0 x1 y) (x6 y) (x7 y) : Vec Ideal S1x128x352 .f32) _ ?_ y (cover0_A_13 c i a3 h3 a4 h4 a5 h5 a6 h6 a7 h7 a8 h8 a9 h9 a10 h10 a19 h19 a20 h20 a21 h21 a22 h22 a23 h23 a24 h24 a25 h25 a26 h26 x0 x1 x2 x3 x4 x5 x6 x7 xt0 xt1 y)
  unfold kernelRun0_A
  dsimp only
  simp only [kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42]
  try simp only [View.readAt_eq_ld, h5.read_unread, h6.read_unread, h7.read_unread, h8.read_unread, h9.read_unread, h10.read_unread]
  intro q hq
  simp only [List.mem_cons, List.not_mem_nil, or_false] at hq
  rcases hq with rfl | rfl | rfl
  · intro x
    obtain ⟨p, l, rfl⟩ := exists_row 96 x
    dsimp only
    refine (d5 (kernelRun0_A.sl.r_18 c a3 h3 a4 h4 x0 x1 xt0) _ _ _ p l).trans ?_
    rw [s_18 c a3 h3 a4 h4 x0 x1 xt0 s hs]
    have e := (grad_emb' 512 256 s x0 x1 inb_S1x128x352_S1x128x96_0_0_256 p l).symm
    exact congrArg (fun g => delta _ g _ _) e
  · intro x
    obtain ⟨p, l, rfl⟩ := exists_row 128 x
    dsimp only
    refine (d4 (kernelRun0_A.sl.r_17 c a3 h3 a4 h4 x0 x1 xt0) _ _ _ p l).trans ?_
    rw [s_17 c a3 h3 a4 h4 x0 x1 xt0 s hs]
    have e := (grad_emb 512 128 s x0 x1 inb_S1x128x352_S1x128x128_0_0_128 p l).symm
    exact congrArg (fun g => delta _ g _ _) e
  · intro x
    obtain ⟨p, l, rfl⟩ := exists_row 128 x
    dsimp only
    refine (d3 (kernelRun0_A.sl.r_16 c a3 h3 a4 h4 x0 x1 xt0) _ _ _ p l).trans ?_
    rw [s_16 c a3 h3 a4 h4 x0 x1 xt0 s hs]
    have e := (grad_emb 512 0 s x0 x1 inb_S1x128x352_S1x128x128_0_0_0 p l).symm
    exact congrArg (fun g => delta _ g _ _) e

theorem written_14 (s : Fin 128) (hs : kernelRun0_A.sl.r c xt0 = BitVec.ofNat 32 s) (y : S1x128x352.Idx) :
    out0_A_14 c i a3 h3 a4 h4 a5 h5 a6 h6 a7 h7 a8 h8 a9 h9 a10 h10 a19 h19 a20 h20 a21 h21 a22 h22 a23 h23 a24 h24 a25 h25 a26 h26 x0 x1 x2 x3 x4 x5 x6 x7 xt0 xt1 y = (fun y => first (x6 y) (grad 512 s x0 x1 y) : Vec Ideal S1x128x352 .f32) y := by
  unfold out0_A_14
  rw [View.read_writes_eq_canon _ _ _ (cover0_A_14 c i a3 h3 a4 h4 a5 h5 a6 h6 a7 h7 a8 h8 a9 h9 a10 h10 a19 h19 a20 h20 a21 h21 a22 h22 a23 h23 a24 h24 a25 h25 a26 h26 x0 x1 x2 x3 x4 x5 x6 x7 xt0 xt1)]
  refine View.canon_apply_of_pieces (fun y => first (x6 y) (grad 512 s x0 x1 y) : Vec Ideal S1x128x352 .f32) _ ?_ y (cover0_A_14 c i a3 h3 a4 h4 a5 h5 a6 h6 a7 h7 a8 h8 a9 h9 a10 h10 a19 h19 a20 h20 a21 h21 a22 h22 a23 h23 a24 h24 a25 h25 a26 h26 x0 x1 x2 x3 x4 x5 x6 x7 xt0 xt1 y)
  unfold kernelRun0_A
  dsimp only
  simp only [kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42]
  try simp only [View.readAt_eq_ld, h5.read_unread, h6.read_unread, h7.read_unread, h8.read_unread, h9.read_unread, h10.read_unread]
  intro q hq
  simp only [List.mem_cons, List.not_mem_nil, or_false] at hq
  rcases hq with rfl | rfl | rfl
  · intro x
    obtain ⟨p, l, rfl⟩ := exists_row 96 x
    dsimp only
    refine (m5 (kernelRun0_A.sl.r_18 c a3 h3 a4 h4 x0 x1 xt0) _ p l).trans ?_
    rw [s_18 c a3 h3 a4 h4 x0 x1 xt0 s hs]
    have e := (grad_emb' 512 256 s x0 x1 inb_S1x128x352_S1x128x96_0_0_256 p l).symm
    exact congrArg (first _) e
  · intro x
    obtain ⟨p, l, rfl⟩ := exists_row 128 x
    dsimp only
    refine (m4 (kernelRun0_A.sl.r_17 c a3 h3 a4 h4 x0 x1 xt0) _ p l).trans ?_
    rw [s_17 c a3 h3 a4 h4 x0 x1 xt0 s hs]
    have e := (grad_emb 512 128 s x0 x1 inb_S1x128x352_S1x128x128_0_0_128 p l).symm
    exact congrArg (first _) e
  · intro x
    obtain ⟨p, l, rfl⟩ := exists_row 128 x
    dsimp only
    refine (m3 (kernelRun0_A.sl.r_16 c a3 h3 a4 h4 x0 x1 xt0) _ p l).trans ?_
    rw [s_16 c a3 h3 a4 h4 x0 x1 xt0 s hs]
    have e := (grad_emb 512 0 s x0 x1 inb_S1x128x352_S1x128x128_0_0_0 p l).symm
    exact congrArg (first _) e

theorem written_15 (s : Fin 128) (hs : kernelRun0_A.sl.r c xt0 = BitVec.ofNat 32 s) (y : S1x128x352.Idx) :
    out0_A_15 c i a3 h3 a4 h4 a5 h5 a6 h6 a7 h7 a8 h8 a9 h9 a10 h10 a19 h19 a20 h20 a21 h21 a22 h22 a23 h23 a24 h24 a25 h25 a26 h26 x0 x1 x2 x3 x4 x5 x6 x7 xt0 xt1 y = (fun y => second (x7 y) (grad 512 s x0 x1 y) : Vec Ideal S1x128x352 .f32) y := by
  unfold out0_A_15
  rw [View.read_writes_eq_canon _ _ _ (cover0_A_15 c i a3 h3 a4 h4 a5 h5 a6 h6 a7 h7 a8 h8 a9 h9 a10 h10 a19 h19 a20 h20 a21 h21 a22 h22 a23 h23 a24 h24 a25 h25 a26 h26 x0 x1 x2 x3 x4 x5 x6 x7 xt0 xt1)]
  refine View.canon_apply_of_pieces (fun y => second (x7 y) (grad 512 s x0 x1 y) : Vec Ideal S1x128x352 .f32) _ ?_ y (cover0_A_15 c i a3 h3 a4 h4 a5 h5 a6 h6 a7 h7 a8 h8 a9 h9 a10 h10 a19 h19 a20 h20 a21 h21 a22 h22 a23 h23 a24 h24 a25 h25 a26 h26 x0 x1 x2 x3 x4 x5 x6 x7 xt0 xt1 y)
  unfold kernelRun0_A
  dsimp only
  simp only [kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42]
  try simp only [View.readAt_eq_ld, h5.read_unread, h6.read_unread, h7.read_unread, h8.read_unread, h9.read_unread, h10.read_unread]
  intro q hq
  simp only [List.mem_cons, List.not_mem_nil, or_false] at hq
  rcases hq with rfl | rfl | rfl
  · intro x
    obtain ⟨p, l, rfl⟩ := exists_row 96 x
    dsimp only
    refine (v5 (kernelRun0_A.sl.r_18 c a3 h3 a4 h4 x0 x1 xt0) _ p l).trans ?_
    rw [s_18 c a3 h3 a4 h4 x0 x1 xt0 s hs]
    have e := (grad_emb' 512 256 s x0 x1 inb_S1x128x352_S1x128x96_0_0_256 p l).symm
    exact congrArg (second _) e
  · intro x
    obtain ⟨p, l, rfl⟩ := exists_row 128 x
    dsimp only
    refine (v4 (kernelRun0_A.sl.r_17 c a3 h3 a4 h4 x0 x1 xt0) _ p l).trans ?_
    rw [s_17 c a3 h3 a4 h4 x0 x1 xt0 s hs]
    have e := (grad_emb 512 128 s x0 x1 inb_S1x128x352_S1x128x128_0_0_128 p l).symm
    exact congrArg (second _) e
  · intro x
    obtain ⟨p, l, rfl⟩ := exists_row 128 x
    dsimp only
    refine (v3 (kernelRun0_A.sl.r_16 c a3 h3 a4 h4 x0 x1 xt0) _ p l).trans ?_
    rw [s_16 c a3 h3 a4 h4 x0 x1 xt0 s hs]
    have e := (grad_emb 512 0 s x0 x1 inb_S1x128x352_S1x128x128_0_0_0 p l).symm
    exact congrArg (second _) e

end

end Cert.FinalGuIdeal.Calc

end
-- ==== Proof.FinalGuGlob.lean ====
module

public import proofs.«01_k».proof.Proof.FinalGuBlock
public import proofs.«01_k».proof.Proof.Gen.FinalGu.Frame
public import proofs.«01_k».proof.Proof.Gen.Pre_final_gu_in_range
public import Idealize.ShloMosaic.Lib.Pipeline.Covers

@[expose] public section

set_option maxRecDepth 16384

/-! The windows of the gate's and the up projection's columns, of the arguments: the chip that the table names and the lane at which the
columns begin, and the eight arrays. In the first layer they are the sum of the chips' gradients, cut at the columns, and one AdamW step of
each; in the second layer they are what the call was given. -/

noncomputable section

open Idealize.ShloMosaic Idealize.ShloMosaic.TcCoe Idealize.SL.Sem

namespace Cert.Pre_final_gu_in_range.Calc
open Cert.Pre_final_gu_in_range

/-- The lane at which the columns begin: the table's last entry. -/
def lane (w : IVec S8 32) : BitVec 32 := w fun a => ⟨7, by obtain rfl : a = 0 := Subsingleton.elim _ _; decide⟩

theorem slice_eq (w : IVec S8 32) (h : S8.Slices ![7] S1) (i : S1.Idx) : extractStridedSlice S1 ![7] w h i = lane w := by
  refine congrArg w (funext fun a => Fin.ext ?_)
  obtain rfl : a = 0 := Subsingleton.elim _ _
  have : (i 0 : ℕ) = 0 := Nat.lt_one_iff.1 (i 0).isLt
  show 7 + (i 0 : ℕ) = 7
  omega

theorem key (n : ℕ) (hn : n < 1000) (x : BitVec 32) (h0 : (0#32).sle x = true) (h1 : x.slt (BitVec.ofNat 32 n) = true) : x.toNat < n := by
  simp only [BitVec.sle, BitVec.slt, decide_eq_true_eq] at h0 h1
  rw [show (0#32 : BitVec 32).toInt = 0 from rfl] at h0
  rw [BitVec.toInt_eq_toNat_cond] at h0 h1
  rw [BitVec.toInt_eq_toNat_cond, BitVec.toNat_ofNat] at h1
  have := x.isLt
  split at h0 <;> split at h1 <;> omega

/-- The precondition read: the chip's number is below four, and the lane below 128. -/
theorem in_range {F : FTy → Type} [FloatOps F] (p : IVec S8 32) (w : IVec S1 32) (a : FVec F S4x1024x1024 .bf16) (r : FVec F S3x1024x1024 .bf16)
    (x4 x5 x6 x7 x8 x9 x10 x11 x12 x13 x14 x15 x16 x17 : FVec F S2x1024x352 .f32)
    (h : (fn p w a r x4 x5 x6 x7 x8 x9 x10 x11 x12 x13 x14 x15 x16 x17) = fun _ => 1#1) :
    (Cert.Pre_chip_in_range.Calc.chip w).toNat < 4 ∧ (lane p).toNat < 128 := by
  have pre := congrFun h (fun a => Fin.elim0 a)
  have andi_one (a b : BitVec 1) : IntOp.andi a b = 1#1 ↔ a = 1#1 ∧ b = 1#1 := by revert a b; decide
  have ho (p : Bool) : (BitVec.ofBool p = 1#1) ↔ p = true := by cases p <;> decide
  simp only [fn, constantI, cmpi, andi, andi_one, IntOp.cmpi, ho, shapeCast, Cert.Pre_chip_in_range.Calc.chip_eq w, slice_eq] at pre
  exact ⟨key 4 (by decide) _ pre.1.1.1 pre.1.1.2, key 128 (by decide) _ pre.1.2 pre.2⟩

end Cert.Pre_final_gu_in_range.Calc

namespace Cert.FinalGu.Calc
open Cert.FinalGu Cert.FinalGu.Gen Cert.Pre_chip_in_range.Calc

abbrev chipOf {F : FTy → Type} [FloatOps F] (m : (ℓ : Loc nD τ sig) → Buf (Elt F) ℓ) : BitVec 32 := chip (m (((0 : Dev nD).tc : Thread nD τ).loc main_arg1) : IVec S1 32)

theorem coords0 (t : Fin grid0.N) : (grid0.coords t 0).val = t.val := (by decide +kernel : ∀ t : Fin grid0.N, (grid0.coords t 0).val = t.val) t

/-- The chip's number selects the first window's layer, and the grid point its rows. -/
theorem index_eq {F : FTy → Type} [FloatOps F] (m : (ℓ : Loc nD τ sig) → Buf (Elt F) ℓ) (i : grid0.Coords) :
    cc0_transform_0 inb_S1_S1_0 numel1_S1 (tbl m) i = ![(chipOf m).toNat, (i 0).val, 0] := by
  have hi : (BitVec.ofNat 32 (i 0).val).toNat = (i 0).val := by
    rw [BitVec.toNat_ofNat]
    exact Nat.mod_eq_of_lt (lt_trans (show (i 0).val < 8 from (i 0).isLt) (by decide))
  unfold cc0_transform_0
  dsimp only
  rw [hi]
  congr 1
  exact congrArg BitVec.toNat (chip_eq (m (((0 : Dev nD).tc : Thread nD τ).loc main_arg1) : IVec S1 32) _)

/-- A chip below four selects a block inside the array. -/
theorem ok_of_lt {F : FTy → Type} [FloatOps F] (m : (ℓ : Loc nD τ sig) → Buf (Elt F) ℓ) (h : (chipOf m).toNat < 4) : Ok m := by
  intro i
  refine ⟨fun a => ?_, .inr (Affine.block_words_dvd (of_decide_eq_true rfl) (by decide))⟩
  rw [index_eq]
  have hi : (i 0).val < 8 := (i 0).isLt
  match a with
  | ⟨0, _⟩ => show ((chipOf m).toNat + 1) * 1 ≤ 4; omega
  | ⟨1, _⟩ => show ((i 0).val + 1) * 128 ≤ 1024; omega
  | ⟨2, _⟩ => exact (by decide : (0 + 1) * 1024 ≤ 1024)

end Cert.FinalGu.Calc

namespace Cert.FinalGuIdeal.Calc
open Cert.FinalGuIdeal Cert.FinalGuIdeal.Gen Cert.Pre_chip_in_range.Calc Cert.Pre_final_gu_in_range.Calc Cert.Tile

abbrev chipOf {F : FTy → Type} [FloatOps F] (m : (ℓ : Loc nD τ sig) → Buf (Elt F) ℓ) : BitVec 32 := chip (m (((0 : Dev nD).tc : Thread nD τ).loc main_arg1) : IVec S1 32)

theorem coords0 (t : Fin grid0.N) : (grid0.coords t 0).val = t.val := (by decide +kernel : ∀ t : Fin grid0.N, (grid0.coords t 0).val = t.val) t

/-- The chip's number selects the first window's layer, and the grid point its rows. -/
theorem index_eq {F : FTy → Type} [FloatOps F] (m : (ℓ : Loc nD τ sig) → Buf (Elt F) ℓ) (i : grid0.Coords) :
    cc0_transform_0 inb_S1_S1_0 numel1_S1 (tbl m) i = ![(chipOf m).toNat, (i 0).val, 0] := by
  have hi : (BitVec.ofNat 32 (i 0).val).toNat = (i 0).val := by
    rw [BitVec.toNat_ofNat]
    exact Nat.mod_eq_of_lt (lt_trans (show (i 0).val < 8 from (i 0).isLt) (by decide))
  unfold cc0_transform_0
  dsimp only
  rw [hi]
  congr 1
  exact congrArg BitVec.toNat (chip_eq (m (((0 : Dev nD).tc : Thread nD τ).loc main_arg1) : IVec S1 32) _)

/-- A chip below four selects a block inside the array. -/
theorem ok_of_lt {F : FTy → Type} [FloatOps F] (m : (ℓ : Loc nD τ sig) → Buf (Elt F) ℓ) (h : (chipOf m).toNat < 4) : Ok m := by
  intro i
  refine ⟨fun a => ?_, .inr (Affine.block_words_dvd (of_decide_eq_true rfl) (by decide))⟩
  rw [index_eq]
  have hi : (i 0).val < 8 := (i 0).isLt
  match a with
  | ⟨0, _⟩ => show ((chipOf m).toNat + 1) * 1 ≤ 4; omega
  | ⟨1, _⟩ => show ((i 0).val + 1) * 128 ≤ 1024; omega
  | ⟨2, _⟩ => exact (by decide : (0 + 1) * 1024 ≤ 1024)

/-- Row `p` of chip `k`'s gradients and of the three that were sent, added, at column `n`. -/
def chips (k : Fin 4) (a : Vec Ideal S4x1024x1024 .bf16) (r : Vec Ideal S3x1024x1024 .bf16) (p : Fin 1024) (n : ℕ) : EReal :=
  ((((a (ix3 k p ⟨n % 1024, Nat.mod_lt _ (by decide)⟩) : EReal) + (r (ix3 0 p ⟨n % 1024, Nat.mod_lt _ (by decide)⟩) : EReal))
    + (r (ix3 1 p ⟨n % 1024, Nat.mod_lt _ (by decide)⟩) : EReal)) + (r (ix3 2 p ⟨n % 1024, Nat.mod_lt _ (by decide)⟩) : EReal) : EReal)

/-- The gradient of a weight whose columns begin at `b + s`. -/
def gradA (b : ℕ) (s : Fin 128) (k : Fin 4) (a : Vec Ideal S4x1024x1024 .bf16) (r : Vec Ideal S3x1024x1024 .bf16) : Vec Ideal S2x1024x352 .f32 := fun i =>
  chips k a r (i 1) (b + (i 2 : ℕ) + s)

/-- The first layer of `x` beside the second of `y`. -/
def layers (x y : Vec Ideal S2x1024x352 .f32) : Vec Ideal S2x1024x352 .f32 := fun i => if (i 0 : ℕ) = 0 then x i else y i

def deltaA (w g m v : Vec Ideal S2x1024x352 .f32) : Vec Ideal S2x1024x352 .f32 := fun i => delta (w i) (g i) (m i) (v i)
def firstA (m g : Vec Ideal S2x1024x352 .f32) : Vec Ideal S2x1024x352 .f32 := fun i => first (m i) (g i)
def secondA (v g : Vec Ideal S2x1024x352 .f32) : Vec Ideal S2x1024x352 .f32 := fun i => second (v i) (g i)

variable (m : (ℓ : Loc nD τ sig) → Buf (Elt Ideal) ℓ) (hO : Ok m) (c : Dev nD)

/-- Row `p` of block `t`. -/
def row (t : Fin (cfgM m hO).N) (p : Fin 128) : Fin 1024 := ⟨128 * t.val + p, by have : t.val < 8 := t.isLt; omega⟩

/-- An index of block `t`, in the array. -/
def ent (t : Fin (cfgM m hO).N) (y : S1x128x352.Idx) : S2x1024x352.Idx := ix3 0 (row m hO t (y 1)) (y 2)

theorem idx0 (t : Fin (cfgM m hO).N) : ((cfgM m hO).win 0).index t = ![(chipOf m).toNat, t.val, 0] :=
  (index_eq m (grid0.coords t)).trans (by rw [coords0])
theorem idx1 (t : Fin (cfgM m hO).N) : ((cfgM m hO).win 1).index t = ![0, t.val, 0] :=
  (by decide +kernel : ∀ t : Fin grid0.N, cc0_transform_1 (grid0.coords t) = ![0, t.val, 0]) t
theorem idx2 (t : Fin (cfgM m hO).N) : ((cfgM m hO).win 2).index t = ![0, t.val, 0] :=
  (by decide +kernel : ∀ t : Fin grid0.N, cc0_transform_2 (grid0.coords t) = ![0, t.val, 0]) t
theorem idx3 (t : Fin (cfgM m hO).N) : ((cfgM m hO).win 3).index t = ![0, t.val, 0] :=
  (by decide +kernel : ∀ t : Fin grid0.N, cc0_transform_3 (grid0.coords t) = ![0, t.val, 0]) t
theorem idx4 (t : Fin (cfgM m hO).N) : ((cfgM m hO).win 4).index t = ![0, t.val, 0] :=
  (by decide +kernel : ∀ t : Fin grid0.N, cc0_transform_4 (grid0.coords t) = ![0, t.val, 0]) t
theorem idx5 (t : Fin (cfgM m hO).N) : ((cfgM m hO).win 5).index t = ![0, t.val, 0] :=
  (by decide +kernel : ∀ t : Fin grid0.N, cc0_transform_5 (grid0.coords t) = ![0, t.val, 0]) t
theorem idx6 (t : Fin (cfgM m hO).N) : ((cfgM m hO).win 6).index t = ![0, t.val, 0] :=
  (by decide +kernel : ∀ t : Fin grid0.N, cc0_transform_6 (grid0.coords t) = ![0, t.val, 0]) t
theorem idx7 (t : Fin (cfgM m hO).N) : ((cfgM m hO).win 7).index t = ![0, t.val, 0] :=
  (by decide +kernel : ∀ t : Fin grid0.N, cc0_transform_7 (grid0.coords t) = ![0, t.val, 0]) t
theorem idx8 (t : Fin (cfgM m hO).N) : ((cfgM m hO).win 8).index t = ![0, t.val, 0] :=
  (by decide +kernel : ∀ t : Fin grid0.N, cc0_transform_16 (grid0.coords t) = ![0, t.val, 0]) t
theorem idx9 (t : Fin (cfgM m hO).N) : ((cfgM m hO).win 9).index t = ![0, t.val, 0] :=
  (by decide +kernel : ∀ t : Fin grid0.N, cc0_transform_17 (grid0.coords t) = ![0, t.val, 0]) t
theorem idx10 (t : Fin (cfgM m hO).N) : ((cfgM m hO).win 10).index t = ![0, t.val, 0] :=
  (by decide +kernel : ∀ t : Fin grid0.N, cc0_transform_18 (grid0.coords t) = ![0, t.val, 0]) t
theorem idx11 (t : Fin (cfgM m hO).N) : ((cfgM m hO).win 11).index t = ![0, t.val, 0] :=
  (by decide +kernel : ∀ t : Fin grid0.N, cc0_transform_19 (grid0.coords t) = ![0, t.val, 0]) t
theorem idx12 (t : Fin (cfgM m hO).N) : ((cfgM m hO).win 12).index t = ![0, t.val, 0] :=
  (by decide +kernel : ∀ t : Fin grid0.N, cc0_transform_20 (grid0.coords t) = ![0, t.val, 0]) t
theorem idx13 (t : Fin (cfgM m hO).N) : ((cfgM m hO).win 13).index t = ![0, t.val, 0] :=
  (by decide +kernel : ∀ t : Fin grid0.N, cc0_transform_21 (grid0.coords t) = ![0, t.val, 0]) t
theorem idx14 (t : Fin (cfgM m hO).N) : ((cfgM m hO).win 14).index t = ![0, t.val, 0] :=
  (by decide +kernel : ∀ t : Fin grid0.N, cc0_transform_22 (grid0.coords t) = ![0, t.val, 0]) t
theorem idx15 (t : Fin (cfgM m hO).N) : ((cfgM m hO).win 15).index t = ![0, t.val, 0] :=
  (by decide +kernel : ∀ t : Fin grid0.N, cc0_transform_23 (grid0.coords t) = ![0, t.val, 0]) t

theorem rd0 (k : Fin 4) (hk : (chipOf m).toNat = k) (t : Fin (cfgM m hO).N) (p : Fin 128) (q : Fin 1024) :
    (iblk m hO c 0 t : Vec Ideal S1x128x1024 .bf16) (ix3 (n0 := 1) 0 p q) = (m ((c : Thread nD τ).loc main_arg2) : Vec Ideal S4x1024x1024 .bf16) (ix3 k (row m hO t p) q) := by
  show (V m c main_arg2 : Vec Ideal S4x1024x1024 .bf16) ((((cfgM m hO).win 0).blk t).view.emb (ix3 (n0 := 1) 0 p q)) = _
  have e := idx0 m hO t
  rw [V_main_arg2]
  refine congrArg _ (funext fun a => Fin.ext ?_)
  match a with
  | ⟨0, _⟩ =>
    show ((cfgM m hO).win 0).index t (0 : Fin 3) * 1 + 1 * 0 = k.val
    rw [e, ← hk]; exact Nat.mul_one _
  | ⟨1, _⟩ =>
    show ((cfgM m hO).win 0).index t (1 : Fin 3) * 128 + 1 * p.val = 128 * t.val + p.val
    rw [e]; show t.val * 128 + 1 * p.val = 128 * t.val + p.val; omega
  | ⟨2, _⟩ =>
    show ((cfgM m hO).win 0).index t (2 : Fin 3) * 1024 + 1 * q.val = q.val
    rw [e]; show 0 * 1024 + 1 * q.val = q.val; omega

theorem rd1 (t : Fin (cfgM m hO).N) (j : Fin 3) (p : Fin 128) (q : Fin 1024) :
    (iblk m hO c 1 t : Vec Ideal S3x128x1024 .bf16) (ix3 j p q) = (m ((c : Thread nD τ).loc main_arg3) : Vec Ideal S3x1024x1024 .bf16) (ix3 j (row m hO t p) q) := by
  show (V m c main_arg3 : Vec Ideal S3x1024x1024 .bf16) ((((cfgM m hO).win 1).blk t).view.emb (ix3 j p q)) = _
  have e := idx1 m hO t
  rw [V_main_arg3]
  refine congrArg _ (funext fun a => Fin.ext ?_)
  match a with
  | ⟨0, _⟩ =>
    show ((cfgM m hO).win 1).index t (0 : Fin 3) * 3 + 1 * j.val = j.val
    rw [e]; show 0 * 3 + 1 * j.val = j.val; omega
  | ⟨1, _⟩ =>
    show ((cfgM m hO).win 1).index t (1 : Fin 3) * 128 + 1 * p.val = 128 * t.val + p.val
    rw [e]; show t.val * 128 + 1 * p.val = 128 * t.val + p.val; omega
  | ⟨2, _⟩ =>
    show ((cfgM m hO).win 1).index t (2 : Fin 3) * 1024 + 1 * q.val = q.val
    rw [e]; show 0 * 1024 + 1 * q.val = q.val; omega

theorem emb2 (t : Fin (cfgM m hO).N) (y : S1x128x352.Idx) : (((cfgM m hO).win 2).blk t).view.emb y = ent m hO t y := by
  have e := idx2 m hO t
  have h0 : (y 0).val = 0 := Nat.lt_one_iff.1 (y 0).isLt
  refine funext fun a => Fin.ext ?_
  match a with
  | ⟨0, _⟩ =>
    show ((cfgM m hO).win 2).index t (0 : Fin 3) * 1 + 1 * (y 0).val = 0
    rw [e]; show 0 * 1 + 1 * (y 0).val = 0; omega
  | ⟨1, _⟩ =>
    show ((cfgM m hO).win 2).index t (1 : Fin 3) * 128 + 1 * (y 1).val = 128 * t.val + (y 1).val
    rw [e]; show t.val * 128 + 1 * (y 1).val = 128 * t.val + (y 1).val; omega
  | ⟨2, _⟩ =>
    show ((cfgM m hO).win 2).index t (2 : Fin 3) * 352 + 1 * (y 2).val = (y 2).val
    rw [e]; show 0 * 352 + 1 * (y 2).val = (y 2).val; omega
theorem emb3 (t : Fin (cfgM m hO).N) (y : S1x128x352.Idx) : (((cfgM m hO).win 3).blk t).view.emb y = ent m hO t y := by
  have e := idx3 m hO t
  have h0 : (y 0).val = 0 := Nat.lt_one_iff.1 (y 0).isLt
  refine funext fun a => Fin.ext ?_
  match a with
  | ⟨0, _⟩ =>
    show ((cfgM m hO).win 3).index t (0 : Fin 3) * 1 + 1 * (y 0).val = 0
    rw [e]; show 0 * 1 + 1 * (y 0).val = 0; omega
  | ⟨1, _⟩ =>
    show ((cfgM m hO).win 3).index t (1 : Fin 3) * 128 + 1 * (y 1).val = 128 * t.val + (y 1).val
    rw [e]; show t.val * 128 + 1 * (y 1).val = 128 * t.val + (y 1).val; omega
  | ⟨2, _⟩ =>
    show ((cfgM m hO).win 3).index t (2 : Fin 3) * 352 + 1 * (y 2).val = (y 2).val
    rw [e]; show 0 * 352 + 1 * (y 2).val = (y 2).val; omega
theorem emb4 (t : Fin (cfgM m hO).N) (y : S1x128x352.Idx) : (((cfgM m hO).win 4).blk t).view.emb y = ent m hO t y := by
  have e := idx4 m hO t
  have h0 : (y 0).val = 0 := Nat.lt_one_iff.1 (y 0).isLt
  refine funext fun a => Fin.ext ?_
  match a with
  | ⟨0, _⟩ =>
    show ((cfgM m hO).win 4).index t (0 : Fin 3) * 1 + 1 * (y 0).val = 0
    rw [e]; show 0 * 1 + 1 * (y 0).val = 0; omega
  | ⟨1, _⟩ =>
    show ((cfgM m hO).win 4).index t (1 : Fin 3) * 128 + 1 * (y 1).val = 128 * t.val + (y 1).val
    rw [e]; show t.val * 128 + 1 * (y 1).val = 128 * t.val + (y 1).val; omega
  | ⟨2, _⟩ =>
    show ((cfgM m hO).win 4).index t (2 : Fin 3) * 352 + 1 * (y 2).val = (y 2).val
    rw [e]; show 0 * 352 + 1 * (y 2).val = (y 2).val; omega
theorem emb5 (t : Fin (cfgM m hO).N) (y : S1x128x352.Idx) : (((cfgM m hO).win 5).blk t).view.emb y = ent m hO t y := by
  have e := idx5 m hO t
  have h0 : (y 0).val = 0 := Nat.lt_one_iff.1 (y 0).isLt
  refine funext fun a => Fin.ext ?_
  match a with
  | ⟨0, _⟩ =>
    show ((cfgM m hO).win 5).index t (0 : Fin 3) * 1 + 1 * (y 0).val = 0
    rw [e]; show 0 * 1 + 1 * (y 0).val = 0; omega
  | ⟨1, _⟩ =>
    show ((cfgM m hO).win 5).index t (1 : Fin 3) * 128 + 1 * (y 1).val = 128 * t.val + (y 1).val
    rw [e]; show t.val * 128 + 1 * (y 1).val = 128 * t.val + (y 1).val; omega
  | ⟨2, _⟩ =>
    show ((cfgM m hO).win 5).index t (2 : Fin 3) * 352 + 1 * (y 2).val = (y 2).val
    rw [e]; show 0 * 352 + 1 * (y 2).val = (y 2).val; omega
theorem emb6 (t : Fin (cfgM m hO).N) (y : S1x128x352.Idx) : (((cfgM m hO).win 6).blk t).view.emb y = ent m hO t y := by
  have e := idx6 m hO t
  have h0 : (y 0).val = 0 := Nat.lt_one_iff.1 (y 0).isLt
  refine funext fun a => Fin.ext ?_
  match a with
  | ⟨0, _⟩ =>
    show ((cfgM m hO).win 6).index t (0 : Fin 3) * 1 + 1 * (y 0).val = 0
    rw [e]; show 0 * 1 + 1 * (y 0).val = 0; omega
  | ⟨1, _⟩ =>
    show ((cfgM m hO).win 6).index t (1 : Fin 3) * 128 + 1 * (y 1).val = 128 * t.val + (y 1).val
    rw [e]; show t.val * 128 + 1 * (y 1).val = 128 * t.val + (y 1).val; omega
  | ⟨2, _⟩ =>
    show ((cfgM m hO).win 6).index t (2 : Fin 3) * 352 + 1 * (y 2).val = (y 2).val
    rw [e]; show 0 * 352 + 1 * (y 2).val = (y 2).val; omega
theorem emb7 (t : Fin (cfgM m hO).N) (y : S1x128x352.Idx) : (((cfgM m hO).win 7).blk t).view.emb y = ent m hO t y := by
  have e := idx7 m hO t
  have h0 : (y 0).val = 0 := Nat.lt_one_iff.1 (y 0).isLt
  refine funext fun a => Fin.ext ?_
  match a with
  | ⟨0, _⟩ =>
    show ((cfgM m hO).win 7).index t (0 : Fin 3) * 1 + 1 * (y 0).val = 0
    rw [e]; show 0 * 1 + 1 * (y 0).val = 0; omega
  | ⟨1, _⟩ =>
    show ((cfgM m hO).win 7).index t (1 : Fin 3) * 128 + 1 * (y 1).val = 128 * t.val + (y 1).val
    rw [e]; show t.val * 128 + 1 * (y 1).val = 128 * t.val + (y 1).val; omega
  | ⟨2, _⟩ =>
    show ((cfgM m hO).win 7).index t (2 : Fin 3) * 352 + 1 * (y 2).val = (y 2).val
    rw [e]; show 0 * 352 + 1 * (y 2).val = (y 2).val; omega
theorem emb8 (t : Fin (cfgM m hO).N) (y : S1x128x352.Idx) : (((cfgM m hO).win 8).blk t).view.emb y = ent m hO t y := by
  have e := idx8 m hO t
  have h0 : (y 0).val = 0 := Nat.lt_one_iff.1 (y 0).isLt
  refine funext fun a => Fin.ext ?_
  match a with
  | ⟨0, _⟩ =>
    show ((cfgM m hO).win 8).index t (0 : Fin 3) * 1 + 1 * (y 0).val = 0
    rw [e]; show 0 * 1 + 1 * (y 0).val = 0; omega
  | ⟨1, _⟩ =>
    show ((cfgM m hO).win 8).index t (1 : Fin 3) * 128 + 1 * (y 1).val = 128 * t.val + (y 1).val
    rw [e]; show t.val * 128 + 1 * (y 1).val = 128 * t.val + (y 1).val; omega
  | ⟨2, _⟩ =>
    show ((cfgM m hO).win 8).index t (2 : Fin 3) * 352 + 1 * (y 2).val = (y 2).val
    rw [e]; show 0 * 352 + 1 * (y 2).val = (y 2).val; omega
theorem emb9 (t : Fin (cfgM m hO).N) (y : S1x128x352.Idx) : (((cfgM m hO).win 9).blk t).view.emb y = ent m hO t y := by
  have e := idx9 m hO t
  have h0 : (y 0).val = 0 := Nat.lt_one_iff.1 (y 0).isLt
  refine funext fun a => Fin.ext ?_
  match a with
  | ⟨0, _⟩ =>
    show ((cfgM m hO).win 9).index t (0 : Fin 3) * 1 + 1 * (y 0).val = 0
    rw [e]; show 0 * 1 + 1 * (y 0).val = 0; omega
  | ⟨1, _⟩ =>
    show ((cfgM m hO).win 9).index t (1 : Fin 3) * 128 + 1 * (y 1).val = 128 * t.val + (y 1).val
    rw [e]; show t.val * 128 + 1 * (y 1).val = 128 * t.val + (y 1).val; omega
  | ⟨2, _⟩ =>
    show ((cfgM m hO).win 9).index t (2 : Fin 3) * 352 + 1 * (y 2).val = (y 2).val
    rw [e]; show 0 * 352 + 1 * (y 2).val = (y 2).val; omega
theorem emb10 (t : Fin (cfgM m hO).N) (y : S1x128x352.Idx) : (((cfgM m hO).win 10).blk t).view.emb y = ent m hO t y := by
  have e := idx10 m hO t
  have h0 : (y 0).val = 0 := Nat.lt_one_iff.1 (y 0).isLt
  refine funext fun a => Fin.ext ?_
  match a with
  | ⟨0, _⟩ =>
    show ((cfgM m hO).win 10).index t (0 : Fin 3) * 1 + 1 * (y 0).val = 0
    rw [e]; show 0 * 1 + 1 * (y 0).val = 0; omega
  | ⟨1, _⟩ =>
    show ((cfgM m hO).win 10).index t (1 : Fin 3) * 128 + 1 * (y 1).val = 128 * t.val + (y 1).val
    rw [e]; show t.val * 128 + 1 * (y 1).val = 128 * t.val + (y 1).val; omega
  | ⟨2, _⟩ =>
    show ((cfgM m hO).win 10).index t (2 : Fin 3) * 352 + 1 * (y 2).val = (y 2).val
    rw [e]; show 0 * 352 + 1 * (y 2).val = (y 2).val; omega
theorem emb11 (t : Fin (cfgM m hO).N) (y : S1x128x352.Idx) : (((cfgM m hO).win 11).blk t).view.emb y = ent m hO t y := by
  have e := idx11 m hO t
  have h0 : (y 0).val = 0 := Nat.lt_one_iff.1 (y 0).isLt
  refine funext fun a => Fin.ext ?_
  match a with
  | ⟨0, _⟩ =>
    show ((cfgM m hO).win 11).index t (0 : Fin 3) * 1 + 1 * (y 0).val = 0
    rw [e]; show 0 * 1 + 1 * (y 0).val = 0; omega
  | ⟨1, _⟩ =>
    show ((cfgM m hO).win 11).index t (1 : Fin 3) * 128 + 1 * (y 1).val = 128 * t.val + (y 1).val
    rw [e]; show t.val * 128 + 1 * (y 1).val = 128 * t.val + (y 1).val; omega
  | ⟨2, _⟩ =>
    show ((cfgM m hO).win 11).index t (2 : Fin 3) * 352 + 1 * (y 2).val = (y 2).val
    rw [e]; show 0 * 352 + 1 * (y 2).val = (y 2).val; omega
theorem emb12 (t : Fin (cfgM m hO).N) (y : S1x128x352.Idx) : (((cfgM m hO).win 12).blk t).view.emb y = ent m hO t y := by
  have e := idx12 m hO t
  have h0 : (y 0).val = 0 := Nat.lt_one_iff.1 (y 0).isLt
  refine funext fun a => Fin.ext ?_
  match a with
  | ⟨0, _⟩ =>
    show ((cfgM m hO).win 12).index t (0 : Fin 3) * 1 + 1 * (y 0).val = 0
    rw [e]; show 0 * 1 + 1 * (y 0).val = 0; omega
  | ⟨1, _⟩ =>
    show ((cfgM m hO).win 12).index t (1 : Fin 3) * 128 + 1 * (y 1).val = 128 * t.val + (y 1).val
    rw [e]; show t.val * 128 + 1 * (y 1).val = 128 * t.val + (y 1).val; omega
  | ⟨2, _⟩ =>
    show ((cfgM m hO).win 12).index t (2 : Fin 3) * 352 + 1 * (y 2).val = (y 2).val
    rw [e]; show 0 * 352 + 1 * (y 2).val = (y 2).val; omega
theorem emb13 (t : Fin (cfgM m hO).N) (y : S1x128x352.Idx) : (((cfgM m hO).win 13).blk t).view.emb y = ent m hO t y := by
  have e := idx13 m hO t
  have h0 : (y 0).val = 0 := Nat.lt_one_iff.1 (y 0).isLt
  refine funext fun a => Fin.ext ?_
  match a with
  | ⟨0, _⟩ =>
    show ((cfgM m hO).win 13).index t (0 : Fin 3) * 1 + 1 * (y 0).val = 0
    rw [e]; show 0 * 1 + 1 * (y 0).val = 0; omega
  | ⟨1, _⟩ =>
    show ((cfgM m hO).win 13).index t (1 : Fin 3) * 128 + 1 * (y 1).val = 128 * t.val + (y 1).val
    rw [e]; show t.val * 128 + 1 * (y 1).val = 128 * t.val + (y 1).val; omega
  | ⟨2, _⟩ =>
    show ((cfgM m hO).win 13).index t (2 : Fin 3) * 352 + 1 * (y 2).val = (y 2).val
    rw [e]; show 0 * 352 + 1 * (y 2).val = (y 2).val; omega
theorem emb14 (t : Fin (cfgM m hO).N) (y : S1x128x352.Idx) : (((cfgM m hO).win 14).blk t).view.emb y = ent m hO t y := by
  have e := idx14 m hO t
  have h0 : (y 0).val = 0 := Nat.lt_one_iff.1 (y 0).isLt
  refine funext fun a => Fin.ext ?_
  match a with
  | ⟨0, _⟩ =>
    show ((cfgM m hO).win 14).index t (0 : Fin 3) * 1 + 1 * (y 0).val = 0
    rw [e]; show 0 * 1 + 1 * (y 0).val = 0; omega
  | ⟨1, _⟩ =>
    show ((cfgM m hO).win 14).index t (1 : Fin 3) * 128 + 1 * (y 1).val = 128 * t.val + (y 1).val
    rw [e]; show t.val * 128 + 1 * (y 1).val = 128 * t.val + (y 1).val; omega
  | ⟨2, _⟩ =>
    show ((cfgM m hO).win 14).index t (2 : Fin 3) * 352 + 1 * (y 2).val = (y 2).val
    rw [e]; show 0 * 352 + 1 * (y 2).val = (y 2).val; omega
theorem emb15 (t : Fin (cfgM m hO).N) (y : S1x128x352.Idx) : (((cfgM m hO).win 15).blk t).view.emb y = ent m hO t y := by
  have e := idx15 m hO t
  have h0 : (y 0).val = 0 := Nat.lt_one_iff.1 (y 0).isLt
  refine funext fun a => Fin.ext ?_
  match a with
  | ⟨0, _⟩ =>
    show ((cfgM m hO).win 15).index t (0 : Fin 3) * 1 + 1 * (y 0).val = 0
    rw [e]; show 0 * 1 + 1 * (y 0).val = 0; omega
  | ⟨1, _⟩ =>
    show ((cfgM m hO).win 15).index t (1 : Fin 3) * 128 + 1 * (y 1).val = 128 * t.val + (y 1).val
    rw [e]; show t.val * 128 + 1 * (y 1).val = 128 * t.val + (y 1).val; omega
  | ⟨2, _⟩ =>
    show ((cfgM m hO).win 15).index t (2 : Fin 3) * 352 + 1 * (y 2).val = (y 2).val
    rw [e]; show 0 * 352 + 1 * (y 2).val = (y 2).val; omega
theorem rd2 (t : Fin (cfgM m hO).N) (y : S1x128x352.Idx) :
    (iblk m hO c 2 t : Vec Ideal S1x128x352 .f32) y = (m ((c : Thread nD τ).loc main_arg4) : Vec Ideal S2x1024x352 .f32) (ent m hO t y) := by
  show (V m c main_arg4 : Vec Ideal S2x1024x352 .f32) ((((cfgM m hO).win 2).blk t).view.emb y) = _
  rw [V_main_arg4]
  exact congrArg (m ((c : Thread nD τ).loc main_arg4) : Vec Ideal S2x1024x352 .f32) (emb2 m hO t y)
theorem rd3 (t : Fin (cfgM m hO).N) (y : S1x128x352.Idx) :
    (iblk m hO c 3 t : Vec Ideal S1x128x352 .f32) y = (m ((c : Thread nD τ).loc main_arg5) : Vec Ideal S2x1024x352 .f32) (ent m hO t y) := by
  show (V m c main_arg5 : Vec Ideal S2x1024x352 .f32) ((((cfgM m hO).win 3).blk t).view.emb y) = _
  rw [V_main_arg5]
  exact congrArg (m ((c : Thread nD τ).loc main_arg5) : Vec Ideal S2x1024x352 .f32) (emb3 m hO t y)
theorem rd4 (t : Fin (cfgM m hO).N) (y : S1x128x352.Idx) :
    (iblk m hO c 4 t : Vec Ideal S1x128x352 .f32) y = (m ((c : Thread nD τ).loc main_arg6) : Vec Ideal S2x1024x352 .f32) (ent m hO t y) := by
  show (V m c main_arg6 : Vec Ideal S2x1024x352 .f32) ((((cfgM m hO).win 4).blk t).view.emb y) = _
  rw [V_main_arg6]
  exact congrArg (m ((c : Thread nD τ).loc main_arg6) : Vec Ideal S2x1024x352 .f32) (emb4 m hO t y)
theorem rd5 (t : Fin (cfgM m hO).N) (y : S1x128x352.Idx) :
    (iblk m hO c 5 t : Vec Ideal S1x128x352 .f32) y = (m ((c : Thread nD τ).loc main_arg7) : Vec Ideal S2x1024x352 .f32) (ent m hO t y) := by
  show (V m c main_arg7 : Vec Ideal S2x1024x352 .f32) ((((cfgM m hO).win 5).blk t).view.emb y) = _
  rw [V_main_arg7]
  exact congrArg (m ((c : Thread nD τ).loc main_arg7) : Vec Ideal S2x1024x352 .f32) (emb5 m hO t y)
theorem rd6 (t : Fin (cfgM m hO).N) (y : S1x128x352.Idx) :
    (iblk m hO c 6 t : Vec Ideal S1x128x352 .f32) y = (m ((c : Thread nD τ).loc main_arg8) : Vec Ideal S2x1024x352 .f32) (ent m hO t y) := by
  show (V m c main_arg8 : Vec Ideal S2x1024x352 .f32) ((((cfgM m hO).win 6).blk t).view.emb y) = _
  rw [V_main_arg8]
  exact congrArg (m ((c : Thread nD τ).loc main_arg8) : Vec Ideal S2x1024x352 .f32) (emb6 m hO t y)
theorem rd7 (t : Fin (cfgM m hO).N) (y : S1x128x352.Idx) :
    (iblk m hO c 7 t : Vec Ideal S1x128x352 .f32) y = (m ((c : Thread nD τ).loc main_arg9) : Vec Ideal S2x1024x352 .f32) (ent m hO t y) := by
  show (V m c main_arg9 : Vec Ideal S2x1024x352 .f32) ((((cfgM m hO).win 7).blk t).view.emb y) = _
  rw [V_main_arg9]
  exact congrArg (m ((c : Thread nD τ).loc main_arg9) : Vec Ideal S2x1024x352 .f32) (emb7 m hO t y)

theorem total_eq (k : Fin 4) (hk : (chipOf m).toNat = k) (t : Fin (cfgM m hO).N) (p : Fin 128) (n : ℕ) :
    total (iblk m hO c 0 t) (iblk m hO c 1 t) p n = chips k (m ((c : Thread nD τ).loc main_arg2)) (m ((c : Thread nD τ).loc main_arg3)) (row m hO t p) n := by
  unfold total chips
  rw [rd0 m hO c k hk t, rd1, rd1, rd1]

/-- A block's gradient is the array's. -/
theorem grad_eq (b : ℕ) (s : Fin 128) (k : Fin 4) (hk : (chipOf m).toNat = k) (t : Fin (cfgM m hO).N) (y : S1x128x352.Idx) :
    grad b s (iblk m hO c 0 t) (iblk m hO c 1 t) y
      = gradA b s k (m ((c : Thread nD τ).loc main_arg2)) (m ((c : Thread nD τ).loc main_arg3)) (ent m hO t y) := by
  exact total_eq m hO c k hk t (y 1) _

/-- The lane that the body reads is the table's. -/
theorem shift_eq (s : Fin 128) (hs : (lane (m (((0 : Dev nD).tc : Thread nD τ).loc main_arg0) : IVec S8 32)).toNat = s) :
    kernelRun0_A.sl.r (F := Ideal) c (tbl m 0) = BitVec.ofNat 32 s := by
  refine Eq.trans (b := lane (m (((0 : Dev nD).tc : Thread nD τ).loc main_arg0) : IVec S8 32)) ?_ ?_
  · refine congrArg (m (((0 : Dev nD).tc : Thread nD τ).loc main_arg0) : IVec S8 32) (funext fun a => Fin.ext ?_)
    match a with
    | ⟨0, _⟩ => rfl
  · refine BitVec.eq_of_toNat_eq (hs.trans ?_)
    rw [BitVec.toNat_ofNat]; omega

theorem outs8 (t : Fin (cfgM m hO).N) : (outsAt0 m hO c t).1 = out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (iblk m hO c 0 t) (iblk m hO c 1 t) (iblk m hO c 2 t) (iblk m hO c 3 t) (iblk m hO c 4 t) (iblk m hO c 5 t) (iblk m hO c 6 t) (iblk m hO c 7 t) (tbl m 0) (tbl m 1) := by
  dsimp only [outsAt0]

theorem cover8 : ((cfgM m hO).win 8).CoversWhere (fun β => β (0 : Fin 3) = 0) := by
  refine ⟨fun a => ?_, fun t _ => ⟨?_, fun a => ((cfgM m hO).win 8).xsize_eq_or_end rfl _ a⟩, fun β hβ => ?_⟩
  · match a with
    | ⟨0, _⟩ => exact (by decide : 0 < 1)
    | ⟨1, _⟩ => exact (by decide : 0 < 128)
    | ⟨2, _⟩ => exact (by decide : 0 < 352)
  · exact congrFun (idx8 m hO t) (0 : Fin 3)
  · refine ⟨(⟨(β (1 : Fin 3)).val, lt_of_lt_of_eq (β (1 : Fin 3)).isLt (by decide : (1024 + 128 - 1) / 128 = grid0.N)⟩ : Fin grid0.N), fun a => ?_, flush0_8 (adm m hO) _⟩
    refine (congrFun (idx8 m hO _) a).trans ?_
    match a with
    | ⟨0, _⟩ => exact hβ.symm
    | ⟨1, _⟩ => rfl
    | ⟨2, h⟩ => exact (Nat.lt_one_iff.1 (lt_of_lt_of_eq (β ⟨2, h⟩).isLt (by decide : (352 + 352 - 1) / 352 = 1))).symm

theorem arr8 (s : Fin 128) (hs : (lane (m (((0 : Dev nD).tc : Thread nD τ).loc main_arg0) : IVec S8 32)).toNat = s) (k : Fin 4) (hk : (chipOf m).toNat = k) :
    (dats m hO 0 c).arrAt 8 (cfgM m hO).N = layers (gradA 0 s k (m ((c : Thread nD τ).loc main_arg2)) (m ((c : Thread nD τ).loc main_arg3))) (m ((c : Thread nD τ).loc main_arg10)) := by
  refine (dats m hO 0 c).arrAt_eq_of_coversWhere_of_agree 8 _ (fun β => β (0 : Fin 3) = 0) (cover8 m hO) (fun t hf y => ?_) (fun j hj => ?_)
  · refine Eq.trans ?_ (congrArg (layers (gradA 0 s k (m ((c : Thread nD τ).loc main_arg2)) (m ((c : Thread nD τ).loc main_arg3))) (m ((c : Thread nD τ).loc main_arg10))) (emb8 m hO t y).symm)
    refine Eq.trans ?_ (if_pos rfl).symm
    refine (congrFun ((after0_8 m hO c t).trans (outs8 m hO c t)) y).trans ?_
    refine (written_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (iblk m hO c 0 t) (iblk m hO c 1 t) (iblk m hO c 2 t) (iblk m hO c 3 t) (iblk m hO c 4 t) (iblk m hO c 5 t) (iblk m hO c 6 t) (iblk m hO c 7 t) (tbl m 0) (tbl m 1) s (shift_eq m c s hs) y).trans ?_
    exact grad_eq m hO c _ s k hk t y
  · have hV : (m ((c : Thread nD τ).loc main_arg10) : Vec Ideal S2x1024x352 .f32) = V m c main_v0_0 := by unfold V; after_results; try rfl
    refine Eq.trans ?_ (if_neg (fun h => hj ?_)).symm
    · rw [A_eq m hO c 8, hV]; rfl
    · exact (Nat.div_one _).trans h

theorem outs9 (t : Fin (cfgM m hO).N) : (outsAt0 m hO c t).2.1 = out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (iblk m hO c 0 t) (iblk m hO c 1 t) (iblk m hO c 2 t) (iblk m hO c 3 t) (iblk m hO c 4 t) (iblk m hO c 5 t) (iblk m hO c 6 t) (iblk m hO c 7 t) (tbl m 0) (tbl m 1) := by
  dsimp only [outsAt0]

theorem cover9 : ((cfgM m hO).win 9).CoversWhere (fun β => β (0 : Fin 3) = 0) := by
  refine ⟨fun a => ?_, fun t _ => ⟨?_, fun a => ((cfgM m hO).win 9).xsize_eq_or_end rfl _ a⟩, fun β hβ => ?_⟩
  · match a with
    | ⟨0, _⟩ => exact (by decide : 0 < 1)
    | ⟨1, _⟩ => exact (by decide : 0 < 128)
    | ⟨2, _⟩ => exact (by decide : 0 < 352)
  · exact congrFun (idx9 m hO t) (0 : Fin 3)
  · refine ⟨(⟨(β (1 : Fin 3)).val, lt_of_lt_of_eq (β (1 : Fin 3)).isLt (by decide : (1024 + 128 - 1) / 128 = grid0.N)⟩ : Fin grid0.N), fun a => ?_, flush0_9 (adm m hO) _⟩
    refine (congrFun (idx9 m hO _) a).trans ?_
    match a with
    | ⟨0, _⟩ => exact hβ.symm
    | ⟨1, _⟩ => rfl
    | ⟨2, h⟩ => exact (Nat.lt_one_iff.1 (lt_of_lt_of_eq (β ⟨2, h⟩).isLt (by decide : (352 + 352 - 1) / 352 = 1))).symm

theorem arr9 (s : Fin 128) (hs : (lane (m (((0 : Dev nD).tc : Thread nD τ).loc main_arg0) : IVec S8 32)).toNat = s) (k : Fin 4) (hk : (chipOf m).toNat = k) :
    (dats m hO 0 c).arrAt 9 (cfgM m hO).N = layers (deltaA (m ((c : Thread nD τ).loc main_arg4)) (gradA 0 s k (m ((c : Thread nD τ).loc main_arg2)) (m ((c : Thread nD τ).loc main_arg3))) (m ((c : Thread nD τ).loc main_arg5)) (m ((c : Thread nD τ).loc main_arg6))) (m ((c : Thread nD τ).loc main_arg11)) := by
  refine (dats m hO 0 c).arrAt_eq_of_coversWhere_of_agree 9 _ (fun β => β (0 : Fin 3) = 0) (cover9 m hO) (fun t hf y => ?_) (fun j hj => ?_)
  · refine Eq.trans ?_ (congrArg (layers (deltaA (m ((c : Thread nD τ).loc main_arg4)) (gradA 0 s k (m ((c : Thread nD τ).loc main_arg2)) (m ((c : Thread nD τ).loc main_arg3))) (m ((c : Thread nD τ).loc main_arg5)) (m ((c : Thread nD τ).loc main_arg6))) (m ((c : Thread nD τ).loc main_arg11))) (emb9 m hO t y).symm)
    refine Eq.trans ?_ (if_pos rfl).symm
    refine (congrFun ((after0_9 m hO c t).trans (outs9 m hO c t)) y).trans ?_
    refine (written_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (iblk m hO c 0 t) (iblk m hO c 1 t) (iblk m hO c 2 t) (iblk m hO c 3 t) (iblk m hO c 4 t) (iblk m hO c 5 t) (iblk m hO c 6 t) (iblk m hO c 7 t) (tbl m 0) (tbl m 1) s (shift_eq m c s hs) y).trans ?_
    show delta _ _ _ _ = delta _ _ _ _
    rw [rd2 m hO c t y, rd3 m hO c t y, rd4 m hO c t y, grad_eq m hO c _ s k hk t y]
  · have hV : (m ((c : Thread nD τ).loc main_arg11) : Vec Ideal S2x1024x352 .f32) = V m c main_v0_1 := by unfold V; after_results; try rfl
    refine Eq.trans ?_ (if_neg (fun h => hj ?_)).symm
    · rw [A_eq m hO c 9, hV]; rfl
    · exact (Nat.div_one _).trans h

theorem outs10 (t : Fin (cfgM m hO).N) : (outsAt0 m hO c t).2.2.1 = out0_A_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (iblk m hO c 0 t) (iblk m hO c 1 t) (iblk m hO c 2 t) (iblk m hO c 3 t) (iblk m hO c 4 t) (iblk m hO c 5 t) (iblk m hO c 6 t) (iblk m hO c 7 t) (tbl m 0) (tbl m 1) := by
  dsimp only [outsAt0]

theorem cover10 : ((cfgM m hO).win 10).CoversWhere (fun β => β (0 : Fin 3) = 0) := by
  refine ⟨fun a => ?_, fun t _ => ⟨?_, fun a => ((cfgM m hO).win 10).xsize_eq_or_end rfl _ a⟩, fun β hβ => ?_⟩
  · match a with
    | ⟨0, _⟩ => exact (by decide : 0 < 1)
    | ⟨1, _⟩ => exact (by decide : 0 < 128)
    | ⟨2, _⟩ => exact (by decide : 0 < 352)
  · exact congrFun (idx10 m hO t) (0 : Fin 3)
  · refine ⟨(⟨(β (1 : Fin 3)).val, lt_of_lt_of_eq (β (1 : Fin 3)).isLt (by decide : (1024 + 128 - 1) / 128 = grid0.N)⟩ : Fin grid0.N), fun a => ?_, flush0_10 (adm m hO) _⟩
    refine (congrFun (idx10 m hO _) a).trans ?_
    match a with
    | ⟨0, _⟩ => exact hβ.symm
    | ⟨1, _⟩ => rfl
    | ⟨2, h⟩ => exact (Nat.lt_one_iff.1 (lt_of_lt_of_eq (β ⟨2, h⟩).isLt (by decide : (352 + 352 - 1) / 352 = 1))).symm

theorem arr10 (s : Fin 128) (hs : (lane (m (((0 : Dev nD).tc : Thread nD τ).loc main_arg0) : IVec S8 32)).toNat = s) (k : Fin 4) (hk : (chipOf m).toNat = k) :
    (dats m hO 0 c).arrAt 10 (cfgM m hO).N = layers (firstA (m ((c : Thread nD τ).loc main_arg5)) (gradA 0 s k (m ((c : Thread nD τ).loc main_arg2)) (m ((c : Thread nD τ).loc main_arg3)))) (m ((c : Thread nD τ).loc main_arg12)) := by
  refine (dats m hO 0 c).arrAt_eq_of_coversWhere_of_agree 10 _ (fun β => β (0 : Fin 3) = 0) (cover10 m hO) (fun t hf y => ?_) (fun j hj => ?_)
  · refine Eq.trans ?_ (congrArg (layers (firstA (m ((c : Thread nD τ).loc main_arg5)) (gradA 0 s k (m ((c : Thread nD τ).loc main_arg2)) (m ((c : Thread nD τ).loc main_arg3)))) (m ((c : Thread nD τ).loc main_arg12))) (emb10 m hO t y).symm)
    refine Eq.trans ?_ (if_pos rfl).symm
    refine (congrFun ((after0_10 m hO c t).trans (outs10 m hO c t)) y).trans ?_
    refine (written_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (iblk m hO c 0 t) (iblk m hO c 1 t) (iblk m hO c 2 t) (iblk m hO c 3 t) (iblk m hO c 4 t) (iblk m hO c 5 t) (iblk m hO c 6 t) (iblk m hO c 7 t) (tbl m 0) (tbl m 1) s (shift_eq m c s hs) y).trans ?_
    show first _ _ = first _ _
    rw [rd3 m hO c t y, grad_eq m hO c _ s k hk t y]
  · have hV : (m ((c : Thread nD τ).loc main_arg12) : Vec Ideal S2x1024x352 .f32) = V m c main_v0_2 := by unfold V; after_results; try rfl
    refine Eq.trans ?_ (if_neg (fun h => hj ?_)).symm
    · rw [A_eq m hO c 10, hV]; rfl
    · exact (Nat.div_one _).trans h

theorem outs11 (t : Fin (cfgM m hO).N) : (outsAt0 m hO c t).2.2.2.1 = out0_A_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (iblk m hO c 0 t) (iblk m hO c 1 t) (iblk m hO c 2 t) (iblk m hO c 3 t) (iblk m hO c 4 t) (iblk m hO c 5 t) (iblk m hO c 6 t) (iblk m hO c 7 t) (tbl m 0) (tbl m 1) := by
  dsimp only [outsAt0]

theorem cover11 : ((cfgM m hO).win 11).CoversWhere (fun β => β (0 : Fin 3) = 0) := by
  refine ⟨fun a => ?_, fun t _ => ⟨?_, fun a => ((cfgM m hO).win 11).xsize_eq_or_end rfl _ a⟩, fun β hβ => ?_⟩
  · match a with
    | ⟨0, _⟩ => exact (by decide : 0 < 1)
    | ⟨1, _⟩ => exact (by decide : 0 < 128)
    | ⟨2, _⟩ => exact (by decide : 0 < 352)
  · exact congrFun (idx11 m hO t) (0 : Fin 3)
  · refine ⟨(⟨(β (1 : Fin 3)).val, lt_of_lt_of_eq (β (1 : Fin 3)).isLt (by decide : (1024 + 128 - 1) / 128 = grid0.N)⟩ : Fin grid0.N), fun a => ?_, flush0_11 (adm m hO) _⟩
    refine (congrFun (idx11 m hO _) a).trans ?_
    match a with
    | ⟨0, _⟩ => exact hβ.symm
    | ⟨1, _⟩ => rfl
    | ⟨2, h⟩ => exact (Nat.lt_one_iff.1 (lt_of_lt_of_eq (β ⟨2, h⟩).isLt (by decide : (352 + 352 - 1) / 352 = 1))).symm

theorem arr11 (s : Fin 128) (hs : (lane (m (((0 : Dev nD).tc : Thread nD τ).loc main_arg0) : IVec S8 32)).toNat = s) (k : Fin 4) (hk : (chipOf m).toNat = k) :
    (dats m hO 0 c).arrAt 11 (cfgM m hO).N = layers (secondA (m ((c : Thread nD τ).loc main_arg6)) (gradA 0 s k (m ((c : Thread nD τ).loc main_arg2)) (m ((c : Thread nD τ).loc main_arg3)))) (m ((c : Thread nD τ).loc main_arg13)) := by
  refine (dats m hO 0 c).arrAt_eq_of_coversWhere_of_agree 11 _ (fun β => β (0 : Fin 3) = 0) (cover11 m hO) (fun t hf y => ?_) (fun j hj => ?_)
  · refine Eq.trans ?_ (congrArg (layers (secondA (m ((c : Thread nD τ).loc main_arg6)) (gradA 0 s k (m ((c : Thread nD τ).loc main_arg2)) (m ((c : Thread nD τ).loc main_arg3)))) (m ((c : Thread nD τ).loc main_arg13))) (emb11 m hO t y).symm)
    refine Eq.trans ?_ (if_pos rfl).symm
    refine (congrFun ((after0_11 m hO c t).trans (outs11 m hO c t)) y).trans ?_
    refine (written_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (iblk m hO c 0 t) (iblk m hO c 1 t) (iblk m hO c 2 t) (iblk m hO c 3 t) (iblk m hO c 4 t) (iblk m hO c 5 t) (iblk m hO c 6 t) (iblk m hO c 7 t) (tbl m 0) (tbl m 1) s (shift_eq m c s hs) y).trans ?_
    show second _ _ = second _ _
    rw [rd4 m hO c t y, grad_eq m hO c _ s k hk t y]
  · have hV : (m ((c : Thread nD τ).loc main_arg13) : Vec Ideal S2x1024x352 .f32) = V m c main_v0_3 := by unfold V; after_results; try rfl
    refine Eq.trans ?_ (if_neg (fun h => hj ?_)).symm
    · rw [A_eq m hO c 11, hV]; rfl
    · exact (Nat.div_one _).trans h

theorem outs12 (t : Fin (cfgM m hO).N) : (outsAt0 m hO c t).2.2.2.2.1 = out0_A_12 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (iblk m hO c 0 t) (iblk m hO c 1 t) (iblk m hO c 2 t) (iblk m hO c 3 t) (iblk m hO c 4 t) (iblk m hO c 5 t) (iblk m hO c 6 t) (iblk m hO c 7 t) (tbl m 0) (tbl m 1) := by
  dsimp only [outsAt0]

theorem cover12 : ((cfgM m hO).win 12).CoversWhere (fun β => β (0 : Fin 3) = 0) := by
  refine ⟨fun a => ?_, fun t _ => ⟨?_, fun a => ((cfgM m hO).win 12).xsize_eq_or_end rfl _ a⟩, fun β hβ => ?_⟩
  · match a with
    | ⟨0, _⟩ => exact (by decide : 0 < 1)
    | ⟨1, _⟩ => exact (by decide : 0 < 128)
    | ⟨2, _⟩ => exact (by decide : 0 < 352)
  · exact congrFun (idx12 m hO t) (0 : Fin 3)
  · refine ⟨(⟨(β (1 : Fin 3)).val, lt_of_lt_of_eq (β (1 : Fin 3)).isLt (by decide : (1024 + 128 - 1) / 128 = grid0.N)⟩ : Fin grid0.N), fun a => ?_, flush0_12 (adm m hO) _⟩
    refine (congrFun (idx12 m hO _) a).trans ?_
    match a with
    | ⟨0, _⟩ => exact hβ.symm
    | ⟨1, _⟩ => rfl
    | ⟨2, h⟩ => exact (Nat.lt_one_iff.1 (lt_of_lt_of_eq (β ⟨2, h⟩).isLt (by decide : (352 + 352 - 1) / 352 = 1))).symm

theorem arr12 (s : Fin 128) (hs : (lane (m (((0 : Dev nD).tc : Thread nD τ).loc main_arg0) : IVec S8 32)).toNat = s) (k : Fin 4) (hk : (chipOf m).toNat = k) :
    (dats m hO 0 c).arrAt 12 (cfgM m hO).N = layers (gradA 512 s k (m ((c : Thread nD τ).loc main_arg2)) (m ((c : Thread nD τ).loc main_arg3))) (m ((c : Thread nD τ).loc main_arg14)) := by
  refine (dats m hO 0 c).arrAt_eq_of_coversWhere_of_agree 12 _ (fun β => β (0 : Fin 3) = 0) (cover12 m hO) (fun t hf y => ?_) (fun j hj => ?_)
  · refine Eq.trans ?_ (congrArg (layers (gradA 512 s k (m ((c : Thread nD τ).loc main_arg2)) (m ((c : Thread nD τ).loc main_arg3))) (m ((c : Thread nD τ).loc main_arg14))) (emb12 m hO t y).symm)
    refine Eq.trans ?_ (if_pos rfl).symm
    refine (congrFun ((after0_12 m hO c t).trans (outs12 m hO c t)) y).trans ?_
    refine (written_12 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (iblk m hO c 0 t) (iblk m hO c 1 t) (iblk m hO c 2 t) (iblk m hO c 3 t) (iblk m hO c 4 t) (iblk m hO c 5 t) (iblk m hO c 6 t) (iblk m hO c 7 t) (tbl m 0) (tbl m 1) s (shift_eq m c s hs) y).trans ?_
    exact grad_eq m hO c _ s k hk t y
  · have hV : (m ((c : Thread nD τ).loc main_arg14) : Vec Ideal S2x1024x352 .f32) = V m c main_v0_4 := by unfold V; after_results; try rfl
    refine Eq.trans ?_ (if_neg (fun h => hj ?_)).symm
    · rw [A_eq m hO c 12, hV]; rfl
    · exact (Nat.div_one _).trans h

theorem outs13 (t : Fin (cfgM m hO).N) : (outsAt0 m hO c t).2.2.2.2.2.1 = out0_A_13 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (iblk m hO c 0 t) (iblk m hO c 1 t) (iblk m hO c 2 t) (iblk m hO c 3 t) (iblk m hO c 4 t) (iblk m hO c 5 t) (iblk m hO c 6 t) (iblk m hO c 7 t) (tbl m 0) (tbl m 1) := by
  dsimp only [outsAt0]

theorem cover13 : ((cfgM m hO).win 13).CoversWhere (fun β => β (0 : Fin 3) = 0) := by
  refine ⟨fun a => ?_, fun t _ => ⟨?_, fun a => ((cfgM m hO).win 13).xsize_eq_or_end rfl _ a⟩, fun β hβ => ?_⟩
  · match a with
    | ⟨0, _⟩ => exact (by decide : 0 < 1)
    | ⟨1, _⟩ => exact (by decide : 0 < 128)
    | ⟨2, _⟩ => exact (by decide : 0 < 352)
  · exact congrFun (idx13 m hO t) (0 : Fin 3)
  · refine ⟨(⟨(β (1 : Fin 3)).val, lt_of_lt_of_eq (β (1 : Fin 3)).isLt (by decide : (1024 + 128 - 1) / 128 = grid0.N)⟩ : Fin grid0.N), fun a => ?_, flush0_13 (adm m hO) _⟩
    refine (congrFun (idx13 m hO _) a).trans ?_
    match a with
    | ⟨0, _⟩ => exact hβ.symm
    | ⟨1, _⟩ => rfl
    | ⟨2, h⟩ => exact (Nat.lt_one_iff.1 (lt_of_lt_of_eq (β ⟨2, h⟩).isLt (by decide : (352 + 352 - 1) / 352 = 1))).symm

theorem arr13 (s : Fin 128) (hs : (lane (m (((0 : Dev nD).tc : Thread nD τ).loc main_arg0) : IVec S8 32)).toNat = s) (k : Fin 4) (hk : (chipOf m).toNat = k) :
    (dats m hO 0 c).arrAt 13 (cfgM m hO).N = layers (deltaA (m ((c : Thread nD τ).loc main_arg7)) (gradA 512 s k (m ((c : Thread nD τ).loc main_arg2)) (m ((c : Thread nD τ).loc main_arg3))) (m ((c : Thread nD τ).loc main_arg8)) (m ((c : Thread nD τ).loc main_arg9))) (m ((c : Thread nD τ).loc main_arg15)) := by
  refine (dats m hO 0 c).arrAt_eq_of_coversWhere_of_agree 13 _ (fun β => β (0 : Fin 3) = 0) (cover13 m hO) (fun t hf y => ?_) (fun j hj => ?_)
  · refine Eq.trans ?_ (congrArg (layers (deltaA (m ((c : Thread nD τ).loc main_arg7)) (gradA 512 s k (m ((c : Thread nD τ).loc main_arg2)) (m ((c : Thread nD τ).loc main_arg3))) (m ((c : Thread nD τ).loc main_arg8)) (m ((c : Thread nD τ).loc main_arg9))) (m ((c : Thread nD τ).loc main_arg15))) (emb13 m hO t y).symm)
    refine Eq.trans ?_ (if_pos rfl).symm
    refine (congrFun ((after0_13 m hO c t).trans (outs13 m hO c t)) y).trans ?_
    refine (written_13 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (iblk m hO c 0 t) (iblk m hO c 1 t) (iblk m hO c 2 t) (iblk m hO c 3 t) (iblk m hO c 4 t) (iblk m hO c 5 t) (iblk m hO c 6 t) (iblk m hO c 7 t) (tbl m 0) (tbl m 1) s (shift_eq m c s hs) y).trans ?_
    show delta _ _ _ _ = delta _ _ _ _
    rw [rd5 m hO c t y, rd6 m hO c t y, rd7 m hO c t y, grad_eq m hO c _ s k hk t y]
  · have hV : (m ((c : Thread nD τ).loc main_arg15) : Vec Ideal S2x1024x352 .f32) = V m c main_v0_5 := by unfold V; after_results; try rfl
    refine Eq.trans ?_ (if_neg (fun h => hj ?_)).symm
    · rw [A_eq m hO c 13, hV]; rfl
    · exact (Nat.div_one _).trans h

theorem outs14 (t : Fin (cfgM m hO).N) : (outsAt0 m hO c t).2.2.2.2.2.2.1 = out0_A_14 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (iblk m hO c 0 t) (iblk m hO c 1 t) (iblk m hO c 2 t) (iblk m hO c 3 t) (iblk m hO c 4 t) (iblk m hO c 5 t) (iblk m hO c 6 t) (iblk m hO c 7 t) (tbl m 0) (tbl m 1) := by
  dsimp only [outsAt0]

theorem cover14 : ((cfgM m hO).win 14).CoversWhere (fun β => β (0 : Fin 3) = 0) := by
  refine ⟨fun a => ?_, fun t _ => ⟨?_, fun a => ((cfgM m hO).win 14).xsize_eq_or_end rfl _ a⟩, fun β hβ => ?_⟩
  · match a with
    | ⟨0, _⟩ => exact (by decide : 0 < 1)
    | ⟨1, _⟩ => exact (by decide : 0 < 128)
    | ⟨2, _⟩ => exact (by decide : 0 < 352)
  · exact congrFun (idx14 m hO t) (0 : Fin 3)
  · refine ⟨(⟨(β (1 : Fin 3)).val, lt_of_lt_of_eq (β (1 : Fin 3)).isLt (by decide : (1024 + 128 - 1) / 128 = grid0.N)⟩ : Fin grid0.N), fun a => ?_, flush0_14 (adm m hO) _⟩
    refine (congrFun (idx14 m hO _) a).trans ?_
    match a with
    | ⟨0, _⟩ => exact hβ.symm
    | ⟨1, _⟩ => rfl
    | ⟨2, h⟩ => exact (Nat.lt_one_iff.1 (lt_of_lt_of_eq (β ⟨2, h⟩).isLt (by decide : (352 + 352 - 1) / 352 = 1))).symm

theorem arr14 (s : Fin 128) (hs : (lane (m (((0 : Dev nD).tc : Thread nD τ).loc main_arg0) : IVec S8 32)).toNat = s) (k : Fin 4) (hk : (chipOf m).toNat = k) :
    (dats m hO 0 c).arrAt 14 (cfgM m hO).N = layers (firstA (m ((c : Thread nD τ).loc main_arg8)) (gradA 512 s k (m ((c : Thread nD τ).loc main_arg2)) (m ((c : Thread nD τ).loc main_arg3)))) (m ((c : Thread nD τ).loc main_arg16)) := by
  refine (dats m hO 0 c).arrAt_eq_of_coversWhere_of_agree 14 _ (fun β => β (0 : Fin 3) = 0) (cover14 m hO) (fun t hf y => ?_) (fun j hj => ?_)
  · refine Eq.trans ?_ (congrArg (layers (firstA (m ((c : Thread nD τ).loc main_arg8)) (gradA 512 s k (m ((c : Thread nD τ).loc main_arg2)) (m ((c : Thread nD τ).loc main_arg3)))) (m ((c : Thread nD τ).loc main_arg16))) (emb14 m hO t y).symm)
    refine Eq.trans ?_ (if_pos rfl).symm
    refine (congrFun ((after0_14 m hO c t).trans (outs14 m hO c t)) y).trans ?_
    refine (written_14 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (iblk m hO c 0 t) (iblk m hO c 1 t) (iblk m hO c 2 t) (iblk m hO c 3 t) (iblk m hO c 4 t) (iblk m hO c 5 t) (iblk m hO c 6 t) (iblk m hO c 7 t) (tbl m 0) (tbl m 1) s (shift_eq m c s hs) y).trans ?_
    show first _ _ = first _ _
    rw [rd6 m hO c t y, grad_eq m hO c _ s k hk t y]
  · have hV : (m ((c : Thread nD τ).loc main_arg16) : Vec Ideal S2x1024x352 .f32) = V m c main_v0_6 := by unfold V; after_results; try rfl
    refine Eq.trans ?_ (if_neg (fun h => hj ?_)).symm
    · rw [A_eq m hO c 14, hV]; rfl
    · exact (Nat.div_one _).trans h

theorem outs15 (t : Fin (cfgM m hO).N) : (outsAt0 m hO c t).2.2.2.2.2.2.2 = out0_A_15 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (iblk m hO c 0 t) (iblk m hO c 1 t) (iblk m hO c 2 t) (iblk m hO c 3 t) (iblk m hO c 4 t) (iblk m hO c 5 t) (iblk m hO c 6 t) (iblk m hO c 7 t) (tbl m 0) (tbl m 1) := by
  dsimp only [outsAt0]

theorem cover15 : ((cfgM m hO).win 15).CoversWhere (fun β => β (0 : Fin 3) = 0) := by
  refine ⟨fun a => ?_, fun t _ => ⟨?_, fun a => ((cfgM m hO).win 15).xsize_eq_or_end rfl _ a⟩, fun β hβ => ?_⟩
  · match a with
    | ⟨0, _⟩ => exact (by decide : 0 < 1)
    | ⟨1, _⟩ => exact (by decide : 0 < 128)
    | ⟨2, _⟩ => exact (by decide : 0 < 352)
  · exact congrFun (idx15 m hO t) (0 : Fin 3)
  · refine ⟨(⟨(β (1 : Fin 3)).val, lt_of_lt_of_eq (β (1 : Fin 3)).isLt (by decide : (1024 + 128 - 1) / 128 = grid0.N)⟩ : Fin grid0.N), fun a => ?_, flush0_15 (adm m hO) _⟩
    refine (congrFun (idx15 m hO _) a).trans ?_
    match a with
    | ⟨0, _⟩ => exact hβ.symm
    | ⟨1, _⟩ => rfl
    | ⟨2, h⟩ => exact (Nat.lt_one_iff.1 (lt_of_lt_of_eq (β ⟨2, h⟩).isLt (by decide : (352 + 352 - 1) / 352 = 1))).symm

theorem arr15 (s : Fin 128) (hs : (lane (m (((0 : Dev nD).tc : Thread nD τ).loc main_arg0) : IVec S8 32)).toNat = s) (k : Fin 4) (hk : (chipOf m).toNat = k) :
    (dats m hO 0 c).arrAt 15 (cfgM m hO).N = layers (secondA (m ((c : Thread nD τ).loc main_arg9)) (gradA 512 s k (m ((c : Thread nD τ).loc main_arg2)) (m ((c : Thread nD τ).loc main_arg3)))) (m ((c : Thread nD τ).loc main_arg17)) := by
  refine (dats m hO 0 c).arrAt_eq_of_coversWhere_of_agree 15 _ (fun β => β (0 : Fin 3) = 0) (cover15 m hO) (fun t hf y => ?_) (fun j hj => ?_)
  · refine Eq.trans ?_ (congrArg (layers (secondA (m ((c : Thread nD τ).loc main_arg9)) (gradA 512 s k (m ((c : Thread nD τ).loc main_arg2)) (m ((c : Thread nD τ).loc main_arg3)))) (m ((c : Thread nD τ).loc main_arg17))) (emb15 m hO t y).symm)
    refine Eq.trans ?_ (if_pos rfl).symm
    refine (congrFun ((after0_15 m hO c t).trans (outs15 m hO c t)) y).trans ?_
    refine (written_15 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (iblk m hO c 0 t) (iblk m hO c 1 t) (iblk m hO c 2 t) (iblk m hO c 3 t) (iblk m hO c 4 t) (iblk m hO c 5 t) (iblk m hO c 6 t) (iblk m hO c 7 t) (tbl m 0) (tbl m 1) s (shift_eq m c s hs) y).trans ?_
    show second _ _ = second _ _
    rw [rd7 m hO c t y, grad_eq m hO c _ s k hk t y]
  · have hV : (m ((c : Thread nD τ).loc main_arg17) : Vec Ideal S2x1024x352 .f32) = V m c main_v0_7 := by unfold V; after_results; try rfl
    refine Eq.trans ?_ (if_neg (fun h => hj ?_)).symm
    · rw [A_eq m hO c 15, hV]; rfl
    · exact (Nat.div_one _).trans h

end Cert.FinalGuIdeal.Calc

end
-- ==== Proof.FinalGuVal.lean ====
module

public import proofs.«01_k».proof.Proof.FinalGuGlob
public import proofs.«01_k».proof.Proof.Gen.FinalGuReferenceIdeal.Run

@[expose] public section

set_option maxRecDepth 16384

/-! The reference of the gate's and the up projection's columns: a column is the sum over all columns in which every other one is zero, so it is
the entry itself; each result is the first layer's value beside the second layer of what it was given. -/

noncomputable section

open Idealize.ShloMosaic Idealize.ShloMosaic.TcCoe Idealize.SL.Sem Idealize.ShloMosaic.Pipeline

namespace Cert.FinalGuReferenceIdeal.Calc
open Cert.FinalGuReferenceIdeal Cert.FinalGuReferenceIdeal.Gen Cert.FinalGuReferenceIdeal.Value Cert.Pre_chip_in_range.Calc Cert.Pre_final_gu_in_range.Calc Cert.Tile
open Cert.FinalGuIdeal.Calc (chips gradA layers deltaA firstA secondA delta first second)

/-- The chips' gradients, added. -/
theorem chips_at (k : Fin 4) (w : IVec S1 32) (hk : (chip w).toNat = k) (a : Vec Ideal S4x1024x1024 .bf16) (r : Vec Ideal S3x1024x1024 .bf16) (p : Fin 1024) (n : ℕ) :
    (addf (Host.reduceAdd (F := Ideal) (select (broadcastInDim S4x1024x1024 ![0, 1, 2] bcast_S4x1x1_S4x1024x1024_0_1_2 (cmpi .eq (broadcastInDim S4x1x1 ![0] bcast_S4_S4x1x1_0 (iotaInDim S4 32 0)) (broadcastInDim S4x1x1 ![] bcast_S_S4x1x1 (shapeCast _ w shapeCasts_S1_S_)))) (extf .f32 a bitsLt_bf16_f32) (broadcastInDim S4x1024x1024 ![] bcast_S_S4x1024x1024 (id (constant S_ .f32 0x00000000#32)))) (constant S_ .f32 0x00000000#32) reducesTo_S4x1024x1024_S1024x1024_d0 h_S_) (Host.reduceAdd (F := Ideal) (extf .f32 r bitsLt_bf16_f32) (constant S_ .f32 0x00000000#32) reducesTo_S3x1024x1024_S1024x1024_d0 h_S_) : Vec Ideal S1024x1024 .f32) (ix2 p ⟨n % 1024, Nat.mod_lt _ (by decide)⟩)
      = chips k a r p n := by
  unfold chips
  have e : chip w = BitVec.ofNat 32 k := BitVec.eq_of_toNat_eq (hk.trans (by rw [BitVec.toNat_ofNat]; have := k.isLt; omega))
  have hs (x k : Fin 4) (u v : EReal) : Scalar.select (IntOp.cmpi .eq (BitVec.ofNat 32 x) (BitVec.ofNat 32 k)) u v = if x = k then u else v := by
    have hc : IntOp.cmpi .eq (BitVec.ofNat 32 x) (BitVec.ofNat 32 k) = if x = k then 1#1 else 0#1 := by revert x k; decide
    rw [hc]; split <;> rfl
  simp only [id_eq]
  pointwise
  simp only [chip_eq, e, hs, Finset.sum_ite_eq', Finset.mem_univ, if_true, Fin.sum_univ_three, add_assoc]

/-- A column, of the sum in which every other one is zero. -/
theorem column_at (b : ℕ) (hb : b ≤ 512) (s : Fin 128) (prm : IVec S8 32) (hs : (lane prm).toNat = s) (G : Vec Ideal S1024x1024 .f32) (p : Fin 1024) (l : Fin 352) :
    (Host.reduceAdd (F := Ideal) (select (broadcastInDim S1024x1024x352 ![0, 1, 2] bcast_S1x1024x352_S1024x1024x352_0_1_2 (broadcastInDim S1x1024x352 ![1, 2] bcast_S1024x352_S1x1024x352_1_2 (cmpi .eq (broadcastInDim S1024x352 ![0, 1] bcast_S1024x1_S1024x352_0_1 (broadcastInDim S1024x1 ![0] bcast_S1024_S1024x1_0 (iotaInDim S1024 32 0))) (broadcastInDim S1024x352 ![0, 1] bcast_S1x352_S1024x352_0_1 (addi (broadcastInDim S1x352 ![] bcast_S_S1x352 (addi (constantI S_ 32 (BitVec.ofNat 32 b)) (shapeCast _ (extractStridedSlice S1 ![7] prm slices_S8_S1_7) shapeCasts_S1_S_))) (broadcastInDim S1x352 ![1] bcast_S352_S1x352_1 (iotaInDim S352 32 0))))))) (broadcastInDim S1024x1024x352 ![0, 1, 2] bcast_S1024x1024x1_S1024x1024x352_0_1_2 (broadcastInDim S1024x1024x1 ![0, 1] bcast_S1024x1024_S1024x1024x1_0_1 G)) (broadcastInDim S1024x1024x352 ![] bcast_S_S1024x1024x352 (id (constant S_ .f32 0x00000000#32)))) (constant S_ .f32 0x00000000#32) reducesTo_S1024x1024x352_S1024x352_d1 h_S_ : Vec Ideal S1024x352 .f32) (ix2 p l)
      = G (ix2 p ⟨(b + (l : ℕ) + s) % 1024, Nat.mod_lt _ (by decide)⟩) := by
  have hl := l.isLt
  have e : lane prm = BitVec.ofNat 32 s := BitVec.eq_of_toNat_eq (hs.trans (by rw [BitVec.toNat_ofNat]; omega))
  have hc (x : Fin 1024) : IntOp.cmpi .eq (BitVec.ofNat 32 x) (IntOp.addi (IntOp.addi (BitVec.ofNat 32 b) (BitVec.ofNat 32 s)) (BitVec.ofNat 32 l))
      = if x = ⟨(b + (l : ℕ) + s) % 1024, Nat.mod_lt _ (by decide)⟩ then 1#1 else 0#1 := by
    have hx := x.isLt
    have hsum : IntOp.addi (IntOp.addi (BitVec.ofNat 32 b) (BitVec.ofNat 32 s)) (BitVec.ofNat 32 l) = BitVec.ofNat 32 (b + s + l) := by
      show BitVec.ofNat 32 b + BitVec.ofNat 32 s + BitVec.ofNat 32 l = _
      rw [← BitVec.ofNat_add, ← BitVec.ofNat_add]
    rw [hsum]
    show BitVec.ofBool (BitVec.ofNat 32 x == BitVec.ofNat 32 (b + s + l)) = _
    by_cases h : x = ⟨(b + (l : ℕ) + s) % 1024, Nat.mod_lt _ (by decide)⟩
    · rw [if_pos h]
      have : (x : ℕ) = b + s + l := by rw [h]; show (b + (l : ℕ) + s) % 1024 = _; rw [Nat.mod_eq_of_lt (by omega)]; omega
      rw [this, beq_self_eq_true]; rfl
    · rw [if_neg h]
      have : (BitVec.ofNat 32 x == BitVec.ofNat 32 (b + s + l)) = false := by
        refine beq_eq_false_iff_ne.2 (fun h' => h (Fin.ext ?_))
        have := congrArg BitVec.toNat h'
        rw [BitVec.toNat_ofNat, BitVec.toNat_ofNat, Nat.mod_eq_of_lt (by omega), Nat.mod_eq_of_lt (by omega)] at this
        show (x : ℕ) = (b + (l : ℕ) + s) % 1024
        rw [Nat.mod_eq_of_lt (by omega)]; omega
      rw [this]; rfl
  have hsel (x : Fin 1024) (u v : EReal) : Scalar.select (IntOp.cmpi .eq (BitVec.ofNat 32 x) (IntOp.addi (IntOp.addi (BitVec.ofNat 32 b) (BitVec.ofNat 32 s)) (BitVec.ofNat 32 l))) u v
      = if x = ⟨(b + (l : ℕ) + s) % 1024, Nat.mod_lt _ (by decide)⟩ then u else v := by
    rw [hc]; split <;> rfl
  simp only [id_eq]
  pointwise
  have h7 : prm (ix1 7) = BitVec.ofNat 32 s := (congrArg prm (funext fun a => by match a with | ⟨0, _⟩ => rfl)).trans e
  simp only [h7, hsel, Finset.sum_ite_eq', Finset.mem_univ, if_true]

/-- A first layer beside the second layer of another array. -/
theorem layers_eq (X : Vec Ideal S1024x352 .f32) (prev G : Vec Ideal S2x1024x352 .f32) (h : ∀ p l, X (ix2 p l) = G (ix3 0 p l)) :
    (concatenate S2x1024x352 0 [⟨S1x1024x352, (broadcastInDim S1x1024x352 ![1, 2] bcast_S1024x352_S1x1024x352_1_2 X)⟩, ⟨S1x1024x352, (broadcastInDim S1x1024x352 ![1, 2] bcast_S1024x352_S1x1024x352_1_2 (shapeCast _ (extractStridedSlice S1x1024x352 ![1, 0, 0] prev slices_S2x1024x352_S1x1024x352_1_0_0) shapeCasts_S1x1024x352_S1024x352))⟩] concatenates_S1x1024x352_S1x1024x352_S2x1024x352_d0 : Vec Ideal S2x1024x352 .f32) = layers G prev := by
  funext i
  obtain ⟨j, p, l, rfl⟩ : ∃ (j : Fin 2) (p : Fin 1024) (l : Fin 352), i = ix3 j p l := ⟨i 0, i 1, i 2, funext fun a => by match a with | ⟨0, _⟩ => rfl | ⟨1, _⟩ => rfl | ⟨2, _⟩ => rfl⟩
  match j with
  | ⟨0, _⟩ =>
    refine (concatenate_pair_apply_left (t := S2x1024x352) (s₁ := S1x1024x352) (s₂ := S1x1024x352) 0 _ _ concatenates_S1x1024x352_S1x1024x352_S2x1024x352_d0 _ rfl (ix3 (n0 := 1) 0 p l) (fun b => by match b with | ⟨0, _⟩ => rfl | ⟨1, _⟩ => rfl | ⟨2, _⟩ => rfl)).trans ?_
    refine Eq.trans (b := X (ix2 p l)) ?_ (h p l)
    pointwise
  | ⟨1, _⟩ =>
    refine (concatenate_pair_apply_right (t := S2x1024x352) (s₁ := S1x1024x352) (s₂ := S1x1024x352) 0 _ _ concatenates_S1x1024x352_S1x1024x352_S2x1024x352_d0 _ rfl rfl (ix3 (n0 := 1) 0 p l) (fun b hb => by match b with | ⟨0, _⟩ => exact absurd rfl hb | ⟨1, _⟩ => rfl | ⟨2, _⟩ => rfl) rfl).trans ?_
    refine Eq.trans (b := prev (ix3 1 p l)) ?_ rfl
    pointwise

theorem first_at (x : Vec Ideal S2x1024x352 .f32) (g : Vec Ideal S1024x352 .f32) (p : Fin 1024) (l : Fin 352) :
    (addf (mulf (broadcastInDim S1024x352 ![] bcast_S_S1024x352 (constant (F := Ideal) S_ .f32 0x3F666666#32)) (shapeCast _ (extractStridedSlice S1x1024x352 ![0, 0, 0] x slices_S2x1024x352_S1x1024x352_0_0_0) shapeCasts_S1x1024x352_S1024x352)) (mulf (broadcastInDim S1024x352 ![] bcast_S_S1024x352 (constant (F := Ideal) S_ .f32 0x3DCCCCCD#32)) g) : Vec Ideal S1024x352 .f32) (ix2 p l) = first (x (ix3 0 p l)) (g (ix2 p l)) := by
  unfold first
  pointwise

theorem second_at (x : Vec Ideal S2x1024x352 .f32) (g : Vec Ideal S1024x352 .f32) (p : Fin 1024) (l : Fin 352) :
    (addf (mulf (broadcastInDim S1024x352 ![] bcast_S_S1024x352 (constant (F := Ideal) S_ .f32 0x3F7FBE77#32)) (shapeCast _ (extractStridedSlice S1x1024x352 ![0, 0, 0] x slices_S2x1024x352_S1x1024x352_0_0_0) shapeCasts_S1x1024x352_S1024x352)) (mulf (broadcastInDim S1024x352 ![] bcast_S_S1024x352 (constant (F := Ideal) S_ .f32 0x3A83126F#32)) (mulf g g)) : Vec Ideal S1024x352 .f32) (ix2 p l) = second (x (ix3 0 p l)) (g (ix2 p l)) := by
  unfold second
  pointwise

theorem delta_at (w : Vec Ideal S2x1024x352 .f32) (a b : Vec Ideal S1024x352 .f32) (p : Fin 1024) (l : Fin 352) (m g v : EReal)
    (ha : a (ix2 p l) = first m g) (hb : b (ix2 p l) = second v g) :
    ((mulf (broadcastInDim S1024x352 ![] bcast_S_S1024x352 (constant S_ .f32 0xBA83126F#32)) (addf (Host.divf (F := Ideal) (Host.divf (F := Ideal) a (broadcastInDim S1024x352 ![] bcast_S_S1024x352 (constant S_ .f32 0x3F26BD02#32))) (addf (Host.sqrt (F := Ideal) (Host.divf (F := Ideal) b (broadcastInDim S1024x352 ![] bcast_S_S1024x352 (constant S_ .f32 0x3C231ACC#32)))) (broadcastInDim S1024x352 ![] bcast_S_S1024x352 (constant S_ .f32 0x322BCC77#32)))) (mulf (broadcastInDim S1024x352 ![] bcast_S_S1024x352 (constant S_ .f32 0x3C23D70A#32)) (shapeCast _ (extractStridedSlice S1x1024x352 ![0, 0, 0] w slices_S2x1024x352_S1x1024x352_0_0_0) shapeCasts_S1x1024x352_S1024x352)))) : Vec Ideal S1024x352 .f32) (ix2 p l) = delta (w (ix3 0 p l)) g m v := by
  unfold delta
  pointwise
  rw [ha, hb]

variable (V0 : Valuation τ sig (Elt Ideal)) (s : Fin 128) (k : Fin 4)
  (hs : (lane (V0 (Proc.devRef .tc main_arg0) : IVec S8 32)).toNat = s) (hk : (chip (V0 (Proc.devRef .tc main_arg1) : IVec S1 32)).toNat = k)
include hs hk

theorem at_v26 (p : Fin 1024) (l : Fin 352) : (res_main_v26 V0 : Vec Ideal S1024x352 .f32) (ix2 p l) = gradA 0 s k (V0 (Proc.devRef .tc main_arg2)) (V0 (Proc.devRef .tc main_arg3)) (ix3 0 p l) := by
  unfold res_main_v26
  refine (column_at 0 (by decide) s _ hs _ p l).trans ?_
  unfold res_main_v10
  exact chips_at k _ hk _ _ p _

theorem at_v37 (p : Fin 1024) (l : Fin 352) : (res_main_v37 V0 : Vec Ideal S1024x352 .f32) (ix2 p l) = firstA (V0 (Proc.devRef .tc main_arg5)) (gradA 0 s k (V0 (Proc.devRef .tc main_arg2)) (V0 (Proc.devRef .tc main_arg3))) (ix3 0 p l) := by
  unfold res_main_v37
  refine (first_at (V0 (Proc.devRef .tc main_arg5)) _ p l).trans ?_
  rw [at_v26 V0 s k hs hk p l]
  rfl

theorem at_v43 (p : Fin 1024) (l : Fin 352) : (res_main_v43 V0 : Vec Ideal S1024x352 .f32) (ix2 p l) = secondA (V0 (Proc.devRef .tc main_arg6)) (gradA 0 s k (V0 (Proc.devRef .tc main_arg2)) (V0 (Proc.devRef .tc main_arg3))) (ix3 0 p l) := by
  unfold res_main_v43
  refine (second_at (V0 (Proc.devRef .tc main_arg6)) _ p l).trans ?_
  rw [at_v26 V0 s k hs hk p l]
  rfl

theorem ref_v61 (a : Vec Ideal S4x1024x1024 .bf16) (r : Vec Ideal S3x1024x1024 .bf16) (prev : Vec Ideal S2x1024x352 .f32)
    (ea : (V0 (Proc.devRef .tc main_arg2)) = a) (er : (V0 (Proc.devRef .tc main_arg3)) = r)  (ep : (V0 (Proc.devRef .tc main_arg10)) = prev) :
    (concatenate S2x1024x352 0 [⟨S1x1024x352, (broadcastInDim S1x1024x352 ![1, 2] bcast_S1024x352_S1x1024x352_1_2 (res_main_v26 V0))⟩, ⟨S1x1024x352, (broadcastInDim S1x1024x352 ![1, 2] bcast_S1024x352_S1x1024x352_1_2 (shapeCast _ (extractStridedSlice S1x1024x352 ![1, 0, 0] (V0 (Proc.devRef .tc main_arg10)) slices_S2x1024x352_S1x1024x352_1_0_0) shapeCasts_S1x1024x352_S1024x352))⟩] concatenates_S1x1024x352_S1x1024x352_S2x1024x352_d0 : Vec Ideal S2x1024x352 .f32)
      = layers (gradA 0 s k a r) prev := by
  subst ea er  ep
  exact layers_eq _ _ _ (fun p l => at_v26 V0 s k hs hk p l)

theorem ref_v66 (a : Vec Ideal S4x1024x1024 .bf16) (r : Vec Ideal S3x1024x1024 .bf16) (w x y prev : Vec Ideal S2x1024x352 .f32)
    (ea : (V0 (Proc.devRef .tc main_arg2)) = a) (er : (V0 (Proc.devRef .tc main_arg3)) = r) (ew : (V0 (Proc.devRef .tc main_arg4)) = w) (ex : (V0 (Proc.devRef .tc main_arg5)) = x) (ey : (V0 (Proc.devRef .tc main_arg6)) = y) (ep : (V0 (Proc.devRef .tc main_arg11)) = prev) :
    (concatenate S2x1024x352 0 [⟨S1x1024x352, (broadcastInDim S1x1024x352 ![1, 2] bcast_S1024x352_S1x1024x352_1_2 (mulf (broadcastInDim S1024x352 ![] bcast_S_S1024x352 (constant S_ .f32 0xBA83126F#32)) (addf (Host.divf (Host.divf (res_main_v37 V0) (broadcastInDim S1024x352 ![] bcast_S_S1024x352 (constant S_ .f32 0x3F26BD02#32))) (addf (Host.sqrt (Host.divf (res_main_v43 V0) (broadcastInDim S1024x352 ![] bcast_S_S1024x352 (constant S_ .f32 0x3C231ACC#32)))) (broadcastInDim S1024x352 ![] bcast_S_S1024x352 (constant S_ .f32 0x322BCC77#32)))) (mulf (broadcastInDim S1024x352 ![] bcast_S_S1024x352 (constant S_ .f32 0x3C23D70A#32)) (shapeCast _ (extractStridedSlice S1x1024x352 ![0, 0, 0] (V0 (Proc.devRef .tc main_arg4)) slices_S2x1024x352_S1x1024x352_0_0_0) shapeCasts_S1x1024x352_S1024x352)))))⟩, ⟨S1x1024x352, (broadcastInDim S1x1024x352 ![1, 2] bcast_S1024x352_S1x1024x352_1_2 (shapeCast _ (extractStridedSlice S1x1024x352 ![1, 0, 0] (V0 (Proc.devRef .tc main_arg11)) slices_S2x1024x352_S1x1024x352_1_0_0) shapeCasts_S1x1024x352_S1024x352))⟩] concatenates_S1x1024x352_S1x1024x352_S2x1024x352_d0 : Vec Ideal S2x1024x352 .f32)
      = layers (deltaA w (gradA 0 s k a r) x y) prev := by
  subst ea er ew ex ey ep
  exact layers_eq _ _ _ (fun p l => (delta_at _ _ _ p l _ _ _ (at_v37 V0 s k hs hk p l) (at_v43 V0 s k hs hk p l)))

theorem ref_v71 (a : Vec Ideal S4x1024x1024 .bf16) (r : Vec Ideal S3x1024x1024 .bf16) (x prev : Vec Ideal S2x1024x352 .f32)
    (ea : (V0 (Proc.devRef .tc main_arg2)) = a) (er : (V0 (Proc.devRef .tc main_arg3)) = r) (ex : (V0 (Proc.devRef .tc main_arg5)) = x) (ep : (V0 (Proc.devRef .tc main_arg12)) = prev) :
    (concatenate S2x1024x352 0 [⟨S1x1024x352, (broadcastInDim S1x1024x352 ![1, 2] bcast_S1024x352_S1x1024x352_1_2 (res_main_v37 V0))⟩, ⟨S1x1024x352, (broadcastInDim S1x1024x352 ![1, 2] bcast_S1024x352_S1x1024x352_1_2 (shapeCast _ (extractStridedSlice S1x1024x352 ![1, 0, 0] (V0 (Proc.devRef .tc main_arg12)) slices_S2x1024x352_S1x1024x352_1_0_0) shapeCasts_S1x1024x352_S1024x352))⟩] concatenates_S1x1024x352_S1x1024x352_S2x1024x352_d0 : Vec Ideal S2x1024x352 .f32)
      = layers (firstA x (gradA 0 s k a r)) prev := by
  subst ea er ex ep
  exact layers_eq _ _ _ (fun p l => at_v37 V0 s k hs hk p l)

theorem ref_v76 (a : Vec Ideal S4x1024x1024 .bf16) (r : Vec Ideal S3x1024x1024 .bf16) (y prev : Vec Ideal S2x1024x352 .f32)
    (ea : (V0 (Proc.devRef .tc main_arg2)) = a) (er : (V0 (Proc.devRef .tc main_arg3)) = r) (ey : (V0 (Proc.devRef .tc main_arg6)) = y) (ep : (V0 (Proc.devRef .tc main_arg13)) = prev) :
    (concatenate S2x1024x352 0 [⟨S1x1024x352, (broadcastInDim S1x1024x352 ![1, 2] bcast_S1024x352_S1x1024x352_1_2 (res_main_v43 V0))⟩, ⟨S1x1024x352, (broadcastInDim S1x1024x352 ![1, 2] bcast_S1024x352_S1x1024x352_1_2 (shapeCast _ (extractStridedSlice S1x1024x352 ![1, 0, 0] (V0 (Proc.devRef .tc main_arg13)) slices_S2x1024x352_S1x1024x352_1_0_0) shapeCasts_S1x1024x352_S1024x352))⟩] concatenates_S1x1024x352_S1x1024x352_S2x1024x352_d0 : Vec Ideal S2x1024x352 .f32)
      = layers (secondA y (gradA 0 s k a r)) prev := by
  subst ea er ey ep
  exact layers_eq _ _ _ (fun p l => at_v43 V0 s k hs hk p l)

theorem at_v92 (p : Fin 1024) (l : Fin 352) : (res_main_v92 V0 : Vec Ideal S1024x352 .f32) (ix2 p l) = gradA 512 s k (V0 (Proc.devRef .tc main_arg2)) (V0 (Proc.devRef .tc main_arg3)) (ix3 0 p l) := by
  unfold res_main_v92
  refine (column_at 512 (by decide) s _ hs _ p l).trans ?_
  unfold res_main_v10
  exact chips_at k _ hk _ _ p _

theorem at_v103 (p : Fin 1024) (l : Fin 352) : (res_main_v103 V0 : Vec Ideal S1024x352 .f32) (ix2 p l) = firstA (V0 (Proc.devRef .tc main_arg8)) (gradA 512 s k (V0 (Proc.devRef .tc main_arg2)) (V0 (Proc.devRef .tc main_arg3))) (ix3 0 p l) := by
  unfold res_main_v103
  refine (first_at (V0 (Proc.devRef .tc main_arg8)) _ p l).trans ?_
  rw [at_v92 V0 s k hs hk p l]
  rfl

theorem at_v109 (p : Fin 1024) (l : Fin 352) : (res_main_v109 V0 : Vec Ideal S1024x352 .f32) (ix2 p l) = secondA (V0 (Proc.devRef .tc main_arg9)) (gradA 512 s k (V0 (Proc.devRef .tc main_arg2)) (V0 (Proc.devRef .tc main_arg3))) (ix3 0 p l) := by
  unfold res_main_v109
  refine (second_at (V0 (Proc.devRef .tc main_arg9)) _ p l).trans ?_
  rw [at_v92 V0 s k hs hk p l]
  rfl

theorem ref_v127 (a : Vec Ideal S4x1024x1024 .bf16) (r : Vec Ideal S3x1024x1024 .bf16) (prev : Vec Ideal S2x1024x352 .f32)
    (ea : (V0 (Proc.devRef .tc main_arg2)) = a) (er : (V0 (Proc.devRef .tc main_arg3)) = r)  (ep : (V0 (Proc.devRef .tc main_arg14)) = prev) :
    (concatenate S2x1024x352 0 [⟨S1x1024x352, (broadcastInDim S1x1024x352 ![1, 2] bcast_S1024x352_S1x1024x352_1_2 (res_main_v92 V0))⟩, ⟨S1x1024x352, (broadcastInDim S1x1024x352 ![1, 2] bcast_S1024x352_S1x1024x352_1_2 (shapeCast _ (extractStridedSlice S1x1024x352 ![1, 0, 0] (V0 (Proc.devRef .tc main_arg14)) slices_S2x1024x352_S1x1024x352_1_0_0) shapeCasts_S1x1024x352_S1024x352))⟩] concatenates_S1x1024x352_S1x1024x352_S2x1024x352_d0 : Vec Ideal S2x1024x352 .f32)
      = layers (gradA 512 s k a r) prev := by
  subst ea er  ep
  exact layers_eq _ _ _ (fun p l => at_v92 V0 s k hs hk p l)

theorem ref_v132 (a : Vec Ideal S4x1024x1024 .bf16) (r : Vec Ideal S3x1024x1024 .bf16) (w x y prev : Vec Ideal S2x1024x352 .f32)
    (ea : (V0 (Proc.devRef .tc main_arg2)) = a) (er : (V0 (Proc.devRef .tc main_arg3)) = r) (ew : (V0 (Proc.devRef .tc main_arg7)) = w) (ex : (V0 (Proc.devRef .tc main_arg8)) = x) (ey : (V0 (Proc.devRef .tc main_arg9)) = y) (ep : (V0 (Proc.devRef .tc main_arg15)) = prev) :
    (concatenate S2x1024x352 0 [⟨S1x1024x352, (broadcastInDim S1x1024x352 ![1, 2] bcast_S1024x352_S1x1024x352_1_2 (mulf (broadcastInDim S1024x352 ![] bcast_S_S1024x352 (constant S_ .f32 0xBA83126F#32)) (addf (Host.divf (Host.divf (res_main_v103 V0) (broadcastInDim S1024x352 ![] bcast_S_S1024x352 (constant S_ .f32 0x3F26BD02#32))) (addf (Host.sqrt (Host.divf (res_main_v109 V0) (broadcastInDim S1024x352 ![] bcast_S_S1024x352 (constant S_ .f32 0x3C231ACC#32)))) (broadcastInDim S1024x352 ![] bcast_S_S1024x352 (constant S_ .f32 0x322BCC77#32)))) (mulf (broadcastInDim S1024x352 ![] bcast_S_S1024x352 (constant S_ .f32 0x3C23D70A#32)) (shapeCast _ (extractStridedSlice S1x1024x352 ![0, 0, 0] (V0 (Proc.devRef .tc main_arg7)) slices_S2x1024x352_S1x1024x352_0_0_0) shapeCasts_S1x1024x352_S1024x352)))))⟩, ⟨S1x1024x352, (broadcastInDim S1x1024x352 ![1, 2] bcast_S1024x352_S1x1024x352_1_2 (shapeCast _ (extractStridedSlice S1x1024x352 ![1, 0, 0] (V0 (Proc.devRef .tc main_arg15)) slices_S2x1024x352_S1x1024x352_1_0_0) shapeCasts_S1x1024x352_S1024x352))⟩] concatenates_S1x1024x352_S1x1024x352_S2x1024x352_d0 : Vec Ideal S2x1024x352 .f32)
      = layers (deltaA w (gradA 512 s k a r) x y) prev := by
  subst ea er ew ex ey ep
  exact layers_eq _ _ _ (fun p l => (delta_at _ _ _ p l _ _ _ (at_v103 V0 s k hs hk p l) (at_v109 V0 s k hs hk p l)))

theorem ref_v137 (a : Vec Ideal S4x1024x1024 .bf16) (r : Vec Ideal S3x1024x1024 .bf16) (x prev : Vec Ideal S2x1024x352 .f32)
    (ea : (V0 (Proc.devRef .tc main_arg2)) = a) (er : (V0 (Proc.devRef .tc main_arg3)) = r) (ex : (V0 (Proc.devRef .tc main_arg8)) = x) (ep : (V0 (Proc.devRef .tc main_arg16)) = prev) :
    (concatenate S2x1024x352 0 [⟨S1x1024x352, (broadcastInDim S1x1024x352 ![1, 2] bcast_S1024x352_S1x1024x352_1_2 (res_main_v103 V0))⟩, ⟨S1x1024x352, (broadcastInDim S1x1024x352 ![1, 2] bcast_S1024x352_S1x1024x352_1_2 (shapeCast _ (extractStridedSlice S1x1024x352 ![1, 0, 0] (V0 (Proc.devRef .tc main_arg16)) slices_S2x1024x352_S1x1024x352_1_0_0) shapeCasts_S1x1024x352_S1024x352))⟩] concatenates_S1x1024x352_S1x1024x352_S2x1024x352_d0 : Vec Ideal S2x1024x352 .f32)
      = layers (firstA x (gradA 512 s k a r)) prev := by
  subst ea er ex ep
  exact layers_eq _ _ _ (fun p l => at_v103 V0 s k hs hk p l)

theorem ref_v142 (a : Vec Ideal S4x1024x1024 .bf16) (r : Vec Ideal S3x1024x1024 .bf16) (y prev : Vec Ideal S2x1024x352 .f32)
    (ea : (V0 (Proc.devRef .tc main_arg2)) = a) (er : (V0 (Proc.devRef .tc main_arg3)) = r) (ey : (V0 (Proc.devRef .tc main_arg9)) = y) (ep : (V0 (Proc.devRef .tc main_arg17)) = prev) :
    (concatenate S2x1024x352 0 [⟨S1x1024x352, (broadcastInDim S1x1024x352 ![1, 2] bcast_S1024x352_S1x1024x352_1_2 (res_main_v109 V0))⟩, ⟨S1x1024x352, (broadcastInDim S1x1024x352 ![1, 2] bcast_S1024x352_S1x1024x352_1_2 (shapeCast _ (extractStridedSlice S1x1024x352 ![1, 0, 0] (V0 (Proc.devRef .tc main_arg17)) slices_S2x1024x352_S1x1024x352_1_0_0) shapeCasts_S1x1024x352_S1024x352))⟩] concatenates_S1x1024x352_S1x1024x352_S2x1024x352_d0 : Vec Ideal S2x1024x352 .f32)
      = layers (secondA y (gradA 512 s k a r)) prev := by
  subst ea er ey ep
  exact layers_eq _ _ _ (fun p l => at_v109 V0 s k hs hk p l)

end Cert.FinalGuReferenceIdeal.Calc

end
-- ==== Proof.Adam.lean ====
module

public import proofs.«01_k».proof.Proof.Tile
public import proofs.«01_k».proof.Proof.Gen.AdamNormIdeal.Value
public import proofs.«01_k».proof.Proof.Gen.AdamNormReferenceIdeal.Run
public import proofs.«01_k».proof.Proof.Gen.AdamFgBIdeal.Value
public import proofs.«01_k».proof.Proof.Gen.AdamFgBReferenceIdeal.Run
public import proofs.«01_k».proof.Proof.Gen.AdamGlaIdeal.Value
public import proofs.«01_k».proof.Proof.Gen.AdamGlaReferenceIdeal.Run
public import proofs.«01_k».proof.Proof.Gen.AdamFinalIdeal.Value
public import proofs.«01_k».proof.Proof.Gen.AdamFinalReferenceIdeal.Run
public import proofs.«01_k».proof.Proof.Gen.AdamSquareIdeal.Value
public import proofs.«01_k».proof.Proof.Gen.AdamSquareReferenceIdeal.Run
public import proofs.«01_k».proof.Proof.Gen.AdamDownIdeal.Value
public import proofs.«01_k».proof.Proof.Gen.AdamDownReferenceIdeal.Run
public import proofs.«01_k».proof.Proof.Gen.AdamFgIdeal.Value
public import proofs.«01_k».proof.Proof.Gen.AdamFgReferenceIdeal.Run
public import proofs.«01_k».proof.Proof.Gen.AdamConvIdeal.Value
public import proofs.«01_k».proof.Proof.Gen.AdamConvReferenceIdeal.Run

@[expose] public section

/-! One AdamW step of a weight, in the shapes of the weights that are kept whole or by rows: at each entry the reference's change, first
moment and second moment are the kernel's. A kernel's arrays are named in its own module: `G4` is the change, `G5` the first moment and
`G6` the second, of the weight, its gradient and its two moments. -/

noncomputable section

open Idealize.ShloMosaic Idealize.ShloMosaic.TcCoe Idealize.SL.Sem

/-! ## A norm's gains and the convolution's bias -/

namespace Cert.AdamNormReferenceIdeal.Calc
open Cert.AdamNormReferenceIdeal Cert.AdamNormReferenceIdeal.Gen

variable (w g m v : FVec Ideal S2x1024 .f32)

theorem delta_eq : (mulf (broadcastInDim S2x1024 ![] bcast_S_S2x1024 (constant S_ .f32 0xBA83126F#32)) (addf (Host.divf (Host.divf (addf (mulf (broadcastInDim S2x1024 ![] bcast_S_S2x1024 (constant S_ .f32 0x3F666666#32)) m) (mulf (broadcastInDim S2x1024 ![] bcast_S_S2x1024 (constant S_ .f32 0x3DCCCCCD#32)) g)) (broadcastInDim S2x1024 ![] bcast_S_S2x1024 (constant S_ .f32 0x3F26BD02#32))) (addf (Host.sqrt (Host.divf (addf (mulf (broadcastInDim S2x1024 ![] bcast_S_S2x1024 (constant S_ .f32 0x3F7FBE77#32)) v) (mulf (broadcastInDim S2x1024 ![] bcast_S_S2x1024 (constant S_ .f32 0x3A83126F#32)) (mulf g g))) (broadcastInDim S2x1024 ![] bcast_S_S2x1024 (constant S_ .f32 0x3C231ACC#32)))) (broadcastInDim S2x1024 ![] bcast_S_S2x1024 (constant S_ .f32 0x322BCC77#32)))) (mulf (broadcastInDim S2x1024 ![] bcast_S_S2x1024 (constant S_ .f32 0x3C23D70A#32)) w)) : FVec Ideal S2x1024 .f32)
    = Cert.AdamNormIdeal.Value.G4 (F := Ideal) w g m v := rfl

theorem first_eq : (addf (mulf (broadcastInDim S2x1024 ![] bcast_S_S2x1024 (constant S_ .f32 0x3F666666#32)) m) (mulf (broadcastInDim S2x1024 ![] bcast_S_S2x1024 (constant S_ .f32 0x3DCCCCCD#32)) g) : FVec Ideal S2x1024 .f32)
    = Cert.AdamNormIdeal.Value.G5 (F := Ideal) g m := rfl

theorem second_eq : (addf (mulf (broadcastInDim S2x1024 ![] bcast_S_S2x1024 (constant S_ .f32 0x3F7FBE77#32)) v) (mulf (broadcastInDim S2x1024 ![] bcast_S_S2x1024 (constant S_ .f32 0x3A83126F#32)) (mulf g g)) : FVec Ideal S2x1024 .f32)
    = Cert.AdamNormIdeal.Value.G6 (F := Ideal) g v := rfl

end Cert.AdamNormReferenceIdeal.Calc

/-! ## The gate's bias -/

namespace Cert.AdamFgBReferenceIdeal.Calc
open Cert.AdamFgBReferenceIdeal Cert.AdamFgBReferenceIdeal.Gen

variable (w g m v : FVec Ideal S2x512 .f32)

theorem delta_eq : (mulf (broadcastInDim S2x512 ![] bcast_S_S2x512 (constant S_ .f32 0xBA83126F#32)) (addf (Host.divf (Host.divf (addf (mulf (broadcastInDim S2x512 ![] bcast_S_S2x512 (constant S_ .f32 0x3F666666#32)) m) (mulf (broadcastInDim S2x512 ![] bcast_S_S2x512 (constant S_ .f32 0x3DCCCCCD#32)) g)) (broadcastInDim S2x512 ![] bcast_S_S2x512 (constant S_ .f32 0x3F26BD02#32))) (addf (Host.sqrt (Host.divf (addf (mulf (broadcastInDim S2x512 ![] bcast_S_S2x512 (constant S_ .f32 0x3F7FBE77#32)) v) (mulf (broadcastInDim S2x512 ![] bcast_S_S2x512 (constant S_ .f32 0x3A83126F#32)) (mulf g g))) (broadcastInDim S2x512 ![] bcast_S_S2x512 (constant S_ .f32 0x3C231ACC#32)))) (broadcastInDim S2x512 ![] bcast_S_S2x512 (constant S_ .f32 0x322BCC77#32)))) (mulf (broadcastInDim S2x512 ![] bcast_S_S2x512 (constant S_ .f32 0x3C23D70A#32)) w)) : FVec Ideal S2x512 .f32)
    = Cert.AdamFgBIdeal.Value.G4 (F := Ideal) w g m v := rfl

theorem first_eq : (addf (mulf (broadcastInDim S2x512 ![] bcast_S_S2x512 (constant S_ .f32 0x3F666666#32)) m) (mulf (broadcastInDim S2x512 ![] bcast_S_S2x512 (constant S_ .f32 0x3DCCCCCD#32)) g) : FVec Ideal S2x512 .f32)
    = Cert.AdamFgBIdeal.Value.G5 (F := Ideal) g m := rfl

theorem second_eq : (addf (mulf (broadcastInDim S2x512 ![] bcast_S_S2x512 (constant S_ .f32 0x3F7FBE77#32)) v) (mulf (broadcastInDim S2x512 ![] bcast_S_S2x512 (constant S_ .f32 0x3A83126F#32)) (mulf g g)) : FVec Ideal S2x512 .f32)
    = Cert.AdamFgBIdeal.Value.G6 (F := Ideal) g v := rfl

end Cert.AdamFgBReferenceIdeal.Calc

/-! ## The mixer's gain -/

namespace Cert.AdamGlaReferenceIdeal.Calc
open Cert.AdamGlaReferenceIdeal Cert.AdamGlaReferenceIdeal.Gen

variable (w g m v : FVec Ideal S2x256 .f32)

theorem delta_eq : (mulf (broadcastInDim S2x256 ![] bcast_S_S2x256 (constant S_ .f32 0xBA83126F#32)) (addf (Host.divf (Host.divf (addf (mulf (broadcastInDim S2x256 ![] bcast_S_S2x256 (constant S_ .f32 0x3F666666#32)) m) (mulf (broadcastInDim S2x256 ![] bcast_S_S2x256 (constant S_ .f32 0x3DCCCCCD#32)) g)) (broadcastInDim S2x256 ![] bcast_S_S2x256 (constant S_ .f32 0x3F26BD02#32))) (addf (Host.sqrt (Host.divf (addf (mulf (broadcastInDim S2x256 ![] bcast_S_S2x256 (constant S_ .f32 0x3F7FBE77#32)) v) (mulf (broadcastInDim S2x256 ![] bcast_S_S2x256 (constant S_ .f32 0x3A83126F#32)) (mulf g g))) (broadcastInDim S2x256 ![] bcast_S_S2x256 (constant S_ .f32 0x3C231ACC#32)))) (broadcastInDim S2x256 ![] bcast_S_S2x256 (constant S_ .f32 0x322BCC77#32)))) (mulf (broadcastInDim S2x256 ![] bcast_S_S2x256 (constant S_ .f32 0x3C23D70A#32)) w)) : FVec Ideal S2x256 .f32)
    = Cert.AdamGlaIdeal.Value.G4 (F := Ideal) w g m v := rfl

theorem first_eq : (addf (mulf (broadcastInDim S2x256 ![] bcast_S_S2x256 (constant S_ .f32 0x3F666666#32)) m) (mulf (broadcastInDim S2x256 ![] bcast_S_S2x256 (constant S_ .f32 0x3DCCCCCD#32)) g) : FVec Ideal S2x256 .f32)
    = Cert.AdamGlaIdeal.Value.G5 (F := Ideal) g m := rfl

theorem second_eq : (addf (mulf (broadcastInDim S2x256 ![] bcast_S_S2x256 (constant S_ .f32 0x3F7FBE77#32)) v) (mulf (broadcastInDim S2x256 ![] bcast_S_S2x256 (constant S_ .f32 0x3A83126F#32)) (mulf g g)) : FVec Ideal S2x256 .f32)
    = Cert.AdamGlaIdeal.Value.G6 (F := Ideal) g v := rfl

end Cert.AdamGlaReferenceIdeal.Calc

/-! ## The last norm's gain -/

namespace Cert.AdamFinalReferenceIdeal.Calc
open Cert.AdamFinalReferenceIdeal Cert.AdamFinalReferenceIdeal.Gen

variable (w g m v : FVec Ideal S1x1024 .f32)

theorem delta_eq : (mulf (broadcastInDim S1x1024 ![] bcast_S_S1x1024 (constant S_ .f32 0xBA83126F#32)) (addf (Host.divf (Host.divf (addf (mulf (broadcastInDim S1x1024 ![] bcast_S_S1x1024 (constant S_ .f32 0x3F666666#32)) m) (mulf (broadcastInDim S1x1024 ![] bcast_S_S1x1024 (constant S_ .f32 0x3DCCCCCD#32)) g)) (broadcastInDim S1x1024 ![] bcast_S_S1x1024 (constant S_ .f32 0x3F26BD02#32))) (addf (Host.sqrt (Host.divf (addf (mulf (broadcastInDim S1x1024 ![] bcast_S_S1x1024 (constant S_ .f32 0x3F7FBE77#32)) v) (mulf (broadcastInDim S1x1024 ![] bcast_S_S1x1024 (constant S_ .f32 0x3A83126F#32)) (mulf g g))) (broadcastInDim S1x1024 ![] bcast_S_S1x1024 (constant S_ .f32 0x3C231ACC#32)))) (broadcastInDim S1x1024 ![] bcast_S_S1x1024 (constant S_ .f32 0x322BCC77#32)))) (mulf (broadcastInDim S1x1024 ![] bcast_S_S1x1024 (constant S_ .f32 0x3C23D70A#32)) w)) : FVec Ideal S1x1024 .f32)
    = Cert.AdamFinalIdeal.Value.G4 (F := Ideal) w g m v := rfl

theorem first_eq : (addf (mulf (broadcastInDim S1x1024 ![] bcast_S_S1x1024 (constant S_ .f32 0x3F666666#32)) m) (mulf (broadcastInDim S1x1024 ![] bcast_S_S1x1024 (constant S_ .f32 0x3DCCCCCD#32)) g) : FVec Ideal S1x1024 .f32)
    = Cert.AdamFinalIdeal.Value.G5 (F := Ideal) g m := rfl

theorem second_eq : (addf (mulf (broadcastInDim S1x1024 ![] bcast_S_S1x1024 (constant S_ .f32 0x3F7FBE77#32)) v) (mulf (broadcastInDim S1x1024 ![] bcast_S_S1x1024 (constant S_ .f32 0x3A83126F#32)) (mulf g g)) : FVec Ideal S1x1024 .f32)
    = Cert.AdamFinalIdeal.Value.G6 (F := Ideal) g v := rfl

end Cert.AdamFinalReferenceIdeal.Calc

/-! ## The rows of a square weight that a device keeps -/

namespace Cert.AdamSquareReferenceIdeal.Calc
open Cert.AdamSquareReferenceIdeal Cert.AdamSquareReferenceIdeal.Gen

variable (w g m v : FVec Ideal S256x1024 .f32)

theorem delta_eq : (mulf (broadcastInDim S256x1024 ![] bcast_S_S256x1024 (constant S_ .f32 0xBA83126F#32)) (addf (Host.divf (Host.divf (addf (mulf (broadcastInDim S256x1024 ![] bcast_S_S256x1024 (constant S_ .f32 0x3F666666#32)) m) (mulf (broadcastInDim S256x1024 ![] bcast_S_S256x1024 (constant S_ .f32 0x3DCCCCCD#32)) g)) (broadcastInDim S256x1024 ![] bcast_S_S256x1024 (constant S_ .f32 0x3F26BD02#32))) (addf (Host.sqrt (Host.divf (addf (mulf (broadcastInDim S256x1024 ![] bcast_S_S256x1024 (constant S_ .f32 0x3F7FBE77#32)) v) (mulf (broadcastInDim S256x1024 ![] bcast_S_S256x1024 (constant S_ .f32 0x3A83126F#32)) (mulf g g))) (broadcastInDim S256x1024 ![] bcast_S_S256x1024 (constant S_ .f32 0x3C231ACC#32)))) (broadcastInDim S256x1024 ![] bcast_S_S256x1024 (constant S_ .f32 0x322BCC77#32)))) (mulf (broadcastInDim S256x1024 ![] bcast_S_S256x1024 (constant S_ .f32 0x3C23D70A#32)) w)) : FVec Ideal S256x1024 .f32)
    = Cert.AdamSquareIdeal.Value.G4 (F := Ideal) w g m v := rfl

theorem first_eq : (addf (mulf (broadcastInDim S256x1024 ![] bcast_S_S256x1024 (constant S_ .f32 0x3F666666#32)) m) (mulf (broadcastInDim S256x1024 ![] bcast_S_S256x1024 (constant S_ .f32 0x3DCCCCCD#32)) g) : FVec Ideal S256x1024 .f32)
    = Cert.AdamSquareIdeal.Value.G5 (F := Ideal) g m := rfl

theorem second_eq : (addf (mulf (broadcastInDim S256x1024 ![] bcast_S_S256x1024 (constant S_ .f32 0x3F7FBE77#32)) v) (mulf (broadcastInDim S256x1024 ![] bcast_S_S256x1024 (constant S_ .f32 0x3A83126F#32)) (mulf g g)) : FVec Ideal S256x1024 .f32)
    = Cert.AdamSquareIdeal.Value.G6 (F := Ideal) g v := rfl

end Cert.AdamSquareReferenceIdeal.Calc

/-! ## The rows of the feed-forward's second matrix that a device keeps -/

namespace Cert.AdamDownReferenceIdeal.Calc
open Cert.AdamDownReferenceIdeal Cert.AdamDownReferenceIdeal.Gen

variable (w g m v : FVec Ideal S704x1024 .f32)

theorem delta_eq : (mulf (broadcastInDim S704x1024 ![] bcast_S_S704x1024 (constant S_ .f32 0xBA83126F#32)) (addf (Host.divf (Host.divf (addf (mulf (broadcastInDim S704x1024 ![] bcast_S_S704x1024 (constant S_ .f32 0x3F666666#32)) m) (mulf (broadcastInDim S704x1024 ![] bcast_S_S704x1024 (constant S_ .f32 0x3DCCCCCD#32)) g)) (broadcastInDim S704x1024 ![] bcast_S_S704x1024 (constant S_ .f32 0x3F26BD02#32))) (addf (Host.sqrt (Host.divf (addf (mulf (broadcastInDim S704x1024 ![] bcast_S_S704x1024 (constant S_ .f32 0x3F7FBE77#32)) v) (mulf (broadcastInDim S704x1024 ![] bcast_S_S704x1024 (constant S_ .f32 0x3A83126F#32)) (mulf g g))) (broadcastInDim S704x1024 ![] bcast_S_S704x1024 (constant S_ .f32 0x3C231ACC#32)))) (broadcastInDim S704x1024 ![] bcast_S_S704x1024 (constant S_ .f32 0x322BCC77#32)))) (mulf (broadcastInDim S704x1024 ![] bcast_S_S704x1024 (constant S_ .f32 0x3C23D70A#32)) w)) : FVec Ideal S704x1024 .f32)
    = Cert.AdamDownIdeal.Value.G4 (F := Ideal) w g m v := rfl

theorem first_eq : (addf (mulf (broadcastInDim S704x1024 ![] bcast_S_S704x1024 (constant S_ .f32 0x3F666666#32)) m) (mulf (broadcastInDim S704x1024 ![] bcast_S_S704x1024 (constant S_ .f32 0x3DCCCCCD#32)) g) : FVec Ideal S704x1024 .f32)
    = Cert.AdamDownIdeal.Value.G5 (F := Ideal) g m := rfl

theorem second_eq : (addf (mulf (broadcastInDim S704x1024 ![] bcast_S_S704x1024 (constant S_ .f32 0x3F7FBE77#32)) v) (mulf (broadcastInDim S704x1024 ![] bcast_S_S704x1024 (constant S_ .f32 0x3A83126F#32)) (mulf g g)) : FVec Ideal S704x1024 .f32)
    = Cert.AdamDownIdeal.Value.G6 (F := Ideal) g v := rfl

end Cert.AdamDownReferenceIdeal.Calc

/-! ## The columns of the gate's second matrix that a device keeps -/

namespace Cert.AdamFgReferenceIdeal.Calc
open Cert.AdamFgReferenceIdeal Cert.AdamFgReferenceIdeal.Gen

variable (w g m v : FVec Ideal S32x64 .f32)

theorem delta_eq : (mulf (broadcastInDim S32x64 ![] bcast_S_S32x64 (constant S_ .f32 0xBA83126F#32)) (addf (Host.divf (Host.divf (addf (mulf (broadcastInDim S32x64 ![] bcast_S_S32x64 (constant S_ .f32 0x3F666666#32)) m) (mulf (broadcastInDim S32x64 ![] bcast_S_S32x64 (constant S_ .f32 0x3DCCCCCD#32)) g)) (broadcastInDim S32x64 ![] bcast_S_S32x64 (constant S_ .f32 0x3F26BD02#32))) (addf (Host.sqrt (Host.divf (addf (mulf (broadcastInDim S32x64 ![] bcast_S_S32x64 (constant S_ .f32 0x3F7FBE77#32)) v) (mulf (broadcastInDim S32x64 ![] bcast_S_S32x64 (constant S_ .f32 0x3A83126F#32)) (mulf g g))) (broadcastInDim S32x64 ![] bcast_S_S32x64 (constant S_ .f32 0x3C231ACC#32)))) (broadcastInDim S32x64 ![] bcast_S_S32x64 (constant S_ .f32 0x322BCC77#32)))) (mulf (broadcastInDim S32x64 ![] bcast_S_S32x64 (constant S_ .f32 0x3C23D70A#32)) w)) : FVec Ideal S32x64 .f32)
    = Cert.AdamFgIdeal.Value.G4 (F := Ideal) w g m v := rfl

theorem first_eq : (addf (mulf (broadcastInDim S32x64 ![] bcast_S_S32x64 (constant S_ .f32 0x3F666666#32)) m) (mulf (broadcastInDim S32x64 ![] bcast_S_S32x64 (constant S_ .f32 0x3DCCCCCD#32)) g) : FVec Ideal S32x64 .f32)
    = Cert.AdamFgIdeal.Value.G5 (F := Ideal) g m := rfl

theorem second_eq : (addf (mulf (broadcastInDim S32x64 ![] bcast_S_S32x64 (constant S_ .f32 0x3F7FBE77#32)) v) (mulf (broadcastInDim S32x64 ![] bcast_S_S32x64 (constant S_ .f32 0x3A83126F#32)) (mulf g g)) : FVec Ideal S32x64 .f32)
    = Cert.AdamFgIdeal.Value.G6 (F := Ideal) g v := rfl

end Cert.AdamFgReferenceIdeal.Calc

/-! ## The convolution's channels that a device keeps -/

namespace Cert.AdamConvReferenceIdeal.Calc
open Cert.AdamConvReferenceIdeal Cert.AdamConvReferenceIdeal.Gen

variable (w g m v : FVec Ideal S6x128 .f32)

theorem delta_eq : (mulf (broadcastInDim S6x128 ![] bcast_S_S6x128 (constant S_ .f32 0xBA83126F#32)) (addf (Host.divf (Host.divf (addf (mulf (broadcastInDim S6x128 ![] bcast_S_S6x128 (constant S_ .f32 0x3F666666#32)) m) (mulf (broadcastInDim S6x128 ![] bcast_S_S6x128 (constant S_ .f32 0x3DCCCCCD#32)) g)) (broadcastInDim S6x128 ![] bcast_S_S6x128 (constant S_ .f32 0x3F26BD02#32))) (addf (Host.sqrt (Host.divf (addf (mulf (broadcastInDim S6x128 ![] bcast_S_S6x128 (constant S_ .f32 0x3F7FBE77#32)) v) (mulf (broadcastInDim S6x128 ![] bcast_S_S6x128 (constant S_ .f32 0x3A83126F#32)) (mulf g g))) (broadcastInDim S6x128 ![] bcast_S_S6x128 (constant S_ .f32 0x3C231ACC#32)))) (broadcastInDim S6x128 ![] bcast_S_S6x128 (constant S_ .f32 0x322BCC77#32)))) (mulf (broadcastInDim S6x128 ![] bcast_S_S6x128 (constant S_ .f32 0x3C23D70A#32)) w)) : FVec Ideal S6x128 .f32)
    = Cert.AdamConvIdeal.Value.G4 (F := Ideal) w g m v := rfl

theorem first_eq : (addf (mulf (broadcastInDim S6x128 ![] bcast_S_S6x128 (constant S_ .f32 0x3F666666#32)) m) (mulf (broadcastInDim S6x128 ![] bcast_S_S6x128 (constant S_ .f32 0x3DCCCCCD#32)) g) : FVec Ideal S6x128 .f32)
    = Cert.AdamConvIdeal.Value.G5 (F := Ideal) g m := rfl

theorem second_eq : (addf (mulf (broadcastInDim S6x128 ![] bcast_S_S6x128 (constant S_ .f32 0x3F7FBE77#32)) v) (mulf (broadcastInDim S6x128 ![] bcast_S_S6x128 (constant S_ .f32 0x3A83126F#32)) (mulf g g)) : FVec Ideal S6x128 .f32)
    = Cert.AdamConvIdeal.Value.G6 (F := Ideal) g v := rfl

end Cert.AdamConvReferenceIdeal.Calc

end
-- ==== Proof.Pure1.lean ====
module

public import proofs.«01_k».proof.Proof.Gen.KernelIdeal.Skeleton
public import proofs.«01_k».proof.Proof.Real

@[expose] public section

set_option maxRecDepth 16384

/-! What the kernel's body computes from one block of eight chunks, first part: the norm's gradient, and the decays. -/

noncomputable section

open Idealize.ShloMosaic Idealize.ShloMosaic.TcCoe Idealize.SL.Sem
namespace Cert.KernelIdeal.Gla
open Cert.KernelIdeal Cert.KernelIdeal.Gen Cert.Gla

/-- Row `l` of chunk `i` of a block. -/
def ri (i : Fin 8) (l : Fin 64) : Fin 512 := ⟨64 * i + l, by omega⟩

theorem exists_ri (p : Fin 512) : ∃ i l, p = ri i l :=
  ⟨⟨p / 64, by omega⟩, ⟨p % 64, by omega⟩, Fin.ext (by simp only [ri]; omega)⟩

def riE : Fin 8 × Fin 64 ≃ Fin 512 where
  toFun q := ri q.1 q.2
  invFun p := (⟨p / 64, by omega⟩, ⟨p % 64, by omega⟩)
  left_inv q := Prod.ext (Fin.ext (by simp only [ri]; omega)) (Fin.ext (by simp only [ri]; omega))
  right_inv p := Fin.ext (by simp only [ri]; omega)

theorem sum_ri {M : Type} [AddCommMonoid M] (f : Fin 512 → M) : ∑ p, f p = ∑ i, ∑ l, f (ri i l) := by
  rw [← Fintype.sum_prod_type']
  exact (Fintype.sum_equiv riE _ _ fun _ => rfl).symm

/-- The gate's, the norm's and the gradient's blocks hold eight chunks. -/
structure BlkN (C : Fin 8 → Chunk) (x6 x7 x8 : FVec Ideal S512x256 .bf16) (x9 : FVec Ideal S1x256 .f32) : Prop where
  y : ∀ i l v, x6 (ix2 (ri i l) v) = (((C i).y l v : ℝ) : EReal)
  o : ∀ i l v, x7 (ix2 (ri i l) v) = (((C i).o l v : ℝ) : EReal)
  r : ∀ i l v, x8 (ix2 (ri i l) v) = (((C i).r l v : ℝ) : EReal)
  g : ∀ i v, x9 (ix2 0 v) = (((C i).g v : ℝ) : EReal)

section
variable {C : Fin 8 → Chunk} {x6 x7 x8 : FVec Ideal S512x256 .bf16} {x9 : FVec Ideal S1x256 .f32} (H : BlkN C x6 x7 x8 x9)
include H

theorem rstd_eval (i : Fin 8) (l : Fin 64) : k0_pay6 (F := Ideal) x7 (ix2 (ri i l) 0) = (((C i).rstd l : ℝ) : EReal) := by
  pointwise [k0_pay6, k0_pay5]
  simp only [H.o i l, ← EReal.coe_mul, ← coe_sum, ofBits_256_f32, ofBits_eps_f32.1]
  rw [div_coe' (by norm_num), ← EReal.coe_add, rsqrt_coe', Chunk.rstd]
  have h := ofBits_eps_f32.2
  have : 0 ≤ ∑ v, (C i).o l v * (C i).o l v := Finset.sum_nonneg fun v _ => mul_self_nonneg _
  positivity

theorem ohat_eval (i : Fin 8) (l : Fin 64) (v : Fin 256) : k0_pay7 (F := Ideal) x7 (ix2 (ri i l) v) = (((C i).ohat l v : ℝ) : EReal) := by
  pointwise [k0_pay7, k0_pay5]
  rw [rstd_eval H, H.o, ← EReal.coe_mul, Chunk.ohat]

theorem sg_eval (i : Fin 8) (l : Fin 64) (v : Fin 256) : k0_pay9 (F := Ideal) x8 (ix2 (ri i l) v) = ((sg ((C i).r l v) : ℝ) : EReal) := by
  pointwise [k0_pay9, k0_pay8]
  rw [H.r, sigmoid_coe]

theorem dr_eval (i : Fin 8) (l : Fin 64) (v : Fin 256) :
    k0_pay13 (F := Ideal) (k0_pay8 x8) (k0_pay9 x8) (k0_pay11 x7 x6 x9) k0_pay12 (ix2 (ri i l) v) = (((C i).dr l v : ℝ) : EReal) := by
  pointwise [k0_pay13, k0_pay8, k0_pay11, k0_pay12, k0_pay10]
  rw [sg_eval H, ohat_eval H, H.r, H.y, H.g i]
  simp only [← EReal.coe_one, ← EReal.coe_mul, ← EReal.coe_add, ← EReal.coe_sub]
  rfl

theorem dgt_eval (xo : FVec Ideal S8x256 .f32) (a : Fin 8) (v : Fin 256) :
    k0_pay15 (F := Ideal) (k0_pay7 x7) (k0_pay8 x8) (k0_pay9 x8) (k0_pay10 x6) xo (ix2 a v)
      = xo (ix2 a v) + ((∑ i, ∑ l, (C i).dgt l v : ℝ) : EReal) := by
  pointwise [k0_pay15, k0_pay14, k0_pay8, k0_pay10]
  refine congrArg (xo (ix2 a v) + ·) ?_
  rw [sum_ri, coe_sum]
  refine Finset.sum_congr rfl fun i _ => ?_
  rw [coe_sum]
  refine Finset.sum_congr rfl fun l _ => ?_
  rw [sg_eval H, ohat_eval H, H.r, H.y]
  simp only [← EReal.coe_mul]
  rfl

/-- The gradient of the recurrence's output. -/
theorem dO_eval (i : Fin 8) (l : Fin 64) (v : Fin 256) :
    k0_pay16 (F := Ideal) (k0_pay6 x7) (k0_pay7 x7) (k0_pay8 x8) (k0_pay9 x8) (k0_pay10 x6) x9 (ix2 (ri i l) v) = (((C i).dO l v : ℝ) : EReal) := by
  pointwise [k0_pay16, k0_pay14, k0_pay10, k0_pay8]
  simp only [sg_eval H, ohat_eval H, rstd_eval H, H.r, H.y, H.g i, ← EReal.coe_mul, ← coe_sum, ofBits_256_f32]
  rw [div_coe' (by norm_num)]
  simp only [← EReal.coe_mul, ← EReal.coe_add, ← EReal.coe_sub]
  rfl

end

/-! ## The running sum within a chunk -/

/-- One step of the doubling: each row past the first `s` of its chunk adds the row `s` before it. -/
abbrev sstep (pos : IVec S512x1 32) (s : BitVec 32) (x : FVec Ideal S512x128 .f32) : FVec Ideal S512x128 .f32 :=
  addf x (select (broadcastTo S512x128 (shapeCast S512x1 (cmpi .sge pos (broadcast S512x1 s)) shapeCasts_S512x1_S512x1) broadcasts_S512x1_S512x128)
    (dynamicRotate 0 s none x rotates_S512x128_d0) (broadcast S512x128 (Scalar.ofBits .f32 0x00000000#32)))

/-- The sum of the last `n` rows up to `l`. -/
def win (f : Fin 64 → ℝ) (n : ℕ) (l : Fin 64) : ℝ := ∑ i : Fin 64, if i ≤ l ∧ (l : ℕ) < i + n then f i else 0

theorem win_one (f : Fin 64 → ℝ) (l : Fin 64) : win f 1 l = f l := by
  rw [win, Finset.sum_eq_single l]
  · simp
  · intro b _ hb; rw [if_neg]; intro h; exact hb (Fin.ext (by have := Fin.le_def.1 h.1; omega))
  · intro h; exact absurd (Finset.mem_univ _) h

theorem win_full (f : Fin 64 → ℝ) (l : Fin 64) : win f 64 l = ∑ i ∈ Finset.Iic l, f i := by
  rw [win, ← Finset.sum_filter]
  refine Finset.sum_congr (Finset.ext fun i => ?_) fun _ _ => rfl
  simp only [Finset.mem_filter, Finset.mem_univ, true_and, Finset.mem_Iic]
  omega

theorem win_step (f : Fin 64 → ℝ) (n : ℕ) (l : Fin 64) :
    win f n l + (if n ≤ l then win f n ⟨l - n, by omega⟩ else 0) = win f (n + n) l := by
  by_cases h : n ≤ l
  · rw [if_pos h, win, win, win, ← Finset.sum_add_distrib]
    refine Finset.sum_congr rfl fun i _ => ?_
    simp only [Fin.le_def]
    split_ifs <;> first | omega | simp
  · rw [if_neg h, add_zero, win, win]
    refine Finset.sum_congr rfl fun i _ => ?_
    simp only [Fin.le_def]
    split_ifs <;> first | omega | rfl

/-- The positions within a chunk, as the body computes them. -/
def IsPos (pos : IVec S512x1 32) : Prop := ∀ p : Fin 512, pos (ix2 p 0) = BitVec.ofNat 32 (p % 64)

theorem sge_pos : ∀ p : Fin 64, ∀ s ∈ [1, 2, 4, 8, 16, 32], IntOp.cmpi .sge (BitVec.ofNat 32 p) (BitVec.ofNat 32 s) = BitVec.ofBool (decide (s ≤ (p : ℕ))) := by
  decide +kernel

theorem sstep_eval {pos : IVec S512x1 32} (hp : IsPos pos) (f : Fin 8 → Fin 64 → Fin 128 → ℝ) (s : ℕ) (hs : s ∈ [1, 2, 4, 8, 16, 32])
    {x : FVec Ideal S512x128 .f32} (hx : ∀ i l k, x (ix2 (ri i l) k) = ((win (fun l => f i l k) s l : ℝ) : EReal)) (i : Fin 8) (l : Fin 64) (k : Fin 128) :
    sstep pos (BitVec.ofNat 32 s) x (ix2 (ri i l) k) = ((win (fun l => f i l k) (s + s) l : ℝ) : EReal) := by
  pointwise
  rw [hp (ri i l), hx i l k, show ((ri i l : Fin 512) : ℕ) % 64 = l by simp only [ri]; omega, sge_pos l s hs]
  have hs' : (BitVec.ofNat 32 s).toNat % 512 = s := by
    simp only [List.mem_cons, List.not_mem_nil, or_false] at hs
    rcases hs with rfl | rfl | rfl | rfl | rfl | rfl <;> rfl
  by_cases h : s ≤ l
  · rw [← win_step, if_pos h, EReal.coe_add, decide_eq_true h]
    refine congrArg (_ + ·) ?_
    refine (congrArg x (congrArg (ix2 · k) (Fin.ext ?_))).trans (hx i ⟨l - s, by omega⟩ k)
    show (64 * (i : ℕ) + l + 512 - (BitVec.ofNat 32 s).toNat % 512) % 512 = 64 * i + (l - s)
    rw [hs']; omega
  · rw [← win_step, if_neg h, decide_eq_false h, EReal.coe_add, EReal.coe_zero]
    rfl

theorem pos19 : IsPos k0_pay19 := by
  intro p
  pointwise [k0_pay19]
  revert p
  decide +kernel

theorem pos132 : IsPos (k0_pay132 64#32 k0_pay128 k0_pay129 k0_pay130 k0_pay131) := by
  intro p
  pointwise [k0_pay132, k0_pay128, k0_pay129, k0_pay130, k0_pay131]
  revert p
  decide +kernel

/-- Six steps: the sum of a chunk's rows up to each row. -/
theorem ssteps_eval {pos : IVec S512x1 32} (hp : IsPos pos) (f : Fin 8 → Fin 64 → Fin 128 → ℝ)
    {x : FVec Ideal S512x128 .f32} (hx : ∀ i l k, x (ix2 (ri i l) k) = ((f i l k : ℝ) : EReal)) (i : Fin 8) (l : Fin 64) (k : Fin 128) :
    sstep pos 32#32 (sstep pos 16#32 (sstep pos 8#32 (sstep pos 4#32 (sstep pos 2#32 (sstep pos 1#32 x))))) (ix2 (ri i l) k)
      = ((∑ j ∈ Finset.Iic l, f i j k : ℝ) : EReal) := by
  rw [← win_full (fun l => f i l k)]
  refine sstep_eval hp f 32 (by decide) (sstep_eval hp f 16 (by decide) (sstep_eval hp f 8 (by decide) (sstep_eval hp f 4 (by decide)
    (sstep_eval hp f 2 (by decide) (sstep_eval hp f 1 (by decide) fun i l k => ?_))))) i l k
  rw [win_one, hx]

/-! ## The decays -/

/-- The keys', queries' and decay gate's blocks hold eight chunks. -/
structure BlkK (C : Fin 8 → Chunk) (x0 x1 x3 : FVec Ideal S512x128 .bf16) (x4 : FVec Ideal S128x128 .bf16) (x5 : FVec Ideal S1x128 .f32) : Prop where
  q : ∀ i l k, x0 (ix2 (ri i l) k) = (((C i).q l k : ℝ) : EReal)
  k : ∀ i l k, x1 (ix2 (ri i l) k) = (((C i).k l k : ℝ) : EReal)
  fg : ∀ i l k, (∑ z : Fin 128, x3 (ix2 (ri i l) z) * x4 (ix2 z k)) + x5 (ix2 0 k) = (((C i).fg l k : ℝ) : EReal)

section
variable {C : Fin 8 → Chunk} {x0 x1 x3 : FVec Ideal S512x128 .bf16} {x4 : FVec Ideal S128x128 .bf16} {x5 : FVec Ideal S1x128 .f32}
  (H : BlkK C x0 x1 x3 x4 x5)

abbrev vla (x3 : FVec Ideal S512x128 .bf16) (x4 : FVec Ideal S128x128 .bf16) (x5 : FVec Ideal S1x128 .f32) : FVec Ideal S512x128 .f32 :=
  mulf (subf (k0_pay18 x3 x4 x5) (log (addf (broadcast S512x128 (Scalar.ofBits .f32 0x3F800000#32))
    (exp (subf (broadcast S512x128 (Scalar.ofBits .f32 0x00000000#32)) (absf (k0_pay17 x3 x4 x5)))))))
    (broadcast S512x128 (Scalar.ofBits .f32 0x3D800000#32))

/-- The running sum of the logarithms of the decay, as the body has it. -/
abbrev vcum (x3 : FVec Ideal S512x128 .bf16) (x4 : FVec Ideal S128x128 .bf16) (x5 : FVec Ideal S1x128 .f32) : FVec Ideal S512x128 .f32 :=
  k0_pay22 k0_pay19 (k0_pay20 (k0_pay17 x3 x4 x5) (k0_pay18 x3 x4 x5)) k0_pay21

theorem vcum_eq (x3 : FVec Ideal S512x128 .bf16) (x4 : FVec Ideal S128x128 .bf16) (x5 : FVec Ideal S1x128 .f32) :
    vcum x3 x4 x5 = sstep k0_pay19 32#32 (sstep k0_pay19 16#32 (sstep k0_pay19 8#32 (sstep k0_pay19 4#32 (sstep k0_pay19 2#32 (sstep k0_pay19 1#32 (vla x3 x4 x5)))))) :=
  rfl

include H

theorem fg_eval (i : Fin 8) (l : Fin 64) (k : Fin 128) : k0_pay17 (F := Ideal) x3 x4 x5 (ix2 (ri i l) k) = (((C i).fg l k : ℝ) : EReal) := by
  pointwise [k0_pay17]
  exact H.fg i l k

theorem la_eval (i : Fin 8) (l : Fin 64) (k : Fin 128) : vla x3 x4 x5 (ix2 (ri i l) k) = (((C i).la l k : ℝ) : EReal) := by
  pointwise [vla, k0_pay18]
  rw [fg_eval H, show FloatOps.absf (F := Ideal) (φ := .f32) (((C i).fg l k : ℝ) : EReal) = ((|(C i).fg l k| : ℝ) : EReal) from abs_coe _, ofBits_sixteenth_f32]
  simp only [← EReal.coe_one, ← EReal.coe_zero, ← EReal.coe_sub, min_coe, Ideal.exp_coe, ← EReal.coe_add]
  rw [log_coe' (exp_pos' _), ← EReal.coe_sub, ← EReal.coe_mul, zero_sub]
  rfl

theorem cum_eval (i : Fin 8) (l : Fin 64) (k : Fin 128) : vcum x3 x4 x5 (ix2 (ri i l) k) = (((C i).cum l k : ℝ) : EReal) := by
  rw [vcum_eq]
  exact ssteps_eval pos19 (fun i l k => (C i).la l k) (la_eval H) i l k

end

end Cert.KernelIdeal.Gla
-- ==== Proof.Pure2.lean ====
module

public import proofs.«01_k».proof.Proof.Pure1

@[expose] public section

set_option maxRecDepth 16384

/-! What the kernel's body computes from one block of eight chunks, second part: the decays' factors, the state's gradient from the last
chunk of the block to the first, and the products of each chunk. -/

noncomputable section

open Idealize.ShloMosaic Idealize.ShloMosaic.TcCoe Idealize.SL.Sem
namespace Cert.KernelIdeal.Gla
open Cert.KernelIdeal Cert.KernelIdeal.Gen Cert.Gla

/-! ## The body's values, named -/

section
variable (x3 : FVec Ideal S512x128 .bf16) (x4 : FVec Ideal S128x128 .bf16) (x5 : FVec Ideal S1x128 .f32)

abbrev end0 : FVec Ideal S1x128 .f32 := k0_pay23 k0_pay19 (k0_pay20 (k0_pay17 x3 x4 x5) (k0_pay18 x3 x4 x5)) k0_pay21
abbrev end1 : FVec Ideal S1x128 .f32 := k0_pay24 k0_pay19 (k0_pay20 (k0_pay17 x3 x4 x5) (k0_pay18 x3 x4 x5)) k0_pay21
abbrev end2 : FVec Ideal S1x128 .f32 := k0_pay25 k0_pay19 (k0_pay20 (k0_pay17 x3 x4 x5) (k0_pay18 x3 x4 x5)) k0_pay21
abbrev end3 : FVec Ideal S1x128 .f32 := k0_pay26 k0_pay19 (k0_pay20 (k0_pay17 x3 x4 x5) (k0_pay18 x3 x4 x5)) k0_pay21
abbrev end4 : FVec Ideal S1x128 .f32 := k0_pay27 k0_pay19 (k0_pay20 (k0_pay17 x3 x4 x5) (k0_pay18 x3 x4 x5)) k0_pay21
abbrev end5 : FVec Ideal S1x128 .f32 := k0_pay28 k0_pay19 (k0_pay20 (k0_pay17 x3 x4 x5) (k0_pay18 x3 x4 x5)) k0_pay21
abbrev end6 : FVec Ideal S1x128 .f32 := k0_pay29 k0_pay19 (k0_pay20 (k0_pay17 x3 x4 x5) (k0_pay18 x3 x4 x5)) k0_pay21
abbrev end7 : FVec Ideal S1x128 .f32 := k0_pay30 k0_pay19 (k0_pay20 (k0_pay17 x3 x4 x5) (k0_pay18 x3 x4 x5)) k0_pay21
abbrev row0 : FVec Ideal S64x128 .f32 := k0_pay31 k0_pay19 (k0_pay20 (k0_pay17 x3 x4 x5) (k0_pay18 x3 x4 x5)) k0_pay21
abbrev row1 : FVec Ideal S64x128 .f32 := k0_pay32 k0_pay19 (k0_pay20 (k0_pay17 x3 x4 x5) (k0_pay18 x3 x4 x5)) k0_pay21
abbrev row2 : FVec Ideal S64x128 .f32 := k0_pay33 k0_pay19 (k0_pay20 (k0_pay17 x3 x4 x5) (k0_pay18 x3 x4 x5)) k0_pay21
abbrev row3 : FVec Ideal S64x128 .f32 := k0_pay34 k0_pay19 (k0_pay20 (k0_pay17 x3 x4 x5) (k0_pay18 x3 x4 x5)) k0_pay21
abbrev row4 : FVec Ideal S64x128 .f32 := k0_pay35 k0_pay19 (k0_pay20 (k0_pay17 x3 x4 x5) (k0_pay18 x3 x4 x5)) k0_pay21
abbrev gam0 : FVec Ideal S1x128 .f32 := k0_pay37 (end0 x3 x4 x5)
abbrev gam1 : FVec Ideal S1x128 .f32 := k0_pay38 (end1 x3 x4 x5)
abbrev gam2 : FVec Ideal S1x128 .f32 := k0_pay39 (end2 x3 x4 x5)
abbrev gam3 : FVec Ideal S1x128 .f32 := k0_pay40 (end3 x3 x4 x5)
abbrev gam4 : FVec Ideal S1x128 .f32 := k0_pay41 (end4 x3 x4 x5)
abbrev gam5 : FVec Ideal S1x128 .f32 := k0_pay42 (end5 x3 x4 x5)
abbrev gam6 : FVec Ideal S1x128 .f32 := k0_pay43 (end6 x3 x4 x5)
abbrev gam7 : FVec Ideal S1x128 .f32 := k0_pay44 (end7 x3 x4 x5)
/-- The decay from each row to its chunk's end. -/
abbrev vdec : FVec Ideal S512x128 .f32 := k0_pay36 (vcum x3 x4 x5) (end5 x3 x4 x5) (end6 x3 x4 x5) (end7 x3 x4 x5) (row0 x3 x4 x5) (row1 x3 x4 x5) (row2 x3 x4 x5) (row3 x3 x4 x5) (row4 x3 x4 x5)
/-- The keys with their decay, in either format. -/
abbrev vkd (x1 : FVec Ideal S512x128 .bf16) : FVec Ideal S512x128 .f32 := k0_pay45 (vcum x3 x4 x5) (end5 x3 x4 x5) (end6 x3 x4 x5) (end7 x3 x4 x5) (row0 x3 x4 x5) (row1 x3 x4 x5) (row2 x3 x4 x5) (row3 x3 x4 x5) (row4 x3 x4 x5) x1
abbrev vkd16 (x1 : FVec Ideal S512x128 .bf16) : FVec Ideal S512x128 .bf16 := k0_pay46 (vcum x3 x4 x5) (end5 x3 x4 x5) (end6 x3 x4 x5) (end7 x3 x4 x5) (row0 x3 x4 x5) (row1 x3 x4 x5) (row2 x3 x4 x5) (row3 x3 x4 x5) (row4 x3 x4 x5) x1
end

section
variable (D : FVec Ideal S512x256 .bf16) (x0 : FVec Ideal S512x128 .bf16)

abbrev dG0 : FVec Ideal S1x256x128 .f32 := k0_pay48 D x0
abbrev dG1 : FVec Ideal S1x256x128 .f32 := k0_pay49 D x0
abbrev dG2 : FVec Ideal S1x256x128 .f32 := k0_pay51 (k0_pay50 D x0)
abbrev dG3 : FVec Ideal S1x256x128 .f32 := k0_pay52 D (k0_pay47 x0)
abbrev dG4 : FVec Ideal S1x256x128 .f32 := k0_pay53 D (k0_pay47 x0)
abbrev dG5 : FVec Ideal S1x256x128 .f32 := k0_pay54 D (k0_pay47 x0)
abbrev dG6 : FVec Ideal S1x256x128 .f32 := k0_pay55 D (k0_pay47 x0)
abbrev dG7 : FVec Ideal S1x256x128 .f32 := k0_pay56 D (k0_pay47 x0)
end

section
variable (xs0 : FVec Ideal S256x128 .f32) (D : FVec Ideal S512x256 .bf16) (x0 x3 : FVec Ideal S512x128 .bf16) (x4 : FVec Ideal S128x128 .bf16) (x5 : FVec Ideal S1x128 .f32)
/-! The gradient of the state after each chunk, and (`U`) as it is kept for the products. -/

abbrev T7 : FVec Ideal S256x128 .f32 := k0_pay57 xs0 (dG7 D x0)
abbrev U7 : FVec Ideal S1x256x128 .f32 := k0_pay58 xs0 (dG7 D x0)
abbrev T6 : FVec Ideal S256x128 .f32 := k0_pay59 (gam7 x3 x4 x5) xs0 (dG7 D x0) (dG6 D x0)
abbrev U6 : FVec Ideal S1x256x128 .f32 := k0_pay60 (gam7 x3 x4 x5) xs0 (dG7 D x0) (dG6 D x0)
abbrev T5 : FVec Ideal S256x128 .f32 := k0_pay61 (gam6 x3 x4 x5) (gam7 x3 x4 x5) xs0 (dG7 D x0) (dG6 D x0) (dG5 D x0)
abbrev U5 : FVec Ideal S1x256x128 .f32 := k0_pay62 (gam6 x3 x4 x5) (gam7 x3 x4 x5) xs0 (dG7 D x0) (dG6 D x0) (dG5 D x0)
abbrev T4 : FVec Ideal S256x128 .f32 := k0_pay63 (gam5 x3 x4 x5) (gam6 x3 x4 x5) (gam7 x3 x4 x5) xs0 (dG7 D x0) (dG6 D x0) (dG5 D x0) (dG4 D x0)
abbrev U4 : FVec Ideal S1x256x128 .f32 := k0_pay64 (gam5 x3 x4 x5) (gam6 x3 x4 x5) (gam7 x3 x4 x5) xs0 (dG7 D x0) (dG6 D x0) (dG5 D x0) (dG4 D x0)
abbrev T3 : FVec Ideal S256x128 .f32 := k0_pay65 (gam4 x3 x4 x5) (T4 xs0 D x0 x3 x4 x5) (dG3 D x0)
abbrev U3 : FVec Ideal S1x256x128 .f32 := k0_pay66 (gam4 x3 x4 x5) (T4 xs0 D x0 x3 x4 x5) (dG3 D x0)
abbrev T2 : FVec Ideal S256x128 .f32 := k0_pay67 (gam3 x3 x4 x5) (gam4 x3 x4 x5) (T4 xs0 D x0 x3 x4 x5) (dG3 D x0) (dG2 D x0)
abbrev U2 : FVec Ideal S1x256x128 .f32 := k0_pay68 (gam3 x3 x4 x5) (gam4 x3 x4 x5) (T4 xs0 D x0 x3 x4 x5) (dG3 D x0) (dG2 D x0)
abbrev T1 : FVec Ideal S256x128 .f32 := k0_pay69 (gam2 x3 x4 x5) (gam3 x3 x4 x5) (gam4 x3 x4 x5) (T4 xs0 D x0 x3 x4 x5) (dG3 D x0) (dG2 D x0) (dG1 D x0)
abbrev U1 : FVec Ideal S1x256x128 .f32 := k0_pay70 (gam2 x3 x4 x5) (gam3 x3 x4 x5) (gam4 x3 x4 x5) (T4 xs0 D x0 x3 x4 x5) (dG3 D x0) (dG2 D x0) (dG1 D x0)
abbrev T0 : FVec Ideal S256x128 .f32 := k0_pay71 (gam1 x3 x4 x5) (gam2 x3 x4 x5) (gam3 x3 x4 x5) (gam4 x3 x4 x5) (T4 xs0 D x0 x3 x4 x5) (dG3 D x0) (dG2 D x0) (dG1 D x0) (dG0 D x0)
abbrev U0 : FVec Ideal S1x256x128 .f32 := k0_pay72 (gam1 x3 x4 x5) (gam2 x3 x4 x5) (gam3 x3 x4 x5) (gam4 x3 x4 x5) (T4 xs0 D x0 x3 x4 x5) (dG3 D x0) (dG2 D x0) (dG1 D x0) (dG0 D x0)
/-- What the block gives the block before it. -/
abbrev vcarry : FVec Ideal S256x128 .f32 := k0_pay73 (gam0 x3 x4 x5) (T0 xs0 D x0 x3 x4 x5)
end

/-! ## Their values -/

section
variable {C : Fin 8 → Chunk} {x0 x1 x3 : FVec Ideal S512x128 .bf16} {x4 : FVec Ideal S128x128 .bf16} {x5 : FVec Ideal S1x128 .f32}
  (H : BlkK C x0 x1 x3 x4 x5)
include H

theorem end0_eval (k : Fin 128) : end0 x3 x4 x5 (ix2 0 k) = (((C 0).cum 63 k : ℝ) : EReal) := by
  have h : vcum x3 x4 x5 (ix2 (63 : Fin 512) k) = _ := cum_eval H 0 63 k
  pointwise [k0_pay23]
  exact h
theorem gam0_eval (k : Fin 128) : gam0 x3 x4 x5 (ix2 0 k) = (((C 0).gam k : ℝ) : EReal) := by
  pointwise [k0_pay37]
  rw [end0_eval H, Ideal.exp_coe, Chunk.gam]
theorem end1_eval (k : Fin 128) : end1 x3 x4 x5 (ix2 0 k) = (((C 1).cum 63 k : ℝ) : EReal) := by
  have h : vcum x3 x4 x5 (ix2 (127 : Fin 512) k) = _ := cum_eval H 1 63 k
  pointwise [k0_pay24]
  exact h
theorem gam1_eval (k : Fin 128) : gam1 x3 x4 x5 (ix2 0 k) = (((C 1).gam k : ℝ) : EReal) := by
  pointwise [k0_pay38]
  rw [end1_eval H, Ideal.exp_coe, Chunk.gam]
theorem end2_eval (k : Fin 128) : end2 x3 x4 x5 (ix2 0 k) = (((C 2).cum 63 k : ℝ) : EReal) := by
  have h : vcum x3 x4 x5 (ix2 (191 : Fin 512) k) = _ := cum_eval H 2 63 k
  pointwise [k0_pay25]
  exact h
theorem gam2_eval (k : Fin 128) : gam2 x3 x4 x5 (ix2 0 k) = (((C 2).gam k : ℝ) : EReal) := by
  pointwise [k0_pay39]
  rw [end2_eval H, Ideal.exp_coe, Chunk.gam]
theorem end3_eval (k : Fin 128) : end3 x3 x4 x5 (ix2 0 k) = (((C 3).cum 63 k : ℝ) : EReal) := by
  have h : vcum x3 x4 x5 (ix2 (255 : Fin 512) k) = _ := cum_eval H 3 63 k
  pointwise [k0_pay26]
  exact h
theorem gam3_eval (k : Fin 128) : gam3 x3 x4 x5 (ix2 0 k) = (((C 3).gam k : ℝ) : EReal) := by
  pointwise [k0_pay40]
  rw [end3_eval H, Ideal.exp_coe, Chunk.gam]
theorem end4_eval (k : Fin 128) : end4 x3 x4 x5 (ix2 0 k) = (((C 4).cum 63 k : ℝ) : EReal) := by
  have h : vcum x3 x4 x5 (ix2 (319 : Fin 512) k) = _ := cum_eval H 4 63 k
  pointwise [k0_pay27]
  exact h
theorem gam4_eval (k : Fin 128) : gam4 x3 x4 x5 (ix2 0 k) = (((C 4).gam k : ℝ) : EReal) := by
  pointwise [k0_pay41]
  rw [end4_eval H, Ideal.exp_coe, Chunk.gam]
theorem end5_eval (k : Fin 128) : end5 x3 x4 x5 (ix2 0 k) = (((C 5).cum 63 k : ℝ) : EReal) := by
  have h : vcum x3 x4 x5 (ix2 (383 : Fin 512) k) = _ := cum_eval H 5 63 k
  pointwise [k0_pay28]
  exact h
theorem gam5_eval (k : Fin 128) : gam5 x3 x4 x5 (ix2 0 k) = (((C 5).gam k : ℝ) : EReal) := by
  pointwise [k0_pay42]
  rw [end5_eval H, Ideal.exp_coe, Chunk.gam]
theorem end6_eval (k : Fin 128) : end6 x3 x4 x5 (ix2 0 k) = (((C 6).cum 63 k : ℝ) : EReal) := by
  have h : vcum x3 x4 x5 (ix2 (447 : Fin 512) k) = _ := cum_eval H 6 63 k
  pointwise [k0_pay29]
  exact h
theorem gam6_eval (k : Fin 128) : gam6 x3 x4 x5 (ix2 0 k) = (((C 6).gam k : ℝ) : EReal) := by
  pointwise [k0_pay43]
  rw [end6_eval H, Ideal.exp_coe, Chunk.gam]
theorem end7_eval (k : Fin 128) : end7 x3 x4 x5 (ix2 0 k) = (((C 7).cum 63 k : ℝ) : EReal) := by
  have h : vcum x3 x4 x5 (ix2 (511 : Fin 512) k) = _ := cum_eval H 7 63 k
  pointwise [k0_pay30]
  exact h
theorem gam7_eval (k : Fin 128) : gam7 x3 x4 x5 (ix2 0 k) = (((C 7).gam k : ℝ) : EReal) := by
  pointwise [k0_pay44]
  rw [end7_eval H, Ideal.exp_coe, Chunk.gam]
omit H in
theorem pick8 (e : Fin 8 → EReal) (i : Fin 8) (l : Fin 64) : (if h : (ri i l : ℕ) < 64 then e 0 else if h : (ri i l : ℕ) - 64 < 64 then e 1 else if h : (ri i l : ℕ) - 64 - 64 < 64 then e 2 else if h : (ri i l : ℕ) - 64 - 64 - 64 < 64 then e 3 else if h : (ri i l : ℕ) - 64 - 64 - 64 - 64 < 64 then e 4 else if h : (ri i l : ℕ) - 64 - 64 - 64 - 64 - 64 < 64 then e 5 else if h : (ri i l : ℕ) - 64 - 64 - 64 - 64 - 64 - 64 < 64 then e 6 else e 7) = e i := by
  have hl := l.isLt
  obtain ⟨i, hi⟩ := i
  have hr : ((ri ⟨i, hi⟩ l : Fin 512) : ℕ) = 64 * i + l := rfl
  interval_cases i <;> simp (disch := omega) only [dif_pos, dif_neg] <;> rfl

theorem dec_eval (i : Fin 8) (l : Fin 64) (k : Fin 128) : vdec x3 x4 x5 (ix2 (ri i l) k) = (((C i).dec l k : ℝ) : EReal) := by
  have hc := cum_eval H i l k
  pointwise [k0_pay36,k0_pay31,k0_pay32,k0_pay33,k0_pay34,k0_pay35]
  rw [hc]
  rw [show k0_pay23 (F := Ideal) k0_pay19 (k0_pay20 (k0_pay17 x3 x4 x5) (k0_pay18 x3 x4 x5)) k0_pay21 (ix2 0 k) = _ from end0_eval H k]
  rw [show k0_pay24 (F := Ideal) k0_pay19 (k0_pay20 (k0_pay17 x3 x4 x5) (k0_pay18 x3 x4 x5)) k0_pay21 (ix2 0 k) = _ from end1_eval H k]
  rw [show k0_pay25 (F := Ideal) k0_pay19 (k0_pay20 (k0_pay17 x3 x4 x5) (k0_pay18 x3 x4 x5)) k0_pay21 (ix2 0 k) = _ from end2_eval H k]
  rw [show k0_pay26 (F := Ideal) k0_pay19 (k0_pay20 (k0_pay17 x3 x4 x5) (k0_pay18 x3 x4 x5)) k0_pay21 (ix2 0 k) = _ from end3_eval H k]
  rw [show k0_pay27 (F := Ideal) k0_pay19 (k0_pay20 (k0_pay17 x3 x4 x5) (k0_pay18 x3 x4 x5)) k0_pay21 (ix2 0 k) = _ from end4_eval H k]
  rw [end5_eval H]
  rw [end6_eval H]
  rw [end7_eval H]
  rw [Chunk.dec, ← Ideal.exp_coe, EReal.coe_sub]
  exact congrArg (fun z => Ideal.exp (z - _)) (pick8 (fun i => (((C i).cum 63 k : ℝ) : EReal)) i l)

theorem kd_eval (i : Fin 8) (l : Fin 64) (k : Fin 128) : vkd x3 x4 x5 x1 (ix2 (ri i l) k) = (((C i).kd l k : ℝ) : EReal) := by
  have hd : k0_pay36 (vcum x3 x4 x5) (end5 x3 x4 x5) (end6 x3 x4 x5) (end7 x3 x4 x5) (row0 x3 x4 x5) (row1 x3 x4 x5) (row2 x3 x4 x5) (row3 x3 x4 x5) (row4 x3 x4 x5) (ix2 (ri i l) k) = _ := dec_eval H i l k
  pointwise [k0_pay45]
  rw [hd, H.k, ← EReal.coe_mul, Chunk.kd]
theorem kd16_eval (i : Fin 8) (l : Fin 64) (k : Fin 128) : vkd16 x3 x4 x5 x1 (ix2 (ri i l) k) = (((C i).kd l k : ℝ) : EReal) := by
  have hd := kd_eval H i l k
  pointwise [k0_pay46]
  exact hd
theorem qs_eval (i : Fin 8) (l : Fin 64) (k : Fin 128) : k0_pay47 (F := Ideal) x0 (ix2 (ri i l) k) = (((C i).qs l k : ℝ) : EReal) := by
  pointwise [k0_pay47]
  rw [H.q, ofBits_scale_f32, ← EReal.coe_mul, Chunk.qs]

variable {D : FVec Ideal S512x256 .bf16} (hD : ∀ i l v, D (ix2 (ri i l) v) = (((C i).dO l v : ℝ) : EReal))
include hD

theorem dG0_eval (v : Fin 256) (k : Fin 128) : dG0 D x0 (ix3 0 v k) = ((∑ l, (C 0).dO l v * (C 0).qs l k : ℝ) : EReal) := by
  have h1 : ∀ l : Fin 64, D (ix2 (⟨l, by omega⟩ : Fin 512) v) = _ := fun l => (congrArg (fun p => D (ix2 p v)) (show (⟨l, by omega⟩ : Fin 512) = ri 0 l from Fin.ext (by show _ = 64 * 0 + (l : ℕ); simp))).trans (hD 0 l v)
  have h2 : ∀ l : Fin 64, k0_pay47 (F := Ideal) x0 (ix2 (⟨l, by omega⟩ : Fin 512) k) = _ := fun l => (congrArg (fun p => k0_pay47 (F := Ideal) x0 (ix2 p k)) (show (⟨l, by omega⟩ : Fin 512) = ri 0 l from Fin.ext (by show _ = 64 * 0 + (l : ℕ); simp))).trans (qs_eval H 0 l k)
  pointwise [k0_pay48]
  simp only [h1, h2, ← EReal.coe_mul, ← coe_sum]
theorem dG1_eval (v : Fin 256) (k : Fin 128) : dG1 D x0 (ix3 0 v k) = ((∑ l, (C 1).dO l v * (C 1).qs l k : ℝ) : EReal) := by
  have h1 : ∀ l : Fin 64, D (ix2 (⟨64 + l, by omega⟩ : Fin 512) v) = _ := fun l => (congrArg (fun p => D (ix2 p v)) (show (⟨64 + l, by omega⟩ : Fin 512) = ri 1 l from Fin.ext (by show _ = 64 * 1 + (l : ℕ); simp))).trans (hD 1 l v)
  have h2 : ∀ l : Fin 64, k0_pay47 (F := Ideal) x0 (ix2 (⟨64 + l, by omega⟩ : Fin 512) k) = _ := fun l => (congrArg (fun p => k0_pay47 (F := Ideal) x0 (ix2 p k)) (show (⟨64 + l, by omega⟩ : Fin 512) = ri 1 l from Fin.ext (by show _ = 64 * 1 + (l : ℕ); simp))).trans (qs_eval H 1 l k)
  pointwise [k0_pay49]
  simp only [h1, h2, ← EReal.coe_mul, ← coe_sum]
theorem dG2_eval (v : Fin 256) (k : Fin 128) : dG2 D x0 (ix3 0 v k) = ((∑ l, (C 2).dO l v * (C 2).qs l k : ℝ) : EReal) := by
  have h1 : ∀ l : Fin 64, D (ix2 (⟨128 + l, by omega⟩ : Fin 512) v) = _ := fun l => (congrArg (fun p => D (ix2 p v)) (show (⟨128 + l, by omega⟩ : Fin 512) = ri 2 l from Fin.ext (by show _ = 64 * 2 + (l : ℕ); simp))).trans (hD 2 l v)
  have h2 : ∀ l : Fin 64, k0_pay47 (F := Ideal) x0 (ix2 (⟨128 + l, by omega⟩ : Fin 512) k) = _ := fun l => (congrArg (fun p => k0_pay47 (F := Ideal) x0 (ix2 p k)) (show (⟨128 + l, by omega⟩ : Fin 512) = ri 2 l from Fin.ext (by show _ = 64 * 2 + (l : ℕ); simp))).trans (qs_eval H 2 l k)
  pointwise [k0_pay51, k0_pay50]
  simp only [h1, h2, ← EReal.coe_mul, ← coe_sum]
theorem dG3_eval (v : Fin 256) (k : Fin 128) : dG3 D x0 (ix3 0 v k) = ((∑ l, (C 3).dO l v * (C 3).qs l k : ℝ) : EReal) := by
  have h1 : ∀ l : Fin 64, D (ix2 (⟨192 + l, by omega⟩ : Fin 512) v) = _ := fun l => (congrArg (fun p => D (ix2 p v)) (show (⟨192 + l, by omega⟩ : Fin 512) = ri 3 l from Fin.ext (by show _ = 64 * 3 + (l : ℕ); simp))).trans (hD 3 l v)
  have h2 : ∀ l : Fin 64, k0_pay47 (F := Ideal) x0 (ix2 (⟨192 + l, by omega⟩ : Fin 512) k) = _ := fun l => (congrArg (fun p => k0_pay47 (F := Ideal) x0 (ix2 p k)) (show (⟨192 + l, by omega⟩ : Fin 512) = ri 3 l from Fin.ext (by show _ = 64 * 3 + (l : ℕ); simp))).trans (qs_eval H 3 l k)
  pointwise [k0_pay52]
  simp only [h1, h2, ← EReal.coe_mul, ← coe_sum]
theorem dG4_eval (v : Fin 256) (k : Fin 128) : dG4 D x0 (ix3 0 v k) = ((∑ l, (C 4).dO l v * (C 4).qs l k : ℝ) : EReal) := by
  have h1 : ∀ l : Fin 64, D (ix2 (⟨256 + l, by omega⟩ : Fin 512) v) = _ := fun l => (congrArg (fun p => D (ix2 p v)) (show (⟨256 + l, by omega⟩ : Fin 512) = ri 4 l from Fin.ext (by show _ = 64 * 4 + (l : ℕ); simp))).trans (hD 4 l v)
  have h2 : ∀ l : Fin 64, k0_pay47 (F := Ideal) x0 (ix2 (⟨256 + l, by omega⟩ : Fin 512) k) = _ := fun l => (congrArg (fun p => k0_pay47 (F := Ideal) x0 (ix2 p k)) (show (⟨256 + l, by omega⟩ : Fin 512) = ri 4 l from Fin.ext (by show _ = 64 * 4 + (l : ℕ); simp))).trans (qs_eval H 4 l k)
  pointwise [k0_pay53]
  simp only [h1, h2, ← EReal.coe_mul, ← coe_sum]
theorem dG5_eval (v : Fin 256) (k : Fin 128) : dG5 D x0 (ix3 0 v k) = ((∑ l, (C 5).dO l v * (C 5).qs l k : ℝ) : EReal) := by
  have h1 : ∀ l : Fin 64, D (ix2 (⟨320 + l, by omega⟩ : Fin 512) v) = _ := fun l => (congrArg (fun p => D (ix2 p v)) (show (⟨320 + l, by omega⟩ : Fin 512) = ri 5 l from Fin.ext (by show _ = 64 * 5 + (l : ℕ); simp))).trans (hD 5 l v)
  have h2 : ∀ l : Fin 64, k0_pay47 (F := Ideal) x0 (ix2 (⟨320 + l, by omega⟩ : Fin 512) k) = _ := fun l => (congrArg (fun p => k0_pay47 (F := Ideal) x0 (ix2 p k)) (show (⟨320 + l, by omega⟩ : Fin 512) = ri 5 l from Fin.ext (by show _ = 64 * 5 + (l : ℕ); simp))).trans (qs_eval H 5 l k)
  pointwise [k0_pay54]
  simp only [h1, h2, ← EReal.coe_mul, ← coe_sum]
theorem dG6_eval (v : Fin 256) (k : Fin 128) : dG6 D x0 (ix3 0 v k) = ((∑ l, (C 6).dO l v * (C 6).qs l k : ℝ) : EReal) := by
  have h1 : ∀ l : Fin 64, D (ix2 (⟨384 + l, by omega⟩ : Fin 512) v) = _ := fun l => (congrArg (fun p => D (ix2 p v)) (show (⟨384 + l, by omega⟩ : Fin 512) = ri 6 l from Fin.ext (by show _ = 64 * 6 + (l : ℕ); simp))).trans (hD 6 l v)
  have h2 : ∀ l : Fin 64, k0_pay47 (F := Ideal) x0 (ix2 (⟨384 + l, by omega⟩ : Fin 512) k) = _ := fun l => (congrArg (fun p => k0_pay47 (F := Ideal) x0 (ix2 p k)) (show (⟨384 + l, by omega⟩ : Fin 512) = ri 6 l from Fin.ext (by show _ = 64 * 6 + (l : ℕ); simp))).trans (qs_eval H 6 l k)
  pointwise [k0_pay55]
  simp only [h1, h2, ← EReal.coe_mul, ← coe_sum]
theorem dG7_eval (v : Fin 256) (k : Fin 128) : dG7 D x0 (ix3 0 v k) = ((∑ l, (C 7).dO l v * (C 7).qs l k : ℝ) : EReal) := by
  have h1 : ∀ l : Fin 64, D (ix2 (⟨448 + l, by omega⟩ : Fin 512) v) = _ := fun l => (congrArg (fun p => D (ix2 p v)) (show (⟨448 + l, by omega⟩ : Fin 512) = ri 7 l from Fin.ext (by show _ = 64 * 7 + (l : ℕ); simp))).trans (hD 7 l v)
  have h2 : ∀ l : Fin 64, k0_pay47 (F := Ideal) x0 (ix2 (⟨448 + l, by omega⟩ : Fin 512) k) = _ := fun l => (congrArg (fun p => k0_pay47 (F := Ideal) x0 (ix2 p k)) (show (⟨448 + l, by omega⟩ : Fin 512) = ri 7 l from Fin.ext (by show _ = 64 * 7 + (l : ℕ); simp))).trans (qs_eval H 7 l k)
  pointwise [k0_pay56]
  simp only [h1, h2, ← EReal.coe_mul, ← coe_sum]

variable {B : ℕ → Fin 128 → Fin 256 → ℝ} (hB : ∀ i : Fin 8, B i = (C i).back (B (i + 1)))
  {xs0 : FVec Ideal S256x128 .f32} (hx : ∀ v k, xs0 (ix2 v k) = ((B 8 k v : ℝ) : EReal))
include hx

theorem T7_eval (v : Fin 256) (k : Fin 128) : T7 xs0 D x0 (ix2 v k) = (((C 7).G (B 8) k v : ℝ) : EReal) := by
  have h := dG7_eval H hD v k
  pointwise [k0_pay57]
  rw [hx, h, ← EReal.coe_add, Chunk.G]
theorem U7_eval (v : Fin 256) (k : Fin 128) : U7 xs0 D x0 (ix3 0 v k) = (((C 7).G (B 8) k v : ℝ) : EReal) := by
  have h := T7_eval H hD hx v k
  pointwise [k0_pay58]
  exact h

include hB

theorem T6_eval (v : Fin 256) (k : Fin 128) : T6 xs0 D x0 x3 x4 x5 (ix2 v k) = (((C 6).G (B 7) k v : ℝ) : EReal) := by
  have h := dG6_eval H hD v k
  have h' : k0_pay57 (F := Ideal) xs0 (dG7 D x0) (ix2 v k) = _ := T7_eval H hD hx v k
  have hb : B 7 = (C 7).back (B 8) := hB 7
  pointwise [k0_pay59]
  rw [h', gam7_eval H, h, ← EReal.coe_mul, ← EReal.coe_add, hb]
  rfl
theorem U6_eval (v : Fin 256) (k : Fin 128) : U6 xs0 D x0 x3 x4 x5 (ix3 0 v k) = (((C 6).G (B 7) k v : ℝ) : EReal) := by
  have h := T6_eval H hD hB hx v k
  pointwise [k0_pay60]
  exact h
theorem T5_eval (v : Fin 256) (k : Fin 128) : T5 xs0 D x0 x3 x4 x5 (ix2 v k) = (((C 5).G (B 6) k v : ℝ) : EReal) := by
  have h := dG5_eval H hD v k
  have h' : k0_pay59 (F := Ideal) (gam7 x3 x4 x5) xs0 (dG7 D x0) (dG6 D x0) (ix2 v k) = _ := T6_eval H hD hB hx v k
  have hb : B 6 = (C 6).back (B 7) := hB 6
  pointwise [k0_pay61]
  rw [h', gam6_eval H, h, ← EReal.coe_mul, ← EReal.coe_add, hb]
  rfl
theorem U5_eval (v : Fin 256) (k : Fin 128) : U5 xs0 D x0 x3 x4 x5 (ix3 0 v k) = (((C 5).G (B 6) k v : ℝ) : EReal) := by
  have h := T5_eval H hD hB hx v k
  pointwise [k0_pay62]
  exact h
theorem T4_eval (v : Fin 256) (k : Fin 128) : T4 xs0 D x0 x3 x4 x5 (ix2 v k) = (((C 4).G (B 5) k v : ℝ) : EReal) := by
  have h := dG4_eval H hD v k
  have h' : k0_pay61 (F := Ideal) (gam6 x3 x4 x5) (gam7 x3 x4 x5) xs0 (dG7 D x0) (dG6 D x0) (dG5 D x0) (ix2 v k) = _ := T5_eval H hD hB hx v k
  have hb : B 5 = (C 5).back (B 6) := hB 5
  pointwise [k0_pay63]
  rw [h', gam5_eval H, h, ← EReal.coe_mul, ← EReal.coe_add, hb]
  rfl
theorem U4_eval (v : Fin 256) (k : Fin 128) : U4 xs0 D x0 x3 x4 x5 (ix3 0 v k) = (((C 4).G (B 5) k v : ℝ) : EReal) := by
  have h := T4_eval H hD hB hx v k
  pointwise [k0_pay64]
  exact h
theorem T3_eval (v : Fin 256) (k : Fin 128) : T3 xs0 D x0 x3 x4 x5 (ix2 v k) = (((C 3).G (B 4) k v : ℝ) : EReal) := by
  have h := dG3_eval H hD v k
  have h' : T4 xs0 D x0 x3 x4 x5 (ix2 v k) = _ := T4_eval H hD hB hx v k
  have hb : B 4 = (C 4).back (B 5) := hB 4
  pointwise [k0_pay65]
  rw [h', gam4_eval H, h, ← EReal.coe_mul, ← EReal.coe_add, hb]
  rfl
theorem U3_eval (v : Fin 256) (k : Fin 128) : U3 xs0 D x0 x3 x4 x5 (ix3 0 v k) = (((C 3).G (B 4) k v : ℝ) : EReal) := by
  have h := T3_eval H hD hB hx v k
  pointwise [k0_pay66]
  exact h
theorem T2_eval (v : Fin 256) (k : Fin 128) : T2 xs0 D x0 x3 x4 x5 (ix2 v k) = (((C 2).G (B 3) k v : ℝ) : EReal) := by
  have h := dG2_eval H hD v k
  have h' : k0_pay65 (F := Ideal) (gam4 x3 x4 x5) (T4 xs0 D x0 x3 x4 x5) (dG3 D x0) (ix2 v k) = _ := T3_eval H hD hB hx v k
  have hb : B 3 = (C 3).back (B 4) := hB 3
  pointwise [k0_pay67]
  rw [h', gam3_eval H, h, ← EReal.coe_mul, ← EReal.coe_add, hb]
  rfl
theorem U2_eval (v : Fin 256) (k : Fin 128) : U2 xs0 D x0 x3 x4 x5 (ix3 0 v k) = (((C 2).G (B 3) k v : ℝ) : EReal) := by
  have h := T2_eval H hD hB hx v k
  pointwise [k0_pay68]
  exact h
theorem T1_eval (v : Fin 256) (k : Fin 128) : T1 xs0 D x0 x3 x4 x5 (ix2 v k) = (((C 1).G (B 2) k v : ℝ) : EReal) := by
  have h := dG1_eval H hD v k
  have h' : k0_pay67 (F := Ideal) (gam3 x3 x4 x5) (gam4 x3 x4 x5) (T4 xs0 D x0 x3 x4 x5) (dG3 D x0) (dG2 D x0) (ix2 v k) = _ := T2_eval H hD hB hx v k
  have hb : B 2 = (C 2).back (B 3) := hB 2
  pointwise [k0_pay69]
  rw [h', gam2_eval H, h, ← EReal.coe_mul, ← EReal.coe_add, hb]
  rfl
theorem U1_eval (v : Fin 256) (k : Fin 128) : U1 xs0 D x0 x3 x4 x5 (ix3 0 v k) = (((C 1).G (B 2) k v : ℝ) : EReal) := by
  have h := T1_eval H hD hB hx v k
  pointwise [k0_pay70]
  exact h
theorem T0_eval (v : Fin 256) (k : Fin 128) : T0 xs0 D x0 x3 x4 x5 (ix2 v k) = (((C 0).G (B 1) k v : ℝ) : EReal) := by
  have h := dG0_eval H hD v k
  have h' : k0_pay69 (F := Ideal) (gam2 x3 x4 x5) (gam3 x3 x4 x5) (gam4 x3 x4 x5) (T4 xs0 D x0 x3 x4 x5) (dG3 D x0) (dG2 D x0) (dG1 D x0) (ix2 v k) = _ := T1_eval H hD hB hx v k
  have hb : B 1 = (C 1).back (B 2) := hB 1
  pointwise [k0_pay71]
  rw [h', gam1_eval H, h, ← EReal.coe_mul, ← EReal.coe_add, hb]
  rfl
theorem U0_eval (v : Fin 256) (k : Fin 128) : U0 xs0 D x0 x3 x4 x5 (ix3 0 v k) = (((C 0).G (B 1) k v : ℝ) : EReal) := by
  have h := T0_eval H hD hB hx v k
  pointwise [k0_pay72]
  exact h
theorem carry_eval (v : Fin 256) (k : Fin 128) : vcarry xs0 D x0 x3 x4 x5 (ix2 v k) = ((B 0 k v : ℝ) : EReal) := by
  have h := T0_eval H hD hB hx v k
  have hb : B 0 = (C 0).back (B 1) := hB 0
  pointwise [k0_pay73]
  rw [h, gam0_eval H, ← EReal.coe_mul, hb]
  rfl

end

end Cert.KernelIdeal.Gla
-- ==== Proof.Pure3.lean ====
module

public import proofs.«01_k».proof.Proof.Pure2

@[expose] public section

set_option maxRecDepth 16384

/-! What the kernel's body computes from one block of eight chunks, third part: the pieces of the outputs, chunk by chunk, and the gradient
of the decay gate over the block. -/

noncomputable section

open Idealize.ShloMosaic Idealize.ShloMosaic.TcCoe Idealize.SL.Sem
namespace Cert.KernelIdeal.Gla
open Cert.KernelIdeal Cert.KernelIdeal.Gen Cert.Gla

/-! ## The pieces of one chunk -/

section
variable (K : Chunk) (Bk : Fin 128 → Fin 256 → ℝ)
  {D : FVec Ideal S512x256 .bf16} {st : FVec Ideal S1x1x256x128 .bf16} {U : FVec Ideal S1x256x128 .f32} {kd : FVec Ideal S512x128 .bf16}
  {wv : FVec Ideal S64x256 .bf16} {ga : FVec Ideal S1x128 .f32}

theorem dq0_eval (hD : ∀ l v, D (ix2 (ri 0 l) v) = ((K.dO l v : ℝ) : EReal)) (hst : ∀ v k, st (ix4 0 0 v k) = ((K.sa k v : ℝ) : EReal))
    (l : Fin 64) (k : Fin 128) : k0_pay77 (F := Ideal) D st (ix2 l k) = ((K.dq l k : ℝ) : EReal) := by
  have h1 : ∀ v, D (ix2 (⟨l, by omega⟩ : Fin 512) v) = _ := fun v => (congrArg (fun p => D (ix2 p v)) (show (⟨l, by omega⟩ : Fin 512) = ri 0 l from Fin.ext (by show _ = 64 * 0 + (l : ℕ); simp))).trans (hD l v)
  pointwise [k0_pay77]
  simp only [h1, hst, ← EReal.coe_mul, ← coe_sum, ofBits_scale_f32]
  rfl
theorem dkd0_eval (hw : ∀ l v, wv (ix2 l v) = ((K.v l v : ℝ) : EReal)) (hU : ∀ v k, U (ix3 0 v k) = ((K.G Bk k v : ℝ) : EReal))
    (l : Fin 64) (k : Fin 128) : k0_pay78 (F := Ideal) U wv (ix2 l k) = ((K.dkd Bk l k : ℝ) : EReal) := by
  pointwise [k0_pay78, k0_pay76, k0_pay75]
  simp only [hw, hU, ← EReal.coe_mul, ← coe_sum]
  rfl
theorem dv0_eval (hk : ∀ l k, kd (ix2 (ri 0 l) k) = ((K.kd l k : ℝ) : EReal)) (hU : ∀ v k, U (ix3 0 v k) = ((K.G Bk k v : ℝ) : EReal))
    (l : Fin 64) (v : Fin 256) : k0_pay79 (F := Ideal) kd U (ix2 l v) = ((K.dv Bk l v : ℝ) : EReal) := by
  have h1 : ∀ k, kd (ix2 (⟨l, by omega⟩ : Fin 512) k) = _ := fun k => (congrArg (fun p => kd (ix2 p k)) (show (⟨l, by omega⟩ : Fin 512) = ri 0 l from Fin.ext (by show _ = 64 * 0 + (l : ℕ); simp))).trans (hk l k)
  pointwise [k0_pay79, k0_pay76, k0_pay75]
  simp only [h1, hU, ← EReal.coe_mul, ← coe_sum]
  rfl
theorem dgg0_eval {p : Ideal .f32} (hU : ∀ v k, U (ix3 0 v k) = ((K.G Bk k v : ℝ) : EReal)) (hg : ∀ k, ga (ix2 0 k) = ((K.gam k : ℝ) : EReal))
    (hst : ∀ v k, st (ix4 0 0 v k) * p = ((K.sb k v : ℝ) : EReal))
    (l : Fin 64) (k : Fin 128) : k0_pay81 (F := Ideal) ga p (k0_pay75 U) (k0_pay80 st) (ix2 l k) = ((K.dgg Bk k : ℝ) : EReal) := by
  pointwise [k0_pay81, k0_pay80, k0_pay75]
  simp only [hst, hU, hg, ← EReal.coe_mul, ← coe_sum]
  rfl
theorem dq1_eval (hD : ∀ l v, D (ix2 (ri 1 l) v) = ((K.dO l v : ℝ) : EReal)) (hst : ∀ v k, st (ix4 0 0 v k) = ((K.sa k v : ℝ) : EReal))
    (l : Fin 64) (k : Fin 128) : k0_pay84 (F := Ideal) D st (ix2 l k) = ((K.dq l k : ℝ) : EReal) := by
  have h1 : ∀ v, D (ix2 (⟨64 + l, by omega⟩ : Fin 512) v) = _ := fun v => (congrArg (fun p => D (ix2 p v)) (show (⟨64 + l, by omega⟩ : Fin 512) = ri 1 l from Fin.ext (by show _ = 64 * 1 + (l : ℕ); simp))).trans (hD l v)
  pointwise [k0_pay84]
  simp only [h1, hst, ← EReal.coe_mul, ← coe_sum, ofBits_scale_f32]
  rfl
theorem dkd1_eval (hw : ∀ l v, wv (ix2 l v) = ((K.v l v : ℝ) : EReal)) (hU : ∀ v k, U (ix3 0 v k) = ((K.G Bk k v : ℝ) : EReal))
    (l : Fin 64) (k : Fin 128) : k0_pay85 (F := Ideal) U wv (ix2 l k) = ((K.dkd Bk l k : ℝ) : EReal) := by
  pointwise [k0_pay85, k0_pay83, k0_pay82]
  simp only [hw, hU, ← EReal.coe_mul, ← coe_sum]
  rfl
theorem dv1_eval (hk : ∀ l k, kd (ix2 (ri 1 l) k) = ((K.kd l k : ℝ) : EReal)) (hU : ∀ v k, U (ix3 0 v k) = ((K.G Bk k v : ℝ) : EReal))
    (l : Fin 64) (v : Fin 256) : k0_pay86 (F := Ideal) kd U (ix2 l v) = ((K.dv Bk l v : ℝ) : EReal) := by
  have h1 : ∀ k, kd (ix2 (⟨64 + l, by omega⟩ : Fin 512) k) = _ := fun k => (congrArg (fun p => kd (ix2 p k)) (show (⟨64 + l, by omega⟩ : Fin 512) = ri 1 l from Fin.ext (by show _ = 64 * 1 + (l : ℕ); simp))).trans (hk l k)
  pointwise [k0_pay86, k0_pay83, k0_pay82]
  simp only [h1, hU, ← EReal.coe_mul, ← coe_sum]
  rfl
theorem dgg1_eval (hU : ∀ v k, U (ix3 0 v k) = ((K.G Bk k v : ℝ) : EReal)) (hg : ∀ k, ga (ix2 0 k) = ((K.gam k : ℝ) : EReal))
    (hst : ∀ v k, st (ix4 0 0 v k) = ((K.sb k v : ℝ) : EReal))
    (l : Fin 64) (k : Fin 128) : k0_pay87 (F := Ideal) ga (k0_pay82 U) st (ix2 l k) = ((K.dgg Bk k : ℝ) : EReal) := by
  pointwise [k0_pay87, k0_pay82]
  simp only [hst, hU, hg, ← EReal.coe_mul, ← coe_sum]
  rfl
theorem dq2_eval (hD : ∀ l v, D (ix2 (ri 2 l) v) = ((K.dO l v : ℝ) : EReal)) (hst : ∀ v k, st (ix4 0 0 v k) = ((K.sa k v : ℝ) : EReal))
    (l : Fin 64) (k : Fin 128) : k0_pay90 (F := Ideal) D st (ix2 l k) = ((K.dq l k : ℝ) : EReal) := by
  have h1 : ∀ v, D (ix2 (⟨128 + l, by omega⟩ : Fin 512) v) = _ := fun v => (congrArg (fun p => D (ix2 p v)) (show (⟨128 + l, by omega⟩ : Fin 512) = ri 2 l from Fin.ext (by show _ = 64 * 2 + (l : ℕ); simp))).trans (hD l v)
  pointwise [k0_pay90]
  simp only [h1, hst, ← EReal.coe_mul, ← coe_sum, ofBits_scale_f32]
  rfl
theorem dkd2_eval (hw : ∀ l v, wv (ix2 l v) = ((K.v l v : ℝ) : EReal)) (hU : ∀ v k, U (ix3 0 v k) = ((K.G Bk k v : ℝ) : EReal))
    (l : Fin 64) (k : Fin 128) : k0_pay91 (F := Ideal) U wv (ix2 l k) = ((K.dkd Bk l k : ℝ) : EReal) := by
  pointwise [k0_pay91, k0_pay89, k0_pay88]
  simp only [hw, hU, ← EReal.coe_mul, ← coe_sum]
  rfl
theorem dv2_eval (hk : ∀ l k, kd (ix2 (ri 2 l) k) = ((K.kd l k : ℝ) : EReal)) (hU : ∀ v k, U (ix3 0 v k) = ((K.G Bk k v : ℝ) : EReal))
    (l : Fin 64) (v : Fin 256) : k0_pay92 (F := Ideal) kd U (ix2 l v) = ((K.dv Bk l v : ℝ) : EReal) := by
  have h1 : ∀ k, kd (ix2 (⟨128 + l, by omega⟩ : Fin 512) k) = _ := fun k => (congrArg (fun p => kd (ix2 p k)) (show (⟨128 + l, by omega⟩ : Fin 512) = ri 2 l from Fin.ext (by show _ = 64 * 2 + (l : ℕ); simp))).trans (hk l k)
  pointwise [k0_pay92, k0_pay89, k0_pay88]
  simp only [h1, hU, ← EReal.coe_mul, ← coe_sum]
  rfl
theorem dgg2_eval (hU : ∀ v k, U (ix3 0 v k) = ((K.G Bk k v : ℝ) : EReal)) (hg : ∀ k, ga (ix2 0 k) = ((K.gam k : ℝ) : EReal))
    (hst : ∀ v k, st (ix4 0 0 v k) = ((K.sb k v : ℝ) : EReal))
    (l : Fin 64) (k : Fin 128) : k0_pay93 (F := Ideal) ga (k0_pay88 U) st (ix2 l k) = ((K.dgg Bk k : ℝ) : EReal) := by
  pointwise [k0_pay93, k0_pay88]
  simp only [hst, hU, hg, ← EReal.coe_mul, ← coe_sum]
  rfl
theorem dq3_eval (hD : ∀ l v, D (ix2 (ri 3 l) v) = ((K.dO l v : ℝ) : EReal)) (hst : ∀ v k, st (ix4 0 0 v k) = ((K.sa k v : ℝ) : EReal))
    (l : Fin 64) (k : Fin 128) : k0_pay96 (F := Ideal) D st (ix2 l k) = ((K.dq l k : ℝ) : EReal) := by
  have h1 : ∀ v, D (ix2 (⟨192 + l, by omega⟩ : Fin 512) v) = _ := fun v => (congrArg (fun p => D (ix2 p v)) (show (⟨192 + l, by omega⟩ : Fin 512) = ri 3 l from Fin.ext (by show _ = 64 * 3 + (l : ℕ); simp))).trans (hD l v)
  pointwise [k0_pay96]
  simp only [h1, hst, ← EReal.coe_mul, ← coe_sum, ofBits_scale_f32]
  rfl
theorem dkd3_eval (hw : ∀ l v, wv (ix2 l v) = ((K.v l v : ℝ) : EReal)) (hU : ∀ v k, U (ix3 0 v k) = ((K.G Bk k v : ℝ) : EReal))
    (l : Fin 64) (k : Fin 128) : k0_pay97 (F := Ideal) U wv (ix2 l k) = ((K.dkd Bk l k : ℝ) : EReal) := by
  pointwise [k0_pay97, k0_pay95, k0_pay94]
  simp only [hw, hU, ← EReal.coe_mul, ← coe_sum]
  rfl
theorem dv3_eval (hk : ∀ l k, kd (ix2 (ri 3 l) k) = ((K.kd l k : ℝ) : EReal)) (hU : ∀ v k, U (ix3 0 v k) = ((K.G Bk k v : ℝ) : EReal))
    (l : Fin 64) (v : Fin 256) : k0_pay98 (F := Ideal) kd U (ix2 l v) = ((K.dv Bk l v : ℝ) : EReal) := by
  have h1 : ∀ k, kd (ix2 (⟨192 + l, by omega⟩ : Fin 512) k) = _ := fun k => (congrArg (fun p => kd (ix2 p k)) (show (⟨192 + l, by omega⟩ : Fin 512) = ri 3 l from Fin.ext (by show _ = 64 * 3 + (l : ℕ); simp))).trans (hk l k)
  pointwise [k0_pay98, k0_pay95, k0_pay94]
  simp only [h1, hU, ← EReal.coe_mul, ← coe_sum]
  rfl
theorem dgg3_eval (hU : ∀ v k, U (ix3 0 v k) = ((K.G Bk k v : ℝ) : EReal)) (hg : ∀ k, ga (ix2 0 k) = ((K.gam k : ℝ) : EReal))
    (hst : ∀ v k, st (ix4 0 0 v k) = ((K.sb k v : ℝ) : EReal))
    (l : Fin 64) (k : Fin 128) : k0_pay99 (F := Ideal) ga (k0_pay94 U) st (ix2 l k) = ((K.dgg Bk k : ℝ) : EReal) := by
  pointwise [k0_pay99, k0_pay94]
  simp only [hst, hU, hg, ← EReal.coe_mul, ← coe_sum]
  rfl
theorem dq4_eval (hD : ∀ l v, D (ix2 (ri 4 l) v) = ((K.dO l v : ℝ) : EReal)) (hst : ∀ v k, st (ix4 0 0 v k) = ((K.sa k v : ℝ) : EReal))
    (l : Fin 64) (k : Fin 128) : k0_pay102 (F := Ideal) D st (ix2 l k) = ((K.dq l k : ℝ) : EReal) := by
  have h1 : ∀ v, D (ix2 (⟨256 + l, by omega⟩ : Fin 512) v) = _ := fun v => (congrArg (fun p => D (ix2 p v)) (show (⟨256 + l, by omega⟩ : Fin 512) = ri 4 l from Fin.ext (by show _ = 64 * 4 + (l : ℕ); simp))).trans (hD l v)
  pointwise [k0_pay102]
  simp only [h1, hst, ← EReal.coe_mul, ← coe_sum, ofBits_scale_f32]
  rfl
theorem dkd4_eval (hw : ∀ l v, wv (ix2 l v) = ((K.v l v : ℝ) : EReal)) (hU : ∀ v k, U (ix3 0 v k) = ((K.G Bk k v : ℝ) : EReal))
    (l : Fin 64) (k : Fin 128) : k0_pay103 (F := Ideal) U wv (ix2 l k) = ((K.dkd Bk l k : ℝ) : EReal) := by
  pointwise [k0_pay103, k0_pay101, k0_pay100]
  simp only [hw, hU, ← EReal.coe_mul, ← coe_sum]
  rfl
theorem dv4_eval (hk : ∀ l k, kd (ix2 (ri 4 l) k) = ((K.kd l k : ℝ) : EReal)) (hU : ∀ v k, U (ix3 0 v k) = ((K.G Bk k v : ℝ) : EReal))
    (l : Fin 64) (v : Fin 256) : k0_pay104 (F := Ideal) kd U (ix2 l v) = ((K.dv Bk l v : ℝ) : EReal) := by
  have h1 : ∀ k, kd (ix2 (⟨256 + l, by omega⟩ : Fin 512) k) = _ := fun k => (congrArg (fun p => kd (ix2 p k)) (show (⟨256 + l, by omega⟩ : Fin 512) = ri 4 l from Fin.ext (by show _ = 64 * 4 + (l : ℕ); simp))).trans (hk l k)
  pointwise [k0_pay104, k0_pay101, k0_pay100]
  simp only [h1, hU, ← EReal.coe_mul, ← coe_sum]
  rfl
theorem dgg4_eval (hU : ∀ v k, U (ix3 0 v k) = ((K.G Bk k v : ℝ) : EReal)) (hg : ∀ k, ga (ix2 0 k) = ((K.gam k : ℝ) : EReal))
    (hst : ∀ v k, st (ix4 0 0 v k) = ((K.sb k v : ℝ) : EReal))
    (l : Fin 64) (k : Fin 128) : k0_pay105 (F := Ideal) ga (k0_pay100 U) st (ix2 l k) = ((K.dgg Bk k : ℝ) : EReal) := by
  pointwise [k0_pay105, k0_pay100]
  simp only [hst, hU, hg, ← EReal.coe_mul, ← coe_sum]
  rfl
theorem dq5_eval (hD : ∀ l v, D (ix2 (ri 5 l) v) = ((K.dO l v : ℝ) : EReal)) (hst : ∀ v k, st (ix4 0 0 v k) = ((K.sa k v : ℝ) : EReal))
    (l : Fin 64) (k : Fin 128) : k0_pay108 (F := Ideal) D st (ix2 l k) = ((K.dq l k : ℝ) : EReal) := by
  have h1 : ∀ v, D (ix2 (⟨320 + l, by omega⟩ : Fin 512) v) = _ := fun v => (congrArg (fun p => D (ix2 p v)) (show (⟨320 + l, by omega⟩ : Fin 512) = ri 5 l from Fin.ext (by show _ = 64 * 5 + (l : ℕ); simp))).trans (hD l v)
  pointwise [k0_pay108]
  simp only [h1, hst, ← EReal.coe_mul, ← coe_sum, ofBits_scale_f32]
  rfl
theorem dkd5_eval (hw : ∀ l v, wv (ix2 l v) = ((K.v l v : ℝ) : EReal)) (hU : ∀ v k, U (ix3 0 v k) = ((K.G Bk k v : ℝ) : EReal))
    (l : Fin 64) (k : Fin 128) : k0_pay109 (F := Ideal) U wv (ix2 l k) = ((K.dkd Bk l k : ℝ) : EReal) := by
  pointwise [k0_pay109, k0_pay107, k0_pay106]
  simp only [hw, hU, ← EReal.coe_mul, ← coe_sum]
  rfl
theorem dv5_eval (hk : ∀ l k, kd (ix2 (ri 5 l) k) = ((K.kd l k : ℝ) : EReal)) (hU : ∀ v k, U (ix3 0 v k) = ((K.G Bk k v : ℝ) : EReal))
    (l : Fin 64) (v : Fin 256) : k0_pay111 (F := Ideal) (k0_pay107 U) (k0_pay110 kd) (constant S64x256 .f32 0x00000000#32) (ix2 l v) = ((K.dv Bk l v : ℝ) : EReal) := by
  have h1 : ∀ k, kd (ix2 (⟨320 + l, by omega⟩ : Fin 512) k) = _ := fun k => (congrArg (fun p => kd (ix2 p k)) (show (⟨320 + l, by omega⟩ : Fin 512) = ri 5 l from Fin.ext (by show _ = 64 * 5 + (l : ℕ); simp))).trans (hk l k)
  pointwise [k0_pay111, k0_pay110, k0_pay107, k0_pay106]
  simp only [h1, hU, ← EReal.coe_mul, ← coe_sum]
  rfl
theorem dgg5_eval (hU : ∀ v k, U (ix3 0 v k) = ((K.G Bk k v : ℝ) : EReal)) (hg : ∀ k, ga (ix2 0 k) = ((K.gam k : ℝ) : EReal))
    (hst : ∀ v k, st (ix4 0 0 v k) = ((K.sb k v : ℝ) : EReal))
    (l : Fin 64) (k : Fin 128) : k0_pay112 (F := Ideal) ga (k0_pay106 U) st (ix2 l k) = ((K.dgg Bk k : ℝ) : EReal) := by
  pointwise [k0_pay112, k0_pay106]
  simp only [hst, hU, hg, ← EReal.coe_mul, ← coe_sum]
  rfl
theorem dq6_eval (hD : ∀ l v, D (ix2 (ri 6 l) v) = ((K.dO l v : ℝ) : EReal)) (hst : ∀ v k, st (ix4 0 0 v k) = ((K.sa k v : ℝ) : EReal))
    (l : Fin 64) (k : Fin 128) : k0_pay115 (F := Ideal) D st (ix2 l k) = ((K.dq l k : ℝ) : EReal) := by
  have h1 : ∀ v, D (ix2 (⟨384 + l, by omega⟩ : Fin 512) v) = _ := fun v => (congrArg (fun p => D (ix2 p v)) (show (⟨384 + l, by omega⟩ : Fin 512) = ri 6 l from Fin.ext (by show _ = 64 * 6 + (l : ℕ); simp))).trans (hD l v)
  pointwise [k0_pay115]
  simp only [h1, hst, ← EReal.coe_mul, ← coe_sum, ofBits_scale_f32]
  rfl
theorem dkd6_eval (hw : ∀ l v, wv (ix2 l v) = ((K.v l v : ℝ) : EReal)) (hU : ∀ v k, U (ix3 0 v k) = ((K.G Bk k v : ℝ) : EReal))
    (l : Fin 64) (k : Fin 128) : k0_pay116 (F := Ideal) U wv (ix2 l k) = ((K.dkd Bk l k : ℝ) : EReal) := by
  pointwise [k0_pay116, k0_pay114, k0_pay113]
  simp only [hw, hU, ← EReal.coe_mul, ← coe_sum]
  rfl
theorem dv6_eval (hk : ∀ l k, kd (ix2 (ri 6 l) k) = ((K.kd l k : ℝ) : EReal)) (hU : ∀ v k, U (ix3 0 v k) = ((K.G Bk k v : ℝ) : EReal))
    (l : Fin 64) (v : Fin 256) : k0_pay117 (F := Ideal) kd (k0_pay114 U) (ix2 l v) = ((K.dv Bk l v : ℝ) : EReal) := by
  have h1 : ∀ k, kd (ix2 (⟨384 + l, by omega⟩ : Fin 512) k) = _ := fun k => (congrArg (fun p => kd (ix2 p k)) (show (⟨384 + l, by omega⟩ : Fin 512) = ri 6 l from Fin.ext (by show _ = 64 * 6 + (l : ℕ); simp))).trans (hk l k)
  pointwise [k0_pay117, k0_pay114, k0_pay113]
  simp only [h1, hU, ← EReal.coe_mul, ← coe_sum]
  rfl
theorem dgg6_eval (hU : ∀ v k, U (ix3 0 v k) = ((K.G Bk k v : ℝ) : EReal)) (hg : ∀ k, ga (ix2 0 k) = ((K.gam k : ℝ) : EReal))
    (hst : ∀ v k, st (ix4 0 0 v k) = ((K.sb k v : ℝ) : EReal))
    (l : Fin 64) (k : Fin 128) : k0_pay118 (F := Ideal) ga (k0_pay113 U) st (ix2 l k) = ((K.dgg Bk k : ℝ) : EReal) := by
  pointwise [k0_pay118, k0_pay113]
  simp only [hst, hU, hg, ← EReal.coe_mul, ← coe_sum]
  rfl
theorem dq7_eval (hD : ∀ l v, D (ix2 (ri 7 l) v) = ((K.dO l v : ℝ) : EReal)) (hst : ∀ v k, st (ix4 0 0 v k) = ((K.sa k v : ℝ) : EReal))
    (l : Fin 64) (k : Fin 128) : k0_pay121 (F := Ideal) D st (ix2 l k) = ((K.dq l k : ℝ) : EReal) := by
  have h1 : ∀ v, D (ix2 (⟨448 + l, by omega⟩ : Fin 512) v) = _ := fun v => (congrArg (fun p => D (ix2 p v)) (show (⟨448 + l, by omega⟩ : Fin 512) = ri 7 l from Fin.ext (by show _ = 64 * 7 + (l : ℕ); simp))).trans (hD l v)
  pointwise [k0_pay121]
  simp only [h1, hst, ← EReal.coe_mul, ← coe_sum, ofBits_scale_f32]
  rfl
theorem dkd7_eval (hw : ∀ l v, wv (ix2 l v) = ((K.v l v : ℝ) : EReal)) (hU : ∀ v k, U (ix3 0 v k) = ((K.G Bk k v : ℝ) : EReal))
    (l : Fin 64) (k : Fin 128) : k0_pay123 (F := Ideal) (k0_pay122 U wv) (ix2 l k) = ((K.dkd Bk l k : ℝ) : EReal) := by
  pointwise [k0_pay123, k0_pay122, k0_pay120, k0_pay119]
  simp only [hw, hU, ← EReal.coe_mul, ← coe_sum]
  rfl
theorem dv7_eval (hk : ∀ l k, kd (ix2 (ri 7 l) k) = ((K.kd l k : ℝ) : EReal)) (hU : ∀ v k, U (ix3 0 v k) = ((K.G Bk k v : ℝ) : EReal))
    (l : Fin 64) (v : Fin 256) : k0_pay124 (F := Ideal) kd (k0_pay120 U) (ix2 l v) = ((K.dv Bk l v : ℝ) : EReal) := by
  have h1 : ∀ k, kd (ix2 (⟨448 + l, by omega⟩ : Fin 512) k) = _ := fun k => (congrArg (fun p => kd (ix2 p k)) (show (⟨448 + l, by omega⟩ : Fin 512) = ri 7 l from Fin.ext (by show _ = 64 * 7 + (l : ℕ); simp))).trans (hk l k)
  pointwise [k0_pay124, k0_pay120, k0_pay119]
  simp only [h1, hU, ← EReal.coe_mul, ← coe_sum]
  rfl
theorem dgg7_eval (hU : ∀ v k, U (ix3 0 v k) = ((K.G Bk k v : ℝ) : EReal)) (hg : ∀ k, ga (ix2 0 k) = ((K.gam k : ℝ) : EReal))
    (hst : ∀ v k, st (ix4 0 0 v k) = ((K.sb k v : ℝ) : EReal))
    (l : Fin 64) (k : Fin 128) : k0_pay125 (F := Ideal) ga (k0_pay119 U) st (ix2 l k) = ((K.dgg Bk k : ℝ) : EReal) := by
  pointwise [k0_pay125, k0_pay119]
  simp only [hst, hU, hg, ← EReal.coe_mul, ← coe_sum]
  rfl
end

/-! ## The gradient of the decay gate over the block -/

/-- The running sum of `e`, as the body has it. -/
abbrev vp132 : IVec S512x1 32 := k0_pay132 64#32 k0_pay128 k0_pay129 k0_pay130 k0_pay131
/-- The first four steps, and the fifth. -/
theorem vs4_eq (E : FVec Ideal S512x128 .f32) : k0_pay133 E 64#32 k0_pay128 k0_pay129 k0_pay130 k0_pay131 =
    sstep vp132 8#32 (sstep vp132 4#32 (sstep vp132 2#32 (sstep vp132 1#32 E))) := by
  unfold k0_pay133; rfl
theorem addf_vs5 (E : FVec Ideal S512x128 .f32) : addf (k0_pay133 E 64#32 k0_pay128 k0_pay129 k0_pay130 k0_pay131) (k0_pay134 E 64#32 k0_pay128 k0_pay129 k0_pay130 k0_pay131) =
    sstep vp132 16#32 (k0_pay133 E 64#32 k0_pay128 k0_pay129 k0_pay130 k0_pay131) := by
  unfold k0_pay134; rfl
/-- The gradient of the decay gate's argument, as the body has it. -/
abbrev vdfg (x3 : FVec Ideal S512x128 .bf16) (x4 : FVec Ideal S128x128 .bf16) (x5 : FVec Ideal S1x128 .f32) (E GG : FVec Ideal S512x128 .f32) : FVec Ideal S512x128 .f32 :=
  k0_pay135 (k0_pay17 x3 x4 x5) E GG vp132 (k0_pay133 E 64#32 k0_pay128 k0_pay129 k0_pay130 k0_pay131) (k0_pay134 E 64#32 k0_pay128 k0_pay129 k0_pay130 k0_pay131)
theorem vdfg_eq (x3 : FVec Ideal S512x128 .bf16) (x4 : FVec Ideal S128x128 .bf16) (x5 : FVec Ideal S1x128 .f32) (E GG : FVec Ideal S512x128 .f32) : vdfg x3 x4 x5 E GG =
    mulf (mulf (addf GG (subf (sstep vp132 32#32 (sstep vp132 16#32 (sstep vp132 8#32 (sstep vp132 4#32 (sstep vp132 2#32 (sstep vp132 1#32 E)))))) E))
      (broadcast S512x128 (Scalar.ofBits .f32 0x3D800000#32)))
      (divf (broadcast S512x128 (Scalar.ofBits .f32 0x3F800000#32)) (addf (broadcast S512x128 (Scalar.ofBits .f32 0x3F800000#32)) (exp (subf (broadcast S512x128 (Scalar.ofBits .f32 0x00000000#32))
        (subf (broadcast S512x128 (Scalar.ofBits .f32 0x00000000#32)) (k0_pay17 x3 x4 x5)))))) := by
  rw [← vs4_eq, ← addf_vs5]; unfold vdfg k0_pay135; rfl

section
variable {C : Fin 8 → Chunk} {x0 x1 x3 : FVec Ideal S512x128 .bf16} {x4 : FVec Ideal S128x128 .bf16} {x5 : FVec Ideal S1x128 .f32}
  (H : BlkK C x0 x1 x3 x4 x5) (B : ℕ → Fin 128 → Fin 256 → ℝ)
  {W GG : FVec Ideal S512x128 .f32} (hW : ∀ i l k, W (ix2 (ri i l) k) = (((C i).dkd (B (i + 1)) l k : ℝ) : EReal))
  (hG : ∀ i l k, GG (ix2 (ri i l) k) = (((C i).dgg (B (i + 1)) k : ℝ) : EReal))
include H hW

theorem dk_eval (i : Fin 8) (l : Fin 64) (k : Fin 128) : k0_pay126 (F := Ideal) (vdec x3 x4 x5) W (ix2 (ri i l) k) = (((C i).dk (B (i + 1)) l k : ℝ) : EReal) := by
  have hd := dec_eval H i l k
  pointwise [k0_pay126]
  rw [hW, hd, ← EReal.coe_mul]
  rfl
theorem e_eval (i : Fin 8) (l : Fin 64) (k : Fin 128) : k0_pay127 (F := Ideal) (vkd x3 x4 x5 x1) W (ix2 (ri i l) k) = (((C i).e (B (i + 1)) l k : ℝ) : EReal) := by
  have hd := kd_eval H i l k
  pointwise [k0_pay127]
  rw [hW, hd, ← EReal.coe_mul]
  rfl

include hG
theorem dfg_eval (i : Fin 8) (l : Fin 64) (k : Fin 128) :
    vdfg x3 x4 x5 (k0_pay127 (vkd x3 x4 x5 x1) W) GG (ix2 (ri i l) k) = (((C i).dfg (B (i + 1)) l k : ℝ) : EReal) := by
  have he := e_eval H B hW
  have hr := ssteps_eval pos132 (fun i l k => (C i).e (B (i + 1)) l k) he i l k
  have hf := fg_eval H i l k
  have hg := hG i l k
  have he' := he i l k
  rw [vdfg_eq]
  generalize k0_pay127 (F := Ideal) (vkd x3 x4 x5 x1) W = E at hr he'
  generalize sstep vp132 32#32 _ = S at hr ⊢
  pointwise
  rw [show (S (ix2 (ri i l) k) : EReal) = _ from hr]
  rw [hg, he', hf, ofBits_sixteenth_f32, ← EReal.coe_zero, ← EReal.coe_sub 0 ((C i).fg l k), zero_sub, EReal.coe_zero, sigmoid_coe,
    ← EReal.coe_sub, ← EReal.coe_add, ← EReal.coe_mul, ← EReal.coe_mul]
  rfl
theorem dfg16_eval (i : Fin 8) (l : Fin 64) (k : Fin 128) :
    k0_pay136 (F := Ideal) (k0_pay17 x3 x4 x5) (k0_pay127 (vkd x3 x4 x5 x1) W) GG vp132
      (k0_pay133 (k0_pay127 (vkd x3 x4 x5 x1) W) 64#32 k0_pay128 k0_pay129 k0_pay130 k0_pay131)
      (k0_pay134 (k0_pay127 (vkd x3 x4 x5 x1) W) 64#32 k0_pay128 k0_pay129 k0_pay130 k0_pay131) (ix2 (ri i l) k) = (((C i).dfg (B (i + 1)) l k : ℝ) : EReal) :=
  dfg_eval H B hW hG i l k
/-- The sum of the block's rows, added to what was there. -/
theorem db_eval (xo : FVec Ideal S8x128 .f32) (a : Fin 8) (k : Fin 128) :
    k0_pay1 (F := Ideal) (k0_pay137 xo) (k0_pay138 (k0_pay17 x3 x4 x5) (k0_pay127 (vkd x3 x4 x5 x1) W) GG vp132
      (k0_pay133 (k0_pay127 (vkd x3 x4 x5 x1) W) 64#32 k0_pay128 k0_pay129 k0_pay130 k0_pay131)
      (k0_pay134 (k0_pay127 (vkd x3 x4 x5 x1) W) 64#32 k0_pay128 k0_pay129 k0_pay130 k0_pay131)) (ix2 a k)
      = xo (ix2 a k) + ((∑ i : Fin 8, ∑ l, (C i).dfg (B (i + 1)) l k : ℝ) : EReal) := by
  have h := dfg_eval H B hW hG
  pointwise [k0_pay1, k0_pay137, k0_pay138]
  refine congrArg (xo (ix2 a k) + ·) ?_
  refine (sum_ri _).trans ?_
  rw [coe_sum]
  refine Finset.sum_congr rfl fun i _ => ?_
  rw [coe_sum]
  exact Finset.sum_congr rfl fun l _ => h i l k
end

end Cert.KernelIdeal.Gla
-- ==== Proof.Out.lean ====
module

public import proofs.«01_k».proof.Proof.Pure3
public import proofs.«01_k».proof.Proof.Gen.KernelIdeal.Value
public import Idealize.ShloMosaic.Lib.Pipeline.ValueKit
public import Idealize.ShloMosaic.Lib.Pipeline.ReadBack

@[expose] public section

set_option maxRecDepth 16384

/-! What one grid point writes: the arrays the kernel's body leaves for a block of eight chunks. -/

noncomputable section

open Idealize.ShloMosaic Idealize.ShloMosaic.TcCoe Idealize.SL.Sem
namespace Cert.KernelIdeal.Gla
open Cert.KernelIdeal Cert.KernelIdeal.Gen Cert.Gla

/-! ## Eight stores, one for each chunk -/

theorem canon_k16 (f : Fin 8 → Fin 64 → Fin 128 → ℝ) {P0 P1 P2 P3 P4 P5 P6 P7 : Vec Ideal S64x128 .bf16}
    (g0 : ∀ l k, P0 (ix2 l k) = ((f 0 l k : ℝ) : EReal)) (g1 : ∀ l k, P1 (ix2 l k) = ((f 1 l k : ℝ) : EReal)) (g2 : ∀ l k, P2 (ix2 l k) = ((f 2 l k : ℝ) : EReal)) (g3 : ∀ l k, P3 (ix2 l k) = ((f 3 l k : ℝ) : EReal)) (g4 : ∀ l k, P4 (ix2 l k) = ((f 4 l k : ℝ) : EReal)) (g5 : ∀ l k, P5 (ix2 l k) = ((f 5 l k : ℝ) : EReal)) (g6 : ∀ l k, P6 (ix2 l k) = ((f 6 l k : ℝ) : EReal)) (g7 : ∀ l k, P7 (ix2 l k) = ((f 7 l k : ℝ) : EReal)) (i : Fin 8) (l : Fin 64) (k : Fin 128) :
    View.canon [(⟨Rect.unit ![448, 0] ![64, 128] inb_S512x128_S64x128_448_0, P7⟩ : View.Piece (Elt Ideal) S512x128 .bf16), (⟨Rect.unit ![384, 0] ![64, 128] inb_S512x128_S64x128_384_0, P6⟩ : View.Piece (Elt Ideal) S512x128 .bf16), (⟨Rect.unit ![320, 0] ![64, 128] inb_S512x128_S64x128_320_0, P5⟩ : View.Piece (Elt Ideal) S512x128 .bf16), (⟨Rect.unit ![256, 0] ![64, 128] inb_S512x128_S64x128_256_0, P4⟩ : View.Piece (Elt Ideal) S512x128 .bf16), (⟨Rect.unit ![192, 0] ![64, 128] inb_S512x128_S64x128_192_0, P3⟩ : View.Piece (Elt Ideal) S512x128 .bf16), (⟨Rect.unit ![128, 0] ![64, 128] inb_S512x128_S64x128_128_0, P2⟩ : View.Piece (Elt Ideal) S512x128 .bf16), (⟨Rect.unit ![64, 0] ![64, 128] inb_S512x128_S64x128_64_0, P1⟩ : View.Piece (Elt Ideal) S512x128 .bf16), (⟨Rect.unit ![0, 0] ![64, 128] inb_S512x128_S64x128_0_0, P0⟩ : View.Piece (Elt Ideal) S512x128 .bf16)] (ix2 (ri i l) k) = ((f i l k : ℝ) : EReal) := by
  have hl := l.isLt
  canon_tiles x h
  all_goals
    have ex : x = ix2 (⟨x 0, x0_lt⟩ : Fin 64) (⟨x 1, x1_lt⟩ : Fin 128) := by funext a; fin_cases a <;> rfl
    have hr : 64 * (i : ℕ) + l = _ := h0
    have hk : (k : ℕ) = _ := h1
    rw [ex]
  · rw [g7, show i = 7 from Fin.ext (show (i : ℕ) = 7 by omega), show l = ⟨x 0, x0_lt⟩ from Fin.ext (show (l : ℕ) = x 0 by omega), show k = ⟨x 1, x1_lt⟩ from Fin.ext hk]
  · rw [g6, show i = 6 from Fin.ext (show (i : ℕ) = 6 by omega), show l = ⟨x 0, x0_lt⟩ from Fin.ext (show (l : ℕ) = x 0 by omega), show k = ⟨x 1, x1_lt⟩ from Fin.ext hk]
  · rw [g5, show i = 5 from Fin.ext (show (i : ℕ) = 5 by omega), show l = ⟨x 0, x0_lt⟩ from Fin.ext (show (l : ℕ) = x 0 by omega), show k = ⟨x 1, x1_lt⟩ from Fin.ext hk]
  · rw [g4, show i = 4 from Fin.ext (show (i : ℕ) = 4 by omega), show l = ⟨x 0, x0_lt⟩ from Fin.ext (show (l : ℕ) = x 0 by omega), show k = ⟨x 1, x1_lt⟩ from Fin.ext hk]
  · rw [g3, show i = 3 from Fin.ext (show (i : ℕ) = 3 by omega), show l = ⟨x 0, x0_lt⟩ from Fin.ext (show (l : ℕ) = x 0 by omega), show k = ⟨x 1, x1_lt⟩ from Fin.ext hk]
  · rw [g2, show i = 2 from Fin.ext (show (i : ℕ) = 2 by omega), show l = ⟨x 0, x0_lt⟩ from Fin.ext (show (l : ℕ) = x 0 by omega), show k = ⟨x 1, x1_lt⟩ from Fin.ext hk]
  · rw [g1, show i = 1 from Fin.ext (show (i : ℕ) = 1 by omega), show l = ⟨x 0, x0_lt⟩ from Fin.ext (show (l : ℕ) = x 0 by omega), show k = ⟨x 1, x1_lt⟩ from Fin.ext hk]
  · rw [g0, show i = 0 from Fin.ext (show (i : ℕ) = 0 by omega), show l = ⟨x 0, x0_lt⟩ from Fin.ext (show (l : ℕ) = x 0 by omega), show k = ⟨x 1, x1_lt⟩ from Fin.ext hk]
theorem canon_k32 (f : Fin 8 → Fin 64 → Fin 128 → ℝ) {P0 P1 P2 P3 P4 P5 P6 P7 : Vec Ideal S64x128 .f32}
    (g0 : ∀ l k, P0 (ix2 l k) = ((f 0 l k : ℝ) : EReal)) (g1 : ∀ l k, P1 (ix2 l k) = ((f 1 l k : ℝ) : EReal)) (g2 : ∀ l k, P2 (ix2 l k) = ((f 2 l k : ℝ) : EReal)) (g3 : ∀ l k, P3 (ix2 l k) = ((f 3 l k : ℝ) : EReal)) (g4 : ∀ l k, P4 (ix2 l k) = ((f 4 l k : ℝ) : EReal)) (g5 : ∀ l k, P5 (ix2 l k) = ((f 5 l k : ℝ) : EReal)) (g6 : ∀ l k, P6 (ix2 l k) = ((f 6 l k : ℝ) : EReal)) (g7 : ∀ l k, P7 (ix2 l k) = ((f 7 l k : ℝ) : EReal)) (i : Fin 8) (l : Fin 64) (k : Fin 128) :
    View.canon [(⟨Rect.unit ![448, 0] ![64, 128] inb_S512x128_S64x128_448_0, P7⟩ : View.Piece (Elt Ideal) S512x128 .f32), (⟨Rect.unit ![384, 0] ![64, 128] inb_S512x128_S64x128_384_0, P6⟩ : View.Piece (Elt Ideal) S512x128 .f32), (⟨Rect.unit ![320, 0] ![64, 128] inb_S512x128_S64x128_320_0, P5⟩ : View.Piece (Elt Ideal) S512x128 .f32), (⟨Rect.unit ![256, 0] ![64, 128] inb_S512x128_S64x128_256_0, P4⟩ : View.Piece (Elt Ideal) S512x128 .f32), (⟨Rect.unit ![192, 0] ![64, 128] inb_S512x128_S64x128_192_0, P3⟩ : View.Piece (Elt Ideal) S512x128 .f32), (⟨Rect.unit ![128, 0] ![64, 128] inb_S512x128_S64x128_128_0, P2⟩ : View.Piece (Elt Ideal) S512x128 .f32), (⟨Rect.unit ![64, 0] ![64, 128] inb_S512x128_S64x128_64_0, P1⟩ : View.Piece (Elt Ideal) S512x128 .f32), (⟨Rect.unit ![0, 0] ![64, 128] inb_S512x128_S64x128_0_0, P0⟩ : View.Piece (Elt Ideal) S512x128 .f32)] (ix2 (ri i l) k) = ((f i l k : ℝ) : EReal) := by
  have hl := l.isLt
  canon_tiles x h
  all_goals
    have ex : x = ix2 (⟨x 0, x0_lt⟩ : Fin 64) (⟨x 1, x1_lt⟩ : Fin 128) := by funext a; fin_cases a <;> rfl
    have hr : 64 * (i : ℕ) + l = _ := h0
    have hk : (k : ℕ) = _ := h1
    rw [ex]
  · rw [g7, show i = 7 from Fin.ext (show (i : ℕ) = 7 by omega), show l = ⟨x 0, x0_lt⟩ from Fin.ext (show (l : ℕ) = x 0 by omega), show k = ⟨x 1, x1_lt⟩ from Fin.ext hk]
  · rw [g6, show i = 6 from Fin.ext (show (i : ℕ) = 6 by omega), show l = ⟨x 0, x0_lt⟩ from Fin.ext (show (l : ℕ) = x 0 by omega), show k = ⟨x 1, x1_lt⟩ from Fin.ext hk]
  · rw [g5, show i = 5 from Fin.ext (show (i : ℕ) = 5 by omega), show l = ⟨x 0, x0_lt⟩ from Fin.ext (show (l : ℕ) = x 0 by omega), show k = ⟨x 1, x1_lt⟩ from Fin.ext hk]
  · rw [g4, show i = 4 from Fin.ext (show (i : ℕ) = 4 by omega), show l = ⟨x 0, x0_lt⟩ from Fin.ext (show (l : ℕ) = x 0 by omega), show k = ⟨x 1, x1_lt⟩ from Fin.ext hk]
  · rw [g3, show i = 3 from Fin.ext (show (i : ℕ) = 3 by omega), show l = ⟨x 0, x0_lt⟩ from Fin.ext (show (l : ℕ) = x 0 by omega), show k = ⟨x 1, x1_lt⟩ from Fin.ext hk]
  · rw [g2, show i = 2 from Fin.ext (show (i : ℕ) = 2 by omega), show l = ⟨x 0, x0_lt⟩ from Fin.ext (show (l : ℕ) = x 0 by omega), show k = ⟨x 1, x1_lt⟩ from Fin.ext hk]
  · rw [g1, show i = 1 from Fin.ext (show (i : ℕ) = 1 by omega), show l = ⟨x 0, x0_lt⟩ from Fin.ext (show (l : ℕ) = x 0 by omega), show k = ⟨x 1, x1_lt⟩ from Fin.ext hk]
  · rw [g0, show i = 0 from Fin.ext (show (i : ℕ) = 0 by omega), show l = ⟨x 0, x0_lt⟩ from Fin.ext (show (l : ℕ) = x 0 by omega), show k = ⟨x 1, x1_lt⟩ from Fin.ext hk]
theorem canon_v16 (f : Fin 8 → Fin 64 → Fin 256 → ℝ) {P0 P1 P2 P3 P4 P5 P6 P7 : Vec Ideal S64x256 .bf16}
    (g0 : ∀ l k, P0 (ix2 l k) = ((f 0 l k : ℝ) : EReal)) (g1 : ∀ l k, P1 (ix2 l k) = ((f 1 l k : ℝ) : EReal)) (g2 : ∀ l k, P2 (ix2 l k) = ((f 2 l k : ℝ) : EReal)) (g3 : ∀ l k, P3 (ix2 l k) = ((f 3 l k : ℝ) : EReal)) (g4 : ∀ l k, P4 (ix2 l k) = ((f 4 l k : ℝ) : EReal)) (g5 : ∀ l k, P5 (ix2 l k) = ((f 5 l k : ℝ) : EReal)) (g6 : ∀ l k, P6 (ix2 l k) = ((f 6 l k : ℝ) : EReal)) (g7 : ∀ l k, P7 (ix2 l k) = ((f 7 l k : ℝ) : EReal)) (i : Fin 8) (l : Fin 64) (k : Fin 256) :
    View.canon [(⟨Rect.unit ![448, 0] ![64, 256] inb_S512x256_S64x256_448_0, P7⟩ : View.Piece (Elt Ideal) S512x256 .bf16), (⟨Rect.unit ![384, 0] ![64, 256] inb_S512x256_S64x256_384_0, P6⟩ : View.Piece (Elt Ideal) S512x256 .bf16), (⟨Rect.unit ![320, 0] ![64, 256] inb_S512x256_S64x256_320_0, P5⟩ : View.Piece (Elt Ideal) S512x256 .bf16), (⟨Rect.unit ![256, 0] ![64, 256] inb_S512x256_S64x256_256_0, P4⟩ : View.Piece (Elt Ideal) S512x256 .bf16), (⟨Rect.unit ![192, 0] ![64, 256] inb_S512x256_S64x256_192_0, P3⟩ : View.Piece (Elt Ideal) S512x256 .bf16), (⟨Rect.unit ![128, 0] ![64, 256] inb_S512x256_S64x256_128_0, P2⟩ : View.Piece (Elt Ideal) S512x256 .bf16), (⟨Rect.unit ![64, 0] ![64, 256] inb_S512x256_S64x256_64_0, P1⟩ : View.Piece (Elt Ideal) S512x256 .bf16), (⟨Rect.unit ![0, 0] ![64, 256] inb_S512x256_S64x256_0_0, P0⟩ : View.Piece (Elt Ideal) S512x256 .bf16)] (ix2 (ri i l) k) = ((f i l k : ℝ) : EReal) := by
  have hl := l.isLt
  canon_tiles x h
  all_goals
    have ex : x = ix2 (⟨x 0, x0_lt⟩ : Fin 64) (⟨x 1, x1_lt⟩ : Fin 256) := by funext a; fin_cases a <;> rfl
    have hr : 64 * (i : ℕ) + l = _ := h0
    have hk : (k : ℕ) = _ := h1
    rw [ex]
  · rw [g7, show i = 7 from Fin.ext (show (i : ℕ) = 7 by omega), show l = ⟨x 0, x0_lt⟩ from Fin.ext (show (l : ℕ) = x 0 by omega), show k = ⟨x 1, x1_lt⟩ from Fin.ext hk]
  · rw [g6, show i = 6 from Fin.ext (show (i : ℕ) = 6 by omega), show l = ⟨x 0, x0_lt⟩ from Fin.ext (show (l : ℕ) = x 0 by omega), show k = ⟨x 1, x1_lt⟩ from Fin.ext hk]
  · rw [g5, show i = 5 from Fin.ext (show (i : ℕ) = 5 by omega), show l = ⟨x 0, x0_lt⟩ from Fin.ext (show (l : ℕ) = x 0 by omega), show k = ⟨x 1, x1_lt⟩ from Fin.ext hk]
  · rw [g4, show i = 4 from Fin.ext (show (i : ℕ) = 4 by omega), show l = ⟨x 0, x0_lt⟩ from Fin.ext (show (l : ℕ) = x 0 by omega), show k = ⟨x 1, x1_lt⟩ from Fin.ext hk]
  · rw [g3, show i = 3 from Fin.ext (show (i : ℕ) = 3 by omega), show l = ⟨x 0, x0_lt⟩ from Fin.ext (show (l : ℕ) = x 0 by omega), show k = ⟨x 1, x1_lt⟩ from Fin.ext hk]
  · rw [g2, show i = 2 from Fin.ext (show (i : ℕ) = 2 by omega), show l = ⟨x 0, x0_lt⟩ from Fin.ext (show (l : ℕ) = x 0 by omega), show k = ⟨x 1, x1_lt⟩ from Fin.ext hk]
  · rw [g1, show i = 1 from Fin.ext (show (i : ℕ) = 1 by omega), show l = ⟨x 0, x0_lt⟩ from Fin.ext (show (l : ℕ) = x 0 by omega), show k = ⟨x 1, x1_lt⟩ from Fin.ext hk]
  · rw [g0, show i = 0 from Fin.ext (show (i : ℕ) = 0 by omega), show l = ⟨x 0, x0_lt⟩ from Fin.ext (show (l : ℕ) = x 0 by omega), show k = ⟨x 1, x1_lt⟩ from Fin.ext hk]
/-! ## One block -/

/-- The blocks at a grid point hold the eight chunks `C`, the states after and before them, and in `xs` what the later blocks give the state. -/
structure Blk (C : Fin 8 → Chunk) (B : ℕ → Fin 128 → Fin 256 → ℝ) (p : EReal) (x0 x1 : FVec Ideal S512x128 .bf16) (x2 : FVec Ideal S512x256 .bf16)
    (x3 : FVec Ideal S512x128 .bf16) (x4 : FVec Ideal S128x128 .bf16) (x5 : FVec Ideal S1x128 .f32) (x6 x7 x8 : FVec Ideal S512x256 .bf16)
    (x9 : FVec Ideal S1x256 .f32) (x10 : FVec Ideal S1x8x256x128 .bf16) (x11 : FVec Ideal S1x1x256x128 .bf16) (xs : FVec Ideal S256x128 .f32) : Prop where
  K : BlkK C x0 x1 x3 x4 x5
  N : BlkN C x6 x7 x8 x9
  V : ∀ i l v, x2 (ix2 (ri i l) v) = (((C i).v l v : ℝ) : EReal)
  S : ∀ i v k, x10 (ix4 0 i v k) = (((C i).sa k v : ℝ) : EReal)
  sb : ∀ i : Fin 7, ∀ k v, (C i.succ).sb k v = (C i.castSucc).sa k v
  s0 : ∀ v k, x11 (ix4 0 0 v k) * p = (((C 0).sb k v : ℝ) : EReal)
  back : ∀ i : Fin 8, B i = (C i).back (B (i + 1))
  X : ∀ v k, xs (ix2 v k) = ((B 8 k v : ℝ) : EReal)

section
variable {C : Fin 8 → Chunk} {B : ℕ → Fin 128 → Fin 256 → ℝ} {p : EReal} {x0 x1 : FVec Ideal S512x128 .bf16} {x2 : FVec Ideal S512x256 .bf16}
    {x3 : FVec Ideal S512x128 .bf16} {x4 : FVec Ideal S128x128 .bf16} {x5 : FVec Ideal S1x128 .f32} {x6 x7 x8 : FVec Ideal S512x256 .bf16}
    {x9 : FVec Ideal S1x256 .f32} {x10 : FVec Ideal S1x8x256x128 .bf16} {x11 : FVec Ideal S1x1x256x128 .bf16} {xs : FVec Ideal S256x128 .f32}
    (H : Blk C B p x0 x1 x2 x3 x4 x5 x6 x7 x8 x9 x10 x11 xs)
include H
/-- The gradient of the recurrence's output over the block. -/
abbrev vdO (x6 x7 x8 : FVec Ideal S512x256 .bf16) (x9 : FVec Ideal S1x256 .f32) : FVec Ideal S512x256 .bf16 :=
  k0_pay16 (k0_pay6 x7) (k0_pay7 x7) (k0_pay8 x8) (k0_pay9 x8) (k0_pay10 x6) x9
theorem Blk.D (i : Fin 8) (l : Fin 64) (v : Fin 256) : vdO x6 x7 x8 x9 (ix2 (ri i l) v) = (((C i).dO l v : ℝ) : EReal) := dO_eval H.N i l v

theorem Blk.hU0 (v : Fin 256) (k : Fin 128) : U0 xs (vdO x6 x7 x8 x9) x0 x3 x4 x5 (ix3 0 v k) = (((C 0).G (B 1) k v : ℝ) : EReal) := U0_eval H.K H.D H.back H.X v k
theorem Blk.st0 (v : Fin 256) (k : Fin 128) : (View.ld (Val := Elt Ideal) (e' := .bf16) x10 (Rect.unit (s := S1x8x256x128) ![0, 0, 0, 0] S1x1x256x128.size inb_S1x8x256x128_S1x1x256x128_0_0_0_0)) (ix4 0 0 v k) = (((C 0).sa k v : ℝ) : EReal) := by
  refine (congrArg x10 (funext fun a => Fin.ext ?_)).trans (H.S 0 v k)
  show _ + 1 * _ = _
  fin_cases a <;> simp [ix4]
theorem Blk.v0 (l : Fin 64) (v : Fin 256) : (View.ld (Val := Elt Ideal) (e' := .bf16) x2 (Rect.unit (s := S512x256) ![0, 0] S64x256.size inb_S512x256_S64x256_0_0)) (ix2 l v) = (((C 0).v l v : ℝ) : EReal) := by
  refine (congrArg x2 (funext fun a => Fin.ext ?_)).trans (H.V 0 l v)
  show _ + 1 * _ = _
  fin_cases a <;> simp [ix2, ri]
theorem Blk.hU1 (v : Fin 256) (k : Fin 128) : U1 xs (vdO x6 x7 x8 x9) x0 x3 x4 x5 (ix3 0 v k) = (((C 1).G (B 2) k v : ℝ) : EReal) := U1_eval H.K H.D H.back H.X v k
theorem Blk.st1 (v : Fin 256) (k : Fin 128) : (View.ld (Val := Elt Ideal) (e' := .bf16) x10 (Rect.unit (s := S1x8x256x128) ![0, 1, 0, 0] S1x1x256x128.size inb_S1x8x256x128_S1x1x256x128_0_1_0_0)) (ix4 0 0 v k) = (((C 1).sa k v : ℝ) : EReal) := by
  refine (congrArg x10 (funext fun a => Fin.ext ?_)).trans (H.S 1 v k)
  show _ + 1 * _ = _
  fin_cases a <;> simp [ix4]
theorem Blk.v1 (l : Fin 64) (v : Fin 256) : (View.ld (Val := Elt Ideal) (e' := .bf16) x2 (Rect.unit (s := S512x256) ![64, 0] S64x256.size inb_S512x256_S64x256_64_0)) (ix2 l v) = (((C 1).v l v : ℝ) : EReal) := by
  refine (congrArg x2 (funext fun a => Fin.ext ?_)).trans (H.V 1 l v)
  show _ + 1 * _ = _
  fin_cases a <;> simp [ix2, ri]
theorem Blk.hU2 (v : Fin 256) (k : Fin 128) : U2 xs (vdO x6 x7 x8 x9) x0 x3 x4 x5 (ix3 0 v k) = (((C 2).G (B 3) k v : ℝ) : EReal) := U2_eval H.K H.D H.back H.X v k
theorem Blk.st2 (v : Fin 256) (k : Fin 128) : (View.ld (Val := Elt Ideal) (e' := .bf16) x10 (Rect.unit (s := S1x8x256x128) ![0, 2, 0, 0] S1x1x256x128.size inb_S1x8x256x128_S1x1x256x128_0_2_0_0)) (ix4 0 0 v k) = (((C 2).sa k v : ℝ) : EReal) := by
  refine (congrArg x10 (funext fun a => Fin.ext ?_)).trans (H.S 2 v k)
  show _ + 1 * _ = _
  fin_cases a <;> simp [ix4]
theorem Blk.v2 (l : Fin 64) (v : Fin 256) : (View.ld (Val := Elt Ideal) (e' := .bf16) x2 (Rect.unit (s := S512x256) ![128, 0] S64x256.size inb_S512x256_S64x256_128_0)) (ix2 l v) = (((C 2).v l v : ℝ) : EReal) := by
  refine (congrArg x2 (funext fun a => Fin.ext ?_)).trans (H.V 2 l v)
  show _ + 1 * _ = _
  fin_cases a <;> simp [ix2, ri]
theorem Blk.hU3 (v : Fin 256) (k : Fin 128) : U3 xs (vdO x6 x7 x8 x9) x0 x3 x4 x5 (ix3 0 v k) = (((C 3).G (B 4) k v : ℝ) : EReal) := U3_eval H.K H.D H.back H.X v k
theorem Blk.st3 (v : Fin 256) (k : Fin 128) : (View.ld (Val := Elt Ideal) (e' := .bf16) x10 (Rect.unit (s := S1x8x256x128) ![0, 3, 0, 0] S1x1x256x128.size inb_S1x8x256x128_S1x1x256x128_0_3_0_0)) (ix4 0 0 v k) = (((C 3).sa k v : ℝ) : EReal) := by
  refine (congrArg x10 (funext fun a => Fin.ext ?_)).trans (H.S 3 v k)
  show _ + 1 * _ = _
  fin_cases a <;> simp [ix4]
theorem Blk.v3 (l : Fin 64) (v : Fin 256) : (View.ld (Val := Elt Ideal) (e' := .bf16) x2 (Rect.unit (s := S512x256) ![192, 0] S64x256.size inb_S512x256_S64x256_192_0)) (ix2 l v) = (((C 3).v l v : ℝ) : EReal) := by
  refine (congrArg x2 (funext fun a => Fin.ext ?_)).trans (H.V 3 l v)
  show _ + 1 * _ = _
  fin_cases a <;> simp [ix2, ri]
theorem Blk.hU4 (v : Fin 256) (k : Fin 128) : U4 xs (vdO x6 x7 x8 x9) x0 x3 x4 x5 (ix3 0 v k) = (((C 4).G (B 5) k v : ℝ) : EReal) := U4_eval H.K H.D H.back H.X v k
theorem Blk.st4 (v : Fin 256) (k : Fin 128) : (View.ld (Val := Elt Ideal) (e' := .bf16) x10 (Rect.unit (s := S1x8x256x128) ![0, 4, 0, 0] S1x1x256x128.size inb_S1x8x256x128_S1x1x256x128_0_4_0_0)) (ix4 0 0 v k) = (((C 4).sa k v : ℝ) : EReal) := by
  refine (congrArg x10 (funext fun a => Fin.ext ?_)).trans (H.S 4 v k)
  show _ + 1 * _ = _
  fin_cases a <;> simp [ix4]
theorem Blk.v4 (l : Fin 64) (v : Fin 256) : (View.ld (Val := Elt Ideal) (e' := .bf16) x2 (Rect.unit (s := S512x256) ![256, 0] S64x256.size inb_S512x256_S64x256_256_0)) (ix2 l v) = (((C 4).v l v : ℝ) : EReal) := by
  refine (congrArg x2 (funext fun a => Fin.ext ?_)).trans (H.V 4 l v)
  show _ + 1 * _ = _
  fin_cases a <;> simp [ix2, ri]
theorem Blk.hU5 (v : Fin 256) (k : Fin 128) : U5 xs (vdO x6 x7 x8 x9) x0 x3 x4 x5 (ix3 0 v k) = (((C 5).G (B 6) k v : ℝ) : EReal) := U5_eval H.K H.D H.back H.X v k
theorem Blk.st5 (v : Fin 256) (k : Fin 128) : (View.ld (Val := Elt Ideal) (e' := .bf16) x10 (Rect.unit (s := S1x8x256x128) ![0, 5, 0, 0] S1x1x256x128.size inb_S1x8x256x128_S1x1x256x128_0_5_0_0)) (ix4 0 0 v k) = (((C 5).sa k v : ℝ) : EReal) := by
  refine (congrArg x10 (funext fun a => Fin.ext ?_)).trans (H.S 5 v k)
  show _ + 1 * _ = _
  fin_cases a <;> simp [ix4]
theorem Blk.v5 (l : Fin 64) (v : Fin 256) : (View.ld (Val := Elt Ideal) (e' := .bf16) x2 (Rect.unit (s := S512x256) ![320, 0] S64x256.size inb_S512x256_S64x256_320_0)) (ix2 l v) = (((C 5).v l v : ℝ) : EReal) := by
  refine (congrArg x2 (funext fun a => Fin.ext ?_)).trans (H.V 5 l v)
  show _ + 1 * _ = _
  fin_cases a <;> simp [ix2, ri]
theorem Blk.hU6 (v : Fin 256) (k : Fin 128) : U6 xs (vdO x6 x7 x8 x9) x0 x3 x4 x5 (ix3 0 v k) = (((C 6).G (B 7) k v : ℝ) : EReal) := U6_eval H.K H.D H.back H.X v k
theorem Blk.st6 (v : Fin 256) (k : Fin 128) : (View.ld (Val := Elt Ideal) (e' := .bf16) x10 (Rect.unit (s := S1x8x256x128) ![0, 6, 0, 0] S1x1x256x128.size inb_S1x8x256x128_S1x1x256x128_0_6_0_0)) (ix4 0 0 v k) = (((C 6).sa k v : ℝ) : EReal) := by
  refine (congrArg x10 (funext fun a => Fin.ext ?_)).trans (H.S 6 v k)
  show _ + 1 * _ = _
  fin_cases a <;> simp [ix4]
theorem Blk.v6 (l : Fin 64) (v : Fin 256) : (View.ld (Val := Elt Ideal) (e' := .bf16) x2 (Rect.unit (s := S512x256) ![384, 0] S64x256.size inb_S512x256_S64x256_384_0)) (ix2 l v) = (((C 6).v l v : ℝ) : EReal) := by
  refine (congrArg x2 (funext fun a => Fin.ext ?_)).trans (H.V 6 l v)
  show _ + 1 * _ = _
  fin_cases a <;> simp [ix2, ri]
theorem Blk.hU7 (v : Fin 256) (k : Fin 128) : U7 xs (vdO x6 x7 x8 x9) x0 (ix3 0 v k) = (((C 7).G (B 8) k v : ℝ) : EReal) := U7_eval H.K H.D H.X v k
theorem Blk.st7 (v : Fin 256) (k : Fin 128) : (View.ld (Val := Elt Ideal) (e' := .bf16) x10 (Rect.unit (s := S1x8x256x128) ![0, 7, 0, 0] S1x1x256x128.size inb_S1x8x256x128_S1x1x256x128_0_7_0_0)) (ix4 0 0 v k) = (((C 7).sa k v : ℝ) : EReal) := by
  refine (congrArg x10 (funext fun a => Fin.ext ?_)).trans (H.S 7 v k)
  show _ + 1 * _ = _
  fin_cases a <;> simp [ix4]
theorem Blk.v7 (l : Fin 64) (v : Fin 256) : (View.ld (Val := Elt Ideal) (e' := .bf16) x2 (Rect.unit (s := S512x256) ![448, 0] S64x256.size inb_S512x256_S64x256_448_0)) (ix2 l v) = (((C 7).v l v : ℝ) : EReal) := by
  refine (congrArg x2 (funext fun a => Fin.ext ?_)).trans (H.V 7 l v)
  show _ + 1 * _ = _
  fin_cases a <;> simp [ix2, ri]
omit H in
theorem readWhole (v : View sig .tc .vmem S512x128 .f32) (L : List (View.Piece (Elt Ideal) S512x128 .f32)) :
    v.readCov L (Rect.unit (s := S512x128) ![0, 0] S512x128.size inb_S512x128_S512x128_0_0).toLoadRect = View.canon L :=
  (View.readCov_eq_canon' v L _).trans (View.ld_unit_zero (by funext a; fin_cases a <;> rfl) _ _)
/-- The gradients with respect to the decayed keys, read back from the eight stores. -/
theorem Blk.W (v : View sig .tc .vmem S512x128 .f32) (i : Fin 8) (l : Fin 64) (k : Fin 128) :
    v.readCov [(⟨Rect.unit ![448, 0] S64x128.size inb_S512x128_S64x128_448_0, k0_pay123 (F := Ideal) (k0_pay122 (U7 xs (vdO x6 x7 x8 x9) x0) (View.ld (Val := Elt Ideal) (e' := .bf16) x2 (Rect.unit (s := S512x256) ![448, 0] S64x256.size inb_S512x256_S64x256_448_0)))⟩ : View.Piece (Elt Ideal) S512x128 .f32), (⟨Rect.unit ![384, 0] S64x128.size inb_S512x128_S64x128_384_0, k0_pay116 (F := Ideal) (U6 xs (vdO x6 x7 x8 x9) x0 x3 x4 x5) (View.ld (Val := Elt Ideal) (e' := .bf16) x2 (Rect.unit (s := S512x256) ![384, 0] S64x256.size inb_S512x256_S64x256_384_0))⟩ : View.Piece (Elt Ideal) S512x128 .f32), (⟨Rect.unit ![320, 0] S64x128.size inb_S512x128_S64x128_320_0, k0_pay109 (F := Ideal) (U5 xs (vdO x6 x7 x8 x9) x0 x3 x4 x5) (View.ld (Val := Elt Ideal) (e' := .bf16) x2 (Rect.unit (s := S512x256) ![320, 0] S64x256.size inb_S512x256_S64x256_320_0))⟩ : View.Piece (Elt Ideal) S512x128 .f32), (⟨Rect.unit ![256, 0] S64x128.size inb_S512x128_S64x128_256_0, k0_pay103 (F := Ideal) (U4 xs (vdO x6 x7 x8 x9) x0 x3 x4 x5) (View.ld (Val := Elt Ideal) (e' := .bf16) x2 (Rect.unit (s := S512x256) ![256, 0] S64x256.size inb_S512x256_S64x256_256_0))⟩ : View.Piece (Elt Ideal) S512x128 .f32), (⟨Rect.unit ![192, 0] S64x128.size inb_S512x128_S64x128_192_0, k0_pay97 (F := Ideal) (U3 xs (vdO x6 x7 x8 x9) x0 x3 x4 x5) (View.ld (Val := Elt Ideal) (e' := .bf16) x2 (Rect.unit (s := S512x256) ![192, 0] S64x256.size inb_S512x256_S64x256_192_0))⟩ : View.Piece (Elt Ideal) S512x128 .f32), (⟨Rect.unit ![128, 0] S64x128.size inb_S512x128_S64x128_128_0, k0_pay91 (F := Ideal) (U2 xs (vdO x6 x7 x8 x9) x0 x3 x4 x5) (View.ld (Val := Elt Ideal) (e' := .bf16) x2 (Rect.unit (s := S512x256) ![128, 0] S64x256.size inb_S512x256_S64x256_128_0))⟩ : View.Piece (Elt Ideal) S512x128 .f32), (⟨Rect.unit ![64, 0] S64x128.size inb_S512x128_S64x128_64_0, k0_pay85 (F := Ideal) (U1 xs (vdO x6 x7 x8 x9) x0 x3 x4 x5) (View.ld (Val := Elt Ideal) (e' := .bf16) x2 (Rect.unit (s := S512x256) ![64, 0] S64x256.size inb_S512x256_S64x256_64_0))⟩ : View.Piece (Elt Ideal) S512x128 .f32), (⟨Rect.unit ![0, 0] S64x128.size inb_S512x128_S64x128_0_0, k0_pay78 (F := Ideal) (U0 xs (vdO x6 x7 x8 x9) x0 x3 x4 x5) (View.ld (Val := Elt Ideal) (e' := .bf16) x2 (Rect.unit (s := S512x256) ![0, 0] S64x256.size inb_S512x256_S64x256_0_0))⟩ : View.Piece (Elt Ideal) S512x128 .f32)] (Rect.unit (s := S512x128) ![0, 0] S512x128.size inb_S512x128_S512x128_0_0).toLoadRect (ix2 (ri i l) k) = (((C i).dkd (B (i + 1)) l k : ℝ) : EReal) := by
  rw [readWhole]
  exact canon_k32 (fun i l k => (C i).dkd (B (i + 1)) l k) (dkd0_eval (C 0) (B 1) H.v0 H.hU0) (dkd1_eval (C 1) (B 2) H.v1 H.hU1) (dkd2_eval (C 2) (B 3) H.v2 H.hU2) (dkd3_eval (C 3) (B 4) H.v3 H.hU3) (dkd4_eval (C 4) (B 5) H.v4 H.hU4) (dkd5_eval (C 5) (B 6) H.v5 H.hU5) (dkd6_eval (C 6) (B 7) H.v6 H.hU6) (dkd7_eval (C 7) (B 8) H.v7 H.hU7) i l k
/-- The gradients of the chunks' decays, spread over the rows. -/
theorem Blk.GG (v : View sig .tc .vmem S512x128 .f32) (i : Fin 8) (l : Fin 64) (k : Fin 128) :
    v.readCov [(⟨Rect.unit ![448, 0] S64x128.size inb_S512x128_S64x128_448_0, k0_pay125 (F := Ideal) (gam7 x3 x4 x5) (k0_pay119 (U7 xs (vdO x6 x7 x8 x9) x0)) (View.ld (Val := Elt Ideal) (e' := .bf16) x10 (Rect.unit (s := S1x8x256x128) ![0, 6, 0, 0] S1x1x256x128.size inb_S1x8x256x128_S1x1x256x128_0_6_0_0))⟩ : View.Piece (Elt Ideal) S512x128 .f32), (⟨Rect.unit ![384, 0] S64x128.size inb_S512x128_S64x128_384_0, k0_pay118 (F := Ideal) (gam6 x3 x4 x5) (k0_pay113 (U6 xs (vdO x6 x7 x8 x9) x0 x3 x4 x5)) (View.ld (Val := Elt Ideal) (e' := .bf16) x10 (Rect.unit (s := S1x8x256x128) ![0, 5, 0, 0] S1x1x256x128.size inb_S1x8x256x128_S1x1x256x128_0_5_0_0))⟩ : View.Piece (Elt Ideal) S512x128 .f32), (⟨Rect.unit ![320, 0] S64x128.size inb_S512x128_S64x128_320_0, k0_pay112 (F := Ideal) (gam5 x3 x4 x5) (k0_pay106 (U5 xs (vdO x6 x7 x8 x9) x0 x3 x4 x5)) (View.ld (Val := Elt Ideal) (e' := .bf16) x10 (Rect.unit (s := S1x8x256x128) ![0, 4, 0, 0] S1x1x256x128.size inb_S1x8x256x128_S1x1x256x128_0_4_0_0))⟩ : View.Piece (Elt Ideal) S512x128 .f32), (⟨Rect.unit ![256, 0] S64x128.size inb_S512x128_S64x128_256_0, k0_pay105 (F := Ideal) (gam4 x3 x4 x5) (k0_pay100 (U4 xs (vdO x6 x7 x8 x9) x0 x3 x4 x5)) (View.ld (Val := Elt Ideal) (e' := .bf16) x10 (Rect.unit (s := S1x8x256x128) ![0, 3, 0, 0] S1x1x256x128.size inb_S1x8x256x128_S1x1x256x128_0_3_0_0))⟩ : View.Piece (Elt Ideal) S512x128 .f32), (⟨Rect.unit ![192, 0] S64x128.size inb_S512x128_S64x128_192_0, k0_pay99 (F := Ideal) (gam3 x3 x4 x5) (k0_pay94 (U3 xs (vdO x6 x7 x8 x9) x0 x3 x4 x5)) (View.ld (Val := Elt Ideal) (e' := .bf16) x10 (Rect.unit (s := S1x8x256x128) ![0, 2, 0, 0] S1x1x256x128.size inb_S1x8x256x128_S1x1x256x128_0_2_0_0))⟩ : View.Piece (Elt Ideal) S512x128 .f32), (⟨Rect.unit ![128, 0] S64x128.size inb_S512x128_S64x128_128_0, k0_pay93 (F := Ideal) (gam2 x3 x4 x5) (k0_pay88 (U2 xs (vdO x6 x7 x8 x9) x0 x3 x4 x5)) (View.ld (Val := Elt Ideal) (e' := .bf16) x10 (Rect.unit (s := S1x8x256x128) ![0, 1, 0, 0] S1x1x256x128.size inb_S1x8x256x128_S1x1x256x128_0_1_0_0))⟩ : View.Piece (Elt Ideal) S512x128 .f32), (⟨Rect.unit ![64, 0] S64x128.size inb_S512x128_S64x128_64_0, k0_pay87 (F := Ideal) (gam1 x3 x4 x5) (k0_pay82 (U1 xs (vdO x6 x7 x8 x9) x0 x3 x4 x5)) (View.ld (Val := Elt Ideal) (e' := .bf16) x10 (Rect.unit (s := S1x8x256x128) ![0, 0, 0, 0] S1x1x256x128.size inb_S1x8x256x128_S1x1x256x128_0_0_0_0))⟩ : View.Piece (Elt Ideal) S512x128 .f32), (⟨Rect.unit ![0, 0] S64x128.size inb_S512x128_S64x128_0_0, k0_pay81 (F := Ideal) (gam0 x3 x4 x5) p (k0_pay75 (U0 xs (vdO x6 x7 x8 x9) x0 x3 x4 x5)) (k0_pay80 x11)⟩ : View.Piece (Elt Ideal) S512x128 .f32)] (Rect.unit (s := S512x128) ![0, 0] S512x128.size inb_S512x128_S512x128_0_0).toLoadRect (ix2 (ri i l) k) = (((C i).dgg (B (i + 1)) k : ℝ) : EReal) := by
  rw [readWhole]
  exact canon_k32 (fun i l k => (C i).dgg (B (i + 1)) k) (dgg0_eval (C 0) (B 1) H.hU0 (gam0_eval H.K) H.s0) (dgg1_eval (C 1) (B 2) H.hU1 (gam1_eval H.K) fun v k => (H.st0 v k).trans (congrArg Real.toEReal (H.sb 0 k v).symm)) (dgg2_eval (C 2) (B 3) H.hU2 (gam2_eval H.K) fun v k => (H.st1 v k).trans (congrArg Real.toEReal (H.sb 1 k v).symm)) (dgg3_eval (C 3) (B 4) H.hU3 (gam3_eval H.K) fun v k => (H.st2 v k).trans (congrArg Real.toEReal (H.sb 2 k v).symm)) (dgg4_eval (C 4) (B 5) H.hU4 (gam4_eval H.K) fun v k => (H.st3 v k).trans (congrArg Real.toEReal (H.sb 3 k v).symm)) (dgg5_eval (C 5) (B 6) H.hU5 (gam5_eval H.K) fun v k => (H.st4 v k).trans (congrArg Real.toEReal (H.sb 4 k v).symm)) (dgg6_eval (C 6) (B 7) H.hU6 (gam6_eval H.K) fun v k => (H.st5 v k).trans (congrArg Real.toEReal (H.sb 5 k v).symm)) (dgg7_eval (C 7) (B 8) H.hU7 (gam7_eval H.K) fun v k => (H.st6 v k).trans (congrArg Real.toEReal (H.sb 6 k v).symm)) i l k
end

section
variable {C : Fin 8 → Chunk} {B : ℕ → Fin 128 → Fin 256 → ℝ}

theorem out12_A (c : Dev nD) (i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11) (H : Blk C B (k0_pay74 (F := Ideal) (BitVec.ofNat 32 (i 1))) x0 x1 x2 x3 x4 x5 x6 x7 x8 x9 x10 x11 (k0_pay2 (F := Ideal))) (a : Fin 8) (l : Fin 64) (k : Fin 128) :
    Gen.out0_A_12 (F := Ideal) c i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 (ix2 (ri a l) k) = (((C a).dq l k : ℝ) : EReal) := by
  frame_open
  simp (disch := decide) only [↓ View.readCov_skip, ↓ View.readCov_cons_toLoadRect, ↓ View.readCov_fill]
  frame_out
  exact canon_k16 (fun i l k => (C i).dq l k) (dq0_eval (C 0) (H.D 0) H.st0) (dq1_eval (C 1) (H.D 1) H.st1) (dq2_eval (C 2) (H.D 2) H.st2) (dq3_eval (C 3) (H.D 3) H.st3) (dq4_eval (C 4) (H.D 4) H.st4) (dq5_eval (C 5) (H.D 5) H.st5) (dq6_eval (C 6) (H.D 6) H.st6) (dq7_eval (C 7) (H.D 7) H.st7) a l k
theorem out13_A (c : Dev nD) (i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11) (H : Blk C B (k0_pay74 (F := Ideal) (BitVec.ofNat 32 (i 1))) x0 x1 x2 x3 x4 x5 x6 x7 x8 x9 x10 x11 (k0_pay2 (F := Ideal))) (a : Fin 8) (l : Fin 64) (k : Fin 128) :
    Gen.out0_A_13 (F := Ideal) c i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 (ix2 (ri a l) k) = (((C a).dk (B (a + 1)) l k : ℝ) : EReal) := by
  frame_open
  simp (disch := decide) only [↓ View.readCov_skip, ↓ View.readCov_cons_toLoadRect, ↓ View.readCov_fill]
  frame_out
  exact dk_eval H.K B (H.W _) a l k
theorem out14_A (c : Dev nD) (i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11) (H : Blk C B (k0_pay74 (F := Ideal) (BitVec.ofNat 32 (i 1))) x0 x1 x2 x3 x4 x5 x6 x7 x8 x9 x10 x11 (k0_pay2 (F := Ideal))) (a : Fin 8) (l : Fin 64) (k : Fin 256) :
    Gen.out0_A_14 (F := Ideal) c i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 (ix2 (ri a l) k) = (((C a).dv (B (a + 1)) l k : ℝ) : EReal) := by
  frame_open
  simp (disch := decide) only [↓ View.readCov_skip, ↓ View.readCov_cons_toLoadRect, ↓ View.readCov_fill]
  frame_out
  exact canon_v16 (fun i l k => (C i).dv (B (i + 1)) l k) (dv0_eval (C 0) (B 1) (kd16_eval H.K 0) H.hU0) (dv1_eval (C 1) (B 2) (kd16_eval H.K 1) H.hU1) (dv2_eval (C 2) (B 3) (kd16_eval H.K 2) H.hU2) (dv3_eval (C 3) (B 4) (kd16_eval H.K 3) H.hU3) (dv4_eval (C 4) (B 5) (kd16_eval H.K 4) H.hU4) (dv5_eval (C 5) (B 6) (kd16_eval H.K 5) H.hU5) (dv6_eval (C 6) (B 7) (kd16_eval H.K 6) H.hU6) (dv7_eval (C 7) (B 8) (kd16_eval H.K 7) H.hU7) a l k
theorem out15_A (c : Dev nD) (i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11) (H : Blk C B (k0_pay74 (F := Ideal) (BitVec.ofNat 32 (i 1))) x0 x1 x2 x3 x4 x5 x6 x7 x8 x9 x10 x11 (k0_pay2 (F := Ideal))) (a : Fin 8) (l : Fin 64) (k : Fin 128) :
    Gen.out0_A_15 (F := Ideal) c i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 (ix2 (ri a l) k) = (((C a).dfg (B (a + 1)) l k : ℝ) : EReal) := by
  frame_open
  simp (disch := decide) only [↓ View.readCov_skip, ↓ View.readCov_cons_toLoadRect, ↓ View.readCov_fill]
  frame_out
  exact dfg16_eval H.K B (H.W _) (H.GG _) a l k
theorem out17_A (c : Dev nD) (i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11) (H : Blk C B (k0_pay74 (F := Ideal) (BitVec.ofNat 32 (i 1))) x0 x1 x2 x3 x4 x5 x6 x7 x8 x9 x10 x11 (k0_pay2 (F := Ideal))) (a : Fin 8) (l : Fin 64) (k : Fin 256) :
    Gen.out0_A_17 (F := Ideal) c i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 (ix2 (ri a l) k) = (((C a).dr l k : ℝ) : EReal) := by
  frame_open
  simp (disch := decide) only [↓ View.readCov_skip, ↓ View.readCov_cons_toLoadRect, ↓ View.readCov_fill]
  frame_out
  exact dr_eval H.N a l k
theorem out16_A (c : Dev nD) (i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11) (H : Blk C B (k0_pay74 (F := Ideal) (BitVec.ofNat 32 (i 1))) x0 x1 x2 x3 x4 x5 x6 x7 x8 x9 x10 x11 (k0_pay2 (F := Ideal))) (a : Fin 8) (k : Fin 128) :
    Gen.out0_A_16 (F := Ideal) c i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 (ix2 a k) = ((∑ i : Fin 8, ∑ l, (C i).dfg (B (i + 1)) l k : ℝ) : EReal) := by
  frame_open
  simp (disch := decide) only [↓ View.readCov_skip, ↓ View.readCov_cons_toLoadRect, ↓ View.readCov_fill]
  frame_out
  refine (db_eval H.K B (H.W _) (H.GG _) _ a k).trans ?_
  rw [show (k0_pay3 (F := Ideal) (ix2 a k) : EReal) = 0 from by pointwise [k0_pay3], zero_add]
theorem out18_A (c : Dev nD) (i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11) (H : Blk C B (k0_pay74 (F := Ideal) (BitVec.ofNat 32 (i 1))) x0 x1 x2 x3 x4 x5 x6 x7 x8 x9 x10 x11 (k0_pay2 (F := Ideal))) (a : Fin 8) (v : Fin 256) :
    Gen.out0_A_18 (F := Ideal) c i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 (ix2 a v) = ((∑ i : Fin 8, ∑ l, (C i).dgt l v : ℝ) : EReal) := by
  frame_open
  simp (disch := decide) only [↓ View.readCov_skip, ↓ View.readCov_cons_toLoadRect, ↓ View.readCov_fill]
  frame_out
  refine (dgt_eval H.N _ a v).trans ?_
  rw [show (k0_pay4 (F := Ideal) (ix2 a v) : EReal) = 0 from by pointwise [k0_pay4], zero_add]
theorem sout_A (c : Dev nD) (i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11) (H : Blk C B (k0_pay74 (F := Ideal) (BitVec.ofNat 32 (i 1))) x0 x1 x2 x3 x4 x5 x6 x7 x8 x9 x10 x11 (k0_pay2 (F := Ideal))) (v : Fin 256) (k : Fin 128) :
    Gen.sout0_A_0 (F := Ideal) c i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 (ix2 v k) = ((B 0 k v : ℝ) : EReal) := by
  frame_open
  simp (disch := decide) only [↓ View.readCov_skip, ↓ View.readCov_cons_toLoadRect, ↓ View.readCov_fill]
  frame_out
  exact carry_eval H.K H.D H.back H.X v k
theorem out12_B (c : Dev nD) (i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo16 xo18 xs0) (H : Blk C B (k0_pay74 (F := Ideal) (BitVec.ofNat 32 (i 1))) x0 x1 x2 x3 x4 x5 x6 x7 x8 x9 x10 x11 xs0) (a : Fin 8) (l : Fin 64) (k : Fin 128) :
    Gen.out0_B_12 (F := Ideal) c i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo16 xo18 xs0 (ix2 (ri a l) k) = (((C a).dq l k : ℝ) : EReal) := by
  frame_open
  simp (disch := decide) only [↓ View.readCov_skip, ↓ View.readCov_cons_toLoadRect, ↓ View.readCov_fill]
  frame_out
  exact canon_k16 (fun i l k => (C i).dq l k) (dq0_eval (C 0) (H.D 0) H.st0) (dq1_eval (C 1) (H.D 1) H.st1) (dq2_eval (C 2) (H.D 2) H.st2) (dq3_eval (C 3) (H.D 3) H.st3) (dq4_eval (C 4) (H.D 4) H.st4) (dq5_eval (C 5) (H.D 5) H.st5) (dq6_eval (C 6) (H.D 6) H.st6) (dq7_eval (C 7) (H.D 7) H.st7) a l k
theorem out13_B (c : Dev nD) (i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo16 xo18 xs0) (H : Blk C B (k0_pay74 (F := Ideal) (BitVec.ofNat 32 (i 1))) x0 x1 x2 x3 x4 x5 x6 x7 x8 x9 x10 x11 xs0) (a : Fin 8) (l : Fin 64) (k : Fin 128) :
    Gen.out0_B_13 (F := Ideal) c i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo16 xo18 xs0 (ix2 (ri a l) k) = (((C a).dk (B (a + 1)) l k : ℝ) : EReal) := by
  frame_open
  simp (disch := decide) only [↓ View.readCov_skip, ↓ View.readCov_cons_toLoadRect, ↓ View.readCov_fill]
  frame_out
  exact dk_eval H.K B (H.W _) a l k
theorem out14_B (c : Dev nD) (i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo16 xo18 xs0) (H : Blk C B (k0_pay74 (F := Ideal) (BitVec.ofNat 32 (i 1))) x0 x1 x2 x3 x4 x5 x6 x7 x8 x9 x10 x11 xs0) (a : Fin 8) (l : Fin 64) (k : Fin 256) :
    Gen.out0_B_14 (F := Ideal) c i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo16 xo18 xs0 (ix2 (ri a l) k) = (((C a).dv (B (a + 1)) l k : ℝ) : EReal) := by
  frame_open
  simp (disch := decide) only [↓ View.readCov_skip, ↓ View.readCov_cons_toLoadRect, ↓ View.readCov_fill]
  frame_out
  exact canon_v16 (fun i l k => (C i).dv (B (i + 1)) l k) (dv0_eval (C 0) (B 1) (kd16_eval H.K 0) H.hU0) (dv1_eval (C 1) (B 2) (kd16_eval H.K 1) H.hU1) (dv2_eval (C 2) (B 3) (kd16_eval H.K 2) H.hU2) (dv3_eval (C 3) (B 4) (kd16_eval H.K 3) H.hU3) (dv4_eval (C 4) (B 5) (kd16_eval H.K 4) H.hU4) (dv5_eval (C 5) (B 6) (kd16_eval H.K 5) H.hU5) (dv6_eval (C 6) (B 7) (kd16_eval H.K 6) H.hU6) (dv7_eval (C 7) (B 8) (kd16_eval H.K 7) H.hU7) a l k
theorem out15_B (c : Dev nD) (i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo16 xo18 xs0) (H : Blk C B (k0_pay74 (F := Ideal) (BitVec.ofNat 32 (i 1))) x0 x1 x2 x3 x4 x5 x6 x7 x8 x9 x10 x11 xs0) (a : Fin 8) (l : Fin 64) (k : Fin 128) :
    Gen.out0_B_15 (F := Ideal) c i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo16 xo18 xs0 (ix2 (ri a l) k) = (((C a).dfg (B (a + 1)) l k : ℝ) : EReal) := by
  frame_open
  simp (disch := decide) only [↓ View.readCov_skip, ↓ View.readCov_cons_toLoadRect, ↓ View.readCov_fill]
  frame_out
  exact dfg16_eval H.K B (H.W _) (H.GG _) a l k
theorem out17_B (c : Dev nD) (i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo16 xo18 xs0) (H : Blk C B (k0_pay74 (F := Ideal) (BitVec.ofNat 32 (i 1))) x0 x1 x2 x3 x4 x5 x6 x7 x8 x9 x10 x11 xs0) (a : Fin 8) (l : Fin 64) (k : Fin 256) :
    Gen.out0_B_17 (F := Ideal) c i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo16 xo18 xs0 (ix2 (ri a l) k) = (((C a).dr l k : ℝ) : EReal) := by
  frame_open
  simp (disch := decide) only [↓ View.readCov_skip, ↓ View.readCov_cons_toLoadRect, ↓ View.readCov_fill]
  frame_out
  exact dr_eval H.N a l k
theorem out16_B (c : Dev nD) (i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo16 xo18 xs0) (H : Blk C B (k0_pay74 (F := Ideal) (BitVec.ofNat 32 (i 1))) x0 x1 x2 x3 x4 x5 x6 x7 x8 x9 x10 x11 xs0) (a : Fin 8) (k : Fin 128) :
    Gen.out0_B_16 (F := Ideal) c i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo16 xo18 xs0 (ix2 a k) = xo16 (ix2 a k) + ((∑ i : Fin 8, ∑ l, (C i).dfg (B (i + 1)) l k : ℝ) : EReal) := by
  frame_open
  simp (disch := decide) only [↓ View.readCov_skip, ↓ View.readCov_cons_toLoadRect, ↓ View.readCov_fill]
  frame_out
  refine (db_eval H.K B (H.W _) (H.GG _) _ a k).trans ?_
  rfl
theorem out18_B (c : Dev nD) (i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo16 xo18 xs0) (H : Blk C B (k0_pay74 (F := Ideal) (BitVec.ofNat 32 (i 1))) x0 x1 x2 x3 x4 x5 x6 x7 x8 x9 x10 x11 xs0) (a : Fin 8) (v : Fin 256) :
    Gen.out0_B_18 (F := Ideal) c i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo16 xo18 xs0 (ix2 a v) = xo18 (ix2 a v) + ((∑ i : Fin 8, ∑ l, (C i).dgt l v : ℝ) : EReal) := by
  frame_open
  simp (disch := decide) only [↓ View.readCov_skip, ↓ View.readCov_cons_toLoadRect, ↓ View.readCov_fill]
  frame_out
  refine (dgt_eval H.N _ a v).trans ?_
  rfl
theorem sout_B (c : Dev nD) (i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo16 xo18 xs0) (H : Blk C B (k0_pay74 (F := Ideal) (BitVec.ofNat 32 (i 1))) x0 x1 x2 x3 x4 x5 x6 x7 x8 x9 x10 x11 xs0) (v : Fin 256) (k : Fin 128) :
    Gen.sout0_B_0 (F := Ideal) c i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo16 xo18 xs0 (ix2 v k) = ((B 0 k v : ℝ) : EReal) := by
  frame_open
  simp (disch := decide) only [↓ View.readCov_skip, ↓ View.readCov_cons_toLoadRect, ↓ View.readCov_fill]
  frame_out
  exact carry_eval H.K H.D H.back H.X v k
theorem out12_C (c : Dev nD) (i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo18) (H : Blk C B (k0_pay74 (F := Ideal) (BitVec.ofNat 32 (i 1))) x0 x1 x2 x3 x4 x5 x6 x7 x8 x9 x10 x11 (k0_pay2 (F := Ideal))) (a : Fin 8) (l : Fin 64) (k : Fin 128) :
    Gen.out0_C_12 (F := Ideal) c i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo18 (ix2 (ri a l) k) = (((C a).dq l k : ℝ) : EReal) := by
  frame_open
  simp (disch := decide) only [↓ View.readCov_skip, ↓ View.readCov_cons_toLoadRect, ↓ View.readCov_fill]
  frame_out
  exact canon_k16 (fun i l k => (C i).dq l k) (dq0_eval (C 0) (H.D 0) H.st0) (dq1_eval (C 1) (H.D 1) H.st1) (dq2_eval (C 2) (H.D 2) H.st2) (dq3_eval (C 3) (H.D 3) H.st3) (dq4_eval (C 4) (H.D 4) H.st4) (dq5_eval (C 5) (H.D 5) H.st5) (dq6_eval (C 6) (H.D 6) H.st6) (dq7_eval (C 7) (H.D 7) H.st7) a l k
theorem out13_C (c : Dev nD) (i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo18) (H : Blk C B (k0_pay74 (F := Ideal) (BitVec.ofNat 32 (i 1))) x0 x1 x2 x3 x4 x5 x6 x7 x8 x9 x10 x11 (k0_pay2 (F := Ideal))) (a : Fin 8) (l : Fin 64) (k : Fin 128) :
    Gen.out0_C_13 (F := Ideal) c i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo18 (ix2 (ri a l) k) = (((C a).dk (B (a + 1)) l k : ℝ) : EReal) := by
  frame_open
  simp (disch := decide) only [↓ View.readCov_skip, ↓ View.readCov_cons_toLoadRect, ↓ View.readCov_fill]
  frame_out
  exact dk_eval H.K B (H.W _) a l k
theorem out14_C (c : Dev nD) (i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo18) (H : Blk C B (k0_pay74 (F := Ideal) (BitVec.ofNat 32 (i 1))) x0 x1 x2 x3 x4 x5 x6 x7 x8 x9 x10 x11 (k0_pay2 (F := Ideal))) (a : Fin 8) (l : Fin 64) (k : Fin 256) :
    Gen.out0_C_14 (F := Ideal) c i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo18 (ix2 (ri a l) k) = (((C a).dv (B (a + 1)) l k : ℝ) : EReal) := by
  frame_open
  simp (disch := decide) only [↓ View.readCov_skip, ↓ View.readCov_cons_toLoadRect, ↓ View.readCov_fill]
  frame_out
  exact canon_v16 (fun i l k => (C i).dv (B (i + 1)) l k) (dv0_eval (C 0) (B 1) (kd16_eval H.K 0) H.hU0) (dv1_eval (C 1) (B 2) (kd16_eval H.K 1) H.hU1) (dv2_eval (C 2) (B 3) (kd16_eval H.K 2) H.hU2) (dv3_eval (C 3) (B 4) (kd16_eval H.K 3) H.hU3) (dv4_eval (C 4) (B 5) (kd16_eval H.K 4) H.hU4) (dv5_eval (C 5) (B 6) (kd16_eval H.K 5) H.hU5) (dv6_eval (C 6) (B 7) (kd16_eval H.K 6) H.hU6) (dv7_eval (C 7) (B 8) (kd16_eval H.K 7) H.hU7) a l k
theorem out15_C (c : Dev nD) (i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo18) (H : Blk C B (k0_pay74 (F := Ideal) (BitVec.ofNat 32 (i 1))) x0 x1 x2 x3 x4 x5 x6 x7 x8 x9 x10 x11 (k0_pay2 (F := Ideal))) (a : Fin 8) (l : Fin 64) (k : Fin 128) :
    Gen.out0_C_15 (F := Ideal) c i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo18 (ix2 (ri a l) k) = (((C a).dfg (B (a + 1)) l k : ℝ) : EReal) := by
  frame_open
  simp (disch := decide) only [↓ View.readCov_skip, ↓ View.readCov_cons_toLoadRect, ↓ View.readCov_fill]
  frame_out
  exact dfg16_eval H.K B (H.W _) (H.GG _) a l k
theorem out17_C (c : Dev nD) (i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo18) (H : Blk C B (k0_pay74 (F := Ideal) (BitVec.ofNat 32 (i 1))) x0 x1 x2 x3 x4 x5 x6 x7 x8 x9 x10 x11 (k0_pay2 (F := Ideal))) (a : Fin 8) (l : Fin 64) (k : Fin 256) :
    Gen.out0_C_17 (F := Ideal) c i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo18 (ix2 (ri a l) k) = (((C a).dr l k : ℝ) : EReal) := by
  frame_open
  simp (disch := decide) only [↓ View.readCov_skip, ↓ View.readCov_cons_toLoadRect, ↓ View.readCov_fill]
  frame_out
  exact dr_eval H.N a l k
theorem out16_C (c : Dev nD) (i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo18) (H : Blk C B (k0_pay74 (F := Ideal) (BitVec.ofNat 32 (i 1))) x0 x1 x2 x3 x4 x5 x6 x7 x8 x9 x10 x11 (k0_pay2 (F := Ideal))) (a : Fin 8) (k : Fin 128) :
    Gen.out0_C_16 (F := Ideal) c i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo18 (ix2 a k) = ((∑ i : Fin 8, ∑ l, (C i).dfg (B (i + 1)) l k : ℝ) : EReal) := by
  frame_open
  simp (disch := decide) only [↓ View.readCov_skip, ↓ View.readCov_cons_toLoadRect, ↓ View.readCov_fill]
  frame_out
  refine (db_eval H.K B (H.W _) (H.GG _) _ a k).trans ?_
  rw [show (k0_pay3 (F := Ideal) (ix2 a k) : EReal) = 0 from by pointwise [k0_pay3], zero_add]
theorem out18_C (c : Dev nD) (i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo18) (H : Blk C B (k0_pay74 (F := Ideal) (BitVec.ofNat 32 (i 1))) x0 x1 x2 x3 x4 x5 x6 x7 x8 x9 x10 x11 (k0_pay2 (F := Ideal))) (a : Fin 8) (v : Fin 256) :
    Gen.out0_C_18 (F := Ideal) c i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo18 (ix2 a v) = xo18 (ix2 a v) + ((∑ i : Fin 8, ∑ l, (C i).dgt l v : ℝ) : EReal) := by
  frame_open
  simp (disch := decide) only [↓ View.readCov_skip, ↓ View.readCov_cons_toLoadRect, ↓ View.readCov_fill]
  frame_out
  refine (dgt_eval H.N _ a v).trans ?_
  rfl
theorem sout_C (c : Dev nD) (i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo18) (H : Blk C B (k0_pay74 (F := Ideal) (BitVec.ofNat 32 (i 1))) x0 x1 x2 x3 x4 x5 x6 x7 x8 x9 x10 x11 (k0_pay2 (F := Ideal))) (v : Fin 256) (k : Fin 128) :
    Gen.sout0_C_0 (F := Ideal) c i arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo18 (ix2 v k) = ((B 0 k v : ℝ) : EReal) := by
  frame_open
  simp (disch := decide) only [↓ View.readCov_skip, ↓ View.readCov_cons_toLoadRect, ↓ View.readCov_fill]
  frame_out
  exact carry_eval H.K H.D H.back H.X v k
end
end Cert.KernelIdeal.Gla
-- ==== Proof.Arr.lean ====
module

public import proofs.«01_k».proof.Proof.Out

@[expose] public section

set_option maxRecDepth 16384

/-! The kernel's result arrays, from arguments that hold reals. -/

noncomputable section

open Idealize.ShloMosaic Idealize.ShloMosaic.TcCoe Idealize.SL.Sem
namespace Cert.KernelIdeal.Gla
open Cert.KernelIdeal Cert.KernelIdeal.Gen Cert.Gla

/-- The arguments hold the reals of `X`. -/
structure Holds (X : In) (m : (ℓ : Loc nD τ sig) → Buf (Elt Ideal) ℓ) (c : Dev nD) : Prop where
  proj : ∀ p z, (m ((c : Thread nD τ).loc main_arg0) : Vec Ideal S4096x8320 .bf16) (ix2 p z) = ((X.proj p z : ℝ) : EReal)
  wfg : ∀ z k, (m ((c : Thread nD τ).loc main_arg1) : Vec Ideal S128x512 .bf16) (ix2 z k) = ((X.wfg z k : ℝ) : EReal)
  bfg : ∀ k, (m ((c : Thread nD τ).loc main_arg2) : Vec Ideal S1x512 .f32) (ix2 0 k) = ((X.bfg k : ℝ) : EReal)
  st : ∀ h n v k, (m ((c : Thread nD τ).loc main_arg3) : Vec Ideal S4x64x256x128 .bf16) (ix4 h n v k) = ((X.st h n v k : ℝ) : EReal)
  doa : ∀ p v, (m ((c : Thread nD τ).loc main_arg4) : Vec Ideal S4096x1024 .bf16) (ix2 p v) = ((X.doa p v : ℝ) : EReal)
  o : ∀ p v, (m ((c : Thread nD τ).loc main_arg5) : Vec Ideal S4096x1024 .bf16) (ix2 p v) = ((X.o p v : ℝ) : EReal)
  g : ∀ v, (m ((c : Thread nD τ).loc main_arg6) : Vec Ideal S1x256 .f32) (ix2 0 v) = ((X.g v : ℝ) : EReal)

variable (m : (ℓ : Loc nD τ sig) → Buf (Elt Ideal) ℓ) (c : Dev nD)

/-! ## The blocks that a grid point reads -/

theorem idxA : ∀ t : Fin cfg0.N, win0_0.index t = ![7 - t.val % 8, t.val / 8] ∧ win0_1.index t = ![7 - t.val % 8, 4 + t.val / 8]
    ∧ win0_2.index t = ![7 - t.val % 8, 4 + t.val / 8] ∧ win0_3.index t = ![7 - t.val % 8, 64] ∧ win0_4.index t = ![0, t.val / 8]
    ∧ win0_5.index t = ![0, t.val / 8] :=
  (by decide +kernel : ∀ t : Fin grid0.N, _)
theorem idxB : ∀ t : Fin cfg0.N, win0_6.index t = ![7 - t.val % 8, t.val / 8] ∧ win0_7.index t = ![7 - t.val % 8, t.val / 8]
    ∧ win0_8.index t = ![7 - t.val % 8, 8 + t.val / 8] ∧ win0_9.index t = ![0, 0]
    ∧ win0_10.index t = ![t.val / 8, 7 - t.val % 8, 0, 0] ∧ win0_11.index t = ![t.val / 8, 8 * (7 - t.val % 8) - 1, 0, 0] :=
  (by decide +kernel : ∀ t : Fin grid0.N, _)
theorem coord1 : ∀ t : Fin cfg0.N, ((grid0.coords t) 1 : ℕ) = t.val % 8 :=
  (by decide +kernel : ∀ t : Fin grid0.N, _)

theorem carried : ∀ j : Fin 8, k0_pay74 (F := Ideal) (BitVec.ofNat 32 j) = if (j : ℕ) < 7 then 1 else 0 := by
  intro j
  have e : Scalar.extui (Scalar.cmpi .slt (BitVec.ofNat 32 (j : ℕ)) 7#32) = if (j : ℕ) < 7 then 1#32 else 0#32 := by
    revert j; decide
  have f : k0_pay74 (F := Ideal) (BitVec.ofNat 32 j) = (((Scalar.extui (Scalar.cmpi .slt (BitVec.ofNat 32 (j : ℕ)) 7#32) : BitVec 32).toInt : ℝ) : EReal) := rfl
  rw [f, e]
  split_ifs <;> simp

theorem lt32 (t : Fin cfg0.N) : t.val < 32 := lt_of_lt_of_eq t.isLt N_0

theorem rd0 (t : Fin cfg0.N) (i : Fin 8) (l : Fin 64) (k : Fin 128) :
    (iblk m c 0 t : Vec Ideal S512x128 .bf16) (ix2 (ri i l) k)
      = (m ((c : Thread nD τ).loc main_arg0) : Vec Ideal S4096x8320 .bf16) (ix2 ⟨64 * (8 * (7 - t.val % 8) + i) + l, by omega⟩ ⟨128 * (t.val / 8) + k, by have := lt32 t; omega⟩) := by
  have := lt32 t
  blk_point [iblk, V, idxA t, ri]

theorem rd1 (t : Fin cfg0.N) (i : Fin 8) (l : Fin 64) (k : Fin 128) :
    (iblk m c 1 t : Vec Ideal S512x128 .bf16) (ix2 (ri i l) k)
      = (m ((c : Thread nD τ).loc main_arg0) : Vec Ideal S4096x8320 .bf16) (ix2 ⟨64 * (8 * (7 - t.val % 8) + i) + l, by omega⟩ ⟨512 + (128 * (t.val / 8) + k), by have := lt32 t; omega⟩) := by
  have := lt32 t
  blk_point [iblk, V, idxA t, ri]

theorem rd2 (t : Fin cfg0.N) (i : Fin 8) (l : Fin 64) (v : Fin 256) :
    (X0_2 m c t : Vec Ideal S512x256 .bf16) (ix2 (ri i l) v)
      = (m ((c : Thread nD τ).loc main_arg0) : Vec Ideal S4096x8320 .bf16) (ix2 ⟨64 * (8 * (7 - t.val % 8) + i) + l, by omega⟩ ⟨1024 + (256 * (t.val / 8) + v), by have := lt32 t; omega⟩) := by
  have := lt32 t
  unfold X0_2 Pipeline.Window.fill
  rw [dif_pos (moved0_2 t _)]
  blk_point [iblk, V, idxA t, ri]

theorem rd3 (t : Fin cfg0.N) (i : Fin 8) (l : Fin 64) (k : Fin 128) :
    (iblk m c 3 t : Vec Ideal S512x128 .bf16) (ix2 (ri i l) k)
      = (m ((c : Thread nD τ).loc main_arg0) : Vec Ideal S4096x8320 .bf16) (ix2 ⟨64 * (8 * (7 - t.val % 8) + i) + l, by omega⟩ ⟨8192 + k, by omega⟩) := by
  have := lt32 t
  blk_point [iblk, V, idxA t, ri]

theorem rd4 (t : Fin cfg0.N) (z k : Fin 128) :
    (iblk m c 4 t : Vec Ideal S128x128 .bf16) (ix2 z k)
      = (m ((c : Thread nD τ).loc main_arg1) : Vec Ideal S128x512 .bf16) (ix2 z ⟨128 * (t.val / 8) + k, by have := lt32 t; omega⟩) := by
  have := lt32 t
  blk_point [iblk, V, idxA t, ri]

theorem rd5 (t : Fin cfg0.N) (k : Fin 128) :
    (iblk m c 5 t : Vec Ideal S1x128 .f32) (ix2 0 k)
      = (m ((c : Thread nD τ).loc main_arg2) : Vec Ideal S1x512 .f32) (ix2 0 ⟨128 * (t.val / 8) + k, by have := lt32 t; omega⟩) := by
  have := lt32 t
  blk_point [iblk, V, idxA t, ri]

theorem rd6 (t : Fin cfg0.N) (i : Fin 8) (l : Fin 64) (v : Fin 256) :
    (iblk m c 6 t : Vec Ideal S512x256 .bf16) (ix2 (ri i l) v)
      = (m ((c : Thread nD τ).loc main_arg4) : Vec Ideal S4096x1024 .bf16) (ix2 ⟨64 * (8 * (7 - t.val % 8) + i) + l, by omega⟩ ⟨256 * (t.val / 8) + v, by have := lt32 t; omega⟩) := by
  have := lt32 t
  blk_point [iblk, V, idxB t, ri]

theorem rd7 (t : Fin cfg0.N) (i : Fin 8) (l : Fin 64) (v : Fin 256) :
    (iblk m c 7 t : Vec Ideal S512x256 .bf16) (ix2 (ri i l) v)
      = (m ((c : Thread nD τ).loc main_arg5) : Vec Ideal S4096x1024 .bf16) (ix2 ⟨64 * (8 * (7 - t.val % 8) + i) + l, by omega⟩ ⟨256 * (t.val / 8) + v, by have := lt32 t; omega⟩) := by
  have := lt32 t
  blk_point [iblk, V, idxB t, ri]

theorem rd8 (t : Fin cfg0.N) (i : Fin 8) (l : Fin 64) (v : Fin 256) :
    (X0_8 m c t : Vec Ideal S512x256 .bf16) (ix2 (ri i l) v)
      = (m ((c : Thread nD τ).loc main_arg0) : Vec Ideal S4096x8320 .bf16) (ix2 ⟨64 * (8 * (7 - t.val % 8) + i) + l, by omega⟩ ⟨2048 + (256 * (t.val / 8) + v), by have := lt32 t; omega⟩) := by
  have := lt32 t
  unfold X0_8 Pipeline.Window.fill
  rw [dif_pos (moved0_8 t _)]
  blk_point [iblk, V, idxB t, ri]

theorem rd9 (t : Fin cfg0.N) (v : Fin 256) :
    (iblk m c 9 t : Vec Ideal S1x256 .f32) (ix2 0 v)
      = (m ((c : Thread nD τ).loc main_arg6) : Vec Ideal S1x256 .f32) (ix2 0 v) := by
  have := lt32 t
  blk_point [iblk, V, idxB t, ri]

theorem rd10 (t : Fin cfg0.N) (i : Fin 8) (v : Fin 256) (k : Fin 128) :
    (iblk m c 10 t : Vec Ideal S1x8x256x128 .bf16) (ix4 0 i v k)
      = (m ((c : Thread nD τ).loc main_arg3) : Vec Ideal S4x64x256x128 .bf16) (ix4 ⟨t.val / 8, by have := lt32 t; omega⟩ ⟨8 * (7 - t.val % 8) + i, by omega⟩ v k) := by
  have := lt32 t
  blk_point [iblk, V, idxB t, ri]

theorem rd11 (t : Fin cfg0.N) (v : Fin 256) (k : Fin 128) :
    (iblk m c 11 t : Vec Ideal S1x1x256x128 .bf16) (ix4 0 0 v k)
      = (m ((c : Thread nD τ).loc main_arg3) : Vec Ideal S4x64x256x128 .bf16) (ix4 ⟨t.val / 8, by have := lt32 t; omega⟩ ⟨8 * (7 - t.val % 8) - 1, by omega⟩ v k) := by
  have := lt32 t
  blk_point [iblk, V, idxB t, ri]

/-! ## The chunks of a grid point -/

/-- The chunks of point `n`'s block, and the gradients of the states at the block's chunks' ends. -/
def Ct (X : In) (n : ℕ) (i : Fin 8) : Chunk := X.chunk ⟨n / 8 % 4, by omega⟩ ⟨8 * (7 - n % 8) + i, by omega⟩
def Bt (X : In) (n s : ℕ) : Fin 128 → Fin 256 → ℝ := X.B ⟨n / 8 % 4, by omega⟩ (8 * (n % 8 + 1) - s)

theorem Bt_back (X : In) (n : ℕ) (i : Fin 8) : Bt X n i = (Ct X n i).back (Bt X n (i + 1)) := by
  have e : 8 * (n % 8 + 1) - (i : ℕ) = (8 * (n % 8 + 1) - (i + 1)) + 1 := by omega
  unfold Bt Ct
  rw [e]
  show (X.chunk _ _).back _ = _
  congr 2
  exact Fin.ext (show 63 - (8 * (n % 8 + 1) - ((i : ℕ) + 1)) = 8 * (7 - n % 8) + i by omega)

variable {m c} {X : In} (H : Holds X m c)
include H

theorem blk (t : Fin cfg0.N) (xs : Vec Ideal S256x128 .f32) (hx : ∀ v k, xs (ix2 v k) = ((Bt X t 8 k v : ℝ) : EReal)) :
    Blk (Ct X t) (Bt X t) (k0_pay74 (F := Ideal) (BitVec.ofNat 32 ((grid0.coords t) 1))) (iblk m c 0 t) (iblk m c 1 t) (X0_2 m c t) (iblk m c 3 t)
      (iblk m c 4 t) (iblk m c 5 t) (iblk m c 6 t) (iblk m c 7 t) (X0_8 m c t) (iblk m c 9 t) (iblk m c 10 t) (iblk m c 11 t) xs := by
  have ht := lt32 t
  have hd : t.val / 8 % 4 = t.val / 8 := by omega
  refine ⟨⟨fun i l k => ?_, fun i l k => ?_, fun i l k => ?_⟩, ⟨fun i l v => ?_, fun i l v => ?_, fun i l v => ?_, fun i v => ?_⟩,
    fun i l v => ?_, fun i v k => ?_, fun i k v => ?_, fun v k => ?_, fun i => Bt_back X t i, hx⟩
  · rw [rd0, H.proj]; simp only [Ct, In.chunk, In.row, hd]
  · rw [rd1, H.proj]; simp only [Ct, In.chunk, In.row, hd]
  · simp only [rd3, rd4, rd5, H.proj, H.wfg, H.bfg, ← EReal.coe_mul, ← coe_sum, ← EReal.coe_add]
    simp only [Ct, In.chunk, In.row, In.colK, hd]
  · rw [rd6, H.doa]; simp only [Ct, In.chunk, In.row, In.colV, hd]
  · rw [rd7, H.o]; simp only [Ct, In.chunk, In.row, In.colV, hd]
  · rw [rd8, H.proj]; simp only [Ct, In.chunk, In.row, hd]
  · rw [rd9, H.g]; simp only [Ct, In.chunk]
  · rw [rd2, H.proj]; simp only [Ct, In.chunk, In.row, hd]
  · rw [rd10, H.st]; simp only [Ct, In.chunk, hd]
  · simp only [Ct, In.chunk, hd]
    rw [dif_neg (by simp)]
    congr 1
  · rw [rd11, H.st, coord1, carried ⟨t.val % 8, by omega⟩]
    simp only [Ct, In.chunk, hd]
    by_cases h : t.val % 8 < 7
    · rw [if_pos h, dif_neg (by simp; omega), mul_one]; rfl
    · rw [if_neg h, dif_pos (by simp; omega), mul_zero]; rfl
end Cert.KernelIdeal.Gla
-- ==== Proof.Arr2.lean ====
module

public import proofs.«01_k».proof.Proof.Arr

@[expose] public section

set_option maxRecDepth 16384

/-! The kernel's result arrays, from arguments that hold reals: what the grid's points leave, one after another. -/

noncomputable section

open Idealize.ShloMosaic Idealize.ShloMosaic.TcCoe Idealize.SL.Sem
namespace Cert.KernelIdeal.Gla
open Cert.KernelIdeal Cert.KernelIdeal.Gen Cert.Gla

/-- What point `n` adds to the two sums over rows. -/
def part16 (X : In) (n : ℕ) (k : Fin 128) : ℝ := ∑ i : Fin 8, ∑ l, (Ct X n i).dfg (Bt X n (i + 1)) l k
def part18 (X : In) (n : ℕ) (v : Fin 256) : ℝ := ∑ i : Fin 8, ∑ l, (Ct X n i).dgt l v

/-- What the staged outputs and the carried state hold after point `n`. -/
structure Pt (X : In) (n : ℕ) (o : Vec Ideal S512x128 .bf16 × Vec Ideal S512x128 .bf16 × Vec Ideal S512x256 .bf16 × Vec Ideal S512x128 .bf16
    × Vec Ideal S8x128 .f32 × Vec Ideal S512x256 .bf16 × Vec Ideal S8x256 .f32 × Vec Ideal S256x128 .f32) : Prop where
  dq : ∀ a l k, o.1 (ix2 (ri a l) k) = (((Ct X n a).dq l k : ℝ) : EReal)
  dk : ∀ a l k, o.2.1 (ix2 (ri a l) k) = (((Ct X n a).dk (Bt X n (a + 1)) l k : ℝ) : EReal)
  dv : ∀ a l v, o.2.2.1 (ix2 (ri a l) v) = (((Ct X n a).dv (Bt X n (a + 1)) l v : ℝ) : EReal)
  dfg : ∀ a l k, o.2.2.2.1 (ix2 (ri a l) k) = (((Ct X n a).dfg (Bt X n (a + 1)) l k : ℝ) : EReal)
  db : ∀ a k, o.2.2.2.2.1 (ix2 a k) = ((∑ s ∈ Finset.range (n % 8 + 1), part16 X (8 * (n / 8) + s) k : ℝ) : EReal)
  dr : ∀ a l v, o.2.2.2.2.2.1 (ix2 (ri a l) v) = (((Ct X n a).dr l v : ℝ) : EReal)
  dg : ∀ a v, o.2.2.2.2.2.2.1 (ix2 a v) = ((∑ s ∈ Finset.range (n + 1), part18 X s v : ℝ) : EReal)
  xs : ∀ v k, o.2.2.2.2.2.2.2 (ix2 v k) = ((Bt X n 0 k v : ℝ) : EReal)

theorem pay2_zero (X : In) (n : ℕ) (h : n % 8 = 0) (v : Fin 256) (k : Fin 128) : k0_pay2 (F := Ideal) (ix2 v k) = ((Bt X n 8 k v : ℝ) : EReal) := by
  have e : 8 * (n % 8 + 1) - 8 = 0 := by omega
  have z : k0_pay2 (F := Ideal) (ix2 v k) = 0 := by pointwise [k0_pay2]
  rw [z, Bt, e]; rfl

theorem Bt_next (X : In) (n : ℕ) (h : ¬ n % 8 = 0) : Bt X n 8 = Bt X (n - 1) 0 := by
  unfold Bt
  have e : 8 * (n % 8 + 1) - 8 = 8 * ((n - 1) % 8 + 1) - 0 := by omega
  have f : n / 8 = (n - 1) / 8 := by omega
  rw [e]
  simp only [f]

theorem sum16_first (X : In) (n : ℕ) (h : n % 8 = 0) (k : Fin 128) : ∑ s ∈ Finset.range (n % 8 + 1), part16 X (8 * (n / 8) + s) k = part16 X n k := by
  have e : 8 * (n / 8) + 0 = n := by omega
  rw [h, Finset.sum_range_one, e]
theorem sum16_next (X : In) (n : ℕ) (h : ¬ n % 8 = 0) (k : Fin 128) :
    ∑ s ∈ Finset.range (n % 8 + 1), part16 X (8 * (n / 8) + s) k
      = (∑ s ∈ Finset.range ((n - 1) % 8 + 1), part16 X (8 * ((n - 1) / 8) + s) k) + part16 X n k := by
  have e : (n - 1) % 8 + 1 = n % 8 := by omega
  have f : (n - 1) / 8 = n / 8 := by omega
  have g : 8 * (n / 8) + n % 8 = n := by omega
  rw [e, f, Finset.sum_range_succ, g]

variable {m : (ℓ : Loc nD τ sig) → Buf (Elt Ideal) ℓ} {c : Dev nD} {X : In} (H : Holds X m c)
include H

theorem pt_A (t : Fin cfg0.N) (h0 : t.val % 8 = 0) (h1 : t.val % 32 = 0) : Pt X t.val (outsAt0 m c t.val t.isLt) := by
  have ht := lt32 t
  have hB := blk H t _ (pay2_zero X t h0)
  rw [outsAt0_A m c t h0 h1]
  constructor
  · intro a l k; dsimp only; apply out12_A (H := hB)
  · intro a l k; dsimp only; apply out13_A (H := hB)
  · intro a l k; dsimp only; apply out14_A (H := hB)
  · intro a l k; dsimp only; apply out15_A (H := hB)
  · intro a k; dsimp only; refine Eq.trans (by apply out16_A (H := hB)) ?_; rw [sum16_first X t h0]; rfl
  · intro a l k; dsimp only; apply out17_A (H := hB)
  · intro a v; dsimp only; refine Eq.trans (by apply out18_A (H := hB)) ?_; rw [show t.val = 0 by omega, Finset.sum_range_one]; rfl
  · intro v k; dsimp only; apply sout_A (H := hB)
theorem pt_C (t : Fin cfg0.N) (h0 : t.val % 8 = 0) (h1 : ¬ t.val % 32 = 0) (P : Pt X (t.val - 1) (outsAt0 m c (t.val - 1) (by omega))) :
    Pt X t.val (outsAt0 m c t.val t.isLt) := by
  have ht := lt32 t
  have hB := blk H t _ (pay2_zero X t h0)
  rw [outsAt0_C m c t h0 h1]
  constructor
  · intro a l k; dsimp only; apply out12_C (H := hB)
  · intro a l k; dsimp only; apply out13_C (H := hB)
  · intro a l k; dsimp only; apply out14_C (H := hB)
  · intro a l k; dsimp only; apply out15_C (H := hB)
  · intro a k; dsimp only; refine Eq.trans (by apply out16_C (H := hB)) ?_; rw [sum16_first X t h0]; rfl
  · intro a l k; dsimp only; apply out17_C (H := hB)
  · intro a v; dsimp only; refine Eq.trans (by apply out18_C (H := hB)) ?_; refine (congrArg (· + _) (P.dg a v)).trans ?_; rw [← EReal.coe_add, Finset.sum_range_succ _ t.val, show t.val - 1 + 1 = t.val by omega]; rfl
  · intro v k; dsimp only; apply sout_C (H := hB)
theorem pt_B (t : Fin cfg0.N) (h0 : ¬ t.val % 8 = 0) (h1 : ¬ t.val % 32 = 0) (P : Pt X (t.val - 1) (outsAt0 m c (t.val - 1) (by omega))) :
    Pt X t.val (outsAt0 m c t.val t.isLt) := by
  have ht := lt32 t
  have hB := blk H t (outsAt0 m c (t.val - 1) (by omega)).2.2.2.2.2.2.2 (fun v k => (P.xs v k).trans (by rw [Bt_next X t h0]))
  rw [outsAt0_B m c t h0 h1]
  constructor
  · intro a l k; dsimp only; apply out12_B (H := hB)
  · intro a l k; dsimp only; apply out13_B (H := hB)
  · intro a l k; dsimp only; apply out14_B (H := hB)
  · intro a l k; dsimp only; apply out15_B (H := hB)
  · intro a k; dsimp only; refine Eq.trans (by apply out16_B (H := hB)) ?_; refine (congrArg (· + _) (P.db a k)).trans ?_; rw [← EReal.coe_add, sum16_next X t h0]; rfl
  · intro a l k; dsimp only; apply out17_B (H := hB)
  · intro a v; dsimp only; refine Eq.trans (by apply out18_B (H := hB)) ?_; refine (congrArg (· + _) (P.dg a v)).trans ?_; rw [← EReal.coe_add, Finset.sum_range_succ _ t.val, show t.val - 1 + 1 = t.val by omega]; rfl
  · intro v k; dsimp only; apply sout_B (H := hB)

theorem pt (n : ℕ) (hn : n < cfg0.N) : Pt X n (outsAt0 m c n hn) := by
  induction n with
  | zero => exact pt_A H ⟨0, hn⟩ rfl rfl
  | succ n ih =>
    have hN : n + 1 < 32 := lt_of_lt_of_eq hn N_0
    have h1 : ¬ (n + 1) % 32 = 0 := by omega
    by_cases h0 : (n + 1) % 8 = 0
    · exact pt_C H ⟨n + 1, hn⟩ h0 h1 (ih _)
    · exact pt_B H ⟨n + 1, hn⟩ h0 h1 (ih _)

end Cert.KernelIdeal.Gla
-- ==== Proof.Res.lean ====
module

public import proofs.«01_k».proof.Proof.Spec

@[expose] public section

/-! The results of the backward pass, as arrays of reals: position `p = 64 c + l` is row `l` of chunk `c`, and head `h` holds its own columns. -/

noncomputable section

namespace Cert.Gla.In

variable (X : In)

def hK (z : Fin 512) : Fin 4 := ⟨z / 128, by omega⟩
def cK (z : Fin 512) : Fin 128 := ⟨z % 128, by omega⟩
def hV (z : Fin 1024) : Fin 4 := ⟨z / 256, by omega⟩
def cV (z : Fin 1024) : Fin 256 := ⟨z % 256, by omega⟩
def pc (p : Fin 4096) : Fin 64 := ⟨p / 64, by omega⟩
def pl (p : Fin 4096) : Fin 64 := ⟨p % 64, by omega⟩

def dqA (p : Fin 4096) (z : Fin 512) : ℝ := (X.chunk (hK z) (pc p)).dq (pl p) (cK z)
def dkA (p : Fin 4096) (z : Fin 512) : ℝ := (X.chunk (hK z) (pc p)).dk (X.Bc (hK z) (pc p)) (pl p) (cK z)
def dvA (p : Fin 4096) (z : Fin 1024) : ℝ := (X.chunk (hV z) (pc p)).dv (X.Bc (hV z) (pc p)) (pl p) (cV z)
def dfgA (p : Fin 4096) (z : Fin 512) : ℝ := (X.chunk (hK z) (pc p)).dfg (X.Bc (hK z) (pc p)) (pl p) (cK z)
def drA (p : Fin 4096) (z : Fin 1024) : ℝ := (X.chunk (hV z) (pc p)).dr (pl p) (cV z)
/-- The sums over the positions; the gradient of the norm's weights is summed over the heads too. -/
def dbA (z : Fin 512) : ℝ := ∑ c : Fin 64, ∑ l : Fin 64, (X.chunk (hK z) c).dfg (X.Bc (hK z) c) l (cK z)
def dgA (v : Fin 256) : ℝ := ∑ h : Fin 4, ∑ c : Fin 64, ∑ l : Fin 64, (X.chunk h c).dgt l v

section
variable {h : Fin 4} {c l : Fin 64} {p : Fin 4096} (hp : (p : ℕ) = 64 * c + l)
include hp

theorem pc_eq : pc p = c := Fin.ext (show (p : ℕ) / 64 = c by omega)
theorem pl_eq : pl p = l := Fin.ext (show (p : ℕ) % 64 = l by omega)

variable {k : Fin 128} {z : Fin 512} (hz : (z : ℕ) = 128 * h + k)
include hz

theorem dqA_eq : X.dqA p z = (X.chunk h c).dq l k := by
  unfold dqA; rw [pc_eq hp, pl_eq hp, show hK z = h from Fin.ext (show (z : ℕ) / 128 = h by omega), show cK z = k from Fin.ext (show (z : ℕ) % 128 = k by omega)]
theorem dkA_eq : X.dkA p z = (X.chunk h c).dk (X.Bc h c) l k := by
  unfold dkA; rw [pc_eq hp, pl_eq hp, show hK z = h from Fin.ext (show (z : ℕ) / 128 = h by omega), show cK z = k from Fin.ext (show (z : ℕ) % 128 = k by omega)]
theorem dfgA_eq : X.dfgA p z = (X.chunk h c).dfg (X.Bc h c) l k := by
  unfold dfgA; rw [pc_eq hp, pl_eq hp, show hK z = h from Fin.ext (show (z : ℕ) / 128 = h by omega), show cK z = k from Fin.ext (show (z : ℕ) % 128 = k by omega)]
end

section
variable {h : Fin 4} {c l : Fin 64} {p : Fin 4096} (hp : (p : ℕ) = 64 * c + l) {v : Fin 256} {z : Fin 1024} (hz : (z : ℕ) = 256 * h + v)
include hp hz

theorem dvA_eq : X.dvA p z = (X.chunk h c).dv (X.Bc h c) l v := by
  unfold dvA; rw [pc_eq hp, pl_eq hp, show hV z = h from Fin.ext (show (z : ℕ) / 256 = h by omega), show cV z = v from Fin.ext (show (z : ℕ) % 256 = v by omega)]
theorem drA_eq : X.drA p z = (X.chunk h c).dr l v := by
  unfold drA; rw [pc_eq hp, pl_eq hp, show hV z = h from Fin.ext (show (z : ℕ) / 256 = h by omega), show cV z = v from Fin.ext (show (z : ℕ) % 256 = v by omega)]
end

theorem dbA_eq {h : Fin 4} {k : Fin 128} {z : Fin 512} (hz : (z : ℕ) = 128 * h + k) :
    X.dbA z = ∑ c : Fin 64, ∑ l : Fin 64, (X.chunk h c).dfg (X.Bc h c) l k := by
  unfold dbA; rw [show hK z = h from Fin.ext (show (z : ℕ) / 128 = h by omega), show cK z = k from Fin.ext (show (z : ℕ) % 128 = k by omega)]

end Cert.Gla.In
-- ==== Proof.Arr3.lean ====
module

public import proofs.«01_k».proof.Proof.Arr2
public import proofs.«01_k».proof.Proof.Res

@[expose] public section

set_option maxRecDepth 16384

/-! The kernel's result arrays, from arguments that hold reals: the arrays after the last grid point. -/

noncomputable section

open Idealize.ShloMosaic Idealize.ShloMosaic.TcCoe Idealize.SL.Sem
namespace Cert.KernelIdeal.Gla
open Cert.KernelIdeal Cert.KernelIdeal.Gen Cert.Gla

theorem idxC : ∀ t : Fin cfg0.N, win0_12.index t = ![7 - t.val % 8, t.val / 8] ∧ win0_13.index t = ![7 - t.val % 8, t.val / 8]
    ∧ win0_14.index t = ![7 - t.val % 8, t.val / 8] ∧ win0_15.index t = ![7 - t.val % 8, t.val / 8]
    ∧ win0_16.index t = ![0, t.val / 8] ∧ win0_17.index t = ![7 - t.val % 8, 8 + t.val / 8] ∧ win0_18.index t = ![0, 0] :=
  (by decide +kernel : ∀ t : Fin grid0.N, _)

/-- The head and the chunk of row group `a` of point `t`'s block. -/
def hd (t : Fin cfg0.N) : Fin 4 := ⟨t.val / 8, by have := lt32 t; omega⟩
def ck (t : Fin cfg0.N) (a : Fin 8) : Fin 64 := ⟨8 * (7 - t.val % 8) + a, by omega⟩

theorem Ct_eq (X : In) (t : Fin cfg0.N) (a : Fin 8) : Ct X t a = X.chunk (hd t) (ck t a) := by
  have ht := lt32 t
  unfold Ct hd ck
  congr 1
  exact Fin.ext (show t.val / 8 % 4 = t.val / 8 by omega)
theorem Bt_eq (X : In) (t : Fin cfg0.N) (a : Fin 8) : Bt X t (a + 1) = X.Bc (hd t) (ck t a) := by
  have ht := lt32 t
  unfold Bt In.Bc hd ck
  congr 1
  · exact Fin.ext (show t.val / 8 % 4 = t.val / 8 by omega)
  · show 8 * (t.val % 8 + 1) - ((a : ℕ) + 1) = 63 - (8 * (7 - t.val % 8) + a)
    omega

theorem exists_ri2 {n : ℕ} (y : (⟨2, ![512, n]⟩ : Shape).Idx) : ∃ (a : Fin 8) (l : Fin 64) (k : Fin n), y = ix2 (ri a l) k := by
  obtain ⟨a, l, e⟩ := exists_ri (y 0)
  exact ⟨a, l, y 1, by rw [← e]; funext x; fin_cases x <;> rfl⟩

variable {m : (ℓ : Loc nD τ sig) → Buf (Elt Ideal) ℓ} {c : Dev nD} {X : In} (H : Holds X m c)
include H

theorem arr12 : (dats m 0 c).arrAt 12 cfg0.N = (fun i => ((X.dqA (i 0) (i 1) : ℝ) : EReal) : Vec Ideal S4096x512 .bf16) := by
  refine (dats m 0 c).arrAt_eq_of_covers 12 _ (by decide +kernel) fun t hf y => ?_
  have ht := lt32 t
  have P := pt H t.val t.isLt
  obtain ⟨a, l, k, rfl⟩ := exists_ri2 (n := 128) y
  blk_simp
  rw [after0_12]
  refine (P.dq a l k).trans ?_
  rw [Ct_eq]
  refine congrArg _ (X.dqA_eq ?_ ?_).symm
  · blk_simp [idxC t, ri, ck]; dsimp only; omega
  · blk_simp [idxC t, hd]; dsimp only; omega

theorem arr13 : (dats m 0 c).arrAt 13 cfg0.N = (fun i => ((X.dkA (i 0) (i 1) : ℝ) : EReal) : Vec Ideal S4096x512 .bf16) := by
  refine (dats m 0 c).arrAt_eq_of_covers 13 _ (by decide +kernel) fun t hf y => ?_
  have ht := lt32 t
  have P := pt H t.val t.isLt
  obtain ⟨a, l, k, rfl⟩ := exists_ri2 (n := 128) y
  blk_simp
  rw [after0_13]
  refine (P.dk a l k).trans ?_
  rw [Bt_eq, Ct_eq]
  refine congrArg _ (X.dkA_eq ?_ ?_).symm
  · blk_simp [idxC t, ri, ck]; dsimp only; omega
  · blk_simp [idxC t, hd]; dsimp only; omega

theorem arr14 : (dats m 0 c).arrAt 14 cfg0.N = (fun i => ((X.dvA (i 0) (i 1) : ℝ) : EReal) : Vec Ideal S4096x1024 .bf16) := by
  refine (dats m 0 c).arrAt_eq_of_covers 14 _ (by decide +kernel) fun t hf y => ?_
  have ht := lt32 t
  have P := pt H t.val t.isLt
  obtain ⟨a, l, k, rfl⟩ := exists_ri2 (n := 256) y
  blk_simp
  rw [after0_14]
  refine (P.dv a l k).trans ?_
  rw [Bt_eq, Ct_eq]
  refine congrArg _ (X.dvA_eq ?_ ?_).symm
  · blk_simp [idxC t, ri, ck]; dsimp only; omega
  · blk_simp [idxC t, hd]; dsimp only; omega

theorem arr15 : (dats m 0 c).arrAt 15 cfg0.N = (fun i => ((X.dfgA (i 0) (i 1) : ℝ) : EReal) : Vec Ideal S4096x512 .bf16) := by
  refine (dats m 0 c).arrAt_eq_of_covers 15 _ (by decide +kernel) fun t hf y => ?_
  have ht := lt32 t
  have P := pt H t.val t.isLt
  obtain ⟨a, l, k, rfl⟩ := exists_ri2 (n := 128) y
  blk_simp
  rw [after0_15]
  refine (P.dfg a l k).trans ?_
  rw [Bt_eq, Ct_eq]
  refine congrArg _ (X.dfgA_eq ?_ ?_).symm
  · blk_simp [idxC t, ri, ck]; dsimp only; omega
  · blk_simp [idxC t, hd]; dsimp only; omega

omit H in
theorem sum_chunks (F : Fin 64 → ℝ) : ∑ c, F c = ∑ s : Fin 8, ∑ a : Fin 8, F ⟨8 * (7 - s) + a, by omega⟩ := by
  have e : ∑ c, F c = ∑ x : Fin 8 × Fin 8, F (finProdFinEquiv x) := (Equiv.sum_comp (finProdFinEquiv (m := 8) (n := 8)) F).symm
  rw [e, Fintype.sum_prod_type, ← Equiv.sum_comp Fin.revPerm]
  refine Finset.sum_congr rfl fun s _ => Finset.sum_congr rfl fun a _ => congrArg F (Fin.ext ?_)
  show (a : ℕ) + 8 * (8 - (s + 1)) = 8 * (7 - s) + a
  omega

omit H in
theorem part16_eq (X : In) (h : Fin 4) (s : Fin 8) (k : Fin 128) : part16 X (8 * h + s) k
    = ∑ a : Fin 8, ∑ l, (X.chunk h ⟨8 * (7 - s) + a, by omega⟩).dfg (X.Bc h ⟨8 * (7 - s) + a, by omega⟩) l k := by
  have hn : 8 * (h : ℕ) + s < cfg0.N := by rw [show cfg0.N = 32 from N_0]; omega
  unfold part16
  refine Finset.sum_congr rfl fun a _ => ?_
  have e1 := Ct_eq X ⟨_, hn⟩ a
  have e2 := Bt_eq X ⟨_, hn⟩ a
  have eh : hd ⟨_, hn⟩ = h := Fin.ext (show (8 * (h : ℕ) + s) / 8 = h by omega)
  have ec : ck ⟨_, hn⟩ a = ⟨8 * (7 - s) + a, by omega⟩ := Fin.ext (show 8 * (7 - (8 * (h : ℕ) + s) % 8) + a = 8 * (7 - s) + a by omega)
  dsimp only at e1 e2
  rw [e1, e2, eh, ec]

omit H in
theorem part18_eq (X : In) (h : Fin 4) (s : Fin 8) (v : Fin 256) : part18 X (8 * h + s) v
    = ∑ a : Fin 8, ∑ l, (X.chunk h ⟨8 * (7 - s) + a, by omega⟩).dgt l v := by
  have hn : 8 * (h : ℕ) + s < cfg0.N := by rw [show cfg0.N = 32 from N_0]; omega
  unfold part18
  refine Finset.sum_congr rfl fun a _ => ?_
  have e1 := Ct_eq X ⟨_, hn⟩ a
  have eh : hd ⟨_, hn⟩ = h := Fin.ext (show (8 * (h : ℕ) + s) / 8 = h by omega)
  have ec : ck ⟨_, hn⟩ a = ⟨8 * (7 - s) + a, by omega⟩ := Fin.ext (show 8 * (7 - (8 * (h : ℕ) + s) % 8) + a = 8 * (7 - s) + a by omega)
  dsimp only at e1
  rw [e1, eh, ec]

theorem arr16 : (dats m 0 c).arrAt 16 cfg0.N = (fun i => ((X.dbA (i 1) : ℝ) : EReal) : Vec Ideal S8x512 .f32) := by
  refine (dats m 0 c).arrAt_eq_of_covers 16 _ (by decide +kernel) fun t hf y => ?_
  have ht := lt32 t
  have h7 := (flush0_16 t).mp hf
  have P := pt H t.val t.isLt
  obtain ⟨a, k, rfl⟩ : ∃ (a : Fin 8) (k : Fin 128), y = ix2 a k := ⟨y 0, y 1, by funext x; fin_cases x <;> rfl⟩
  blk_simp
  rw [after0_16]
  refine (P.db a k).trans (congrArg _ ?_)
  have ev : ∀ z : Fin 512, (z : ℕ) = 128 * (hd t) + k → ∑ s ∈ Finset.range (t.val % 8 + 1), part16 X (8 * (t.val / 8) + s) k = X.dbA z := fun z hz => by
    rw [X.dbA_eq hz, sum_chunks, h7, Finset.sum_range]
    exact Finset.sum_congr rfl fun s _ => part16_eq X (hd t) s k
  exact ev _ (by blk_simp [idxC t, hd]; dsimp only; omega)

theorem arr17 : (dats m 0 c).arrAt 17 cfg0.N = (fun i => if hz : 2048 ≤ (i 1 : ℕ) ∧ (i 1 : ℕ) < 3072 then ((X.drA (i 0) ⟨i 1 - 2048, by omega⟩ : ℝ) : EReal)
    else (m ((c : Thread nD τ).loc main_arg7) : Vec Ideal S4096x8320 .bf16) i : Vec Ideal S4096x8320 .bf16) := by
  refine Eq.trans (b := (fun i => if 2048 ≤ (i 1 : ℕ) ∧ (i 1 : ℕ) < 3072 then (fun i => if hz : 2048 ≤ (i 1 : ℕ) ∧ (i 1 : ℕ) < 3072 then ((X.drA (i 0) ⟨i 1 - 2048, by omega⟩ : ℝ) : EReal) else 0 : Vec Ideal S4096x8320 .bf16) i
    else (m ((c : Thread nD τ).loc main_arg7) : Vec Ideal S4096x8320 .bf16) i : Vec Ideal S4096x8320 .bf16)) ?_ ?_
  · have hV : (m ((c : Thread nD τ).loc main_arg7) : Vec Ideal S4096x8320 .bf16) = V m c main_v0_5 := by unfold V; after_results; try rfl
    rw [hV]
    refine (dats m 0 c).arrAt_eq_of_coversWhere 17 _ (fun β => 8 ≤ β 1 ∧ β 1 < 12) (by decide +kernel) (fun t hf y => ?_)
      (fun j => by blk_simp [Pipeline.Window.cell_apply]; omega)
    have ht := lt32 t
    have P := pt H t.val t.isLt
    obtain ⟨a, l, k, hy⟩ := exists_ri2 (n := 256) ((cfg0.win 17).xinj (cfg0.grid.coords t) y)
    have h0 : (y 0 : ℕ) = 64 * a + l := congrArg (fun i : (⟨2, ![512, 256]⟩ : Shape).Idx => (i 0 : ℕ)) hy
    have h1 : (y 1 : ℕ) = k := congrArg (fun i : (⟨2, ![512, 256]⟩ : Shape).Idx => (i 1 : ℕ)) hy
    rw [hy, after0_17]
    refine (P.dr a l k).trans ?_
    rw [Ct_eq]
    have ev : ∀ (p : Fin 4096) (z : Fin 8320), (p : ℕ) = 64 * ck t a + l → (z : ℕ) = 2048 + (256 * hd t + k) →
        (((X.chunk (hd t) (ck t a)).dr l k : ℝ) : EReal) = if hz : 2048 ≤ (z : ℕ) ∧ (z : ℕ) < 3072 then ((X.drA p ⟨z - 2048, by omega⟩ : ℝ) : EReal) else 0 := fun p z hp hz => by
      rw [dif_pos (by omega), X.drA_eq hp (h := hd t) (v := k) (by show (z : ℕ) - 2048 = _; omega)]
    refine ev _ _ ?_ ?_
    · blk_simp [idxC t, ck]; dsimp only; omega
    · blk_simp [idxC t, hd]; dsimp only; omega
  · funext i
    by_cases hz : 2048 ≤ (i 1 : ℕ) ∧ (i 1 : ℕ) < 3072
    · simp only [hz, and_self, if_true, dif_pos]
    · simp only [if_neg hz, dif_neg hz]

theorem arr18 : (dats m 0 c).arrAt 18 cfg0.N = (fun i => ((X.dgA (i 1) : ℝ) : EReal) : Vec Ideal S8x256 .f32) := by
  refine (dats m 0 c).arrAt_eq_of_covers 18 _ (by decide +kernel) fun t hf y => ?_
  have ht := lt32 t
  have h31 := (flush0_18 t).mp hf
  have P := pt H t.val t.isLt
  obtain ⟨a, v, rfl⟩ : ∃ (a : Fin 8) (v : Fin 256), y = ix2 a v := ⟨y 0, y 1, by funext x; fin_cases x <;> rfl⟩
  blk_simp
  rw [after0_18]
  refine (P.dg a v).trans (congrArg _ ?_)
  have ev : ∀ w : Fin 256, (w : ℕ) = v → ∑ s ∈ Finset.range (t.val + 1), part18 X s v = X.dgA w := fun w hw => by
    obtain rfl : w = v := Fin.ext hw
    rw [show t.val + 1 = 32 by omega, Finset.sum_range]
    have e : ∑ s : Fin 32, part18 X s w = ∑ x : Fin 4 × Fin 8, part18 X (finProdFinEquiv x : Fin 32) w :=
      (Equiv.sum_comp (finProdFinEquiv (m := 4) (n := 8)) fun s : Fin 32 => part18 X s w).symm
    rw [e, Fintype.sum_prod_type]
    unfold In.dgA
    refine Finset.sum_congr rfl fun h _ => ?_
    rw [sum_chunks]
    refine Finset.sum_congr rfl fun s _ => ?_
    rw [← part18_eq]
    congr 1
    show (s : ℕ) + 8 * h = 8 * h + s
    omega
  exact ev _ (by blk_simp [idxC t])

end Cert.KernelIdeal.Gla
-- ==== Proof.Ref2.lean ====
module

public import proofs.«01_k».proof.Proof.Ref1
public import proofs.«01_k».proof.Proof.Res

@[expose] public section

set_option maxRecDepth 16384

/-! The reference's loop: after `j` turns the last `j` chunks' gradients stand in the arrays, and the state's gradient is the recurrence's. -/

noncomputable section

open Idealize.ShloMosaic Idealize.ShloMosaic.TcCoe Idealize.SL.Sem
namespace Cert.ReferenceIdeal.Gla
open Cert.ReferenceIdeal Cert.ReferenceIdeal.Gen Cert.ReferenceIdeal.Value Cert.Gla

/-! ## A chunk's slice written -/

theorem write128 {c : Fin 64} {st : Fin 4 → Int} (h0 : st 0 = (c : ℕ)) (h1 : st 1 = 0) (h2 : st 2 = 0) (h3 : st 3 = 0)
    (A : Vec Ideal S64x4x64x128 .f32) (u : FVec Ideal S4x64x128 .f32) (hf : S64x4x64x128.Slices (fun _ => 0) S1x4x64x128)
    (p : Fin 64) (h : Fin 4) (l : Fin 64) (k : Fin 128) :
    Host.dynamicUpdateSlice A (broadcastInDim S1x4x64x128 ![1, 2, 3] bcast_S4x64x128_S1x4x64x128_1_2_3 u) st hf (ix4 p h l k)
      = if p = c then u (ix3 h l k) else A (ix4 p h l k) := by
  have hs := off_eq h0 h1 h2 h3
  rw [Host.dynamicUpdateSlice_eq_updateSlice A _ st hf ![(c : ℕ), 0, 0, 0] (fun a => by rw [hs a]; fin_cases a <;> simp <;> omega) ⟨rfl, fun a => by fin_cases a <;> simp <;> omega⟩]
  pointwise
  by_cases e : p = c
  · subst e; simp
  · rw [if_neg e]; simp; intro h1 h2; exact absurd (le_antisymm h2 h1) e
theorem write256 {c : Fin 64} {st : Fin 4 → Int} (h0 : st 0 = (c : ℕ)) (h1 : st 1 = 0) (h2 : st 2 = 0) (h3 : st 3 = 0)
    (A : Vec Ideal S64x4x64x256 .f32) (u : FVec Ideal S4x64x256 .f32) (hf : S64x4x64x256.Slices (fun _ => 0) S1x4x64x256)
    (p : Fin 64) (h : Fin 4) (l : Fin 64) (k : Fin 256) :
    Host.dynamicUpdateSlice A (broadcastInDim S1x4x64x256 ![1, 2, 3] bcast_S4x64x256_S1x4x64x256_1_2_3 u) st hf (ix4 p h l k)
      = if p = c then u (ix3 h l k) else A (ix4 p h l k) := by
  have hs := off_eq h0 h1 h2 h3
  rw [Host.dynamicUpdateSlice_eq_updateSlice A _ st hf ![(c : ℕ), 0, 0, 0] (fun a => by rw [hs a]; fin_cases a <;> simp <;> omega) ⟨rfl, fun a => by fin_cases a <;> simp <;> omega⟩]
  pointwise
  by_cases e : p = c
  · subst e; simp
  · rw [if_neg e]; simp; intro h1 h2; exact absurd (le_antisymm h2 h1) e
theorem writeG {c : Fin 64} {st : Fin 3 → Int} (h0 : st 0 = (c : ℕ)) (h1 : st 1 = 0) (h2 : st 2 = 0)
    (A : Vec Ideal S64x1x256 .f32) (u : FVec Ideal S1x256 .f32) (hf : S64x1x256.Slices (fun _ => 0) S1x1x256) (p : Fin 64) (v : Fin 256) :
    Host.dynamicUpdateSlice A (broadcastInDim S1x1x256 ![1, 2] bcast_S1x256_S1x1x256_1_2 u) st hf (ix3 p 0 v)
      = if p = c then u (ix2 0 v) else A (ix3 p 0 v) := by
  have hs : ∀ a : Fin 3, st a = ((![(c : ℕ), 0, 0] : Fin 3 → ℕ) a : Int) := fun a => by
    fin_cases a
    · exact h0
    · exact h1
    · exact h2
  rw [Host.dynamicUpdateSlice_eq_updateSlice A _ st hf ![(c : ℕ), 0, 0] (fun a => by rw [hs a]; fin_cases a <;> simp <;> omega) ⟨rfl, fun a => by fin_cases a <;> simp <;> omega⟩]
  pointwise
  by_cases e : p = c
  · subst e; simp
  · rw [if_neg e]; simp; intro h1 h2; exact absurd (le_antisymm h2 h1) e

theorem step12_eq (V0 : Valuation τ sig (Elt Ideal)) : step_main_v38_12 (F := Ideal) V0 = Host.dynamicUpdateSlice (V0 (Proc.devRef .tc main_v38_12)) (broadcastInDim S1x4x64x128 ![1, 2, 3] bcast_S4x64x128_S1x4x64x128_1_2_3 (updQ V0)) (fun k => (((![res_main_while0b_v63 V0, constantI S_ 32 0#32, constantI S_ 32 0#32, constantI S_ 32 0#32] : Fin 4 → (⟨S_, .i32⟩ : BufTy).Contents (Elt Ideal))) k (Shape.Idx.first h_S_)).toInt) updateFits_S64x4x64x128_S1x4x64x128 := by
  unfold step_main_v38_12 updQ
  rfl
theorem step13_eq (V0 : Valuation τ sig (Elt Ideal)) : step_main_v38_13 (F := Ideal) V0 = Host.dynamicUpdateSlice (V0 (Proc.devRef .tc main_v38_13)) (broadcastInDim S1x4x64x128 ![1, 2, 3] bcast_S4x64x128_S1x4x64x128_1_2_3 (updK V0)) (fun k => (((![res_main_while0b_v63 V0, constantI S_ 32 0#32, constantI S_ 32 0#32, constantI S_ 32 0#32] : Fin 4 → (⟨S_, .i32⟩ : BufTy).Contents (Elt Ideal))) k (Shape.Idx.first h_S_)).toInt) updateFits_S64x4x64x128_S1x4x64x128 := by
  unfold step_main_v38_13 updK
  rfl
theorem step14_eq (V0 : Valuation τ sig (Elt Ideal)) : step_main_v38_14 (F := Ideal) V0 = Host.dynamicUpdateSlice (V0 (Proc.devRef .tc main_v38_14)) (broadcastInDim S1x4x64x256 ![1, 2, 3] bcast_S4x64x256_S1x4x64x256_1_2_3 (updV V0)) (fun k => (((![res_main_while0b_v63 V0, constantI S_ 32 0#32, constantI S_ 32 0#32, constantI S_ 32 0#32] : Fin 4 → (⟨S_, .i32⟩ : BufTy).Contents (Elt Ideal))) k (Shape.Idx.first h_S_)).toInt) updateFits_S64x4x64x256_S1x4x64x256 := by
  unfold step_main_v38_14 updV
  rfl
theorem step15_eq (V0 : Valuation τ sig (Elt Ideal)) : step_main_v38_15 (F := Ideal) V0 = Host.dynamicUpdateSlice (V0 (Proc.devRef .tc main_v38_15)) (broadcastInDim S1x4x64x256 ![1, 2, 3] bcast_S4x64x256_S1x4x64x256_1_2_3 (updR V0)) (fun k => (((![res_main_while0b_v63 V0, constantI S_ 32 0#32, constantI S_ 32 0#32, constantI S_ 32 0#32] : Fin 4 → (⟨S_, .i32⟩ : BufTy).Contents (Elt Ideal))) k (Shape.Idx.first h_S_)).toInt) updateFits_S64x4x64x256_S1x4x64x256 := by
  unfold step_main_v38_15 updR
  rfl
theorem step17_eq (V0 : Valuation τ sig (Elt Ideal)) : step_main_v38_17 (F := Ideal) V0 = Host.dynamicUpdateSlice (V0 (Proc.devRef .tc main_v38_17)) (broadcastInDim S1x1x256 ![1, 2] bcast_S1x256_S1x1x256_1_2 (updG V0)) (fun k => (((![res_main_while0b_v63 V0, constantI S_ 32 0#32, constantI S_ 32 0#32] : Fin 3 → (⟨S_, .i32⟩ : BufTy).Contents (Elt Ideal))) k (Shape.Idx.first h_S_)).toInt) updateFits_S64x1x256_S1x1x256 := by
  unfold step_main_v38_17 updG
  rfl

/-- The chunk that turn `j` goes through. -/
def cur (j : ℕ) : Fin 64 := ⟨63 - j, by omega⟩

/-- After `j` turns. -/
structure Inv (X : In) (j : ℕ) (V0 : Valuation τ sig (Elt Ideal)) : Prop where
  ctr : (V0 (Proc.devRef .tc main_v38_10) : Vec Ideal S_ .i32) (Shape.Idx.first h_S_) = BitVec.ofNat 32 j
  q : ∀ c h l k, (V0 (Proc.devRef .tc main_v38_0) : Vec Ideal S64x4x64x128 .f32) (ix4 c h l k) = (((X.chunk h c).q l k : ℝ) : EReal)
  k : ∀ c h l k, (V0 (Proc.devRef .tc main_v38_1) : Vec Ideal S64x4x64x128 .f32) (ix4 c h l k) = (((X.chunk h c).k l k : ℝ) : EReal)
  v : ∀ c h l v, (V0 (Proc.devRef .tc main_v38_2) : Vec Ideal S64x4x64x256 .f32) (ix4 c h l v) = (((X.chunk h c).v l v : ℝ) : EReal)
  r : ∀ c h l v, (V0 (Proc.devRef .tc main_v38_3) : Vec Ideal S64x4x64x256 .f32) (ix4 c h l v) = (((X.chunk h c).r l v : ℝ) : EReal)
  fg : ∀ c h l k, (V0 (Proc.devRef .tc main_v38_4) : Vec Ideal S64x4x64x128 .f32) (ix4 c h l k) = (((X.chunk h c).fg l k : ℝ) : EReal)
  o : ∀ c h l v, (V0 (Proc.devRef .tc main_v38_5) : Vec Ideal S64x4x64x256 .f32) (ix4 c h l v) = (((X.chunk h c).o l v : ℝ) : EReal)
  y : ∀ c h l v, (V0 (Proc.devRef .tc main_v38_6) : Vec Ideal S64x4x64x256 .f32) (ix4 c h l v) = (((X.chunk h c).y l v : ℝ) : EReal)
  sb : ∀ c h k v, (V0 (Proc.devRef .tc main_v38_7) : Vec Ideal S64x4x128x256 .f32) (ix4 c h k v) = (((X.chunk h c).sb k v : ℝ) : EReal)
  sa : ∀ c h k v, (V0 (Proc.devRef .tc main_v38_8) : Vec Ideal S64x4x128x256 .f32) (ix4 c h k v) = (((X.chunk h c).sa k v : ℝ) : EReal)
  g : ∀ v, (V0 (Proc.devRef .tc main_v38_9) : Vec Ideal S1x256 .f32) (ix2 0 v) = ((X.g v : ℝ) : EReal)
  st : ∀ h k v, (V0 (Proc.devRef .tc main_v38_11) : Vec Ideal S4x128x256 .f32) (ix3 h k v) = ((X.B h j k v : ℝ) : EReal)
  dq : ∀ c : Fin 64, 64 ≤ (c : ℕ) + j → ∀ h l k, (V0 (Proc.devRef .tc main_v38_12) : Vec Ideal S64x4x64x128 .f32) (ix4 c h l k) = (((X.chunk h c).dq l k : ℝ) : EReal)
  dk : ∀ c : Fin 64, 64 ≤ (c : ℕ) + j → ∀ h l k, (V0 (Proc.devRef .tc main_v38_13) : Vec Ideal S64x4x64x128 .f32) (ix4 c h l k) = (((X.chunk h c).dk (X.Bc h c) l k : ℝ) : EReal)
  dv : ∀ c : Fin 64, 64 ≤ (c : ℕ) + j → ∀ h l v, (V0 (Proc.devRef .tc main_v38_14) : Vec Ideal S64x4x64x256 .f32) (ix4 c h l v) = (((X.chunk h c).dv (X.Bc h c) l v : ℝ) : EReal)
  dr : ∀ c : Fin 64, 64 ≤ (c : ℕ) + j → ∀ h l v, (V0 (Proc.devRef .tc main_v38_15) : Vec Ideal S64x4x64x256 .f32) (ix4 c h l v) = (((X.chunk h c).dr l v : ℝ) : EReal)
  dfg : ∀ c : Fin 64, 64 ≤ (c : ℕ) + j → ∀ h l k, (V0 (Proc.devRef .tc main_v38_16) : Vec Ideal S64x4x64x128 .f32) (ix4 c h l k) = (((X.chunk h c).dfg (X.Bc h c) l k : ℝ) : EReal)
  dg : ∀ c : Fin 64, 64 ≤ (c : ℕ) + j → ∀ v, (V0 (Proc.devRef .tc main_v38_17) : Vec Ideal S64x1x256 .f32) (ix3 c 0 v) = ((∑ h, ∑ l, (X.chunk h c).dgt l v : ℝ) : EReal)

theorem Bc_eq (X : In) (h : Fin 4) {j : ℕ} (c : Fin 64) (hc : (c : ℕ) = 63 - j) (hj : j < 64) : X.Bc h c = X.B h j := by
  unfold In.Bc; rw [show 63 - (c : ℕ) = j by omega]

section
variable {X : In} {j : ℕ} {V0 : Valuation τ sig (Elt Ideal)} (I : Inv X j V0) (hj : j < 64)
include I hj

theorem Inv.toAt : At V0 (fun h => X.chunk h (cur j)) (fun h => X.B h j) (cur j) where
  idx := by
    show ((64#32 - (V0 (Proc.devRef .tc main_v38_10) : Vec Ideal S_ .i32) (Shape.Idx.first h_S_)) - 1#32).toInt = ((63 - j : ℕ) : Int)
    rw [I.ctr]
    interval_cases j <;> rfl
  q := I.q _
  k := I.k _
  v := I.v _
  r := I.r _
  fg := I.fg _
  o := I.o _
  y := I.y _
  sb := I.sb _
  sa := I.sa _
  g _ := I.g
  st := I.st

theorem Inv.step : Inv X (j + 1) (STEP V0) where
  ctr := by
    rw [STEP_main_v38_10]
    show (fun x : BitVec 32 => x + 1#32) ((V0 (Proc.devRef .tc main_v38_10) : Vec Ideal S_ .i32) (Shape.Idx.first h_S_)) = _
    rw [I.ctr]
    exact (BitVec.ofNat_add ..).symm
  q := by rw [STEP_main_v38_0]; exact I.q
  k := by rw [STEP_main_v38_1]; exact I.k
  v := by rw [STEP_main_v38_2]; exact I.v
  r := by rw [STEP_main_v38_3]; exact I.r
  fg := by rw [STEP_main_v38_4]; exact I.fg
  o := by rw [STEP_main_v38_5]; exact I.o
  y := by rw [STEP_main_v38_6]; exact I.y
  sb := by rw [STEP_main_v38_7]; exact I.sb
  sa := by rw [STEP_main_v38_8]; exact I.sa
  g := by rw [STEP_main_v38_9]; exact I.g
  st := fun h k v => by rw [STEP_main_v38_11]; exact back_at (I.toAt hj) h k v
  dq := fun c hc h l k => by
    rw [STEP_main_v38_12, step12_eq]
    refine (write128 (I.toAt hj).idx rfl rfl rfl (V0 (Proc.devRef .tc main_v38_12)) (updQ V0) _ c h l k).trans ?_
    by_cases e : c = (cur j)
    · rw [if_pos e, e]; exact dq_at (I.toAt hj) h l k
    · rw [if_neg e]; exact I.dq c (by have : ¬ (c : ℕ) = 63 - j := fun h => e (Fin.ext h); omega) h l k
  dk := fun c hc h l k => by
    rw [STEP_main_v38_13, step13_eq]
    refine (write128 (I.toAt hj).idx rfl rfl rfl (V0 (Proc.devRef .tc main_v38_13)) (updK V0) _ c h l k).trans ?_
    by_cases e : c = (cur j)
    · rw [if_pos e, e]; rw [Bc_eq X h (cur j) rfl hj]; exact dk_at (I.toAt hj) h l k
    · rw [if_neg e]; exact I.dk c (by have : ¬ (c : ℕ) = 63 - j := fun h => e (Fin.ext h); omega) h l k
  dv := fun c hc h l v => by
    rw [STEP_main_v38_14, step14_eq]
    refine (write256 (I.toAt hj).idx rfl rfl rfl (V0 (Proc.devRef .tc main_v38_14)) (updV V0) _ c h l v).trans ?_
    by_cases e : c = (cur j)
    · rw [if_pos e, e]; rw [Bc_eq X h (cur j) rfl hj]; exact dv_at (I.toAt hj) h l v
    · rw [if_neg e]; exact I.dv c (by have : ¬ (c : ℕ) = 63 - j := fun h => e (Fin.ext h); omega) h l v
  dr := fun c hc h l v => by
    rw [STEP_main_v38_15, step15_eq]
    refine (write256 (I.toAt hj).idx rfl rfl rfl (V0 (Proc.devRef .tc main_v38_15)) (updR V0) _ c h l v).trans ?_
    by_cases e : c = (cur j)
    · rw [if_pos e, e]; exact dr_at (I.toAt hj) h l v
    · rw [if_neg e]; exact I.dr c (by have : ¬ (c : ℕ) = 63 - j := fun h => e (Fin.ext h); omega) h l v
  dfg := fun c hc h l k => by
    rw [STEP_main_v38_16, step16_eq]
    refine (write128 (I.toAt hj).idx rfl rfl rfl (V0 (Proc.devRef .tc main_v38_16)) (updF V0) _ c h l k).trans ?_
    by_cases e : c = (cur j)
    · rw [if_pos e, e]; rw [Bc_eq X h (cur j) rfl hj]; exact dfg_at (I.toAt hj) h l k
    · rw [if_neg e]; exact I.dfg c (by have : ¬ (c : ℕ) = 63 - j := fun h => e (Fin.ext h); omega) h l k
  dg := fun c hc v => by
    rw [STEP_main_v38_17, step17_eq]
    refine (writeG (I.toAt hj).idx rfl rfl (V0 (Proc.devRef .tc main_v38_17)) (updG V0) _ c v).trans ?_
    by_cases e : c = (cur j)
    · rw [if_pos e, e]; exact dgt_at (I.toAt hj) v
    · rw [if_neg e]; exact I.dg c (by have : ¬ (c : ℕ) = 63 - j := fun h => e (Fin.ext h); omega) v

end

end Cert.ReferenceIdeal.Gla
-- ==== Proof.Ref3.lean ====
module

public import proofs.«01_k».proof.Proof.Ref2

@[expose] public section

set_option maxRecDepth 65536

/-! The reference's loop from its entry to its end. -/

noncomputable section

open Idealize.ShloMosaic Idealize.ShloMosaic.TcCoe Idealize.SL.Sem
open Idealize.ShloMosaic.StableHlo
namespace Cert.ReferenceIdeal.Gla
open Cert.ReferenceIdeal Cert.ReferenceIdeal.Gen Cert.ReferenceIdeal.Value Cert.Gla

variable (m : (ℓ : Loc nD τ sig) → Buf (Elt Ideal) ℓ) (c : Dev nD)

theorem entry0 : entryContents preI m c (Proc.devRef .tc main_v38_0) = transpose S64x4x64x128 [0, 2, 1, 3] (shapeCast S64x64x4x128 (extractStridedSlice S4096x512 ![0, 0] (extf (F := Ideal) (φ := .bf16) .f32 (m ((c : Thread nD τ).loc main_arg0)) bitsLt_bf16_f32) slices_S4096x8320_S4096x512_0_0) shapeCasts_S4096x512_S64x64x4x128) transposes_S64x64x4x128_S64x4x64x128_0_2_1_3 := by
  simp only [entryContents, afterL_cons, afterL_nil]
  after_reads_simp
  rfl
theorem entry1 : entryContents preI m c (Proc.devRef .tc main_v38_1) = transpose S64x4x64x128 [0, 2, 1, 3] (shapeCast S64x64x4x128 (extractStridedSlice S4096x512 ![0, 512] (extf (F := Ideal) (φ := .bf16) .f32 (m ((c : Thread nD τ).loc main_arg0)) bitsLt_bf16_f32) slices_S4096x8320_S4096x512_0_512) shapeCasts_S4096x512_S64x64x4x128) transposes_S64x64x4x128_S64x4x64x128_0_2_1_3 := by
  simp only [entryContents, afterL_cons, afterL_nil]
  after_reads_simp
  rfl
theorem entry2 : entryContents preI m c (Proc.devRef .tc main_v38_2) = transpose S64x4x64x256 [0, 2, 1, 3] (shapeCast S64x64x4x256 (extractStridedSlice S4096x1024 ![0, 1024] (extf (F := Ideal) (φ := .bf16) .f32 (m ((c : Thread nD τ).loc main_arg0)) bitsLt_bf16_f32) slices_S4096x8320_S4096x1024_0_1024) shapeCasts_S4096x1024_S64x64x4x256) transposes_S64x64x4x256_S64x4x64x256_0_2_1_3 := by
  simp only [entryContents, afterL_cons, afterL_nil]
  after_reads_simp
  rfl
theorem entry3 : entryContents preI m c (Proc.devRef .tc main_v38_3) = transpose S64x4x64x256 [0, 2, 1, 3] (shapeCast S64x64x4x256 (extractStridedSlice S4096x1024 ![0, 2048] (extf (F := Ideal) (φ := .bf16) .f32 (m ((c : Thread nD τ).loc main_arg0)) bitsLt_bf16_f32) slices_S4096x8320_S4096x1024_0_2048) shapeCasts_S4096x1024_S64x64x4x256) transposes_S64x64x4x256_S64x4x64x256_0_2_1_3 := by
  simp only [entryContents, afterL_cons, afterL_nil]
  after_reads_simp
  rfl
theorem entry4 : entryContents preI m c (Proc.devRef .tc main_v38_4) = transpose S64x4x64x128 [0, 2, 1, 3] (shapeCast S64x64x4x128 (addf (F := Ideal) (φ := .f32) (Host.dotGeneral (F := Ideal) (φ₁ := .f32) (φ₂ := .f32) dot_S4096x128_S128x512_S4096x512_1_0_0_1_n_n none (extractStridedSlice S4096x128 ![0, 8192] (extf (F := Ideal) (φ := .bf16) .f32 (m ((c : Thread nD τ).loc main_arg0)) bitsLt_bf16_f32) slices_S4096x8320_S4096x128_0_8192) (extf (F := Ideal) (φ := .bf16) .f32 (m ((c : Thread nD τ).loc main_arg1)) bitsLt_bf16_f32)) (broadcastInDim S4096x512 ![0, 1] bcast_S1x512_S4096x512_0_1 (m ((c : Thread nD τ).loc main_arg2)))) shapeCasts_S4096x512_S64x64x4x128) transposes_S64x64x4x128_S64x4x64x128_0_2_1_3 := by
  simp only [entryContents, afterL_cons, afterL_nil]
  after_reads_simp
  rfl
theorem entry5 : entryContents preI m c (Proc.devRef .tc main_v38_5) = transpose S64x4x64x256 [0, 2, 1, 3] (shapeCast S64x64x4x256 (extf (F := Ideal) (φ := .bf16) .f32 (m ((c : Thread nD τ).loc main_arg5)) bitsLt_bf16_f32) shapeCasts_S4096x1024_S64x64x4x256) transposes_S64x64x4x256_S64x4x64x256_0_2_1_3 := by
  simp only [entryContents, afterL_cons, afterL_nil]
  after_reads_simp
  rfl
theorem entry6 : entryContents preI m c (Proc.devRef .tc main_v38_6) = transpose S64x4x64x256 [0, 2, 1, 3] (shapeCast S64x64x4x256 (extf (F := Ideal) (φ := .bf16) .f32 (m ((c : Thread nD τ).loc main_arg4)) bitsLt_bf16_f32) shapeCasts_S4096x1024_S64x64x4x256) transposes_S64x64x4x256_S64x4x64x256_0_2_1_3 := by
  simp only [entryContents, afterL_cons, afterL_nil]
  after_reads_simp
  rfl
theorem entry7 : entryContents preI m c (Proc.devRef .tc main_v38_7) = concatenate S64x4x128x256 0 [⟨S1x4x128x256, broadcastInDim S1x4x128x256 ![] bcast_S_S1x4x128x256 (constant (F := Ideal) S_ .f32 0x00000000#32)⟩, ⟨S63x4x128x256, extractStridedSlice S63x4x128x256 ![0, 0, 0, 0] (transpose S64x4x128x256 [1, 0, 3, 2] (extf (F := Ideal) (φ := .bf16) .f32 (m ((c : Thread nD τ).loc main_arg3)) bitsLt_bf16_f32) transposes_S4x64x256x128_S64x4x128x256_1_0_3_2) slices_S64x4x128x256_S63x4x128x256_0_0_0_0⟩] concatenates_S1x4x128x256_S63x4x128x256_S64x4x128x256_d0 := by
  simp only [entryContents, afterL_cons, afterL_nil]
  after_reads_simp
  rfl
theorem entry8 : entryContents preI m c (Proc.devRef .tc main_v38_8) = transpose S64x4x128x256 [1, 0, 3, 2] (extf (F := Ideal) (φ := .bf16) .f32 (m ((c : Thread nD τ).loc main_arg3)) bitsLt_bf16_f32) transposes_S4x64x256x128_S64x4x128x256_1_0_3_2 := by
  simp only [entryContents, afterL_cons, afterL_nil]
  after_reads_simp
  rfl
theorem entry9 : entryContents preI m c (Proc.devRef .tc main_v38_9) = m ((c : Thread nD τ).loc main_arg6) := by
  simp only [entryContents, afterL_cons, afterL_nil]
  after_reads_simp
  rfl
theorem entry11 : entryContents preI m c (Proc.devRef .tc main_v38_11) = broadcastInDim S4x128x256 ![] bcast_S_S4x128x256 (constant (F := Ideal) S_ .f32 0x00000000#32) := by
  simp only [entryContents, afterL_cons, afterL_nil]
  after_reads_simp
  rfl

/-- The reference's arguments hold the reals `X`. -/
structure Holds (X : In) : Prop where
  proj : ∀ p z, (m ((c : Thread nD τ).loc main_arg0) : Vec Ideal S4096x8320 .bf16) (ix2 p z) = ((X.proj p z : ℝ) : EReal)
  wfg : ∀ z k, (m ((c : Thread nD τ).loc main_arg1) : Vec Ideal S128x512 .bf16) (ix2 z k) = ((X.wfg z k : ℝ) : EReal)
  bfg : ∀ k, (m ((c : Thread nD τ).loc main_arg2) : Vec Ideal S1x512 .f32) (ix2 0 k) = ((X.bfg k : ℝ) : EReal)
  st : ∀ h n v k, (m ((c : Thread nD τ).loc main_arg3) : Vec Ideal S4x64x256x128 .bf16) (ix4 h n v k) = ((X.st h n v k : ℝ) : EReal)
  doa : ∀ p v, (m ((c : Thread nD τ).loc main_arg4) : Vec Ideal S4096x1024 .bf16) (ix2 p v) = ((X.doa p v : ℝ) : EReal)
  o : ∀ p v, (m ((c : Thread nD τ).loc main_arg5) : Vec Ideal S4096x1024 .bf16) (ix2 p v) = ((X.o p v : ℝ) : EReal)
  g : ∀ v, (m ((c : Thread nD τ).loc main_arg6) : Vec Ideal S1x256 .f32) (ix2 0 v) = ((X.g v : ℝ) : EReal)

section
variable {m c} {X : In} (H : Holds m c X)
include H

theorem Holds.proj' (p : Fin 4096) (z : Fin 8320) {p' : Fin 4096} {z' : Fin 8320} (hp : (p' : ℕ) = p) (hz : (z' : ℕ) = z) :
    (m ((c : Thread nD τ).loc main_arg0) : Vec Ideal S4096x8320 .bf16) (ix2 p' z') = ((X.proj p z : ℝ) : EReal) := by
  obtain rfl : p' = p := Fin.ext hp
  obtain rfl : z' = z := Fin.ext hz
  exact H.proj p' z'

theorem heads_at (a : Vec Ideal S4096x1024 .bf16) (n : Fin 64) (h : Fin 4) (l : Fin 64) (k : Fin 256) :
    (transpose S64x4x64x256 [0, 2, 1, 3] (shapeCast S64x64x4x256 (extf (F := Ideal) (φ := .bf16) .f32 a bitsLt_bf16_f32) shapeCasts_S4096x1024_S64x64x4x256) transposes_S64x64x4x256_S64x4x64x256_0_2_1_3 : Vec Ideal S64x4x64x256 .f32) (ix4 n h l k) = a (ix2 (In.row n l) (In.colV h k)) := by
  have hz : (⟨(h : ℕ) * 256 + k, by omega⟩ : Fin 1024) = In.colV h k := Fin.ext (by show (h : ℕ) * 256 + k = 256 * h + k; omega)
  have hp : (⟨(n : ℕ) * 64 + l, by omega⟩ : Fin 4096) = In.row n l := Fin.ext (by show (n : ℕ) * 64 + l = 64 * n + l; omega)
  pointwise
  rw [hz, hp]
theorem entry_q (n : Fin 64) (h : Fin 4) (l : Fin 64) (k : Fin 128) :
    (entryContents preI m c (Proc.devRef .tc main_v38_0) : Vec Ideal S64x4x64x128 .f32) (ix4 n h l k) = (((X.chunk h n).q l k : ℝ) : EReal) := by
  rw [entry0]
  pointwise
  exact H.proj' (In.row n l) ⟨128 * h + k, by omega⟩ (by show _ = 64 * (n : ℕ) + l; dsimp only; omega) (by dsimp only; omega)
theorem entry_k (n : Fin 64) (h : Fin 4) (l : Fin 64) (k : Fin 128) :
    (entryContents preI m c (Proc.devRef .tc main_v38_1) : Vec Ideal S64x4x64x128 .f32) (ix4 n h l k) = (((X.chunk h n).k l k : ℝ) : EReal) := by
  rw [entry1]
  pointwise
  exact H.proj' (In.row n l) ⟨512 + (128 * h + k), by omega⟩ (by show _ = 64 * (n : ℕ) + l; dsimp only; omega) (by dsimp only; omega)
theorem entry_v (n : Fin 64) (h : Fin 4) (l : Fin 64) (k : Fin 256) :
    (entryContents preI m c (Proc.devRef .tc main_v38_2) : Vec Ideal S64x4x64x256 .f32) (ix4 n h l k) = (((X.chunk h n).v l k : ℝ) : EReal) := by
  rw [entry2]
  pointwise
  exact H.proj' (In.row n l) ⟨1024 + (256 * h + k), by omega⟩ (by show _ = 64 * (n : ℕ) + l; dsimp only; omega) (by dsimp only; omega)
theorem entry_r (n : Fin 64) (h : Fin 4) (l : Fin 64) (k : Fin 256) :
    (entryContents preI m c (Proc.devRef .tc main_v38_3) : Vec Ideal S64x4x64x256 .f32) (ix4 n h l k) = (((X.chunk h n).r l k : ℝ) : EReal) := by
  rw [entry3]
  pointwise
  exact H.proj' (In.row n l) ⟨2048 + (256 * h + k), by omega⟩ (by show _ = 64 * (n : ℕ) + l; dsimp only; omega) (by dsimp only; omega)
theorem entry_fg (n : Fin 64) (h : Fin 4) (l : Fin 64) (k : Fin 128) :
    (entryContents preI m c (Proc.devRef .tc main_v38_4) : Vec Ideal S64x4x64x128 .f32) (ix4 n h l k) = (((X.chunk h n).fg l k : ℝ) : EReal) := by
  have hz : (⟨(h : ℕ) * 128 + k, by omega⟩ : Fin 512) = In.colK h k := Fin.ext (by show (h : ℕ) * 128 + k = 128 * h + k; omega)
  have h1 : ∀ z : Fin 128, (m ((c : Thread nD τ).loc main_arg0) : Vec Ideal S4096x8320 .bf16) (ix2 ⟨(n : ℕ) * 64 + l, by omega⟩ ⟨8192 + z, by omega⟩) = ((X.proj (In.row n l) ⟨8192 + z, by omega⟩ : ℝ) : EReal) :=
    fun z => H.proj' (In.row n l) ⟨8192 + z, by omega⟩ (by show _ = 64 * (n : ℕ) + l; dsimp only; omega) rfl
  rw [entry4]
  pointwise
  simp only [hz, h1, H.wfg, H.bfg, ← EReal.coe_mul, ← coe_sum, ← EReal.coe_add]
  rfl
theorem entry_o (n : Fin 64) (h : Fin 4) (l : Fin 64) (k : Fin 256) :
    (entryContents preI m c (Proc.devRef .tc main_v38_5) : Vec Ideal S64x4x64x256 .f32) (ix4 n h l k) = (((X.chunk h n).o l k : ℝ) : EReal) := by
  rw [entry5]
  exact (heads_at H _ n h l k).trans (H.o _ _)
theorem entry_y (n : Fin 64) (h : Fin 4) (l : Fin 64) (k : Fin 256) :
    (entryContents preI m c (Proc.devRef .tc main_v38_6) : Vec Ideal S64x4x64x256 .f32) (ix4 n h l k) = (((X.chunk h n).y l k : ℝ) : EReal) := by
  rw [entry6]
  exact (heads_at H _ n h l k).trans (H.doa _ _)
theorem entry_sb (n : Fin 64) (h : Fin 4) (l : Fin 128) (k : Fin 256) :
    (entryContents preI m c (Proc.devRef .tc main_v38_7) : Vec Ideal S64x4x128x256 .f32) (ix4 n h l k) = (((X.chunk h n).sb l k : ℝ) : EReal) := by
  rw [entry7]
  pointwise
  show _ = (((if hc : (n : ℕ) = 0 then 0 else X.st h ⟨n - 1, by omega⟩ k l : ℝ)) : EReal)
  by_cases hn : (n : ℕ) = 0
  · rw [dif_pos hn, dif_pos (by omega)]; rfl
  · rw [dif_neg hn, dif_neg (by omega), H.st]
theorem entry_sa (n : Fin 64) (h : Fin 4) (l : Fin 128) (k : Fin 256) :
    (entryContents preI m c (Proc.devRef .tc main_v38_8) : Vec Ideal S64x4x128x256 .f32) (ix4 n h l k) = (((X.chunk h n).sa l k : ℝ) : EReal) := by
  rw [entry8]
  pointwise
  rw [H.st]
  rfl

/-- The loop begins with nothing gone through, and ends with every chunk gone through. -/
theorem inv_entry : Inv X 0 (entryContents preI m c) where
  ctr := by rw [ctr_entry]
  q := entry_q H
  k := entry_k H
  v := entry_v H
  r := entry_r H
  fg := entry_fg H
  o := entry_o H
  y := entry_y H
  sb := entry_sb H
  sa := entry_sa H
  g v := by rw [entry9]; exact H.g v
  st h k v := by rw [entry11]; pointwise; rfl
  dq c hc := absurd hc (by omega)
  dk c hc := absurd hc (by omega)
  dv c hc := absurd hc (by omega)
  dr c hc := absurd hc (by omega)
  dfg c hc := absurd hc (by omega)
  dg c hc := absurd hc (by omega)
theorem inv_iter : ∀ j, j ≤ 64 → Inv X j (STEP^[j] (entryContents preI m c))
  | 0, _ => inv_entry H
  | j + 1, hj => by
    rw [Function.iterate_succ_apply']
    exact (inv_iter j (by omega)).step (by omega)
end

end Cert.ReferenceIdeal.Gla
-- ==== Proof.Ref4.lean ====
module

public import proofs.«01_k».proof.Proof.Ref3

@[expose] public section

set_option maxRecDepth 65536

/-! The reference's results, of the loop's arrays at its end. -/

noncomputable section

open Idealize.ShloMosaic Idealize.ShloMosaic.TcCoe Idealize.SL.Sem
open Idealize.ShloMosaic.StableHlo
namespace Cert.ReferenceIdeal.Gla
open Cert.ReferenceIdeal Cert.ReferenceIdeal.Gen Cert.ReferenceIdeal.Value Cert.Gla

/-- The heads' columns of the chunks' positions, laid side by side. -/
theorem rows128_at (a : Vec Ideal S64x4x64x128 .f32) (p : Fin 4096) (z : Fin 512) :
    (shapeCast S4096x512 (transpose S64x64x4x128 [0, 2, 1, 3] a transposes_S64x4x64x128_S64x64x4x128_0_2_1_3) shapeCasts_S64x64x4x128_S4096x512 : Vec Ideal S4096x512 .f32) (ix2 p z) =
      a (ix4 (In.pc p) (In.hK z) (In.pl p) (In.cK z)) := by
  pointwise
  rfl
/-- The heads' columns of the chunks' positions, laid side by side. -/
theorem rows256_at (a : Vec Ideal S64x4x64x256 .f32) (p : Fin 4096) (z : Fin 1024) :
    (shapeCast S4096x1024 (transpose S64x64x4x256 [0, 2, 1, 3] a transposes_S64x4x64x256_S64x64x4x256_0_2_1_3) shapeCasts_S64x64x4x256_S4096x1024 : Vec Ideal S4096x1024 .f32) (ix2 p z) =
      a (ix4 (In.pc p) (In.hV z) (In.pl p) (In.cV z)) := by
  pointwise
  rfl
/-- A sum over every row is the sum over the chunks and over the positions of a chunk. -/
theorem sum_rows (f : Fin 64 → Fin 64 → ℝ) : ∑ p : Fin 4096, f (In.pc p) (In.pl p) = ∑ c : Fin 64, ∑ l : Fin 64, f c l := by
  rw [← Fintype.sum_prod_type']
  exact Fintype.sum_equiv (finProdFinEquiv (m := 64) (n := 64)).symm _ _ fun p => rfl

section
variable {X : In} {V0 : Valuation τ sig (Elt Ideal)} (I : Inv X 64 V0)
include I

theorem out58_eq : out_main_v58 V0 = (fun i => ((X.dqA (i 0) (i 1) : ℝ) : EReal) : Vec Ideal S4096x512 .bf16) := by
  funext i
  obtain ⟨p, z, rfl⟩ : ∃ p z, i = ix2 p z := ⟨i 0, i 1, by funext d; fin_cases d <;> rfl⟩
  exact (rows128_at _ p z).trans (I.dq _ (by omega) _ _ _)
theorem out59_eq : out_main_v59 V0 = (fun i => ((X.dkA (i 0) (i 1) : ℝ) : EReal) : Vec Ideal S4096x512 .bf16) := by
  funext i
  obtain ⟨p, z, rfl⟩ : ∃ p z, i = ix2 p z := ⟨i 0, i 1, by funext d; fin_cases d <;> rfl⟩
  exact (rows128_at _ p z).trans (I.dk _ (by omega) _ _ _)
theorem out60_eq : out_main_v60 V0 = (fun i => ((X.dvA (i 0) (i 1) : ℝ) : EReal) : Vec Ideal S4096x1024 .bf16) := by
  funext i
  obtain ⟨p, z, rfl⟩ : ∃ p z, i = ix2 p z := ⟨i 0, i 1, by funext d; fin_cases d <;> rfl⟩
  exact (rows256_at _ p z).trans (I.dv _ (by omega) _ _ _)
theorem out61_eq : out_main_v61 V0 = (fun i => ((X.dfgA (i 0) (i 1) : ℝ) : EReal) : Vec Ideal S4096x512 .bf16) := by
  funext i
  obtain ⟨p, z, rfl⟩ : ∃ p z, i = ix2 p z := ⟨i 0, i 1, by funext d; fin_cases d <;> rfl⟩
  exact (rows128_at _ p z).trans (I.dfg _ (by omega) _ _ _)
theorem out51_eq : out_main_v51 V0 = (fun i => ((X.dbA (i 1) : ℝ) : EReal) : Vec Ideal S8x512 .f32) := by
  funext i
  obtain ⟨e, z, rfl⟩ : ∃ e z, i = ix2 e z := ⟨i 0, i 1, by funext d; fin_cases d <;> rfl⟩
  have h1 : ∀ p : Fin 4096, (shapeCast S4096x512 (transpose S64x64x4x128 [0, 2, 1, 3] (V0 (Proc.devRef .tc main_v38_16)) transposes_S64x4x64x128_S64x64x4x128_0_2_1_3) shapeCasts_S64x64x4x128_S4096x512 : Vec Ideal S4096x512 .f32) (ix2 p z) = ((X.dfgA p z : ℝ) : EReal) :=
    fun p => (rows128_at _ p z).trans (I.dfg _ (by omega) _ _ _)
  unfold out_main_v51
  generalize (shapeCast S4096x512 (transpose S64x64x4x128 [0, 2, 1, 3] (V0 (Proc.devRef .tc main_v38_16)) transposes_S64x4x64x128_S64x64x4x128_0_2_1_3) shapeCasts_S64x64x4x128_S4096x512 : Vec Ideal S4096x512 .f32) = a at h1 ⊢
  pointwise
  simp only [h1, ← coe_sum]
  exact congrArg _ (sum_rows fun c l => (X.chunk (In.hK z) c).dfg (X.Bc (In.hK z) c) l (In.cK z))
theorem out53_eq : out_main_v53 V0 = (fun i => ((X.dgA (i 1) : ℝ) : EReal) : Vec Ideal S8x256 .f32) := by
  funext i
  obtain ⟨e, v, rfl⟩ : ∃ e v, i = ix2 e v := ⟨i 0, i 1, by funext d; fin_cases d <;> rfl⟩
  have h1 : ∀ n : Fin 64, (V0 (Proc.devRef .tc main_v38_17) : Vec Ideal S64x1x256 .f32) (ix3 n 0 v) = ((∑ h : Fin 4, ∑ l : Fin 64, (X.chunk h n).dgt l v : ℝ) : EReal) :=
    fun n => I.dg n (by omega) v
  unfold out_main_v53
  generalize (V0 (Proc.devRef .tc main_v38_17) : Vec Ideal S64x1x256 .f32) = a at h1 ⊢
  pointwise
  simp only [h1, ← coe_sum]
  exact congrArg _ Finset.sum_comm
theorem out57_eq : out_main_v57 V0 = (fun i => if hz : 2048 ≤ (i 1 : ℕ) ∧ (i 1 : ℕ) < 3072 then ((X.drA (i 0) ⟨(i 1 : ℕ) - 2048, by omega⟩ : ℝ) : EReal) else (V0 (Proc.devRef .tc main_arg7) : Vec Ideal S4096x8320 .bf16) i : Vec Ideal S4096x8320 .bf16) := by
  funext i
  obtain ⟨p, z, rfl⟩ : ∃ p z, i = ix2 p z := ⟨i 0, i 1, by funext d; fin_cases d <;> rfl⟩
  have h1 : ∀ z : Fin 1024, (shapeCast S4096x1024 (transpose S64x64x4x256 [0, 2, 1, 3] (V0 (Proc.devRef .tc main_v38_15)) transposes_S64x4x64x256_S64x64x4x256_0_2_1_3) shapeCasts_S64x64x4x256_S4096x1024 : Vec Ideal S4096x1024 .f32) (ix2 p z) = ((X.drA p z : ℝ) : EReal) :=
    fun z => (rows256_at _ p z).trans (I.dr _ (by omega) _ _ _)
  unfold out_main_v57
  generalize (shapeCast S4096x1024 (transpose S64x64x4x256 [0, 2, 1, 3] (V0 (Proc.devRef .tc main_v38_15)) transposes_S64x4x64x256_S64x64x4x256_0_2_1_3) shapeCasts_S64x64x4x256_S4096x1024 : Vec Ideal S4096x1024 .f32) = a at h1 ⊢
  pointwise
  by_cases h2 : (z : ℕ) < 2048
  · rw [dif_pos h2, dif_neg (by omega)]
  · rw [dif_neg h2]
    by_cases h3 : (z : ℕ) - 2048 < 1024
    · rw [dif_pos h3, dif_pos (by omega), h1]
    · rw [dif_neg h3, dif_neg (by omega)]
      exact congrArg (fun z' => (V0 (Proc.devRef .tc main_arg7) : Vec Ideal S4096x8320 .bf16) (ix2 p z')) (Fin.ext (by show 3072 + ((z : ℕ) - 2048 - 1024) = z; omega))
end

end Cert.ReferenceIdeal.Gla
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.NormIn
public import proofs.«01_k».proof.Proof.Gen.NormIn.Skeleton
public import proofs.«01_k».proof.Proof.Gen.NormIn.Launch
public import proofs.«01_k».proof.Proof.Gen.NormIn.Points
public import proofs.«01_k».proof.Proof.Gen.NormIn.Frame
public import proofs.«01_k».proof.Proof.Gen.NormInIdeal
public import proofs.«01_k».proof.Proof.Gen.NormInIdeal.Skeleton
public import proofs.«01_k».proof.Proof.Gen.NormInIdeal.Launch
public import proofs.«01_k».proof.Proof.Gen.NormInIdeal.Points
public import proofs.«01_k».proof.Proof.Gen.NormInIdeal.Frame
public import proofs.«01_k».proof.Proof.Gen.NormInIdeal.Value
public import proofs.«01_k».proof.Proof.Gen.NormInReferenceIdeal
public import proofs.«01_k».proof.Proof.Gen.NormInReferenceIdeal.Run
public import proofs.«01_k».proof.Proof.Gen.NormGu
public import proofs.«01_k».proof.Proof.Gen.NormGu.Skeleton
public import proofs.«01_k».proof.Proof.Gen.NormGu.Launch
public import proofs.«01_k».proof.Proof.Gen.NormGu.Points
public import proofs.«01_k».proof.Proof.Gen.NormGu.Frame
public import proofs.«01_k».proof.Proof.Gen.NormGuIdeal
public import proofs.«01_k».proof.Proof.Gen.NormGuIdeal.Skeleton
public import proofs.«01_k».proof.Proof.Gen.NormGuIdeal.Launch
public import proofs.«01_k».proof.Proof.Gen.NormGuIdeal.Points
public import proofs.«01_k».proof.Proof.Gen.NormGuIdeal.Frame
public import proofs.«01_k».proof.Proof.Gen.NormGuIdeal.Value
public import proofs.«01_k».proof.Proof.Gen.NormGuReferenceIdeal
public import proofs.«01_k».proof.Proof.Gen.NormGuReferenceIdeal.Run
public import proofs.«01_k».proof.Proof.Gen.WIn
public import proofs.«01_k».proof.Proof.Gen.WIn.Skeleton
public import proofs.«01_k».proof.Proof.Gen.WIn.Launch
public import proofs.«01_k».proof.Proof.Gen.WIn.Points
public import proofs.«01_k».proof.Proof.Gen.WIn.Frame
public import proofs.«01_k».proof.Proof.Gen.WInIdeal
public import proofs.«01_k».proof.Proof.Gen.WInIdeal.Skeleton
public import proofs.«01_k».proof.Proof.Gen.WInIdeal.Launch
public import proofs.«01_k».proof.Proof.Gen.WInIdeal.Points
public import proofs.«01_k».proof.Proof.Gen.WInIdeal.Frame
public import proofs.«01_k».proof.Proof.Gen.WInIdeal.Value
public import proofs.«01_k».proof.Proof.Gen.WInReferenceIdeal
public import proofs.«01_k».proof.Proof.Gen.WInReferenceIdeal.Run
public import proofs.«01_k».proof.Proof.Gen.WGu
public import proofs.«01_k».proof.Proof.Gen.WGu.Skeleton
public import proofs.«01_k».proof.Proof.Gen.WGu.Launch
public import proofs.«01_k».proof.Proof.Gen.WGu.Points
public import proofs.«01_k».proof.Proof.Gen.WGu.Frame
public import proofs.«01_k».proof.Proof.Gen.WGuIdeal
public import proofs.«01_k».proof.Proof.Gen.WGuIdeal.Skeleton
public import proofs.«01_k».proof.Proof.Gen.WGuIdeal.Launch
public import proofs.«01_k».proof.Proof.Gen.WGuIdeal.Points
public import proofs.«01_k».proof.Proof.Gen.WGuIdeal.Frame
public import proofs.«01_k».proof.Proof.Gen.WGuIdeal.Value
public import proofs.«01_k».proof.Proof.Gen.WGuReferenceIdeal
public import proofs.«01_k».proof.Proof.Gen.WGuReferenceIdeal.Run
public import proofs.«01_k».proof.Proof.Gen.WDown
public import proofs.«01_k».proof.Proof.Gen.WDown.Skeleton
public import proofs.«01_k».proof.Proof.Gen.WDown.Launch
public import proofs.«01_k».proof.Proof.Gen.WDown.Points
public import proofs.«01_k».proof.Proof.Gen.WDown.Frame
public import proofs.«01_k».proof.Proof.Gen.WDownIdeal
public import proofs.«01_k».proof.Proof.Gen.WDownIdeal.Skeleton
public import proofs.«01_k».proof.Proof.Gen.WDownIdeal.Launch
public import proofs.«01_k».proof.Proof.Gen.WDownIdeal.Points
public import proofs.«01_k».proof.Proof.Gen.WDownIdeal.Frame
public import proofs.«01_k».proof.Proof.Gen.WDownIdeal.Value
public import proofs.«01_k».proof.Proof.Gen.WDownReferenceIdeal
public import proofs.«01_k».proof.Proof.Gen.WDownReferenceIdeal.Run
public import proofs.«01_k».proof.Proof.Gen.Hid
public import proofs.«01_k».proof.Proof.Gen.Hid.Skeleton
public import proofs.«01_k».proof.Proof.Gen.Hid.Launch
public import proofs.«01_k».proof.Proof.Gen.Hid.Points
public import proofs.«01_k».proof.Proof.Gen.Hid.Frame
public import proofs.«01_k».proof.Proof.Gen.HidIdeal
public import proofs.«01_k».proof.Proof.Gen.HidIdeal.Skeleton
public import proofs.«01_k».proof.Proof.Gen.HidIdeal.Launch
public import proofs.«01_k».proof.Proof.Gen.HidIdeal.Points
public import proofs.«01_k».proof.Proof.Gen.HidIdeal.Frame
public import proofs.«01_k».proof.Proof.Gen.HidIdeal.Value
public import proofs.«01_k».proof.Proof.Gen.HidReferenceIdeal
public import proofs.«01_k».proof.Proof.Gen.HidReferenceIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.Gu
public import proofs.«01_k».proof.Proof.Gen.Gu.Skeleton
public import proofs.«01_k».proof.Proof.Gen.Gu.Launch
public import proofs.«01_k».proof.Proof.Gen.Gu.Points
public import proofs.«01_k».proof.Proof.Gen.Gu.Frame
public import proofs.«01_k».proof.Proof.Gen.GuIdeal
public import proofs.«01_k».proof.Proof.Gen.GuIdeal.Skeleton
public import proofs.«01_k».proof.Proof.Gen.GuIdeal.Launch
public import proofs.«01_k».proof.Proof.Gen.GuIdeal.Points
public import proofs.«01_k».proof.Proof.Gen.GuIdeal.Frame
public import proofs.«01_k».proof.Proof.Gen.GuIdeal.Value
public import proofs.«01_k».proof.Proof.Gen.GuReferenceIdeal
public import proofs.«01_k».proof.Proof.Gen.GuReferenceIdeal.Run
public import proofs.«01_k».proof.Proof.Gen.Ya
public import proofs.«01_k».proof.Proof.Gen.Ya.Skeleton
public import proofs.«01_k».proof.Proof.Gen.Ya.Launch
public import proofs.«01_k».proof.Proof.Gen.Ya.Points
public import proofs.«01_k».proof.Proof.Gen.Ya.Frame
public import proofs.«01_k».proof.Proof.Gen.YaIdeal
public import proofs.«01_k».proof.Proof.Gen.YaIdeal.Skeleton
public import proofs.«01_k».proof.Proof.Gen.YaIdeal.Launch
public import proofs.«01_k».proof.Proof.Gen.YaIdeal.Points
public import proofs.«01_k».proof.Proof.Gen.YaIdeal.Frame
public import proofs.«01_k».proof.Proof.Gen.YaIdeal.Value
public import proofs.«01_k».proof.Proof.Gen.YaReferenceIdeal
public import proofs.«01_k».proof.Proof.Gen.YaReferenceIdeal.Run
public import proofs.«01_k».proof.Proof.Gen.Dmix
public import proofs.«01_k».proof.Proof.Gen.Dmix.Skeleton
public import proofs.«01_k».proof.Proof.Gen.Dmix.Launch
public import proofs.«01_k».proof.Proof.Gen.Dmix.Points
public import proofs.«01_k».proof.Proof.Gen.Dmix.Frame
public import proofs.«01_k».proof.Proof.Gen.DmixIdeal
public import proofs.«01_k».proof.Proof.Gen.DmixIdeal.Skeleton
public import proofs.«01_k».proof.Proof.Gen.DmixIdeal.Launch
public import proofs.«01_k».proof.Proof.Gen.DmixIdeal.Points
public import proofs.«01_k».proof.Proof.Gen.DmixIdeal.Frame
public import proofs.«01_k».proof.Proof.Gen.DmixIdeal.Value
public import proofs.«01_k».proof.Proof.Gen.DmixReferenceIdeal
public import proofs.«01_k».proof.Proof.Gen.DmixReferenceIdeal.Run
public import proofs.«01_k».proof.Proof.Gen.Wo
public import proofs.«01_k».proof.Proof.Gen.Wo.Skeleton
public import proofs.«01_k».proof.Proof.Gen.Wo.Launch
public import proofs.«01_k».proof.Proof.Gen.Wo.Points
public import proofs.«01_k».proof.Proof.Gen.Wo.Frame
public import proofs.«01_k».proof.Proof.Gen.WoIdeal
public import proofs.«01_k».proof.Proof.Gen.WoIdeal.Skeleton
public import proofs.«01_k».proof.Proof.Gen.WoIdeal.Launch
public import proofs.«01_k».proof.Proof.Gen.WoIdeal.Points
public import proofs.«01_k».proof.Proof.Gen.WoIdeal.Frame
public import proofs.«01_k».proof.Proof.Gen.WoIdeal.Value
public import proofs.«01_k».proof.Proof.Gen.WoReferenceIdeal
public import proofs.«01_k».proof.Proof.Gen.WoReferenceIdeal.Run
public import proofs.«01_k».proof.Proof.Gen.SumDev
public import proofs.«01_k».proof.Proof.Gen.SumDev.Skeleton
public import proofs.«01_k».proof.Proof.Gen.SumDev.Launch
public import proofs.«01_k».proof.Proof.Gen.SumDev.Points
public import proofs.«01_k».proof.Proof.Gen.SumDev.Frame
public import proofs.«01_k».proof.Proof.Gen.SumDevIdeal
public import proofs.«01_k».proof.Proof.Gen.SumDevIdeal.Skeleton
public import proofs.«01_k».proof.Proof.Gen.SumDevIdeal.Launch
public import proofs.«01_k».proof.Proof.Gen.SumDevIdeal.Points
public import proofs.«01_k».proof.Proof.Gen.SumDevIdeal.Frame
public import proofs.«01_k».proof.Proof.Gen.SumDevIdeal.Value
public import proofs.«01_k».proof.Proof.Gen.SumDevReferenceIdeal
public import proofs.«01_k».proof.Proof.Gen.SumDevReferenceIdeal.Run
public import proofs.«01_k».proof.Proof.Gen.AdamNorm
public import proofs.«01_k».proof.Proof.Gen.AdamNorm.Skeleton
public import proofs.«01_k».proof.Proof.Gen.AdamNorm.Launch
public import proofs.«01_k».proof.Proof.Gen.AdamNorm.Points
public import proofs.«01_k».proof.Proof.Gen.AdamNorm.Frame
public import proofs.«01_k».proof.Proof.Gen.AdamNormIdeal
public import proofs.«01_k».proof.Proof.Gen.AdamNormIdeal.Skeleton
public import proofs.«01_k».proof.Proof.Gen.AdamNormIdeal.Launch
public import proofs.«01_k».proof.Proof.Gen.AdamNormIdeal.Points
public import proofs.«01_k».proof.Proof.Gen.AdamNormIdeal.Frame
public import proofs.«01_k».proof.Proof.Gen.AdamNormIdeal.Value
public import proofs.«01_k».proof.Proof.Gen.AdamNormReferenceIdeal
public import proofs.«01_k».proof.Proof.Gen.AdamNormReferenceIdeal.Run
public import proofs.«01_k».proof.Proof.Gen.AdamFgB
public import proofs.«01_k».proof.Proof.Gen.AdamFgB.Skeleton
public import proofs.«01_k».proof.Proof.Gen.AdamFgB.Launch
public import proofs.«01_k».proof.Proof.Gen.AdamFgB.Points
public import proofs.«01_k».proof.Proof.Gen.AdamFgB.Frame
public import proofs.«01_k».proof.Proof.Gen.AdamFgBIdeal
public import proofs.«01_k».proof.Proof.Gen.AdamFgBIdeal.Skeleton
public import proofs.«01_k».proof.Proof.Gen.AdamFgBIdeal.Launch
public import proofs.«01_k».proof.Proof.Gen.AdamFgBIdeal.Points
public import proofs.«01_k».proof.Proof.Gen.AdamFgBIdeal.Frame
public import proofs.«01_k».proof.Proof.Gen.AdamFgBIdeal.Value
public import proofs.«01_k».proof.Proof.Gen.AdamFgBReferenceIdeal
public import proofs.«01_k».proof.Proof.Gen.AdamFgBReferenceIdeal.Run
public import proofs.«01_k».proof.Proof.Gen.AdamGla
public import proofs.«01_k».proof.Proof.Gen.AdamGla.Skeleton
public import proofs.«01_k».proof.Proof.Gen.AdamGla.Launch
public import proofs.«01_k».proof.Proof.Gen.AdamGla.Points
public import proofs.«01_k».proof.Proof.Gen.AdamGla.Frame
public import proofs.«01_k».proof.Proof.Gen.AdamGlaIdeal
public import proofs.«01_k».proof.Proof.Gen.AdamGlaIdeal.Skeleton
public import proofs.«01_k».proof.Proof.Gen.AdamGlaIdeal.Launch
public import proofs.«01_k».proof.Proof.Gen.AdamGlaIdeal.Points
public import proofs.«01_k».proof.Proof.Gen.AdamGlaIdeal.Frame
public import proofs.«01_k».proof.Proof.Gen.AdamGlaIdeal.Value
public import proofs.«01_k».proof.Proof.Gen.AdamGlaReferenceIdeal
public import proofs.«01_k».proof.Proof.Gen.AdamGlaReferenceIdeal.Run
public import proofs.«01_k».proof.Proof.Gen.AdamFinal
public import proofs.«01_k».proof.Proof.Gen.AdamFinal.Skeleton
public import proofs.«01_k».proof.Proof.Gen.AdamFinal.Launch
public import proofs.«01_k».proof.Proof.Gen.AdamFinal.Points
public import proofs.«01_k».proof.Proof.Gen.AdamFinal.Frame
public import proofs.«01_k».proof.Proof.Gen.AdamFinalIdeal
public import proofs.«01_k».proof.Proof.Gen.AdamFinalIdeal.Skeleton
public import proofs.«01_k».proof.Proof.Gen.AdamFinalIdeal.Launch
public import proofs.«01_k».proof.Proof.Gen.AdamFinalIdeal.Points
public import proofs.«01_k».proof.Proof.Gen.AdamFinalIdeal.Frame
public import proofs.«01_k».proof.Proof.Gen.AdamFinalIdeal.Value
public import proofs.«01_k».proof.Proof.Gen.AdamFinalReferenceIdeal
public import proofs.«01_k».proof.Proof.Gen.AdamFinalReferenceIdeal.Run
public import proofs.«01_k».proof.Proof.Gen.AdamSquare
public import proofs.«01_k».proof.Proof.Gen.AdamSquare.Skeleton
public import proofs.«01_k».proof.Proof.Gen.AdamSquare.Launch
public import proofs.«01_k».proof.Proof.Gen.AdamSquare.Points
public import proofs.«01_k».proof.Proof.Gen.AdamSquare.Frame
public import proofs.«01_k».proof.Proof.Gen.AdamSquareIdeal
public import proofs.«01_k».proof.Proof.Gen.AdamSquareIdeal.Skeleton
public import proofs.«01_k».proof.Proof.Gen.AdamSquareIdeal.Launch
public import proofs.«01_k».proof.Proof.Gen.AdamSquareIdeal.Points
public import proofs.«01_k».proof.Proof.Gen.AdamSquareIdeal.Frame
public import proofs.«01_k».proof.Proof.Gen.AdamSquareIdeal.Value
public import proofs.«01_k».proof.Proof.Gen.AdamSquareReferenceIdeal
public import proofs.«01_k».proof.Proof.Gen.AdamSquareReferenceIdeal.Run
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownIdeal.Value
public import proofs.«01_k».proof.Proof.Gen.AdamDownReferenceIdeal
public import proofs.«01_k».proof.Proof.Gen.AdamDownReferenceIdeal.Run
public import proofs.«01_k».proof.Proof.Gen.AdamFg
public import proofs.«01_k».proof.Proof.Gen.AdamFg.Skeleton
public import proofs.«01_k».proof.Proof.Gen.AdamFg.Launch
public import proofs.«01_k».proof.Proof.Gen.AdamFg.Points
public import proofs.«01_k».proof.Proof.Gen.AdamFg.Frame
public import proofs.«01_k».proof.Proof.Gen.AdamFgIdeal
public import proofs.«01_k».proof.Proof.Gen.AdamFgIdeal.Skeleton
public import proofs.«01_k».proof.Proof.Gen.AdamFgIdeal.Launch
public import proofs.«01_k».proof.Proof.Gen.AdamFgIdeal.Points
public import proofs.«01_k».proof.Proof.Gen.AdamFgIdeal.Frame
public import proofs.«01_k».proof.Proof.Gen.AdamFgIdeal.Value
public import proofs.«01_k».proof.Proof.Gen.AdamFgReferenceIdeal
public import proofs.«01_k».proof.Proof.Gen.AdamFgReferenceIdeal.Run
public import proofs.«01_k».proof.Proof.Gen.AdamConv
public import proofs.«01_k».proof.Proof.Gen.AdamConv.Skeleton
public import proofs.«01_k».proof.Proof.Gen.AdamConv.Launch
public import proofs.«01_k».proof.Proof.Gen.AdamConv.Points
public import proofs.«01_k».proof.Proof.Gen.AdamConv.Frame
public import proofs.«01_k».proof.Proof.Gen.AdamConvIdeal
public import proofs.«01_k».proof.Proof.Gen.AdamConvIdeal.Skeleton
public import proofs.«01_k».proof.Proof.Gen.AdamConvIdeal.Launch
public import proofs.«01_k».proof.Proof.Gen.AdamConvIdeal.Points
public import proofs.«01_k».proof.Proof.Gen.AdamConvIdeal.Frame
public import proofs.«01_k».proof.Proof.Gen.AdamConvIdeal.Value
public import proofs.«01_k».proof.Proof.Gen.AdamConvReferenceIdeal
public import proofs.«01_k».proof.Proof.Gen.AdamConvReferenceIdeal.Run
public import proofs.«01_k».proof.Proof.Gen.ChipSum
public import proofs.«01_k».proof.Proof.Gen.ChipSum.Skeleton
public import proofs.«01_k».proof.Proof.Gen.ChipSum.Launch
public import proofs.«01_k».proof.Proof.Gen.ChipSum.Points
public import proofs.«01_k».proof.Proof.Gen.ChipSum.Frame
public import proofs.«01_k».proof.Proof.Gen.ChipSumIdeal
public import proofs.«01_k».proof.Proof.Gen.ChipSumIdeal.Skeleton
public import proofs.«01_k».proof.Proof.Gen.ChipSumIdeal.Launch
public import proofs.«01_k».proof.Proof.Gen.ChipSumIdeal.Points
public import proofs.«01_k».proof.Proof.Gen.ChipSumIdeal.Frame
public import proofs.«01_k».proof.Proof.Gen.ChipSumReferenceIdeal
public import proofs.«01_k».proof.Proof.Gen.ChipSumReferenceIdeal.Run
public import proofs.«01_k».proof.Proof.Gen.FinalGu
public import proofs.«01_k».proof.Proof.Gen.FinalGu.Skeleton
public import proofs.«01_k».proof.Proof.Gen.FinalGu.Launch
public import proofs.«01_k».proof.Proof.Gen.FinalGu.Points
public import proofs.«01_k».proof.Proof.Gen.FinalGu.Frame
public import proofs.«01_k».proof.Proof.Gen.FinalGuIdeal
public import proofs.«01_k».proof.Proof.Gen.FinalGuIdeal.Skeleton
public import proofs.«01_k».proof.Proof.Gen.FinalGuIdeal.Launch
public import proofs.«01_k».proof.Proof.Gen.FinalGuIdeal.Points
public import proofs.«01_k».proof.Proof.Gen.FinalGuIdeal.Frame
public import proofs.«01_k».proof.Proof.Gen.FinalGuReferenceIdeal
public import proofs.«01_k».proof.Proof.Gen.FinalGuReferenceIdeal.Run
public import proofs.«01_k».proof.Proof.NormInRef
public import proofs.«01_k».proof.Proof.NormGuRef
public import proofs.«01_k».proof.Proof.WInVal
public import proofs.«01_k».proof.Proof.WGuVal
public import proofs.«01_k».proof.Proof.WDownVal
public import proofs.«01_k».proof.Proof.HidVal
public import proofs.«01_k».proof.Proof.ProjVal
public import proofs.«01_k».proof.Proof.GuVal
public import proofs.«01_k».proof.Proof.YaVal
public import proofs.«01_k».proof.Proof.DmixVal
public import proofs.«01_k».proof.Proof.WoVal
public import proofs.«01_k».proof.Proof.SumDevVal
public import proofs.«01_k».proof.Proof.ChipSumVal
public import proofs.«01_k».proof.Proof.FinalGuVal
public import proofs.«01_k».proof.Proof.Adam
public import proofs.«01_k».proof.Proof.Arr3
public import proofs.«01_k».proof.Proof.Ref4
public import proofs.«01_k».proof.Proof.Pre
public import Idealize.ShloMosaic.Adequacy
public import Idealize.ShloMosaic.Init

@[expose] public section

noncomputable section

/-! The claims: every run of each program ends, with its arguments unchanged; each kernel at the exact numbers is that kernel; and each
kernel's results are its reference's. For the mixer's gradient both are the arrays `dqA`, `dkA`, `dvA`, `dfgA`, `dbA`, `drA` and `dgA` of the
arguments' reals; for each of the other kernels both are the array that its module names. -/

namespace Cert.Proof

open Idealize.ShloMosaic Idealize.ShloMosaic.TcCoe Idealize.SL.Sem

theorem frame_reference : Cert.quiescent_ReferenceIdeal (hReferenceIdeal := Cert.ReferenceIdeal.Gen.facts) := fun m ρ _ =>
  (θ_run Cert.ReferenceIdeal.defs _ _).mono
    (fun r h => ⟨fun c => (h c).2.2.2.2.2.2.2, Idealize.ShloMosaic.sem_eq_zero_of_no_sems (by decide) r.2⟩)
    (Cert.ReferenceIdeal.Value.run (F := Ideal) m ρ)

/-- The reals of a kernel's arguments. -/
def inputs (m : (ℓ : Loc Cert.KernelIdeal.nD Cert.KernelIdeal.τ Cert.KernelIdeal.sig) → Buf (Elt Ideal) ℓ) (c : Dev Cert.KernelIdeal.nD) : Cert.Gla.In :=
  Cert.Pre_finite.Gla.ofArgs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))

theorem kernel_holds (m : (ℓ : Loc Cert.KernelIdeal.nD Cert.KernelIdeal.τ Cert.KernelIdeal.sig) → Buf (Elt Ideal) ℓ)
    (h : Cert.Pre_KernelIdeal_finite (hPre_finite := Cert.Pre_finite.Gla.facts) m) (c : Dev Cert.KernelIdeal.nD) :
    Cert.KernelIdeal.Gla.Holds (inputs m c) m c := by
  obtain ⟨h0, h1, h2, h3, h4, h5, h6⟩ := Cert.Pre_finite.Gla.reals (h c)
  exact ⟨fun p z => h0 _, fun z k => h1 _, fun k => h2 _, fun a n v k => h3 _, fun p v => h4 _, fun p v => h5 _, fun v => h6 _⟩

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gla.facts) := by
  intro m g m' g' hpre hm
  have hK := kernel_holds m hpre
  have hR : ∀ c, Cert.ReferenceIdeal.Gla.Holds m' c (inputs m c) := fun c => by
    obtain ⟨e0, e1, e2, e3, e4, e5, e6, -⟩ := hm c
    have H := hK c
    exact ⟨fun p z => (congrFun e0 (ix2 p z)).trans (H.proj p z), fun z k => (congrFun e1 (ix2 z k)).trans (H.wfg z k), fun k => (congrFun e2 (ix2 0 k)).trans (H.bfg k),
      fun a n v k => (congrFun e3 (ix4 a n v k)).trans (H.st a n v k), fun p v => (congrFun e4 (ix2 p v)).trans (H.doa p v), fun p v => (congrFun e5 (ix2 p v)).trans (H.o p v),
      fun v => (congrFun e6 (ix2 0 v)).trans (H.g v)⟩
  have hI := fun c => Cert.ReferenceIdeal.Gla.inv_iter (hR c) 64 le_rfl
  refine ⟨fun c => _, fun c => _, fun c => _, fun c => _, fun c => _, fun c => _, fun c => _, Cert.KernelIdeal.Value.run_blocks (F := Ideal) m g,
    (θ_run Cert.ReferenceIdeal.defs _ _).mono (fun r h c => ?_) (Cert.ReferenceIdeal.Value.run (F := Ideal) m' g')⟩
  obtain ⟨r0, r1, r2, r3, r4, r5, r6, rest⟩ := h c
  refine ⟨r0.trans ?_, r1.trans ?_, r2.trans ?_, r3.trans ?_, r4.trans ?_, r5.trans ?_, r6.trans ?_, rest⟩
  · exact (Cert.ReferenceIdeal.Gla.out58_eq (hI c)).trans (Cert.KernelIdeal.Gla.arr12 (hK c)).symm
  · exact (Cert.ReferenceIdeal.Gla.out59_eq (hI c)).trans (Cert.KernelIdeal.Gla.arr13 (hK c)).symm
  · exact (Cert.ReferenceIdeal.Gla.out60_eq (hI c)).trans (Cert.KernelIdeal.Gla.arr14 (hK c)).symm
  · exact (Cert.ReferenceIdeal.Gla.out61_eq (hI c)).trans (Cert.KernelIdeal.Gla.arr15 (hK c)).symm
  · exact (Cert.ReferenceIdeal.Gla.out51_eq (hI c)).trans (Cert.KernelIdeal.Gla.arr16 (hK c)).symm
  · refine (Cert.ReferenceIdeal.Gla.out57_eq (hI c)).trans (Eq.trans ?_ (Cert.KernelIdeal.Gla.arr17 (hK c)).symm)
    have e7 := (Cert.ReferenceIdeal.Value.iter_main_arg7 (F := Ideal) m' c 64).trans (hm c).2.2.2.2.2.2.2
    funext i
    split
    · rfl
    · exact congrFun e7 i
  · exact (Cert.ReferenceIdeal.Gla.out53_eq (hI c)).trans (Cert.KernelIdeal.Gla.arr18 (hK c)).symm

/-! ## The gradient of the mixer's norm -/

theorem frame_NormIn : Cert.quiescent_NormInReferenceIdeal (hNormInReferenceIdeal := Cert.NormInReferenceIdeal.Gen.facts) := fun m ρ _ =>
  (θ_run Cert.NormInReferenceIdeal.defs _ _).mono
    (fun r h => ⟨fun c => (h c).2.2.2, Idealize.ShloMosaic.sem_eq_zero_of_no_sems (by decide) r.2⟩)
    (Cert.NormInReferenceIdeal.Value.run (F := Ideal) m ρ)

theorem holds_NormIn (m : (ℓ : Loc Cert.NormInIdeal.nD Cert.NormInIdeal.τ Cert.NormInIdeal.sig) → Buf (Elt Ideal) ℓ)
    (h : Cert.Pre_NormInIdeal_norm_in_finite (hPre_norm_in_finite := Cert.Pre_norm_in_finite.Calc.facts) m) (c : Dev Cert.NormInIdeal.nD) :
    ∃ a b x g r, Cert.NormInIdeal.Calc.At m c a b x g r := by
  obtain ⟨e0, e1, e2, e3, e4⟩ := Cert.Pre_norm_in_finite.Calc.reals (h c)
  exact ⟨fun p k => EReal.toReal (Cert.NormInIdeal.Calc.A0 m c (ix2 p k)), fun q k => EReal.toReal (Cert.NormInIdeal.Calc.A1 m c (ix2 q k)),
    fun p q => EReal.toReal (Cert.NormInIdeal.Calc.A2 m c (ix2 p q)), fun q => EReal.toReal (Cert.NormInIdeal.Calc.A3 m c (ix2 0 q)),
    fun p q => EReal.toReal (Cert.NormInIdeal.Calc.A4 m c (ix2 p q)),
    ⟨fun _ _ => e0 _, fun _ _ => e1 _, fun _ _ => e2 _, fun _ => e3 _, fun _ _ => e4 _⟩⟩

theorem algebraic_NormIn : Cert.algebraic_NormInIdeal_NormInReferenceIdeal_pre_norm_in_finite (hNormInIdeal := Cert.NormInIdeal.Gen.facts)
    (hNormInReferenceIdeal := Cert.NormInReferenceIdeal.Gen.facts) (hPre_norm_in_finite := Cert.Pre_norm_in_finite.Calc.facts) := by
  intro m g m' g' hpre hm
  refine ⟨fun c => _, fun c => _, fun c => _, Cert.NormInIdeal.Value.run_blocks (F := Ideal) m g,
    (θ_run Cert.NormInReferenceIdeal.defs _ _).mono (fun r h c => ?_) (Cert.NormInReferenceIdeal.Value.run (F := Ideal) m' g')⟩
  obtain ⟨r0, r1, r2, rest⟩ := h c
  obtain ⟨e0, e1, e2, e3, e4⟩ := hm c
  obtain ⟨a, b, x, g, d, H⟩ := holds_NormIn m hpre c
  have h0 : ∀ p k, _ = ((a p k : ℝ) : EReal) := fun p k => (congrFun e0 (ix2 p k)).trans (H.a p k)
  have h1 : ∀ q k, _ = ((b q k : ℝ) : EReal) := fun q k => (congrFun e1 (ix2 q k)).trans (H.b q k)
  have h2 : ∀ p q, _ = ((x p q : ℝ) : EReal) := fun p q => (congrFun e2 (ix2 p q)).trans (H.x p q)
  have h3 : ∀ q, _ = ((g q : ℝ) : EReal) := fun q => (congrFun e3 (ix2 0 q)).trans (H.g q)
  have h4 : ∀ p q, _ = ((d p q : ℝ) : EReal) := fun p q => (congrFun e4 (ix2 p q)).trans (H.r p q)
  refine ⟨r0.trans ?_, r1.trans ?_, r2.trans ?_, rest⟩
  · exact (Cert.NormInReferenceIdeal.Calc.v38_eq m' c).trans ((Cert.NormInReferenceIdeal.Calc.dx_eq h0 h1 h2 h3 h4).trans (Cert.NormInIdeal.Calc.arr5 H).symm)
  · exact (Cert.NormInReferenceIdeal.Calc.v39_eq m' c).trans ((Cert.NormInReferenceIdeal.Calc.dx16_eq h0 h1 h2 h3 h4).trans (Cert.NormInIdeal.Calc.arr6 H).symm)
  · exact (Cert.NormInReferenceIdeal.Calc.dg_eq h0 h1 h2).trans (Cert.NormInIdeal.Calc.arr7 H).symm

/-! ## The gradient of the feed-forward's norm -/

theorem frame_NormGu : Cert.quiescent_NormGuReferenceIdeal (hNormGuReferenceIdeal := Cert.NormGuReferenceIdeal.Gen.facts) := fun m ρ _ =>
  (θ_run Cert.NormGuReferenceIdeal.defs _ _).mono
    (fun r h => ⟨fun c => (h c).2.2.2, Idealize.ShloMosaic.sem_eq_zero_of_no_sems (by decide) r.2⟩)
    (Cert.NormGuReferenceIdeal.Value.run (F := Ideal) m ρ)

theorem holds_NormGu (m : (ℓ : Loc Cert.NormGuIdeal.nD Cert.NormGuIdeal.τ Cert.NormGuIdeal.sig) → Buf (Elt Ideal) ℓ)
    (h : Cert.Pre_NormGuIdeal_norm_gu_finite (hPre_norm_gu_finite := Cert.Pre_norm_gu_finite.Calc.facts) m) (c : Dev Cert.NormGuIdeal.nD) :
    ∃ a b x g r, Cert.NormGuIdeal.Calc.At m c a b x g r := by
  obtain ⟨e0, e1, e2, e3, e4⟩ := Cert.Pre_norm_gu_finite.Calc.reals (h c)
  exact ⟨fun p k => EReal.toReal (Cert.NormGuIdeal.Calc.A0 m c (ix2 p k)), fun q k => EReal.toReal (Cert.NormGuIdeal.Calc.A1 m c (ix2 q k)),
    fun p q => EReal.toReal (Cert.NormGuIdeal.Calc.A2 m c (ix2 p q)), fun q => EReal.toReal (Cert.NormGuIdeal.Calc.A3 m c (ix2 0 q)),
    fun p q => EReal.toReal (Cert.NormGuIdeal.Calc.A4 m c (ix2 p q)),
    ⟨fun _ _ => e0 _, fun _ _ => e1 _, fun _ _ => e2 _, fun _ => e3 _, fun _ _ => e4 _⟩⟩

theorem algebraic_NormGu : Cert.algebraic_NormGuIdeal_NormGuReferenceIdeal_pre_norm_gu_finite (hNormGuIdeal := Cert.NormGuIdeal.Gen.facts)
    (hNormGuReferenceIdeal := Cert.NormGuReferenceIdeal.Gen.facts) (hPre_norm_gu_finite := Cert.Pre_norm_gu_finite.Calc.facts) := by
  intro m g m' g' hpre hm
  refine ⟨fun c => _, fun c => _, fun c => _, Cert.NormGuIdeal.Value.run_blocks (F := Ideal) m g,
    (θ_run Cert.NormGuReferenceIdeal.defs _ _).mono (fun r h c => ?_) (Cert.NormGuReferenceIdeal.Value.run (F := Ideal) m' g')⟩
  obtain ⟨r0, r1, r2, rest⟩ := h c
  obtain ⟨e0, e1, e2, e3, e4⟩ := hm c
  obtain ⟨a, b, x, g, d, H⟩ := holds_NormGu m hpre c
  have h0 : ∀ p k, _ = ((a p k : ℝ) : EReal) := fun p k => (congrFun e0 (ix2 p k)).trans (H.a p k)
  have h1 : ∀ q k, _ = ((b q k : ℝ) : EReal) := fun q k => (congrFun e1 (ix2 q k)).trans (H.b q k)
  have h2 : ∀ p q, _ = ((x p q : ℝ) : EReal) := fun p q => (congrFun e2 (ix2 p q)).trans (H.x p q)
  have h3 : ∀ q, _ = ((g q : ℝ) : EReal) := fun q => (congrFun e3 (ix2 0 q)).trans (H.g q)
  have h4 : ∀ p q, _ = ((d p q : ℝ) : EReal) := fun p q => (congrFun e4 (ix2 p q)).trans (H.r p q)
  refine ⟨r0.trans ?_, r1.trans ?_, r2.trans ?_, rest⟩
  · exact (Cert.NormGuReferenceIdeal.Calc.v38_eq m' c).trans ((Cert.NormGuReferenceIdeal.Calc.dx_eq h0 h1 h2 h3 h4).trans (Cert.NormGuIdeal.Calc.arr5 H).symm)
  · exact (Cert.NormGuReferenceIdeal.Calc.v39_eq m' c).trans ((Cert.NormGuReferenceIdeal.Calc.dx16_eq h0 h1 h2 h3 h4).trans (Cert.NormGuIdeal.Calc.arr6 H).symm)
  · exact (Cert.NormGuReferenceIdeal.Calc.dg_eq h0 h1 h2).trans (Cert.NormGuIdeal.Calc.arr7 H).symm

/-! ## The gradient of the mixer's projection -/

theorem frame_WIn : Cert.quiescent_WInReferenceIdeal (hWInReferenceIdeal := Cert.WInReferenceIdeal.Gen.facts) := fun m ρ _ =>
  (θ_run Cert.WInReferenceIdeal.defs _ _).mono
    (fun r h => ⟨fun c => (h c).2, Idealize.ShloMosaic.sem_eq_zero_of_no_sems (by decide) r.2⟩)
    (Cert.WInReferenceIdeal.Value.run (F := Ideal) m ρ)

theorem algebraic_WIn : Cert.algebraic_WInIdeal_WInReferenceIdeal (hWInIdeal := Cert.WInIdeal.Gen.facts)
    (hWInReferenceIdeal := Cert.WInReferenceIdeal.Gen.facts) := by
  intro m g m' g' _ hm
  refine ⟨fun c => _, Cert.WInIdeal.Value.run_blocks (F := Ideal) m g,
    (θ_run Cert.WInReferenceIdeal.defs _ _).mono (fun r h c => ?_) (Cert.WInReferenceIdeal.Value.run (F := Ideal) m' g')⟩
  obtain ⟨r0, rest⟩ := h c
  obtain ⟨e0, e1⟩ := hm c
  refine ⟨r0.trans ((Cert.WInReferenceIdeal.Calc.ref_eq _ _).trans (Eq.trans ?_ (Cert.WInIdeal.Calc.arr2 m c).symm)), rest⟩
  rw [e0, e1]

/-! ## The gradient of the feed-forward's first matrix -/

theorem frame_WGu : Cert.quiescent_WGuReferenceIdeal (hWGuReferenceIdeal := Cert.WGuReferenceIdeal.Gen.facts) := fun m ρ _ =>
  (θ_run Cert.WGuReferenceIdeal.defs _ _).mono
    (fun r h => ⟨fun c => (h c).2, Idealize.ShloMosaic.sem_eq_zero_of_no_sems (by decide) r.2⟩)
    (Cert.WGuReferenceIdeal.Value.run (F := Ideal) m ρ)

theorem algebraic_WGu : Cert.algebraic_WGuIdeal_WGuReferenceIdeal (hWGuIdeal := Cert.WGuIdeal.Gen.facts)
    (hWGuReferenceIdeal := Cert.WGuReferenceIdeal.Gen.facts) := by
  intro m g m' g' _ hm
  refine ⟨fun c => _, Cert.WGuIdeal.Value.run_blocks (F := Ideal) m g,
    (θ_run Cert.WGuReferenceIdeal.defs _ _).mono (fun r h c => ?_) (Cert.WGuReferenceIdeal.Value.run (F := Ideal) m' g')⟩
  obtain ⟨r0, rest⟩ := h c
  obtain ⟨e0, e1⟩ := hm c
  refine ⟨r0.trans ((Cert.WGuReferenceIdeal.Calc.ref_eq _ _).trans (Eq.trans ?_ (Cert.WGuIdeal.Calc.arr2 m c).symm)), rest⟩
  rw [e0, e1]

/-! ## The gradient of the feed-forward's second matrix -/

theorem frame_WDown : Cert.quiescent_WDownReferenceIdeal (hWDownReferenceIdeal := Cert.WDownReferenceIdeal.Gen.facts) := fun m ρ _ =>
  (θ_run Cert.WDownReferenceIdeal.defs _ _).mono
    (fun r h => ⟨fun c => (h c).2, Idealize.ShloMosaic.sem_eq_zero_of_no_sems (by decide) r.2⟩)
    (Cert.WDownReferenceIdeal.Value.run (F := Ideal) m ρ)

theorem algebraic_WDown : Cert.algebraic_WDownIdeal_WDownReferenceIdeal (hWDownIdeal := Cert.WDownIdeal.Gen.facts)
    (hWDownReferenceIdeal := Cert.WDownReferenceIdeal.Gen.facts) := by
  intro m g m' g' _ hm
  refine ⟨fun c => _, Cert.WDownIdeal.Value.run_blocks (F := Ideal) m g,
    (θ_run Cert.WDownReferenceIdeal.defs _ _).mono (fun r h c => ?_) (Cert.WDownReferenceIdeal.Value.run (F := Ideal) m' g')⟩
  obtain ⟨r0, rest⟩ := h c
  obtain ⟨e0, e1⟩ := hm c
  refine ⟨r0.trans ((Cert.WDownReferenceIdeal.Calc.ref_eq _ _).trans (Eq.trans ?_ (Cert.WDownIdeal.Calc.arr2 m c).symm)), rest⟩
  rw [e0, e1]

/-! ## The gradient of the feed-forward's hidden values -/

theorem frame_Hid : Cert.quiescent_HidReferenceIdeal (hHidReferenceIdeal := Cert.HidReferenceIdeal.Gen.facts) := fun m ρ _ =>
  (θ_run Cert.HidReferenceIdeal.defs _ _).mono
    (fun r h => ⟨fun c => (h c).2, Idealize.ShloMosaic.sem_eq_zero_of_no_sems (by decide) r.2⟩)
    (Cert.HidReferenceIdeal.Value.run (F := Ideal) m ρ)

theorem algebraic_Hid : Cert.algebraic_HidIdeal_HidReferenceIdeal (hHidIdeal := Cert.HidIdeal.Gen.facts)
    (hHidReferenceIdeal := Cert.HidReferenceIdeal.Gen.facts) := by
  intro m g m' g' _ hm
  refine ⟨fun c => _, Cert.HidIdeal.Value.run_blocks (F := Ideal) m g,
    (θ_run Cert.HidReferenceIdeal.defs _ _).mono (fun r h c => ?_) (Cert.HidReferenceIdeal.Value.run (F := Ideal) m' g')⟩
  obtain ⟨r0, rest⟩ := h c
  obtain ⟨e0, e1⟩ := hm c
  refine ⟨r0.trans ((Cert.HidReferenceIdeal.Calc.ref_eq _ _).trans (Eq.trans ?_ (Cert.HidIdeal.Calc.arr2 m c).symm)), rest⟩
  rw [e0, e1]

/-! ## The projection of the mixer's input -/

theorem frame_Proj : Cert.quiescent_ProjReferenceIdeal (hProjReferenceIdeal := Cert.ProjReferenceIdeal.Gen.facts) := fun m ρ _ =>
  (θ_run Cert.ProjReferenceIdeal.defs _ _).mono
    (fun r h => ⟨fun c => (h c).2, Idealize.ShloMosaic.sem_eq_zero_of_no_sems (by decide) r.2⟩)
    (Cert.ProjReferenceIdeal.Value.run (F := Ideal) m ρ)

theorem algebraic_Proj : Cert.algebraic_ProjIdeal_ProjReferenceIdeal (hProjIdeal := Cert.ProjIdeal.Gen.facts)
    (hProjReferenceIdeal := Cert.ProjReferenceIdeal.Gen.facts) := by
  intro m g m' g' _ hm
  refine ⟨fun c => _, Cert.ProjIdeal.Value.run_blocks (F := Ideal) m g,
    (θ_run Cert.ProjReferenceIdeal.defs _ _).mono (fun r h c => ?_) (Cert.ProjReferenceIdeal.Value.run (F := Ideal) m' g')⟩
  obtain ⟨r0, rest⟩ := h c
  obtain ⟨e0, e1⟩ := hm c
  refine ⟨r0.trans ((Cert.ProjReferenceIdeal.Calc.ref_eq _ _).trans (Eq.trans ?_ (Cert.ProjIdeal.Calc.arr2 m c).symm)), rest⟩
  rw [e0, e1]

/-! ## The projection of the feed-forward's input -/

theorem frame_Gu : Cert.quiescent_GuReferenceIdeal (hGuReferenceIdeal := Cert.GuReferenceIdeal.Gen.facts) := fun m ρ _ =>
  (θ_run Cert.GuReferenceIdeal.defs _ _).mono
    (fun r h => ⟨fun c => (h c).2, Idealize.ShloMosaic.sem_eq_zero_of_no_sems (by decide) r.2⟩)
    (Cert.GuReferenceIdeal.Value.run (F := Ideal) m ρ)

theorem algebraic_Gu : Cert.algebraic_GuIdeal_GuReferenceIdeal (hGuIdeal := Cert.GuIdeal.Gen.facts)
    (hGuReferenceIdeal := Cert.GuReferenceIdeal.Gen.facts) := by
  intro m g m' g' _ hm
  refine ⟨fun c => _, Cert.GuIdeal.Value.run_blocks (F := Ideal) m g,
    (θ_run Cert.GuReferenceIdeal.defs _ _).mono (fun r h c => ?_) (Cert.GuReferenceIdeal.Value.run (F := Ideal) m' g')⟩
  obtain ⟨r0, rest⟩ := h c
  obtain ⟨e0, e1⟩ := hm c
  refine ⟨r0.trans ((Cert.GuReferenceIdeal.Calc.ref_eq _ _).trans (Eq.trans ?_ (Cert.GuIdeal.Calc.arr2 m c).symm)), rest⟩
  rw [e0, e1]

/-! ## The output of the mixer's attention branch -/

theorem frame_Ya : Cert.quiescent_YaReferenceIdeal (hYaReferenceIdeal := Cert.YaReferenceIdeal.Gen.facts) := fun m ρ _ =>
  (θ_run Cert.YaReferenceIdeal.defs _ _).mono
    (fun r h => ⟨fun c => (h c).2, Idealize.ShloMosaic.sem_eq_zero_of_no_sems (by decide) r.2⟩)
    (Cert.YaReferenceIdeal.Value.run (F := Ideal) m ρ)

theorem algebraic_Ya : Cert.algebraic_YaIdeal_YaReferenceIdeal (hYaIdeal := Cert.YaIdeal.Gen.facts)
    (hYaReferenceIdeal := Cert.YaReferenceIdeal.Gen.facts) := by
  intro m g m' g' _ hm
  refine ⟨fun c => _, Cert.YaIdeal.Value.run_blocks (F := Ideal) m g,
    (θ_run Cert.YaReferenceIdeal.defs _ _).mono (fun r h c => ?_) (Cert.YaReferenceIdeal.Value.run (F := Ideal) m' g')⟩
  obtain ⟨r0, rest⟩ := h c
  obtain ⟨e0, e1⟩ := hm c
  refine ⟨r0.trans ((Cert.YaReferenceIdeal.Calc.ref_eq _ _).trans (Eq.trans ?_ (Cert.YaIdeal.Calc.arr2 m c).symm)), rest⟩
  rw [e0, e1]

/-! ## The gradient of what the mixer's output projection reads, and of what the branches' projections read -/

theorem frame_Dmix : Cert.quiescent_DmixReferenceIdeal (hDmixReferenceIdeal := Cert.DmixReferenceIdeal.Gen.facts) := fun m ρ _ =>
  (θ_run Cert.DmixReferenceIdeal.defs _ _).mono
    (fun r h => ⟨fun c => (h c).2, Idealize.ShloMosaic.sem_eq_zero_of_no_sems (by decide) r.2⟩)
    (Cert.DmixReferenceIdeal.Value.run (F := Ideal) m ρ)

theorem algebraic_Dmix : Cert.algebraic_DmixIdeal_DmixReferenceIdeal (hDmixIdeal := Cert.DmixIdeal.Gen.facts)
    (hDmixReferenceIdeal := Cert.DmixReferenceIdeal.Gen.facts) := by
  intro m g m' g' _ hm
  refine ⟨fun c => _, Cert.DmixIdeal.Value.run_blocks (F := Ideal) m g,
    (θ_run Cert.DmixReferenceIdeal.defs _ _).mono (fun r h c => ?_) (Cert.DmixReferenceIdeal.Value.run (F := Ideal) m' g')⟩
  obtain ⟨r0, rest⟩ := h c
  obtain ⟨e0, e1⟩ := hm c
  refine ⟨r0.trans ((Cert.DmixReferenceIdeal.Calc.ref_eq _ _).trans (Eq.trans ?_ (Cert.DmixIdeal.Calc.arr2 m c).symm)), rest⟩
  rw [e0, e1]

/-! ## The gradients of the mixer's square weights -/

theorem frame_Wo : Cert.quiescent_WoReferenceIdeal (hWoReferenceIdeal := Cert.WoReferenceIdeal.Gen.facts) := fun m ρ _ =>
  (θ_run Cert.WoReferenceIdeal.defs _ _).mono
    (fun r h => ⟨fun c => (h c).2, Idealize.ShloMosaic.sem_eq_zero_of_no_sems (by decide) r.2⟩)
    (Cert.WoReferenceIdeal.Value.run (F := Ideal) m ρ)

theorem algebraic_Wo : Cert.algebraic_WoIdeal_WoReferenceIdeal (hWoIdeal := Cert.WoIdeal.Gen.facts)
    (hWoReferenceIdeal := Cert.WoReferenceIdeal.Gen.facts) := by
  intro m g m' g' _ hm
  refine ⟨fun c => _, Cert.WoIdeal.Value.run_blocks (F := Ideal) m g,
    (θ_run Cert.WoReferenceIdeal.defs _ _).mono (fun r h c => ?_) (Cert.WoReferenceIdeal.Value.run (F := Ideal) m' g')⟩
  obtain ⟨r0, rest⟩ := h c
  obtain ⟨e0, e1⟩ := hm c
  refine ⟨r0.trans ((Cert.WoReferenceIdeal.Calc.ref_eq _ _).trans (Eq.trans ?_ (Cert.WoIdeal.Calc.arr2 m c).symm)), rest⟩
  rw [e0, e1]

/-! ## The sum of the devices' small gradients and losses -/

theorem frame_SumDev : Cert.quiescent_SumDevReferenceIdeal (hSumDevReferenceIdeal := Cert.SumDevReferenceIdeal.Gen.facts) := fun m ρ _ =>
  (θ_run Cert.SumDevReferenceIdeal.defs _ _).mono
    (fun r h => ⟨fun c => (h c).2, Idealize.ShloMosaic.sem_eq_zero_of_no_sems (by decide) r.2⟩)
    (Cert.SumDevReferenceIdeal.Value.run (F := Ideal) m ρ)

theorem algebraic_SumDev : Cert.algebraic_SumDevIdeal_SumDevReferenceIdeal (hSumDevIdeal := Cert.SumDevIdeal.Gen.facts)
    (hSumDevReferenceIdeal := Cert.SumDevReferenceIdeal.Gen.facts) := by
  intro m g m' g' _ hm
  refine ⟨fun c => _, Cert.SumDevIdeal.Value.run (F := Ideal) m g,
    (θ_run Cert.SumDevReferenceIdeal.defs _ _).mono (fun r h c => ?_) (Cert.SumDevReferenceIdeal.Value.run (F := Ideal) m' g')⟩
  obtain ⟨r0, rest⟩ := h c
  have e0 := hm c
  refine ⟨r0.trans ((Cert.SumDevReferenceIdeal.Calc.sum_eq _).trans ?_), rest⟩
  rw [e0]

/-! ## AdamW of the layers' norm gains, and of the convolution's bias -/

theorem frame_AdamNorm : Cert.quiescent_AdamNormReferenceIdeal (hAdamNormReferenceIdeal := Cert.AdamNormReferenceIdeal.Gen.facts) := fun m ρ _ =>
  (θ_run Cert.AdamNormReferenceIdeal.defs _ _).mono
    (fun r h => ⟨fun c => (h c).2.2.2, Idealize.ShloMosaic.sem_eq_zero_of_no_sems (by decide) r.2⟩)
    (Cert.AdamNormReferenceIdeal.Value.run (F := Ideal) m ρ)

theorem algebraic_AdamNorm : Cert.algebraic_AdamNormIdeal_AdamNormReferenceIdeal (hAdamNormIdeal := Cert.AdamNormIdeal.Gen.facts)
    (hAdamNormReferenceIdeal := Cert.AdamNormReferenceIdeal.Gen.facts) := by
  intro m g m' g' _ hm
  refine ⟨fun c => _, fun c => _, fun c => _, Cert.AdamNormIdeal.Value.run (F := Ideal) m g,
    (θ_run Cert.AdamNormReferenceIdeal.defs _ _).mono (fun r h c => ?_) (Cert.AdamNormReferenceIdeal.Value.run (F := Ideal) m' g')⟩
  obtain ⟨r0, r1, r2, rest⟩ := h c
  obtain ⟨e0, e1, e2, e3⟩ := hm c
  refine ⟨r0.trans ((Cert.AdamNormReferenceIdeal.Calc.delta_eq _ _ _ _).trans ?_), r1.trans ((Cert.AdamNormReferenceIdeal.Calc.first_eq _ _).trans ?_),
    r2.trans ((Cert.AdamNormReferenceIdeal.Calc.second_eq _ _).trans ?_), rest⟩
  · rw [e0, e1, e2, e3]
  · rw [e1, e2]
  · rw [e1, e3]

/-! ## AdamW of the decay gate's bias -/

theorem frame_AdamFgB : Cert.quiescent_AdamFgBReferenceIdeal (hAdamFgBReferenceIdeal := Cert.AdamFgBReferenceIdeal.Gen.facts) := fun m ρ _ =>
  (θ_run Cert.AdamFgBReferenceIdeal.defs _ _).mono
    (fun r h => ⟨fun c => (h c).2.2.2, Idealize.ShloMosaic.sem_eq_zero_of_no_sems (by decide) r.2⟩)
    (Cert.AdamFgBReferenceIdeal.Value.run (F := Ideal) m ρ)

theorem algebraic_AdamFgB : Cert.algebraic_AdamFgBIdeal_AdamFgBReferenceIdeal (hAdamFgBIdeal := Cert.AdamFgBIdeal.Gen.facts)
    (hAdamFgBReferenceIdeal := Cert.AdamFgBReferenceIdeal.Gen.facts) := by
  intro m g m' g' _ hm
  refine ⟨fun c => _, fun c => _, fun c => _, Cert.AdamFgBIdeal.Value.run (F := Ideal) m g,
    (θ_run Cert.AdamFgBReferenceIdeal.defs _ _).mono (fun r h c => ?_) (Cert.AdamFgBReferenceIdeal.Value.run (F := Ideal) m' g')⟩
  obtain ⟨r0, r1, r2, rest⟩ := h c
  obtain ⟨e0, e1, e2, e3⟩ := hm c
  refine ⟨r0.trans ((Cert.AdamFgBReferenceIdeal.Calc.delta_eq _ _ _ _).trans ?_), r1.trans ((Cert.AdamFgBReferenceIdeal.Calc.first_eq _ _).trans ?_),
    r2.trans ((Cert.AdamFgBReferenceIdeal.Calc.second_eq _ _).trans ?_), rest⟩
  · rw [e0, e1, e2, e3]
  · rw [e1, e2]
  · rw [e1, e3]

/-! ## AdamW of the attention's norm gain -/

theorem frame_AdamGla : Cert.quiescent_AdamGlaReferenceIdeal (hAdamGlaReferenceIdeal := Cert.AdamGlaReferenceIdeal.Gen.facts) := fun m ρ _ =>
  (θ_run Cert.AdamGlaReferenceIdeal.defs _ _).mono
    (fun r h => ⟨fun c => (h c).2.2.2, Idealize.ShloMosaic.sem_eq_zero_of_no_sems (by decide) r.2⟩)
    (Cert.AdamGlaReferenceIdeal.Value.run (F := Ideal) m ρ)

theorem algebraic_AdamGla : Cert.algebraic_AdamGlaIdeal_AdamGlaReferenceIdeal (hAdamGlaIdeal := Cert.AdamGlaIdeal.Gen.facts)
    (hAdamGlaReferenceIdeal := Cert.AdamGlaReferenceIdeal.Gen.facts) := by
  intro m g m' g' _ hm
  refine ⟨fun c => _, fun c => _, fun c => _, Cert.AdamGlaIdeal.Value.run (F := Ideal) m g,
    (θ_run Cert.AdamGlaReferenceIdeal.defs _ _).mono (fun r h c => ?_) (Cert.AdamGlaReferenceIdeal.Value.run (F := Ideal) m' g')⟩
  obtain ⟨r0, r1, r2, rest⟩ := h c
  obtain ⟨e0, e1, e2, e3⟩ := hm c
  refine ⟨r0.trans ((Cert.AdamGlaReferenceIdeal.Calc.delta_eq _ _ _ _).trans ?_), r1.trans ((Cert.AdamGlaReferenceIdeal.Calc.first_eq _ _).trans ?_),
    r2.trans ((Cert.AdamGlaReferenceIdeal.Calc.second_eq _ _).trans ?_), rest⟩
  · rw [e0, e1, e2, e3]
  · rw [e1, e2]
  · rw [e1, e3]

/-! ## AdamW of the last norm's gain -/

theorem frame_AdamFinal : Cert.quiescent_AdamFinalReferenceIdeal (hAdamFinalReferenceIdeal := Cert.AdamFinalReferenceIdeal.Gen.facts) := fun m ρ _ =>
  (θ_run Cert.AdamFinalReferenceIdeal.defs _ _).mono
    (fun r h => ⟨fun c => (h c).2.2.2, Idealize.ShloMosaic.sem_eq_zero_of_no_sems (by decide) r.2⟩)
    (Cert.AdamFinalReferenceIdeal.Value.run (F := Ideal) m ρ)

theorem algebraic_AdamFinal : Cert.algebraic_AdamFinalIdeal_AdamFinalReferenceIdeal (hAdamFinalIdeal := Cert.AdamFinalIdeal.Gen.facts)
    (hAdamFinalReferenceIdeal := Cert.AdamFinalReferenceIdeal.Gen.facts) := by
  intro m g m' g' _ hm
  refine ⟨fun c => _, fun c => _, fun c => _, Cert.AdamFinalIdeal.Value.run (F := Ideal) m g,
    (θ_run Cert.AdamFinalReferenceIdeal.defs _ _).mono (fun r h c => ?_) (Cert.AdamFinalReferenceIdeal.Value.run (F := Ideal) m' g')⟩
  obtain ⟨r0, r1, r2, rest⟩ := h c
  obtain ⟨e0, e1, e2, e3⟩ := hm c
  refine ⟨r0.trans ((Cert.AdamFinalReferenceIdeal.Calc.delta_eq _ _ _ _).trans ?_), r1.trans ((Cert.AdamFinalReferenceIdeal.Calc.first_eq _ _).trans ?_),
    r2.trans ((Cert.AdamFinalReferenceIdeal.Calc.second_eq _ _).trans ?_), rest⟩
  · rw [e0, e1, e2, e3]
  · rw [e1, e2]
  · rw [e1, e3]

/-! ## AdamW of the mixer's square weights -/

theorem frame_AdamSquare : Cert.quiescent_AdamSquareReferenceIdeal (hAdamSquareReferenceIdeal := Cert.AdamSquareReferenceIdeal.Gen.facts) := fun m ρ _ =>
  (θ_run Cert.AdamSquareReferenceIdeal.defs _ _).mono
    (fun r h => ⟨fun c => (h c).2.2.2, Idealize.ShloMosaic.sem_eq_zero_of_no_sems (by decide) r.2⟩)
    (Cert.AdamSquareReferenceIdeal.Value.run (F := Ideal) m ρ)

theorem algebraic_AdamSquare : Cert.algebraic_AdamSquareIdeal_AdamSquareReferenceIdeal (hAdamSquareIdeal := Cert.AdamSquareIdeal.Gen.facts)
    (hAdamSquareReferenceIdeal := Cert.AdamSquareReferenceIdeal.Gen.facts) := by
  intro m g m' g' _ hm
  refine ⟨fun c => _, fun c => _, fun c => _, Cert.AdamSquareIdeal.Value.run (F := Ideal) m g,
    (θ_run Cert.AdamSquareReferenceIdeal.defs _ _).mono (fun r h c => ?_) (Cert.AdamSquareReferenceIdeal.Value.run (F := Ideal) m' g')⟩
  obtain ⟨r0, r1, r2, rest⟩ := h c
  obtain ⟨e0, e1, e2, e3⟩ := hm c
  refine ⟨r0.trans ((Cert.AdamSquareReferenceIdeal.Calc.delta_eq _ _ _ _).trans ?_), r1.trans ((Cert.AdamSquareReferenceIdeal.Calc.first_eq _ _).trans ?_),
    r2.trans ((Cert.AdamSquareReferenceIdeal.Calc.second_eq _ _).trans ?_), rest⟩
  · rw [e0, e1, e2, e3]
  · rw [e1, e2]
  · rw [e1, e3]

/-! ## AdamW of the feed-forward's second matrix -/

theorem frame_AdamDown : Cert.quiescent_AdamDownReferenceIdeal (hAdamDownReferenceIdeal := Cert.AdamDownReferenceIdeal.Gen.facts) := fun m ρ _ =>
  (θ_run Cert.AdamDownReferenceIdeal.defs _ _).mono
    (fun r h => ⟨fun c => (h c).2.2.2, Idealize.ShloMosaic.sem_eq_zero_of_no_sems (by decide) r.2⟩)
    (Cert.AdamDownReferenceIdeal.Value.run (F := Ideal) m ρ)

theorem algebraic_AdamDown : Cert.algebraic_AdamDownIdeal_AdamDownReferenceIdeal (hAdamDownIdeal := Cert.AdamDownIdeal.Gen.facts)
    (hAdamDownReferenceIdeal := Cert.AdamDownReferenceIdeal.Gen.facts) := by
  intro m g m' g' _ hm
  refine ⟨fun c => _, fun c => _, fun c => _, Cert.AdamDownIdeal.Value.run (F := Ideal) m g,
    (θ_run Cert.AdamDownReferenceIdeal.defs _ _).mono (fun r h c => ?_) (Cert.AdamDownReferenceIdeal.Value.run (F := Ideal) m' g')⟩
  obtain ⟨r0, r1, r2, rest⟩ := h c
  obtain ⟨e0, e1, e2, e3⟩ := hm c
  refine ⟨r0.trans ((Cert.AdamDownReferenceIdeal.Calc.delta_eq _ _ _ _).trans ?_), r1.trans ((Cert.AdamDownReferenceIdeal.Calc.first_eq _ _).trans ?_),
    r2.trans ((Cert.AdamDownReferenceIdeal.Calc.second_eq _ _).trans ?_), rest⟩
  · rw [e0, e1, e2, e3]
  · rw [e1, e2]
  · rw [e1, e3]

/-! ## AdamW of the decay gate's second matrix -/

theorem frame_AdamFg : Cert.quiescent_AdamFgReferenceIdeal (hAdamFgReferenceIdeal := Cert.AdamFgReferenceIdeal.Gen.facts) := fun m ρ _ =>
  (θ_run Cert.AdamFgReferenceIdeal.defs _ _).mono
    (fun r h => ⟨fun c => (h c).2.2.2, Idealize.ShloMosaic.sem_eq_zero_of_no_sems (by decide) r.2⟩)
    (Cert.AdamFgReferenceIdeal.Value.run (F := Ideal) m ρ)

theorem algebraic_AdamFg : Cert.algebraic_AdamFgIdeal_AdamFgReferenceIdeal (hAdamFgIdeal := Cert.AdamFgIdeal.Gen.facts)
    (hAdamFgReferenceIdeal := Cert.AdamFgReferenceIdeal.Gen.facts) := by
  intro m g m' g' _ hm
  refine ⟨fun c => _, fun c => _, fun c => _, Cert.AdamFgIdeal.Value.run (F := Ideal) m g,
    (θ_run Cert.AdamFgReferenceIdeal.defs _ _).mono (fun r h c => ?_) (Cert.AdamFgReferenceIdeal.Value.run (F := Ideal) m' g')⟩
  obtain ⟨r0, r1, r2, rest⟩ := h c
  obtain ⟨e0, e1, e2, e3⟩ := hm c
  refine ⟨r0.trans ((Cert.AdamFgReferenceIdeal.Calc.delta_eq _ _ _ _).trans ?_), r1.trans ((Cert.AdamFgReferenceIdeal.Calc.first_eq _ _).trans ?_),
    r2.trans ((Cert.AdamFgReferenceIdeal.Calc.second_eq _ _).trans ?_), rest⟩
  · rw [e0, e1, e2, e3]
  · rw [e1, e2]
  · rw [e1, e3]

/-! ## AdamW of the convolution's weight -/

theorem frame_AdamConv : Cert.quiescent_AdamConvReferenceIdeal (hAdamConvReferenceIdeal := Cert.AdamConvReferenceIdeal.Gen.facts) := fun m ρ _ =>
  (θ_run Cert.AdamConvReferenceIdeal.defs _ _).mono
    (fun r h => ⟨fun c => (h c).2.2.2, Idealize.ShloMosaic.sem_eq_zero_of_no_sems (by decide) r.2⟩)
    (Cert.AdamConvReferenceIdeal.Value.run (F := Ideal) m ρ)

theorem algebraic_AdamConv : Cert.algebraic_AdamConvIdeal_AdamConvReferenceIdeal (hAdamConvIdeal := Cert.AdamConvIdeal.Gen.facts)
    (hAdamConvReferenceIdeal := Cert.AdamConvReferenceIdeal.Gen.facts) := by
  intro m g m' g' _ hm
  refine ⟨fun c => _, fun c => _, fun c => _, Cert.AdamConvIdeal.Value.run (F := Ideal) m g,
    (θ_run Cert.AdamConvReferenceIdeal.defs _ _).mono (fun r h c => ?_) (Cert.AdamConvReferenceIdeal.Value.run (F := Ideal) m' g')⟩
  obtain ⟨r0, r1, r2, rest⟩ := h c
  obtain ⟨e0, e1, e2, e3⟩ := hm c
  refine ⟨r0.trans ((Cert.AdamConvReferenceIdeal.Calc.delta_eq _ _ _ _).trans ?_), r1.trans ((Cert.AdamConvReferenceIdeal.Calc.first_eq _ _).trans ?_),
    r2.trans ((Cert.AdamConvReferenceIdeal.Calc.second_eq _ _).trans ?_), rest⟩
  · rw [e0, e1, e2, e3]
  · rw [e1, e2]
  · rw [e1, e3]

/-! ## The sum of the chips' gradients -/

theorem frame_ChipSum : Cert.quiescent_ChipSumReferenceIdeal (hChipSumReferenceIdeal := Cert.ChipSumReferenceIdeal.Gen.facts) := fun m ρ _ =>
  (θ_run Cert.ChipSumReferenceIdeal.defs _ _).mono
    (fun r h => ⟨fun c => (h c).2, Idealize.ShloMosaic.sem_eq_zero_of_no_sems (by decide) r.2⟩)
    (Cert.ChipSumReferenceIdeal.Value.run (F := Ideal) m ρ)

theorem algebraic_ChipSum : Cert.algebraic_ChipSumIdeal_ChipSumReferenceIdeal (hChipSumIdeal := Cert.ChipSumIdeal.Gen.facts)
    (hChipSumReferenceIdeal := Cert.ChipSumReferenceIdeal.Gen.facts) (hPre_chip_in_range := Cert.Pre_chip_in_range.Gen.facts) := by
  intro m g m' g' hp hm
  have hk := Cert.Pre_chip_in_range.Calc.lt_four _ _ _ (hp 0)
  have hO := Cert.ChipSumIdeal.Calc.ok_of_lt m hk
  refine ⟨fun c => _, (θ_run Cert.ChipSumIdeal.defs _ _).mono (fun r h c => ⟨((h c).1 2).trans (Cert.ChipSumIdeal.Calc.arr2 m hO c ⟨_, hk⟩ rfl),
      (h c).2 Cert.ChipSumIdeal.main_arg0 (by decide : Cert.ChipSumIdeal.main_arg0 ∈ Pipeline.restRefs Cert.ChipSumIdeal.sig Cert.ChipSumIdeal.spec0),
      ((h c).1 0).trans (((Cert.ChipSumIdeal.Gen.dats m hO 0 c).arrAt_in 0 rfl _).trans (Cert.ChipSumIdeal.Gen.A_eq m hO c 0)),
      ((h c).1 1).trans (((Cert.ChipSumIdeal.Gen.dats m hO 0 c).arrAt_in 1 rfl _).trans (Cert.ChipSumIdeal.Gen.A_eq m hO c 1))⟩)
      (Cert.ChipSumIdeal.Gen.run_main (F := Ideal) m g hO),
    (θ_run Cert.ChipSumReferenceIdeal.defs _ _).mono (fun r h c => ?_) (Cert.ChipSumReferenceIdeal.Value.run (F := Ideal) m' g')⟩
  obtain ⟨r0, rest⟩ := h c
  obtain ⟨e0, e1, e2⟩ := hm c
  obtain rfl : c = 0 := Subsingleton.elim _ _
  refine ⟨r0.trans ((Cert.ChipSumReferenceIdeal.Calc.ref_eq ⟨_, hk⟩ _ ?_ _ _).trans ?_), rest⟩
  · rw [e0]
  · rw [e1, e2]

/-! ## The gradients and AdamW steps of the feed-forward's gate and up weights -/

theorem frame_FinalGu : Cert.quiescent_FinalGuReferenceIdeal (hFinalGuReferenceIdeal := Cert.FinalGuReferenceIdeal.Gen.facts) := fun m ρ _ =>
  (θ_run Cert.FinalGuReferenceIdeal.defs _ _).mono
    (fun r h => ⟨fun c => (h c).2.2.2.2.2.2.2.2, Idealize.ShloMosaic.sem_eq_zero_of_no_sems (by decide) r.2⟩)
    (Cert.FinalGuReferenceIdeal.Value.run (F := Ideal) m ρ)

theorem algebraic_FinalGu : Cert.algebraic_FinalGuIdeal_FinalGuReferenceIdeal (hFinalGuIdeal := Cert.FinalGuIdeal.Gen.facts)
    (hFinalGuReferenceIdeal := Cert.FinalGuReferenceIdeal.Gen.facts) (hPre_final_gu_in_range := Cert.Pre_final_gu_in_range.Gen.facts) := by
  intro m g m' g' hp hm
  obtain ⟨hk, hs⟩ := Cert.Pre_final_gu_in_range.Calc.in_range _ _ _ _ _ _ _ _ _ _ _ _ _ _ _ _ _ _ (hp 0)
  have hO := Cert.FinalGuIdeal.Calc.ok_of_lt m hk
  refine ⟨fun c => _, fun c => _, fun c => _, fun c => _, fun c => _, fun c => _, fun c => _, fun c => _,
    (θ_run Cert.FinalGuIdeal.defs _ _).mono (fun r h c => ⟨((h.2 c).1 8).trans (Cert.FinalGuIdeal.Calc.arr8 m hO c ⟨_, hs⟩ rfl ⟨_, hk⟩ rfl),
      ((h.2 c).1 9).trans (Cert.FinalGuIdeal.Calc.arr9 m hO c ⟨_, hs⟩ rfl ⟨_, hk⟩ rfl),
      ((h.2 c).1 10).trans (Cert.FinalGuIdeal.Calc.arr10 m hO c ⟨_, hs⟩ rfl ⟨_, hk⟩ rfl),
      ((h.2 c).1 11).trans (Cert.FinalGuIdeal.Calc.arr11 m hO c ⟨_, hs⟩ rfl ⟨_, hk⟩ rfl),
      ((h.2 c).1 12).trans (Cert.FinalGuIdeal.Calc.arr12 m hO c ⟨_, hs⟩ rfl ⟨_, hk⟩ rfl),
      ((h.2 c).1 13).trans (Cert.FinalGuIdeal.Calc.arr13 m hO c ⟨_, hs⟩ rfl ⟨_, hk⟩ rfl),
      ((h.2 c).1 14).trans (Cert.FinalGuIdeal.Calc.arr14 m hO c ⟨_, hs⟩ rfl ⟨_, hk⟩ rfl),
      ((h.2 c).1 15).trans (Cert.FinalGuIdeal.Calc.arr15 m hO c ⟨_, hs⟩ rfl ⟨_, hk⟩ rfl), h.1 c⟩)
      (θ_run_and (Cert.FinalGuIdeal.Gen.unchanged (F := Ideal) m g hO) (Cert.FinalGuIdeal.Gen.run_main (F := Ideal) m g hO)),
    (θ_run Cert.FinalGuReferenceIdeal.defs _ _).mono (fun r h c => ?_) (Cert.FinalGuReferenceIdeal.Value.run (F := Ideal) m' g')⟩
  obtain ⟨r0, r1, r2, r3, r4, r5, r6, r7, rest⟩ := h c
  obtain ⟨e0, e1, e2, e3, e4, e5, e6, e7, e8, e9, e10, e11, e12, e13, e14, e15, e16, e17⟩ := hm c
  obtain rfl : c = 0 := Subsingleton.elim _ _
  have hs' := congrArg (fun x => (Cert.Pre_final_gu_in_range.Calc.lane x).toNat) e0
  have hk' := congrArg (fun x => (Cert.Pre_chip_in_range.Calc.chip x).toNat) e1
  exact ⟨r0.trans (Cert.FinalGuReferenceIdeal.Calc.ref_v61 (Idealize.ShloMosaic.StableHlo.launchContents m' 0) ⟨_, hs⟩ ⟨_, hk⟩ hs' hk' _ _ _ e2 e3 e10),
    r1.trans (Cert.FinalGuReferenceIdeal.Calc.ref_v66 (Idealize.ShloMosaic.StableHlo.launchContents m' 0) ⟨_, hs⟩ ⟨_, hk⟩ hs' hk' _ _ _ _ _ _ e2 e3 e4 e5 e6 e11),
    r2.trans (Cert.FinalGuReferenceIdeal.Calc.ref_v71 (Idealize.ShloMosaic.StableHlo.launchContents m' 0) ⟨_, hs⟩ ⟨_, hk⟩ hs' hk' _ _ _ _ e2 e3 e5 e12),
    r3.trans (Cert.FinalGuReferenceIdeal.Calc.ref_v76 (Idealize.ShloMosaic.StableHlo.launchContents m' 0) ⟨_, hs⟩ ⟨_, hk⟩ hs' hk' _ _ _ _ e2 e3 e6 e13),
    r4.trans (Cert.FinalGuReferenceIdeal.Calc.ref_v127 (Idealize.ShloMosaic.StableHlo.launchContents m' 0) ⟨_, hs⟩ ⟨_, hk⟩ hs' hk' _ _ _ e2 e3 e14),
    r5.trans (Cert.FinalGuReferenceIdeal.Calc.ref_v132 (Idealize.ShloMosaic.StableHlo.launchContents m' 0) ⟨_, hs⟩ ⟨_, hk⟩ hs' hk' _ _ _ _ _ _ e2 e3 e7 e8 e9 e15),
    r6.trans (Cert.FinalGuReferenceIdeal.Calc.ref_v137 (Idealize.ShloMosaic.StableHlo.launchContents m' 0) ⟨_, hs⟩ ⟨_, hk⟩ hs' hk' _ _ _ _ e2 e3 e8 e16),
    r7.trans (Cert.FinalGuReferenceIdeal.Calc.ref_v142 (Idealize.ShloMosaic.StableHlo.launchContents m' 0) ⟨_, hs⟩ ⟨_, hk⟩ hs' hk' _ _ _ _ e2 e3 e9 e17), rest⟩

theorem claim : Cert.Claim :=
  ⟨Cert.Kernel.Gen.facts, Cert.KernelIdeal.Gen.facts, Cert.ReferenceIdeal.Gen.facts,
    Cert.NormIn.Gen.facts, Cert.NormInIdeal.Gen.facts, Cert.NormInReferenceIdeal.Gen.facts,
    Cert.NormGu.Gen.facts, Cert.NormGuIdeal.Gen.facts, Cert.NormGuReferenceIdeal.Gen.facts,
    Cert.WIn.Gen.facts, Cert.WInIdeal.Gen.facts, Cert.WInReferenceIdeal.Gen.facts,
    Cert.WGu.Gen.facts, Cert.WGuIdeal.Gen.facts, Cert.WGuReferenceIdeal.Gen.facts,
    Cert.WDown.Gen.facts, Cert.WDownIdeal.Gen.facts, Cert.WDownReferenceIdeal.Gen.facts,
    Cert.Hid.Gen.facts, Cert.HidIdeal.Gen.facts, Cert.HidReferenceIdeal.Gen.facts,
    Cert.Proj.Gen.facts, Cert.ProjIdeal.Gen.facts, Cert.ProjReferenceIdeal.Gen.facts,
    Cert.Gu.Gen.facts, Cert.GuIdeal.Gen.facts, Cert.GuReferenceIdeal.Gen.facts,
    Cert.Ya.Gen.facts, Cert.YaIdeal.Gen.facts, Cert.YaReferenceIdeal.Gen.facts,
    Cert.Dmix.Gen.facts, Cert.DmixIdeal.Gen.facts, Cert.DmixReferenceIdeal.Gen.facts,
    Cert.Wo.Gen.facts, Cert.WoIdeal.Gen.facts, Cert.WoReferenceIdeal.Gen.facts,
    Cert.SumDev.Gen.facts, Cert.SumDevIdeal.Gen.facts, Cert.SumDevReferenceIdeal.Gen.facts,
    Cert.AdamNorm.Gen.facts, Cert.AdamNormIdeal.Gen.facts, Cert.AdamNormReferenceIdeal.Gen.facts,
    Cert.AdamFgB.Gen.facts, Cert.AdamFgBIdeal.Gen.facts, Cert.AdamFgBReferenceIdeal.Gen.facts,
    Cert.AdamGla.Gen.facts, Cert.AdamGlaIdeal.Gen.facts, Cert.AdamGlaReferenceIdeal.Gen.facts,
    Cert.AdamFinal.Gen.facts, Cert.AdamFinalIdeal.Gen.facts, Cert.AdamFinalReferenceIdeal.Gen.facts,
    Cert.AdamSquare.Gen.facts, Cert.AdamSquareIdeal.Gen.facts, Cert.AdamSquareReferenceIdeal.Gen.facts,
    Cert.AdamDown.Gen.facts, Cert.AdamDownIdeal.Gen.facts, Cert.AdamDownReferenceIdeal.Gen.facts,
    Cert.AdamFg.Gen.facts, Cert.AdamFgIdeal.Gen.facts, Cert.AdamFgReferenceIdeal.Gen.facts,
    Cert.AdamConv.Gen.facts, Cert.AdamConvIdeal.Gen.facts, Cert.AdamConvReferenceIdeal.Gen.facts,
    Cert.ChipSum.Gen.facts, Cert.ChipSumIdeal.Gen.facts, Cert.ChipSumReferenceIdeal.Gen.facts,
    Cert.FinalGu.Gen.facts, Cert.FinalGuIdeal.Gen.facts, Cert.FinalGuReferenceIdeal.Gen.facts,
    Cert.Pre_finite.Gla.facts, Cert.Pre_norm_in_finite.Calc.facts, Cert.Pre_norm_gu_finite.Calc.facts,
    Cert.Pre_chip_in_range.Gen.facts, Cert.Pre_final_gu_in_range.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, fun m ρ _ => Cert.NormIn.Gen.frame m ρ,
    fun m ρ _ => Cert.NormInIdeal.Gen.frame m ρ, fun m ρ _ => Cert.NormInIdeal.Gen.frame m ρ, frame_NormIn,
    fun m ρ _ => frame_NormIn m ρ trivial, fun m ρ _ => Cert.NormGu.Gen.frame m ρ, fun m ρ _ => Cert.NormGuIdeal.Gen.frame m ρ,
    fun m ρ _ => Cert.NormGuIdeal.Gen.frame m ρ, frame_NormGu, fun m ρ _ => frame_NormGu m ρ trivial,
    fun m ρ _ => Cert.WIn.Gen.frame m ρ, fun m ρ _ => Cert.WInIdeal.Gen.frame m ρ, frame_WIn,
    fun m ρ _ => Cert.WGu.Gen.frame m ρ, fun m ρ _ => Cert.WGuIdeal.Gen.frame m ρ, frame_WGu,
    fun m ρ _ => Cert.WDown.Gen.frame m ρ, fun m ρ _ => Cert.WDownIdeal.Gen.frame m ρ, frame_WDown,
    fun m ρ _ => Cert.Hid.Gen.frame m ρ, fun m ρ _ => Cert.HidIdeal.Gen.frame m ρ, frame_Hid,
    fun m ρ _ => Cert.Proj.Gen.frame m ρ, fun m ρ _ => Cert.ProjIdeal.Gen.frame m ρ, frame_Proj,
    fun m ρ _ => Cert.Gu.Gen.frame m ρ, fun m ρ _ => Cert.GuIdeal.Gen.frame m ρ, frame_Gu,
    fun m ρ _ => Cert.Ya.Gen.frame m ρ, fun m ρ _ => Cert.YaIdeal.Gen.frame m ρ, frame_Ya,
    fun m ρ _ => Cert.Dmix.Gen.frame m ρ, fun m ρ _ => Cert.DmixIdeal.Gen.frame m ρ, frame_Dmix,
    fun m ρ _ => Cert.Wo.Gen.frame m ρ, fun m ρ _ => Cert.WoIdeal.Gen.frame m ρ, frame_Wo,
    fun m ρ _ => Cert.SumDev.Gen.frame m ρ, fun m ρ _ => Cert.SumDevIdeal.Gen.frame m ρ, frame_SumDev,
    fun m ρ _ => Cert.AdamNorm.Gen.frame m ρ, fun m ρ _ => Cert.AdamNormIdeal.Gen.frame m ρ, frame_AdamNorm,
    fun m ρ _ => Cert.AdamFgB.Gen.frame m ρ, fun m ρ _ => Cert.AdamFgBIdeal.Gen.frame m ρ, frame_AdamFgB,
    fun m ρ _ => Cert.AdamGla.Gen.frame m ρ, fun m ρ _ => Cert.AdamGlaIdeal.Gen.frame m ρ, frame_AdamGla,
    fun m ρ _ => Cert.AdamFinal.Gen.frame m ρ, fun m ρ _ => Cert.AdamFinalIdeal.Gen.frame m ρ, frame_AdamFinal,
    fun m ρ _ => Cert.AdamSquare.Gen.frame m ρ, fun m ρ _ => Cert.AdamSquareIdeal.Gen.frame m ρ, frame_AdamSquare,
    fun m ρ _ => Cert.AdamDown.Gen.frame m ρ, fun m ρ _ => Cert.AdamDownIdeal.Gen.frame m ρ, frame_AdamDown,
    fun m ρ _ => Cert.AdamFg.Gen.frame m ρ, fun m ρ _ => Cert.AdamFgIdeal.Gen.frame m ρ, frame_AdamFg,
    fun m ρ _ => Cert.AdamConv.Gen.frame m ρ, fun m ρ _ => Cert.AdamConvIdeal.Gen.frame m ρ, frame_AdamConv,
    fun m ρ h => Cert.ChipSum.Gen.frame m ρ (Cert.ChipSum.Calc.ok_of_lt m (Cert.Pre_chip_in_range.Calc.lt_four _ _ _ (h 0))), fun m ρ h => Cert.ChipSumIdeal.Gen.frame m ρ (Cert.ChipSumIdeal.Calc.ok_of_lt m (Cert.Pre_chip_in_range.Calc.lt_four _ _ _ (h 0))), frame_ChipSum,
    fun m ρ _ => frame_ChipSum m ρ trivial, fun m ρ h => Cert.FinalGu.Gen.frame m ρ (Cert.FinalGu.Calc.ok_of_lt m (Cert.Pre_final_gu_in_range.Calc.in_range _ _ _ _ _ _ _ _ _ _ _ _ _ _ _ _ _ _ (h 0)).1), fun m ρ h => Cert.FinalGuIdeal.Gen.frame m ρ (Cert.FinalGuIdeal.Calc.ok_of_lt m (Cert.Pre_final_gu_in_range.Calc.in_range _ _ _ _ _ _ _ _ _ _ _ _ _ _ _ _ _ _ (h 0)).1),
    frame_FinalGu, fun m ρ _ => frame_FinalGu m ρ trivial,
    trivial, algebraic, trivial,
    algebraic_NormIn, trivial, algebraic_NormGu,
    trivial, algebraic_WIn, trivial,
    algebraic_WGu, trivial, algebraic_WDown,
    trivial, algebraic_Hid, trivial,
    algebraic_Proj, trivial, algebraic_Gu,
    trivial, algebraic_Ya, trivial,
    algebraic_Dmix, trivial, algebraic_Wo,
    trivial, algebraic_SumDev, trivial,
    algebraic_AdamNorm, trivial, algebraic_AdamFgB,
    trivial, algebraic_AdamGla, trivial,
    algebraic_AdamFinal, trivial, algebraic_AdamSquare,
    trivial, algebraic_AdamDown, trivial,
    algebraic_AdamFg, trivial, algebraic_AdamConv,
    trivial, algebraic_ChipSum, trivial,
    algebraic_FinalGu⟩

end Cert.Proof

end
